-- ==== Defs.lean ====
def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpReferenceIdeal (m : (ℓ : Loc Cert.GmlpReferenceIdeal.nD Cert.GmlpReferenceIdeal.τ Cert.GmlpReferenceIdeal.sig) → Buf (Elt Ideal) ℓ) : Prop :=
  True

def Pre_AttnIn (m : (ℓ : Loc Cert.AttnIn.nD Cert.AttnIn.τ Cert.AttnIn.sig) → Buf (Elt Bits) ℓ) : Prop :=
  True

def Pre_AttnInIdeal (m : (ℓ : Loc Cert.AttnInIdeal.nD Cert.AttnInIdeal.τ Cert.AttnInIdeal.sig) → Buf (Elt Ideal) ℓ) : Prop :=
  True

def Pre_AttnInReferenceIdeal (m : (ℓ : Loc Cert.AttnInReferenceIdeal.nD Cert.AttnInReferenceIdeal.τ Cert.AttnInReferenceIdeal.sig) → Buf (Elt Ideal) ℓ) : Prop :=
  True

def Pre_GmlpS (m : (ℓ : Loc Cert.GmlpS.nD Cert.GmlpS.τ Cert.GmlpS.sig) → Buf (Elt Bits) ℓ) : Prop :=
  True

def Pre_GmlpSIdeal (m : (ℓ : Loc Cert.GmlpSIdeal.nD Cert.GmlpSIdeal.τ Cert.GmlpSIdeal.sig) → Buf (Elt Ideal) ℓ) : Prop :=
  True

def Pre_GmlpSReferenceIdeal (m : (ℓ : Loc Cert.GmlpSReferenceIdeal.nD Cert.GmlpSReferenceIdeal.τ Cert.GmlpSReferenceIdeal.sig) → Buf (Elt Ideal) ℓ) : Prop :=
  True

def Pre_AttnInS (m : (ℓ : Loc Cert.AttnInS.nD Cert.AttnInS.τ Cert.AttnInS.sig) → Buf (Elt Bits) ℓ) : Prop :=
  True

def Pre_AttnInSIdeal (m : (ℓ : Loc Cert.AttnInSIdeal.nD Cert.AttnInSIdeal.τ Cert.AttnInSIdeal.sig) → Buf (Elt Ideal) ℓ) : Prop :=
  True

def Pre_AttnInSReferenceIdeal (m : (ℓ : Loc Cert.AttnInSReferenceIdeal.nD Cert.AttnInSReferenceIdeal.τ Cert.AttnInSReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_MergeS (m : (ℓ : Loc Cert.MergeS.nD Cert.MergeS.τ Cert.MergeS.sig) → Buf (Elt Bits) ℓ) : Prop :=
  True

def Pre_MergeSIdeal (m : (ℓ : Loc Cert.MergeSIdeal.nD Cert.MergeSIdeal.τ Cert.MergeSIdeal.sig) → Buf (Elt Ideal) ℓ) : Prop :=
  True

def Pre_MergeSReferenceIdeal (m : (ℓ : Loc Cert.MergeSReferenceIdeal.nD Cert.MergeSReferenceIdeal.τ Cert.MergeSReferenceIdeal.sig) → Buf (Elt Ideal) ℓ) : Prop :=
  True

def Pre_Experts [hPre_groups_named : Cert.Pre_groups_named.Facts] (m : (ℓ : Loc Cert.Experts.nD Cert.Experts.τ Cert.Experts.sig) → Buf (Elt Bits) ℓ) : Prop :=
  ∀ c : Dev Cert.Experts.nD,
    (Cert.Pre_groups_named.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_groups_named : Cert.Pre_groups_named.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_groups_named.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsIdeal_groups_and_weights [hPre_groups_and_weights : Cert.Pre_groups_and_weights.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_groups_and_weights.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).1 = (fun _ => 1#1)
    ∧ (Cert.Pre_groups_and_weights.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).2 = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_groups_and_weights [hPre_groups_and_weights : Cert.Pre_groups_and_weights.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_groups_and_weights.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))).1 = (fun _ => 1#1)
    ∧ (Cert.Pre_groups_and_weights.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))).2 = (fun _ => 1#1)

def Pre_Combine [hPre_in_rows : Cert.Pre_in_rows.Facts] (m : (ℓ : Loc Cert.Combine.nD Cert.Combine.τ Cert.Combine.sig) → Buf (Elt Bits) ℓ) : Prop :=
  ∀ c : Dev Cert.Combine.nD,
    (Cert.Pre_in_rows.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2)) (m ((c.tc : Thread Cert.Combine.nD Cert.Combine.τ).loc Cert.Combine.main_arg3)) (m ((c.tc : Thread Cert.Combine.nD Cert.Combine.τ).loc Cert.Combine.main_arg4))) = (fun _ => 1#1)

def Pre_CombineIdeal [hPre_in_rows : Cert.Pre_in_rows.Facts] (m : (ℓ : Loc Cert.CombineIdeal.nD Cert.CombineIdeal.τ Cert.CombineIdeal.sig) → Buf (Elt Ideal) ℓ) : Prop :=
  ∀ c : Dev Cert.CombineIdeal.nD,
    (Cert.Pre_in_rows.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3)) (m ((c.tc : Thread Cert.CombineIdeal.nD Cert.CombineIdeal.τ).loc Cert.CombineIdeal.main_arg4))) = (fun _ => 1#1)

def Pre_CombineReferenceIdeal (m : (ℓ : Loc Cert.CombineReferenceIdeal.nD Cert.CombineReferenceIdeal.τ Cert.CombineReferenceIdeal.sig) → Buf (Elt Ideal) ℓ) : Prop :=
  True

def Pre_CombineReferenceIdeal_in_rows [hPre_in_rows : Cert.Pre_in_rows.Facts] (m : (ℓ : Loc Cert.CombineReferenceIdeal.nD Cert.CombineReferenceIdeal.τ Cert.CombineReferenceIdeal.sig) → Buf (Elt Ideal) ℓ) : Prop :=
  ∀ c : Dev Cert.CombineReferenceIdeal.nD,
    (Cert.Pre_in_rows.fn (F := Ideal) (m ((c.tc : Thread Cert.CombineReferenceIdeal.nD Cert.CombineReferenceIdeal.τ).loc Cert.CombineReferenceIdeal.main_arg0)) (m ((c.tc : Thread Cert.CombineReferenceIdeal.nD Cert.CombineReferenceIdeal.τ).loc Cert.CombineReferenceIdeal.main_arg1)) (m ((c.tc : Thread Cert.CombineReferenceIdeal.nD Cert.CombineReferenceIdeal.τ).loc Cert.CombineReferenceIdeal.main_arg2)) (m ((c.tc : Thread Cert.CombineReferenceIdeal.nD Cert.CombineReferenceIdeal.τ).loc Cert.CombineReferenceIdeal.main_arg3)) (m ((c.tc : Thread Cert.CombineReferenceIdeal.nD Cert.CombineReferenceIdeal.τ).loc Cert.CombineReferenceIdeal.main_arg4))) = (fun _ => 1#1)

def Pre_ExpertsS [hPre_sample_groups_named : Cert.Pre_sample_groups_named.Facts] (m : (ℓ : Loc Cert.ExpertsS.nD Cert.ExpertsS.τ Cert.ExpertsS.sig) → Buf (Elt Bits) ℓ) : Prop :=
  ∀ c : Dev Cert.ExpertsS.nD,
    (Cert.Pre_sample_groups_named.fn (F := Bits) (m ((c.tc : Thread Cert.ExpertsS.nD Cert.ExpertsS.τ).loc Cert.ExpertsS.main_arg0)) (m ((c.tc : Thread Cert.ExpertsS.nD Cert.ExpertsS.τ).loc Cert.ExpertsS.main_arg1)) (m ((c.tc : Thread Cert.ExpertsS.nD Cert.ExpertsS.τ).loc Cert.ExpertsS.main_arg2)) (m ((c.tc : Thread Cert.ExpertsS.nD Cert.ExpertsS.τ).loc Cert.ExpertsS.main_arg3)) (m ((c.tc : Thread Cert.ExpertsS.nD Cert.ExpertsS.τ).loc Cert.ExpertsS.main_arg4)) (m ((c.tc : Thread Cert.ExpertsS.nD Cert.ExpertsS.τ).loc Cert.ExpertsS.main_arg5))) = (fun _ => 1#1)

def Pre_ExpertsSIdeal [hPre_sample_groups_named : Cert.Pre_sample_groups_named.Facts] (m : (ℓ : Loc Cert.ExpertsSIdeal.nD Cert.ExpertsSIdeal.τ Cert.ExpertsSIdeal.sig) → Buf (Elt Ideal) ℓ) : Prop :=
  ∀ c : Dev Cert.ExpertsSIdeal.nD,
    (Cert.Pre_sample_groups_named.fn (F := Ideal) (m ((c.tc : Thread Cert.ExpertsSIdeal.nD Cert.ExpertsSIdeal.τ).loc Cert.ExpertsSIdeal.main_arg0)) (m ((c.tc : Thread Cert.ExpertsSIdeal.nD Cert.ExpertsSIdeal.τ).loc Cert.ExpertsSIdeal.main_arg1)) (m ((c.tc : Thread Cert.ExpertsSIdeal.nD Cert.ExpertsSIdeal.τ).loc Cert.ExpertsSIdeal.main_arg2)) (m ((c.tc : Thread Cert.ExpertsSIdeal.nD Cert.ExpertsSIdeal.τ).loc Cert.ExpertsSIdeal.main_arg3)) (m ((c.tc : Thread Cert.ExpertsSIdeal.nD Cert.ExpertsSIdeal.τ).loc Cert.ExpertsSIdeal.main_arg4)) (m ((c.tc : Thread Cert.ExpertsSIdeal.nD Cert.ExpertsSIdeal.τ).loc Cert.ExpertsSIdeal.main_arg5))) = (fun _ => 1#1)

def Pre_ExpertsSIdeal_sample_groups_and_weights [hPre_sample_groups_and_weights : Cert.Pre_sample_groups_and_weights.Facts] (m : (ℓ : Loc Cert.ExpertsSIdeal.nD Cert.ExpertsSIdeal.τ Cert.ExpertsSIdeal.sig) → Buf (Elt Ideal) ℓ) : Prop :=
  ∀ c : Dev Cert.ExpertsSIdeal.nD,
    (Cert.Pre_sample_groups_and_weights.fn (F := Ideal) (m ((c.tc : Thread Cert.ExpertsSIdeal.nD Cert.ExpertsSIdeal.τ).loc Cert.ExpertsSIdeal.main_arg0)) (m ((c.tc : Thread Cert.ExpertsSIdeal.nD Cert.ExpertsSIdeal.τ).loc Cert.ExpertsSIdeal.main_arg1)) (m ((c.tc : Thread Cert.ExpertsSIdeal.nD Cert.ExpertsSIdeal.τ).loc Cert.ExpertsSIdeal.main_arg2)) (m ((c.tc : Thread Cert.ExpertsSIdeal.nD Cert.ExpertsSIdeal.τ).loc Cert.ExpertsSIdeal.main_arg3)) (m ((c.tc : Thread Cert.ExpertsSIdeal.nD Cert.ExpertsSIdeal.τ).loc Cert.ExpertsSIdeal.main_arg4)) (m ((c.tc : Thread Cert.ExpertsSIdeal.nD Cert.ExpertsSIdeal.τ).loc Cert.ExpertsSIdeal.main_arg5))).1 = (fun _ => 1#1)
    ∧ (Cert.Pre_sample_groups_and_weights.fn (F := Ideal) (m ((c.tc : Thread Cert.ExpertsSIdeal.nD Cert.ExpertsSIdeal.τ).loc Cert.ExpertsSIdeal.main_arg0)) (m ((c.tc : Thread Cert.ExpertsSIdeal.nD Cert.ExpertsSIdeal.τ).loc Cert.ExpertsSIdeal.main_arg1)) (m ((c.tc : Thread Cert.ExpertsSIdeal.nD Cert.ExpertsSIdeal.τ).loc Cert.ExpertsSIdeal.main_arg2)) (m ((c.tc : Thread Cert.ExpertsSIdeal.nD Cert.ExpertsSIdeal.τ).loc Cert.ExpertsSIdeal.main_arg3)) (m ((c.tc : Thread Cert.ExpertsSIdeal.nD Cert.ExpertsSIdeal.τ).loc Cert.ExpertsSIdeal.main_arg4)) (m ((c.tc : Thread Cert.ExpertsSIdeal.nD Cert.ExpertsSIdeal.τ).loc Cert.ExpertsSIdeal.main_arg5))).2 = (fun _ => 1#1)

def Pre_ExpertsSReferenceIdeal (m : (ℓ : Loc Cert.ExpertsSReferenceIdeal.nD Cert.ExpertsSReferenceIdeal.τ Cert.ExpertsSReferenceIdeal.sig) → Buf (Elt Ideal) ℓ) : Prop :=
  True

def Pre_ExpertsSReferenceIdeal_sample_groups_and_weights [hPre_sample_groups_and_weights : Cert.Pre_sample_groups_and_weights.Facts] (m : (ℓ : Loc Cert.ExpertsSReferenceIdeal.nD Cert.ExpertsSReferenceIdeal.τ Cert.ExpertsSReferenceIdeal.sig) → Buf (Elt Ideal) ℓ) : Prop :=
  ∀ c : Dev Cert.ExpertsSReferenceIdeal.nD,
    (Cert.Pre_sample_groups_and_weights.fn (F := Ideal) (m ((c.tc : Thread Cert.ExpertsSReferenceIdeal.nD Cert.ExpertsSReferenceIdeal.τ).loc Cert.ExpertsSReferenceIdeal.main_arg0)) (m ((c.tc : Thread Cert.ExpertsSReferenceIdeal.nD Cert.ExpertsSReferenceIdeal.τ).loc Cert.ExpertsSReferenceIdeal.main_arg1)) (m ((c.tc : Thread Cert.ExpertsSReferenceIdeal.nD Cert.ExpertsSReferenceIdeal.τ).loc Cert.ExpertsSReferenceIdeal.main_arg2)) (m ((c.tc : Thread Cert.ExpertsSReferenceIdeal.nD Cert.ExpertsSReferenceIdeal.τ).loc Cert.ExpertsSReferenceIdeal.main_arg3)) (m ((c.tc : Thread Cert.ExpertsSReferenceIdeal.nD Cert.ExpertsSReferenceIdeal.τ).loc Cert.ExpertsSReferenceIdeal.main_arg4)) (m ((c.tc : Thread Cert.ExpertsSReferenceIdeal.nD Cert.ExpertsSReferenceIdeal.τ).loc Cert.ExpertsSReferenceIdeal.main_arg5))).1 = (fun _ => 1#1)
    ∧ (Cert.Pre_sample_groups_and_weights.fn (F := Ideal) (m ((c.tc : Thread Cert.ExpertsSReferenceIdeal.nD Cert.ExpertsSReferenceIdeal.τ).loc Cert.ExpertsSReferenceIdeal.main_arg0)) (m ((c.tc : Thread Cert.ExpertsSReferenceIdeal.nD Cert.ExpertsSReferenceIdeal.τ).loc Cert.ExpertsSReferenceIdeal.main_arg1)) (m ((c.tc : Thread Cert.ExpertsSReferenceIdeal.nD Cert.ExpertsSReferenceIdeal.τ).loc Cert.ExpertsSReferenceIdeal.main_arg2)) (m ((c.tc : Thread Cert.ExpertsSReferenceIdeal.nD Cert.ExpertsSReferenceIdeal.τ).loc Cert.ExpertsSReferenceIdeal.main_arg3)) (m ((c.tc : Thread Cert.ExpertsSReferenceIdeal.nD Cert.ExpertsSReferenceIdeal.τ).loc Cert.ExpertsSReferenceIdeal.main_arg4)) (m ((c.tc : Thread Cert.ExpertsSReferenceIdeal.nD Cert.ExpertsSReferenceIdeal.τ).loc Cert.ExpertsSReferenceIdeal.main_arg5))).2 = (fun _ => 1#1)

def Pre_CombineS [hPre_sample_in_rows : Cert.Pre_sample_in_rows.Facts] (m : (ℓ : Loc Cert.CombineS.nD Cert.CombineS.τ Cert.CombineS.sig) → Buf (Elt Bits) ℓ) : Prop :=
  ∀ c : Dev Cert.CombineS.nD,
    (Cert.Pre_sample_in_rows.fn (F := Bits) (m ((c.tc : Thread Cert.CombineS.nD Cert.CombineS.τ).loc Cert.CombineS.main_arg0)) (m ((c.tc : Thread Cert.CombineS.nD Cert.CombineS.τ).loc Cert.CombineS.main_arg1)) (m ((c.tc : Thread Cert.CombineS.nD Cert.CombineS.τ).loc Cert.CombineS.main_arg2)) (m ((c.tc : Thread Cert.CombineS.nD Cert.CombineS.τ).loc Cert.CombineS.main_arg3)) (m ((c.tc : Thread Cert.CombineS.nD Cert.CombineS.τ).loc Cert.CombineS.main_arg4))) = (fun _ => 1#1)

def Pre_CombineSIdeal [hPre_sample_in_rows : Cert.Pre_sample_in_rows.Facts] (m : (ℓ : Loc Cert.CombineSIdeal.nD Cert.CombineSIdeal.τ Cert.CombineSIdeal.sig) → Buf (Elt Ideal) ℓ) : Prop :=
  ∀ c : Dev Cert.CombineSIdeal.nD,
    (Cert.Pre_sample_in_rows.fn (F := Ideal) (m ((c.tc : Thread Cert.CombineSIdeal.nD Cert.CombineSIdeal.τ).loc Cert.CombineSIdeal.main_arg0)) (m ((c.tc : Thread Cert.CombineSIdeal.nD Cert.CombineSIdeal.τ).loc Cert.CombineSIdeal.main_arg1)) (m ((c.tc : Thread Cert.CombineSIdeal.nD Cert.CombineSIdeal.τ).loc Cert.CombineSIdeal.main_arg2)) (m ((c.tc : Thread Cert.CombineSIdeal.nD Cert.CombineSIdeal.τ).loc Cert.CombineSIdeal.main_arg3)) (m ((c.tc : Thread Cert.CombineSIdeal.nD Cert.CombineSIdeal.τ).loc Cert.CombineSIdeal.main_arg4))) = (fun _ => 1#1)

def Pre_CombineSReferenceIdeal (m : (ℓ : Loc Cert.CombineSReferenceIdeal.nD Cert.CombineSReferenceIdeal.τ Cert.CombineSReferenceIdeal.sig) → Buf (Elt Ideal) ℓ) : Prop :=
  True

def Pre_CombineSReferenceIdeal_sample_in_rows [hPre_sample_in_rows : Cert.Pre_sample_in_rows.Facts] (m : (ℓ : Loc Cert.CombineSReferenceIdeal.nD Cert.CombineSReferenceIdeal.τ Cert.CombineSReferenceIdeal.sig) → Buf (Elt Ideal) ℓ) : Prop :=
  ∀ c : Dev Cert.CombineSReferenceIdeal.nD,
    (Cert.Pre_sample_in_rows.fn (F := Ideal) (m ((c.tc : Thread Cert.CombineSReferenceIdeal.nD Cert.CombineSReferenceIdeal.τ).loc Cert.CombineSReferenceIdeal.main_arg0)) (m ((c.tc : Thread Cert.CombineSReferenceIdeal.nD Cert.CombineSReferenceIdeal.τ).loc Cert.CombineSReferenceIdeal.main_arg1)) (m ((c.tc : Thread Cert.CombineSReferenceIdeal.nD Cert.CombineSReferenceIdeal.τ).loc Cert.CombineSReferenceIdeal.main_arg2)) (m ((c.tc : Thread Cert.CombineSReferenceIdeal.nD Cert.CombineSReferenceIdeal.τ).loc Cert.CombineSReferenceIdeal.main_arg3)) (m ((c.tc : Thread Cert.CombineSReferenceIdeal.nD Cert.CombineSReferenceIdeal.τ).loc Cert.CombineSReferenceIdeal.main_arg4))) = (fun _ => 1#1)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3)
      ∧ r.2.mem ((c.tc : Thread Cert.Gmlp.nD Cert.Gmlp.τ).loc Cert.Gmlp.main_arg4) = m ((c.tc : Thread Cert.Gmlp.nD Cert.Gmlp.τ).loc Cert.Gmlp.main_arg4)
      ∧ r.2.mem ((c.tc : Thread Cert.Gmlp.nD Cert.Gmlp.τ).loc Cert.Gmlp.main_arg5) = m ((c.tc : Thread Cert.Gmlp.nD Cert.Gmlp.τ).loc Cert.Gmlp.main_arg5)
      ∧ r.2.mem ((c.tc : Thread Cert.Gmlp.nD Cert.Gmlp.τ).loc Cert.Gmlp.main_arg6) = m ((c.tc : Thread Cert.Gmlp.nD Cert.Gmlp.τ).loc Cert.Gmlp.main_arg6))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
      ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5)
      ∧ r.2.mem ((c.tc : Thread Cert.GmlpIdeal.nD Cert.GmlpIdeal.τ).loc Cert.GmlpIdeal.main_arg6) = m ((c.tc : Thread Cert.GmlpIdeal.nD Cert.GmlpIdeal.τ).loc Cert.GmlpIdeal.main_arg6))
      ∧ r.2.sem = fun _ => 0)

def quiescent_GmlpReferenceIdeal [hGmlpReferenceIdeal : Cert.GmlpReferenceIdeal.Facts] : Prop :=
  ∀ (m : (ℓ : Loc Cert.GmlpReferenceIdeal.nD Cert.GmlpReferenceIdeal.τ Cert.GmlpReferenceIdeal.sig) → Buf (Elt Ideal) ℓ) (g : Dev Cert.GmlpReferenceIdeal.nD → PrngReg), Pre_GmlpReferenceIdeal m →
    θ_run (Cert.GmlpReferenceIdeal.defs (F := Ideal)) (onTc (τ := Cert.GmlpReferenceIdeal.τ) (Cert.GmlpReferenceIdeal.main (F := Ideal))) ⟨m, fun _ => 0, g⟩ (fun r => (∀ c : Dev Cert.GmlpReferenceIdeal.nD,
      r.2.mem ((c.tc : Thread Cert.GmlpReferenceIdeal.nD Cert.GmlpReferenceIdeal.τ).loc Cert.GmlpReferenceIdeal.main_arg0) = m ((c.tc : Thread Cert.GmlpReferenceIdeal.nD Cert.GmlpReferenceIdeal.τ).loc Cert.GmlpReferenceIdeal.main_arg0)
      ∧ r.2.mem ((c.tc : Thread Cert.GmlpReferenceIdeal.nD Cert.GmlpReferenceIdeal.τ).loc Cert.GmlpReferenceIdeal.main_arg1) = m ((c.tc : Thread Cert.GmlpReferenceIdeal.nD Cert.GmlpReferenceIdeal.τ).loc Cert.GmlpReferenceIdeal.main_arg1)
      ∧ r.2.mem ((c.tc : Thread Cert.GmlpReferenceIdeal.nD Cert.GmlpReferenceIdeal.τ).loc Cert.GmlpReferenceIdeal.main_arg2) = m ((c.tc : Thread Cert.GmlpReferenceIdeal.nD Cert.GmlpReferenceIdeal.τ).loc Cert.GmlpReferenceIdeal.main_arg2)
      ∧ r.2.mem ((c.tc : Thread Cert.GmlpReferenceIdeal.nD Cert.GmlpReferenceIdeal.τ).loc Cert.GmlpReferenceIdeal.main_arg3) = m ((c.tc : Thread Cert.GmlpReferenceIdeal.nD Cert.GmlpReferenceIdeal.τ).loc Cert.GmlpReferenceIdeal.main_arg3)
      ∧ r.2.mem ((c.tc : Thread Cert.GmlpReferenceIdeal.nD Cert.GmlpReferenceIdeal.τ).loc Cert.GmlpReferenceIdeal.main_arg4) = m ((c.tc : Thread Cert.GmlpReferenceIdeal.nD Cert.GmlpReferenceIdeal.τ).loc Cert.GmlpReferenceIdeal.main_arg4)
      ∧ r.2.mem ((c.tc : Thread Cert.GmlpReferenceIdeal.nD Cert.GmlpReferenceIdeal.τ).loc Cert.GmlpReferenceIdeal.main_arg5) = m ((c.tc : Thread Cert.GmlpReferenceIdeal.nD Cert.GmlpReferenceIdeal.τ).loc Cert.GmlpReferenceIdeal.main_arg5)
      ∧ r.2.mem ((c.tc : Thread Cert.GmlpReferenceIdeal.nD Cert.GmlpReferenceIdeal.τ).loc Cert.GmlpReferenceIdeal.main_arg6) = m ((c.tc : Thread Cert.GmlpReferenceIdeal.nD Cert.GmlpReferenceIdeal.τ).loc Cert.GmlpReferenceIdeal.main_arg6))
      ∧ r.2.sem = fun _ => 0)

def quiescent_AttnIn [hAttnIn : Cert.AttnIn.Facts] : Prop :=
  ∀ (m : (ℓ : Loc Cert.AttnIn.nD Cert.AttnIn.τ Cert.AttnIn.sig) → Buf (Elt Bits) ℓ) (g : Dev Cert.AttnIn.nD → PrngReg), Pre_AttnIn m →
    θ_run (Cert.AttnIn.defs (F := Bits)) (onTc (τ := Cert.AttnIn.τ) (Cert.AttnIn.main (F := Bits))) ⟨m, fun _ => 0, g⟩ (fun r => (∀ c : Dev Cert.AttnIn.nD,
      r.2.mem ((c.tc : Thread Cert.AttnIn.nD Cert.AttnIn.τ).loc Cert.AttnIn.main_arg0) = m ((c.tc : Thread Cert.AttnIn.nD Cert.AttnIn.τ).loc Cert.AttnIn.main_arg0)
      ∧ r.2.mem ((c.tc : Thread Cert.AttnIn.nD Cert.AttnIn.τ).loc Cert.AttnIn.main_arg1) = m ((c.tc : Thread Cert.AttnIn.nD Cert.AttnIn.τ).loc Cert.AttnIn.main_arg1))
      ∧ r.2.sem = fun _ => 0)

def quiescent_AttnInIdeal [hAttnInIdeal : Cert.AttnInIdeal.Facts] : Prop :=
  ∀ (m : (ℓ : Loc Cert.AttnInIdeal.nD Cert.AttnInIdeal.τ Cert.AttnInIdeal.sig) → Buf (Elt Ideal) ℓ) (g : Dev Cert.AttnInIdeal.nD → PrngReg), Pre_AttnInIdeal m →
    θ_run (Cert.AttnInIdeal.defs (F := Ideal)) (onTc (τ := Cert.AttnInIdeal.τ) (Cert.AttnInIdeal.main (F := Ideal))) ⟨m, fun _ => 0, g⟩ (fun r => (∀ c : Dev Cert.AttnInIdeal.nD,
      r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
      ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1))
      ∧ r.2.sem = fun _ => 0)

def quiescent_AttnInReferenceIdeal [hAttnInReferenceIdeal : Cert.AttnInReferenceIdeal.Facts] : Prop :=
  ∀ (m : (ℓ : Loc Cert.AttnInReferenceIdeal.nD Cert.AttnInReferenceIdeal.τ Cert.AttnInReferenceIdeal.sig) → Buf (Elt Ideal) ℓ) (g : Dev Cert.AttnInReferenceIdeal.nD → PrngReg), Pre_AttnInReferenceIdeal m →
    θ_run (Cert.AttnInReferenceIdeal.defs (F := Ideal)) (onTc (τ := Cert.AttnInReferenceIdeal.τ) (Cert.AttnInReferenceIdeal.main (F := Ideal))) ⟨m, fun _ => 0, g⟩ (fun r => (∀ c : Dev Cert.AttnInReferenceIdeal.nD,
      r.2.mem ((c.tc : Thread Cert.AttnInReferenceIdeal.nD Cert.AttnInReferenceIdeal.τ).loc Cert.AttnInReferenceIdeal.main_arg0) = m ((c.tc : Thread Cert.AttnInReferenceIdeal.nD Cert.AttnInReferenceIdeal.τ).loc Cert.AttnInReferenceIdeal.main_arg0)
      ∧ r.2.mem ((c.tc : Thread Cert.AttnInReferenceIdeal.nD Cert.AttnInReferenceIdeal.τ).loc Cert.AttnInReferenceIdeal.main_arg1) = m ((c.tc : Thread Cert.AttnInReferenceIdeal.nD Cert.AttnInReferenceIdeal.τ).loc Cert.AttnInReferenceIdeal.main_arg1))
      ∧ r.2.sem = fun _ => 0)

def quiescent_GmlpS [hGmlpS : Cert.GmlpS.Facts] : Prop :=
  ∀ (m : (ℓ : Loc Cert.GmlpS.nD Cert.GmlpS.τ Cert.GmlpS.sig) → Buf (Elt Bits) ℓ) (g : Dev Cert.GmlpS.nD → PrngReg), Pre_GmlpS m →
    θ_run (Cert.GmlpS.defs (F := Bits)) (onTc (τ := Cert.GmlpS.τ) (Cert.GmlpS.main (F := Bits))) ⟨m, fun _ => 0, g⟩ (fun r => (∀ c : Dev Cert.GmlpS.nD,
      r.2.mem ((c.tc : Thread Cert.GmlpS.nD Cert.GmlpS.τ).loc Cert.GmlpS.main_arg0) = m ((c.tc : Thread Cert.GmlpS.nD Cert.GmlpS.τ).loc Cert.GmlpS.main_arg0)
      ∧ r.2.mem ((c.tc : Thread Cert.GmlpS.nD Cert.GmlpS.τ).loc Cert.GmlpS.main_arg1) = m ((c.tc : Thread Cert.GmlpS.nD Cert.GmlpS.τ).loc Cert.GmlpS.main_arg1)
      ∧ r.2.mem ((c.tc : Thread Cert.GmlpS.nD Cert.GmlpS.τ).loc Cert.GmlpS.main_arg2) = m ((c.tc : Thread Cert.GmlpS.nD Cert.GmlpS.τ).loc Cert.GmlpS.main_arg2)
      ∧ r.2.mem ((c.tc : Thread Cert.GmlpS.nD Cert.GmlpS.τ).loc Cert.GmlpS.main_arg3) = m ((c.tc : Thread Cert.GmlpS.nD Cert.GmlpS.τ).loc Cert.GmlpS.main_arg3)
      ∧ r.2.mem ((c.tc : Thread Cert.GmlpS.nD Cert.GmlpS.τ).loc Cert.GmlpS.main_arg4) = m ((c.tc : Thread Cert.GmlpS.nD Cert.GmlpS.τ).loc Cert.GmlpS.main_arg4)
      ∧ r.2.mem ((c.tc : Thread Cert.GmlpS.nD Cert.GmlpS.τ).loc Cert.GmlpS.main_arg5) = m ((c.tc : Thread Cert.GmlpS.nD Cert.GmlpS.τ).loc Cert.GmlpS.main_arg5)
      ∧ r.2.mem ((c.tc : Thread Cert.GmlpS.nD Cert.GmlpS.τ).loc Cert.GmlpS.main_arg6) = m ((c.tc : Thread Cert.GmlpS.nD Cert.GmlpS.τ).loc Cert.GmlpS.main_arg6))
      ∧ r.2.sem = fun _ => 0)

def quiescent_GmlpSIdeal [hGmlpSIdeal : Cert.GmlpSIdeal.Facts] : Prop :=
  ∀ (m : (ℓ : Loc Cert.GmlpSIdeal.nD Cert.GmlpSIdeal.τ Cert.GmlpSIdeal.sig) → Buf (Elt Ideal) ℓ) (g : Dev Cert.GmlpSIdeal.nD → PrngReg), Pre_GmlpSIdeal m →
    θ_run (Cert.GmlpSIdeal.defs (F := Ideal)) (onTc (τ := Cert.GmlpSIdeal.τ) (Cert.GmlpSIdeal.main (F := Ideal))) ⟨m, fun _ => 0, g⟩ (fun r => (∀ c : Dev Cert.GmlpSIdeal.nD,
      r.2.mem ((c.tc : Thread Cert.GmlpSIdeal.nD Cert.GmlpSIdeal.τ).loc Cert.GmlpSIdeal.main_arg0) = m ((c.tc : Thread Cert.GmlpSIdeal.nD Cert.GmlpSIdeal.τ).loc Cert.GmlpSIdeal.main_arg0)
      ∧ r.2.mem ((c.tc : Thread Cert.GmlpSIdeal.nD Cert.GmlpSIdeal.τ).loc Cert.GmlpSIdeal.main_arg1) = m ((c.tc : Thread Cert.GmlpSIdeal.nD Cert.GmlpSIdeal.τ).loc Cert.GmlpSIdeal.main_arg1)
      ∧ r.2.mem ((c.tc : Thread Cert.GmlpSIdeal.nD Cert.GmlpSIdeal.τ).loc Cert.GmlpSIdeal.main_arg2) = m ((c.tc : Thread Cert.GmlpSIdeal.nD Cert.GmlpSIdeal.τ).loc Cert.GmlpSIdeal.main_arg2)
      ∧ r.2.mem ((c.tc : Thread Cert.GmlpSIdeal.nD Cert.GmlpSIdeal.τ).loc Cert.GmlpSIdeal.main_arg3) = m ((c.tc : Thread Cert.GmlpSIdeal.nD Cert.GmlpSIdeal.τ).loc Cert.GmlpSIdeal.main_arg3)
      ∧ r.2.mem ((c.tc : Thread Cert.GmlpSIdeal.nD Cert.GmlpSIdeal.τ).loc Cert.GmlpSIdeal.main_arg4) = m ((c.tc : Thread Cert.GmlpSIdeal.nD Cert.GmlpSIdeal.τ).loc Cert.GmlpSIdeal.main_arg4)
      ∧ r.2.mem ((c.tc : Thread Cert.GmlpSIdeal.nD Cert.GmlpSIdeal.τ).loc Cert.GmlpSIdeal.main_arg5) = m ((c.tc : Thread Cert.GmlpSIdeal.nD Cert.GmlpSIdeal.τ).loc Cert.GmlpSIdeal.main_arg5)
      ∧ r.2.mem ((c.tc : Thread Cert.GmlpSIdeal.nD Cert.GmlpSIdeal.τ).loc Cert.GmlpSIdeal.main_arg6) = m ((c.tc : Thread Cert.GmlpSIdeal.nD Cert.GmlpSIdeal.τ).loc Cert.GmlpSIdeal.main_arg6))
      ∧ r.2.sem = fun _ => 0)

def quiescent_GmlpSReferenceIdeal [hGmlpSReferenceIdeal : Cert.GmlpSReferenceIdeal.Facts] : Prop :=
  ∀ (m : (ℓ : Loc Cert.GmlpSReferenceIdeal.nD Cert.GmlpSReferenceIdeal.τ Cert.GmlpSReferenceIdeal.sig) → Buf (Elt Ideal) ℓ) (g : Dev Cert.GmlpSReferenceIdeal.nD → PrngReg), Pre_GmlpSReferenceIdeal m →
    θ_run (Cert.GmlpSReferenceIdeal.defs (F := Ideal)) (onTc (τ := Cert.GmlpSReferenceIdeal.τ) (Cert.GmlpSReferenceIdeal.main (F := Ideal))) ⟨m, fun _ => 0, g⟩ (fun r => (∀ c : Dev Cert.GmlpSReferenceIdeal.nD,
      r.2.mem ((c.tc : Thread Cert.GmlpSReferenceIdeal.nD Cert.GmlpSReferenceIdeal.τ).loc Cert.GmlpSReferenceIdeal.main_arg0) = m ((c.tc : Thread Cert.GmlpSReferenceIdeal.nD Cert.GmlpSReferenceIdeal.τ).loc Cert.GmlpSReferenceIdeal.main_arg0)
      ∧ r.2.mem ((c.tc : Thread Cert.GmlpSReferenceIdeal.nD Cert.GmlpSReferenceIdeal.τ).loc Cert.GmlpSReferenceIdeal.main_arg1) = m ((c.tc : Thread Cert.GmlpSReferenceIdeal.nD Cert.GmlpSReferenceIdeal.τ).loc Cert.GmlpSReferenceIdeal.main_arg1)
      ∧ r.2.mem ((c.tc : Thread Cert.GmlpSReferenceIdeal.nD Cert.GmlpSReferenceIdeal.τ).loc Cert.GmlpSReferenceIdeal.main_arg2) = m ((c.tc : Thread Cert.GmlpSReferenceIdeal.nD Cert.GmlpSReferenceIdeal.τ).loc Cert.GmlpSReferenceIdeal.main_arg2)
      ∧ r.2.mem ((c.tc : Thread Cert.GmlpSReferenceIdeal.nD Cert.GmlpSReferenceIdeal.τ).loc Cert.GmlpSReferenceIdeal.main_arg3) = m ((c.tc : Thread Cert.GmlpSReferenceIdeal.nD Cert.GmlpSReferenceIdeal.τ).loc Cert.GmlpSReferenceIdeal.main_arg3)
      ∧ r.2.mem ((c.tc : Thread Cert.GmlpSReferenceIdeal.nD Cert.GmlpSReferenceIdeal.τ).loc Cert.GmlpSReferenceIdeal.main_arg4) = m ((c.tc : Thread Cert.GmlpSReferenceIdeal.nD Cert.GmlpSReferenceIdeal.τ).loc Cert.GmlpSReferenceIdeal.main_arg4)
      ∧ r.2.mem ((c.tc : Thread Cert.GmlpSReferenceIdeal.nD Cert.GmlpSReferenceIdeal.τ).loc Cert.GmlpSReferenceIdeal.main_arg5) = m ((c.tc : Thread Cert.GmlpSReferenceIdeal.nD Cert.GmlpSReferenceIdeal.τ).loc Cert.GmlpSReferenceIdeal.main_arg5)
      ∧ r.2.mem ((c.tc : Thread Cert.GmlpSReferenceIdeal.nD Cert.GmlpSReferenceIdeal.τ).loc Cert.GmlpSReferenceIdeal.main_arg6) = m ((c.tc : Thread Cert.GmlpSReferenceIdeal.nD Cert.GmlpSReferenceIdeal.τ).loc Cert.GmlpSReferenceIdeal.main_arg6))
      ∧ r.2.sem = fun _ => 0)

def quiescent_AttnInS [hAttnInS : Cert.AttnInS.Facts] : Prop :=
  ∀ (m : (ℓ : Loc Cert.AttnInS.nD Cert.AttnInS.τ Cert.AttnInS.sig) → Buf (Elt Bits) ℓ) (g : Dev Cert.AttnInS.nD → PrngReg), Pre_AttnInS m →
    θ_run (Cert.AttnInS.defs (F := Bits)) (onTc (τ := Cert.AttnInS.τ) (Cert.AttnInS.main (F := Bits))) ⟨m, fun _ => 0, g⟩ (fun r => (∀ c : Dev Cert.AttnInS.nD,
      r.2.mem ((c.tc : Thread Cert.AttnInS.nD Cert.AttnInS.τ).loc Cert.AttnInS.main_arg0) = m ((c.tc : Thread Cert.AttnInS.nD Cert.AttnInS.τ).loc Cert.AttnInS.main_arg0)
      ∧ r.2.mem ((c.tc : Thread Cert.AttnInS.nD Cert.AttnInS.τ).loc Cert.AttnInS.main_arg1) = m ((c.tc : Thread Cert.AttnInS.nD Cert.AttnInS.τ).loc Cert.AttnInS.main_arg1))
      ∧ r.2.sem = fun _ => 0)

def quiescent_AttnInSIdeal [hAttnInSIdeal : Cert.AttnInSIdeal.Facts] : Prop :=
  ∀ (m : (ℓ : Loc Cert.AttnInSIdeal.nD Cert.AttnInSIdeal.τ Cert.AttnInSIdeal.sig) → Buf (Elt Ideal) ℓ) (g : Dev Cert.AttnInSIdeal.nD → PrngReg), Pre_AttnInSIdeal m →
    θ_run (Cert.AttnInSIdeal.defs (F := Ideal)) (onTc (τ := Cert.AttnInSIdeal.τ) (Cert.AttnInSIdeal.main (F := Ideal))) ⟨m, fun _ => 0, g⟩ (fun r => (∀ c : Dev Cert.AttnInSIdeal.nD,
      r.2.mem ((c.tc : Thread Cert.AttnInSIdeal.nD Cert.AttnInSIdeal.τ).loc Cert.AttnInSIdeal.main_arg0) = m ((c.tc : Thread Cert.AttnInSIdeal.nD Cert.AttnInSIdeal.τ).loc Cert.AttnInSIdeal.main_arg0)
      ∧ r.2.mem ((c.tc : Thread Cert.AttnInSIdeal.nD Cert.AttnInSIdeal.τ).loc Cert.AttnInSIdeal.main_arg1) = m ((c.tc : Thread Cert.AttnInSIdeal.nD Cert.AttnInSIdeal.τ).loc Cert.AttnInSIdeal.main_arg1))
      ∧ r.2.sem = fun _ => 0)

def quiescent_AttnInSReferenceIdeal [hAttnInSReferenceIdeal : Cert.AttnInSReferenceIdeal.Facts] : Prop :=
  ∀ (m : (ℓ : Loc Cert.AttnInSReferenceIdeal.nD Cert.AttnInSReferenceIdeal.τ Cert.AttnInSReferenceIdeal.sig) → Buf (Elt Ideal) ℓ) (g : Dev Cert.AttnInSReferenceIdeal.nD → PrngReg), Pre_AttnInSReferenceIdeal m →
    θ_run (Cert.AttnInSReferenceIdeal.defs (F := Ideal)) (onTc (τ := Cert.AttnInSReferenceIdeal.τ) (Cert.AttnInSReferenceIdeal.main (F := Ideal))) ⟨m, fun _ => 0, g⟩ (fun r => (∀ c : Dev Cert.AttnInSReferenceIdeal.nD,
      r.2.mem ((c.tc : Thread Cert.AttnInSReferenceIdeal.nD Cert.AttnInSReferenceIdeal.τ).loc Cert.AttnInSReferenceIdeal.main_arg0) = m ((c.tc : Thread Cert.AttnInSReferenceIdeal.nD Cert.AttnInSReferenceIdeal.τ).loc Cert.AttnInSReferenceIdeal.main_arg0)
      ∧ r.2.mem ((c.tc : Thread Cert.AttnInSReferenceIdeal.nD Cert.AttnInSReferenceIdeal.τ).loc Cert.AttnInSReferenceIdeal.main_arg1) = m ((c.tc : Thread Cert.AttnInSReferenceIdeal.nD Cert.AttnInSReferenceIdeal.τ).loc Cert.AttnInSReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10))
      ∧ r.2.sem = fun _ => 0)

def quiescent_MergeS [hMergeS : Cert.MergeS.Facts] : Prop :=
  ∀ (m : (ℓ : Loc Cert.MergeS.nD Cert.MergeS.τ Cert.MergeS.sig) → Buf (Elt Bits) ℓ) (g : Dev Cert.MergeS.nD → PrngReg), Pre_MergeS m →
    θ_run (Cert.MergeS.defs (F := Bits)) (onTc (τ := Cert.MergeS.τ) (Cert.MergeS.main (F := Bits))) ⟨m, fun _ => 0, g⟩ (fun r => (∀ c : Dev Cert.MergeS.nD,
      r.2.mem ((c.tc : Thread Cert.MergeS.nD Cert.MergeS.τ).loc Cert.MergeS.main_arg0) = m ((c.tc : Thread Cert.MergeS.nD Cert.MergeS.τ).loc Cert.MergeS.main_arg0)
      ∧ r.2.mem ((c.tc : Thread Cert.MergeS.nD Cert.MergeS.τ).loc Cert.MergeS.main_arg1) = m ((c.tc : Thread Cert.MergeS.nD Cert.MergeS.τ).loc Cert.MergeS.main_arg1)
      ∧ r.2.mem ((c.tc : Thread Cert.MergeS.nD Cert.MergeS.τ).loc Cert.MergeS.main_arg2) = m ((c.tc : Thread Cert.MergeS.nD Cert.MergeS.τ).loc Cert.MergeS.main_arg2)
      ∧ r.2.mem ((c.tc : Thread Cert.MergeS.nD Cert.MergeS.τ).loc Cert.MergeS.main_arg3) = m ((c.tc : Thread Cert.MergeS.nD Cert.MergeS.τ).loc Cert.MergeS.main_arg3)
      ∧ r.2.mem ((c.tc : Thread Cert.MergeS.nD Cert.MergeS.τ).loc Cert.MergeS.main_arg4) = m ((c.tc : Thread Cert.MergeS.nD Cert.MergeS.τ).loc Cert.MergeS.main_arg4)
      ∧ r.2.mem ((c.tc : Thread Cert.MergeS.nD Cert.MergeS.τ).loc Cert.MergeS.main_arg5) = m ((c.tc : Thread Cert.MergeS.nD Cert.MergeS.τ).loc Cert.MergeS.main_arg5)
      ∧ r.2.mem ((c.tc : Thread Cert.MergeS.nD Cert.MergeS.τ).loc Cert.MergeS.main_arg6) = m ((c.tc : Thread Cert.MergeS.nD Cert.MergeS.τ).loc Cert.MergeS.main_arg6)
      ∧ r.2.mem ((c.tc : Thread Cert.MergeS.nD Cert.MergeS.τ).loc Cert.MergeS.main_arg7) = m ((c.tc : Thread Cert.MergeS.nD Cert.MergeS.τ).loc Cert.MergeS.main_arg7)
      ∧ r.2.mem ((c.tc : Thread Cert.MergeS.nD Cert.MergeS.τ).loc Cert.MergeS.main_arg8) = m ((c.tc : Thread Cert.MergeS.nD Cert.MergeS.τ).loc Cert.MergeS.main_arg8)
      ∧ r.2.mem ((c.tc : Thread Cert.MergeS.nD Cert.MergeS.τ).loc Cert.MergeS.main_arg9) = m ((c.tc : Thread Cert.MergeS.nD Cert.MergeS.τ).loc Cert.MergeS.main_arg9)
      ∧ r.2.mem ((c.tc : Thread Cert.MergeS.nD Cert.MergeS.τ).loc Cert.MergeS.main_arg10) = m ((c.tc : Thread Cert.MergeS.nD Cert.MergeS.τ).loc Cert.MergeS.main_arg10))
      ∧ r.2.sem = fun _ => 0)

def quiescent_MergeSIdeal [hMergeSIdeal : Cert.MergeSIdeal.Facts] : Prop :=
  ∀ (m : (ℓ : Loc Cert.MergeSIdeal.nD Cert.MergeSIdeal.τ Cert.MergeSIdeal.sig) → Buf (Elt Ideal) ℓ) (g : Dev Cert.MergeSIdeal.nD → PrngReg), Pre_MergeSIdeal m →
    θ_run (Cert.MergeSIdeal.defs (F := Ideal)) (onTc (τ := Cert.MergeSIdeal.τ) (Cert.MergeSIdeal.main (F := Ideal))) ⟨m, fun _ => 0, g⟩ (fun r => (∀ c : Dev Cert.MergeSIdeal.nD,
      r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
      ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
      ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
      ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3)
      ∧ r.2.mem ((c.tc : Thread Cert.MergeSIdeal.nD Cert.MergeSIdeal.τ).loc Cert.MergeSIdeal.main_arg4) = m ((c.tc : Thread Cert.MergeSIdeal.nD Cert.MergeSIdeal.τ).loc Cert.MergeSIdeal.main_arg4)
      ∧ r.2.mem ((c.tc : Thread Cert.MergeSIdeal.nD Cert.MergeSIdeal.τ).loc Cert.MergeSIdeal.main_arg5) = m ((c.tc : Thread Cert.MergeSIdeal.nD Cert.MergeSIdeal.τ).loc Cert.MergeSIdeal.main_arg5)
      ∧ r.2.mem ((c.tc : Thread Cert.MergeSIdeal.nD Cert.MergeSIdeal.τ).loc Cert.MergeSIdeal.main_arg6) = m ((c.tc : Thread Cert.MergeSIdeal.nD Cert.MergeSIdeal.τ).loc Cert.MergeSIdeal.main_arg6)
      ∧ r.2.mem ((c.tc : Thread Cert.MergeSIdeal.nD Cert.MergeSIdeal.τ).loc Cert.MergeSIdeal.main_arg7) = m ((c.tc : Thread Cert.MergeSIdeal.nD Cert.MergeSIdeal.τ).loc Cert.MergeSIdeal.main_arg7)
      ∧ r.2.mem ((c.tc : Thread Cert.MergeSIdeal.nD Cert.MergeSIdeal.τ).loc Cert.MergeSIdeal.main_arg8) = m ((c.tc : Thread Cert.MergeSIdeal.nD Cert.MergeSIdeal.τ).loc Cert.MergeSIdeal.main_arg8)
      ∧ r.2.mem ((c.tc : Thread Cert.MergeSIdeal.nD Cert.MergeSIdeal.τ).loc Cert.MergeSIdeal.main_arg9) = m ((c.tc : Thread Cert.MergeSIdeal.nD Cert.MergeSIdeal.τ).loc Cert.MergeSIdeal.main_arg9)
      ∧ r.2.mem ((c.tc : Thread Cert.MergeSIdeal.nD Cert.MergeSIdeal.τ).loc Cert.MergeSIdeal.main_arg10) = m ((c.tc : Thread Cert.MergeSIdeal.nD Cert.MergeSIdeal.τ).loc Cert.MergeSIdeal.main_arg10))
      ∧ r.2.sem = fun _ => 0)

def quiescent_MergeSReferenceIdeal [hMergeSReferenceIdeal : Cert.MergeSReferenceIdeal.Facts] : Prop :=
  ∀ (m : (ℓ : Loc Cert.MergeSReferenceIdeal.nD Cert.MergeSReferenceIdeal.τ Cert.MergeSReferenceIdeal.sig) → Buf (Elt Ideal) ℓ) (g : Dev Cert.MergeSReferenceIdeal.nD → PrngReg), Pre_MergeSReferenceIdeal m →
    θ_run (Cert.MergeSReferenceIdeal.defs (F := Ideal)) (onTc (τ := Cert.MergeSReferenceIdeal.τ) (Cert.MergeSReferenceIdeal.main (F := Ideal))) ⟨m, fun _ => 0, g⟩ (fun r => (∀ c : Dev Cert.MergeSReferenceIdeal.nD,
      r.2.mem ((c.tc : Thread Cert.MergeSReferenceIdeal.nD Cert.MergeSReferenceIdeal.τ).loc Cert.MergeSReferenceIdeal.main_arg0) = m ((c.tc : Thread Cert.MergeSReferenceIdeal.nD Cert.MergeSReferenceIdeal.τ).loc Cert.MergeSReferenceIdeal.main_arg0)
      ∧ r.2.mem ((c.tc : Thread Cert.MergeSReferenceIdeal.nD Cert.MergeSReferenceIdeal.τ).loc Cert.MergeSReferenceIdeal.main_arg1) = m ((c.tc : Thread Cert.MergeSReferenceIdeal.nD Cert.MergeSReferenceIdeal.τ).loc Cert.MergeSReferenceIdeal.main_arg1)
      ∧ r.2.mem ((c.tc : Thread Cert.MergeSReferenceIdeal.nD Cert.MergeSReferenceIdeal.τ).loc Cert.MergeSReferenceIdeal.main_arg2) = m ((c.tc : Thread Cert.MergeSReferenceIdeal.nD Cert.MergeSReferenceIdeal.τ).loc Cert.MergeSReferenceIdeal.main_arg2)
      ∧ r.2.mem ((c.tc : Thread Cert.MergeSReferenceIdeal.nD Cert.MergeSReferenceIdeal.τ).loc Cert.MergeSReferenceIdeal.main_arg3) = m ((c.tc : Thread Cert.MergeSReferenceIdeal.nD Cert.MergeSReferenceIdeal.τ).loc Cert.MergeSReferenceIdeal.main_arg3)
      ∧ r.2.mem ((c.tc : Thread Cert.MergeSReferenceIdeal.nD Cert.MergeSReferenceIdeal.τ).loc Cert.MergeSReferenceIdeal.main_arg4) = m ((c.tc : Thread Cert.MergeSReferenceIdeal.nD Cert.MergeSReferenceIdeal.τ).loc Cert.MergeSReferenceIdeal.main_arg4)
      ∧ r.2.mem ((c.tc : Thread Cert.MergeSReferenceIdeal.nD Cert.MergeSReferenceIdeal.τ).loc Cert.MergeSReferenceIdeal.main_arg5) = m ((c.tc : Thread Cert.MergeSReferenceIdeal.nD Cert.MergeSReferenceIdeal.τ).loc Cert.MergeSReferenceIdeal.main_arg5)
      ∧ r.2.mem ((c.tc : Thread Cert.MergeSReferenceIdeal.nD Cert.MergeSReferenceIdeal.τ).loc Cert.MergeSReferenceIdeal.main_arg6) = m ((c.tc : Thread Cert.MergeSReferenceIdeal.nD Cert.MergeSReferenceIdeal.τ).loc Cert.MergeSReferenceIdeal.main_arg6)
      ∧ r.2.mem ((c.tc : Thread Cert.MergeSReferenceIdeal.nD Cert.MergeSReferenceIdeal.τ).loc Cert.MergeSReferenceIdeal.main_arg7) = m ((c.tc : Thread Cert.MergeSReferenceIdeal.nD Cert.MergeSReferenceIdeal.τ).loc Cert.MergeSReferenceIdeal.main_arg7)
      ∧ r.2.mem ((c.tc : Thread Cert.MergeSReferenceIdeal.nD Cert.MergeSReferenceIdeal.τ).loc Cert.MergeSReferenceIdeal.main_arg8) = m ((c.tc : Thread Cert.MergeSReferenceIdeal.nD Cert.MergeSReferenceIdeal.τ).loc Cert.MergeSReferenceIdeal.main_arg8)
      ∧ r.2.mem ((c.tc : Thread Cert.MergeSReferenceIdeal.nD Cert.MergeSReferenceIdeal.τ).loc Cert.MergeSReferenceIdeal.main_arg9) = m ((c.tc : Thread Cert.MergeSReferenceIdeal.nD Cert.MergeSReferenceIdeal.τ).loc Cert.MergeSReferenceIdeal.main_arg9)
      ∧ r.2.mem ((c.tc : Thread Cert.MergeSReferenceIdeal.nD Cert.MergeSReferenceIdeal.τ).loc Cert.MergeSReferenceIdeal.main_arg10) = m ((c.tc : Thread Cert.MergeSReferenceIdeal.nD Cert.MergeSReferenceIdeal.τ).loc Cert.MergeSReferenceIdeal.main_arg10))
      ∧ r.2.sem = fun _ => 0)

def quiescent_Experts [hExperts : Cert.Experts.Facts] [hPre_groups_named : Cert.Pre_groups_named.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_groups_named : Cert.Pre_groups_named.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsIdeal_pre_groups_and_weights [hExpertsIdeal : Cert.ExpertsIdeal.Facts] [hPre_groups_and_weights : Cert.Pre_groups_and_weights.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal_groups_and_weights m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_ExpertsReferenceIdeal_pre_groups_and_weights [hExpertsReferenceIdeal : Cert.ExpertsReferenceIdeal.Facts] [hPre_groups_and_weights : Cert.Pre_groups_and_weights.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_groups_and_weights m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_Combine [hCombine : Cert.Combine.Facts] [hPre_in_rows : Cert.Pre_in_rows.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4))
      ∧ r.2.sem = fun _ => 0)

def quiescent_CombineIdeal [hCombineIdeal : Cert.CombineIdeal.Facts] [hPre_in_rows : Cert.Pre_in_rows.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3)
      ∧ r.2.mem ((c.tc : Thread Cert.CombineReferenceIdeal.nD Cert.CombineReferenceIdeal.τ).loc Cert.CombineReferenceIdeal.main_arg4) = m ((c.tc : Thread Cert.CombineReferenceIdeal.nD Cert.CombineReferenceIdeal.τ).loc Cert.CombineReferenceIdeal.main_arg4))
      ∧ r.2.sem = fun _ => 0)

def quiescent_CombineReferenceIdeal_pre_in_rows [hCombineReferenceIdeal : Cert.CombineReferenceIdeal.Facts] [hPre_in_rows : Cert.Pre_in_rows.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal_in_rows m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3)
      ∧ r.2.mem ((c.tc : Thread Cert.CombineReferenceIdeal.nD Cert.CombineReferenceIdeal.τ).loc Cert.CombineReferenceIdeal.main_arg4) = m ((c.tc : Thread Cert.CombineReferenceIdeal.nD Cert.CombineReferenceIdeal.τ).loc Cert.CombineReferenceIdeal.main_arg4))
      ∧ r.2.sem = fun _ => 0)

def quiescent_ExpertsS [hExpertsS : Cert.ExpertsS.Facts] [hPre_sample_groups_named : Cert.Pre_sample_groups_named.Facts] : Prop :=
  ∀ (m : (ℓ : Loc Cert.ExpertsS.nD Cert.ExpertsS.τ Cert.ExpertsS.sig) → Buf (Elt Bits) ℓ) (g : Dev Cert.ExpertsS.nD → PrngReg), Pre_ExpertsS m →
    θ_run (Cert.ExpertsS.defs (F := Bits)) (onTc (τ := Cert.ExpertsS.τ) (Cert.ExpertsS.main (F := Bits))) ⟨m, fun _ => 0, g⟩ (fun r => (∀ c : Dev Cert.ExpertsS.nD,
      r.2.mem ((c.tc : Thread Cert.ExpertsS.nD Cert.ExpertsS.τ).loc Cert.ExpertsS.main_arg0) = m ((c.tc : Thread Cert.ExpertsS.nD Cert.ExpertsS.τ).loc Cert.ExpertsS.main_arg0)
      ∧ r.2.mem ((c.tc : Thread Cert.ExpertsS.nD Cert.ExpertsS.τ).loc Cert.ExpertsS.main_arg1) = m ((c.tc : Thread Cert.ExpertsS.nD Cert.ExpertsS.τ).loc Cert.ExpertsS.main_arg1)
      ∧ r.2.mem ((c.tc : Thread Cert.ExpertsS.nD Cert.ExpertsS.τ).loc Cert.ExpertsS.main_arg2) = m ((c.tc : Thread Cert.ExpertsS.nD Cert.ExpertsS.τ).loc Cert.ExpertsS.main_arg2)
      ∧ r.2.mem ((c.tc : Thread Cert.ExpertsS.nD Cert.ExpertsS.τ).loc Cert.ExpertsS.main_arg3) = m ((c.tc : Thread Cert.ExpertsS.nD Cert.ExpertsS.τ).loc Cert.ExpertsS.main_arg3)
      ∧ r.2.mem ((c.tc : Thread Cert.ExpertsS.nD Cert.ExpertsS.τ).loc Cert.ExpertsS.main_arg4) = m ((c.tc : Thread Cert.ExpertsS.nD Cert.ExpertsS.τ).loc Cert.ExpertsS.main_arg4)
      ∧ r.2.mem ((c.tc : Thread Cert.ExpertsS.nD Cert.ExpertsS.τ).loc Cert.ExpertsS.main_arg5) = m ((c.tc : Thread Cert.ExpertsS.nD Cert.ExpertsS.τ).loc Cert.ExpertsS.main_arg5))
      ∧ r.2.sem = fun _ => 0)

def quiescent_ExpertsSIdeal [hExpertsSIdeal : Cert.ExpertsSIdeal.Facts] [hPre_sample_groups_named : Cert.Pre_sample_groups_named.Facts] : Prop :=
  ∀ (m : (ℓ : Loc Cert.ExpertsSIdeal.nD Cert.ExpertsSIdeal.τ Cert.ExpertsSIdeal.sig) → Buf (Elt Ideal) ℓ) (g : Dev Cert.ExpertsSIdeal.nD → PrngReg), Pre_ExpertsSIdeal m →
    θ_run (Cert.ExpertsSIdeal.defs (F := Ideal)) (onTc (τ := Cert.ExpertsSIdeal.τ) (Cert.ExpertsSIdeal.main (F := Ideal))) ⟨m, fun _ => 0, g⟩ (fun r => (∀ c : Dev Cert.ExpertsSIdeal.nD,
      r.2.mem ((c.tc : Thread Cert.ExpertsSIdeal.nD Cert.ExpertsSIdeal.τ).loc Cert.ExpertsSIdeal.main_arg0) = m ((c.tc : Thread Cert.ExpertsSIdeal.nD Cert.ExpertsSIdeal.τ).loc Cert.ExpertsSIdeal.main_arg0)
      ∧ r.2.mem ((c.tc : Thread Cert.ExpertsSIdeal.nD Cert.ExpertsSIdeal.τ).loc Cert.ExpertsSIdeal.main_arg1) = m ((c.tc : Thread Cert.ExpertsSIdeal.nD Cert.ExpertsSIdeal.τ).loc Cert.ExpertsSIdeal.main_arg1)
      ∧ r.2.mem ((c.tc : Thread Cert.ExpertsSIdeal.nD Cert.ExpertsSIdeal.τ).loc Cert.ExpertsSIdeal.main_arg2) = m ((c.tc : Thread Cert.ExpertsSIdeal.nD Cert.ExpertsSIdeal.τ).loc Cert.ExpertsSIdeal.main_arg2)
      ∧ r.2.mem ((c.tc : Thread Cert.ExpertsSIdeal.nD Cert.ExpertsSIdeal.τ).loc Cert.ExpertsSIdeal.main_arg3) = m ((c.tc : Thread Cert.ExpertsSIdeal.nD Cert.ExpertsSIdeal.τ).loc Cert.ExpertsSIdeal.main_arg3)
      ∧ r.2.mem ((c.tc : Thread Cert.ExpertsSIdeal.nD Cert.ExpertsSIdeal.τ).loc Cert.ExpertsSIdeal.main_arg4) = m ((c.tc : Thread Cert.ExpertsSIdeal.nD Cert.ExpertsSIdeal.τ).loc Cert.ExpertsSIdeal.main_arg4)
      ∧ r.2.mem ((c.tc : Thread Cert.ExpertsSIdeal.nD Cert.ExpertsSIdeal.τ).loc Cert.ExpertsSIdeal.main_arg5) = m ((c.tc : Thread Cert.ExpertsSIdeal.nD Cert.ExpertsSIdeal.τ).loc Cert.ExpertsSIdeal.main_arg5))
      ∧ r.2.sem = fun _ => 0)

def quiescent_ExpertsSIdeal_pre_sample_groups_and_weights [hExpertsSIdeal : Cert.ExpertsSIdeal.Facts] [hPre_sample_groups_and_weights : Cert.Pre_sample_groups_and_weights.Facts] : Prop :=
  ∀ (m : (ℓ : Loc Cert.ExpertsSIdeal.nD Cert.ExpertsSIdeal.τ Cert.ExpertsSIdeal.sig) → Buf (Elt Ideal) ℓ) (g : Dev Cert.ExpertsSIdeal.nD → PrngReg), Pre_ExpertsSIdeal_sample_groups_and_weights m →
    θ_run (Cert.ExpertsSIdeal.defs (F := Ideal)) (onTc (τ := Cert.ExpertsSIdeal.τ) (Cert.ExpertsSIdeal.main (F := Ideal))) ⟨m, fun _ => 0, g⟩ (fun r => (∀ c : Dev Cert.ExpertsSIdeal.nD,
      r.2.mem ((c.tc : Thread Cert.ExpertsSIdeal.nD Cert.ExpertsSIdeal.τ).loc Cert.ExpertsSIdeal.main_arg0) = m ((c.tc : Thread Cert.ExpertsSIdeal.nD Cert.ExpertsSIdeal.τ).loc Cert.ExpertsSIdeal.main_arg0)
      ∧ r.2.mem ((c.tc : Thread Cert.ExpertsSIdeal.nD Cert.ExpertsSIdeal.τ).loc Cert.ExpertsSIdeal.main_arg1) = m ((c.tc : Thread Cert.ExpertsSIdeal.nD Cert.ExpertsSIdeal.τ).loc Cert.ExpertsSIdeal.main_arg1)
      ∧ r.2.mem ((c.tc : Thread Cert.ExpertsSIdeal.nD Cert.ExpertsSIdeal.τ).loc Cert.ExpertsSIdeal.main_arg2) = m ((c.tc : Thread Cert.ExpertsSIdeal.nD Cert.ExpertsSIdeal.τ).loc Cert.ExpertsSIdeal.main_arg2)
      ∧ r.2.mem ((c.tc : Thread Cert.ExpertsSIdeal.nD Cert.ExpertsSIdeal.τ).loc Cert.ExpertsSIdeal.main_arg3) = m ((c.tc : Thread Cert.ExpertsSIdeal.nD Cert.ExpertsSIdeal.τ).loc Cert.ExpertsSIdeal.main_arg3)
      ∧ r.2.mem ((c.tc : Thread Cert.ExpertsSIdeal.nD Cert.ExpertsSIdeal.τ).loc Cert.ExpertsSIdeal.main_arg4) = m ((c.tc : Thread Cert.ExpertsSIdeal.nD Cert.ExpertsSIdeal.τ).loc Cert.ExpertsSIdeal.main_arg4)
      ∧ r.2.mem ((c.tc : Thread Cert.ExpertsSIdeal.nD Cert.ExpertsSIdeal.τ).loc Cert.ExpertsSIdeal.main_arg5) = m ((c.tc : Thread Cert.ExpertsSIdeal.nD Cert.ExpertsSIdeal.τ).loc Cert.ExpertsSIdeal.main_arg5))
      ∧ r.2.sem = fun _ => 0)

def quiescent_ExpertsSReferenceIdeal [hExpertsSReferenceIdeal : Cert.ExpertsSReferenceIdeal.Facts] : Prop :=
  ∀ (m : (ℓ : Loc Cert.ExpertsSReferenceIdeal.nD Cert.ExpertsSReferenceIdeal.τ Cert.ExpertsSReferenceIdeal.sig) → Buf (Elt Ideal) ℓ) (g : Dev Cert.ExpertsSReferenceIdeal.nD → PrngReg), Pre_ExpertsSReferenceIdeal m →
    θ_run (Cert.ExpertsSReferenceIdeal.defs (F := Ideal)) (onTc (τ := Cert.ExpertsSReferenceIdeal.τ) (Cert.ExpertsSReferenceIdeal.main (F := Ideal))) ⟨m, fun _ => 0, g⟩ (fun r => (∀ c : Dev Cert.ExpertsSReferenceIdeal.nD,
      r.2.mem ((c.tc : Thread Cert.ExpertsSReferenceIdeal.nD Cert.ExpertsSReferenceIdeal.τ).loc Cert.ExpertsSReferenceIdeal.main_arg0) = m ((c.tc : Thread Cert.ExpertsSReferenceIdeal.nD Cert.ExpertsSReferenceIdeal.τ).loc Cert.ExpertsSReferenceIdeal.main_arg0)
      ∧ r.2.mem ((c.tc : Thread Cert.ExpertsSReferenceIdeal.nD Cert.ExpertsSReferenceIdeal.τ).loc Cert.ExpertsSReferenceIdeal.main_arg1) = m ((c.tc : Thread Cert.ExpertsSReferenceIdeal.nD Cert.ExpertsSReferenceIdeal.τ).loc Cert.ExpertsSReferenceIdeal.main_arg1)
      ∧ r.2.mem ((c.tc : Thread Cert.ExpertsSReferenceIdeal.nD Cert.ExpertsSReferenceIdeal.τ).loc Cert.ExpertsSReferenceIdeal.main_arg2) = m ((c.tc : Thread Cert.ExpertsSReferenceIdeal.nD Cert.ExpertsSReferenceIdeal.τ).loc Cert.ExpertsSReferenceIdeal.main_arg2)
      ∧ r.2.mem ((c.tc : Thread Cert.ExpertsSReferenceIdeal.nD Cert.ExpertsSReferenceIdeal.τ).loc Cert.ExpertsSReferenceIdeal.main_arg3) = m ((c.tc : Thread Cert.ExpertsSReferenceIdeal.nD Cert.ExpertsSReferenceIdeal.τ).loc Cert.ExpertsSReferenceIdeal.main_arg3)
      ∧ r.2.mem ((c.tc : Thread Cert.ExpertsSReferenceIdeal.nD Cert.ExpertsSReferenceIdeal.τ).loc Cert.ExpertsSReferenceIdeal.main_arg4) = m ((c.tc : Thread Cert.ExpertsSReferenceIdeal.nD Cert.ExpertsSReferenceIdeal.τ).loc Cert.ExpertsSReferenceIdeal.main_arg4)
      ∧ r.2.mem ((c.tc : Thread Cert.ExpertsSReferenceIdeal.nD Cert.ExpertsSReferenceIdeal.τ).loc Cert.ExpertsSReferenceIdeal.main_arg5) = m ((c.tc : Thread Cert.ExpertsSReferenceIdeal.nD Cert.ExpertsSReferenceIdeal.τ).loc Cert.ExpertsSReferenceIdeal.main_arg5))
      ∧ r.2.sem = fun _ => 0)

def quiescent_ExpertsSReferenceIdeal_pre_sample_groups_and_weights [hExpertsSReferenceIdeal : Cert.ExpertsSReferenceIdeal.Facts] [hPre_sample_groups_and_weights : Cert.Pre_sample_groups_and_weights.Facts] : Prop :=
  ∀ (m : (ℓ : Loc Cert.ExpertsSReferenceIdeal.nD Cert.ExpertsSReferenceIdeal.τ Cert.ExpertsSReferenceIdeal.sig) → Buf (Elt Ideal) ℓ) (g : Dev Cert.ExpertsSReferenceIdeal.nD → PrngReg), Pre_ExpertsSReferenceIdeal_sample_groups_and_weights m →
    θ_run (Cert.ExpertsSReferenceIdeal.defs (F := Ideal)) (onTc (τ := Cert.ExpertsSReferenceIdeal.τ) (Cert.ExpertsSReferenceIdeal.main (F := Ideal))) ⟨m, fun _ => 0, g⟩ (fun r => (∀ c : Dev Cert.ExpertsSReferenceIdeal.nD,
      r.2.mem ((c.tc : Thread Cert.ExpertsSReferenceIdeal.nD Cert.ExpertsSReferenceIdeal.τ).loc Cert.ExpertsSReferenceIdeal.main_arg0) = m ((c.tc : Thread Cert.ExpertsSReferenceIdeal.nD Cert.ExpertsSReferenceIdeal.τ).loc Cert.ExpertsSReferenceIdeal.main_arg0)
      ∧ r.2.mem ((c.tc : Thread Cert.ExpertsSReferenceIdeal.nD Cert.ExpertsSReferenceIdeal.τ).loc Cert.ExpertsSReferenceIdeal.main_arg1) = m ((c.tc : Thread Cert.ExpertsSReferenceIdeal.nD Cert.ExpertsSReferenceIdeal.τ).loc Cert.ExpertsSReferenceIdeal.main_arg1)
      ∧ r.2.mem ((c.tc : Thread Cert.ExpertsSReferenceIdeal.nD Cert.ExpertsSReferenceIdeal.τ).loc Cert.ExpertsSReferenceIdeal.main_arg2) = m ((c.tc : Thread Cert.ExpertsSReferenceIdeal.nD Cert.ExpertsSReferenceIdeal.τ).loc Cert.ExpertsSReferenceIdeal.main_arg2)
      ∧ r.2.mem ((c.tc : Thread Cert.ExpertsSReferenceIdeal.nD Cert.ExpertsSReferenceIdeal.τ).loc Cert.ExpertsSReferenceIdeal.main_arg3) = m ((c.tc : Thread Cert.ExpertsSReferenceIdeal.nD Cert.ExpertsSReferenceIdeal.τ).loc Cert.ExpertsSReferenceIdeal.main_arg3)
      ∧ r.2.mem ((c.tc : Thread Cert.ExpertsSReferenceIdeal.nD Cert.ExpertsSReferenceIdeal.τ).loc Cert.ExpertsSReferenceIdeal.main_arg4) = m ((c.tc : Thread Cert.ExpertsSReferenceIdeal.nD Cert.ExpertsSReferenceIdeal.τ).loc Cert.ExpertsSReferenceIdeal.main_arg4)
      ∧ r.2.mem ((c.tc : Thread Cert.ExpertsSReferenceIdeal.nD Cert.ExpertsSReferenceIdeal.τ).loc Cert.ExpertsSReferenceIdeal.main_arg5) = m ((c.tc : Thread Cert.ExpertsSReferenceIdeal.nD Cert.ExpertsSReferenceIdeal.τ).loc Cert.ExpertsSReferenceIdeal.main_arg5))
      ∧ r.2.sem = fun _ => 0)

def quiescent_CombineS [hCombineS : Cert.CombineS.Facts] [hPre_sample_in_rows : Cert.Pre_sample_in_rows.Facts] : Prop :=
  ∀ (m : (ℓ : Loc Cert.CombineS.nD Cert.CombineS.τ Cert.CombineS.sig) → Buf (Elt Bits) ℓ) (g : Dev Cert.CombineS.nD → PrngReg), Pre_CombineS m →
    θ_run (Cert.CombineS.defs (F := Bits)) (onTc (τ := Cert.CombineS.τ) (Cert.CombineS.main (F := Bits))) ⟨m, fun _ => 0, g⟩ (fun r => (∀ c : Dev Cert.CombineS.nD,
      r.2.mem ((c.tc : Thread Cert.CombineS.nD Cert.CombineS.τ).loc Cert.CombineS.main_arg0) = m ((c.tc : Thread Cert.CombineS.nD Cert.CombineS.τ).loc Cert.CombineS.main_arg0)
      ∧ r.2.mem ((c.tc : Thread Cert.CombineS.nD Cert.CombineS.τ).loc Cert.CombineS.main_arg1) = m ((c.tc : Thread Cert.CombineS.nD Cert.CombineS.τ).loc Cert.CombineS.main_arg1)
      ∧ r.2.mem ((c.tc : Thread Cert.CombineS.nD Cert.CombineS.τ).loc Cert.CombineS.main_arg2) = m ((c.tc : Thread Cert.CombineS.nD Cert.CombineS.τ).loc Cert.CombineS.main_arg2)
      ∧ r.2.mem ((c.tc : Thread Cert.CombineS.nD Cert.CombineS.τ).loc Cert.CombineS.main_arg3) = m ((c.tc : Thread Cert.CombineS.nD Cert.CombineS.τ).loc Cert.CombineS.main_arg3)
      ∧ r.2.mem ((c.tc : Thread Cert.CombineS.nD Cert.CombineS.τ).loc Cert.CombineS.main_arg4) = m ((c.tc : Thread Cert.CombineS.nD Cert.CombineS.τ).loc Cert.CombineS.main_arg4))
      ∧ r.2.sem = fun _ => 0)

def quiescent_CombineSIdeal [hCombineSIdeal : Cert.CombineSIdeal.Facts] [hPre_sample_in_rows : Cert.Pre_sample_in_rows.Facts] : Prop :=
  ∀ (m : (ℓ : Loc Cert.CombineSIdeal.nD Cert.CombineSIdeal.τ Cert.CombineSIdeal.sig) → Buf (Elt Ideal) ℓ) (g : Dev Cert.CombineSIdeal.nD → PrngReg), Pre_CombineSIdeal m →
    θ_run (Cert.CombineSIdeal.defs (F := Ideal)) (onTc (τ := Cert.CombineSIdeal.τ) (Cert.CombineSIdeal.main (F := Ideal))) ⟨m, fun _ => 0, g⟩ (fun r => (∀ c : Dev Cert.CombineSIdeal.nD,
      r.2.mem ((c.tc : Thread Cert.CombineSIdeal.nD Cert.CombineSIdeal.τ).loc Cert.CombineSIdeal.main_arg0) = m ((c.tc : Thread Cert.CombineSIdeal.nD Cert.CombineSIdeal.τ).loc Cert.CombineSIdeal.main_arg0)
      ∧ r.2.mem ((c.tc : Thread Cert.CombineSIdeal.nD Cert.CombineSIdeal.τ).loc Cert.CombineSIdeal.main_arg1) = m ((c.tc : Thread Cert.CombineSIdeal.nD Cert.CombineSIdeal.τ).loc Cert.CombineSIdeal.main_arg1)
      ∧ r.2.mem ((c.tc : Thread Cert.CombineSIdeal.nD Cert.CombineSIdeal.τ).loc Cert.CombineSIdeal.main_arg2) = m ((c.tc : Thread Cert.CombineSIdeal.nD Cert.CombineSIdeal.τ).loc Cert.CombineSIdeal.main_arg2)
      ∧ r.2.mem ((c.tc : Thread Cert.CombineSIdeal.nD Cert.CombineSIdeal.τ).loc Cert.CombineSIdeal.main_arg3) = m ((c.tc : Thread Cert.CombineSIdeal.nD Cert.CombineSIdeal.τ).loc Cert.CombineSIdeal.main_arg3)
      ∧ r.2.mem ((c.tc : Thread Cert.CombineSIdeal.nD Cert.CombineSIdeal.τ).loc Cert.CombineSIdeal.main_arg4) = m ((c.tc : Thread Cert.CombineSIdeal.nD Cert.CombineSIdeal.τ).loc Cert.CombineSIdeal.main_arg4))
      ∧ r.2.sem = fun _ => 0)

def quiescent_CombineSReferenceIdeal [hCombineSReferenceIdeal : Cert.CombineSReferenceIdeal.Facts] : Prop :=
  ∀ (m : (ℓ : Loc Cert.CombineSReferenceIdeal.nD Cert.CombineSReferenceIdeal.τ Cert.CombineSReferenceIdeal.sig) → Buf (Elt Ideal) ℓ) (g : Dev Cert.CombineSReferenceIdeal.nD → PrngReg), Pre_CombineSReferenceIdeal m →
    θ_run (Cert.CombineSReferenceIdeal.defs (F := Ideal)) (onTc (τ := Cert.CombineSReferenceIdeal.τ) (Cert.CombineSReferenceIdeal.main (F := Ideal))) ⟨m, fun _ => 0, g⟩ (fun r => (∀ c : Dev Cert.CombineSReferenceIdeal.nD,
      r.2.mem ((c.tc : Thread Cert.CombineSReferenceIdeal.nD Cert.CombineSReferenceIdeal.τ).loc Cert.CombineSReferenceIdeal.main_arg0) = m ((c.tc : Thread Cert.CombineSReferenceIdeal.nD Cert.CombineSReferenceIdeal.τ).loc Cert.CombineSReferenceIdeal.main_arg0)
      ∧ r.2.mem ((c.tc : Thread Cert.CombineSReferenceIdeal.nD Cert.CombineSReferenceIdeal.τ).loc Cert.CombineSReferenceIdeal.main_arg1) = m ((c.tc : Thread Cert.CombineSReferenceIdeal.nD Cert.CombineSReferenceIdeal.τ).loc Cert.CombineSReferenceIdeal.main_arg1)
      ∧ r.2.mem ((c.tc : Thread Cert.CombineSReferenceIdeal.nD Cert.CombineSReferenceIdeal.τ).loc Cert.CombineSReferenceIdeal.main_arg2) = m ((c.tc : Thread Cert.CombineSReferenceIdeal.nD Cert.CombineSReferenceIdeal.τ).loc Cert.CombineSReferenceIdeal.main_arg2)
      ∧ r.2.mem ((c.tc : Thread Cert.CombineSReferenceIdeal.nD Cert.CombineSReferenceIdeal.τ).loc Cert.CombineSReferenceIdeal.main_arg3) = m ((c.tc : Thread Cert.CombineSReferenceIdeal.nD Cert.CombineSReferenceIdeal.τ).loc Cert.CombineSReferenceIdeal.main_arg3)
      ∧ r.2.mem ((c.tc : Thread Cert.CombineSReferenceIdeal.nD Cert.CombineSReferenceIdeal.τ).loc Cert.CombineSReferenceIdeal.main_arg4) = m ((c.tc : Thread Cert.CombineSReferenceIdeal.nD Cert.CombineSReferenceIdeal.τ).loc Cert.CombineSReferenceIdeal.main_arg4))
      ∧ r.2.sem = fun _ => 0)

def quiescent_CombineSReferenceIdeal_pre_sample_in_rows [hCombineSReferenceIdeal : Cert.CombineSReferenceIdeal.Facts] [hPre_sample_in_rows : Cert.Pre_sample_in_rows.Facts] : Prop :=
  ∀ (m : (ℓ : Loc Cert.CombineSReferenceIdeal.nD Cert.CombineSReferenceIdeal.τ Cert.CombineSReferenceIdeal.sig) → Buf (Elt Ideal) ℓ) (g : Dev Cert.CombineSReferenceIdeal.nD → PrngReg), Pre_CombineSReferenceIdeal_sample_in_rows m →
    θ_run (Cert.CombineSReferenceIdeal.defs (F := Ideal)) (onTc (τ := Cert.CombineSReferenceIdeal.τ) (Cert.CombineSReferenceIdeal.main (F := Ideal))) ⟨m, fun _ => 0, g⟩ (fun r => (∀ c : Dev Cert.CombineSReferenceIdeal.nD,
      r.2.mem ((c.tc : Thread Cert.CombineSReferenceIdeal.nD Cert.CombineSReferenceIdeal.τ).loc Cert.CombineSReferenceIdeal.main_arg0) = m ((c.tc : Thread Cert.CombineSReferenceIdeal.nD Cert.CombineSReferenceIdeal.τ).loc Cert.CombineSReferenceIdeal.main_arg0)
      ∧ r.2.mem ((c.tc : Thread Cert.CombineSReferenceIdeal.nD Cert.CombineSReferenceIdeal.τ).loc Cert.CombineSReferenceIdeal.main_arg1) = m ((c.tc : Thread Cert.CombineSReferenceIdeal.nD Cert.CombineSReferenceIdeal.τ).loc Cert.CombineSReferenceIdeal.main_arg1)
      ∧ r.2.mem ((c.tc : Thread Cert.CombineSReferenceIdeal.nD Cert.CombineSReferenceIdeal.τ).loc Cert.CombineSReferenceIdeal.main_arg2) = m ((c.tc : Thread Cert.CombineSReferenceIdeal.nD Cert.CombineSReferenceIdeal.τ).loc Cert.CombineSReferenceIdeal.main_arg2)
      ∧ r.2.mem ((c.tc : Thread Cert.CombineSReferenceIdeal.nD Cert.CombineSReferenceIdeal.τ).loc Cert.CombineSReferenceIdeal.main_arg3) = m ((c.tc : Thread Cert.CombineSReferenceIdeal.nD Cert.CombineSReferenceIdeal.τ).loc Cert.CombineSReferenceIdeal.main_arg3)
      ∧ r.2.mem ((c.tc : Thread Cert.CombineSReferenceIdeal.nD Cert.CombineSReferenceIdeal.τ).loc Cert.CombineSReferenceIdeal.main_arg4) = m ((c.tc : Thread Cert.CombineSReferenceIdeal.nD Cert.CombineSReferenceIdeal.τ).loc Cert.CombineSReferenceIdeal.main_arg4))
      ∧ r.2.sem = fun _ => 0)

def preserves_Gmlp_GmlpIdeal : Prop :=
  True

def algebraic_GmlpIdeal_GmlpReferenceIdeal [hGmlpIdeal : Cert.GmlpIdeal.Facts] [hGmlpReferenceIdeal : Cert.GmlpReferenceIdeal.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpReferenceIdeal.nD Cert.GmlpReferenceIdeal.τ Cert.GmlpReferenceIdeal.sig) → Buf (Elt Ideal) ℓ) (g' : Dev Cert.GmlpReferenceIdeal.nD → PrngReg), Pre_GmlpIdeal m →
    (∀ c : Dev Cert.GmlpIdeal.nD,
      m' ((c.tc : Thread Cert.GmlpReferenceIdeal.nD Cert.GmlpReferenceIdeal.τ).loc Cert.GmlpReferenceIdeal.main_arg0) = m ((c.tc : Thread Cert.GmlpIdeal.nD Cert.GmlpIdeal.τ).loc Cert.GmlpIdeal.main_arg0)
      ∧ m' ((c.tc : Thread Cert.GmlpReferenceIdeal.nD Cert.GmlpReferenceIdeal.τ).loc Cert.GmlpReferenceIdeal.main_arg1) = m ((c.tc : Thread Cert.GmlpIdeal.nD Cert.GmlpIdeal.τ).loc Cert.GmlpIdeal.main_arg1)
      ∧ m' ((c.tc : Thread Cert.GmlpReferenceIdeal.nD Cert.GmlpReferenceIdeal.τ).loc Cert.GmlpReferenceIdeal.main_arg2) = m ((c.tc : Thread Cert.GmlpIdeal.nD Cert.GmlpIdeal.τ).loc Cert.GmlpIdeal.main_arg2)
      ∧ m' ((c.tc : Thread Cert.GmlpReferenceIdeal.nD Cert.GmlpReferenceIdeal.τ).loc Cert.GmlpReferenceIdeal.main_arg3) = m ((c.tc : Thread Cert.GmlpIdeal.nD Cert.GmlpIdeal.τ).loc Cert.GmlpIdeal.main_arg3)
      ∧ m' ((c.tc : Thread Cert.GmlpReferenceIdeal.nD Cert.GmlpReferenceIdeal.τ).loc Cert.GmlpReferenceIdeal.main_arg4) = m ((c.tc : Thread Cert.GmlpIdeal.nD Cert.GmlpIdeal.τ).loc Cert.GmlpIdeal.main_arg4)
      ∧ m' ((c.tc : Thread Cert.GmlpReferenceIdeal.nD Cert.GmlpReferenceIdeal.τ).loc Cert.GmlpReferenceIdeal.main_arg5) = m ((c.tc : Thread Cert.GmlpIdeal.nD Cert.GmlpIdeal.τ).loc Cert.GmlpIdeal.main_arg5)
      ∧ m' ((c.tc : Thread Cert.GmlpReferenceIdeal.nD Cert.GmlpReferenceIdeal.τ).loc Cert.GmlpReferenceIdeal.main_arg6) = m ((c.tc : Thread Cert.GmlpIdeal.nD Cert.GmlpIdeal.τ).loc Cert.GmlpIdeal.main_arg6)) →
    ∃ (v0 : (c : Dev Cert.GmlpIdeal.nD) → Buf (Elt Ideal) ((c.tc : Thread Cert.GmlpIdeal.nD Cert.GmlpIdeal.τ).loc Cert.GmlpIdeal.main_v10)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          r.2.mem ((c.tc : Thread Cert.GmlpIdeal.nD Cert.GmlpIdeal.τ).loc Cert.GmlpIdeal.main_v10) = v0 c
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
          ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
          ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5)
          ∧ r.2.mem ((c.tc : Thread Cert.GmlpIdeal.nD Cert.GmlpIdeal.τ).loc Cert.GmlpIdeal.main_arg6) = m ((c.tc : Thread Cert.GmlpIdeal.nD Cert.GmlpIdeal.τ).loc Cert.GmlpIdeal.main_arg6))
      ∧ θ_run (Cert.GmlpReferenceIdeal.defs (F := Ideal)) (onTc (τ := Cert.GmlpReferenceIdeal.τ) (Cert.GmlpReferenceIdeal.main (F := Ideal))) ⟨m', fun _ => 0, g'⟩ (fun r => ∀ c : Dev Cert.GmlpReferenceIdeal.nD,
          r.2.mem ((c.tc : Thread Cert.GmlpReferenceIdeal.nD Cert.GmlpReferenceIdeal.τ).loc Cert.GmlpReferenceIdeal.main_v86) = v0 c
          ∧ r.2.mem ((c.tc : Thread Cert.GmlpReferenceIdeal.nD Cert.GmlpReferenceIdeal.τ).loc Cert.GmlpReferenceIdeal.main_arg0) = m' ((c.tc : Thread Cert.GmlpReferenceIdeal.nD Cert.GmlpReferenceIdeal.τ).loc Cert.GmlpReferenceIdeal.main_arg0)
          ∧ r.2.mem ((c.tc : Thread Cert.GmlpReferenceIdeal.nD Cert.GmlpReferenceIdeal.τ).loc Cert.GmlpReferenceIdeal.main_arg1) = m' ((c.tc : Thread Cert.GmlpReferenceIdeal.nD Cert.GmlpReferenceIdeal.τ).loc Cert.GmlpReferenceIdeal.main_arg1)
          ∧ r.2.mem ((c.tc : Thread Cert.GmlpReferenceIdeal.nD Cert.GmlpReferenceIdeal.τ).loc Cert.GmlpReferenceIdeal.main_arg2) = m' ((c.tc : Thread Cert.GmlpReferenceIdeal.nD Cert.GmlpReferenceIdeal.τ).loc Cert.GmlpReferenceIdeal.main_arg2)
          ∧ r.2.mem ((c.tc : Thread Cert.GmlpReferenceIdeal.nD Cert.GmlpReferenceIdeal.τ).loc Cert.GmlpReferenceIdeal.main_arg3) = m' ((c.tc : Thread Cert.GmlpReferenceIdeal.nD Cert.GmlpReferenceIdeal.τ).loc Cert.GmlpReferenceIdeal.main_arg3)
          ∧ r.2.mem ((c.tc : Thread Cert.GmlpReferenceIdeal.nD Cert.GmlpReferenceIdeal.τ).loc Cert.GmlpReferenceIdeal.main_arg4) = m' ((c.tc : Thread Cert.GmlpReferenceIdeal.nD Cert.GmlpReferenceIdeal.τ).loc Cert.GmlpReferenceIdeal.main_arg4)
          ∧ r.2.mem ((c.tc : Thread Cert.GmlpReferenceIdeal.nD Cert.GmlpReferenceIdeal.τ).loc Cert.GmlpReferenceIdeal.main_arg5) = m' ((c.tc : Thread Cert.GmlpReferenceIdeal.nD Cert.GmlpReferenceIdeal.τ).loc Cert.GmlpReferenceIdeal.main_arg5)
          ∧ r.2.mem ((c.tc : Thread Cert.GmlpReferenceIdeal.nD Cert.GmlpReferenceIdeal.τ).loc Cert.GmlpReferenceIdeal.main_arg6) = m' ((c.tc : Thread Cert.GmlpReferenceIdeal.nD Cert.GmlpReferenceIdeal.τ).loc Cert.GmlpReferenceIdeal.main_arg6))

def preserves_AttnIn_AttnInIdeal : Prop :=
  True

def algebraic_AttnInIdeal_AttnInReferenceIdeal [hAttnInIdeal : Cert.AttnInIdeal.Facts] [hAttnInReferenceIdeal : Cert.AttnInReferenceIdeal.Facts] : Prop :=
  ∀ (m : (ℓ : Loc Cert.AttnInIdeal.nD Cert.AttnInIdeal.τ Cert.AttnInIdeal.sig) → Buf (Elt Ideal) ℓ) (g : Dev Cert.AttnInIdeal.nD → PrngReg)
    (m' : (ℓ : Loc Cert.AttnInReferenceIdeal.nD Cert.AttnInReferenceIdeal.τ Cert.AttnInReferenceIdeal.sig) → Buf (Elt Ideal) ℓ) (g' : Dev Cert.AttnInReferenceIdeal.nD → PrngReg), Pre_AttnInIdeal m →
    (∀ c : Dev Cert.AttnInIdeal.nD,
      m' ((c.tc : Thread Cert.AttnInReferenceIdeal.nD Cert.AttnInReferenceIdeal.τ).loc Cert.AttnInReferenceIdeal.main_arg0) = m ((c.tc : Thread Cert.AttnInIdeal.nD Cert.AttnInIdeal.τ).loc Cert.AttnInIdeal.main_arg0)
      ∧ m' ((c.tc : Thread Cert.AttnInReferenceIdeal.nD Cert.AttnInReferenceIdeal.τ).loc Cert.AttnInReferenceIdeal.main_arg1) = m ((c.tc : Thread Cert.AttnInIdeal.nD Cert.AttnInIdeal.τ).loc Cert.AttnInIdeal.main_arg1)) →
    ∃ (v0 : (c : Dev Cert.AttnInIdeal.nD) → Buf (Elt Ideal) ((c.tc : Thread Cert.AttnInIdeal.nD Cert.AttnInIdeal.τ).loc Cert.AttnInIdeal.main_v15_0)) (v1 : (c : Dev Cert.AttnInIdeal.nD) → Buf (Elt Ideal) ((c.tc : Thread Cert.AttnInIdeal.nD Cert.AttnInIdeal.τ).loc Cert.AttnInIdeal.main_v15_1)) (v2 : (c : Dev Cert.AttnInIdeal.nD) → Buf (Elt Ideal) ((c.tc : Thread Cert.AttnInIdeal.nD Cert.AttnInIdeal.τ).loc Cert.AttnInIdeal.main_v15_2)) (v3 : (c : Dev Cert.AttnInIdeal.nD) → Buf (Elt Ideal) ((c.tc : Thread Cert.AttnInIdeal.nD Cert.AttnInIdeal.τ).loc Cert.AttnInIdeal.main_v15_3)) (v4 : (c : Dev Cert.AttnInIdeal.nD) → Buf (Elt Ideal) ((c.tc : Thread Cert.AttnInIdeal.nD Cert.AttnInIdeal.τ).loc Cert.AttnInIdeal.main_v15_4)) (v5 : (c : Dev Cert.AttnInIdeal.nD) → Buf (Elt Ideal) ((c.tc : Thread Cert.AttnInIdeal.nD Cert.AttnInIdeal.τ).loc Cert.AttnInIdeal.main_v15_5)),
      θ_run (Cert.AttnInIdeal.defs (F := Ideal)) (onTc (τ := Cert.AttnInIdeal.τ) (Cert.AttnInIdeal.main (F := Ideal))) ⟨m, fun _ => 0, g⟩ (fun r => ∀ c : Dev Cert.AttnInIdeal.nD,
          r.2.mem ((c.tc : Thread Cert.AttnInIdeal.nD Cert.AttnInIdeal.τ).loc Cert.AttnInIdeal.main_v15_0) = v0 c
          ∧ r.2.mem ((c.tc : Thread Cert.AttnInIdeal.nD Cert.AttnInIdeal.τ).loc Cert.AttnInIdeal.main_v15_1) = v1 c
          ∧ r.2.mem ((c.tc : Thread Cert.AttnInIdeal.nD Cert.AttnInIdeal.τ).loc Cert.AttnInIdeal.main_v15_2) = v2 c
          ∧ r.2.mem ((c.tc : Thread Cert.AttnInIdeal.nD Cert.AttnInIdeal.τ).loc Cert.AttnInIdeal.main_v15_3) = v3 c
          ∧ r.2.mem ((c.tc : Thread Cert.AttnInIdeal.nD Cert.AttnInIdeal.τ).loc Cert.AttnInIdeal.main_v15_4) = v4 c
          ∧ r.2.mem ((c.tc : Thread Cert.AttnInIdeal.nD Cert.AttnInIdeal.τ).loc Cert.AttnInIdeal.main_v15_5) = v5 c
          ∧ r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
          ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1))
      ∧ θ_run (Cert.AttnInReferenceIdeal.defs (F := Ideal)) (onTc (τ := Cert.AttnInReferenceIdeal.τ) (Cert.AttnInReferenceIdeal.main (F := Ideal))) ⟨m', fun _ => 0, g'⟩ (fun r => ∀ c : Dev Cert.AttnInReferenceIdeal.nD,
          r.2.mem ((c.tc : Thread Cert.AttnInReferenceIdeal.nD Cert.AttnInReferenceIdeal.τ).loc Cert.AttnInReferenceIdeal.main_v34) = v0 c
          ∧ r.2.mem ((c.tc : Thread Cert.AttnInReferenceIdeal.nD Cert.AttnInReferenceIdeal.τ).loc Cert.AttnInReferenceIdeal.main_v15) = v1 c
          ∧ r.2.mem ((c.tc : Thread Cert.AttnInReferenceIdeal.nD Cert.AttnInReferenceIdeal.τ).loc Cert.AttnInReferenceIdeal.main_v35) = v2 c
          ∧ r.2.mem ((c.tc : Thread Cert.AttnInReferenceIdeal.nD Cert.AttnInReferenceIdeal.τ).loc Cert.AttnInReferenceIdeal.main_v37) = v3 c
          ∧ r.2.mem ((c.tc : Thread Cert.AttnInReferenceIdeal.nD Cert.AttnInReferenceIdeal.τ).loc Cert.AttnInReferenceIdeal.main_v39) = v4 c
          ∧ r.2.mem ((c.tc : Thread Cert.AttnInReferenceIdeal.nD Cert.AttnInReferenceIdeal.τ).loc Cert.AttnInReferenceIdeal.main_v27) = v5 c
          ∧ r.2.mem ((c.tc : Thread Cert.AttnInReferenceIdeal.nD Cert.AttnInReferenceIdeal.τ).loc Cert.AttnInReferenceIdeal.main_arg0) = m' ((c.tc : Thread Cert.AttnInReferenceIdeal.nD Cert.AttnInReferenceIdeal.τ).loc Cert.AttnInReferenceIdeal.main_arg0)
          ∧ r.2.mem ((c.tc : Thread Cert.AttnInReferenceIdeal.nD Cert.AttnInReferenceIdeal.τ).loc Cert.AttnInReferenceIdeal.main_arg1) = m' ((c.tc : Thread Cert.AttnInReferenceIdeal.nD Cert.AttnInReferenceIdeal.τ).loc Cert.AttnInReferenceIdeal.main_arg1))

def preserves_GmlpS_GmlpSIdeal : Prop :=
  True

def algebraic_GmlpSIdeal_GmlpSReferenceIdeal [hGmlpSIdeal : Cert.GmlpSIdeal.Facts] [hGmlpSReferenceIdeal : Cert.GmlpSReferenceIdeal.Facts] : Prop :=
  ∀ (m : (ℓ : Loc Cert.GmlpSIdeal.nD Cert.GmlpSIdeal.τ Cert.GmlpSIdeal.sig) → Buf (Elt Ideal) ℓ) (g : Dev Cert.GmlpSIdeal.nD → PrngReg)
    (m' : (ℓ : Loc Cert.GmlpSReferenceIdeal.nD Cert.GmlpSReferenceIdeal.τ Cert.GmlpSReferenceIdeal.sig) → Buf (Elt Ideal) ℓ) (g' : Dev Cert.GmlpSReferenceIdeal.nD → PrngReg), Pre_GmlpSIdeal m →
    (∀ c : Dev Cert.GmlpSIdeal.nD,
      m' ((c.tc : Thread Cert.GmlpSReferenceIdeal.nD Cert.GmlpSReferenceIdeal.τ).loc Cert.GmlpSReferenceIdeal.main_arg0) = m ((c.tc : Thread Cert.GmlpSIdeal.nD Cert.GmlpSIdeal.τ).loc Cert.GmlpSIdeal.main_arg0)
      ∧ m' ((c.tc : Thread Cert.GmlpSReferenceIdeal.nD Cert.GmlpSReferenceIdeal.τ).loc Cert.GmlpSReferenceIdeal.main_arg1) = m ((c.tc : Thread Cert.GmlpSIdeal.nD Cert.GmlpSIdeal.τ).loc Cert.GmlpSIdeal.main_arg1)
      ∧ m' ((c.tc : Thread Cert.GmlpSReferenceIdeal.nD Cert.GmlpSReferenceIdeal.τ).loc Cert.GmlpSReferenceIdeal.main_arg2) = m ((c.tc : Thread Cert.GmlpSIdeal.nD Cert.GmlpSIdeal.τ).loc Cert.GmlpSIdeal.main_arg2)
      ∧ m' ((c.tc : Thread Cert.GmlpSReferenceIdeal.nD Cert.GmlpSReferenceIdeal.τ).loc Cert.GmlpSReferenceIdeal.main_arg3) = m ((c.tc : Thread Cert.GmlpSIdeal.nD Cert.GmlpSIdeal.τ).loc Cert.GmlpSIdeal.main_arg3)
      ∧ m' ((c.tc : Thread Cert.GmlpSReferenceIdeal.nD Cert.GmlpSReferenceIdeal.τ).loc Cert.GmlpSReferenceIdeal.main_arg4) = m ((c.tc : Thread Cert.GmlpSIdeal.nD Cert.GmlpSIdeal.τ).loc Cert.GmlpSIdeal.main_arg4)
      ∧ m' ((c.tc : Thread Cert.GmlpSReferenceIdeal.nD Cert.GmlpSReferenceIdeal.τ).loc Cert.GmlpSReferenceIdeal.main_arg5) = m ((c.tc : Thread Cert.GmlpSIdeal.nD Cert.GmlpSIdeal.τ).loc Cert.GmlpSIdeal.main_arg5)
      ∧ m' ((c.tc : Thread Cert.GmlpSReferenceIdeal.nD Cert.GmlpSReferenceIdeal.τ).loc Cert.GmlpSReferenceIdeal.main_arg6) = m ((c.tc : Thread Cert.GmlpSIdeal.nD Cert.GmlpSIdeal.τ).loc Cert.GmlpSIdeal.main_arg6)) →
    ∃ (v0 : (c : Dev Cert.GmlpSIdeal.nD) → Buf (Elt Ideal) ((c.tc : Thread Cert.GmlpSIdeal.nD Cert.GmlpSIdeal.τ).loc Cert.GmlpSIdeal.main_v19_0)) (v1 : (c : Dev Cert.GmlpSIdeal.nD) → Buf (Elt Ideal) ((c.tc : Thread Cert.GmlpSIdeal.nD Cert.GmlpSIdeal.τ).loc Cert.GmlpSIdeal.main_v19_1)),
      θ_run (Cert.GmlpSIdeal.defs (F := Ideal)) (onTc (τ := Cert.GmlpSIdeal.τ) (Cert.GmlpSIdeal.main (F := Ideal))) ⟨m, fun _ => 0, g⟩ (fun r => ∀ c : Dev Cert.GmlpSIdeal.nD,
          r.2.mem ((c.tc : Thread Cert.GmlpSIdeal.nD Cert.GmlpSIdeal.τ).loc Cert.GmlpSIdeal.main_v19_0) = v0 c
          ∧ r.2.mem ((c.tc : Thread Cert.GmlpSIdeal.nD Cert.GmlpSIdeal.τ).loc Cert.GmlpSIdeal.main_v19_1) = v1 c
          ∧ r.2.mem ((c.tc : Thread Cert.GmlpSIdeal.nD Cert.GmlpSIdeal.τ).loc Cert.GmlpSIdeal.main_arg0) = m ((c.tc : Thread Cert.GmlpSIdeal.nD Cert.GmlpSIdeal.τ).loc Cert.GmlpSIdeal.main_arg0)
          ∧ r.2.mem ((c.tc : Thread Cert.GmlpSIdeal.nD Cert.GmlpSIdeal.τ).loc Cert.GmlpSIdeal.main_arg1) = m ((c.tc : Thread Cert.GmlpSIdeal.nD Cert.GmlpSIdeal.τ).loc Cert.GmlpSIdeal.main_arg1)
          ∧ r.2.mem ((c.tc : Thread Cert.GmlpSIdeal.nD Cert.GmlpSIdeal.τ).loc Cert.GmlpSIdeal.main_arg2) = m ((c.tc : Thread Cert.GmlpSIdeal.nD Cert.GmlpSIdeal.τ).loc Cert.GmlpSIdeal.main_arg2)
          ∧ r.2.mem ((c.tc : Thread Cert.GmlpSIdeal.nD Cert.GmlpSIdeal.τ).loc Cert.GmlpSIdeal.main_arg3) = m ((c.tc : Thread Cert.GmlpSIdeal.nD Cert.GmlpSIdeal.τ).loc Cert.GmlpSIdeal.main_arg3)
          ∧ r.2.mem ((c.tc : Thread Cert.GmlpSIdeal.nD Cert.GmlpSIdeal.τ).loc Cert.GmlpSIdeal.main_arg4) = m ((c.tc : Thread Cert.GmlpSIdeal.nD Cert.GmlpSIdeal.τ).loc Cert.GmlpSIdeal.main_arg4)
          ∧ r.2.mem ((c.tc : Thread Cert.GmlpSIdeal.nD Cert.GmlpSIdeal.τ).loc Cert.GmlpSIdeal.main_arg5) = m ((c.tc : Thread Cert.GmlpSIdeal.nD Cert.GmlpSIdeal.τ).loc Cert.GmlpSIdeal.main_arg5)
          ∧ r.2.mem ((c.tc : Thread Cert.GmlpSIdeal.nD Cert.GmlpSIdeal.τ).loc Cert.GmlpSIdeal.main_arg6) = m ((c.tc : Thread Cert.GmlpSIdeal.nD Cert.GmlpSIdeal.τ).loc Cert.GmlpSIdeal.main_arg6))
      ∧ θ_run (Cert.GmlpSReferenceIdeal.defs (F := Ideal)) (onTc (τ := Cert.GmlpSReferenceIdeal.τ) (Cert.GmlpSReferenceIdeal.main (F := Ideal))) ⟨m', fun _ => 0, g'⟩ (fun r => ∀ c : Dev Cert.GmlpSReferenceIdeal.nD,
          r.2.mem ((c.tc : Thread Cert.GmlpSReferenceIdeal.nD Cert.GmlpSReferenceIdeal.τ).loc Cert.GmlpSReferenceIdeal.main_v87) = v0 c
          ∧ r.2.mem ((c.tc : Thread Cert.GmlpSReferenceIdeal.nD Cert.GmlpSReferenceIdeal.τ).loc Cert.GmlpSReferenceIdeal.main_v88) = v1 c
          ∧ r.2.mem ((c.tc : Thread Cert.GmlpSReferenceIdeal.nD Cert.GmlpSReferenceIdeal.τ).loc Cert.GmlpSReferenceIdeal.main_arg0) = m' ((c.tc : Thread Cert.GmlpSReferenceIdeal.nD Cert.GmlpSReferenceIdeal.τ).loc Cert.GmlpSReferenceIdeal.main_arg0)
          ∧ r.2.mem ((c.tc : Thread Cert.GmlpSReferenceIdeal.nD Cert.GmlpSReferenceIdeal.τ).loc Cert.GmlpSReferenceIdeal.main_arg1) = m' ((c.tc : Thread Cert.GmlpSReferenceIdeal.nD Cert.GmlpSReferenceIdeal.τ).loc Cert.GmlpSReferenceIdeal.main_arg1)
          ∧ r.2.mem ((c.tc : Thread Cert.GmlpSReferenceIdeal.nD Cert.GmlpSReferenceIdeal.τ).loc Cert.GmlpSReferenceIdeal.main_arg2) = m' ((c.tc : Thread Cert.GmlpSReferenceIdeal.nD Cert.GmlpSReferenceIdeal.τ).loc Cert.GmlpSReferenceIdeal.main_arg2)
          ∧ r.2.mem ((c.tc : Thread Cert.GmlpSReferenceIdeal.nD Cert.GmlpSReferenceIdeal.τ).loc Cert.GmlpSReferenceIdeal.main_arg3) = m' ((c.tc : Thread Cert.GmlpSReferenceIdeal.nD Cert.GmlpSReferenceIdeal.τ).loc Cert.GmlpSReferenceIdeal.main_arg3)
          ∧ r.2.mem ((c.tc : Thread Cert.GmlpSReferenceIdeal.nD Cert.GmlpSReferenceIdeal.τ).loc Cert.GmlpSReferenceIdeal.main_arg4) = m' ((c.tc : Thread Cert.GmlpSReferenceIdeal.nD Cert.GmlpSReferenceIdeal.τ).loc Cert.GmlpSReferenceIdeal.main_arg4)
          ∧ r.2.mem ((c.tc : Thread Cert.GmlpSReferenceIdeal.nD Cert.GmlpSReferenceIdeal.τ).loc Cert.GmlpSReferenceIdeal.main_arg5) = m' ((c.tc : Thread Cert.GmlpSReferenceIdeal.nD Cert.GmlpSReferenceIdeal.τ).loc Cert.GmlpSReferenceIdeal.main_arg5)
          ∧ r.2.mem ((c.tc : Thread Cert.GmlpSReferenceIdeal.nD Cert.GmlpSReferenceIdeal.τ).loc Cert.GmlpSReferenceIdeal.main_arg6) = m' ((c.tc : Thread Cert.GmlpSReferenceIdeal.nD Cert.GmlpSReferenceIdeal.τ).loc Cert.GmlpSReferenceIdeal.main_arg6))

def preserves_AttnInS_AttnInSIdeal : Prop :=
  True

def algebraic_AttnInSIdeal_AttnInSReferenceIdeal [hAttnInSIdeal : Cert.AttnInSIdeal.Facts] [hAttnInSReferenceIdeal : Cert.AttnInSReferenceIdeal.Facts] : Prop :=
  ∀ (m : (ℓ : Loc Cert.AttnInSIdeal.nD Cert.AttnInSIdeal.τ Cert.AttnInSIdeal.sig) → Buf (Elt Ideal) ℓ) (g : Dev Cert.AttnInSIdeal.nD → PrngReg)
    (m' : (ℓ : Loc Cert.AttnInSReferenceIdeal.nD Cert.AttnInSReferenceIdeal.τ Cert.AttnInSReferenceIdeal.sig) → Buf (Elt Ideal) ℓ) (g' : Dev Cert.AttnInSReferenceIdeal.nD → PrngReg), Pre_AttnInSIdeal m →
    (∀ c : Dev Cert.AttnInSIdeal.nD,
      m' ((c.tc : Thread Cert.AttnInSReferenceIdeal.nD Cert.AttnInSReferenceIdeal.τ).loc Cert.AttnInSReferenceIdeal.main_arg0) = m ((c.tc : Thread Cert.AttnInSIdeal.nD Cert.AttnInSIdeal.τ).loc Cert.AttnInSIdeal.main_arg0)
      ∧ m' ((c.tc : Thread Cert.AttnInSReferenceIdeal.nD Cert.AttnInSReferenceIdeal.τ).loc Cert.AttnInSReferenceIdeal.main_arg1) = m ((c.tc : Thread Cert.AttnInSIdeal.nD Cert.AttnInSIdeal.τ).loc Cert.AttnInSIdeal.main_arg1)) →
    ∃ (v0 : (c : Dev Cert.AttnInSIdeal.nD) → Buf (Elt Ideal) ((c.tc : Thread Cert.AttnInSIdeal.nD Cert.AttnInSIdeal.τ).loc Cert.AttnInSIdeal.main_v9_0)) (v1 : (c : Dev Cert.AttnInSIdeal.nD) → Buf (Elt Ideal) ((c.tc : Thread Cert.AttnInSIdeal.nD Cert.AttnInSIdeal.τ).loc Cert.AttnInSIdeal.main_v9_1)) (v2 : (c : Dev Cert.AttnInSIdeal.nD) → Buf (Elt Ideal) ((c.tc : Thread Cert.AttnInSIdeal.nD Cert.AttnInSIdeal.τ).loc Cert.AttnInSIdeal.main_v9_2)) (v3 : (c : Dev Cert.AttnInSIdeal.nD) → Buf (Elt Ideal) ((c.tc : Thread Cert.AttnInSIdeal.nD Cert.AttnInSIdeal.τ).loc Cert.AttnInSIdeal.main_v9_3)),
      θ_run (Cert.AttnInSIdeal.defs (F := Ideal)) (onTc (τ := Cert.AttnInSIdeal.τ) (Cert.AttnInSIdeal.main (F := Ideal))) ⟨m, fun _ => 0, g⟩ (fun r => ∀ c : Dev Cert.AttnInSIdeal.nD,
          r.2.mem ((c.tc : Thread Cert.AttnInSIdeal.nD Cert.AttnInSIdeal.τ).loc Cert.AttnInSIdeal.main_v9_0) = v0 c
          ∧ r.2.mem ((c.tc : Thread Cert.AttnInSIdeal.nD Cert.AttnInSIdeal.τ).loc Cert.AttnInSIdeal.main_v9_1) = v1 c
          ∧ r.2.mem ((c.tc : Thread Cert.AttnInSIdeal.nD Cert.AttnInSIdeal.τ).loc Cert.AttnInSIdeal.main_v9_2) = v2 c
          ∧ r.2.mem ((c.tc : Thread Cert.AttnInSIdeal.nD Cert.AttnInSIdeal.τ).loc Cert.AttnInSIdeal.main_v9_3) = v3 c
          ∧ r.2.mem ((c.tc : Thread Cert.AttnInSIdeal.nD Cert.AttnInSIdeal.τ).loc Cert.AttnInSIdeal.main_arg0) = m ((c.tc : Thread Cert.AttnInSIdeal.nD Cert.AttnInSIdeal.τ).loc Cert.AttnInSIdeal.main_arg0)
          ∧ r.2.mem ((c.tc : Thread Cert.AttnInSIdeal.nD Cert.AttnInSIdeal.τ).loc Cert.AttnInSIdeal.main_arg1) = m ((c.tc : Thread Cert.AttnInSIdeal.nD Cert.AttnInSIdeal.τ).loc Cert.AttnInSIdeal.main_arg1))
      ∧ θ_run (Cert.AttnInSReferenceIdeal.defs (F := Ideal)) (onTc (τ := Cert.AttnInSReferenceIdeal.τ) (Cert.AttnInSReferenceIdeal.main (F := Ideal))) ⟨m', fun _ => 0, g'⟩ (fun r => ∀ c : Dev Cert.AttnInSReferenceIdeal.nD,
          r.2.mem ((c.tc : Thread Cert.AttnInSReferenceIdeal.nD Cert.AttnInSReferenceIdeal.τ).loc Cert.AttnInSReferenceIdeal.main_v28) = v0 c
          ∧ r.2.mem ((c.tc : Thread Cert.AttnInSReferenceIdeal.nD Cert.AttnInSReferenceIdeal.τ).loc Cert.AttnInSReferenceIdeal.main_v30) = v1 c
          ∧ r.2.mem ((c.tc : Thread Cert.AttnInSReferenceIdeal.nD Cert.AttnInSReferenceIdeal.τ).loc Cert.AttnInSReferenceIdeal.main_v33) = v2 c
          ∧ r.2.mem ((c.tc : Thread Cert.AttnInSReferenceIdeal.nD Cert.AttnInSReferenceIdeal.τ).loc Cert.AttnInSReferenceIdeal.main_v21) = v3 c
          ∧ r.2.mem ((c.tc : Thread Cert.AttnInSReferenceIdeal.nD Cert.AttnInSReferenceIdeal.τ).loc Cert.AttnInSReferenceIdeal.main_arg0) = m' ((c.tc : Thread Cert.AttnInSReferenceIdeal.nD Cert.AttnInSReferenceIdeal.τ).loc Cert.AttnInSReferenceIdeal.main_arg0)
          ∧ r.2.mem ((c.tc : Thread Cert.AttnInSReferenceIdeal.nD Cert.AttnInSReferenceIdeal.τ).loc Cert.AttnInSReferenceIdeal.main_arg1) = m' ((c.tc : Thread Cert.AttnInSReferenceIdeal.nD Cert.AttnInSReferenceIdeal.τ).loc Cert.AttnInSReferenceIdeal.main_arg1))

def preserves_Merge_MergeIdeal : Prop :=
  True

def algebraic_MergeIdeal_MergeReferenceIdeal_on_residual_columns_MergeIdeal [hMergeIdeal : Cert.MergeIdeal.Facts] [hMergeReferenceIdeal : Cert.MergeReferenceIdeal.Facts] [hOn_residual_columns_MergeIdeal : Cert.On_residual_columns_MergeIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v6_0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          (∀ i : (⟨2, ![16384, 1152]⟩ : Shape).Idx, (Cert.On_residual_columns_MergeIdeal.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10))) i = 1#1 → r.2.mem ((c.tc : Thread Cert.MergeIdeal.nD Cert.MergeIdeal.τ).loc Cert.MergeIdeal.main_v6_0) i = v0 c i)
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          (∀ i : (⟨2, ![16384, 1152]⟩ : Shape).Idx, (Cert.On_residual_columns_MergeIdeal.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10))) i = 1#1 → r.2.mem ((c.tc : Thread Cert.MergeReferenceIdeal.nD Cert.MergeReferenceIdeal.τ).loc Cert.MergeReferenceIdeal.main_v33) i = v0 c i)
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10))

def preserves_MergeS_MergeSIdeal : Prop :=
  True

def algebraic_MergeSIdeal_MergeSReferenceIdeal_on_residual_columns_MergeSIdeal [hMergeSIdeal : Cert.MergeSIdeal.Facts] [hMergeSReferenceIdeal : Cert.MergeSReferenceIdeal.Facts] [hOn_residual_columns_MergeSIdeal : Cert.On_residual_columns_MergeSIdeal.Facts] : Prop :=
  ∀ (m : (ℓ : Loc Cert.MergeSIdeal.nD Cert.MergeSIdeal.τ Cert.MergeSIdeal.sig) → Buf (Elt Ideal) ℓ) (g : Dev Cert.MergeSIdeal.nD → PrngReg)
    (m' : (ℓ : Loc Cert.MergeSReferenceIdeal.nD Cert.MergeSReferenceIdeal.τ Cert.MergeSReferenceIdeal.sig) → Buf (Elt Ideal) ℓ) (g' : Dev Cert.MergeSReferenceIdeal.nD → PrngReg), Pre_MergeSIdeal m →
    (∀ c : Dev Cert.MergeSIdeal.nD,
      m' ((c.tc : Thread Cert.MergeSReferenceIdeal.nD Cert.MergeSReferenceIdeal.τ).loc Cert.MergeSReferenceIdeal.main_arg0) = m ((c.tc : Thread Cert.MergeSIdeal.nD Cert.MergeSIdeal.τ).loc Cert.MergeSIdeal.main_arg0)
      ∧ m' ((c.tc : Thread Cert.MergeSReferenceIdeal.nD Cert.MergeSReferenceIdeal.τ).loc Cert.MergeSReferenceIdeal.main_arg1) = m ((c.tc : Thread Cert.MergeSIdeal.nD Cert.MergeSIdeal.τ).loc Cert.MergeSIdeal.main_arg1)
      ∧ m' ((c.tc : Thread Cert.MergeSReferenceIdeal.nD Cert.MergeSReferenceIdeal.τ).loc Cert.MergeSReferenceIdeal.main_arg2) = m ((c.tc : Thread Cert.MergeSIdeal.nD Cert.MergeSIdeal.τ).loc Cert.MergeSIdeal.main_arg2)
      ∧ m' ((c.tc : Thread Cert.MergeSReferenceIdeal.nD Cert.MergeSReferenceIdeal.τ).loc Cert.MergeSReferenceIdeal.main_arg3) = m ((c.tc : Thread Cert.MergeSIdeal.nD Cert.MergeSIdeal.τ).loc Cert.MergeSIdeal.main_arg3)
      ∧ m' ((c.tc : Thread Cert.MergeSReferenceIdeal.nD Cert.MergeSReferenceIdeal.τ).loc Cert.MergeSReferenceIdeal.main_arg4) = m ((c.tc : Thread Cert.MergeSIdeal.nD Cert.MergeSIdeal.τ).loc Cert.MergeSIdeal.main_arg4)
      ∧ m' ((c.tc : Thread Cert.MergeSReferenceIdeal.nD Cert.MergeSReferenceIdeal.τ).loc Cert.MergeSReferenceIdeal.main_arg5) = m ((c.tc : Thread Cert.MergeSIdeal.nD Cert.MergeSIdeal.τ).loc Cert.MergeSIdeal.main_arg5)
      ∧ m' ((c.tc : Thread Cert.MergeSReferenceIdeal.nD Cert.MergeSReferenceIdeal.τ).loc Cert.MergeSReferenceIdeal.main_arg6) = m ((c.tc : Thread Cert.MergeSIdeal.nD Cert.MergeSIdeal.τ).loc Cert.MergeSIdeal.main_arg6)
      ∧ m' ((c.tc : Thread Cert.MergeSReferenceIdeal.nD Cert.MergeSReferenceIdeal.τ).loc Cert.MergeSReferenceIdeal.main_arg7) = m ((c.tc : Thread Cert.MergeSIdeal.nD Cert.MergeSIdeal.τ).loc Cert.MergeSIdeal.main_arg7)
      ∧ m' ((c.tc : Thread Cert.MergeSReferenceIdeal.nD Cert.MergeSReferenceIdeal.τ).loc Cert.MergeSReferenceIdeal.main_arg8) = m ((c.tc : Thread Cert.MergeSIdeal.nD Cert.MergeSIdeal.τ).loc Cert.MergeSIdeal.main_arg8)
      ∧ m' ((c.tc : Thread Cert.MergeSReferenceIdeal.nD Cert.MergeSReferenceIdeal.τ).loc Cert.MergeSReferenceIdeal.main_arg9) = m ((c.tc : Thread Cert.MergeSIdeal.nD Cert.MergeSIdeal.τ).loc Cert.MergeSIdeal.main_arg9)
      ∧ m' ((c.tc : Thread Cert.MergeSReferenceIdeal.nD Cert.MergeSReferenceIdeal.τ).loc Cert.MergeSReferenceIdeal.main_arg10) = m ((c.tc : Thread Cert.MergeSIdeal.nD Cert.MergeSIdeal.τ).loc Cert.MergeSIdeal.main_arg10)) →
    ∃ (v0 : (c : Dev Cert.MergeSIdeal.nD) → Buf (Elt Ideal) ((c.tc : Thread Cert.MergeSIdeal.nD Cert.MergeSIdeal.τ).loc Cert.MergeSIdeal.main_v6_0)),
      θ_run (Cert.MergeSIdeal.defs (F := Ideal)) (onTc (τ := Cert.MergeSIdeal.τ) (Cert.MergeSIdeal.main (F := Ideal))) ⟨m, fun _ => 0, g⟩ (fun r => ∀ c : Dev Cert.MergeSIdeal.nD,
          (∀ i : (⟨2, ![128, 1152]⟩ : Shape).Idx, (Cert.On_residual_columns_MergeSIdeal.fn (F := Ideal) (m ((c.tc : Thread Cert.MergeSIdeal.nD Cert.MergeSIdeal.τ).loc Cert.MergeSIdeal.main_arg0)) (m ((c.tc : Thread Cert.MergeSIdeal.nD Cert.MergeSIdeal.τ).loc Cert.MergeSIdeal.main_arg1)) (m ((c.tc : Thread Cert.MergeSIdeal.nD Cert.MergeSIdeal.τ).loc Cert.MergeSIdeal.main_arg2)) (m ((c.tc : Thread Cert.MergeSIdeal.nD Cert.MergeSIdeal.τ).loc Cert.MergeSIdeal.main_arg3)) (m ((c.tc : Thread Cert.MergeSIdeal.nD Cert.MergeSIdeal.τ).loc Cert.MergeSIdeal.main_arg4)) (m ((c.tc : Thread Cert.MergeSIdeal.nD Cert.MergeSIdeal.τ).loc Cert.MergeSIdeal.main_arg5)) (m ((c.tc : Thread Cert.MergeSIdeal.nD Cert.MergeSIdeal.τ).loc Cert.MergeSIdeal.main_arg6)) (m ((c.tc : Thread Cert.MergeSIdeal.nD Cert.MergeSIdeal.τ).loc Cert.MergeSIdeal.main_arg7)) (m ((c.tc : Thread Cert.MergeSIdeal.nD Cert.MergeSIdeal.τ).loc Cert.MergeSIdeal.main_arg8)) (m ((c.tc : Thread Cert.MergeSIdeal.nD Cert.MergeSIdeal.τ).loc Cert.MergeSIdeal.main_arg9)) (m ((c.tc : Thread Cert.MergeSIdeal.nD Cert.MergeSIdeal.τ).loc Cert.MergeSIdeal.main_arg10))) i = 1#1 → r.2.mem ((c.tc : Thread Cert.MergeSIdeal.nD Cert.MergeSIdeal.τ).loc Cert.MergeSIdeal.main_v6_0) i = v0 c i)
          ∧ r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
          ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
          ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
          ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3)
          ∧ r.2.mem ((c.tc : Thread Cert.MergeSIdeal.nD Cert.MergeSIdeal.τ).loc Cert.MergeSIdeal.main_arg4) = m ((c.tc : Thread Cert.MergeSIdeal.nD Cert.MergeSIdeal.τ).loc Cert.MergeSIdeal.main_arg4)
          ∧ r.2.mem ((c.tc : Thread Cert.MergeSIdeal.nD Cert.MergeSIdeal.τ).loc Cert.MergeSIdeal.main_arg5) = m ((c.tc : Thread Cert.MergeSIdeal.nD Cert.MergeSIdeal.τ).loc Cert.MergeSIdeal.main_arg5)
          ∧ r.2.mem ((c.tc : Thread Cert.MergeSIdeal.nD Cert.MergeSIdeal.τ).loc Cert.MergeSIdeal.main_arg6) = m ((c.tc : Thread Cert.MergeSIdeal.nD Cert.MergeSIdeal.τ).loc Cert.MergeSIdeal.main_arg6)
          ∧ r.2.mem ((c.tc : Thread Cert.MergeSIdeal.nD Cert.MergeSIdeal.τ).loc Cert.MergeSIdeal.main_arg7) = m ((c.tc : Thread Cert.MergeSIdeal.nD Cert.MergeSIdeal.τ).loc Cert.MergeSIdeal.main_arg7)
          ∧ r.2.mem ((c.tc : Thread Cert.MergeSIdeal.nD Cert.MergeSIdeal.τ).loc Cert.MergeSIdeal.main_arg8) = m ((c.tc : Thread Cert.MergeSIdeal.nD Cert.MergeSIdeal.τ).loc Cert.MergeSIdeal.main_arg8)
          ∧ r.2.mem ((c.tc : Thread Cert.MergeSIdeal.nD Cert.MergeSIdeal.τ).loc Cert.MergeSIdeal.main_arg9) = m ((c.tc : Thread Cert.MergeSIdeal.nD Cert.MergeSIdeal.τ).loc Cert.MergeSIdeal.main_arg9)
          ∧ r.2.mem ((c.tc : Thread Cert.MergeSIdeal.nD Cert.MergeSIdeal.τ).loc Cert.MergeSIdeal.main_arg10) = m ((c.tc : Thread Cert.MergeSIdeal.nD Cert.MergeSIdeal.τ).loc Cert.MergeSIdeal.main_arg10))
      ∧ θ_run (Cert.MergeSReferenceIdeal.defs (F := Ideal)) (onTc (τ := Cert.MergeSReferenceIdeal.τ) (Cert.MergeSReferenceIdeal.main (F := Ideal))) ⟨m', fun _ => 0, g'⟩ (fun r => ∀ c : Dev Cert.MergeSReferenceIdeal.nD,
          (∀ i : (⟨2, ![128, 1152]⟩ : Shape).Idx, (Cert.On_residual_columns_MergeSIdeal.fn (F := Ideal) (m ((c.tc : Thread Cert.MergeSIdeal.nD Cert.MergeSIdeal.τ).loc Cert.MergeSIdeal.main_arg0)) (m ((c.tc : Thread Cert.MergeSIdeal.nD Cert.MergeSIdeal.τ).loc Cert.MergeSIdeal.main_arg1)) (m ((c.tc : Thread Cert.MergeSIdeal.nD Cert.MergeSIdeal.τ).loc Cert.MergeSIdeal.main_arg2)) (m ((c.tc : Thread Cert.MergeSIdeal.nD Cert.MergeSIdeal.τ).loc Cert.MergeSIdeal.main_arg3)) (m ((c.tc : Thread Cert.MergeSIdeal.nD Cert.MergeSIdeal.τ).loc Cert.MergeSIdeal.main_arg4)) (m ((c.tc : Thread Cert.MergeSIdeal.nD Cert.MergeSIdeal.τ).loc Cert.MergeSIdeal.main_arg5)) (m ((c.tc : Thread Cert.MergeSIdeal.nD Cert.MergeSIdeal.τ).loc Cert.MergeSIdeal.main_arg6)) (m ((c.tc : Thread Cert.MergeSIdeal.nD Cert.MergeSIdeal.τ).loc Cert.MergeSIdeal.main_arg7)) (m ((c.tc : Thread Cert.MergeSIdeal.nD Cert.MergeSIdeal.τ).loc Cert.MergeSIdeal.main_arg8)) (m ((c.tc : Thread Cert.MergeSIdeal.nD Cert.MergeSIdeal.τ).loc Cert.MergeSIdeal.main_arg9)) (m ((c.tc : Thread Cert.MergeSIdeal.nD Cert.MergeSIdeal.τ).loc Cert.MergeSIdeal.main_arg10))) i = 1#1 → r.2.mem ((c.tc : Thread Cert.MergeSReferenceIdeal.nD Cert.MergeSReferenceIdeal.τ).loc Cert.MergeSReferenceIdeal.main_v31) i = v0 c i)
          ∧ r.2.mem ((c.tc : Thread Cert.MergeSReferenceIdeal.nD Cert.MergeSReferenceIdeal.τ).loc Cert.MergeSReferenceIdeal.main_arg0) = m' ((c.tc : Thread Cert.MergeSReferenceIdeal.nD Cert.MergeSReferenceIdeal.τ).loc Cert.MergeSReferenceIdeal.main_arg0)
          ∧ r.2.mem ((c.tc : Thread Cert.MergeSReferenceIdeal.nD Cert.MergeSReferenceIdeal.τ).loc Cert.MergeSReferenceIdeal.main_arg1) = m' ((c.tc : Thread Cert.MergeSReferenceIdeal.nD Cert.MergeSReferenceIdeal.τ).loc Cert.MergeSReferenceIdeal.main_arg1)
          ∧ r.2.mem ((c.tc : Thread Cert.MergeSReferenceIdeal.nD Cert.MergeSReferenceIdeal.τ).loc Cert.MergeSReferenceIdeal.main_arg2) = m' ((c.tc : Thread Cert.MergeSReferenceIdeal.nD Cert.MergeSReferenceIdeal.τ).loc Cert.MergeSReferenceIdeal.main_arg2)
          ∧ r.2.mem ((c.tc : Thread Cert.MergeSReferenceIdeal.nD Cert.MergeSReferenceIdeal.τ).loc Cert.MergeSReferenceIdeal.main_arg3) = m' ((c.tc : Thread Cert.MergeSReferenceIdeal.nD Cert.MergeSReferenceIdeal.τ).loc Cert.MergeSReferenceIdeal.main_arg3)
          ∧ r.2.mem ((c.tc : Thread Cert.MergeSReferenceIdeal.nD Cert.MergeSReferenceIdeal.τ).loc Cert.MergeSReferenceIdeal.main_arg4) = m' ((c.tc : Thread Cert.MergeSReferenceIdeal.nD Cert.MergeSReferenceIdeal.τ).loc Cert.MergeSReferenceIdeal.main_arg4)
          ∧ r.2.mem ((c.tc : Thread Cert.MergeSReferenceIdeal.nD Cert.MergeSReferenceIdeal.τ).loc Cert.MergeSReferenceIdeal.main_arg5) = m' ((c.tc : Thread Cert.MergeSReferenceIdeal.nD Cert.MergeSReferenceIdeal.τ).loc Cert.MergeSReferenceIdeal.main_arg5)
          ∧ r.2.mem ((c.tc : Thread Cert.MergeSReferenceIdeal.nD Cert.MergeSReferenceIdeal.τ).loc Cert.MergeSReferenceIdeal.main_arg6) = m' ((c.tc : Thread Cert.MergeSReferenceIdeal.nD Cert.MergeSReferenceIdeal.τ).loc Cert.MergeSReferenceIdeal.main_arg6)
          ∧ r.2.mem ((c.tc : Thread Cert.MergeSReferenceIdeal.nD Cert.MergeSReferenceIdeal.τ).loc Cert.MergeSReferenceIdeal.main_arg7) = m' ((c.tc : Thread Cert.MergeSReferenceIdeal.nD Cert.MergeSReferenceIdeal.τ).loc Cert.MergeSReferenceIdeal.main_arg7)
          ∧ r.2.mem ((c.tc : Thread Cert.MergeSReferenceIdeal.nD Cert.MergeSReferenceIdeal.τ).loc Cert.MergeSReferenceIdeal.main_arg8) = m' ((c.tc : Thread Cert.MergeSReferenceIdeal.nD Cert.MergeSReferenceIdeal.τ).loc Cert.MergeSReferenceIdeal.main_arg8)
          ∧ r.2.mem ((c.tc : Thread Cert.MergeSReferenceIdeal.nD Cert.MergeSReferenceIdeal.τ).loc Cert.MergeSReferenceIdeal.main_arg9) = m' ((c.tc : Thread Cert.MergeSReferenceIdeal.nD Cert.MergeSReferenceIdeal.τ).loc Cert.MergeSReferenceIdeal.main_arg9)
          ∧ r.2.mem ((c.tc : Thread Cert.MergeSReferenceIdeal.nD Cert.MergeSReferenceIdeal.τ).loc Cert.MergeSReferenceIdeal.main_arg10) = m' ((c.tc : Thread Cert.MergeSReferenceIdeal.nD Cert.MergeSReferenceIdeal.τ).loc Cert.MergeSReferenceIdeal.main_arg10))

def preserves_Experts_ExpertsIdeal : Prop :=
  True

def algebraic_ExpertsIdeal_ExpertsReferenceIdeal_pre_groups_and_weights [hExpertsIdeal : Cert.ExpertsIdeal.Facts] [hExpertsReferenceIdeal : Cert.ExpertsReferenceIdeal.Facts] [hPre_groups_and_weights : Cert.Pre_groups_and_weights.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal_groups_and_weights m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v6)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v6) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v33) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def preserves_Combine_CombineIdeal : Prop :=
  True

def algebraic_CombineIdeal_CombineReferenceIdeal [hCombineIdeal : Cert.CombineIdeal.Facts] [hCombineReferenceIdeal : Cert.CombineReferenceIdeal.Facts] [hPre_in_rows : Cert.Pre_in_rows.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)
      ∧ m' ((c.tc : Thread Cert.CombineReferenceIdeal.nD Cert.CombineReferenceIdeal.τ).loc Cert.CombineReferenceIdeal.main_arg4) = m ((c.tc : Thread Cert.CombineIdeal.nD Cert.CombineIdeal.τ).loc Cert.CombineIdeal.main_arg4)) →
    ∃ (v0 : (c : Dev Cert.CombineIdeal.nD) → Buf (Elt Ideal) ((c.tc : Thread Cert.CombineIdeal.nD Cert.CombineIdeal.τ).loc Cert.CombineIdeal.main_v2)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v2) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v34) = v0 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3)
          ∧ r.2.mem ((c.tc : Thread Cert.CombineReferenceIdeal.nD Cert.CombineReferenceIdeal.τ).loc Cert.CombineReferenceIdeal.main_arg4) = m' ((c.tc : Thread Cert.CombineReferenceIdeal.nD Cert.CombineReferenceIdeal.τ).loc Cert.CombineReferenceIdeal.main_arg4))

def preserves_ExpertsS_ExpertsSIdeal : Prop :=
  True

def algebraic_ExpertsSIdeal_ExpertsSReferenceIdeal_pre_sample_groups_and_weights [hExpertsSIdeal : Cert.ExpertsSIdeal.Facts] [hExpertsSReferenceIdeal : Cert.ExpertsSReferenceIdeal.Facts] [hPre_sample_groups_and_weights : Cert.Pre_sample_groups_and_weights.Facts] : Prop :=
  ∀ (m : (ℓ : Loc Cert.ExpertsSIdeal.nD Cert.ExpertsSIdeal.τ Cert.ExpertsSIdeal.sig) → Buf (Elt Ideal) ℓ) (g : Dev Cert.ExpertsSIdeal.nD → PrngReg)
    (m' : (ℓ : Loc Cert.ExpertsSReferenceIdeal.nD Cert.ExpertsSReferenceIdeal.τ Cert.ExpertsSReferenceIdeal.sig) → Buf (Elt Ideal) ℓ) (g' : Dev Cert.ExpertsSReferenceIdeal.nD → PrngReg), Pre_ExpertsSIdeal_sample_groups_and_weights m →
    (∀ c : Dev Cert.ExpertsSIdeal.nD,
      m' ((c.tc : Thread Cert.ExpertsSReferenceIdeal.nD Cert.ExpertsSReferenceIdeal.τ).loc Cert.ExpertsSReferenceIdeal.main_arg0) = m ((c.tc : Thread Cert.ExpertsSIdeal.nD Cert.ExpertsSIdeal.τ).loc Cert.ExpertsSIdeal.main_arg0)
      ∧ m' ((c.tc : Thread Cert.ExpertsSReferenceIdeal.nD Cert.ExpertsSReferenceIdeal.τ).loc Cert.ExpertsSReferenceIdeal.main_arg1) = m ((c.tc : Thread Cert.ExpertsSIdeal.nD Cert.ExpertsSIdeal.τ).loc Cert.ExpertsSIdeal.main_arg1)
      ∧ m' ((c.tc : Thread Cert.ExpertsSReferenceIdeal.nD Cert.ExpertsSReferenceIdeal.τ).loc Cert.ExpertsSReferenceIdeal.main_arg2) = m ((c.tc : Thread Cert.ExpertsSIdeal.nD Cert.ExpertsSIdeal.τ).loc Cert.ExpertsSIdeal.main_arg2)
      ∧ m' ((c.tc : Thread Cert.ExpertsSReferenceIdeal.nD Cert.ExpertsSReferenceIdeal.τ).loc Cert.ExpertsSReferenceIdeal.main_arg3) = m ((c.tc : Thread Cert.ExpertsSIdeal.nD Cert.ExpertsSIdeal.τ).loc Cert.ExpertsSIdeal.main_arg3)
      ∧ m' ((c.tc : Thread Cert.ExpertsSReferenceIdeal.nD Cert.ExpertsSReferenceIdeal.τ).loc Cert.ExpertsSReferenceIdeal.main_arg4) = m ((c.tc : Thread Cert.ExpertsSIdeal.nD Cert.ExpertsSIdeal.τ).loc Cert.ExpertsSIdeal.main_arg4)
      ∧ m' ((c.tc : Thread Cert.ExpertsSReferenceIdeal.nD Cert.ExpertsSReferenceIdeal.τ).loc Cert.ExpertsSReferenceIdeal.main_arg5) = m ((c.tc : Thread Cert.ExpertsSIdeal.nD Cert.ExpertsSIdeal.τ).loc Cert.ExpertsSIdeal.main_arg5)) →
    ∃ (v0 : (c : Dev Cert.ExpertsSIdeal.nD) → Buf (Elt Ideal) ((c.tc : Thread Cert.ExpertsSIdeal.nD Cert.ExpertsSIdeal.τ).loc Cert.ExpertsSIdeal.main_v6)),
      θ_run (Cert.ExpertsSIdeal.defs (F := Ideal)) (onTc (τ := Cert.ExpertsSIdeal.τ) (Cert.ExpertsSIdeal.main (F := Ideal))) ⟨m, fun _ => 0, g⟩ (fun r => ∀ c : Dev Cert.ExpertsSIdeal.nD,
          r.2.mem ((c.tc : Thread Cert.ExpertsSIdeal.nD Cert.ExpertsSIdeal.τ).loc Cert.ExpertsSIdeal.main_v6) = v0 c
          ∧ r.2.mem ((c.tc : Thread Cert.ExpertsSIdeal.nD Cert.ExpertsSIdeal.τ).loc Cert.ExpertsSIdeal.main_arg0) = m ((c.tc : Thread Cert.ExpertsSIdeal.nD Cert.ExpertsSIdeal.τ).loc Cert.ExpertsSIdeal.main_arg0)
          ∧ r.2.mem ((c.tc : Thread Cert.ExpertsSIdeal.nD Cert.ExpertsSIdeal.τ).loc Cert.ExpertsSIdeal.main_arg1) = m ((c.tc : Thread Cert.ExpertsSIdeal.nD Cert.ExpertsSIdeal.τ).loc Cert.ExpertsSIdeal.main_arg1)
          ∧ r.2.mem ((c.tc : Thread Cert.ExpertsSIdeal.nD Cert.ExpertsSIdeal.τ).loc Cert.ExpertsSIdeal.main_arg2) = m ((c.tc : Thread Cert.ExpertsSIdeal.nD Cert.ExpertsSIdeal.τ).loc Cert.ExpertsSIdeal.main_arg2)
          ∧ r.2.mem ((c.tc : Thread Cert.ExpertsSIdeal.nD Cert.ExpertsSIdeal.τ).loc Cert.ExpertsSIdeal.main_arg3) = m ((c.tc : Thread Cert.ExpertsSIdeal.nD Cert.ExpertsSIdeal.τ).loc Cert.ExpertsSIdeal.main_arg3)
          ∧ r.2.mem ((c.tc : Thread Cert.ExpertsSIdeal.nD Cert.ExpertsSIdeal.τ).loc Cert.ExpertsSIdeal.main_arg4) = m ((c.tc : Thread Cert.ExpertsSIdeal.nD Cert.ExpertsSIdeal.τ).loc Cert.ExpertsSIdeal.main_arg4)
          ∧ r.2.mem ((c.tc : Thread Cert.ExpertsSIdeal.nD Cert.ExpertsSIdeal.τ).loc Cert.ExpertsSIdeal.main_arg5) = m ((c.tc : Thread Cert.ExpertsSIdeal.nD Cert.ExpertsSIdeal.τ).loc Cert.ExpertsSIdeal.main_arg5))
      ∧ θ_run (Cert.ExpertsSReferenceIdeal.defs (F := Ideal)) (onTc (τ := Cert.ExpertsSReferenceIdeal.τ) (Cert.ExpertsSReferenceIdeal.main (F := Ideal))) ⟨m', fun _ => 0, g'⟩ (fun r => ∀ c : Dev Cert.ExpertsSReferenceIdeal.nD,
          r.2.mem ((c.tc : Thread Cert.ExpertsSReferenceIdeal.nD Cert.ExpertsSReferenceIdeal.τ).loc Cert.ExpertsSReferenceIdeal.main_v33) = v0 c
          ∧ r.2.mem ((c.tc : Thread Cert.ExpertsSReferenceIdeal.nD Cert.ExpertsSReferenceIdeal.τ).loc Cert.ExpertsSReferenceIdeal.main_arg0) = m' ((c.tc : Thread Cert.ExpertsSReferenceIdeal.nD Cert.ExpertsSReferenceIdeal.τ).loc Cert.ExpertsSReferenceIdeal.main_arg0)
          ∧ r.2.mem ((c.tc : Thread Cert.ExpertsSReferenceIdeal.nD Cert.ExpertsSReferenceIdeal.τ).loc Cert.ExpertsSReferenceIdeal.main_arg1) = m' ((c.tc : Thread Cert.ExpertsSReferenceIdeal.nD Cert.ExpertsSReferenceIdeal.τ).loc Cert.ExpertsSReferenceIdeal.main_arg1)
          ∧ r.2.mem ((c.tc : Thread Cert.ExpertsSReferenceIdeal.nD Cert.ExpertsSReferenceIdeal.τ).loc Cert.ExpertsSReferenceIdeal.main_arg2) = m' ((c.tc : Thread Cert.ExpertsSReferenceIdeal.nD Cert.ExpertsSReferenceIdeal.τ).loc Cert.ExpertsSReferenceIdeal.main_arg2)
          ∧ r.2.mem ((c.tc : Thread Cert.ExpertsSReferenceIdeal.nD Cert.ExpertsSReferenceIdeal.τ).loc Cert.ExpertsSReferenceIdeal.main_arg3) = m' ((c.tc : Thread Cert.ExpertsSReferenceIdeal.nD Cert.ExpertsSReferenceIdeal.τ).loc Cert.ExpertsSReferenceIdeal.main_arg3)
          ∧ r.2.mem ((c.tc : Thread Cert.ExpertsSReferenceIdeal.nD Cert.ExpertsSReferenceIdeal.τ).loc Cert.ExpertsSReferenceIdeal.main_arg4) = m' ((c.tc : Thread Cert.ExpertsSReferenceIdeal.nD Cert.ExpertsSReferenceIdeal.τ).loc Cert.ExpertsSReferenceIdeal.main_arg4)
          ∧ r.2.mem ((c.tc : Thread Cert.ExpertsSReferenceIdeal.nD Cert.ExpertsSReferenceIdeal.τ).loc Cert.ExpertsSReferenceIdeal.main_arg5) = m' ((c.tc : Thread Cert.ExpertsSReferenceIdeal.nD Cert.ExpertsSReferenceIdeal.τ).loc Cert.ExpertsSReferenceIdeal.main_arg5))

def preserves_CombineS_CombineSIdeal : Prop :=
  True

def algebraic_CombineSIdeal_CombineSReferenceIdeal [hCombineSIdeal : Cert.CombineSIdeal.Facts] [hCombineSReferenceIdeal : Cert.CombineSReferenceIdeal.Facts] [hPre_sample_in_rows : Cert.Pre_sample_in_rows.Facts] : Prop :=
  ∀ (m : (ℓ : Loc Cert.CombineSIdeal.nD Cert.CombineSIdeal.τ Cert.CombineSIdeal.sig) → Buf (Elt Ideal) ℓ) (g : Dev Cert.CombineSIdeal.nD → PrngReg)
    (m' : (ℓ : Loc Cert.CombineSReferenceIdeal.nD Cert.CombineSReferenceIdeal.τ Cert.CombineSReferenceIdeal.sig) → Buf (Elt Ideal) ℓ) (g' : Dev Cert.CombineSReferenceIdeal.nD → PrngReg), Pre_CombineSIdeal m →
    (∀ c : Dev Cert.CombineSIdeal.nD,
      m' ((c.tc : Thread Cert.CombineSReferenceIdeal.nD Cert.CombineSReferenceIdeal.τ).loc Cert.CombineSReferenceIdeal.main_arg0) = m ((c.tc : Thread Cert.CombineSIdeal.nD Cert.CombineSIdeal.τ).loc Cert.CombineSIdeal.main_arg0)
      ∧ m' ((c.tc : Thread Cert.CombineSReferenceIdeal.nD Cert.CombineSReferenceIdeal.τ).loc Cert.CombineSReferenceIdeal.main_arg1) = m ((c.tc : Thread Cert.CombineSIdeal.nD Cert.CombineSIdeal.τ).loc Cert.CombineSIdeal.main_arg1)
      ∧ m' ((c.tc : Thread Cert.CombineSReferenceIdeal.nD Cert.CombineSReferenceIdeal.τ).loc Cert.CombineSReferenceIdeal.main_arg2) = m ((c.tc : Thread Cert.CombineSIdeal.nD Cert.CombineSIdeal.τ).loc Cert.CombineSIdeal.main_arg2)
      ∧ m' ((c.tc : Thread Cert.CombineSReferenceIdeal.nD Cert.CombineSReferenceIdeal.τ).loc Cert.CombineSReferenceIdeal.main_arg3) = m ((c.tc : Thread Cert.CombineSIdeal.nD Cert.CombineSIdeal.τ).loc Cert.CombineSIdeal.main_arg3)
      ∧ m' ((c.tc : Thread Cert.CombineSReferenceIdeal.nD Cert.CombineSReferenceIdeal.τ).loc Cert.CombineSReferenceIdeal.main_arg4) = m ((c.tc : Thread Cert.CombineSIdeal.nD Cert.CombineSIdeal.τ).loc Cert.CombineSIdeal.main_arg4)) →
    ∃ (v0 : (c : Dev Cert.CombineSIdeal.nD) → Buf (Elt Ideal) ((c.tc : Thread Cert.CombineSIdeal.nD Cert.CombineSIdeal.τ).loc Cert.CombineSIdeal.main_v2)),
      θ_run (Cert.CombineSIdeal.defs (F := Ideal)) (onTc (τ := Cert.CombineSIdeal.τ) (Cert.CombineSIdeal.main (F := Ideal))) ⟨m, fun _ => 0, g⟩ (fun r => ∀ c : Dev Cert.CombineSIdeal.nD,
          r.2.mem ((c.tc : Thread Cert.CombineSIdeal.nD Cert.CombineSIdeal.τ).loc Cert.CombineSIdeal.main_v2) = v0 c
          ∧ r.2.mem ((c.tc : Thread Cert.CombineSIdeal.nD Cert.CombineSIdeal.τ).loc Cert.CombineSIdeal.main_arg0) = m ((c.tc : Thread Cert.CombineSIdeal.nD Cert.CombineSIdeal.τ).loc Cert.CombineSIdeal.main_arg0)
          ∧ r.2.mem ((c.tc : Thread Cert.CombineSIdeal.nD Cert.CombineSIdeal.τ).loc Cert.CombineSIdeal.main_arg1) = m ((c.tc : Thread Cert.CombineSIdeal.nD Cert.CombineSIdeal.τ).loc Cert.CombineSIdeal.main_arg1)
          ∧ r.2.mem ((c.tc : Thread Cert.CombineSIdeal.nD Cert.CombineSIdeal.τ).loc Cert.CombineSIdeal.main_arg2) = m ((c.tc : Thread Cert.CombineSIdeal.nD Cert.CombineSIdeal.τ).loc Cert.CombineSIdeal.main_arg2)
          ∧ r.2.mem ((c.tc : Thread Cert.CombineSIdeal.nD Cert.CombineSIdeal.τ).loc Cert.CombineSIdeal.main_arg3) = m ((c.tc : Thread Cert.CombineSIdeal.nD Cert.CombineSIdeal.τ).loc Cert.CombineSIdeal.main_arg3)
          ∧ r.2.mem ((c.tc : Thread Cert.CombineSIdeal.nD Cert.CombineSIdeal.τ).loc Cert.CombineSIdeal.main_arg4) = m ((c.tc : Thread Cert.CombineSIdeal.nD Cert.CombineSIdeal.τ).loc Cert.CombineSIdeal.main_arg4))
      ∧ θ_run (Cert.CombineSReferenceIdeal.defs (F := Ideal)) (onTc (τ := Cert.CombineSReferenceIdeal.τ) (Cert.CombineSReferenceIdeal.main (F := Ideal))) ⟨m', fun _ => 0, g'⟩ (fun r => ∀ c : Dev Cert.CombineSReferenceIdeal.nD,
          r.2.mem ((c.tc : Thread Cert.CombineSReferenceIdeal.nD Cert.CombineSReferenceIdeal.τ).loc Cert.CombineSReferenceIdeal.main_v34) = v0 c
          ∧ r.2.mem ((c.tc : Thread Cert.CombineSReferenceIdeal.nD Cert.CombineSReferenceIdeal.τ).loc Cert.CombineSReferenceIdeal.main_arg0) = m' ((c.tc : Thread Cert.CombineSReferenceIdeal.nD Cert.CombineSReferenceIdeal.τ).loc Cert.CombineSReferenceIdeal.main_arg0)
          ∧ r.2.mem ((c.tc : Thread Cert.CombineSReferenceIdeal.nD Cert.CombineSReferenceIdeal.τ).loc Cert.CombineSReferenceIdeal.main_arg1) = m' ((c.tc : Thread Cert.CombineSReferenceIdeal.nD Cert.CombineSReferenceIdeal.τ).loc Cert.CombineSReferenceIdeal.main_arg1)
          ∧ r.2.mem ((c.tc : Thread Cert.CombineSReferenceIdeal.nD Cert.CombineSReferenceIdeal.τ).loc Cert.CombineSReferenceIdeal.main_arg2) = m' ((c.tc : Thread Cert.CombineSReferenceIdeal.nD Cert.CombineSReferenceIdeal.τ).loc Cert.CombineSReferenceIdeal.main_arg2)
          ∧ r.2.mem ((c.tc : Thread Cert.CombineSReferenceIdeal.nD Cert.CombineSReferenceIdeal.τ).loc Cert.CombineSReferenceIdeal.main_arg3) = m' ((c.tc : Thread Cert.CombineSReferenceIdeal.nD Cert.CombineSReferenceIdeal.τ).loc Cert.CombineSReferenceIdeal.main_arg3)
          ∧ r.2.mem ((c.tc : Thread Cert.CombineSReferenceIdeal.nD Cert.CombineSReferenceIdeal.τ).loc Cert.CombineSReferenceIdeal.main_arg4) = m' ((c.tc : Thread Cert.CombineSReferenceIdeal.nD Cert.CombineSReferenceIdeal.τ).loc Cert.CombineSReferenceIdeal.main_arg4))

def Claim : Prop :=
  ∃ (hGmlp : Cert.Gmlp.Facts) (hGmlpIdeal : Cert.GmlpIdeal.Facts) (hGmlpReferenceIdeal : Cert.GmlpReferenceIdeal.Facts) (hAttnIn : Cert.AttnIn.Facts) (hAttnInIdeal : Cert.AttnInIdeal.Facts) (hAttnInReferenceIdeal : Cert.AttnInReferenceIdeal.Facts) (hGmlpS : Cert.GmlpS.Facts) (hGmlpSIdeal : Cert.GmlpSIdeal.Facts) (hGmlpSReferenceIdeal : Cert.GmlpSReferenceIdeal.Facts) (hAttnInS : Cert.AttnInS.Facts) (hAttnInSIdeal : Cert.AttnInSIdeal.Facts) (hAttnInSReferenceIdeal : Cert.AttnInSReferenceIdeal.Facts) (hMerge : Cert.Merge.Facts) (hMergeIdeal : Cert.MergeIdeal.Facts) (hMergeReferenceIdeal : Cert.MergeReferenceIdeal.Facts) (hMergeS : Cert.MergeS.Facts) (hMergeSIdeal : Cert.MergeSIdeal.Facts) (hMergeSReferenceIdeal : Cert.MergeSReferenceIdeal.Facts) (hExperts : Cert.Experts.Facts) (hExpertsIdeal : Cert.ExpertsIdeal.Facts) (hExpertsReferenceIdeal : Cert.ExpertsReferenceIdeal.Facts) (hCombine : Cert.Combine.Facts) (hCombineIdeal : Cert.CombineIdeal.Facts) (hCombineReferenceIdeal : Cert.CombineReferenceIdeal.Facts) (hExpertsS : Cert.ExpertsS.Facts) (hExpertsSIdeal : Cert.ExpertsSIdeal.Facts) (hExpertsSReferenceIdeal : Cert.ExpertsSReferenceIdeal.Facts) (hCombineS : Cert.CombineS.Facts) (hCombineSIdeal : Cert.CombineSIdeal.Facts) (hCombineSReferenceIdeal : Cert.CombineSReferenceIdeal.Facts) (hPre_groups_named : Cert.Pre_groups_named.Facts) (hPre_groups_and_weights : Cert.Pre_groups_and_weights.Facts) (hPre_in_rows : Cert.Pre_in_rows.Facts) (hPre_sample_groups_named : Cert.Pre_sample_groups_named.Facts) (hPre_sample_groups_and_weights : Cert.Pre_sample_groups_and_weights.Facts) (hPre_sample_in_rows : Cert.Pre_sample_in_rows.Facts) (hOn_residual_columns_MergeIdeal : Cert.On_residual_columns_MergeIdeal.Facts) (hOn_residual_columns_MergeSIdeal : Cert.On_residual_columns_MergeSIdeal.Facts),
    quiescent_Gmlp (hGmlp := hGmlp)
    ∧ quiescent_GmlpIdeal (hGmlpIdeal := hGmlpIdeal)
    ∧ quiescent_GmlpReferenceIdeal (hGmlpReferenceIdeal := hGmlpReferenceIdeal)
    ∧ quiescent_AttnIn (hAttnIn := hAttnIn)
    ∧ quiescent_AttnInIdeal (hAttnInIdeal := hAttnInIdeal)
    ∧ quiescent_AttnInReferenceIdeal (hAttnInReferenceIdeal := hAttnInReferenceIdeal)
    ∧ quiescent_GmlpS (hGmlpS := hGmlpS)
    ∧ quiescent_GmlpSIdeal (hGmlpSIdeal := hGmlpSIdeal)
    ∧ quiescent_GmlpSReferenceIdeal (hGmlpSReferenceIdeal := hGmlpSReferenceIdeal)
    ∧ quiescent_AttnInS (hAttnInS := hAttnInS)
    ∧ quiescent_AttnInSIdeal (hAttnInSIdeal := hAttnInSIdeal)
    ∧ quiescent_AttnInSReferenceIdeal (hAttnInSReferenceIdeal := hAttnInSReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_MergeS (hMergeS := hMergeS)
    ∧ quiescent_MergeSIdeal (hMergeSIdeal := hMergeSIdeal)
    ∧ quiescent_MergeSReferenceIdeal (hMergeSReferenceIdeal := hMergeSReferenceIdeal)
    ∧ quiescent_Experts (hExperts := hExperts) (hPre_groups_named := hPre_groups_named)
    ∧ quiescent_ExpertsIdeal (hExpertsIdeal := hExpertsIdeal) (hPre_groups_named := hPre_groups_named)
    ∧ quiescent_ExpertsIdeal_pre_groups_and_weights (hExpertsIdeal := hExpertsIdeal) (hPre_groups_and_weights := hPre_groups_and_weights)
    ∧ quiescent_ExpertsReferenceIdeal (hExpertsReferenceIdeal := hExpertsReferenceIdeal)
    ∧ quiescent_ExpertsReferenceIdeal_pre_groups_and_weights (hExpertsReferenceIdeal := hExpertsReferenceIdeal) (hPre_groups_and_weights := hPre_groups_and_weights)
    ∧ quiescent_Combine (hCombine := hCombine) (hPre_in_rows := hPre_in_rows)
    ∧ quiescent_CombineIdeal (hCombineIdeal := hCombineIdeal) (hPre_in_rows := hPre_in_rows)
    ∧ quiescent_CombineReferenceIdeal (hCombineReferenceIdeal := hCombineReferenceIdeal)
    ∧ quiescent_CombineReferenceIdeal_pre_in_rows (hCombineReferenceIdeal := hCombineReferenceIdeal) (hPre_in_rows := hPre_in_rows)
    ∧ quiescent_ExpertsS (hExpertsS := hExpertsS) (hPre_sample_groups_named := hPre_sample_groups_named)
    ∧ quiescent_ExpertsSIdeal (hExpertsSIdeal := hExpertsSIdeal) (hPre_sample_groups_named := hPre_sample_groups_named)
    ∧ quiescent_ExpertsSIdeal_pre_sample_groups_and_weights (hExpertsSIdeal := hExpertsSIdeal) (hPre_sample_groups_and_weights := hPre_sample_groups_and_weights)
    ∧ quiescent_ExpertsSReferenceIdeal (hExpertsSReferenceIdeal := hExpertsSReferenceIdeal)
    ∧ quiescent_ExpertsSReferenceIdeal_pre_sample_groups_and_weights (hExpertsSReferenceIdeal := hExpertsSReferenceIdeal) (hPre_sample_groups_and_weights := hPre_sample_groups_and_weights)
    ∧ quiescent_CombineS (hCombineS := hCombineS) (hPre_sample_in_rows := hPre_sample_in_rows)
    ∧ quiescent_CombineSIdeal (hCombineSIdeal := hCombineSIdeal) (hPre_sample_in_rows := hPre_sample_in_rows)
    ∧ quiescent_CombineSReferenceIdeal (hCombineSReferenceIdeal := hCombineSReferenceIdeal)
    ∧ quiescent_CombineSReferenceIdeal_pre_sample_in_rows (hCombineSReferenceIdeal := hCombineSReferenceIdeal) (hPre_sample_in_rows := hPre_sample_in_rows)
    ∧ preserves_Gmlp_GmlpIdeal
    ∧ algebraic_GmlpIdeal_GmlpReferenceIdeal (hGmlpIdeal := hGmlpIdeal) (hGmlpReferenceIdeal := hGmlpReferenceIdeal)
    ∧ preserves_AttnIn_AttnInIdeal
    ∧ algebraic_AttnInIdeal_AttnInReferenceIdeal (hAttnInIdeal := hAttnInIdeal) (hAttnInReferenceIdeal := hAttnInReferenceIdeal)
    ∧ preserves_GmlpS_GmlpSIdeal
    ∧ algebraic_GmlpSIdeal_GmlpSReferenceIdeal (hGmlpSIdeal := hGmlpSIdeal) (hGmlpSReferenceIdeal := hGmlpSReferenceIdeal)
    ∧ preserves_AttnInS_AttnInSIdeal
    ∧ algebraic_AttnInSIdeal_AttnInSReferenceIdeal (hAttnInSIdeal := hAttnInSIdeal) (hAttnInSReferenceIdeal := hAttnInSReferenceIdeal)
    ∧ preserves_Merge_MergeIdeal
    ∧ algebraic_MergeIdeal_MergeReferenceIdeal_on_residual_columns_MergeIdeal (hMergeIdeal := hMergeIdeal) (hMergeReferenceIdeal := hMergeReferenceIdeal) (hOn_residual_columns_MergeIdeal := hOn_residual_columns_MergeIdeal)
    ∧ preserves_MergeS_MergeSIdeal
    ∧ algebraic_MergeSIdeal_MergeSReferenceIdeal_on_residual_columns_MergeSIdeal (hMergeSIdeal := hMergeSIdeal) (hMergeSReferenceIdeal := hMergeSReferenceIdeal) (hOn_residual_columns_MergeSIdeal := hOn_residual_columns_MergeSIdeal)
    ∧ preserves_Experts_ExpertsIdeal
    ∧ algebraic_ExpertsIdeal_ExpertsReferenceIdeal_pre_groups_and_weights (hExpertsIdeal := hExpertsIdeal) (hExpertsReferenceIdeal := hExpertsReferenceIdeal) (hPre_groups_and_weights := hPre_groups_and_weights)
    ∧ preserves_Combine_CombineIdeal
    ∧ algebraic_CombineIdeal_CombineReferenceIdeal (hCombineIdeal := hCombineIdeal) (hCombineReferenceIdeal := hCombineReferenceIdeal) (hPre_in_rows := hPre_in_rows)
    ∧ preserves_ExpertsS_ExpertsSIdeal
    ∧ algebraic_ExpertsSIdeal_ExpertsSReferenceIdeal_pre_sample_groups_and_weights (hExpertsSIdeal := hExpertsSIdeal) (hExpertsSReferenceIdeal := hExpertsSReferenceIdeal) (hPre_sample_groups_and_weights := hPre_sample_groups_and_weights)
    ∧ preserves_CombineS_CombineSIdeal
    ∧ algebraic_CombineSIdeal_CombineSReferenceIdeal (hCombineSIdeal := hCombineSIdeal) (hCombineSReferenceIdeal := hCombineSReferenceIdeal) (hPre_sample_in_rows := hPre_sample_in_rows)
-- ==== On_residual_columns_MergeIdeal.lean ====
abbrev S16384x1024 : Shape := ⟨2, ![16384, 1024]⟩
abbrev S1024x16384 : Shape := ⟨2, ![1024, 16384]⟩
abbrev S1024x1024 : Shape := ⟨2, ![1024, 1024]⟩
abbrev S1024 : Shape := ⟨1, ![1024]⟩
abbrev S1024x16 : Shape := ⟨2, ![1024, 16]⟩
abbrev S16 : Shape := ⟨1, ![16]⟩
abbrev S512x512 : Shape := ⟨2, ![512, 512]⟩
abbrev S16384x1152 : Shape := ⟨2, ![16384, 1152]⟩
abbrev S_ : Shape := ⟨0, ![]⟩

class Facts : Prop where
  bcast_S_S16384x1152 : S_.BroadcastsInDim S16384x1152 (![] : Fin 0 → Fin S16384x1152.rank)

variable [Facts]

def fn {F : FTy → Type} [FloatOps F] (main_arg0 : FVec F S16384x1024 .f32) (main_arg1 : FVec F S16384x1024 .f32) (main_arg2 : FVec F S16384x1024 .f32) (main_arg3 : FVec F S1024x16384 .bf16) (main_arg4 : FVec F S1024x1024 .f32) (main_arg5 : FVec F S1024x1024 .f32) (main_arg6 : FVec F S1024 .f32) (main_arg7 : FVec F S1024 .f32) (main_arg8 : FVec F S1024x16 .f32) (main_arg9 : FVec F S16 .f32) (main_arg10 : FVec F S512x512 .bf16) : IVec S16384x1152 1 :=
  let main_v0 : IVec S16384x1152 32 := iotaInDim S16384x1152 32 1
  let main_c : IVec S_ 32 := constantI S_ 32 1024#32
  let main_v1 : IVec S16384x1152 32 := broadcastInDim S16384x1152 ![] bcast_S_S16384x1152 main_c
  let main_v2 : IVec S16384x1152 1 := cmpi .slt main_v0 main_v1
  main_v2
-- ==== On_residual_columns_MergeSIdeal.lean ====
abbrev S128x1024 : Shape := ⟨2, ![128, 1024]⟩
abbrev S1024x1024 : Shape := ⟨2, ![1024, 1024]⟩
abbrev S1024 : Shape := ⟨1, ![1024]⟩
abbrev S1024x16 : Shape := ⟨2, ![1024, 16]⟩
abbrev S16 : Shape := ⟨1, ![16]⟩
abbrev S128x128 : Shape := ⟨2, ![128, 128]⟩
abbrev S128x1152 : Shape := ⟨2, ![128, 1152]⟩
abbrev S_ : Shape := ⟨0, ![]⟩

class Facts : Prop where
  bcast_S_S128x1152 : S_.BroadcastsInDim S128x1152 (![] : Fin 0 → Fin S128x1152.rank)

variable [Facts]

def fn {F : FTy → Type} [FloatOps F] (main_arg0 : FVec F S128x1024 .f32) (main_arg1 : FVec F S128x1024 .f32) (main_arg2 : FVec F S128x1024 .f32) (main_arg3 : FVec F S128x1024 .f32) (main_arg4 : FVec F S1024x1024 .f32) (main_arg5 : FVec F S1024x1024 .f32) (main_arg6 : FVec F S1024 .f32) (main_arg7 : FVec F S1024 .f32) (main_arg8 : FVec F S1024x16 .f32) (main_arg9 : FVec F S16 .f32) (main_arg10 : FVec F S128x128 .bf16) : IVec S128x1152 1 :=
  let main_v0 : IVec S128x1152 32 := iotaInDim S128x1152 32 1
  let main_c : IVec S_ 32 := constantI S_ 32 1024#32
  let main_v1 : IVec S128x1152 32 := broadcastInDim S128x1152 ![] bcast_S_S128x1152 main_c
  let main_v2 : IVec S128x1152 1 := cmpi .slt main_v0 main_v1
  main_v2
-- ==== Pre_groups_and_weights.lean ====
abbrev S68 : Shape := ⟨1, ![68]⟩
abbrev S1 : Shape := ⟨1, ![1]⟩
abbrev S17408x1152 : Shape := ⟨2, ![17408, 1152]⟩
abbrev S16x1024x512 : Shape := ⟨3, ![16, 1024, 512]⟩
abbrev S16x512x1024 : Shape := ⟨3, ![16, 512, 1024]⟩
abbrev S17408x4 : Shape := ⟨2, ![17408, 4]⟩
abbrev S_ : Shape := ⟨0, ![]⟩

class Facts : Prop where
  slices_S17408x1152_S17408x4_0_1024 : S17408x1152.Slices ![0, 1024] S17408x4
  bcast_S_S68 : S_.BroadcastsInDim S68 (![] : Fin 0 → Fin S68.rank)
  bcast_S_S17408x4 : S_.BroadcastsInDim S17408x4 (![] : Fin 0 → Fin S17408x4.rank)

variable [Facts]

def fn {F : FTy → Type} [FloatOps F] (main_arg0 : IVec S68 32) (main_arg1 : IVec S1 32) (main_arg2 : FVec F S17408x1152 .f32) (main_arg3 : FVec F S16x1024x512 .f32) (main_arg4 : FVec F S16x1024x512 .f32) (main_arg5 : FVec F S16x512x1024 .f32) : IVec S68 1 × IVec S17408x4 1 :=
  let main_v0 : FVec F S17408x4 .f32 := (extractStridedSlice S17408x4 ![0, 1024] · slices_S17408x1152_S17408x4_0_1024) main_arg2
  let main_c : IVec S_ 32 := constantI S_ 32 0#32
  let main_v1 : IVec S68 32 := broadcastInDim S68 ![] bcast_S_S68 main_c
  let main_v2 : IVec S68 1 := cmpi .sge main_arg0 main_v1
  let main_c_0 : IVec S_ 32 := constantI S_ 32 4#32
  let main_v3 : IVec S68 32 := broadcastInDim S68 ![] bcast_S_S68 main_c_0
  let main_v4 : IVec S68 1 := cmpi .slt main_arg0 main_v3
  let main_v5 : IVec S68 1 := andi main_v2 main_v4
  let main_cst : FVec F S_ .f32 := constant S_ .f32 0x00000000#32
  let main_v6 : FVec F S17408x4 .f32 := broadcastInDim S17408x4 ![] bcast_S_S17408x4 main_cst
  let main_v7 : IVec S17408x4 1 := cmpf .oge main_v0 main_v6
  let main_cst_1 : FVec F S_ .f32 := constant S_ .f32 0x7F800000#32
  let main_v8 : FVec F S17408x4 .f32 := broadcastInDim S17408x4 ![] bcast_S_S17408x4 main_cst_1
  let main_v9 : IVec S17408x4 1 := cmpf .olt main_v0 main_v8
  let main_v10 : IVec S17408x4 1 := andi main_v7 main_v9
  (main_v5, main_v10)
-- ==== Pre_groups_named.lean ====
abbrev S68 : Shape := ⟨1, ![68]⟩
abbrev S1 : Shape := ⟨1, ![1]⟩
abbrev S17408x1152 : Shape := ⟨2, ![17408, 1152]⟩
abbrev S16x1024x512 : Shape := ⟨3, ![16, 1024, 512]⟩
abbrev S16x512x1024 : Shape := ⟨3, ![16, 512, 1024]⟩
abbrev S_ : Shape := ⟨0, ![]⟩

class Facts : Prop where
  bcast_S_S68 : S_.BroadcastsInDim S68 (![] : Fin 0 → Fin S68.rank)

variable [Facts]

def fn {F : FTy → Type} [FloatOps F] (main_arg0 : IVec S68 32) (main_arg1 : IVec S1 32) (main_arg2 : FVec F S17408x1152 .f32) (main_arg3 : FVec F S16x1024x512 .f32) (main_arg4 : FVec F S16x1024x512 .f32) (main_arg5 : FVec F S16x512x1024 .f32) : IVec S68 1 :=
  let main_c : IVec S_ 32 := constantI S_ 32 0#32
  let main_v0 : IVec S68 32 := broadcastInDim S68 ![] bcast_S_S68 main_c
  let main_v1 : IVec S68 1 := cmpi .sge main_arg0 main_v0
  let main_c_0 : IVec S_ 32 := constantI S_ 32 4#32
  let main_v2 : IVec S68 32 := broadcastInDim S68 ![] bcast_S_S68 main_c_0
  let main_v3 : IVec S68 1 := cmpi .slt main_arg0 main_v2
  let main_v4 : IVec S68 1 := andi main_v1 main_v3
  main_v4
-- ==== Pre_in_rows.lean ====
abbrev S16384 : Shape := ⟨1, ![16384]⟩
abbrev S16384x1152 : Shape := ⟨2, ![16384, 1152]⟩
abbrev S17408x1024 : Shape := ⟨2, ![17408, 1024]⟩
abbrev S1024 : Shape := ⟨1, ![1024]⟩
abbrev S_ : Shape := ⟨0, ![]⟩

class Facts : Prop where
  bcast_S_S16384 : S_.BroadcastsInDim S16384 (![] : Fin 0 → Fin S16384.rank)

variable [Facts]

def fn {F : FTy → Type} [FloatOps F] (main_arg0 : IVec S16384 32) (main_arg1 : FVec F S16384x1152 .f32) (main_arg2 : FVec F S17408x1024 .f32) (main_arg3 : FVec F S1024 .f32) (main_arg4 : FVec F S1024 .f32) : IVec S16384 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 17408#32
  let main_v2 : IVec S16384 32 := broadcastInDim S16384 ![] bcast_S_S16384 main_c_0
  let main_v3 : IVec S16384 1 := cmpi .slt main_arg0 main_v2
  let main_v4 : IVec S16384 1 := andi main_v1 main_v3
  main_v4
-- ==== Pre_sample_groups_and_weights.lean ====
abbrev S5 : Shape := ⟨1, ![5]⟩
abbrev S1 : Shape := ⟨1, ![1]⟩
abbrev S640x1152 : Shape := ⟨2, ![640, 1152]⟩
abbrev S16x1024x512 : Shape := ⟨3, ![16, 1024, 512]⟩
abbrev S16x512x1024 : Shape := ⟨3, ![16, 512, 1024]⟩
abbrev S640x4 : Shape := ⟨2, ![640, 4]⟩
abbrev S_ : Shape := ⟨0, ![]⟩

class Facts : Prop where
  slices_S640x1152_S640x4_0_1024 : S640x1152.Slices ![0, 1024] S640x4
  bcast_S_S5 : S_.BroadcastsInDim S5 (![] : Fin 0 → Fin S5.rank)
  bcast_S_S640x4 : S_.BroadcastsInDim S640x4 (![] : Fin 0 → Fin S640x4.rank)

variable [Facts]

def fn {F : FTy → Type} [FloatOps F] (main_arg0 : IVec S5 32) (main_arg1 : IVec S1 32) (main_arg2 : FVec F S640x1152 .f32) (main_arg3 : FVec F S16x1024x512 .f32) (main_arg4 : FVec F S16x1024x512 .f32) (main_arg5 : FVec F S16x512x1024 .f32) : IVec S5 1 × IVec S640x4 1 :=
  let main_v0 : FVec F S640x4 .f32 := (extractStridedSlice S640x4 ![0, 1024] · slices_S640x1152_S640x4_0_1024) main_arg2
  let main_c : IVec S_ 32 := constantI S_ 32 0#32
  let main_v1 : IVec S5 32 := broadcastInDim S5 ![] bcast_S_S5 main_c
  let main_v2 : IVec S5 1 := cmpi .sge main_arg0 main_v1
  let main_c_0 : IVec S_ 32 := constantI S_ 32 4#32
  let main_v3 : IVec S5 32 := broadcastInDim S5 ![] bcast_S_S5 main_c_0
  let main_v4 : IVec S5 1 := cmpi .slt main_arg0 main_v3
  let main_v5 : IVec S5 1 := andi main_v2 main_v4
  let main_cst : FVec F S_ .f32 := constant S_ .f32 0x00000000#32
  let main_v6 : FVec F S640x4 .f32 := broadcastInDim S640x4 ![] bcast_S_S640x4 main_cst
  let main_v7 : IVec S640x4 1 := cmpf .oge main_v0 main_v6
  let main_cst_1 : FVec F S_ .f32 := constant S_ .f32 0x7F800000#32
  let main_v8 : FVec F S640x4 .f32 := broadcastInDim S640x4 ![] bcast_S_S640x4 main_cst_1
  let main_v9 : IVec S640x4 1 := cmpf .olt main_v0 main_v8
  let main_v10 : IVec S640x4 1 := andi main_v7 main_v9
  (main_v5, main_v10)
-- ==== Pre_sample_groups_named.lean ====
abbrev S5 : Shape := ⟨1, ![5]⟩
abbrev S1 : Shape := ⟨1, ![1]⟩
abbrev S640x1152 : Shape := ⟨2, ![640, 1152]⟩
abbrev S16x1024x512 : Shape := ⟨3, ![16, 1024, 512]⟩
abbrev S16x512x1024 : Shape := ⟨3, ![16, 512, 1024]⟩
abbrev S_ : Shape := ⟨0, ![]⟩

class Facts : Prop where
  bcast_S_S5 : S_.BroadcastsInDim S5 (![] : Fin 0 → Fin S5.rank)

variable [Facts]

def fn {F : FTy → Type} [FloatOps F] (main_arg0 : IVec S5 32) (main_arg1 : IVec S1 32) (main_arg2 : FVec F S640x1152 .f32) (main_arg3 : FVec F S16x1024x512 .f32) (main_arg4 : FVec F S16x1024x512 .f32) (main_arg5 : FVec F S16x512x1024 .f32) : IVec S5 1 :=
  let main_c : IVec S_ 32 := constantI S_ 32 0#32
  let main_v0 : IVec S5 32 := broadcastInDim S5 ![] bcast_S_S5 main_c
  let main_v1 : IVec S5 1 := cmpi .sge main_arg0 main_v0
  let main_c_0 : IVec S_ 32 := constantI S_ 32 4#32
  let main_v2 : IVec S5 32 := broadcastInDim S5 ![] bcast_S_S5 main_c_0
  let main_v3 : IVec S5 1 := cmpi .slt main_arg0 main_v2
  let main_v4 : IVec S5 1 := andi main_v1 main_v3
  main_v4
-- ==== Pre_sample_in_rows.lean ====
abbrev S128 : Shape := ⟨1, ![128]⟩
abbrev S128x1152 : Shape := ⟨2, ![128, 1152]⟩
abbrev S640x1024 : Shape := ⟨2, ![640, 1024]⟩
abbrev S1024 : Shape := ⟨1, ![1024]⟩
abbrev S_ : Shape := ⟨0, ![]⟩

class Facts : Prop where
  bcast_S_S128 : S_.BroadcastsInDim S128 (![] : Fin 0 → Fin S128.rank)

variable [Facts]

def fn {F : FTy → Type} [FloatOps F] (main_arg0 : IVec S128 32) (main_arg1 : FVec F S128x1152 .f32) (main_arg2 : FVec F S640x1024 .f32) (main_arg3 : FVec F S1024 .f32) (main_arg4 : FVec F S1024 .f32) : IVec S128 1 :=
  let main_c : IVec S_ 32 := constantI S_ 32 0#32
  let main_v0 : IVec S128 32 := broadcastInDim S128 ![] bcast_S_S128 main_c
  let main_v1 : IVec S128 1 := cmpi .sge main_arg0 main_v0
  let main_c_0 : IVec S_ 32 := constantI S_ 32 640#32
  let main_v2 : IVec S128 32 := broadcastInDim S128 ![] bcast_S_S128 main_c_0
  let main_v3 : IVec S128 1 := cmpi .slt main_arg0 main_v2
  let main_v4 : IVec S128 1 := andi main_v1 main_v3
  main_v4
-- ==== Gmlp.lean ====
abbrev S16384x1024 : Shape := ⟨2, ![16384, 1024]⟩
abbrev S1024x5936 : Shape := ⟨2, ![1024, 5936]⟩
abbrev S1024 : Shape := ⟨1, ![1024]⟩
abbrev S8x128x128 : Shape := ⟨3, ![8, 128, 128]⟩
abbrev S8x128 : Shape := ⟨2, ![8, 128]⟩
abbrev S1024x1024 : Shape := ⟨2, ![1024, 1024]⟩
abbrev S1x1024 : Shape := ⟨2, ![1, 1024]⟩
abbrev S128x8 : Shape := ⟨2, ![128, 8]⟩
abbrev S512x1024 : Shape := ⟨2, ![512, 1024]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x512 : Shape := ⟨2, ![128, 512]⟩
abbrev S128x1 : Shape := ⟨2, ![128, 1]⟩
abbrev S512x128 : Shape := ⟨2, ![512, 128]⟩

abbrev nBuf : Space → Nat
  | .hbm => 18
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024x5936, .f32⟩
  | .hbm, ⟨2, _⟩ => ⟨S1024, .f32⟩
  | .hbm, ⟨3, _⟩ => ⟨S1024, .f32⟩
  | .hbm, ⟨4, _⟩ => ⟨S8x128x128, .f32⟩
  | .hbm, ⟨5, _⟩ => ⟨S8x128, .f32⟩
  | .hbm, ⟨6, _⟩ => ⟨S1024x1024, .f32⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024x1024, .bf16⟩
  | .hbm, ⟨14, _⟩ => ⟨S1x1024, .f32⟩
  | .hbm, ⟨15, _⟩ => ⟨S1x1024, .f32⟩
  | .hbm, ⟨16, _⟩ => ⟨S128x8, .f32⟩
  | .hbm, ⟨17, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S8x128x128, .f32⟩
  | .local _ .vmem, ⟨9, _⟩ => ⟨S128x8, .f32⟩
  | .local _ .vmem, ⟨10, _⟩ => ⟨S512x1024, .f32⟩
  | .local _ .vmem, ⟨11, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== GmlpReferenceIdeal.lean ====
abbrev S16384x1024 : Shape := ⟨2, ![16384, 1024]⟩
abbrev S1024x5936 : Shape := ⟨2, ![1024, 5936]⟩
abbrev S1024 : Shape := ⟨1, ![1024]⟩
abbrev S8x128x128 : Shape := ⟨3, ![8, 128, 128]⟩
abbrev S8x128 : Shape := ⟨2, ![8, 128]⟩
abbrev S1024x1024 : Shape := ⟨2, ![1024, 1024]⟩
abbrev S2x8192x1024 : Shape := ⟨3, ![2, 8192, 1024]⟩
abbrev S2x8192x5936 : Shape := ⟨3, ![2, 8192, 5936]⟩
abbrev S2x8192x128 : Shape := ⟨3, ![2, 8192, 128]⟩
abbrev S2x8192x48 : Shape := ⟨3, ![2, 8192, 48]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x64x128x8x128 : Shape := ⟨5, ![2, 64, 128, 8, 128]⟩
abbrev S128x128 : Shape := ⟨2, ![128, 128]⟩
abbrev S1x128x128 : Shape := ⟨3, ![1, 128, 128]⟩
abbrev S8x2x64x128x128 : Shape := ⟨5, ![8, 2, 64, 128, 128]⟩
abbrev S128x8 : Shape := ⟨2, ![128, 8]⟩
abbrev S1x1x128x8x1 : Shape := ⟨5, ![1, 1, 128, 8, 1]⟩

abbrev nBuf : Space → Nat
  | .hbm => 124
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5936, .f32⟩
  | .hbm, ⟨2, _⟩ => ⟨S1024, .f32⟩
  | .hbm, ⟨3, _⟩ => ⟨S1024, .f32⟩
  | .hbm, ⟨4, _⟩ => ⟨S8x128x128, .f32⟩
  | .hbm, ⟨5, _⟩ => ⟨S8x128, .f32⟩
  | .hbm, ⟨6, _⟩ => ⟨S1024x1024, .f32⟩
  | .hbm, ⟨7, _⟩ => ⟨S2x8192x1024, .f32⟩
  | .hbm, ⟨8, _⟩ => ⟨S2x8192x5936, .f32⟩
  | .hbm, ⟨9, _⟩ => ⟨S2x8192x1024, .f32⟩
  | .hbm, ⟨10, _⟩ => ⟨S2x8192x1024, .f32⟩
  | .hbm, ⟨11, _⟩ => ⟨S2x8192x1024, .f32⟩
  | .hbm, ⟨12, _⟩ => ⟨S2x8192x128, .f32⟩
  | .hbm, ⟨13, _⟩ => ⟨S2x8192x128, .f32⟩
  | .hbm, ⟨14, _⟩ => ⟨S2x8192x128, .f32⟩
  | .hbm, ⟨15, _⟩ => ⟨S2x8192x128, .f32⟩
  | .hbm, ⟨16, _⟩ => ⟨S2x8192x128, .f32⟩
  | .hbm, ⟨17, _⟩ => ⟨S2x8192x128, .f32⟩
  | .hbm, ⟨18, _⟩ => ⟨S2x8192x48, .f32⟩
  | .hbm, ⟨19, _⟩ => ⟨S2x8192x1024, .f32⟩
  | .hbm, ⟨20, _⟩ => ⟨S2x8192x1024, .f32⟩
  | .hbm, ⟨21, _⟩ => ⟨S2x8192x1024, .f32⟩
  | .hbm, ⟨22, _⟩ => ⟨S2x8192x1024, .f32⟩
  | .hbm, ⟨23, _⟩ => ⟨S_, .f32⟩
  | .hbm, ⟨24, _⟩ => ⟨S2x8192x1024, .f32⟩
  | .hbm, ⟨25, _⟩ => ⟨S2x8192x1024, .f32⟩
  | .hbm, ⟨26, _⟩ => ⟨S2x8192x1024, .f32⟩
  | .hbm, ⟨27, _⟩ => ⟨S_, .f32⟩
  | .hbm, ⟨28, _⟩ => ⟨S2x8192x1024, .f32⟩
  | .hbm, ⟨29, _⟩ => ⟨S2x8192x1024, .f32⟩
  | .hbm, ⟨30, _⟩ => ⟨S2x8192x1024, .f32⟩
  | .hbm, ⟨31, _⟩ => ⟨S_, .f32⟩
  | .hbm, ⟨32, _⟩ => ⟨S2x8192x1024, .f32⟩
  | .hbm, ⟨33, _⟩ => ⟨S2x8192x1024, .f32⟩
  | .hbm, ⟨34, _⟩ => ⟨S_, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S_, .f32⟩
  | .hbm, ⟨39, _⟩ => ⟨S2x8192, .f32⟩
  | .hbm, ⟨40, _⟩ => ⟨S2x8192x1, .f32⟩
  | .hbm, ⟨41, _⟩ => ⟨S_, .f32⟩
  | .hbm, ⟨42, _⟩ => ⟨S2x8192x1, .f32⟩
  | .hbm, ⟨43, _⟩ => ⟨S2x8192x1, .f32⟩
  | .hbm, ⟨44, _⟩ => ⟨S2x8192x1024, .f32⟩
  | .hbm, ⟨45, _⟩ => ⟨S2x8192x1024, .f32⟩
  | .hbm, ⟨46, _⟩ => ⟨S2x8192x1024, .f32⟩
  | .hbm, ⟨47, _⟩ => ⟨S_, .f32⟩
  | .hbm, ⟨48, _⟩ => ⟨S2x8192, .f32⟩
  | .hbm, ⟨49, _⟩ => ⟨S2x8192x1, .f32⟩
  | .hbm, ⟨50, _⟩ => ⟨S_, .f32⟩
  | .hbm, ⟨51, _⟩ => ⟨S2x8192x1, .f32⟩
  | .hbm, ⟨52, _⟩ => ⟨S2x8192x1, .f32⟩
  | .hbm, ⟨53, _⟩ => ⟨S2x8192x1024, .f32⟩
  | .hbm, ⟨54, _⟩ => ⟨S2x8192x1024, .f32⟩
  | .hbm, ⟨55, _⟩ => ⟨S_, .f32⟩
  | .hbm, ⟨56, _⟩ => ⟨S2x8192x1, .f32⟩
  | .hbm, ⟨57, _⟩ => ⟨S2x8192x1, .f32⟩
  | .hbm, ⟨58, _⟩ => ⟨S2x8192x1, .f32⟩
  | .hbm, ⟨59, _⟩ => ⟨S2x8192x1024, .f32⟩
  | .hbm, ⟨60, _⟩ => ⟨S2x8192x1024, .f32⟩
  | .hbm, ⟨61, _⟩ => ⟨S1x1x1024, .f32⟩
  | .hbm, ⟨62, _⟩ => ⟨S2x8192x1024, .f32⟩
  | .hbm, ⟨63, _⟩ => ⟨S2x8192x1024, .f32⟩
  | .hbm, ⟨64, _⟩ => ⟨S1x1x1024, .f32⟩
  | .hbm, ⟨65, _⟩ => ⟨S2x8192x1024, .f32⟩
  | .hbm, ⟨66, _⟩ => ⟨S2x8192x1024, .f32⟩
  | .hbm, ⟨67, _⟩ => ⟨S2x8192x1024, .f32⟩
  | .hbm, ⟨68, _⟩ => ⟨S2x8192x1024, .f32⟩
  | .hbm, ⟨69, _⟩ => ⟨S_, .f32⟩
  | .hbm, ⟨70, _⟩ => ⟨S2x8192x1024, .f32⟩
  | .hbm, ⟨71, _⟩ => ⟨S2x8192x1024, .f32⟩
  | .hbm, ⟨72, _⟩ => ⟨S2x8192x1024, .f32⟩
  | .hbm, ⟨73, _⟩ => ⟨S_, .f32⟩
  | .hbm, ⟨74, _⟩ => ⟨S2x8192x1024, .f32⟩
  | .hbm, ⟨75, _⟩ => ⟨S2x8192x1024, .f32⟩
  | .hbm, ⟨76, _⟩ => ⟨S2x8192x1024, .f32⟩
  | .hbm, ⟨77, _⟩ => ⟨S_, .f32⟩
  | .hbm, ⟨78, _⟩ => ⟨S2x8192x1024, .f32⟩
  | .hbm, ⟨79, _⟩ => ⟨S2x8192x1024, .f32⟩
  | .hbm, ⟨80, _⟩ => ⟨S_, .f32⟩
  | .hbm, ⟨81, _⟩ => ⟨S2x8192x1024, .f32⟩
  | .hbm, ⟨82, _⟩ => ⟨S2x8192x1024, .f32⟩
  | .hbm, ⟨83, _⟩ => ⟨S2x8192x1024, .f32⟩
  | .hbm, ⟨84, _⟩ => ⟨S_, .i32⟩
  | .hbm, ⟨85, _⟩ => ⟨S_, .f32⟩
  | .hbm, ⟨86, _⟩ => ⟨S2x8192x1024, .f32⟩
  | .hbm, ⟨87, _⟩ => ⟨S2x64x128x8x128, .f32⟩
  | .hbm, ⟨88, _⟩ => ⟨S_, .i1⟩
  | .hbm, ⟨89, _⟩ => ⟨S128x128, .i1⟩
  | .hbm, ⟨90, _⟩ => ⟨S128x128, .i32⟩
  | .hbm, ⟨91, _⟩ => ⟨S_, .i32⟩
  | .hbm, ⟨92, _⟩ => ⟨S128x128, .i32⟩
  | .hbm, ⟨93, _⟩ => ⟨S128x128, .i32⟩
  | .hbm, ⟨94, _⟩ => ⟨S128x128, .i32⟩
  | .hbm, ⟨95, _⟩ => ⟨S128x128, .i1⟩
  | .hbm, ⟨96, _⟩ => ⟨S_, .i1⟩
  | .hbm, ⟨97, _⟩ => ⟨S128x128, .i1⟩
  | .hbm, ⟨98, _⟩ => ⟨S128x128, .i1⟩
  | .hbm, ⟨99, _⟩ => ⟨S1x128x128, .i1⟩
  | .hbm, ⟨100, _⟩ => ⟨S_, .f32⟩
  | .hbm, ⟨101, _⟩ => ⟨S_, .f32⟩
  | .hbm, ⟨102, _⟩ => ⟨S8x128x128, .i1⟩
  | .hbm, ⟨103, _⟩ => ⟨S8x128x128, .f32⟩
  | .hbm, ⟨104, _⟩ => ⟨S8x128x128, .f32⟩
  | .hbm, ⟨105, _⟩ => ⟨S8x2x64x128x128, .f32⟩
  | .hbm, ⟨106, _⟩ => ⟨S2x64x128x8x128, .f32⟩
  | .hbm, ⟨107, _⟩ => ⟨S128x8, .f32⟩
  | .hbm, ⟨108, _⟩ => ⟨S1x1x128x8x1, .f32⟩
  | .hbm, ⟨109, _⟩ => ⟨S2x64x128x8x128, .f32⟩
  | .hbm, ⟨110, _⟩ => ⟨S2x64x128x8x128, .f32⟩
  | .hbm, ⟨111, _⟩ => ⟨S2x8192x1024, .f32⟩
  | .hbm, ⟨112, _⟩ => ⟨S2x8192x1024, .f32⟩
  | .hbm, ⟨113, _⟩ => ⟨S2x8192x1024, .f32⟩
  | .hbm, ⟨114, _⟩ => ⟨S2x8192x1024, .f32⟩
  | .hbm, ⟨115, _⟩ => ⟨S_, .f32⟩
  | .hbm, ⟨116, _⟩ => ⟨S2x8192x1024, .f32⟩
  | .hbm, ⟨117, _⟩ => ⟨S2x8192x1024, .f32⟩
  | .hbm, ⟨118, _⟩ => ⟨S_, .f32⟩
  | .hbm, ⟨119, _⟩ => ⟨S2x8192x1024, .f32⟩
  | .hbm, ⟨120, _⟩ => ⟨S2x8192x1024, .f32⟩
  | .hbm, ⟨121, _⟩ => ⟨S2x8192x1024, .f32⟩
  | .hbm, ⟨122, _⟩ => ⟨S2x8192x1024, .f32⟩
  | .hbm, ⟨123, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_8 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_9 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_10 : Ref sig .tc := ⟨.hbm, 77, rfl⟩
abbrev main_v59 : Ref sig .tc := ⟨.hbm, 78, rfl⟩
abbrev main_v60 : Ref sig .tc := ⟨.hbm, 79, rfl⟩
abbrev main_cst_11 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_c : Ref sig .tc := ⟨.hbm, 84, rfl⟩
abbrev main_call0_v0 : Ref sig .tc := ⟨.hbm, 85, rfl⟩
abbrev main_v64 : Ref sig .tc := ⟨.hbm, 86, rfl⟩
abbrev main_v65 : Ref sig .tc := ⟨.hbm, 87, rfl⟩
abbrev main_c_12 : Ref sig .tc := ⟨.hbm, 88, rfl⟩
abbrev main_v66 : Ref sig .tc := ⟨.hbm, 89, rfl⟩
abbrev main_call1_v0 : Ref sig .tc := ⟨.hbm, 90, rfl⟩
abbrev main_call1_c : Ref sig .tc := ⟨.hbm, 91, rfl⟩
abbrev main_call1_v1 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_call1_c_0 : Ref sig .tc := ⟨.hbm, 96, rfl⟩
abbrev main_call1_v5 : Ref sig .tc := ⟨.hbm, 97, rfl⟩
abbrev main_v67 : Ref sig .tc := ⟨.hbm, 98, rfl⟩
abbrev main_v68 : Ref sig .tc := ⟨.hbm, 99, rfl⟩
abbrev main_cst_13 : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_14 : Ref sig .tc := ⟨.hbm, 115, rfl⟩
abbrev main_v80 : Ref sig .tc := ⟨.hbm, 116, rfl⟩
abbrev main_v81 : Ref sig .tc := ⟨.hbm, 117, rfl⟩
abbrev main_cst_15 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩

abbrev nD : Nat := 1
abbrev τ : Topo := Topo.v7x

variable {F : FTy → Type} [FloatOps F]
-- ==== AttnIn.lean ====
abbrev S16384x1024 : Shape := ⟨2, ![16384, 1024]⟩
abbrev S1024x5936 : Shape := ⟨2, ![1024, 5936]⟩
abbrev S1024x48 : Shape := ⟨2, ![1024, 48]⟩
abbrev S1024x2x8x3 : Shape := ⟨4, ![1024, 2, 8, 3]⟩
abbrev S2x3x8x1024 : Shape := ⟨4, ![2, 3, 8, 1024]⟩
abbrev S48x1024 : Shape := ⟨2, ![48, 1024]⟩
abbrev S1024x1024 : Shape := ⟨2, ![1024, 1024]⟩
abbrev S1024x768 : Shape := ⟨2, ![1024, 768]⟩
abbrev S768x1024 : Shape := ⟨2, ![768, 1024]⟩
abbrev S16384x768 : Shape := ⟨2, ![16384, 768]⟩
abbrev S768x16384 : Shape := ⟨2, ![768, 16384]⟩
abbrev S1024x16384 : Shape := ⟨2, ![1024, 16384]⟩
abbrev S48x16384 : Shape := ⟨2, ![48, 16384]⟩
abbrev S512x1024 : Shape := ⟨2, ![512, 1024]⟩
abbrev S512x768 : Shape := ⟨2, ![512, 768]⟩
abbrev S768x512 : Shape := ⟨2, ![768, 512]⟩
abbrev S1024x512 : Shape := ⟨2, ![1024, 512]⟩
abbrev S48x512 : Shape := ⟨2, ![48, 512]⟩

abbrev nBuf : Space → Nat
  | .hbm => 23
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S1024x5936, .f32⟩
  | .hbm, ⟨2, _⟩ => ⟨S1024x48, .f32⟩
  | .hbm, ⟨3, _⟩ => ⟨S1024x48, .bf16⟩
  | .hbm, ⟨4, _⟩ => ⟨S1024x2x8x3, .bf16⟩
  | .hbm, ⟨5, _⟩ => ⟨S2x3x8x1024, .bf16⟩
  | .hbm, ⟨6, _⟩ => ⟨S48x1024, .bf16⟩
  | .hbm, ⟨7, _⟩ => ⟨S1024x1024, .f32⟩
  | .hbm, ⟨8, _⟩ => ⟨S1024x1024, .bf16⟩
  | .hbm, ⟨9, _⟩ => ⟨S1024x768, .f32⟩
  | .hbm, ⟨10, _⟩ => ⟨S1024x768, .bf16⟩
  | .hbm, ⟨11, _⟩ => ⟨S1024x1024, .f32⟩
  | .hbm, ⟨12, _⟩ => ⟨S1024x1024, .bf16⟩
  | .hbm, ⟨13, _⟩ => ⟨S1024x1024, .bf16⟩
  | .hbm, ⟨14, _⟩ => ⟨S1024x768, .f32⟩
  | .hbm, ⟨15, _⟩ => ⟨S1024x768, .bf16⟩
  | .hbm, ⟨16, _⟩ => ⟨S768x1024, .bf16⟩
  | .hbm, ⟨17, _⟩ => ⟨S16384x1024, .f32⟩
  | .hbm, ⟨18, _⟩ => ⟨S16384x768, .f32⟩
  | .hbm, ⟨19, _⟩ => ⟨S16384x768, .bf16⟩
  | .hbm, ⟨20, _⟩ => ⟨S768x16384, .bf16⟩
  | .hbm, ⟨21, _⟩ => ⟨S1024x16384, .bf16⟩
  | .hbm, ⟨22, _⟩ => ⟨S48x16384, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x768, .bf16⟩
  | .local _ .vmem, ⟨4, _⟩ => ⟨S1024x1024, .bf16⟩
  | .local _ .vmem, ⟨5, _⟩ => ⟨S768x1024, .bf16⟩
  | .local _ .vmem, ⟨6, _⟩ => ⟨S48x1024, .bf16⟩
  | .local _ .vmem, ⟨7, _⟩ => ⟨S512x1024, .f32⟩
  | .local _ .vmem, ⟨8, _⟩ => ⟨S512x1024, .f32⟩
  | .local _ .vmem, ⟨9, _⟩ => ⟨S512x768, .f32⟩
  | .local _ .vmem, ⟨10, _⟩ => ⟨S512x768, .f32⟩
  | .local _ .vmem, ⟨11, _⟩ => ⟨S512x768, .bf16⟩
  | .local _ .vmem, ⟨12, _⟩ => ⟨S512x768, .bf16⟩
  | .local _ .vmem, ⟨13, _⟩ => ⟨S768x512, .bf16⟩
  | .local _ .vmem, ⟨14, _⟩ => ⟨S768x512, .bf16⟩
  | .local _ .vmem, ⟨15, _⟩ => ⟨S1024x512, .bf16⟩
  | .local _ .vmem, ⟨16, _⟩ => ⟨S1024x512, .bf16⟩
  | .local _ .vmem, ⟨17, _⟩ => ⟨S48x512, .f32⟩
  | .local _ .vmem, ⟨18, _⟩ => ⟨S48x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15_0 : Ref sig .tc := ⟨.hbm, 17, rfl⟩
abbrev main_v15_1 : Ref sig .tc := ⟨.hbm, 18, rfl⟩
abbrev main_v15_2 : Ref sig .tc := ⟨.hbm, 19, rfl⟩
abbrev main_v15_3 : Ref sig .tc := ⟨.hbm, 20, rfl⟩
abbrev main_v15_4 : Ref sig .tc := ⟨.hbm, 21, rfl⟩
abbrev main_v15_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S48x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S768x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S48x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== AttnInReferenceIdeal.lean ====
abbrev S16384x1024 : Shape := ⟨2, ![16384, 1024]⟩
abbrev S1024x5936 : Shape := ⟨2, ![1024, 5936]⟩
abbrev S2x8192x1024 : Shape := ⟨3, ![2, 8192, 1024]⟩
abbrev S2x8192x5936 : Shape := ⟨3, ![2, 8192, 5936]⟩
abbrev S2x8192x128 : Shape := ⟨3, ![2, 8192, 128]⟩
abbrev S2x8192x48 : Shape := ⟨3, ![2, 8192, 48]⟩
abbrev S2x8192x768 : Shape := ⟨3, ![2, 8192, 768]⟩
abbrev S16384x768 : Shape := ⟨2, ![16384, 768]⟩
abbrev S_ : Shape := ⟨0, ![]⟩
abbrev S2x8192x2x8x3 : Shape := ⟨5, ![2, 8192, 2, 8, 3]⟩
abbrev S2x3x8x2x8192 : Shape := ⟨5, ![2, 3, 8, 2, 8192]⟩
abbrev S48x16384 : Shape := ⟨2, ![48, 16384]⟩
abbrev S768x16384 : Shape := ⟨2, ![768, 16384]⟩
abbrev S1024x16384 : Shape := ⟨2, ![1024, 16384]⟩

abbrev nBuf : Space → Nat
  | .hbm => 47
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5936, .f32⟩
  | .hbm, ⟨2, _⟩ => ⟨S2x8192x1024, .f32⟩
  | .hbm, ⟨3, _⟩ => ⟨S2x8192x5936, .f32⟩
  | .hbm, ⟨4, _⟩ => ⟨S2x8192x1024, .f32⟩
  | .hbm, ⟨5, _⟩ => ⟨S2x8192x1024, .f32⟩
  | .hbm, ⟨6, _⟩ => ⟨S2x8192x1024, .f32⟩
  | .hbm, ⟨7, _⟩ => ⟨S2x8192x128, .f32⟩
  | .hbm, ⟨8, _⟩ => ⟨S2x8192x128, .f32⟩
  | .hbm, ⟨9, _⟩ => ⟨S2x8192x128, .f32⟩
  | .hbm, ⟨10, _⟩ => ⟨S2x8192x128, .f32⟩
  | .hbm, ⟨11, _⟩ => ⟨S2x8192x128, .f32⟩
  | .hbm, ⟨12, _⟩ => ⟨S2x8192x128, .f32⟩
  | .hbm, ⟨13, _⟩ => ⟨S2x8192x48, .f32⟩
  | .hbm, ⟨14, _⟩ => ⟨S2x8192x1024, .f32⟩
  | .hbm, ⟨15, _⟩ => ⟨S2x8192x1024, .f32⟩
  | .hbm, ⟨16, _⟩ => ⟨S2x8192x768, .f32⟩
  | .hbm, ⟨17, _⟩ => ⟨S16384x768, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S2x8192x48, .f32⟩
  | .hbm, ⟨23, _⟩ => ⟨S2x8192x48, .f32⟩
  | .hbm, ⟨24, _⟩ => ⟨S_, .f32⟩
  | .hbm, ⟨25, _⟩ => ⟨S2x8192x48, .f32⟩
  | .hbm, ⟨26, _⟩ => ⟨S2x8192x48, .f32⟩
  | .hbm, ⟨27, _⟩ => ⟨S_, .f32⟩
  | .hbm, ⟨28, _⟩ => ⟨S2x8192x48, .f32⟩
  | .hbm, ⟨29, _⟩ => ⟨S2x8192x48, .f32⟩
  | .hbm, ⟨30, _⟩ => ⟨S2x8192x2x8x3, .f32⟩
  | .hbm, ⟨31, _⟩ => ⟨S2x3x8x2x8192, .f32⟩
  | .hbm, ⟨32, _⟩ => ⟨S48x16384, .f32⟩
  | .hbm, ⟨33, _⟩ => ⟨S2x8192x1024, .f32⟩
  | .hbm, ⟨34, _⟩ => ⟨S2x8192x1024, .f32⟩
  | .hbm, ⟨35, _⟩ => ⟨S_, .f32⟩
  | .hbm, ⟨36, _⟩ => ⟨S2x8192x1024, .f32⟩
  | .hbm, ⟨37, _⟩ => ⟨S2x8192x1024, .f32⟩
  | .hbm, ⟨38, _⟩ => ⟨S_, .f32⟩
  | .hbm, ⟨39, _⟩ => ⟨S2x8192x1024, .f32⟩
  | .hbm, ⟨40, _⟩ => ⟨S2x8192x1024, .f32⟩
  | .hbm, ⟨41, _⟩ => ⟨S16384x1024, .f32⟩
  | .hbm, ⟨42, _⟩ => ⟨S16384x768, .bf16⟩
  | .hbm, ⟨43, _⟩ => ⟨S768x16384, .f32⟩
  | .hbm, ⟨44, _⟩ => ⟨S768x16384, .bf16⟩
  | .hbm, ⟨45, _⟩ => ⟨S1024x16384, .f32⟩
  | .hbm, ⟨46, _⟩ => ⟨S1024x16384, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst_0 : Ref sig .tc := ⟨.hbm, 24, rfl⟩
abbrev main_v21 : Ref sig .tc := ⟨.hbm, 25, rfl⟩
abbrev main_v22 : Ref sig .tc := ⟨.hbm, 26, rfl⟩
abbrev main_cst_1 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_2 : Ref sig .tc := ⟨.hbm, 35, rfl⟩
abbrev main_v30 : Ref sig .tc := ⟨.hbm, 36, rfl⟩
abbrev main_v31 : Ref sig .tc := ⟨.hbm, 37, rfl⟩
abbrev main_cst_3 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩

abbrev nD : Nat := 1
abbrev τ : Topo := Topo.v7x

variable {F : FTy → Type} [FloatOps F]
-- ==== GmlpS.lean ====
abbrev S128x1024 : Shape := ⟨2, ![128, 1024]⟩
abbrev S1024x5936 : Shape := ⟨2, ![1024, 5936]⟩
abbrev S1024 : Shape := ⟨1, ![1024]⟩
abbrev S8x128x128 : Shape := ⟨3, ![8, 128, 128]⟩
abbrev S8x128 : Shape := ⟨2, ![8, 128]⟩
abbrev S1024x1024 : Shape := ⟨2, ![1024, 1024]⟩
abbrev S8x1x1 : Shape := ⟨3, ![8, 1, 1]⟩
abbrev S8 : Shape := ⟨1, ![8]⟩
abbrev S1x1024 : Shape := ⟨2, ![1, 1024]⟩
abbrev S8x1 : Shape := ⟨2, ![8, 1]⟩
abbrev S128 : Shape := ⟨1, ![128]⟩
abbrev S128x1 : Shape := ⟨2, ![128, 1]⟩

abbrev nBuf : Space → Nat
  | .hbm => 28
  | .vmem => 11
  | .smem => 0
  | _ => 0

abbrev bufTy : (tb : Table) → Fin (tcTables nBuf tb) → BufTy
  | .hbm, ⟨0, _⟩ => ⟨S128x1024, .f32⟩
  | .hbm, ⟨1, _⟩ => ⟨S1024x5936, .f32⟩
  | .hbm, ⟨2, _⟩ => ⟨S1024, .f32⟩
  | .hbm, ⟨3, _⟩ => ⟨S1024, .f32⟩
  | .hbm, ⟨4, _⟩ => ⟨S8x128x128, .f32⟩
  | .hbm, ⟨5, _⟩ => ⟨S8x128, .f32⟩
  | .hbm, ⟨6, _⟩ => ⟨S1024x1024, .f32⟩
  | .hbm, ⟨7, _⟩ => ⟨S8x1x1, .f32⟩
  | .hbm, ⟨8, _⟩ => ⟨S8, .f32⟩
  | .hbm, ⟨9, _⟩ => ⟨S8x128, .f32⟩
  | .hbm, ⟨10, _⟩ => ⟨S1024, .f32⟩
  | .hbm, ⟨11, _⟩ => ⟨S1x1024, .f32⟩
  | .hbm, ⟨12, _⟩ => ⟨S8x1, .f32⟩
  | .hbm, ⟨13, _⟩ => ⟨S8, .f32⟩
  | .hbm, ⟨14, _⟩ => ⟨S8x128, .f32⟩
  | .hbm, ⟨15, _⟩ => ⟨S1024, .f32⟩
  | .hbm, ⟨16, _⟩ => ⟨S1x1024, .f32⟩
  | .hbm, ⟨17, _⟩ => ⟨S1024x1024, .f32⟩
  | .hbm, ⟨18, _⟩ => ⟨S1024x1024, .bf16⟩
  | .hbm, ⟨19, _⟩ => ⟨S1024x1024, .f32⟩
  | .hbm, ⟨20, _⟩ => ⟨S1024x1024, .bf16⟩
  | .hbm, ⟨21, _⟩ => ⟨S1024x1024, .f32⟩
  | .hbm, ⟨22, _⟩ => ⟨S1024x1024, .bf16⟩
  | .hbm, ⟨23, _⟩ => ⟨S1024x1024, .bf16⟩
  | .hbm, ⟨24, _⟩ => ⟨S1x1024, .f32⟩
  | .hbm, ⟨25, _⟩ => ⟨S1x1024, .f32⟩
  | .hbm, ⟨26, _⟩ => ⟨S128x1024, .f32⟩
  | .hbm, ⟨27, _⟩ => ⟨S128x1024, .f32⟩
  | .local _ .vmem, ⟨0, _⟩ => ⟨S128x1024, .f32⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S128x1024, .f32⟩
  | .local _ .vmem, ⟨10, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19_0 : Ref sig .tc := ⟨.hbm, 26, rfl⟩
abbrev main_v19_1 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== GmlpSReferenceIdeal.lean ====
abbrev S128x1024 : Shape := ⟨2, ![128, 1024]⟩
abbrev S1024x5936 : Shape := ⟨2, ![1024, 5936]⟩
abbrev S1024 : Shape := ⟨1, ![1024]⟩
abbrev S8x128x128 : Shape := ⟨3, ![8, 128, 128]⟩
abbrev S8x128 : Shape := ⟨2, ![8, 128]⟩
abbrev S1024x1024 : Shape := ⟨2, ![1024, 1024]⟩
abbrev S128x1x1024 : Shape := ⟨3, ![128, 1, 1024]⟩
abbrev S128x1x5936 : Shape := ⟨3, ![128, 1, 5936]⟩
abbrev S128x1x128 : Shape := ⟨3, ![128, 1, 128]⟩
abbrev S128x1x48 : Shape := ⟨3, ![128, 1, 48]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x128x1024 : Shape := ⟨3, ![128, 128, 1024]⟩
abbrev S128x1x128x8x128 : Shape := ⟨5, ![128, 1, 128, 8, 128]⟩
abbrev S128x128 : Shape := ⟨2, ![128, 128]⟩
abbrev S1x128x128 : Shape := ⟨3, ![1, 128, 128]⟩
abbrev S8x128x1x128x128 : Shape := ⟨5, ![8, 128, 1, 128, 128]⟩
abbrev S128x8 : Shape := ⟨2, ![128, 8]⟩
abbrev S1x1x128x8x1 : Shape := ⟨5, ![1, 1, 128, 8, 1]⟩

abbrev nBuf : Space → Nat
  | .hbm => 126
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024x5936, .f32⟩
  | .hbm, ⟨2, _⟩ => ⟨S1024, .f32⟩
  | .hbm, ⟨3, _⟩ => ⟨S1024, .f32⟩
  | .hbm, ⟨4, _⟩ => ⟨S8x128x128, .f32⟩
  | .hbm, ⟨5, _⟩ => ⟨S8x128, .f32⟩
  | .hbm, ⟨6, _⟩ => ⟨S1024x1024, .f32⟩
  | .hbm, ⟨7, _⟩ => ⟨S128x1x1024, .f32⟩
  | .hbm, ⟨8, _⟩ => ⟨S128x1x5936, .f32⟩
  | .hbm, ⟨9, _⟩ => ⟨S128x1x1024, .f32⟩
  | .hbm, ⟨10, _⟩ => ⟨S128x1x1024, .f32⟩
  | .hbm, ⟨11, _⟩ => ⟨S128x1x1024, .f32⟩
  | .hbm, ⟨12, _⟩ => ⟨S128x1x128, .f32⟩
  | .hbm, ⟨13, _⟩ => ⟨S128x1x128, .f32⟩
  | .hbm, ⟨14, _⟩ => ⟨S128x1x128, .f32⟩
  | .hbm, ⟨15, _⟩ => ⟨S128x1x128, .f32⟩
  | .hbm, ⟨16, _⟩ => ⟨S128x1x128, .f32⟩
  | .hbm, ⟨17, _⟩ => ⟨S128x1x128, .f32⟩
  | .hbm, ⟨18, _⟩ => ⟨S128x1x48, .f32⟩
  | .hbm, ⟨19, _⟩ => ⟨S128x1x1024, .f32⟩
  | .hbm, ⟨20, _⟩ => ⟨S128x1x1024, .f32⟩
  | .hbm, ⟨21, _⟩ => ⟨S128x1x1024, .f32⟩
  | .hbm, ⟨22, _⟩ => ⟨S128x1x1024, .f32⟩
  | .hbm, ⟨23, _⟩ => ⟨S_, .f32⟩
  | .hbm, ⟨24, _⟩ => ⟨S128x1x1024, .f32⟩
  | .hbm, ⟨25, _⟩ => ⟨S128x1x1024, .f32⟩
  | .hbm, ⟨26, _⟩ => ⟨S128x1x1024, .f32⟩
  | .hbm, ⟨27, _⟩ => ⟨S_, .f32⟩
  | .hbm, ⟨28, _⟩ => ⟨S128x1x1024, .f32⟩
  | .hbm, ⟨29, _⟩ => ⟨S128x1x1024, .f32⟩
  | .hbm, ⟨30, _⟩ => ⟨S128x1x1024, .f32⟩
  | .hbm, ⟨31, _⟩ => ⟨S_, .f32⟩
  | .hbm, ⟨32, _⟩ => ⟨S128x1x1024, .f32⟩
  | .hbm, ⟨33, _⟩ => ⟨S128x1x1024, .f32⟩
  | .hbm, ⟨34, _⟩ => ⟨S_, .f32⟩
  | .hbm, ⟨35, _⟩ => ⟨S128x1x1024, .f32⟩
  | .hbm, ⟨36, _⟩ => ⟨S128x1x1024, .f32⟩
  | .hbm, ⟨37, _⟩ => ⟨S128x1x1024, .f32⟩
  | .hbm, ⟨38, _⟩ => ⟨S_, .f32⟩
  | .hbm, ⟨39, _⟩ => ⟨S128x1, .f32⟩
  | .hbm, ⟨40, _⟩ => ⟨S128x1x1, .f32⟩
  | .hbm, ⟨41, _⟩ => ⟨S_, .f32⟩
  | .hbm, ⟨42, _⟩ => ⟨S128x1x1, .f32⟩
  | .hbm, ⟨43, _⟩ => ⟨S128x1x1, .f32⟩
  | .hbm, ⟨44, _⟩ => ⟨S128x1x1024, .f32⟩
  | .hbm, ⟨45, _⟩ => ⟨S128x1x1024, .f32⟩
  | .hbm, ⟨46, _⟩ => ⟨S128x1x1024, .f32⟩
  | .hbm, ⟨47, _⟩ => ⟨S_, .f32⟩
  | .hbm, ⟨48, _⟩ => ⟨S128x1, .f32⟩
  | .hbm, ⟨49, _⟩ => ⟨S128x1x1, .f32⟩
  | .hbm, ⟨50, _⟩ => ⟨S_, .f32⟩
  | .hbm, ⟨51, _⟩ => ⟨S128x1x1, .f32⟩
  | .hbm, ⟨52, _⟩ => ⟨S128x1x1, .f32⟩
  | .hbm, ⟨53, _⟩ => ⟨S128x1x1024, .f32⟩
  | .hbm, ⟨54, _⟩ => ⟨S128x1x1024, .f32⟩
  | .hbm, ⟨55, _⟩ => ⟨S_, .f32⟩
  | .hbm, ⟨56, _⟩ => ⟨S128x1x1, .f32⟩
  | .hbm, ⟨57, _⟩ => ⟨S128x1x1, .f32⟩
  | .hbm, ⟨58, _⟩ => ⟨S128x1x1, .f32⟩
  | .hbm, ⟨59, _⟩ => ⟨S128x1x1024, .f32⟩
  | .hbm, ⟨60, _⟩ => ⟨S128x1x1024, .f32⟩
  | .hbm, ⟨61, _⟩ => ⟨S1x1x1024, .f32⟩
  | .hbm, ⟨62, _⟩ => ⟨S128x1x1024, .f32⟩
  | .hbm, ⟨63, _⟩ => ⟨S128x1x1024, .f32⟩
  | .hbm, ⟨64, _⟩ => ⟨S1x1x1024, .f32⟩
  | .hbm, ⟨65, _⟩ => ⟨S128x1x1024, .f32⟩
  | .hbm, ⟨66, _⟩ => ⟨S128x1x1024, .f32⟩
  | .hbm, ⟨67, _⟩ => ⟨S128x1x1024, .f32⟩
  | .hbm, ⟨68, _⟩ => ⟨S128x1x1024, .f32⟩
  | .hbm, ⟨69, _⟩ => ⟨S_, .f32⟩
  | .hbm, ⟨70, _⟩ => ⟨S128x1x1024, .f32⟩
  | .hbm, ⟨71, _⟩ => ⟨S128x1x1024, .f32⟩
  | .hbm, ⟨72, _⟩ => ⟨S128x1x1024, .f32⟩
  | .hbm, ⟨73, _⟩ => ⟨S_, .f32⟩
  | .hbm, ⟨74, _⟩ => ⟨S128x1x1024, .f32⟩
  | .hbm, ⟨75, _⟩ => ⟨S128x1x1024, .f32⟩
  | .hbm, ⟨76, _⟩ => ⟨S128x1x1024, .f32⟩
  | .hbm, ⟨77, _⟩ => ⟨S_, .f32⟩
  | .hbm, ⟨78, _⟩ => ⟨S128x1x1024, .f32⟩
  | .hbm, ⟨79, _⟩ => ⟨S128x1x1024, .f32⟩
  | .hbm, ⟨80, _⟩ => ⟨S_, .f32⟩
  | .hbm, ⟨81, _⟩ => ⟨S128x1x1024, .f32⟩
  | .hbm, ⟨82, _⟩ => ⟨S128x1x1024, .f32⟩
  | .hbm, ⟨83, _⟩ => ⟨S128x1x1024, .f32⟩
  | .hbm, ⟨84, _⟩ => ⟨S_, .i32⟩
  | .hbm, ⟨85, _⟩ => ⟨S_, .f32⟩
  | .hbm, ⟨86, _⟩ => ⟨S128x128x1024, .f32⟩
  | .hbm, ⟨87, _⟩ => ⟨S128x1x128x8x128, .f32⟩
  | .hbm, ⟨88, _⟩ => ⟨S_, .i1⟩
  | .hbm, ⟨89, _⟩ => ⟨S128x128, .i1⟩
  | .hbm, ⟨90, _⟩ => ⟨S128x128, .i32⟩
  | .hbm, ⟨91, _⟩ => ⟨S_, .i32⟩
  | .hbm, ⟨92, _⟩ => ⟨S128x128, .i32⟩
  | .hbm, ⟨93, _⟩ => ⟨S128x128, .i32⟩
  | .hbm, ⟨94, _⟩ => ⟨S128x128, .i32⟩
  | .hbm, ⟨95, _⟩ => ⟨S128x128, .i1⟩
  | .hbm, ⟨96, _⟩ => ⟨S_, .i1⟩
  | .hbm, ⟨97, _⟩ => ⟨S128x128, .i1⟩
  | .hbm, ⟨98, _⟩ => ⟨S128x128, .i1⟩
  | .hbm, ⟨99, _⟩ => ⟨S1x128x128, .i1⟩
  | .hbm, ⟨100, _⟩ => ⟨S_, .f32⟩
  | .hbm, ⟨101, _⟩ => ⟨S_, .f32⟩
  | .hbm, ⟨102, _⟩ => ⟨S8x128x128, .i1⟩
  | .hbm, ⟨103, _⟩ => ⟨S8x128x128, .f32⟩
  | .hbm, ⟨104, _⟩ => ⟨S8x128x128, .f32⟩
  | .hbm, ⟨105, _⟩ => ⟨S8x128x1x128x128, .f32⟩
  | .hbm, ⟨106, _⟩ => ⟨S128x1x128x8x128, .f32⟩
  | .hbm, ⟨107, _⟩ => ⟨S128x8, .f32⟩
  | .hbm, ⟨108, _⟩ => ⟨S1x1x128x8x1, .f32⟩
  | .hbm, ⟨109, _⟩ => ⟨S128x1x128x8x128, .f32⟩
  | .hbm, ⟨110, _⟩ => ⟨S128x1x128x8x128, .f32⟩
  | .hbm, ⟨111, _⟩ => ⟨S128x128x1024, .f32⟩
  | .hbm, ⟨112, _⟩ => ⟨S128x1x1024, .f32⟩
  | .hbm, ⟨113, _⟩ => ⟨S128x1x1024, .f32⟩
  | .hbm, ⟨114, _⟩ => ⟨S128x1x1024, .f32⟩
  | .hbm, ⟨115, _⟩ => ⟨S128x1x1024, .f32⟩
  | .hbm, ⟨116, _⟩ => ⟨S_, .f32⟩
  | .hbm, ⟨117, _⟩ => ⟨S128x1x1024, .f32⟩
  | .hbm, ⟨118, _⟩ => ⟨S128x1x1024, .f32⟩
  | .hbm, ⟨119, _⟩ => ⟨S_, .f32⟩
  | .hbm, ⟨120, _⟩ => ⟨S128x1x1024, .f32⟩
  | .hbm, ⟨121, _⟩ => ⟨S128x1x1024, .f32⟩
  | .hbm, ⟨122, _⟩ => ⟨S128x1x1024, .f32⟩
  | .hbm, ⟨123, _⟩ => ⟨S128x1x1024, .f32⟩
  | .hbm, ⟨124, _⟩ => ⟨S128x1024, .f32⟩
  | .hbm, ⟨125, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_8 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_9 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_10 : Ref sig .tc := ⟨.hbm, 77, rfl⟩
abbrev main_v59 : Ref sig .tc := ⟨.hbm, 78, rfl⟩
abbrev main_v60 : Ref sig .tc := ⟨.hbm, 79, rfl⟩
abbrev main_cst_11 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_c : Ref sig .tc := ⟨.hbm, 84, rfl⟩
abbrev main_call0_v0 : Ref sig .tc := ⟨.hbm, 85, rfl⟩
abbrev main_v64 : Ref sig .tc := ⟨.hbm, 86, rfl⟩
abbrev main_v65 : Ref sig .tc := ⟨.hbm, 87, rfl⟩
abbrev main_c_12 : Ref sig .tc := ⟨.hbm, 88, rfl⟩
abbrev main_v66 : Ref sig .tc := ⟨.hbm, 89, rfl⟩
abbrev main_call1_v0 : Ref sig .tc := ⟨.hbm, 90, rfl⟩
abbrev main_call1_c : Ref sig .tc := ⟨.hbm, 91, rfl⟩
abbrev main_call1_v1 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_call1_c_0 : Ref sig .tc := ⟨.hbm, 96, rfl⟩
abbrev main_call1_v5 : Ref sig .tc := ⟨.hbm, 97, rfl⟩
abbrev main_v67 : Ref sig .tc := ⟨.hbm, 98, rfl⟩
abbrev main_v68 : Ref sig .tc := ⟨.hbm, 99, rfl⟩
abbrev main_cst_13 : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_14 : Ref sig .tc := ⟨.hbm, 116, rfl⟩
abbrev main_v81 : Ref sig .tc := ⟨.hbm, 117, rfl⟩
abbrev main_v82 : Ref sig .tc := ⟨.hbm, 118, rfl⟩
abbrev main_cst_15 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩

abbrev nD : Nat := 1
abbrev τ : Topo := Topo.v7x

variable {F : FTy → Type} [FloatOps F]
-- ==== AttnInS.lean ====
abbrev S128x1024 : Shape := ⟨2, ![128, 1024]⟩
abbrev S1024x5936 : Shape := ⟨2, ![1024, 5936]⟩
abbrev S1024x48 : Shape := ⟨2, ![1024, 48]⟩
abbrev S_ : Shape := ⟨0, ![]⟩
abbrev S1024x128 : Shape := ⟨2, ![1024, 128]⟩
abbrev S1024x1024 : Shape := ⟨2, ![1024, 1024]⟩
abbrev S1024x768 : Shape := ⟨2, ![1024, 768]⟩
abbrev S128x768 : Shape := ⟨2, ![128, 768]⟩
abbrev S128x128 : Shape := ⟨2, ![128, 128]⟩

abbrev nBuf : Space → Nat
  | .hbm => 17
  | .vmem => 9
  | .smem => 0
  | _ => 0

abbrev bufTy : (tb : Table) → Fin (tcTables nBuf tb) → BufTy
  | .hbm, ⟨0, _⟩ => ⟨S128x1024, .f32⟩
  | .hbm, ⟨1, _⟩ => ⟨S1024x5936, .f32⟩
  | .hbm, ⟨2, _⟩ => ⟨S1024x48, .f32⟩
  | .hbm, ⟨3, _⟩ => ⟨S1024x48, .bf16⟩
  | .hbm, ⟨4, _⟩ => ⟨S_, .i32⟩
  | .hbm, ⟨5, _⟩ => ⟨S_, .bf16⟩
  | .hbm, ⟨6, _⟩ => ⟨S1024x128, .bf16⟩
  | .hbm, ⟨7, _⟩ => ⟨S1024x1024, .f32⟩
  | .hbm, ⟨8, _⟩ => ⟨S1024x1024, .bf16⟩
  | .hbm, ⟨9, _⟩ => ⟨S1024x768, .f32⟩
  | .hbm, ⟨10, _⟩ => ⟨S1024x768, .bf16⟩
  | .hbm, ⟨11, _⟩ => ⟨S1024x1024, .f32⟩
  | .hbm, ⟨12, _⟩ => ⟨S1024x1024, .bf16⟩
  | .hbm, ⟨13, _⟩ => ⟨S128x1024, .f32⟩
  | .hbm, ⟨14, _⟩ => ⟨S128x768, .f32⟩
  | .hbm, ⟨15, _⟩ => ⟨S128x1024, .f32⟩
  | .hbm, ⟨16, _⟩ => ⟨S128x128, .f32⟩
  | .local _ .vmem, ⟨0, _⟩ => ⟨S128x1024, .f32⟩
  | .local _ .vmem, ⟨1, _⟩ => ⟨S1024x1024, .bf16⟩
  | .local _ .vmem, ⟨2, _⟩ => ⟨S1024x768, .bf16⟩
  | .local _ .vmem, ⟨3, _⟩ => ⟨S1024x1024, .bf16⟩
  | .local _ .vmem, ⟨4, _⟩ => ⟨S1024x128, .bf16⟩
  | .local _ .vmem, ⟨5, _⟩ => ⟨S128x1024, .f32⟩
  | .local _ .vmem, ⟨6, _⟩ => ⟨S128x768, .f32⟩
  | .local _ .vmem, ⟨7, _⟩ => ⟨S128x1024, .f32⟩
  | .local _ .vmem, ⟨8, _⟩ => ⟨S128x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev main_v9_3 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== AttnInSReferenceIdeal.lean ====
abbrev S128x1024 : Shape := ⟨2, ![128, 1024]⟩
abbrev S1024x5936 : Shape := ⟨2, ![1024, 5936]⟩
abbrev S128x1x1024 : Shape := ⟨3, ![128, 1, 1024]⟩
abbrev S128x1x5936 : Shape := ⟨3, ![128, 1, 5936]⟩
abbrev S128x1x128 : Shape := ⟨3, ![128, 1, 128]⟩
abbrev S128x1x48 : Shape := ⟨3, ![128, 1, 48]⟩
abbrev S128x48 : Shape := ⟨2, ![128, 48]⟩
abbrev S_ : Shape := ⟨0, ![]⟩
abbrev S128x128 : Shape := ⟨2, ![128, 128]⟩
abbrev S128x1x768 : Shape := ⟨3, ![128, 1, 768]⟩
abbrev S128x768 : Shape := ⟨2, ![128, 768]⟩

abbrev nBuf : Space → Nat
  | .hbm => 43
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024x5936, .f32⟩
  | .hbm, ⟨2, _⟩ => ⟨S128x1x1024, .f32⟩
  | .hbm, ⟨3, _⟩ => ⟨S128x1x5936, .f32⟩
  | .hbm, ⟨4, _⟩ => ⟨S128x1x1024, .f32⟩
  | .hbm, ⟨5, _⟩ => ⟨S128x1x1024, .f32⟩
  | .hbm, ⟨6, _⟩ => ⟨S128x1x1024, .f32⟩
  | .hbm, ⟨7, _⟩ => ⟨S128x1x128, .f32⟩
  | .hbm, ⟨8, _⟩ => ⟨S128x1x128, .f32⟩
  | .hbm, ⟨9, _⟩ => ⟨S128x1x128, .f32⟩
  | .hbm, ⟨10, _⟩ => ⟨S128x1x128, .f32⟩
  | .hbm, ⟨11, _⟩ => ⟨S128x1x128, .f32⟩
  | .hbm, ⟨12, _⟩ => ⟨S128x1x128, .f32⟩
  | .hbm, ⟨13, _⟩ => ⟨S128x1x48, .f32⟩
  | .hbm, ⟨14, _⟩ => ⟨S128x1x1024, .f32⟩
  | .hbm, ⟨15, _⟩ => ⟨S128x1x1024, .f32⟩
  | .hbm, ⟨16, _⟩ => ⟨S128x48, .f32⟩
  | .hbm, ⟨17, _⟩ => ⟨S_, .i32⟩
  | .hbm, ⟨18, _⟩ => ⟨S_, .f32⟩
  | .hbm, ⟨19, _⟩ => ⟨S128x128, .f32⟩
  | .hbm, ⟨20, _⟩ => ⟨S128x128, .f32⟩
  | .hbm, ⟨21, _⟩ => ⟨S128x128, .f32⟩
  | .hbm, ⟨22, _⟩ => ⟨S_, .f32⟩
  | .hbm, ⟨23, _⟩ => ⟨S128x128, .f32⟩
  | .hbm, ⟨24, _⟩ => ⟨S128x128, .f32⟩
  | .hbm, ⟨25, _⟩ => ⟨S_, .f32⟩
  | .hbm, ⟨26, _⟩ => ⟨S128x128, .f32⟩
  | .hbm, ⟨27, _⟩ => ⟨S128x128, .f32⟩
  | .hbm, ⟨28, _⟩ => ⟨S128x1x1024, .f32⟩
  | .hbm, ⟨29, _⟩ => ⟨S128x1x1024, .f32⟩
  | .hbm, ⟨30, _⟩ => ⟨S_, .f32⟩
  | .hbm, ⟨31, _⟩ => ⟨S128x1x1024, .f32⟩
  | .hbm, ⟨32, _⟩ => ⟨S128x1x1024, .f32⟩
  | .hbm, ⟨33, _⟩ => ⟨S_, .f32⟩
  | .hbm, ⟨34, _⟩ => ⟨S128x1x1024, .f32⟩
  | .hbm, ⟨35, _⟩ => ⟨S128x1x1024, .f32⟩
  | .hbm, ⟨36, _⟩ => ⟨S128x1024, .f32⟩
  | .hbm, ⟨37, _⟩ => ⟨S128x1x768, .f32⟩
  | .hbm, ⟨38, _⟩ => ⟨S128x768, .f32⟩
  | .hbm, ⟨39, _⟩ => ⟨S128x1024, .f32⟩
  | .hbm, ⟨40, _⟩ => ⟨S_, .f32⟩
  | .hbm, ⟨41, _⟩ => ⟨S128x1024, .f32⟩
  | .hbm, ⟨42, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_c : Ref sig .tc := ⟨.hbm, 17, rfl⟩
abbrev main_call0_v0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_1 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== Merge.lean ====
abbrev S16384x1024 : Shape := ⟨2, ![16384, 1024]⟩
abbrev S1024x16384 : Shape := ⟨2, ![1024, 16384]⟩
abbrev S1024x1024 : Shape := ⟨2, ![1024, 1024]⟩
abbrev S1024 : Shape := ⟨1, ![1024]⟩
abbrev S1024x16 : Shape := ⟨2, ![1024, 16]⟩
abbrev S16 : Shape := ⟨1, ![16]⟩
abbrev S512x512 : Shape := ⟨2, ![512, 512]⟩
abbrev S1x1024 : Shape := ⟨2, ![1, 1024]⟩
abbrev S16x1024 : Shape := ⟨2, ![16, 1024]⟩
abbrev S16x1 : Shape := ⟨2, ![16, 1]⟩
abbrev S16384x1152 : Shape := ⟨2, ![16384, 1152]⟩
abbrev S8x128 : Shape := ⟨2, ![8, 128]⟩
abbrev S512x1024 : Shape := ⟨2, ![512, 1024]⟩
abbrev S1024x512 : Shape := ⟨2, ![1024, 512]⟩
abbrev S512x1152 : Shape := ⟨2, ![512, 1152]⟩
abbrev S512 : Shape := ⟨1, ![512]⟩
abbrev S512x1 : Shape := ⟨2, ![512, 1]⟩
abbrev S16x512 : Shape := ⟨2, ![16, 512]⟩
abbrev S1x512 : Shape := ⟨2, ![1, 512]⟩
abbrev S4x512 : Shape := ⟨2, ![4, 512]⟩
abbrev S8x512 : Shape := ⟨2, ![8, 512]⟩
abbrev S8x1 : Shape := ⟨2, ![8, 1]⟩
abbrev S8 : Shape := ⟨1, ![8]⟩
abbrev S122x512 : Shape := ⟨2, ![122, 512]⟩
abbrev S128x512 : Shape := ⟨2, ![128, 512]⟩
abbrev S512x128 : Shape := ⟨2, ![512, 128]⟩

abbrev nBuf : Space → Nat
  | .hbm => 19
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x16384, .bf16⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x16, .f32⟩
  | .hbm, ⟨9, _⟩ => ⟨S16, .f32⟩
  | .hbm, ⟨10, _⟩ => ⟨S512x512, .bf16⟩
  | .hbm, ⟨11, _⟩ => ⟨S1024x1024, .bf16⟩
  | .hbm, ⟨12, _⟩ => ⟨S1024x1024, .bf16⟩
  | .hbm, ⟨13, _⟩ => ⟨S1x1024, .f32⟩
  | .hbm, ⟨14, _⟩ => ⟨S1x1024, .f32⟩
  | .hbm, ⟨15, _⟩ => ⟨S16x1024, .f32⟩
  | .hbm, ⟨16, _⟩ => ⟨S16x1, .f32⟩
  | .hbm, ⟨17, _⟩ => ⟨S16384x1152, .f32⟩
  | .hbm, ⟨18, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x512, .bf16⟩
  | .local _ .vmem, ⟨7, _⟩ => ⟨S1024x512, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S16x1024, .f32⟩
  | .local _ .vmem, ⟨13, _⟩ => ⟨S16x1, .f32⟩
  | .local _ .vmem, ⟨14, _⟩ => ⟨S512x512, .bf16⟩
  | .local _ .vmem, ⟨15, _⟩ => ⟨S512x1152, .f32⟩
  | .local _ .vmem, ⟨16, _⟩ => ⟨S512x1152, .f32⟩
  | .local _ .vmem, ⟨17, _⟩ => ⟨S8x128, .f32⟩
  | .local _ .vmem, ⟨18, _⟩ => ⟨S8x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1152 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== MergeReferenceIdeal.lean ====
abbrev S16384x1024 : Shape := ⟨2, ![16384, 1024]⟩
abbrev S1024x16384 : Shape := ⟨2, ![1024, 16384]⟩
abbrev S1024x1024 : Shape := ⟨2, ![1024, 1024]⟩
abbrev S1024 : Shape := ⟨1, ![1024]⟩
abbrev S1024x16 : Shape := ⟨2, ![1024, 16]⟩
abbrev S16 : Shape := ⟨1, ![16]⟩
abbrev S512x512 : Shape := ⟨2, ![512, 512]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x1152 : Shape := ⟨2, ![16384, 1152]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x16384, .bf16⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x16, .f32⟩
  | .hbm, ⟨9, _⟩ => ⟨S16, .f32⟩
  | .hbm, ⟨10, _⟩ => ⟨S512x512, .bf16⟩
  | .hbm, ⟨11, _⟩ => ⟨S1024x16384, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S1x1024, .f32⟩
  | .hbm, ⟨45, _⟩ => ⟨S16384x1024, .f32⟩
  | .hbm, ⟨46, _⟩ => ⟨S16384x1024, .f32⟩
  | .hbm, ⟨47, _⟩ => ⟨S1x1024, .f32⟩
  | .hbm, ⟨48, _⟩ => ⟨S16384x1024, .f32⟩
  | .hbm, ⟨49, _⟩ => ⟨S16384x1024, .f32⟩
  | .hbm, ⟨50, _⟩ => ⟨S_, .i32⟩
  | .hbm, ⟨51, _⟩ => ⟨S_, .f32⟩
  | .hbm, ⟨52, _⟩ => ⟨S16384x1152, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c : Ref sig .tc := ⟨.hbm, 50, rfl⟩
abbrev main_call0_v0 : Ref sig .tc := ⟨.hbm, 51, rfl⟩
abbrev main_v33 : Ref sig .tc := ⟨.hbm, 52, rfl⟩

abbrev nD : Nat := 1
abbrev τ : Topo := Topo.v7x

variable {F : FTy → Type} [FloatOps F]
-- ==== MergeS.lean ====
abbrev S128x1024 : Shape := ⟨2, ![128, 1024]⟩
abbrev S1024x1024 : Shape := ⟨2, ![1024, 1024]⟩
abbrev S1024 : Shape := ⟨1, ![1024]⟩
abbrev S1024x16 : Shape := ⟨2, ![1024, 16]⟩
abbrev S16 : Shape := ⟨1, ![16]⟩
abbrev S128x128 : Shape := ⟨2, ![128, 128]⟩
abbrev S1x1024 : Shape := ⟨2, ![1, 1024]⟩
abbrev S16x1024 : Shape := ⟨2, ![16, 1024]⟩
abbrev S16x1 : Shape := ⟨2, ![16, 1]⟩
abbrev S128x1152 : Shape := ⟨2, ![128, 1152]⟩
abbrev S8x128 : Shape := ⟨2, ![8, 128]⟩
abbrev S128 : Shape := ⟨1, ![128]⟩
abbrev S128x1 : Shape := ⟨2, ![128, 1]⟩
abbrev S16x128 : Shape := ⟨2, ![16, 128]⟩
abbrev S1x128 : Shape := ⟨2, ![1, 128]⟩
abbrev S4x128 : Shape := ⟨2, ![4, 128]⟩
abbrev S8x1 : Shape := ⟨2, ![8, 1]⟩
abbrev S8 : Shape := ⟨1, ![8]⟩
abbrev S122x128 : Shape := ⟨2, ![122, 128]⟩

abbrev nBuf : Space → Nat
  | .hbm => 19
  | .vmem => 14
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x16, .f32⟩
  | .hbm, ⟨9, _⟩ => ⟨S16, .f32⟩
  | .hbm, ⟨10, _⟩ => ⟨S128x128, .bf16⟩
  | .hbm, ⟨11, _⟩ => ⟨S1024x1024, .bf16⟩
  | .hbm, ⟨12, _⟩ => ⟨S1024x1024, .bf16⟩
  | .hbm, ⟨13, _⟩ => ⟨S1x1024, .f32⟩
  | .hbm, ⟨14, _⟩ => ⟨S1x1024, .f32⟩
  | .hbm, ⟨15, _⟩ => ⟨S16x1024, .f32⟩
  | .hbm, ⟨16, _⟩ => ⟨S16x1, .f32⟩
  | .hbm, ⟨17, _⟩ => ⟨S128x1152, .f32⟩
  | .hbm, ⟨18, _⟩ => ⟨S8x128, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S16x1024, .f32⟩
  | .local _ .vmem, ⟨9, _⟩ => ⟨S16x1, .f32⟩
  | .local _ .vmem, ⟨10, _⟩ => ⟨S128x128, .bf16⟩
  | .local _ .vmem, ⟨11, _⟩ => ⟨S128x1152, .f32⟩
  | .local _ .vmem, ⟨12, _⟩ => ⟨S8x128, .f32⟩
  | .local _ .vmem, ⟨13, _⟩ => ⟨S8x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1152 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== MergeSReferenceIdeal.lean ====
abbrev S128x1024 : Shape := ⟨2, ![128, 1024]⟩
abbrev S1024x1024 : Shape := ⟨2, ![1024, 1024]⟩
abbrev S1024 : Shape := ⟨1, ![1024]⟩
abbrev S1024x16 : Shape := ⟨2, ![1024, 16]⟩
abbrev S16 : Shape := ⟨1, ![16]⟩
abbrev S128x128 : Shape := ⟨2, ![128, 128]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x1152 : Shape := ⟨2, ![128, 1152]⟩

abbrev nBuf : Space → Nat
  | .hbm => 51
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x16, .f32⟩
  | .hbm, ⟨9, _⟩ => ⟨S16, .f32⟩
  | .hbm, ⟨10, _⟩ => ⟨S128x128, .bf16⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128, .f32⟩
  | .hbm, ⟨21, _⟩ => ⟨S128x1, .f32⟩
  | .hbm, ⟨22, _⟩ => ⟨S_, .f32⟩
  | .hbm, ⟨23, _⟩ => ⟨S128x1, .f32⟩
  | .hbm, ⟨24, _⟩ => ⟨S128x1, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128, .f32⟩
  | .hbm, ⟨30, _⟩ => ⟨S128x1, .f32⟩
  | .hbm, ⟨31, _⟩ => ⟨S_, .f32⟩
  | .hbm, ⟨32, _⟩ => ⟨S128x1, .f32⟩
  | .hbm, ⟨33, _⟩ => ⟨S128x1, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1, .f32⟩
  | .hbm, ⟨38, _⟩ => ⟨S128x1, .f32⟩
  | .hbm, ⟨39, _⟩ => ⟨S128x1, .f32⟩
  | .hbm, ⟨40, _⟩ => ⟨S128x1024, .f32⟩
  | .hbm, ⟨41, _⟩ => ⟨S128x1024, .f32⟩
  | .hbm, ⟨42, _⟩ => ⟨S1x1024, .f32⟩
  | .hbm, ⟨43, _⟩ => ⟨S128x1024, .f32⟩
  | .hbm, ⟨44, _⟩ => ⟨S128x1024, .f32⟩
  | .hbm, ⟨45, _⟩ => ⟨S1x1024, .f32⟩
  | .hbm, ⟨46, _⟩ => ⟨S128x1024, .f32⟩
  | .hbm, ⟨47, _⟩ => ⟨S128x1024, .f32⟩
  | .hbm, ⟨48, _⟩ => ⟨S_, .i32⟩
  | .hbm, ⟨49, _⟩ => ⟨S_, .f32⟩
  | .hbm, ⟨50, _⟩ => ⟨S128x1152, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c : Ref sig .tc := ⟨.hbm, 48, rfl⟩
abbrev main_call0_v0 : Ref sig .tc := ⟨.hbm, 49, rfl⟩
abbrev main_v31 : Ref sig .tc := ⟨.hbm, 50, rfl⟩

abbrev nD : Nat := 1
abbrev τ : Topo := Topo.v7x

variable {F : FTy → Type} [FloatOps F]
-- ==== Experts.lean ====
abbrev S68 : Shape := ⟨1, ![68]⟩
abbrev S1 : Shape := ⟨1, ![1]⟩
abbrev S17408x1152 : Shape := ⟨2, ![17408, 1152]⟩
abbrev S16x1024x512 : Shape := ⟨3, ![16, 1024, 512]⟩
abbrev S16x512x1024 : Shape := ⟨3, ![16, 512, 1024]⟩
abbrev S4x4x1024x512 : Shape := ⟨4, ![4, 4, 1024, 512]⟩
abbrev S4x4x512x1024 : Shape := ⟨4, ![4, 4, 512, 1024]⟩
abbrev S17408x1024 : Shape := ⟨2, ![17408, 1024]⟩
abbrev S256x1152 : Shape := ⟨2, ![256, 1152]⟩
abbrev S1x4x1024x512 : Shape := ⟨4, ![1, 4, 1024, 512]⟩
abbrev S1x4x512x1024 : Shape := ⟨4, ![1, 4, 512, 1024]⟩
abbrev S256x1024 : Shape := ⟨2, ![256, 1024]⟩
abbrev S1x1x1024x512 : Shape := ⟨4, ![1, 1, 1024, 512]⟩
abbrev S1024x512 : Shape := ⟨2, ![1024, 512]⟩
abbrev S256x512 : Shape := ⟨2, ![256, 512]⟩
abbrev S256x1 : Shape := ⟨2, ![256, 1]⟩
abbrev S1x1x512x1024 : Shape := ⟨4, ![1, 1, 512, 1024]⟩
abbrev S512x1024 : Shape := ⟨2, ![512, 1024]⟩

abbrev nBuf : Space → Nat
  | .hbm => 11
  | .vmem => 10
  | .smem => 2
  | _ => 0

abbrev bufTy : (tb : Table) → Fin (tcTables nBuf tb) → BufTy
  | .hbm, ⟨0, _⟩ => ⟨S17408x1152, .f32⟩
  | .hbm, ⟨1, _⟩ => ⟨S16x1024x512, .f32⟩
  | .hbm, ⟨2, _⟩ => ⟨S16x1024x512, .f32⟩
  | .hbm, ⟨3, _⟩ => ⟨S16x512x1024, .f32⟩
  | .hbm, ⟨4, _⟩ => ⟨S4x4x1024x512, .f32⟩
  | .hbm, ⟨5, _⟩ => ⟨S4x4x1024x512, .bf16⟩
  | .hbm, ⟨6, _⟩ => ⟨S4x4x1024x512, .f32⟩
  | .hbm, ⟨7, _⟩ => ⟨S4x4x1024x512, .bf16⟩
  | .hbm, ⟨8, _⟩ => ⟨S4x4x512x1024, .f32⟩
  | .hbm, ⟨9, _⟩ => ⟨S4x4x512x1024, .bf16⟩
  | .hbm, ⟨10, _⟩ => ⟨S17408x1024, .f32⟩
  | .local _ .vmem, ⟨0, _⟩ => ⟨S256x1152, .f32⟩
  | .local _ .vmem, ⟨1, _⟩ => ⟨S256x1152, .f32⟩
  | .local _ .vmem, ⟨2, _⟩ => ⟨S1x4x1024x512, .bf16⟩
  | .local _ .vmem, ⟨3, _⟩ => ⟨S1x4x1024x512, .bf16⟩
  | .local _ .vmem, ⟨4, _⟩ => ⟨S1x4x1024x512, .bf16⟩
  | .local _ .vmem, ⟨5, _⟩ => ⟨S1x4x1024x512, .bf16⟩
  | .local _ .vmem, ⟨6, _⟩ => ⟨S1x4x512x1024, .bf16⟩
  | .local _ .vmem, ⟨7, _⟩ => ⟨S1x4x512x1024, .bf16⟩
  | .local _ .vmem, ⟨8, _⟩ => ⟨S256x1024, .f32⟩
  | .local _ .vmem, ⟨9, _⟩ => ⟨S256x1024, .f32⟩
  | .local _ .smem, ⟨0, _⟩ => ⟨S68, .i32⟩
  | .local _ .smem, ⟨1, _⟩ => ⟨S1, .i32⟩
  | _, _ => ⟨S17408x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![68], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S68.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S68) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (k0_off1_inb : ∀ i : grid0.Coords, ∀ a, (k0_off1 i) a + S1.size a ≤ S68.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S68) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_3 (k0_off1_inb : ∀ i : grid0.Coords, ∀ a, (k0_off1 i) a + S1.size a ≤ S68.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S68) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsReferenceIdeal.lean ====
abbrev S68 : Shape := ⟨1, ![68]⟩
abbrev S1 : Shape := ⟨1, ![1]⟩
abbrev S17408x1152 : Shape := ⟨2, ![17408, 1152]⟩
abbrev S16x1024x512 : Shape := ⟨3, ![16, 1024, 512]⟩
abbrev S16x512x1024 : Shape := ⟨3, ![16, 512, 1024]⟩
abbrev S68x256 : Shape := ⟨2, ![68, 256]⟩
abbrev S17408 : Shape := ⟨1, ![17408]⟩
abbrev S17408x1024 : Shape := ⟨2, ![17408, 1024]⟩
abbrev S17408x4 : Shape := ⟨2, ![17408, 4]⟩
abbrev S17408x1 : Shape := ⟨2, ![17408, 1]⟩
abbrev S4 : Shape := ⟨1, ![4]⟩
abbrev S1x4 : Shape := ⟨2, ![1, 4]⟩
abbrev S17408x4x1 : Shape := ⟨3, ![17408, 4, 1]⟩
abbrev S17408x1x4 : Shape := ⟨3, ![17408, 1, 4]⟩
abbrev S_ : Shape := ⟨0, ![]⟩
abbrev S17408x4x4 : Shape := ⟨3, ![17408, 4, 4]⟩
abbrev S17408x16 : Shape := ⟨2, ![17408, 16]⟩
abbrev S16x512x17408 : Shape := ⟨3, ![16, 512, 17408]⟩
abbrev S16x17408x512 : Shape := ⟨3, ![16, 17408, 512]⟩
abbrev S16x17408x1024 : Shape := ⟨3, ![16, 17408, 1024]⟩
abbrev S16x17408 : Shape := ⟨2, ![16, 17408]⟩
abbrev S16x17408x1 : Shape := ⟨3, ![16, 17408, 1]⟩

abbrev nBuf : Space → Nat
  | .hbm => 54
  | .vmem => 0
  | .smem => 0
  | _ => 0

abbrev bufTy : (tb : Table) → Fin (tcTables nBuf tb) → BufTy
  | .hbm, ⟨0, _⟩ => ⟨S68, .i32⟩
  | .hbm, ⟨1, _⟩ => ⟨S1, .i32⟩
  | .hbm, ⟨2, _⟩ => ⟨S17408x1152, .f32⟩
  | .hbm, ⟨3, _⟩ => ⟨S16x1024x512, .f32⟩
  | .hbm, ⟨4, _⟩ => ⟨S16x1024x512, .f32⟩
  | .hbm, ⟨5, _⟩ => ⟨S16x512x1024, .f32⟩
  | .hbm, ⟨6, _⟩ => ⟨S68x256, .i32⟩
  | .hbm, ⟨7, _⟩ => ⟨S17408, .i32⟩
  | .hbm, ⟨8, _⟩ => ⟨S68, .i32⟩
  | .hbm, ⟨9, _⟩ => ⟨S68, .i32⟩
  | .hbm, ⟨10, _⟩ => ⟨S68, .i1⟩
  | .hbm, ⟨11, _⟩ => ⟨S68x256, .i1⟩
  | .hbm, ⟨12, _⟩ => ⟨S17408, .i1⟩
  | .hbm, ⟨13, _⟩ => ⟨S17408x1024, .f32⟩
  | .hbm, ⟨14, _⟩ => ⟨S17408x4, .f32⟩
  | .hbm, ⟨15, _⟩ => ⟨S17408x1, .i1⟩
  | .hbm, ⟨16, _⟩ => ⟨S17408x1, .i32⟩
  | .hbm, ⟨17, _⟩ => ⟨S4, .i32⟩
  | .hbm, ⟨18, _⟩ => ⟨S1x4, .i32⟩
  | .hbm, ⟨19, _⟩ => ⟨S17408x4, .i32⟩
  | .hbm, ⟨20, _⟩ => ⟨S17408x4, .i32⟩
  | .hbm, ⟨21, _⟩ => ⟨S17408x4, .i1⟩
  | .hbm, ⟨22, _⟩ => ⟨S17408x4, .i1⟩
  | .hbm, ⟨23, _⟩ => ⟨S17408x4, .i1⟩
  | .hbm, ⟨24, _⟩ => ⟨S17408x4x1, .i1⟩
  | .hbm, ⟨25, _⟩ => ⟨S17408x1x4, .f32⟩
  | .hbm, ⟨26, _⟩ => ⟨S_, .f32⟩
  | .hbm, ⟨27, _⟩ => ⟨S_, .f32⟩
  | .hbm, ⟨28, _⟩ => ⟨S17408x4x4, .i1⟩
  | .hbm, ⟨29, _⟩ => ⟨S17408x4x4, .f32⟩
  | .hbm, ⟨30, _⟩ => ⟨S17408x4x4, .f32⟩
  | .hbm, ⟨31, _⟩ => ⟨S17408x4x4, .f32⟩
  | .hbm, ⟨32, _⟩ => ⟨S17408x16, .f32⟩
  | .hbm, ⟨33, _⟩ => ⟨S16x512x17408, .f32⟩
  | .hbm, ⟨34, _⟩ => ⟨S16x17408x512, .f32⟩
  | .hbm, ⟨35, _⟩ => ⟨S16x17408x512, .f32⟩
  | .hbm, ⟨36, _⟩ => ⟨S16x17408x512, .f32⟩
  | .hbm, ⟨37, _⟩ => ⟨S_, .f32⟩
  | .hbm, ⟨38, _⟩ => ⟨S16x17408x512, .f32⟩
  | .hbm, ⟨39, _⟩ => ⟨S16x17408x512, .f32⟩
  | .hbm, ⟨40, _⟩ => ⟨S_, .f32⟩
  | .hbm, ⟨41, _⟩ => ⟨S16x17408x512, .f32⟩
  | .hbm, ⟨42, _⟩ => ⟨S16x17408x512, .f32⟩
  | .hbm, ⟨43, _⟩ => ⟨S16x17408x512, .f32⟩
  | .hbm, ⟨44, _⟩ => ⟨S16x512x17408, .f32⟩
  | .hbm, ⟨45, _⟩ => ⟨S16x17408x512, .f32⟩
  | .hbm, ⟨46, _⟩ => ⟨S16x17408x512, .f32⟩
  | .hbm, ⟨47, _⟩ => ⟨S16x17408x1024, .f32⟩
  | .hbm, ⟨48, _⟩ => ⟨S16x17408, .f32⟩
  | .hbm, ⟨49, _⟩ => ⟨S16x17408x1, .f32⟩
  | .hbm, ⟨50, _⟩ => ⟨S16x17408x1024, .f32⟩
  | .hbm, ⟨51, _⟩ => ⟨S16x17408x1024, .f32⟩
  | .hbm, ⟨52, _⟩ => ⟨S_, .f32⟩
  | .hbm, ⟨53, _⟩ => ⟨S17408x1024, .f32⟩
  | _, _ => ⟨S68, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_0 : Ref sig .tc := ⟨.hbm, 52, rfl⟩
abbrev main_v33 : Ref sig .tc := ⟨.hbm, 53, rfl⟩

abbrev nD : Nat := 1
abbrev τ : Topo := Topo.v7x

variable {F : FTy → Type} [FloatOps F]
-- ==== Combine.lean ====
abbrev S16384 : Shape := ⟨1, ![16384]⟩
abbrev S16384x1152 : Shape := ⟨2, ![16384, 1152]⟩
abbrev S17408x1024 : Shape := ⟨2, ![17408, 1024]⟩
abbrev S1024 : Shape := ⟨1, ![1024]⟩
abbrev S1x1024 : Shape := ⟨2, ![1, 1024]⟩
abbrev S16384x1024 : Shape := ⟨2, ![16384, 1024]⟩
abbrev S512 : Shape := ⟨1, ![512]⟩
abbrev S512x1024 : Shape := ⟨2, ![512, 1024]⟩
abbrev S_ : Shape := ⟨0, ![]⟩
abbrev S1 : Shape := ⟨1, ![1]⟩
abbrev S512x1 : Shape := ⟨2, ![512, 1]⟩

abbrev nBuf : Space → Nat
  | .hbm => 8
  | .vmem => 7
  | .smem => 2
  | _ => 0

abbrev bufTy : (tb : Table) → Fin (tcTables nBuf tb) → BufTy
  | .hbm, ⟨0, _⟩ => ⟨S16384, .i32⟩
  | .hbm, ⟨1, _⟩ => ⟨S16384x1152, .f32⟩
  | .hbm, ⟨2, _⟩ => ⟨S17408x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .smem, ⟨0, _⟩ => ⟨S512, .i32⟩
  | .local _ .smem, ⟨1, _⟩ => ⟨S512, .i32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_scratch0 : Ref sig .tc := ⟨.vmem, 6, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c64_i32 : BitVec 32 := 64#32
  let v0 : BitVec 32 := Scalar.addi c0_i32 c64_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg9 : BitVec 32 := Scf.iv c0_i32 c1_i32 k0_t1
  let c8_i32 : BitVec 32 := 8#32
  let v32 : BitVec 32 := Scalar.muli arg9 c8_i32
  let c0_i32_18 : BitVec 32 := 0#32
  let v33 : BitVec 32 := Scalar.addi v32 c0_i32_18
  let v34 : Index := Scalar.indexCast v33
  ![v34.toNat]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v32 : BitVec 32 := Scalar.muli arg9 c8_i32
  let c0_i32_18 : BitVec 32 := 0#32
  let v33 : BitVec 32 := Scalar.addi v32 c0_i32_18
  let c0_i32_19 : BitVec 32 := 0#32
  ![v33.toNat, 0]
def k0_off3 (v35 : BitVec 32) : Fin 2 → Nat :=
  let c0_i32_20 : BitVec 32 := 0#32
  ![v35.toNat, 0]

def k0_chk1 (v35 : BitVec 32) : Prop :=
  (∀ a, (k0_off3 v35) a + S1x1024.size a ≤ S17408x1024.size a)
theorem k0_off3_inb : ∀ (v35 : BitVec 32) (k0_hw1 : k0_chk1 v35), ∀ a, (k0_off3 v35) a + S1x1024.size a ≤ S17408x1024.size a := fun v35 k0_hw1 => k0_hw1

def k0_off4 (k0_t1 : Fin k0_t1_loop.trips) : Fin 1 → Nat :=
  let c0_i32 : BitVec 32 := 0#32
  let c1_i32 : BitVec 32 := 1#32
  let arg9 : BitVec 32 := Scf.iv c0_i32 c1_i32 k0_t1
  let c8_i32_21 : BitVec 32 := 8#32
  let v38 : BitVec 32 := Scalar.muli arg9 c8_i32_21
  let c1_i32_22 : BitVec 32 := 1#32
  let v39 : BitVec 32 := Scalar.addi v38 c1_i32_22
  let v40 : Index := Scalar.indexCast v39
  ![v40.toNat]
def k0_off5 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32_21 : BitVec 32 := 8#32
  let v38 : BitVec 32 := Scalar.muli arg9 c8_i32_21
  let c1_i32_22 : BitVec 32 := 1#32
  let v39 : BitVec 32 := Scalar.addi v38 c1_i32_22
  let c0_i32_23 : BitVec 32 := 0#32
  ![v39.toNat, 0]
def k0_off6 (v41 : BitVec 32) : Fin 2 → Nat :=
  let c0_i32_24 : BitVec 32 := 0#32
  ![v41.toNat, 0]

def k0_chk2 (v41 : BitVec 32) : Prop :=
  (∀ a, (k0_off6 v41) a + S1x1024.size a ≤ S17408x1024.size a)
theorem k0_off6_inb : ∀ (v41 : BitVec 32) (k0_hw2 : k0_chk2 v41), ∀ a, (k0_off6 v41) a + S1x1024.size a ≤ S17408x1024.size a := fun v41 k0_hw2 => k0_hw2

def k0_off7 (k0_t1 : Fin k0_t1_loop.trips) : Fin 1 → Nat :=
  let c0_i32 : BitVec 32 := 0#32
  let c1_i32 : BitVec 32 := 1#32
  let arg9 : BitVec 32 := Scf.iv c0_i32 c1_i32 k0_t1
  let c8_i32_25 : BitVec 32 := 8#32
  let v44 : BitVec 32 := Scalar.muli arg9 c8_i32_25
  let c2_i32 : BitVec 32 := 2#32
  let v45 : BitVec 32 := Scalar.addi v44 c2_i32
  let v46 : Index := Scalar.indexCast v45
  ![v46.toNat]
def k0_off8 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32_25 : BitVec 32 := 8#32
  let v44 : BitVec 32 := Scalar.muli arg9 c8_i32_25
  let c2_i32 : BitVec 32 := 2#32
  let v45 : BitVec 32 := Scalar.addi v44 c2_i32
  let c0_i32_26 : BitVec 32 := 0#32
  ![v45.toNat, 0]
def k0_off9 (v47 : BitVec 32) : Fin 2 → Nat :=
  let c0_i32_27 : BitVec 32 := 0#32
  ![v47.toNat, 0]

def k0_chk3 (v47 : BitVec 32) : Prop :=
  (∀ a, (k0_off9 v47) a + S1x1024.size a ≤ S17408x1024.size a)
theorem k0_off9_inb : ∀ (v47 : BitVec 32) (k0_hw3 : k0_chk3 v47), ∀ a, (k0_off9 v47) a + S1x1024.size a ≤ S17408x1024.size a := fun v47 k0_hw3 => k0_hw3

def k0_off10 (k0_t1 : Fin k0_t1_loop.trips) : Fin 1 → Nat :=
  let c0_i32 : BitVec 32 := 0#32
  let c1_i32 : BitVec 32 := 1#32
  let arg9 : BitVec 32 := Scf.iv c0_i32 c1_i32 k0_t1
  let c8_i32_28 : BitVec 32 := 8#32
  let v50 : BitVec 32 := Scalar.muli arg9 c8_i32_28
  let c3_i32 : BitVec 32 := 3#32
  let v51 : BitVec 32 := Scalar.addi v50 c3_i32
  let v52 : Index := Scalar.indexCast v51
  ![v52.toNat]
def k0_off11 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32_28 : BitVec 32 := 8#32
  let v50 : BitVec 32 := Scalar.muli arg9 c8_i32_28
  let c3_i32 : BitVec 32 := 3#32
  let v51 : BitVec 32 := Scalar.addi v50 c3_i32
  let c0_i32_29 : BitVec 32 := 0#32
  ![v51.toNat, 0]
def k0_off12 (v53 : BitVec 32) : Fin 2 → Nat :=
  let c0_i32_30 : BitVec 32 := 0#32
  ![v53.toNat, 0]

def k0_chk4 (v53 : BitVec 32) : Prop :=
  (∀ a, (k0_off12 v53) a + S1x1024.size a ≤ S17408x1024.size a)
theorem k0_off12_inb : ∀ (v53 : BitVec 32) (k0_hw4 : k0_chk4 v53), ∀ a, (k0_off12 v53) a + S1x1024.size a ≤ S17408x1024.size a := fun v53 k0_hw4 => k0_hw4

def k0_off13 (k0_t1 : Fin k0_t1_loop.trips) : Fin 1 → Nat :=
  let c0_i32 : BitVec 32 := 0#32
  let c1_i32 : BitVec 32 := 1#32
  let arg9 : BitVec 32 := Scf.iv c0_i32 c1_i32 k0_t1
  let c8_i32_31 : BitVec 32 := 8#32
  let v56 : BitVec 32 := Scalar.muli arg9 c8_i32_31
  let c4_i32 : BitVec 32 := 4#32
  let v57 : BitVec 32 := Scalar.addi v56 c4_i32
  let v58 : Index := Scalar.indexCast v57
  ![v58.toNat]
def k0_off14 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32_31 : BitVec 32 := 8#32
  let v56 : BitVec 32 := Scalar.muli arg9 c8_i32_31
  let c4_i32 : BitVec 32 := 4#32
  let v57 : BitVec 32 := Scalar.addi v56 c4_i32
  let c0_i32_32 : BitVec 32 := 0#32
  ![v57.toNat, 0]
def k0_off15 (v59 : BitVec 32) : Fin 2 → Nat :=
  let c0_i32_33 : BitVec 32 := 0#32
  ![v59.toNat, 0]

def k0_chk5 (v59 : BitVec 32) : Prop :=
  (∀ a, (k0_off15 v59) a + S1x1024.size a ≤ S17408x1024.size a)
theorem k0_off15_inb : ∀ (v59 : BitVec 32) (k0_hw5 : k0_chk5 v59), ∀ a, (k0_off15 v59) a + S1x1024.size a ≤ S17408x1024.size a := fun v59 k0_hw5 => k0_hw5

def k0_off16 (k0_t1 : Fin k0_t1_loop.trips) : Fin 1 → Nat :=
  let c0_i32 : BitVec 32 := 0#32
  let c1_i32 : BitVec 32 := 1#32
  let arg9 : BitVec 32 := Scf.iv c0_i32 c1_i32 k0_t1
  let c8_i32_34 : BitVec 32 := 8#32
  let v62 : BitVec 32 := Scalar.muli arg9 c8_i32_34
  let c5_i32 : BitVec 32 := 5#32
  let v63 : BitVec 32 := Scalar.addi v62 c5_i32
  let v64 : Index := Scalar.indexCast v63
  ![v64.toNat]
def k0_off17 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32_34 : BitVec 32 := 8#32
  let v62 : BitVec 32 := Scalar.muli arg9 c8_i32_34
  let c5_i32 : BitVec 32 := 5#32
  let v63 : BitVec 32 := Scalar.addi v62 c5_i32
  let c0_i32_35 : BitVec 32 := 0#32
  ![v63.toNat, 0]
def k0_off18 (v65 : BitVec 32) : Fin 2 → Nat :=
  let c0_i32_36 : BitVec 32 := 0#32
  ![v65.toNat, 0]

def k0_chk6 (v65 : BitVec 32) : Prop :=
  (∀ a, (k0_off18 v65) a + S1x1024.size a ≤ S17408x1024.size a)
theorem k0_off18_inb : ∀ (v65 : BitVec 32) (k0_hw6 : k0_chk6 v65), ∀ a, (k0_off18 v65) a + S1x1024.size a ≤ S17408x1024.size a := fun v65 k0_hw6 => k0_hw6

def k0_off19 (k0_t1 : Fin k0_t1_loop.trips) : Fin 1 → Nat :=
  let c0_i32 : BitVec 32 := 0#32
  let c1_i32 : BitVec 32 := 1#32
  let arg9 : BitVec 32 := Scf.iv c0_i32 c1_i32 k0_t1
  let c8_i32_37 : BitVec 32 := 8#32
  let v68 : BitVec 32 := Scalar.muli arg9 c8_i32_37
  let c6_i32 : BitVec 32 := 6#32
  let v69 : BitVec 32 := Scalar.addi v68 c6_i32
  let v70 : Index := Scalar.indexCast v69
  ![v70.toNat]
def k0_off20 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32_37 : BitVec 32 := 8#32
  let v68 : BitVec 32 := Scalar.muli arg9 c8_i32_37
  let c6_i32 : BitVec 32 := 6#32
  let v69 : BitVec 32 := Scalar.addi v68 c6_i32
  let c0_i32_38 : BitVec 32 := 0#32
  ![v69.toNat, 0]
def k0_off21 (v71 : BitVec 32) : Fin 2 → Nat :=
  let c0_i32_39 : BitVec 32 := 0#32
  ![v71.toNat, 0]

def k0_chk7 (v71 : BitVec 32) : Prop :=
  (∀ a, (k0_off21 v71) a + S1x1024.size a ≤ S17408x1024.size a)
theorem k0_off21_inb : ∀ (v71 : BitVec 32) (k0_hw7 : k0_chk7 v71), ∀ a, (k0_off21 v71) a + S1x1024.size a ≤ S17408x1024.size a := fun v71 k0_hw7 => k0_hw7

def k0_off22 (k0_t1 : Fin k0_t1_loop.trips) : Fin 1 → Nat :=
  let c0_i32 : BitVec 32 := 0#32
  let c1_i32 : BitVec 32 := 1#32
  let arg9 : BitVec 32 := Scf.iv c0_i32 c1_i32 k0_t1
  let c8_i32_40 : BitVec 32 := 8#32
  let v74 : BitVec 32 := Scalar.muli arg9 c8_i32_40
  let c7_i32 : BitVec 32 := 7#32
  let v75 : BitVec 32 := Scalar.addi v74 c7_i32
  let v76 : Index := Scalar.indexCast v75
  ![v76.toNat]
def k0_off23 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32_40 : BitVec 32 := 8#32
  let v74 : BitVec 32 := Scalar.muli arg9 c8_i32_40
  let c7_i32 : BitVec 32 := 7#32
  let v75 : BitVec 32 := Scalar.addi v74 c7_i32
  let c0_i32_41 : BitVec 32 := 0#32
  ![v75.toNat, 0]
def k0_off24 (v77 : BitVec 32) : Fin 2 → Nat :=
  let c0_i32_42 : BitVec 32 := 0#32
  ![v77.toNat, 0]

def k0_chk8 (v77 : BitVec 32) : Prop :=
  (∀ a, (k0_off24 v77) a + S1x1024.size a ≤ S17408x1024.size a)
theorem k0_off24_inb : ∀ (v77 : BitVec 32) (k0_hw8 : k0_chk8 v77), ∀ a, (k0_off24 v77) a + S1x1024.size a ≤ S17408x1024.size a := fun v77 k0_hw8 => k0_hw8

@[reducible] def k0_t2_loop : Scf.Loop 32 :=
  let c0_i32_1 : BitVec 32 := 0#32
  let c512_i32 : BitVec 32 := 512#32
  let v1 : BitVec 32 := Scalar.addi c0_i32_1 c512_i32
  let c1_i32_2 : BitVec 32 := 1#32
  ⟨c0_i32_1, v1, c1_i32_2⟩
def k0_off25 (k0_t2 : Fin k0_t2_loop.trips) : Fin 1 → Nat :=
  let c0_i32_1 : BitVec 32 := 0#32
  let c1_i32_2 : BitVec 32 := 1#32
  let arg9 : BitVec 32 := Scf.iv c0_i32_1 c1_i32_2 k0_t2
  let v32 : Index := Scalar.indexCast arg9
  ![v32.toNat]
def k0_off26 (k0_t2 : Fin k0_t2_loop.trips) : Fin 2 → Nat :=
  let c0_i32_1 : BitVec 32 := 0#32
  let c1_i32_2 : BitVec 32 := 1#32
  let arg9 : BitVec 32 := Scf.iv c0_i32_1 c1_i32_2 k0_t2
  let c0_i32_18 : BitVec 32 := 0#32
  ![arg9.toNat, 0]
def k0_off27 (v33 : BitVec 32) : Fin 2 → Nat :=
  let c0_i32_19 : BitVec 32 := 0#32
  ![v33.toNat, 0]

def k0_chk9 (v33 : BitVec 32) : Prop :=
  (∀ a, (k0_off27 v33) a + S1x1024.size a ≤ S17408x1024.size a)
theorem k0_off27_inb : ∀ (v33 : BitVec 32) (k0_hw9 : k0_chk9 v33), ∀ a, (k0_off27 v33) a + S1x1024.size a ≤ S17408x1024.size a := fun v33 k0_hw9 => k0_hw9

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CombineReferenceIdeal.lean ====
abbrev S16384 : Shape := ⟨1, ![16384]⟩
abbrev S16384x1152 : Shape := ⟨2, ![16384, 1152]⟩
abbrev S17408x1024 : Shape := ⟨2, ![17408, 1024]⟩
abbrev S1024 : Shape := ⟨1, ![1024]⟩
abbrev S16384x1024 : Shape := ⟨2, ![16384, 1024]⟩
abbrev S_ : Shape := ⟨0, ![]⟩
abbrev S16384x1 : Shape := ⟨2, ![16384, 1]⟩
abbrev S1x1024 : Shape := ⟨2, ![1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384x1152, .f32⟩
  | .hbm, ⟨2, _⟩ => ⟨S17408x1024, .f32⟩
  | .hbm, ⟨3, _⟩ => ⟨S1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S_, .i32⟩
  | .hbm, ⟨10, _⟩ => ⟨S16384, .i32⟩
  | .hbm, ⟨11, _⟩ => ⟨S16384, .i1⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S16384, .i32⟩
  | .hbm, ⟨16, _⟩ => ⟨S16384x1, .i32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S1x1024, .f32⟩
  | .hbm, ⟨43, _⟩ => ⟨S16384x1024, .f32⟩
  | .hbm, ⟨44, _⟩ => ⟨S16384x1024, .f32⟩
  | .hbm, ⟨45, _⟩ => ⟨S1x1024, .f32⟩
  | .hbm, ⟨46, _⟩ => ⟨S16384x1024, .f32⟩
  | .hbm, ⟨47, _⟩ => ⟨S16384x1024, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== ExpertsS.lean ====
abbrev S5 : Shape := ⟨1, ![5]⟩
abbrev S1 : Shape := ⟨1, ![1]⟩
abbrev S640x1152 : Shape := ⟨2, ![640, 1152]⟩
abbrev S16x1024x512 : Shape := ⟨3, ![16, 1024, 512]⟩
abbrev S16x512x1024 : Shape := ⟨3, ![16, 512, 1024]⟩
abbrev S4x4x1024x512 : Shape := ⟨4, ![4, 4, 1024, 512]⟩
abbrev S4x4x512x1024 : Shape := ⟨4, ![4, 4, 512, 1024]⟩
abbrev S640x1024 : Shape := ⟨2, ![640, 1024]⟩
abbrev S128x1152 : Shape := ⟨2, ![128, 1152]⟩
abbrev S1x4x1024x512 : Shape := ⟨4, ![1, 4, 1024, 512]⟩
abbrev S1x4x512x1024 : Shape := ⟨4, ![1, 4, 512, 1024]⟩
abbrev S128x1024 : Shape := ⟨2, ![128, 1024]⟩
abbrev S1x1x1024x512 : Shape := ⟨4, ![1, 1, 1024, 512]⟩
abbrev S1024x512 : Shape := ⟨2, ![1024, 512]⟩
abbrev S128x512 : Shape := ⟨2, ![128, 512]⟩
abbrev S128x1 : Shape := ⟨2, ![128, 1]⟩
abbrev S1x1x512x1024 : Shape := ⟨4, ![1, 1, 512, 1024]⟩
abbrev S512x1024 : Shape := ⟨2, ![512, 1024]⟩

abbrev nBuf : Space → Nat
  | .hbm => 11
  | .vmem => 10
  | .smem => 2
  | _ => 0

abbrev bufTy : (tb : Table) → Fin (tcTables nBuf tb) → BufTy
  | .hbm, ⟨0, _⟩ => ⟨S640x1152, .f32⟩
  | .hbm, ⟨1, _⟩ => ⟨S16x1024x512, .f32⟩
  | .hbm, ⟨2, _⟩ => ⟨S16x1024x512, .f32⟩
  | .hbm, ⟨3, _⟩ => ⟨S16x512x1024, .f32⟩
  | .hbm, ⟨4, _⟩ => ⟨S4x4x1024x512, .f32⟩
  | .hbm, ⟨5, _⟩ => ⟨S4x4x1024x512, .bf16⟩
  | .hbm, ⟨6, _⟩ => ⟨S4x4x1024x512, .f32⟩
  | .hbm, ⟨7, _⟩ => ⟨S4x4x1024x512, .bf16⟩
  | .hbm, ⟨8, _⟩ => ⟨S4x4x512x1024, .f32⟩
  | .hbm, ⟨9, _⟩ => ⟨S4x4x512x1024, .bf16⟩
  | .hbm, ⟨10, _⟩ => ⟨S640x1024, .f32⟩
  | .local _ .vmem, ⟨0, _⟩ => ⟨S128x1152, .f32⟩
  | .local _ .vmem, ⟨1, _⟩ => ⟨S128x1152, .f32⟩
  | .local _ .vmem, ⟨2, _⟩ => ⟨S1x4x1024x512, .bf16⟩
  | .local _ .vmem, ⟨3, _⟩ => ⟨S1x4x1024x512, .bf16⟩
  | .local _ .vmem, ⟨4, _⟩ => ⟨S1x4x1024x512, .bf16⟩
  | .local _ .vmem, ⟨5, _⟩ => ⟨S1x4x1024x512, .bf16⟩
  | .local _ .vmem, ⟨6, _⟩ => ⟨S1x4x512x1024, .bf16⟩
  | .local _ .vmem, ⟨7, _⟩ => ⟨S1x4x512x1024, .bf16⟩
  | .local _ .vmem, ⟨8, _⟩ => ⟨S128x1024, .f32⟩
  | .local _ .vmem, ⟨9, _⟩ => ⟨S128x1024, .f32⟩
  | .local _ .smem, ⟨0, _⟩ => ⟨S5, .i32⟩
  | .local _ .smem, ⟨1, _⟩ => ⟨S1, .i32⟩
  | _, _ => ⟨S640x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![5], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S5.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S5) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (k0_off1_inb : ∀ i : grid0.Coords, ∀ a, (k0_off1 i) a + S1.size a ≤ S5.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S5) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_3 (k0_off1_inb : ∀ i : grid0.Coords, ∀ a, (k0_off1 i) a + S1.size a ≤ S5.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S5) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsSReferenceIdeal.lean ====
abbrev S5 : Shape := ⟨1, ![5]⟩
abbrev S1 : Shape := ⟨1, ![1]⟩
abbrev S640x1152 : Shape := ⟨2, ![640, 1152]⟩
abbrev S16x1024x512 : Shape := ⟨3, ![16, 1024, 512]⟩
abbrev S16x512x1024 : Shape := ⟨3, ![16, 512, 1024]⟩
abbrev S5x128 : Shape := ⟨2, ![5, 128]⟩
abbrev S640 : Shape := ⟨1, ![640]⟩
abbrev S640x1024 : Shape := ⟨2, ![640, 1024]⟩
abbrev S640x4 : Shape := ⟨2, ![640, 4]⟩
abbrev S640x1 : Shape := ⟨2, ![640, 1]⟩
abbrev S4 : Shape := ⟨1, ![4]⟩
abbrev S1x4 : Shape := ⟨2, ![1, 4]⟩
abbrev S640x4x1 : Shape := ⟨3, ![640, 4, 1]⟩
abbrev S640x1x4 : Shape := ⟨3, ![640, 1, 4]⟩
abbrev S_ : Shape := ⟨0, ![]⟩
abbrev S640x4x4 : Shape := ⟨3, ![640, 4, 4]⟩
abbrev S640x16 : Shape := ⟨2, ![640, 16]⟩
abbrev S16x512x640 : Shape := ⟨3, ![16, 512, 640]⟩
abbrev S16x640x512 : Shape := ⟨3, ![16, 640, 512]⟩
abbrev S16x640x1024 : Shape := ⟨3, ![16, 640, 1024]⟩
abbrev S16x640 : Shape := ⟨2, ![16, 640]⟩
abbrev S16x640x1 : Shape := ⟨3, ![16, 640, 1]⟩

abbrev nBuf : Space → Nat
  | .hbm => 54
  | .vmem => 0
  | .smem => 0
  | _ => 0

abbrev bufTy : (tb : Table) → Fin (tcTables nBuf tb) → BufTy
  | .hbm, ⟨0, _⟩ => ⟨S5, .i32⟩
  | .hbm, ⟨1, _⟩ => ⟨S1, .i32⟩
  | .hbm, ⟨2, _⟩ => ⟨S640x1152, .f32⟩
  | .hbm, ⟨3, _⟩ => ⟨S16x1024x512, .f32⟩
  | .hbm, ⟨4, _⟩ => ⟨S16x1024x512, .f32⟩
  | .hbm, ⟨5, _⟩ => ⟨S16x512x1024, .f32⟩
  | .hbm, ⟨6, _⟩ => ⟨S5x128, .i32⟩
  | .hbm, ⟨7, _⟩ => ⟨S640, .i32⟩
  | .hbm, ⟨8, _⟩ => ⟨S5, .i32⟩
  | .hbm, ⟨9, _⟩ => ⟨S5, .i32⟩
  | .hbm, ⟨10, _⟩ => ⟨S5, .i1⟩
  | .hbm, ⟨11, _⟩ => ⟨S5x128, .i1⟩
  | .hbm, ⟨12, _⟩ => ⟨S640, .i1⟩
  | .hbm, ⟨13, _⟩ => ⟨S640x1024, .f32⟩
  | .hbm, ⟨14, _⟩ => ⟨S640x4, .f32⟩
  | .hbm, ⟨15, _⟩ => ⟨S640x1, .i1⟩
  | .hbm, ⟨16, _⟩ => ⟨S640x1, .i32⟩
  | .hbm, ⟨17, _⟩ => ⟨S4, .i32⟩
  | .hbm, ⟨18, _⟩ => ⟨S1x4, .i32⟩
  | .hbm, ⟨19, _⟩ => ⟨S640x4, .i32⟩
  | .hbm, ⟨20, _⟩ => ⟨S640x4, .i32⟩
  | .hbm, ⟨21, _⟩ => ⟨S640x4, .i1⟩
  | .hbm, ⟨22, _⟩ => ⟨S640x4, .i1⟩
  | .hbm, ⟨23, _⟩ => ⟨S640x4, .i1⟩
  | .hbm, ⟨24, _⟩ => ⟨S640x4x1, .i1⟩
  | .hbm, ⟨25, _⟩ => ⟨S640x1x4, .f32⟩
  | .hbm, ⟨26, _⟩ => ⟨S_, .f32⟩
  | .hbm, ⟨27, _⟩ => ⟨S_, .f32⟩
  | .hbm, ⟨28, _⟩ => ⟨S640x4x4, .i1⟩
  | .hbm, ⟨29, _⟩ => ⟨S640x4x4, .f32⟩
  | .hbm, ⟨30, _⟩ => ⟨S640x4x4, .f32⟩
  | .hbm, ⟨31, _⟩ => ⟨S640x4x4, .f32⟩
  | .hbm, ⟨32, _⟩ => ⟨S640x16, .f32⟩
  | .hbm, ⟨33, _⟩ => ⟨S16x512x640, .f32⟩
  | .hbm, ⟨34, _⟩ => ⟨S16x640x512, .f32⟩
  | .hbm, ⟨35, _⟩ => ⟨S16x640x512, .f32⟩
  | .hbm, ⟨36, _⟩ => ⟨S16x640x512, .f32⟩
  | .hbm, ⟨37, _⟩ => ⟨S_, .f32⟩
  | .hbm, ⟨38, _⟩ => ⟨S16x640x512, .f32⟩
  | .hbm, ⟨39, _⟩ => ⟨S16x640x512, .f32⟩
  | .hbm, ⟨40, _⟩ => ⟨S_, .f32⟩
  | .hbm, ⟨41, _⟩ => ⟨S16x640x512, .f32⟩
  | .hbm, ⟨42, _⟩ => ⟨S16x640x512, .f32⟩
  | .hbm, ⟨43, _⟩ => ⟨S16x640x512, .f32⟩
  | .hbm, ⟨44, _⟩ => ⟨S16x512x640, .f32⟩
  | .hbm, ⟨45, _⟩ => ⟨S16x640x512, .f32⟩
  | .hbm, ⟨46, _⟩ => ⟨S16x640x512, .f32⟩
  | .hbm, ⟨47, _⟩ => ⟨S16x640x1024, .f32⟩
  | .hbm, ⟨48, _⟩ => ⟨S16x640, .f32⟩
  | .hbm, ⟨49, _⟩ => ⟨S16x640x1, .f32⟩
  | .hbm, ⟨50, _⟩ => ⟨S16x640x1024, .f32⟩
  | .hbm, ⟨51, _⟩ => ⟨S16x640x1024, .f32⟩
  | .hbm, ⟨52, _⟩ => ⟨S_, .f32⟩
  | .hbm, ⟨53, _⟩ => ⟨S640x1024, .f32⟩
  | _, _ => ⟨S5, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_0 : Ref sig .tc := ⟨.hbm, 52, rfl⟩
abbrev main_v33 : Ref sig .tc := ⟨.hbm, 53, rfl⟩

abbrev nD : Nat := 1
abbrev τ : Topo := Topo.v7x

variable {F : FTy → Type} [FloatOps F]
-- ==== CombineS.lean ====
abbrev S128 : Shape := ⟨1, ![128]⟩
abbrev S128x1152 : Shape := ⟨2, ![128, 1152]⟩
abbrev S640x1024 : Shape := ⟨2, ![640, 1024]⟩
abbrev S1024 : Shape := ⟨1, ![1024]⟩
abbrev S1x1024 : Shape := ⟨2, ![1, 1024]⟩
abbrev S128x1024 : Shape := ⟨2, ![128, 1024]⟩
abbrev S_ : Shape := ⟨0, ![]⟩
abbrev S1 : Shape := ⟨1, ![1]⟩
abbrev S128x1 : Shape := ⟨2, ![128, 1]⟩

abbrev nBuf : Space → Nat
  | .hbm => 8
  | .vmem => 5
  | .smem => 1
  | _ => 0

abbrev bufTy : (tb : Table) → Fin (tcTables nBuf tb) → BufTy
  | .hbm, ⟨0, _⟩ => ⟨S128, .i32⟩
  | .hbm, ⟨1, _⟩ => ⟨S128x1152, .f32⟩
  | .hbm, ⟨2, _⟩ => ⟨S640x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1x1024, .f32⟩
  | .local _ .vmem, ⟨3, _⟩ => ⟨S128x1024, .f32⟩
  | .local _ .vmem, ⟨4, _⟩ => ⟨S128x1024, .f32⟩
  | .local _ .smem, ⟨0, _⟩ => ⟨S128, .i32⟩
  | _, _ => ⟨S128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_scratch0 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg9 : BitVec 32 := Scf.iv c0_i32 c1_i32 k0_t1
  let c8_i32 : BitVec 32 := 8#32
  let v32 : BitVec 32 := Scalar.muli arg9 c8_i32
  let c0_i32_18 : BitVec 32 := 0#32
  let v33 : BitVec 32 := Scalar.addi v32 c0_i32_18
  let v34 : Index := Scalar.indexCast v33
  ![v34.toNat]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v32 : BitVec 32 := Scalar.muli arg9 c8_i32
  let c0_i32_18 : BitVec 32 := 0#32
  let v33 : BitVec 32 := Scalar.addi v32 c0_i32_18
  let c0_i32_19 : BitVec 32 := 0#32
  ![v33.toNat, 0]
def k0_off3 (v35 : BitVec 32) : Fin 2 → Nat :=
  let c0_i32_20 : BitVec 32 := 0#32
  ![v35.toNat, 0]

def k0_chk1 (v35 : BitVec 32) : Prop :=
  (∀ a, (k0_off3 v35) a + S1x1024.size a ≤ S640x1024.size a)
theorem k0_off3_inb : ∀ (v35 : BitVec 32) (k0_hw1 : k0_chk1 v35), ∀ a, (k0_off3 v35) a + S1x1024.size a ≤ S640x1024.size a := fun v35 k0_hw1 => k0_hw1

def k0_off4 (k0_t1 : Fin k0_t1_loop.trips) : Fin 1 → Nat :=
  let c0_i32 : BitVec 32 := 0#32
  let c1_i32 : BitVec 32 := 1#32
  let arg9 : BitVec 32 := Scf.iv c0_i32 c1_i32 k0_t1
  let c8_i32_21 : BitVec 32 := 8#32
  let v38 : BitVec 32 := Scalar.muli arg9 c8_i32_21
  let c1_i32_22 : BitVec 32 := 1#32
  let v39 : BitVec 32 := Scalar.addi v38 c1_i32_22
  let v40 : Index := Scalar.indexCast v39
  ![v40.toNat]
def k0_off5 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32_21 : BitVec 32 := 8#32
  let v38 : BitVec 32 := Scalar.muli arg9 c8_i32_21
  let c1_i32_22 : BitVec 32 := 1#32
  let v39 : BitVec 32 := Scalar.addi v38 c1_i32_22
  let c0_i32_23 : BitVec 32 := 0#32
  ![v39.toNat, 0]
def k0_off6 (v41 : BitVec 32) : Fin 2 → Nat :=
  let c0_i32_24 : BitVec 32 := 0#32
  ![v41.toNat, 0]

def k0_chk2 (v41 : BitVec 32) : Prop :=
  (∀ a, (k0_off6 v41) a + S1x1024.size a ≤ S640x1024.size a)
theorem k0_off6_inb : ∀ (v41 : BitVec 32) (k0_hw2 : k0_chk2 v41), ∀ a, (k0_off6 v41) a + S1x1024.size a ≤ S640x1024.size a := fun v41 k0_hw2 => k0_hw2

def k0_off7 (k0_t1 : Fin k0_t1_loop.trips) : Fin 1 → Nat :=
  let c0_i32 : BitVec 32 := 0#32
  let c1_i32 : BitVec 32 := 1#32
  let arg9 : BitVec 32 := Scf.iv c0_i32 c1_i32 k0_t1
  let c8_i32_25 : BitVec 32 := 8#32
  let v44 : BitVec 32 := Scalar.muli arg9 c8_i32_25
  let c2_i32 : BitVec 32 := 2#32
  let v45 : BitVec 32 := Scalar.addi v44 c2_i32
  let v46 : Index := Scalar.indexCast v45
  ![v46.toNat]
def k0_off8 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32_25 : BitVec 32 := 8#32
  let v44 : BitVec 32 := Scalar.muli arg9 c8_i32_25
  let c2_i32 : BitVec 32 := 2#32
  let v45 : BitVec 32 := Scalar.addi v44 c2_i32
  let c0_i32_26 : BitVec 32 := 0#32
  ![v45.toNat, 0]
def k0_off9 (v47 : BitVec 32) : Fin 2 → Nat :=
  let c0_i32_27 : BitVec 32 := 0#32
  ![v47.toNat, 0]

def k0_chk3 (v47 : BitVec 32) : Prop :=
  (∀ a, (k0_off9 v47) a + S1x1024.size a ≤ S640x1024.size a)
theorem k0_off9_inb : ∀ (v47 : BitVec 32) (k0_hw3 : k0_chk3 v47), ∀ a, (k0_off9 v47) a + S1x1024.size a ≤ S640x1024.size a := fun v47 k0_hw3 => k0_hw3

def k0_off10 (k0_t1 : Fin k0_t1_loop.trips) : Fin 1 → Nat :=
  let c0_i32 : BitVec 32 := 0#32
  let c1_i32 : BitVec 32 := 1#32
  let arg9 : BitVec 32 := Scf.iv c0_i32 c1_i32 k0_t1
  let c8_i32_28 : BitVec 32 := 8#32
  let v50 : BitVec 32 := Scalar.muli arg9 c8_i32_28
  let c3_i32 : BitVec 32 := 3#32
  let v51 : BitVec 32 := Scalar.addi v50 c3_i32
  let v52 : Index := Scalar.indexCast v51
  ![v52.toNat]
def k0_off11 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32_28 : BitVec 32 := 8#32
  let v50 : BitVec 32 := Scalar.muli arg9 c8_i32_28
  let c3_i32 : BitVec 32 := 3#32
  let v51 : BitVec 32 := Scalar.addi v50 c3_i32
  let c0_i32_29 : BitVec 32 := 0#32
  ![v51.toNat, 0]
def k0_off12 (v53 : BitVec 32) : Fin 2 → Nat :=
  let c0_i32_30 : BitVec 32 := 0#32
  ![v53.toNat, 0]

def k0_chk4 (v53 : BitVec 32) : Prop :=
  (∀ a, (k0_off12 v53) a + S1x1024.size a ≤ S640x1024.size a)
theorem k0_off12_inb : ∀ (v53 : BitVec 32) (k0_hw4 : k0_chk4 v53), ∀ a, (k0_off12 v53) a + S1x1024.size a ≤ S640x1024.size a := fun v53 k0_hw4 => k0_hw4

def k0_off13 (k0_t1 : Fin k0_t1_loop.trips) : Fin 1 → Nat :=
  let c0_i32 : BitVec 32 := 0#32
  let c1_i32 : BitVec 32 := 1#32
  let arg9 : BitVec 32 := Scf.iv c0_i32 c1_i32 k0_t1
  let c8_i32_31 : BitVec 32 := 8#32
  let v56 : BitVec 32 := Scalar.muli arg9 c8_i32_31
  let c4_i32 : BitVec 32 := 4#32
  let v57 : BitVec 32 := Scalar.addi v56 c4_i32
  let v58 : Index := Scalar.indexCast v57
  ![v58.toNat]
def k0_off14 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32_31 : BitVec 32 := 8#32
  let v56 : BitVec 32 := Scalar.muli arg9 c8_i32_31
  let c4_i32 : BitVec 32 := 4#32
  let v57 : BitVec 32 := Scalar.addi v56 c4_i32
  let c0_i32_32 : BitVec 32 := 0#32
  ![v57.toNat, 0]
def k0_off15 (v59 : BitVec 32) : Fin 2 → Nat :=
  let c0_i32_33 : BitVec 32 := 0#32
  ![v59.toNat, 0]

def k0_chk5 (v59 : BitVec 32) : Prop :=
  (∀ a, (k0_off15 v59) a + S1x1024.size a ≤ S640x1024.size a)
theorem k0_off15_inb : ∀ (v59 : BitVec 32) (k0_hw5 : k0_chk5 v59), ∀ a, (k0_off15 v59) a + S1x1024.size a ≤ S640x1024.size a := fun v59 k0_hw5 => k0_hw5

def k0_off16 (k0_t1 : Fin k0_t1_loop.trips) : Fin 1 → Nat :=
  let c0_i32 : BitVec 32 := 0#32
  let c1_i32 : BitVec 32 := 1#32
  let arg9 : BitVec 32 := Scf.iv c0_i32 c1_i32 k0_t1
  let c8_i32_34 : BitVec 32 := 8#32
  let v62 : BitVec 32 := Scalar.muli arg9 c8_i32_34
  let c5_i32 : BitVec 32 := 5#32
  let v63 : BitVec 32 := Scalar.addi v62 c5_i32
  let v64 : Index := Scalar.indexCast v63
  ![v64.toNat]
def k0_off17 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32_34 : BitVec 32 := 8#32
  let v62 : BitVec 32 := Scalar.muli arg9 c8_i32_34
  let c5_i32 : BitVec 32 := 5#32
  let v63 : BitVec 32 := Scalar.addi v62 c5_i32
  let c0_i32_35 : BitVec 32 := 0#32
  ![v63.toNat, 0]
def k0_off18 (v65 : BitVec 32) : Fin 2 → Nat :=
  let c0_i32_36 : BitVec 32 := 0#32
  ![v65.toNat, 0]

def k0_chk6 (v65 : BitVec 32) : Prop :=
  (∀ a, (k0_off18 v65) a + S1x1024.size a ≤ S640x1024.size a)
theorem k0_off18_inb : ∀ (v65 : BitVec 32) (k0_hw6 : k0_chk6 v65), ∀ a, (k0_off18 v65) a + S1x1024.size a ≤ S640x1024.size a := fun v65 k0_hw6 => k0_hw6

def k0_off19 (k0_t1 : Fin k0_t1_loop.trips) : Fin 1 → Nat :=
  let c0_i32 : BitVec 32 := 0#32
  let c1_i32 : BitVec 32 := 1#32
  let arg9 : BitVec 32 := Scf.iv c0_i32 c1_i32 k0_t1
  let c8_i32_37 : BitVec 32 := 8#32
  let v68 : BitVec 32 := Scalar.muli arg9 c8_i32_37
  let c6_i32 : BitVec 32 := 6#32
  let v69 : BitVec 32 := Scalar.addi v68 c6_i32
  let v70 : Index := Scalar.indexCast v69
  ![v70.toNat]
def k0_off20 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32_37 : BitVec 32 := 8#32
  let v68 : BitVec 32 := Scalar.muli arg9 c8_i32_37
  let c6_i32 : BitVec 32 := 6#32
  let v69 : BitVec 32 := Scalar.addi v68 c6_i32
  let c0_i32_38 : BitVec 32 := 0#32
  ![v69.toNat, 0]
def k0_off21 (v71 : BitVec 32) : Fin 2 → Nat :=
  let c0_i32_39 : BitVec 32 := 0#32
  ![v71.toNat, 0]

def k0_chk7 (v71 : BitVec 32) : Prop :=
  (∀ a, (k0_off21 v71) a + S1x1024.size a ≤ S640x1024.size a)
theorem k0_off21_inb : ∀ (v71 : BitVec 32) (k0_hw7 : k0_chk7 v71), ∀ a, (k0_off21 v71) a + S1x1024.size a ≤ S640x1024.size a := fun v71 k0_hw7 => k0_hw7

def k0_off22 (k0_t1 : Fin k0_t1_loop.trips) : Fin 1 → Nat :=
  let c0_i32 : BitVec 32 := 0#32
  let c1_i32 : BitVec 32 := 1#32
  let arg9 : BitVec 32 := Scf.iv c0_i32 c1_i32 k0_t1
  let c8_i32_40 : BitVec 32 := 8#32
  let v74 : BitVec 32 := Scalar.muli arg9 c8_i32_40
  let c7_i32 : BitVec 32 := 7#32
  let v75 : BitVec 32 := Scalar.addi v74 c7_i32
  let v76 : Index := Scalar.indexCast v75
  ![v76.toNat]
def k0_off23 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32_40 : BitVec 32 := 8#32
  let v74 : BitVec 32 := Scalar.muli arg9 c8_i32_40
  let c7_i32 : BitVec 32 := 7#32
  let v75 : BitVec 32 := Scalar.addi v74 c7_i32
  let c0_i32_41 : BitVec 32 := 0#32
  ![v75.toNat, 0]
def k0_off24 (v77 : BitVec 32) : Fin 2 → Nat :=
  let c0_i32_42 : BitVec 32 := 0#32
  ![v77.toNat, 0]

def k0_chk8 (v77 : BitVec 32) : Prop :=
  (∀ a, (k0_off24 v77) a + S1x1024.size a ≤ S640x1024.size a)
theorem k0_off24_inb : ∀ (v77 : BitVec 32) (k0_hw8 : k0_chk8 v77), ∀ a, (k0_off24 v77) a + S1x1024.size a ≤ S640x1024.size a := fun v77 k0_hw8 => k0_hw8

@[reducible] def k0_t2_loop : Scf.Loop 32 :=
  let c0_i32_1 : BitVec 32 := 0#32
  let c128_i32 : BitVec 32 := 128#32
  let v1 : BitVec 32 := Scalar.addi c0_i32_1 c128_i32
  let c1_i32_2 : BitVec 32 := 1#32
  ⟨c0_i32_1, v1, c1_i32_2⟩
def k0_off25 (k0_t2 : Fin k0_t2_loop.trips) : Fin 1 → Nat :=
  let c0_i32_1 : BitVec 32 := 0#32
  let c1_i32_2 : BitVec 32 := 1#32
  let arg9 : BitVec 32 := Scf.iv c0_i32_1 c1_i32_2 k0_t2
  let v32 : Index := Scalar.indexCast arg9
  ![v32.toNat]
def k0_off26 (k0_t2 : Fin k0_t2_loop.trips) : Fin 2 → Nat :=
  let c0_i32_1 : BitVec 32 := 0#32
  let c1_i32_2 : BitVec 32 := 1#32
  let arg9 : BitVec 32 := Scf.iv c0_i32_1 c1_i32_2 k0_t2
  let c0_i32_18 : BitVec 32 := 0#32
  ![arg9.toNat, 0]
def k0_off27 (v33 : BitVec 32) : Fin 2 → Nat :=
  let c0_i32_19 : BitVec 32 := 0#32
  ![v33.toNat, 0]

def k0_chk9 (v33 : BitVec 32) : Prop :=
  (∀ a, (k0_off27 v33) a + S1x1024.size a ≤ S640x1024.size a)
theorem k0_off27_inb : ∀ (v33 : BitVec 32) (k0_hw9 : k0_chk9 v33), ∀ a, (k0_off27 v33) a + S1x1024.size a ≤ S640x1024.size a := fun v33 k0_hw9 => k0_hw9

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== CombineSReferenceIdeal.lean ====
abbrev S128 : Shape := ⟨1, ![128]⟩
abbrev S128x1152 : Shape := ⟨2, ![128, 1152]⟩
abbrev S640x1024 : Shape := ⟨2, ![640, 1024]⟩
abbrev S1024 : Shape := ⟨1, ![1024]⟩
abbrev S128x1024 : Shape := ⟨2, ![128, 1024]⟩
abbrev S_ : Shape := ⟨0, ![]⟩
abbrev S128x1 : Shape := ⟨2, ![128, 1]⟩
abbrev S1x1024 : Shape := ⟨2, ![1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S128, .i32⟩
  | .hbm, ⟨1, _⟩ => ⟨S128x1152, .f32⟩
  | .hbm, ⟨2, _⟩ => ⟨S640x1024, .f32⟩
  | .hbm, ⟨3, _⟩ => ⟨S1024, .f32⟩
  | .hbm, ⟨4, _⟩ => ⟨S1024, .f32⟩
  | .hbm, ⟨5, _⟩ => ⟨S128x1024, .f32⟩
  | .hbm, ⟨6, _⟩ => ⟨S_, .f32⟩
  | .hbm, ⟨7, _⟩ => ⟨S128x1024, .f32⟩
  | .hbm, ⟨8, _⟩ => ⟨S128x1024, .f32⟩
  | .hbm, ⟨9, _⟩ => ⟨S_, .i32⟩
  | .hbm, ⟨10, _⟩ => ⟨S128, .i32⟩
  | .hbm, ⟨11, _⟩ => ⟨S128, .i1⟩
  | .hbm, ⟨12, _⟩ => ⟨S_, .i32⟩
  | .hbm, ⟨13, _⟩ => ⟨S128, .i32⟩
  | .hbm, ⟨14, _⟩ => ⟨S128, .i32⟩
  | .hbm, ⟨15, _⟩ => ⟨S128, .i32⟩
  | .hbm, ⟨16, _⟩ => ⟨S128x1, .i32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128, .f32⟩
  | .hbm, ⟨21, _⟩ => ⟨S128x1, .f32⟩
  | .hbm, ⟨22, _⟩ => ⟨S_, .f32⟩
  | .hbm, ⟨23, _⟩ => ⟨S128x1, .f32⟩
  | .hbm, ⟨24, _⟩ => ⟨S128x1, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128, .f32⟩
  | .hbm, ⟨30, _⟩ => ⟨S128x1, .f32⟩
  | .hbm, ⟨31, _⟩ => ⟨S_, .f32⟩
  | .hbm, ⟨32, _⟩ => ⟨S128x1, .f32⟩
  | .hbm, ⟨33, _⟩ => ⟨S128x1, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1, .f32⟩
  | .hbm, ⟨38, _⟩ => ⟨S128x1, .f32⟩
  | .hbm, ⟨39, _⟩ => ⟨S128x1, .f32⟩
  | .hbm, ⟨40, _⟩ => ⟨S128x1024, .f32⟩
  | .hbm, ⟨41, _⟩ => ⟨S128x1024, .f32⟩
  | .hbm, ⟨42, _⟩ => ⟨S1x1024, .f32⟩
  | .hbm, ⟨43, _⟩ => ⟨S128x1024, .f32⟩
  | .hbm, ⟨44, _⟩ => ⟨S128x1024, .f32⟩
  | .hbm, ⟨45, _⟩ => ⟨S1x1024, .f32⟩
  | .hbm, ⟨46, _⟩ => ⟨S128x1024, .f32⟩
  | .hbm, ⟨47, _⟩ => ⟨S128x1024, .f32⟩
  | _, _ => ⟨S128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Proof.Frames.lean ====
/- The references' frames: each reference program ends, leaves its arguments as they were and every semaphore at zero. It is
   a list of host operations, so its run states where every array ends; the semaphores it has none of. -/
module

public import proofs.«01_k».proof.Defs
public import proofs.«01_k».proof.Proof.Gen.GmlpReferenceIdeal.Run
public import proofs.«01_k».proof.Proof.Gen.AttnInReferenceIdeal.Run
public import proofs.«01_k».proof.Proof.Gen.GmlpSReferenceIdeal.Run
public import proofs.«01_k».proof.Proof.Gen.AttnInSReferenceIdeal.Run
public import proofs.«01_k».proof.Proof.Gen.MergeReferenceIdeal.Run
public import proofs.«01_k».proof.Proof.Gen.MergeSReferenceIdeal.Run
public import Idealize.ShloMosaic.Lib.Claim

@[expose] public section

noncomputable section

open Idealize.ShloMosaic Idealize.SL.Sem

namespace Cert.ReferenceFrames

/-- The reference for the gMLP branch for the prompt. -/
theorem gmlp : Cert.quiescent_GmlpReferenceIdeal := fun m ρ _ =>
  (θ_run Cert.GmlpReferenceIdeal.defs _ _).mono
    (fun r h => ⟨fun c => (h c).2, Idealize.ShloMosaic.sem_eq_zero_of_no_sems (by decide) r.2⟩)
    (Cert.GmlpReferenceIdeal.Value.run (F := Ideal) m ρ)

/-- The reference for the attention's input projection for the prompt. -/
theorem attnIn : Cert.quiescent_AttnInReferenceIdeal := fun m ρ _ =>
  (θ_run Cert.AttnInReferenceIdeal.defs _ _).mono
    (fun r h => ⟨fun c => (h c).2.2.2.2.2.2, Idealize.ShloMosaic.sem_eq_zero_of_no_sems (by decide) r.2⟩)
    (Cert.AttnInReferenceIdeal.Value.run (F := Ideal) m ρ)

/-- The reference for the gMLP branch for the sample batch. -/
theorem gmlpS : Cert.quiescent_GmlpSReferenceIdeal := fun m ρ _ =>
  (θ_run Cert.GmlpSReferenceIdeal.defs _ _).mono
    (fun r h => ⟨fun c => (h c).2.2, Idealize.ShloMosaic.sem_eq_zero_of_no_sems (by decide) r.2⟩)
    (Cert.GmlpSReferenceIdeal.Value.run (F := Ideal) m ρ)

/-- The reference for the attention's input projection for the sample batch. -/
theorem attnInS : Cert.quiescent_AttnInSReferenceIdeal := fun m ρ _ =>
  (θ_run Cert.AttnInSReferenceIdeal.defs _ _).mono
    (fun r h => ⟨fun c => (h c).2.2.2.2, Idealize.ShloMosaic.sem_eq_zero_of_no_sems (by decide) r.2⟩)
    (Cert.AttnInSReferenceIdeal.Value.run (F := Ideal) m ρ)

/-- The reference for the first residual step for the prompt. -/
theorem merge : Cert.quiescent_MergeReferenceIdeal := fun m ρ _ =>
  (θ_run Cert.MergeReferenceIdeal.defs _ _).mono
    (fun r h => ⟨fun c => (h c).2, Idealize.ShloMosaic.sem_eq_zero_of_no_sems (by decide) r.2⟩)
    (Cert.MergeReferenceIdeal.Value.run (F := Ideal) m ρ)

/-- The reference for the first residual step for the sample batch. -/
theorem mergeS : Cert.quiescent_MergeSReferenceIdeal := fun m ρ _ =>
  (θ_run Cert.MergeSReferenceIdeal.defs _ _).mono
    (fun r h => ⟨fun c => (h c).2, Idealize.ShloMosaic.sem_eq_zero_of_no_sems (by decide) r.2⟩)
    (Cert.MergeSReferenceIdeal.Value.run (F := Ideal) m ρ)

end Cert.ReferenceFrames

end
-- ==== Proof.Products.lean ====
/- The input projection at an index. All four calls start from the product of a batch of rows with the layer's fused
   input weight, and differ only in which columns of it they use: `proj x w r j` is the entry of row `r`, column `j`. -/
module

public import Idealize.ShloMosaic.Lib.Pointwise

@[expose] public section

noncomputable section

open Idealize.ShloMosaic

namespace Cert.Layer

/-- Row `r`, column `j` of the product of the rows `x` with the fused input weight `w`. -/
def proj {n : ℕ} (x : FVec Ideal ⟨2, ![n, 1024]⟩ .f32) (w : FVec Ideal ⟨2, ![1024, 5936]⟩ .f32) (r : Fin n)
    (j : Fin 5936) : EReal :=
  ∑ k : Fin 1024, x (ix2 r k) * w (ix2 k j)

/-- An entry of the projection depends on the numbers of its row and column alone, however they are written. -/
theorem proj_congr {n : ℕ} (x : FVec Ideal ⟨2, ![n, 1024]⟩ .f32) (w : FVec Ideal ⟨2, ![1024, 5936]⟩ .f32)
    {r r' : Fin n} {j j' : Fin 5936} (hr : r.val = r'.val) (hj : j.val = j'.val) : proj x w r j = proj x w r' j' := by
  rw [Fin.ext hr, Fin.ext hj]

/-- An entry of the projection with the weight as the left factor, as the transposed products have it. -/
theorem weight_first {n : ℕ} (x : FVec Ideal ⟨2, ![n, 1024]⟩ .f32) (w : FVec Ideal ⟨2, ![1024, 5936]⟩ .f32) (r : Fin n)
    (j : Fin 5936) : ∑ k : Fin 1024, w (ix2 k j) * x (ix2 r k) = proj x w r j :=
  Finset.sum_congr rfl fun _ _ => mul_comm _ _

/-- The logistic function written out with negation, exponential, sum and quotient. -/
theorem logistic_spelt (z : EReal) : Ideal.div 1 (1 + Ideal.exp (-z)) = Ideal.logistic z := rfl

/-- The program's sum of two exact numbers. -/
theorem add_spelt {φ : FTy} (a b : Ideal φ) : FloatOps.addf a b = (a + b : EReal) := rfl

/-- The program's product of two exact numbers. -/
theorem mul_spelt {φ : FTy} (a b : Ideal φ) : FloatOps.mulf a b = (a * b : EReal) := rfl

end Cert.Layer

end
-- ==== Proof.Mixer.lean ====
/- The gMLP mixer on the extended reals, entry by entry: the activation, the layer normalisation of the gate values, the
   causal mixing of a chunk's 128 positions, and the gated output projection. Both sides of the prompt's claim are shown
   to be `out`; the sample's claim uses the activation and the normalisation. -/
module

public import proofs.«01_k».proof.Proof.Products

@[expose] public section

noncomputable section

open Idealize.ShloMosaic

namespace Cert.Layer

/-- The activation: `z / 2 * (1 + tanh (c * (z + d * z³)))`, with the two constants as the program rounds them. -/
def gelu (z : EReal) : EReal :=
  z * (Ideal.ofBits .f32 1056964608#32
    * (1 + Ideal.tanh (Ideal.ofBits .f32 1061962282#32 * (z + Ideal.ofBits .f32 1027024659#32 * (z * (z * z))))))

/-- The mean of 1024 numbers. -/
def mean (f : Fin 1024 → EReal) : EReal := Ideal.div (∑ k, f k) (Ideal.ofBits .f32 1149239296#32)

/-- Number `j` of a row after its mean is taken off and it is divided by its standard deviation (the variance raised by
    the program's small constant). -/
def normed (f : Fin 1024 → EReal) (j : Fin 1024) : EReal :=
  (f j - mean f) * Ideal.rsqrt (mean (fun k => (f k - mean f) * (f k - mean f)) + Ideal.ofBits .f32 925353388#32)

section

variable {n : ℕ} (x : FVec Ideal ⟨2, ![n, 1024]⟩ .f32) (w : FVec Ideal ⟨2, ![1024, 5936]⟩ .f32)
  (g b : FVec Ideal ⟨1, ![1024]⟩ .f32)

/-- The value half of the mixer: the activation of columns 1024 to 2047 of the projection, normalised along the row,
    scaled and shifted. -/
def vn (r : Fin n) (j : Fin 1024) : EReal :=
  normed (fun k => gelu (proj x w r ⟨1024 + k.val, by omega⟩)) j * g (ix1 j) + b (ix1 j)

end

section

variable (x : FVec Ideal ⟨2, ![16384, 1024]⟩ .f32) (w : FVec Ideal ⟨2, ![1024, 5936]⟩ .f32)
  (g b : FVec Ideal ⟨1, ![1024]⟩ .f32) (ws : FVec Ideal ⟨3, ![8, 128, 128]⟩ .f32) (bs : FVec Ideal ⟨2, ![8, 128]⟩ .f32)
  (wa : FVec Ideal ⟨2, ![1024, 1024]⟩ .f32)

/-- The mixed values: row `r` is position `r % 128` of its chunk, column `j` belongs to group `j / 128`; the group's
    causal matrix weighs the chunk's positions up to that one, and the position's bias is added. -/
def mixed (r : Fin 16384) (j : Fin 1024) : EReal :=
  (∑ s : Fin 128, if s.val ≤ r.val % 128 then
      ws (ix3 ⟨j.val / 128, by omega⟩ ⟨r.val % 128, by omega⟩ s) * vn x w g b ⟨r.val / 128 * 128 + s.val, by omega⟩ j
    else 0) + bs (ix2 ⟨j.val / 128, by omega⟩ ⟨r.val % 128, by omega⟩)

/-- The branch's output: the gate times the projection of the activated first half multiplied by the mixed values. -/
def out (r : Fin 16384) (i : Fin 1024) : EReal :=
  Ideal.logistic (proj x w r ⟨3888 + i.val, by omega⟩)
    * ∑ j : Fin 1024, gelu (proj x w r ⟨j.val, by omega⟩) * mixed x w g b ws bs r j * wa (ix2 j i)

end

section

variable (x : FVec Ideal ⟨2, ![128, 1024]⟩ .f32) (w : FVec Ideal ⟨2, ![1024, 5936]⟩ .f32)
  (g b : FVec Ideal ⟨1, ![1024]⟩ .f32) (ws : FVec Ideal ⟨3, ![8, 128, 128]⟩ .f32) (bs : FVec Ideal ⟨2, ![8, 128]⟩ .f32)
  (wa : FVec Ideal ⟨2, ![1024, 1024]⟩ .f32)

/-- The branch's output where every sequence has one position: the first position of a chunk mixes with itself alone. -/
def outFirst (r : Fin 128) (i : Fin 1024) : EReal :=
  Ideal.logistic (proj x w r ⟨3888 + i.val, by omega⟩)
    * ∑ j : Fin 1024, gelu (proj x w r ⟨j.val, by omega⟩)
      * (vn x w g b r j * ws (ix3 ⟨j.val / 128, by omega⟩ 0 0) + bs (ix2 ⟨j.val / 128, by omega⟩ 0)) * wa (ix2 j i)

end

/-- Comparing two positions of a chunk as 32-bit words, the later first. -/
theorem causal_sge : ∀ t s : Fin 128, IntOp.cmpi .sge (IntOp.addi (BitVec.ofNat 32 t.val) 0#32) (BitVec.ofNat 32 s.val)
    = if s.val ≤ t.val then 1#1 else 0#1 := by
  decide +kernel

/-- Comparing two positions of a chunk as 32-bit words, the earlier first. -/
theorem causal_sle : ∀ t s : Fin 128, IntOp.cmpi .sle (BitVec.ofNat 32 s.val) (BitVec.ofNat 32 t.val)
    = if s.val ≤ t.val then 1#1 else 0#1 := by
  decide +kernel

/-- Selecting by a condition's word is choosing by the condition. -/
theorem select_ite {α : Type} (p : Prop) [Decidable p] (u v : α) :
    Scalar.select (if p then 1#1 else 0#1) u v = if p then u else v := by
  split <;> rfl

end Cert.Layer

end
-- ==== Proof.Gmlp.Tile.lean ====
/- One tile of the gMLP branch's kernel for the prompt: 512 rows, four chunks of 128 positions. The kernel mixes one group of
   128 columns at a time, laying the four chunks side by side so that one matrix product serves them; `group_apply` reads
   that at an index, for any group. -/
module

public import proofs.«01_k».proof.Proof.Gen.GmlpIdeal.Value
public import proofs.«01_k».proof.Proof.Mixer
public import Idealize.ShloMosaic.Lib.Pipeline.ValueKit
public import Idealize.ShloMosaic.Lib.StableHlo.ReadAt

@[expose] public section

noncomputable section

open Idealize.ShloMosaic Idealize.ShloMosaic.TcCoe Idealize.SL.Sem Cert.Layer

namespace Cert.GmlpIdeal.Tile

open Cert.GmlpIdeal Cert.GmlpIdeal.Gen

/-- The mixed value of row `p` of a tile of four chunks, at column `j`: the chunk's positions up to that row's, weighed by
    `w`, and the position's bias. -/
def mix (v : Fin 512 → Fin 1024 → EReal) (w : Fin 128 → Fin 128 → EReal) (b : Fin 128 → EReal) (p : Fin 512)
    (j : Fin 1024) : EReal :=
  (∑ s : Fin 128, if s.val ≤ p.val % 128 then
      w ⟨p.val % 128, by omega⟩ s * v ⟨p.val / 128 * 128 + s.val, by omega⟩ j
    else 0) + b ⟨p.val % 128, by omega⟩

/-- The kernel's computation for the group of the 128 columns from `o` on, with column `g` of the biases. -/
def group (o g : ℕ) (h0 : S512x1024.Slices ![0, o] S128x128) (h1 : S512x1024.Slices ![128, o] S128x128)
    (h2 : S512x1024.Slices ![256, o] S128x128) (h3 : S512x1024.Slices ![384, o] S128x128)
    (hb : S128x8.Slices ![0, g] S128x1) (vb : FVec Ideal S512x1024 .bf16) (b : FVec Ideal S128x8 .f32)
    (w : Vec Ideal S1x128x128 .f32) : FVec Ideal S512x128 .f32 :=
  let side : FVec Ideal S128x512 .bf16 := concatenate S128x512 1
    [⟨S128x128, extractStridedSlice S128x128 ![0, o] vb h0⟩, ⟨S128x128, extractStridedSlice S128x128 ![128, o] vb h1⟩,
      ⟨S128x128, extractStridedSlice S128x128 ![256, o] vb h2⟩, ⟨S128x128, extractStridedSlice S128x128 ![384, o] vb h3⟩]
    concatenates_S128x128_S128x128_S128x128_S128x128_S128x512_d1
  let lower : FVec Ideal S128x128 .bf16 := truncf .bf16 (select k0_pay8 (shapeCast S128x128 w shapeCasts_S1x128x128_S128x128)
    (broadcast S128x128 (Scalar.ofBits (F := Ideal) .f32 0x00000000#32))) bitsLt_bf16_f32
  let sums : FVec Ideal S128x512 .f32 := addf
    (matmul dot_S128x128_S128x512_S128x512_1_0_0_1_n_n none lower side (constant S128x512 .f32 0x00000000#32))
    (broadcastTo S128x512 (extractStridedSlice S128x1 ![0, g] b hb) broadcasts_S128x1_S128x512)
  concatenate S512x128 0
    [⟨S128x128, extractStridedSlice S128x128 ![0, 0] sums slices_S128x512_o0_0_S128x128⟩,
      ⟨S128x128, extractStridedSlice S128x128 ![0, 128] sums slices_S128x512_o0_128_S128x128⟩,
      ⟨S128x128, extractStridedSlice S128x128 ![0, 256] sums slices_S128x512_o0_256_S128x128⟩,
      ⟨S128x128, extractStridedSlice S128x128 ![0, 384] sums slices_S128x512_o0_384_S128x128⟩]
    concatenates_S128x128_S128x128_S128x128_S128x128_S512x128_d0

/-- What the group's computation leaves at an index: the causal mix. -/
theorem group_apply (o g : ℕ) (h0 : S512x1024.Slices ![0, o] S128x128) (h1 : S512x1024.Slices ![128, o] S128x128)
    (h2 : S512x1024.Slices ![256, o] S128x128) (h3 : S512x1024.Slices ![384, o] S128x128)
    (hb : S128x8.Slices ![0, g] S128x1) (ho : o + 128 ≤ 1024) (hg : g < 8) (vb : FVec Ideal S512x1024 .bf16)
    (b : FVec Ideal S128x8 .f32) (w : Vec Ideal S1x128x128 .f32) (p : Fin 512) (d : Fin 128) :
    group o g h0 h1 h2 h3 hb vb b w (ix2 p d)
      = mix (fun r j => vb (ix2 r j)) (fun t s => w (ix3 0 t s)) (fun t => b (ix2 t ⟨g, hg⟩)) p
        ⟨o + d.val, by omega⟩ := by
  pointwise [group, k0_pay8]
  have a0 : d.val < 128 := d.isLt
  have a1 : ¬ (256 + d.val < 128) := by omega
  have a2 : ¬ (256 + d.val - 128 < 128) := by omega
  have a3 : 256 + d.val - 128 - 128 < 128 := by omega
  have a4 : ¬ (384 + d.val < 128) := by omega
  have a5 : ¬ (384 + d.val - 128 < 128) := by omega
  have a6 : ¬ (384 + d.val - 128 - 128 < 128) := by omega
  have e1 : 256 + d.val - 128 - 128 = d.val := by omega
  have e2 : 384 + d.val - 128 - 128 - 128 = d.val := by omega
  simp only [a0, a1, a2, a3, a4, a5, a6, e1, e2, ↓reduceDIte]
  unfold mix
  have hp : (p.val < 128 ∧ p.val / 128 = 0 ∧ p.val % 128 = p.val)
    ∨ (¬ p.val < 128 ∧ p.val - 128 < 128 ∧ p.val / 128 = 1 ∧ p.val % 128 = p.val - 128)
    ∨ (¬ p.val < 128 ∧ ¬ p.val - 128 < 128 ∧ p.val - 128 - 128 < 128 ∧ p.val / 128 = 2 ∧ p.val % 128 = p.val - 128 - 128)
    ∨ (¬ p.val < 128 ∧ ¬ p.val - 128 < 128 ∧ ¬ p.val - 128 - 128 < 128 ∧ p.val / 128 = 3
      ∧ p.val % 128 = p.val - 128 - 128 - 128) := by omega
  rcases hp with h | h | h | h
  · simp only [h, ↓reduceDIte, select_ite, causal_sle ⟨p.val, h.1⟩, Nat.zero_mul, Nat.zero_add, Nat.add_zero]
  · simp only [h, ↓reduceDIte, select_ite, causal_sle ⟨p.val - 128, h.2.1⟩, Nat.one_mul, Nat.add_zero]
  · simp only [h, a0, ↓reduceDIte, select_ite, causal_sle ⟨p.val - 128 - 128, h.2.2.1⟩, Nat.reduceMul, Nat.add_zero]
  · simp only [h, ↓reduceDIte, select_ite, causal_sle ⟨p.val - 128 - 128 - 128, by omega⟩, Nat.reduceMul, Nat.add_zero]

/-- The eight groups' columns side by side, the output weight's product after them. -/
def project (u : FVec Ideal S512x1024 .f32) (g0 g1 g2 g3 g4 g5 g6 g7 : FVec Ideal S512x128 .f32)
    (wa : Vec Ideal S1024x1024 .bf16) : FVec Ideal S512x1024 .f32 :=
  matmul (φ₂ := .bf16) dot_S512x1024_S1024x1024_S512x1024_1_0_0_1_n_n none
    (truncf .bf16 (mulf u (concatenate S512x1024 1 [⟨S512x128, g0⟩, ⟨S512x128, g1⟩, ⟨S512x128, g2⟩, ⟨S512x128, g3⟩,
      ⟨S512x128, g4⟩, ⟨S512x128, g5⟩, ⟨S512x128, g6⟩, ⟨S512x128, g7⟩]
      concatenates_S512x128_S512x128_S512x128_S512x128_S512x128_S512x128_S512x128_S512x128_S512x1024_d1))
      bitsLt_bf16_f32)
    (shapeCast S1024x1024 wa shapeCasts_S1024x1024_S1024x1024) (constant S512x1024 .f32 0x00000000#32)

/-- If each group's columns are the columns of `q`, the product is with `q`. -/
theorem project_apply (u : FVec Ideal S512x1024 .f32) (g0 g1 g2 g3 g4 g5 g6 g7 : FVec Ideal S512x128 .f32)
    (wa : Vec Ideal S1024x1024 .bf16) (q : Fin 512 → Fin 1024 → EReal)
    (e0 : ∀ p (d : Fin 128), g0 (ix2 p d) = q p ⟨d.val, by omega⟩)
    (e1 : ∀ p (d : Fin 128), g1 (ix2 p d) = q p ⟨128 + d.val, by omega⟩)
    (e2 : ∀ p (d : Fin 128), g2 (ix2 p d) = q p ⟨256 + d.val, by omega⟩)
    (e3 : ∀ p (d : Fin 128), g3 (ix2 p d) = q p ⟨384 + d.val, by omega⟩)
    (e4 : ∀ p (d : Fin 128), g4 (ix2 p d) = q p ⟨512 + d.val, by omega⟩)
    (e5 : ∀ p (d : Fin 128), g5 (ix2 p d) = q p ⟨640 + d.val, by omega⟩)
    (e6 : ∀ p (d : Fin 128), g6 (ix2 p d) = q p ⟨768 + d.val, by omega⟩)
    (e7 : ∀ p (d : Fin 128), g7 (ix2 p d) = q p ⟨896 + d.val, by omega⟩) (p : Fin 512) (i : Fin 1024) :
    project u g0 g1 g2 g3 g4 g5 g6 g7 wa (ix2 p i) = ∑ j : Fin 1024, u (ix2 p j) * q p j * wa (ix2 j i) := by
  pointwise [project]
  refine Finset.sum_congr rfl fun j _ => ?_
  congr 2
  simp only [e0, e1, e2, e3, e4, e5, e6, e7]
  split_ifs <;> exact congrArg (q p) (Fin.ext (by first | rfl | omega | (dsimp only; omega)))

/-- The activated columns of a tile. -/
theorem gelu_apply (x : Vec Ideal S512x1024 .f32) (w : Vec Ideal S1024x1024 .bf16) (p : Fin 512) (j : Fin 1024) :
    k0_pay3 x w (ix2 p j) = gelu (∑ k : Fin 1024, x (ix2 p k) * w (ix2 k j)) := by
  pointwise [k0_pay3, k0_pay2]
  rfl

/-- The same for the value half. -/
theorem gelu_apply' (x : Vec Ideal S512x1024 .f32) (w : Vec Ideal S1024x1024 .bf16) (p : Fin 512) (j : Fin 1024) :
    k0_pay4 x w (ix2 p j) = gelu (∑ k : Fin 1024, x (ix2 p k) * w (ix2 k j)) := by
  pointwise [k0_pay4, k0_pay2]
  rfl

/-- The normalised rows of a tile. -/
theorem norm_apply (v : FVec Ideal S512x1024 .f32) (g b : Vec Ideal S1x1024 .f32) (p : Fin 512) (j : Fin 1024) :
    k0_pay7 v (k0_pay5 g) (k0_pay6 b) (ix2 p j)
      = normed (fun k => v (ix2 p k)) j * g (ix2 0 j) + b (ix2 0 j) := by
  pointwise [k0_pay7, k0_pay5, k0_pay6]
  rfl

/-- The gate of a tile. -/
theorem gate_apply (x : Vec Ideal S512x1024 .f32) (w : Vec Ideal S1024x1024 .bf16) (p : Fin 512) (i : Fin 1024) :
    k0_pay17 (k0_pay2 x) w (ix2 p i) = Ideal.logistic (∑ k : Fin 1024, x (ix2 p k) * w (ix2 k i)) := by
  pointwise [k0_pay17, k0_pay2]

/-- The mixed values of a tile over its normalised values, all eight matrices and all the biases. -/
def mixTile (vb : FVec Ideal S512x1024 .bf16) (b : FVec Ideal S128x8 .f32) (ws : Vec Ideal S8x128x128 .f32) (p : Fin 512)
    (j : Fin 1024) : EReal :=
  mix (fun r k => vb (ix2 r k)) (fun t s => ws (ix3 ⟨j.val / 128, by omega⟩ t s))
    (fun t => b (ix2 t ⟨j.val / 128, by omega⟩)) p j

/-- Group `g` computed with matrix `g` is the columns from `128 * g` on of the tile's mixed values. -/
theorem group_mix (o g : ℕ) (h0 : S512x1024.Slices ![0, o] S128x128) (h1 : S512x1024.Slices ![128, o] S128x128)
    (h2 : S512x1024.Slices ![256, o] S128x128) (h3 : S512x1024.Slices ![384, o] S128x128)
    (hb : S128x8.Slices ![0, g] S128x1) (hg : g < 8) (ho : o = 128 * g) (vb : FVec Ideal S512x1024 .bf16)
    (b : FVec Ideal S128x8 .f32) (w : Vec Ideal S1x128x128 .f32) (ws : Vec Ideal S8x128x128 .f32)
    (hw : ∀ t s : Fin 128, w (ix3 0 t s) = ws (ix3 ⟨g, hg⟩ t s)) (p : Fin 512) (d : Fin 128) :
    group o g h0 h1 h2 h3 hb vb b w (ix2 p d) = mixTile vb b ws p ⟨o + d.val, by omega⟩ := by
  have e : (o + d.val) / 128 = g := by omega
  rw [group_apply o g h0 h1 h2 h3 hb (by omega) hg]
  simp only [mixTile, hw, e]

/-! ## The printed payloads are these -/

theorem pay10_eq (v : FVec Ideal S512x1024 .f32) (g b : FVec Ideal S1x1024 .f32) (bs : Vec Ideal S128x8 .f32)
    (w : Vec Ideal S1x128x128 .f32) :
    k0_pay10 v g b bs w = (group 0 0 slices_S512x1024_o0_0_S128x128 slices_S512x1024_o128_0_S128x128 slices_S512x1024_o256_0_S128x128 slices_S512x1024_o384_0_S128x128
      slices_S128x8_o0_0_S128x1 (k0_pay7 v g b) (k0_pay9 bs) w) := rfl

theorem pay11_eq (vb : FVec Ideal S512x1024 .bf16) (b : FVec Ideal S128x8 .f32) (w : Vec Ideal S1x128x128 .f32) :
    k0_pay11 vb k0_pay8 b w = (group 128 1 slices_S512x1024_o0_128_S128x128 slices_S512x1024_o128_128_S128x128 slices_S512x1024_o256_128_S128x128 slices_S512x1024_o384_128_S128x128
      slices_S128x8_o0_1_S128x1 vb b w) := rfl

theorem pay12_eq (vb : FVec Ideal S512x1024 .bf16) (b : FVec Ideal S128x8 .f32) (w : Vec Ideal S1x128x128 .f32) :
    k0_pay12 vb k0_pay8 b w = (group 256 2 slices_S512x1024_o0_256_S128x128 slices_S512x1024_o128_256_S128x128 slices_S512x1024_o256_256_S128x128 slices_S512x1024_o384_256_S128x128
      slices_S128x8_o0_2_S128x1 vb b w) := rfl

theorem pay15_eq (vb : FVec Ideal S512x1024 .bf16) (b : FVec Ideal S128x8 .f32) (w : Vec Ideal S1x128x128 .f32) :
    k0_pay15 vb k0_pay8 b w = (group 512 4 slices_S512x1024_o0_512_S128x128 slices_S512x1024_o128_512_S128x128 slices_S512x1024_o256_512_S128x128 slices_S512x1024_o384_512_S128x128
      slices_S128x8_o0_4_S128x1 vb b w) := rfl

theorem pay16_eq (vb : FVec Ideal S512x1024 .bf16) (b : FVec Ideal S128x8 .f32) (w : Vec Ideal S1x128x128 .f32) :
    k0_pay16 vb k0_pay8 b w = (group 640 5 slices_S512x1024_o0_640_S128x128 slices_S512x1024_o128_640_S128x128 slices_S512x1024_o256_640_S128x128 slices_S512x1024_o384_640_S128x128
      slices_S128x8_o0_5_S128x1 vb b w) := rfl

theorem pay14_eq (vb : FVec Ideal S512x1024 .bf16) (b : FVec Ideal S128x8 .f32) (w : Vec Ideal S1x128x128 .f32) :
    k0_pay14 b (k0_pay13 vb k0_pay8 w) = (group 384 3 slices_S512x1024_o0_384_S128x128 slices_S512x1024_o128_384_S128x128 slices_S512x1024_o256_384_S128x128 slices_S512x1024_o384_384_S128x128
      slices_S128x8_o0_3_S128x1 vb b w) := rfl

theorem pay18_eq (u : FVec Ideal S512x1024 .f32) (vb : FVec Ideal S512x1024 .bf16) (b : FVec Ideal S128x8 .f32)
    (g0 g1 g2 g3 g4 g5 : FVec Ideal S512x128 .f32) (w6 w7 : Vec Ideal S1x128x128 .f32) (wa : Vec Ideal S1024x1024 .bf16) :
    k0_pay18 u vb k0_pay8 b g0 g1 g2 g3 g4 g5 w6 w7 wa = project u g0 g1 g2 g3 g4 g5
      (group 768 6 slices_S512x1024_o0_768_S128x128 slices_S512x1024_o128_768_S128x128 slices_S512x1024_o256_768_S128x128 slices_S512x1024_o384_768_S128x128
      slices_S128x8_o0_6_S128x1 vb b w6)
      (group 896 7 slices_S512x1024_o0_896_S128x128 slices_S512x1024_o128_896_S128x128 slices_S512x1024_o256_896_S128x128 slices_S512x1024_o384_896_S128x128
      slices_S128x8_o0_7_S128x1 vb b w7) wa := rfl

/-- The kernel's tile, for any input blocks. -/
theorem tile (x0 : Vec Ideal S512x1024 .f32) (x1 x2 x3 x4 : Vec Ideal S1024x1024 .bf16) (x5 x6 : Vec Ideal S1x1024 .f32)
    (x7 : Vec Ideal S8x128x128 .f32) (x8 : Vec Ideal S128x8 .f32) (p : Fin 512) (i : Fin 1024) :
    out0_9 x0 x1 x2 x3 x4 x5 x6 x7 x8 (ix2 p i)
      = Ideal.logistic (∑ k : Fin 1024, x0 (ix2 p k) * x3 (ix2 k i))
        * ∑ j : Fin 1024, gelu (∑ k : Fin 1024, x0 (ix2 p k) * x1 (ix2 k j))
          * mix (fun r j => normed (fun k => gelu (∑ l : Fin 1024, x0 (ix2 r l) * x2 (ix2 l k))) j * x5 (ix2 0 j)
              + x6 (ix2 0 j))
            (fun t s => x7 (ix3 ⟨j.val / 128, by omega⟩ t s)) (fun t => x8 (ix2 t ⟨j.val / 128, by omega⟩)) p j
          * x4 (ix2 j i) := by
  unfold_out out0_9
  frame_out
  have hs : k0_pay9 x8 = x8 := by
    funext y
    pointwise [k0_pay9]
  rw [hs, pay10_eq, pay11_eq, pay12_eq, pay14_eq, pay15_eq, pay16_eq, pay18_eq, hs]
  generalize hv : k0_pay7 (k0_pay4 x0 x2) (k0_pay5 x5) (k0_pay6 x6) = vb
  have hq : ∀ j : Fin 1024, mixTile vb x8 x7 p j
      = mix (fun r j => normed (fun k => gelu (∑ l : Fin 1024, x0 (ix2 r l) * x2 (ix2 l k))) j * x5 (ix2 0 j)
          + x6 (ix2 0 j))
        (fun t s => x7 (ix3 ⟨j.val / 128, by omega⟩ t s)) (fun t => x8 (ix2 t ⟨j.val / 128, by omega⟩)) p j := by
    intro j
    unfold mixTile
    congr 1
    funext r k
    rw [← hv, norm_apply]
    simp only [gelu_apply']
  simp only [← hq]
  rw [← gate_apply]
  simp only [← gelu_apply]
  show FloatOps.mulf _ _ = _
  rw [mul_spelt]
  congr 1
  refine project_apply _ _ _ _ _ _ _ _ _ _ (mixTile vb x8 x7)
    (fun p d => (group_mix 0 0 _ _ _ _ _ (by omega) rfl vb x8 _ x7 (fun t s => ?_) p d).trans ?_)
    (group_mix 128 1 _ _ _ _ _ (by omega) rfl vb x8 _ x7 fun t s => ?_)
    (group_mix 256 2 _ _ _ _ _ (by omega) rfl vb x8 _ x7 fun t s => ?_)
    (group_mix 384 3 _ _ _ _ _ (by omega) rfl vb x8 _ x7 fun t s => ?_)
    (group_mix 512 4 _ _ _ _ _ (by omega) rfl vb x8 _ x7 fun t s => ?_)
    (group_mix 640 5 _ _ _ _ _ (by omega) rfl vb x8 _ x7 fun t s => ?_)
    (group_mix 768 6 _ _ _ _ _ (by omega) rfl vb x8 _ x7 fun t s => ?_)
    (group_mix 896 7 _ _ _ _ _ (by omega) rfl vb x8 _ x7 fun t s => ?_) p i
  case refine_2 => simp only [Nat.zero_add]
  all_goals pointwise

end Cert.GmlpIdeal.Tile

end
-- ==== Proof.Gmlp.Kernel.lean ====
/- The gMLP branch for the prompt as the kernel computes it: what its input blocks hold, and that the array it leaves is the
   branch's output. The grid has 32 points; point `t` takes rows `512 * t` to `512 * t + 511` and the whole of every
   weight. A chunk of 128 positions never crosses a tile, so the tile's mix is the batch's. -/
module

public import proofs.«01_k».proof.Proof.Gmlp.Tile

@[expose] public section

noncomputable section

open Idealize.ShloMosaic Idealize.ShloMosaic.TcCoe Idealize.SL.Sem Cert.Layer

namespace Cert.GmlpIdeal.Blocks

open Cert.GmlpIdeal Cert.GmlpIdeal.Gen

variable (m : (ℓ : Loc nD τ sig) → Buf (Elt Ideal) ℓ)

/-- Which block of its array each window has at each grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0, 0] ∧ win0_8.index t = ![0, 0] ∧ win0_9.index t = ![t.val, 0] :=
  (by decide +kernel : ∀ t : Fin grid0.N, _)

/-- The rows the layer is given. -/
abbrev rows (c : Dev nD) : FVec Ideal ⟨2, ![16384, 1024]⟩ .f32 := m ((c : Thread nD τ).loc main_arg0)

/-- The fused input weight. -/
abbrev weight (c : Dev nD) : FVec Ideal ⟨2, ![1024, 5936]⟩ .f32 := m ((c : Thread nD τ).loc main_arg1)

/-- The normalisation's scale. -/
abbrev scale (c : Dev nD) : FVec Ideal ⟨1, ![1024]⟩ .f32 := m ((c : Thread nD τ).loc main_arg2)

/-- The normalisation's shift. -/
abbrev shift (c : Dev nD) : FVec Ideal ⟨1, ![1024]⟩ .f32 := m ((c : Thread nD τ).loc main_arg3)

/-- The eight groups' mixing matrices. -/
abbrev matrices (c : Dev nD) : FVec Ideal ⟨3, ![8, 128, 128]⟩ .f32 := m ((c : Thread nD τ).loc main_arg4)

/-- The eight groups' biases by position. -/
abbrev biases (c : Dev nD) : FVec Ideal ⟨2, ![8, 128]⟩ .f32 := m ((c : Thread nD τ).loc main_arg5)

/-- The branch's output weight. -/
abbrev outWeight (c : Dev nD) : FVec Ideal ⟨2, ![1024, 1024]⟩ .f32 := m ((c : Thread nD τ).loc main_arg6)

/-- Row `p` of point `t`'s block is row `512 * t + p` of the batch. -/
abbrev row (t : Fin cfg0.N) (p : Fin 512) : Fin 16384 :=
  ⟨t.val * 512 + p.val, by have := t.isLt; have h : cfg0.N = 32 := rfl; omega⟩

/-! ## The arrays the host code prepares -/

theorem u_weight (c : Dev nD) (k j : Fin 1024) : V m c main_v1 (ix2 k j) = weight m c (ix2 k ⟨j.val, by omega⟩) := by
  unfold V
  after_reads_at

theorem v_weight (c : Dev nD) (k j : Fin 1024) :
    V m c main_v3 (ix2 k j) = weight m c (ix2 k ⟨1024 + j.val, by omega⟩) := by
  unfold V
  after_reads_at

theorem gate_weight (c : Dev nD) (k j : Fin 1024) :
    V m c main_v5 (ix2 k j) = weight m c (ix2 k ⟨3888 + j.val, by omega⟩) := by
  unfold V
  after_reads_at

theorem out_weight (c : Dev nD) (k j : Fin 1024) : V m c main_v6 (ix2 k j) = outWeight m c (ix2 k j) := by
  unfold V
  after_reads_at

theorem scale_row (c : Dev nD) (j : Fin 1024) : V m c main_v7 (ix2 0 j) = scale m c (ix1 j) := by
  unfold V
  after_reads_at

theorem shift_row (c : Dev nD) (j : Fin 1024) : V m c main_v8 (ix2 0 j) = shift m c (ix1 j) := by
  unfold V
  after_reads_at

theorem bias_columns (c : Dev nD) (t : Fin 128) (g : Fin 8) : V m c main_v9 (ix2 t g) = biases m c (ix2 g t) := by
  unfold V
  after_reads_at

/-! ## The blocks -/

theorem blk0 (c : Dev nD) (t : Fin cfg0.N) (p : Fin 512) (k : Fin 1024) :
    iblk m c 0 t (ix2 p k) = rows m c (ix2 (row t p) k) := by
  unfold rows
  rw [← V_main_arg0 m c]
  blk_ext [iblk, idx t]

theorem blk1 (c : Dev nD) (t : Fin cfg0.N) (k j : Fin 1024) :
    iblk m c 1 t (ix2 k j) = weight m c (ix2 k ⟨j.val, by omega⟩) := by
  rw [← u_weight m c]
  blk_ext [iblk, idx t]

theorem blk2 (c : Dev nD) (t : Fin cfg0.N) (k j : Fin 1024) :
    iblk m c 2 t (ix2 k j) = weight m c (ix2 k ⟨1024 + j.val, by omega⟩) := by
  rw [← v_weight m c]
  blk_ext [iblk, idx t]

theorem blk3 (c : Dev nD) (t : Fin cfg0.N) (k j : Fin 1024) :
    iblk m c 3 t (ix2 k j) = weight m c (ix2 k ⟨3888 + j.val, by omega⟩) := by
  rw [← gate_weight m c]
  blk_ext [iblk, idx t]

theorem blk4 (c : Dev nD) (t : Fin cfg0.N) (k j : Fin 1024) : iblk m c 4 t (ix2 k j) = outWeight m c (ix2 k j) := by
  rw [← out_weight m c]
  blk_ext [iblk, idx t]

theorem blk5 (c : Dev nD) (t : Fin cfg0.N) (j : Fin 1024) : iblk m c 5 t (ix2 0 j) = scale m c (ix1 j) := by
  rw [← scale_row m c]
  blk_ext [iblk, idx t]

theorem blk6 (c : Dev nD) (t : Fin cfg0.N) (j : Fin 1024) : iblk m c 6 t (ix2 0 j) = shift m c (ix1 j) := by
  rw [← shift_row m c]
  blk_ext [iblk, idx t]

theorem blk7 (c : Dev nD) (t : Fin cfg0.N) (g : Fin 8) (a s : Fin 128) :
    iblk m c 7 t (ix3 g a s) = matrices m c (ix3 g a s) := by
  unfold matrices
  rw [← V_main_arg4 m c]
  blk_ext [iblk, idx t]

theorem blk8 (c : Dev nD) (t : Fin cfg0.N) (a : Fin 128) (g : Fin 8) :
    iblk m c 8 t (ix2 a g) = biases m c (ix2 g a) := by
  rw [← bias_columns m c]
  blk_ext [iblk, idx t]

/-! ## The array the kernel leaves -/

/-- The mix of a tile is the mix of the batch at the tile's rows: a tile is four whole chunks. -/
theorem mix_row (f : Fin 16384 → Fin 1024 → EReal) (w : Fin 128 → Fin 128 → EReal) (b : Fin 128 → EReal)
    (t : Fin cfg0.N) (p : Fin 512) (j : Fin 1024) :
    Tile.mix (fun r k => f (row t r) k) w b p j
      = (∑ s : Fin 128, if s.val ≤ (row t p).val % 128 then
          w ⟨(row t p).val % 128, by omega⟩ s * f ⟨(row t p).val / 128 * 128 + s.val, by omega⟩ j
        else 0) + b ⟨(row t p).val % 128, by omega⟩ := by
  have hm : (row t p).val % 128 = p.val % 128 := by dsimp only [row]; omega
  have hr : ∀ s : Fin 128, row t ⟨p.val / 128 * 128 + s.val, by omega⟩
      = ⟨(row t p).val / 128 * 128 + s.val, by omega⟩ := fun s => Fin.ext (by dsimp only [row]; omega)
  unfold Tile.mix
  simp only [hm, hr]

/-- The tile's result is the branch's output at the tile's rows. -/
theorem tile_out (c : Dev nD) (t : Fin cfg0.N) (p : Fin 512) (i : Fin 1024) :
    out0_9 (iblk m c 0 t) (iblk m c 1 t) (iblk m c 2 t) (iblk m c 3 t) (iblk m c 4 t) (iblk m c 5 t) (iblk m c 6 t)
        (iblk m c 7 t) (iblk m c 8 t) (ix2 p i)
      = out (rows m c) (weight m c) (scale m c) (shift m c) (matrices m c) (biases m c) (outWeight m c) (row t p) i := by
  rw [Tile.tile]
  simp only [blk0, blk1, blk2, blk3, blk4, blk5, blk6, blk7, blk8]
  unfold out
  refine congrArg₂ (fun a b : EReal => a * b) rfl (Finset.sum_congr rfl fun j _ => ?_)
  refine congrArg₂ (fun a b : EReal => a * b) (congrArg₂ (fun a b : EReal => a * b) rfl ?_) rfl
  exact mix_row (fun r k => vn (rows m c) (weight m c) (scale m c) (shift m c) r k) _ _ t p j

/-- The kernel's array is the branch's output, row by row. -/
theorem final9 (c : Dev nD) : (dats m 0 c).arrAt 9 cfg0.N = fun y : S16384x1024.Idx =>
    out (rows m c) (weight m c) (scale m c) (shift m c) (matrices m c) (biases m c) (outWeight m c) (y 0) (y 1) := by
  refine (dats m 0 c).arrAt_eq_of_covers 9 _ (by decide +kernel) fun t hf y => ?_
  blk_simp
  rw [after0_9]
  obtain ⟨p, j, rfl⟩ : ∃ (p : Fin 512) (j : Fin 1024), y = ix2 p j := ⟨y 0, y 1, eq_ix2 y⟩
  rw [tile_out]
  have h : ix2 (row t p) j = ((View.whole main_v10).slice (win0_9.rect t)).emb (ix2 p j) := by blk_ext [idx t]
  rw [← h]
  rfl

end Cert.GmlpIdeal.Blocks

end
-- ==== Proof.Gmlp.Reference.lean ====
/- The reference of the gMLP branch for the prompt, stage by stage at an index, ending at `Cert.Layer.out`. -/
module

public import proofs.«01_k».proof.Proof.Gen.GmlpReferenceIdeal.Read
public import proofs.«01_k».proof.Proof.Mixer

@[expose] public section

noncomputable section

open Idealize.ShloMosaic Idealize.ShloMosaic.TcCoe Idealize.SL.Sem Cert.Layer

namespace Cert.GmlpReferenceIdeal.Stages

open Cert.GmlpReferenceIdeal Cert.GmlpReferenceIdeal.Gen Cert.GmlpReferenceIdeal.Read

/-! ## The operations that move or contract whole arrays, for any operands -/

/-- Contracting with the output weight. -/
theorem contract_out (y : FVec Ideal S2x8192x1024 .f32) (u : FVec Ideal S1024x1024 .f32) (a : Fin 2) (b : Fin 8192)
    (i : Fin 1024) :
    Host.dotGeneral dot_S2x8192x1024_S1024x1024_S2x8192x1024_2_0_01_1_n_n none y u (ix3 a b i)
      = ∑ k : Fin 1024, y (ix3 a b k) * u (ix2 k i) := by
  pointwise

/-- Contracting the positions of every chunk with its group's matrix. -/
theorem contract_mix (y : FVec Ideal S2x64x128x8x128 .f32) (u : FVec Ideal S8x128x128 .f32) (e : Fin 8) (a : Fin 2)
    (c : Fin 64) (d t : Fin 128) :
    Host.dotGeneral (F := Ideal) dot_S2x64x128x8x128_S8x128x128_S8x2x64x128x128_2_2_014_1_3_0 none y u (ix5 e a c d t)
      = ∑ s : Fin 128, y (ix5 a c s e d) * u (ix3 e t s) := by
  pointwise

/-- Ordering the mixed values as rows and columns again. -/
theorem reorder (y : FVec Ideal S8x2x64x128x128 .f32) (e : Fin 8) (a : Fin 2) (c : Fin 64) (d t : Fin 128) :
    transpose S2x64x128x8x128 [1, 2, 4, 0, 3] y transposes_S8x2x64x128x128_S2x64x128x8x128_1_2_4_0_3 (ix5 a c t e d)
      = y (ix5 e a c d t) := by
  pointwise

/-- Cutting the rows into chunks and the columns into groups. -/
theorem chunks (y : FVec Ideal S2x8192x1024 .f32) (a : Fin 2) (c : Fin 64) (s : Fin 128) (e : Fin 8) (d : Fin 128) :
    shapeCast S2x64x128x8x128 y shapeCasts_S2x8192x1024_S2x64x128x8x128 (ix5 a c s e d)
      = y (ix3 a ⟨c.val * 128 + s.val, by omega⟩ ⟨e.val * 128 + d.val, by omega⟩) := by
  pointwise

/-- Putting chunks and groups together again. -/
theorem unchunk (y : FVec Ideal S2x64x128x8x128 .f32) (a : Fin 2) (b : Fin 8192) (j : Fin 1024) :
    shapeCast S2x8192x1024 y shapeCasts_S2x64x128x8x128_S2x8192x1024 (ix3 a b j)
      = y (ix5 a ⟨b.val / 128, by omega⟩ ⟨b.val % 128, by omega⟩ ⟨j.val / 128, by omega⟩ ⟨j.val % 128, by omega⟩) := by
  pointwise

/-- Flattening the two sequences. -/
theorem flatten (y : FVec Ideal S2x8192x1024 .f32) (r : Fin 16384) (j : Fin 1024) :
    shapeCast S16384x1024 y shapeCasts_S2x8192x1024_S16384x1024 (ix2 r j)
      = y (ix3 ⟨r.val / 8192, by omega⟩ ⟨r.val % 8192, by omega⟩ j) := by
  pointwise

/-- The sequences are whole chunks: nothing is padded. -/
theorem pad_none (y : FVec Ideal S2x8192x1024 .f32) (z : FVec Ideal S_ .f32) (a : Fin 2) (b : Fin 8192) (j : Fin 1024) :
    pad S2x8192x1024 ![0, 0, 0] ![0, 0, 0] ![0, 0, 0] y z pads_S2x8192x1024_S2x8192x1024_000_000_000 h_S_ (ix3 a b j)
      = y (ix3 a b j) := by
  pointwise

/-! ## The stages -/

variable (x0 : (⟨S16384x1024, .f32⟩ : BufTy).Contents (Elt Ideal)) (x1 : (⟨S1024x5936, .f32⟩ : BufTy).Contents (Elt Ideal))
  (x2 x3 : (⟨S1024, .f32⟩ : BufTy).Contents (Elt Ideal)) (x4 : (⟨S8x128x128, .f32⟩ : BufTy).Contents (Elt Ideal))
  (x5 : (⟨S8x128, .f32⟩ : BufTy).Contents (Elt Ideal)) (x6 : (⟨S1024x1024, .f32⟩ : BufTy).Contents (Elt Ideal))

/-- Row of the flat batch for position `b` of sequence `a`. -/
abbrev flat (a : Fin 2) (b : Fin 8192) : Fin 16384 := ⟨a.val * 8192 + b.val, by omega⟩

/-- The whole projection. -/
theorem projection (a : Fin 2) (b : Fin 8192) (j : Fin 5936) :
    val_main_v1 (F := Ideal) x0 x1 (ix3 a b j) = proj x0 x1 (flat a b) j := by
  unfold proj
  pointwise [val_main_v1, val_main_v0]

/-- The activated value half. -/
theorem gelu_v (a : Fin 2) (b : Fin 8192) (j : Fin 1024) :
    val_main_v26 (F := Ideal) x0 x1 (ix3 a b j) = gelu (proj x0 x1 (flat a b) ⟨1024 + j.val, by omega⟩) := by
  pointwise [val_main_v26, val_main_v25, val_main_v24, val_main_v23, val_main_v22, val_main_v21, val_main_v20, val_main_v19,
    val_main_v18, val_main_v17, val_main_v16, val_main_v15, val_main_v14, val_main_v3, val_main_cst, val_main_cst_0,
    val_main_cst_1, val_main_cst_2]
  unfold gelu
  rw [projection, mul_comm (proj x0 x1 (flat a b) _ * _) (proj x0 x1 (flat a b) _)]

/-- The activated gate half. -/
theorem gelu_u (a : Fin 2) (b : Fin 8192) (j : Fin 1024) :
    val_main_v63 (F := Ideal) x0 x1 (ix3 a b j) = gelu (proj x0 x1 (flat a b) ⟨j.val, by omega⟩) := by
  pointwise [val_main_v63, val_main_v62, val_main_v61, val_main_v60, val_main_v59, val_main_v58, val_main_v57, val_main_v56,
    val_main_v55, val_main_v54, val_main_v53, val_main_v52, val_main_v51, val_main_v2, val_main_cst_8, val_main_cst_9,
    val_main_cst_10, val_main_cst_11]
  unfold gelu
  rw [projection, mul_comm (proj x0 x1 (flat a b) _ * _) (proj x0 x1 (flat a b) _)]

/-- The normalised value half. -/
theorem normalised (a : Fin 2) (b : Fin 8192) (j : Fin 1024) :
    val_main_v50 (F := Ideal) x0 x1 x2 x3 (ix3 a b j) = vn x0 x1 x2 x3 (flat a b) j := by
  pointwise [val_main_v50, val_main_v49, val_main_v48, val_main_v47, val_main_v46, val_main_v45, val_main_v44, val_main_v43,
    val_main_v42, val_main_v41, val_main_v40, val_main_v39, val_main_v38, val_main_v37, val_main_v36, val_main_v35,
    val_main_v34, val_main_v33, val_main_v32, val_main_v31, val_main_v30, val_main_v29, val_main_v28, val_main_v27,
    val_main_cst_3, val_main_cst_4, val_main_cst_5, val_main_cst_6, val_main_cst_7]
  simp only [gelu_v]
  rfl

/-- The causal matrices: zero above the diagonal. -/
theorem causal (e : Fin 8) (t s : Fin 128) :
    val_main_v69 (F := Ideal) x4 (ix3 e t s) = if s.val ≤ t.val then x4 (ix3 e t s) else 0 := by
  pointwise [val_main_v69, val_main_call2_v2, val_main_call2_v1, val_main_call2_v0, val_main_cst_13, val_main_v68,
    val_main_v67, val_main_call1_v5, val_main_call1_c_0, val_main_call1_v4, val_main_call1_v3, val_main_call1_v2,
    val_main_call1_v1, val_main_call1_v0, val_main_call1_c, val_main_v66, val_main_c_12]
  have hz : id (constant (F := Ideal) S_ FTy.f32 0#32) ix0 = (0 : EReal) := by
    show constant (F := Ideal) S_ FTy.f32 0#32 ix0 = (0 : EReal)
    pointwise
  rw [causal_sge, select_ite, select_ite, hz]

/-- The normalised values in chunks and groups. -/
theorem chunked (a : Fin 2) (c : Fin 64) (s : Fin 128) (e : Fin 8) (d : Fin 128) :
    val_main_v65 (F := Ideal) x0 x1 x2 x3 (ix5 a c s e d)
      = vn x0 x1 x2 x3 (flat a ⟨c.val * 128 + s.val, by omega⟩) ⟨e.val * 128 + d.val, by omega⟩ := by
  rw [← normalised]
  unfold val_main_v65 val_main_v64
  rw [chunks, pad_none]

/-- The biases over every chunk and column. -/
theorem biases (a : Fin 2) (c : Fin 64) (t : Fin 128) (e : Fin 8) (d : Fin 128) :
    val_main_v74 (F := Ideal) x5 (ix5 a c t e d) = x5 (ix2 e t) := by
  rw [val_main_v74_apply, val_main_v73_apply, val_main_v72_apply]
  refine congrArg x5 (funext fun i => ?_)
  match i with
  | ⟨0, _⟩ => rfl
  | ⟨1, _⟩ => rfl

/-- The mixed values. -/
theorem mixes (a : Fin 2) (b : Fin 8192) (j : Fin 1024) :
    val_main_v76 (F := Ideal) x0 x1 x2 x3 x4 x5 (ix3 a b j) = mixed x0 x1 x2 x3 x4 x5 (flat a b) j := by
  have hb : (flat a b).val % 128 = b.val % 128 := by dsimp only [flat]; omega
  have hq : (flat a b).val / 128 * 128 = a.val * 8192 + b.val / 128 * 128 := by dsimp only [flat]; omega
  unfold val_main_v76
  rw [unchunk, val_main_v75_apply, biases, add_spelt]
  unfold val_main_v71 val_main_v70 mixed
  rw [reorder, contract_mix]
  simp only [hb, hq]
  congr 1
  refine Finset.sum_congr rfl fun s _ => ?_
  rw [chunked, causal, mul_comm, ite_mul, zero_mul]
  have hr : flat a ⟨b.val / 128 * 128 + s.val, by omega⟩ = ⟨a.val * 8192 + b.val / 128 * 128 + s.val, by omega⟩ :=
    Fin.ext (by dsimp only [flat]; omega)
  have hj : (⟨j.val / 128 * 128 + j.val % 128, by omega⟩ : Fin 1024) = j := Fin.ext (by dsimp only; omega)
  dsimp only
  rw [hr, hj]

/-- The branch's gate. -/
theorem gate (a : Fin 2) (b : Fin 8192) (i : Fin 1024) :
    val_main_v83 (F := Ideal) x0 x1 (ix3 a b i)
      = Ideal.logistic (proj x0 x1 (flat a b) ⟨3888 + i.val, by omega⟩) := by
  pointwise [val_main_v83, val_main_v82, val_main_v81, val_main_v80, val_main_v79, val_main_v78, val_main_cst_14,
    val_main_cst_15, val_main_v12]
  rw [projection, logistic_spelt]

/-- The reference's result is the branch's output. -/
theorem result (r : Fin 16384) (i : Fin 1024) :
    val_main_v86 (F := Ideal) x0 x1 x2 x3 x4 x5 x6 (ix2 r i) = out x0 x1 x2 x3 x4 x5 x6 r i := by
  have hr : flat ⟨r.val / 8192, by omega⟩ ⟨r.val % 8192, by omega⟩ = r := Fin.ext (by dsimp only [flat]; omega)
  unfold val_main_v86
  rw [flatten, val_main_v85_apply, gate, hr, mul_spelt]
  unfold val_main_v84 out
  rw [contract_out]
  congr 1
  refine Finset.sum_congr rfl fun j _ => ?_
  rw [val_main_v77_apply, gelu_u, mixes, hr, mul_spelt]

end Cert.GmlpReferenceIdeal.Stages

end
-- ==== Proof.Gmlp.Claims.lean ====
/- The gMLP branch for the prompt: over the exact numbers the kernel leaves the reference's array. -/
module

public import proofs.«01_k».proof.Defs
public import proofs.«01_k».proof.Proof.Gmlp.Kernel
public import proofs.«01_k».proof.Proof.Gmlp.Reference
public import proofs.«01_k».proof.Proof.Gen.GmlpReferenceIdeal.Run
public import Idealize.ShloMosaic.Lib.Claim

@[expose] public section

noncomputable section

open Idealize.ShloMosaic Idealize.SL.Sem

namespace Cert.GmlpClaims

/-- The kernel's array is the reference's, whatever the rows and the weights. -/
theorem algebraic : Cert.algebraic_GmlpIdeal_GmlpReferenceIdeal := by
  pair_intro
  · run_from Cert.GmlpIdeal.Value.run_blocks m g
  · run_from Cert.GmlpReferenceIdeal.Value.run m' g'
    obtain ⟨h0, h1, h2, h3, h4, h5, h6⟩ := hagree c
    rw [Cert.GmlpIdeal.Blocks.final9 m c, Cert.GmlpReferenceIdeal.Read.val_main_v86_eq m' c, h0, h1, h2, h3, h4, h5, h6]
    funext y
    obtain ⟨r, i, rfl⟩ : ∃ (r : Fin 16384) (i : Fin 1024), y = ix2 r i := ⟨y 0, y 1, eq_ix2 y⟩
    exact Cert.GmlpReferenceIdeal.Stages.result _ _ _ _ _ _ _ r i

end Cert.GmlpClaims

end
-- ==== Proof.AttnIn.Reference.lean ====
/- The reference of the attention's input projection for the prompt, result by result at an index: each result is one
   column range of the projection, passed through the logistic function, scaled, or laid out transposed. -/
module

public import proofs.«01_k».proof.Proof.Gen.AttnInReferenceIdeal.Read
public import proofs.«01_k».proof.Proof.Products

@[expose] public section

noncomputable section

open Idealize.ShloMosaic Idealize.ShloMosaic.TcCoe Idealize.SL.Sem Cert.Layer

namespace Cert.AttnInReferenceIdeal.Stages

open Cert.AttnInReferenceIdeal Cert.AttnInReferenceIdeal.Gen Cert.AttnInReferenceIdeal.Read

variable (x0 : (⟨S16384x1024, .f32⟩ : BufTy).Contents (Elt Ideal)) (x1 : (⟨S1024x5936, .f32⟩ : BufTy).Contents (Elt Ideal))

/-- The whole projection: sequence `a`, position `b` is row `a * 8192 + b` of the flat batch. -/
theorem projection (a : Fin 2) (b : Fin 8192) (j : Fin 5936) :
    val_main_v1 (F := Ideal) x0 x1 (ix3 a b j) = proj x0 x1 ⟨a.val * 8192 + b.val, by omega⟩ j := by
  unfold proj
  pointwise [val_main_v1, val_main_v0]

/-- The branch gate: the logistic of the last 1024 columns. -/
theorem branch_gate (r : Fin 16384) (j : Fin 1024) :
    val_main_v34 (F := Ideal) x0 x1 (ix2 r j) = Ideal.logistic (proj x0 x1 r ⟨4912 + j.val, by omega⟩) := by
  pointwise [val_main_v28, val_main_v29, val_main_v30, val_main_v31, val_main_v32, val_main_v33, val_main_v34, val_main_v13,
    val_main_cst_2, val_main_cst_3]
  simp only [projection, logistic_spelt]
  exact congrArg _ (proj_congr _ _ (by dsimp only; omega) rfl)

/-- The six key and value segments side by side: columns 3072 to 3839. -/
theorem keys_values (r : Fin 16384) (j : Fin 768) :
    val_main_v15 (F := Ideal) x0 x1 (ix2 r j) = proj x0 x1 r ⟨3072 + j.val, by omega⟩ := by
  pointwise [val_main_v15, val_main_v14, val_main_v5, val_main_v6, val_main_v7, val_main_v8, val_main_v9, val_main_v10]
  simp only [projection]
  split_ifs <;> exact proj_congr _ _ (by dsimp only; omega) (by first | omega | (dsimp only; omega))

/-- The same keys and values in the narrower format. -/
theorem keys_values_narrow (r : Fin 16384) (j : Fin 768) :
    val_main_v35 (F := Ideal) x0 x1 (ix2 r j) = proj x0 x1 r ⟨3072 + j.val, by omega⟩ :=
  keys_values x0 x1 r j

/-- The keys and values with positions along the second axis. -/
theorem keys_values_transposed (j : Fin 768) (r : Fin 16384) :
    val_main_v37 (F := Ideal) x0 x1 (ix2 j r) = proj x0 x1 r ⟨3072 + j.val, by omega⟩ := by
  rw [← keys_values]
  pointwise [val_main_v37, val_main_v36]

/-- The queries, scaled, with positions along the second axis: columns 2048 to 3071. -/
theorem queries (j : Fin 1024) (r : Fin 16384) :
    val_main_v39 (F := Ideal) x0 x1 (ix2 j r)
      = proj x0 x1 r ⟨2048 + j.val, by omega⟩ * Ideal.ofBits .f32 1043900987#32 := by
  pointwise [val_main_v39, val_main_v38, val_main_v18, val_main_v17, val_main_v16, val_main_v4, val_main_cst]
  simp only [projection]
  exact congrArg (· * _) (proj_congr _ _ (by dsimp only; omega) rfl)

/-- The attention's three gates of the sixteen heads: row `j` is key head `j / 24`, gate `j / 8 % 3`, query head `j % 8`,
    which the projection has in the order (key head, query head, gate) from column 3840 on. -/
theorem gates (j : Fin 48) (r : Fin 16384) :
    val_main_v27 (F := Ideal) x0 x1 (ix2 j r)
      = Ideal.logistic (proj x0 x1 r ⟨3840 + (j.val / 24 * 24 + j.val % 8 * 3 + j.val / 8 % 3), by omega⟩) := by
  pointwise [val_main_v27, val_main_v26, val_main_v25, val_main_v24, val_main_v23, val_main_v22, val_main_v21, val_main_v20,
    val_main_v19, val_main_v11, val_main_cst_0, val_main_cst_1]
  simp only [projection, logistic_spelt]
  exact congrArg _ (proj_congr _ _ (by dsimp only; omega) rfl)

end Cert.AttnInReferenceIdeal.Stages

end
-- ==== Proof.AttnIn.Kernel.lean ====
/- The attention's input projection for the prompt as the kernel computes it: what its input blocks hold, and, result by
   result, that the array it leaves is the reference's. The grid has 32 points; point `t` takes rows `512 * t` to
   `512 * t + 511` and the whole of every weight, and writes the same rows (or, transposed, the same columns). -/
module

public import proofs.«01_k».proof.Proof.Gen.AttnInIdeal.Value
public import proofs.«01_k».proof.Proof.AttnIn.Reference
public import Idealize.ShloMosaic.Lib.Pipeline.ValueKit
public import Idealize.ShloMosaic.Lib.StableHlo.ReadAt

@[expose] public section

noncomputable section

open Idealize.ShloMosaic Idealize.ShloMosaic.TcCoe Idealize.SL.Sem Cert.Layer

namespace Cert.AttnInIdeal.Blocks

open Cert.AttnInIdeal Cert.AttnInIdeal.Gen

variable (m : (ℓ : Loc nD τ sig) → Buf (Elt Ideal) ℓ)

/-- Which block of its array each window has at each grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0]
    ∧ win0_6.index t = ![t.val, 0] ∧ win0_7.index t = ![t.val, 0] ∧ win0_8.index t = ![t.val, 0]
    ∧ win0_9.index t = ![0, t.val] ∧ win0_10.index t = ![0, t.val] ∧ win0_11.index t = ![0, t.val] :=
  (by decide +kernel : ∀ t : Fin grid0.N, _)

/-- The rows the layer is given. -/
abbrev rows (c : Dev nD) : FVec Ideal ⟨2, ![16384, 1024]⟩ .f32 := m ((c : Thread nD τ).loc main_arg0)

/-- The fused input weight. -/
abbrev weight (c : Dev nD) : FVec Ideal ⟨2, ![1024, 5936]⟩ .f32 := m ((c : Thread nD τ).loc main_arg1)

/-- Row `p` of point `t`'s block is row `512 * t + p` of the batch. -/
abbrev row (t : Fin cfg0.N) (p : Fin 512) : Fin 16384 :=
  ⟨t.val * 512 + p.val, by have := t.isLt; have h : cfg0.N = 32 := rfl; omega⟩

/-! ## The weights' segments as the host code cuts them -/

theorem gate_weight (c : Dev nD) (k : Fin 1024) (j : Fin 1024) :
    V m c main_v6 (ix2 k j) = weight m c (ix2 k ⟨4912 + j.val, by omega⟩) := by
  unfold V
  after_reads_at

theorem kv_weight (c : Dev nD) (k : Fin 1024) (j : Fin 768) :
    V m c main_v8 (ix2 k j) = weight m c (ix2 k ⟨3072 + j.val, by omega⟩) := by
  unfold V
  after_reads_at

theorem query_weight (c : Dev nD) (j : Fin 1024) (k : Fin 1024) :
    V m c main_v11 (ix2 j k) = weight m c (ix2 k ⟨2048 + j.val, by omega⟩) := by
  unfold V
  after_reads_at

theorem kv_weight_transposed (c : Dev nD) (j : Fin 768) (k : Fin 1024) :
    V m c main_v14 (ix2 j k) = weight m c (ix2 k ⟨3072 + j.val, by omega⟩) := by
  unfold V
  after_reads_at

theorem head_gate_weight (c : Dev nD) (j : Fin 48) (k : Fin 1024) :
    V m c main_v4 (ix2 j k)
      = weight m c (ix2 k ⟨3840 + (j.val / 24 * 24 + j.val % 8 * 3 + j.val / 8 % 3), by omega⟩) := by
  unfold V
  after_reads_at

/-! ## The blocks -/

theorem blk0 (c : Dev nD) (t : Fin cfg0.N) (p : Fin 512) (k : Fin 1024) :
    iblk m c 0 t (ix2 p k) = rows m c (ix2 (row t p) k) := by
  unfold rows
  rw [← V_main_arg0 m c]
  blk_ext [iblk, idx t]

theorem blk1 (c : Dev nD) (t : Fin cfg0.N) (k : Fin 1024) (j : Fin 1024) :
    iblk m c 1 t (ix2 k j) = weight m c (ix2 k ⟨4912 + j.val, by omega⟩) := by
  rw [← gate_weight m c]
  blk_ext [iblk, idx t]

theorem blk2 (c : Dev nD) (t : Fin cfg0.N) (k : Fin 1024) (j : Fin 768) :
    iblk m c 2 t (ix2 k j) = weight m c (ix2 k ⟨3072 + j.val, by omega⟩) := by
  rw [← kv_weight m c]
  blk_ext [iblk, idx t]

theorem blk3 (c : Dev nD) (t : Fin cfg0.N) (j : Fin 1024) (k : Fin 1024) :
    iblk m c 3 t (ix2 j k) = weight m c (ix2 k ⟨2048 + j.val, by omega⟩) := by
  rw [← query_weight m c]
  blk_ext [iblk, idx t]

theorem blk4 (c : Dev nD) (t : Fin cfg0.N) (j : Fin 768) (k : Fin 1024) :
    iblk m c 4 t (ix2 j k) = weight m c (ix2 k ⟨3072 + j.val, by omega⟩) := by
  rw [← kv_weight_transposed m c]
  blk_ext [iblk, idx t]

theorem blk5 (c : Dev nD) (t : Fin cfg0.N) (j : Fin 48) (k : Fin 1024) :
    iblk m c 5 t (ix2 j k)
      = weight m c (ix2 k ⟨3840 + (j.val / 24 * 24 + j.val % 8 * 3 + j.val / 8 % 3), by omega⟩) := by
  rw [← head_gate_weight m c]
  blk_ext [iblk, idx t]

/-! ## The arrays the kernel leaves -/

open Cert.AttnInReferenceIdeal (Read.val_main_v34 Read.val_main_v15 Read.val_main_v35 Read.val_main_v37 Read.val_main_v39
  Read.val_main_v27)
open Cert.AttnInReferenceIdeal.Stages

/-- The branch gate. -/
theorem final6 (c : Dev nD) : (dats m 0 c).arrAt 6 cfg0.N = Read.val_main_v34 (F := Ideal) (rows m c) (weight m c) := by
  refine (dats m 0 c).arrAt_eq_of_covers 6 _ (by decide +kernel) fun t hf y => ?_
  blk_simp
  rw [after0_6]
  frame_out
  pointwise [k0_pay3, k0_pay2]
  obtain ⟨p, j, rfl⟩ : ∃ (p : Fin 512) (j : Fin 1024), y = ix2 p j := ⟨y 0, y 1, eq_ix2 y⟩
  simp only [ix2_0, ix2_1, blk0, blk1]
  refine Eq.trans ?_ (congrArg _ (show ix2 (row t p) j = _ by blk_ext [idx t]))
  rw [branch_gate]
  rfl

/-- The keys and values. -/
theorem final7 (c : Dev nD) : (dats m 0 c).arrAt 7 cfg0.N = Read.val_main_v15 (F := Ideal) (rows m c) (weight m c) := by
  refine (dats m 0 c).arrAt_eq_of_covers 7 _ (by decide +kernel) fun t hf y => ?_
  blk_simp
  rw [after0_7]
  frame_out
  pointwise [k0_pay4, k0_pay2]
  obtain ⟨p, j, rfl⟩ : ∃ (p : Fin 512) (j : Fin 768), y = ix2 p j := ⟨y 0, y 1, eq_ix2 y⟩
  simp only [ix2_0, ix2_1, blk0, blk2]
  refine Eq.trans ?_ (congrArg _ (show ix2 (row t p) j = _ by blk_ext [idx t]))
  rw [keys_values]
  rfl

/-- The keys and values in the narrower format. -/
theorem final8 (c : Dev nD) : (dats m 0 c).arrAt 8 cfg0.N = Read.val_main_v35 (F := Ideal) (rows m c) (weight m c) := by
  refine (dats m 0 c).arrAt_eq_of_covers 8 _ (by decide +kernel) fun t hf y => ?_
  blk_simp
  rw [after0_8]
  frame_out
  pointwise [k0_pay5, k0_pay4, k0_pay2]
  obtain ⟨p, j, rfl⟩ : ∃ (p : Fin 512) (j : Fin 768), y = ix2 p j := ⟨y 0, y 1, eq_ix2 y⟩
  simp only [ix2_0, ix2_1, blk0, blk2]
  refine Eq.trans ?_ (congrArg _ (show ix2 (row t p) j = _ by blk_ext [idx t]))
  rw [keys_values_narrow]
  rfl

/-- The keys and values, transposed: the kernel multiplies with the weight on the left. -/
theorem final9 (c : Dev nD) : (dats m 0 c).arrAt 9 cfg0.N = Read.val_main_v37 (F := Ideal) (rows m c) (weight m c) := by
  refine (dats m 0 c).arrAt_eq_of_covers 9 _ (by decide +kernel) fun t hf y => ?_
  blk_simp
  rw [after0_9]
  frame_out
  pointwise [k0_pay6, k0_pay2]
  obtain ⟨j, p, rfl⟩ : ∃ (j : Fin 768) (p : Fin 512), y = ix2 j p := ⟨y 0, y 1, eq_ix2 y⟩
  simp only [ix2_0, ix2_1, blk0, blk4]
  refine Eq.trans ?_ (congrArg _ (show ix2 j (row t p) = _ by blk_ext [idx t]))
  rw [keys_values_transposed, ← weight_first]

/-- The scaled queries, transposed. -/
theorem final10 (c : Dev nD) : (dats m 0 c).arrAt 10 cfg0.N = Read.val_main_v39 (F := Ideal) (rows m c) (weight m c) := by
  refine (dats m 0 c).arrAt_eq_of_covers 10 _ (by decide +kernel) fun t hf y => ?_
  blk_simp
  rw [after0_10]
  frame_out
  pointwise [k0_pay7, k0_pay2]
  obtain ⟨j, p, rfl⟩ : ∃ (j : Fin 1024) (p : Fin 512), y = ix2 j p := ⟨y 0, y 1, eq_ix2 y⟩
  simp only [ix2_0, ix2_1, blk0, blk3]
  refine Eq.trans ?_ (congrArg _ (show ix2 j (row t p) = _ by blk_ext [idx t]))
  rw [queries, ← weight_first]

/-- The heads' gates, transposed. -/
theorem final11 (c : Dev nD) : (dats m 0 c).arrAt 11 cfg0.N = Read.val_main_v27 (F := Ideal) (rows m c) (weight m c) := by
  refine (dats m 0 c).arrAt_eq_of_covers 11 _ (by decide +kernel) fun t hf y => ?_
  blk_simp
  rw [after0_11]
  frame_out
  pointwise [k0_pay1, k0_pay8, k0_pay2]
  obtain ⟨j, p, rfl⟩ : ∃ (j : Fin 48) (p : Fin 512), y = ix2 j p := ⟨y 0, y 1, eq_ix2 y⟩
  simp only [ix2_0, ix2_1, blk0, blk5]
  refine Eq.trans ?_ (congrArg _ (show ix2 j (row t p) = _ by blk_ext [idx t]))
  rw [gates, ← weight_first]

end Cert.AttnInIdeal.Blocks

end
-- ==== Proof.AttnIn.Claims.lean ====
/- The attention's input projection for the prompt: over the exact numbers the kernel leaves the reference's six arrays. -/
module

public import proofs.«01_k».proof.Defs
public import proofs.«01_k».proof.Proof.AttnIn.Kernel
public import proofs.«01_k».proof.Proof.Gen.AttnInReferenceIdeal.Run
public import Idealize.ShloMosaic.Lib.Claim

@[expose] public section

noncomputable section

open Idealize.ShloMosaic Idealize.SL.Sem

namespace Cert.AttnInClaims

/-- The kernel's six result arrays are the reference's, whatever the rows and the weight. -/
theorem algebraic : Cert.algebraic_AttnInIdeal_AttnInReferenceIdeal := by
  pair_intro
  · run_from Cert.AttnInIdeal.Value.run_blocks m g
  · run_from Cert.AttnInReferenceIdeal.Value.run m' g'
    · rw [Cert.AttnInIdeal.Blocks.final6 m c]; rfl
    · rw [Cert.AttnInIdeal.Blocks.final7 m c]; rfl
    · rw [Cert.AttnInIdeal.Blocks.final8 m c]; rfl
    · rw [Cert.AttnInIdeal.Blocks.final9 m c]; rfl
    · rw [Cert.AttnInIdeal.Blocks.final10 m c]; rfl
    · rw [Cert.AttnInIdeal.Blocks.final11 m c]; rfl

end Cert.AttnInClaims

end
-- ==== Proof.GmlpS.Kernel.lean ====
/- The gMLP branch for the sample batch as the kernel computes it. The grid has one point, and every window is its whole
   array. Each sequence has one position, so the kernel weighs column `j` by the first entry of its group's matrix. -/
module

public import proofs.«01_k».proof.Proof.Gen.GmlpSIdeal.Value
public import proofs.«01_k».proof.Proof.Mixer
public import Idealize.ShloMosaic.Lib.Pipeline.ValueKit
public import Idealize.ShloMosaic.Lib.StableHlo.ReadAt

@[expose] public section

noncomputable section

open Idealize.ShloMosaic Idealize.ShloMosaic.TcCoe Idealize.SL.Sem Cert.Layer

namespace Cert.GmlpSIdeal.Blocks

open Cert.GmlpSIdeal Cert.GmlpSIdeal.Gen

variable (m : (ℓ : Loc nD τ sig) → Buf (Elt Ideal) ℓ)

/-- Every window's block is the first of its array, at the one grid point. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] :=
  (by decide +kernel : ∀ t : Fin grid0.N, _)

/-- The rows the layer is given. -/
abbrev rows (c : Dev nD) : FVec Ideal ⟨2, ![128, 1024]⟩ .f32 := m ((c : Thread nD τ).loc main_arg0)

/-- The fused input weight. -/
abbrev weight (c : Dev nD) : FVec Ideal ⟨2, ![1024, 5936]⟩ .f32 := m ((c : Thread nD τ).loc main_arg1)

/-- The normalisation's scale. -/
abbrev scale (c : Dev nD) : FVec Ideal ⟨1, ![1024]⟩ .f32 := m ((c : Thread nD τ).loc main_arg2)

/-- The normalisation's shift. -/
abbrev shift (c : Dev nD) : FVec Ideal ⟨1, ![1024]⟩ .f32 := m ((c : Thread nD τ).loc main_arg3)

/-- The eight groups' mixing matrices. -/
abbrev matrices (c : Dev nD) : FVec Ideal ⟨3, ![8, 128, 128]⟩ .f32 := m ((c : Thread nD τ).loc main_arg4)

/-- The eight groups' biases by position. -/
abbrev biases (c : Dev nD) : FVec Ideal ⟨2, ![8, 128]⟩ .f32 := m ((c : Thread nD τ).loc main_arg5)

/-- The branch's output weight. -/
abbrev outWeight (c : Dev nD) : FVec Ideal ⟨2, ![1024, 1024]⟩ .f32 := m ((c : Thread nD τ).loc main_arg6)

/-! ## The arrays the host code prepares -/

theorem u_weight (c : Dev nD) (k j : Fin 1024) : V m c main_v11 (ix2 k j) = weight m c (ix2 k ⟨j.val, by omega⟩) := by
  unfold V
  after_reads_at

theorem v_weight (c : Dev nD) (k j : Fin 1024) :
    V m c main_v13 (ix2 k j) = weight m c (ix2 k ⟨1024 + j.val, by omega⟩) := by
  unfold V
  after_reads_at

theorem gate_weight (c : Dev nD) (k j : Fin 1024) :
    V m c main_v15 (ix2 k j) = weight m c (ix2 k ⟨3888 + j.val, by omega⟩) := by
  unfold V
  after_reads_at

theorem out_weight (c : Dev nD) (k j : Fin 1024) : V m c main_v16 (ix2 k j) = outWeight m c (ix2 k j) := by
  unfold V
  after_reads_at

theorem scale_row (c : Dev nD) (j : Fin 1024) : V m c main_v17 (ix2 0 j) = scale m c (ix1 j) := by
  unfold V
  after_reads_at

theorem shift_row (c : Dev nD) (j : Fin 1024) : V m c main_v18 (ix2 0 j) = shift m c (ix1 j) := by
  unfold V
  after_reads_at

theorem matrix_row (c : Dev nD) (j : Fin 1024) :
    V m c main_v4 (ix2 0 j) = matrices m c (ix3 ⟨j.val / 128, by omega⟩ 0 0) := by
  unfold V
  after_reads_at

theorem bias_row (c : Dev nD) (j : Fin 1024) : V m c main_v9 (ix2 0 j) = biases m c (ix2 ⟨j.val / 128, by omega⟩ 0) := by
  unfold V
  after_reads_at

/-! ## The blocks -/

theorem blk0 (c : Dev nD) (t : Fin cfg0.N) (p : Fin 128) (k : Fin 1024) :
    iblk m c 0 t (ix2 p k) = rows m c (ix2 p k) := by
  unfold rows
  rw [← V_main_arg0 m c]
  blk_ext [iblk, idx t]

theorem blk1 (c : Dev nD) (t : Fin cfg0.N) (k j : Fin 1024) :
    iblk m c 1 t (ix2 k j) = weight m c (ix2 k ⟨j.val, by omega⟩) := by
  rw [← u_weight m c]
  blk_ext [iblk, idx t]

theorem blk2 (c : Dev nD) (t : Fin cfg0.N) (k j : Fin 1024) :
    iblk m c 2 t (ix2 k j) = weight m c (ix2 k ⟨1024 + j.val, by omega⟩) := by
  rw [← v_weight m c]
  blk_ext [iblk, idx t]

theorem blk3 (c : Dev nD) (t : Fin cfg0.N) (k j : Fin 1024) :
    iblk m c 3 t (ix2 k j) = weight m c (ix2 k ⟨3888 + j.val, by omega⟩) := by
  rw [← gate_weight m c]
  blk_ext [iblk, idx t]

theorem blk4 (c : Dev nD) (t : Fin cfg0.N) (k j : Fin 1024) :
    iblk m c 4 t (ix2 k j) = outWeight m c (ix2 k j) := by
  rw [← out_weight m c]
  blk_ext [iblk, idx t]

theorem blk5 (c : Dev nD) (t : Fin cfg0.N) (j : Fin 1024) :
    iblk m c 5 t (ix2 0 j) = scale m c (ix1 j) := by
  rw [← scale_row m c]
  blk_ext [iblk, idx t]

theorem blk6 (c : Dev nD) (t : Fin cfg0.N) (j : Fin 1024) :
    iblk m c 6 t (ix2 0 j) = shift m c (ix1 j) := by
  rw [← shift_row m c]
  blk_ext [iblk, idx t]

theorem blk7 (c : Dev nD) (t : Fin cfg0.N) (j : Fin 1024) :
    iblk m c 7 t (ix2 0 j) = matrices m c (ix3 ⟨j.val / 128, by omega⟩ 0 0) := by
  rw [← matrix_row m c]
  blk_ext [iblk, idx t]

theorem blk8 (c : Dev nD) (t : Fin cfg0.N) (j : Fin 1024) :
    iblk m c 8 t (ix2 0 j) = biases m c (ix2 ⟨j.val / 128, by omega⟩ 0) := by
  rw [← bias_row m c]
  blk_ext [iblk, idx t]

/-! ## The stages of the body, for any blocks -/

/-- The activated columns. -/
theorem gelu_apply (x : Vec Ideal S128x1024 .f32) (w : Vec Ideal S1024x1024 .bf16) (p : Fin 128) (j : Fin 1024) :
    k0_pay2 x w (ix2 p j) = gelu (∑ k : Fin 1024, x (ix2 p k) * w (ix2 k j)) := by
  pointwise [k0_pay2, k0_pay1]
  rfl

/-- The same for the value half. -/
theorem gelu_apply' (x : Vec Ideal S128x1024 .f32) (w : Vec Ideal S1024x1024 .bf16) (p : Fin 128) (j : Fin 1024) :
    k0_pay3 x w (ix2 p j) = gelu (∑ k : Fin 1024, x (ix2 p k) * w (ix2 k j)) := by
  pointwise [k0_pay3, k0_pay1]
  rfl

/-- The normalised rows. -/
theorem norm_apply (v : FVec Ideal S128x1024 .f32) (g b : Vec Ideal S1x1024 .f32) (p : Fin 128) (j : Fin 1024) :
    k0_pay6 v (k0_pay4 g) (k0_pay5 b) (ix2 p j)
      = normed (fun k => v (ix2 p k)) j * g (ix2 0 j) + b (ix2 0 j) := by
  pointwise [k0_pay6, k0_pay4, k0_pay5]
  rfl

/-- The gated output from the activated and the normalised columns. -/
theorem out_apply (x : Vec Ideal S128x1024 .f32) (u v : FVec Ideal S128x1024 .f32) (g b : FVec Ideal S1x1024 .f32)
    (w s : Vec Ideal S1x1024 .f32) (wg wa : Vec Ideal S1024x1024 .bf16) (p : Fin 128) (i : Fin 1024) :
    k0_pay7 (k0_pay1 x) u v g b w s wg wa (ix2 p i)
      = Ideal.logistic (∑ k : Fin 1024, x (ix2 p k) * wg (ix2 k i))
        * ∑ j : Fin 1024, u (ix2 p j) * (k0_pay6 v g b (ix2 p j) * w (ix2 0 j) + s (ix2 0 j)) * wa (ix2 j i) := by
  generalize hn : k0_pay6 v g b = n
  unfold k0_pay7
  rw [hn]
  pointwise [k0_pay1]

/-! ## The arrays the kernel leaves -/

/-- The normalised value half. -/
theorem final10 (c : Dev nD) : (dats m 0 c).arrAt 10 cfg0.N = fun y : S128x1024.Idx =>
    vn (rows m c) (weight m c) (scale m c) (shift m c) (y 0) (y 1) := by
  refine (dats m 0 c).arrAt_eq_of_covers 10 _ (by decide +kernel) fun t hf y => ?_
  blk_simp
  rw [after0_10]
  unfold_out out0_10
  frame_out
  obtain ⟨p, j, rfl⟩ : ∃ (p : Fin 128) (j : Fin 1024), y = ix2 p j := ⟨y 0, y 1, eq_ix2 y⟩
  have h : ix2 p j = ((View.whole main_v19_1).slice (win0_10.rect t)).emb (ix2 p j) := by blk_ext [idx t]
  rw [← h, norm_apply]
  simp only [gelu_apply', blk0, blk2, blk5, blk6]
  rfl

/-- The branch's output. -/
theorem final9 (c : Dev nD) : (dats m 0 c).arrAt 9 cfg0.N = fun y : S128x1024.Idx =>
    outFirst (rows m c) (weight m c) (scale m c) (shift m c) (matrices m c) (biases m c) (outWeight m c) (y 0) (y 1) := by
  refine (dats m 0 c).arrAt_eq_of_covers 9 _ (by decide +kernel) fun t hf y => ?_
  blk_simp
  rw [after0_9]
  unfold_out out0_9
  frame_out
  obtain ⟨p, j, rfl⟩ : ∃ (p : Fin 128) (j : Fin 1024), y = ix2 p j := ⟨y 0, y 1, eq_ix2 y⟩
  have h : ix2 p j = ((View.whole main_v19_0).slice (win0_9.rect t)).emb (ix2 p j) := by blk_ext [idx t]
  rw [← h, out_apply]
  simp only [norm_apply, gelu_apply, gelu_apply', blk0, blk1, blk2, blk3, blk4, blk5, blk6, blk7, blk8]
  rfl

end Cert.GmlpSIdeal.Blocks

end
-- ==== Proof.GmlpS.Reference.lean ====
/- The reference of the gMLP branch for the sample batch, stage by stage at an index, ending at
   `Cert.Layer.outFirst`. The 128 sequences have one position each; the reference pads every sequence to a whole chunk,
   mixes, and keeps the first position. -/
module

public import proofs.«01_k».proof.Proof.Gen.GmlpSReferenceIdeal.Read
public import proofs.«01_k».proof.Proof.Mixer

@[expose] public section

noncomputable section

open Idealize.ShloMosaic Idealize.ShloMosaic.TcCoe Idealize.SL.Sem Cert.Layer

namespace Cert.GmlpSReferenceIdeal.Stages

open Cert.GmlpSReferenceIdeal Cert.GmlpSReferenceIdeal.Gen Cert.GmlpSReferenceIdeal.Read

/-! ## The operations that move or contract whole arrays, for any operands -/

/-- Contracting with the output weight. -/
theorem contract_out (y : FVec Ideal S128x1x1024 .f32) (u : FVec Ideal S1024x1024 .f32) (a : Fin 128) (b : Fin 1)
    (i : Fin 1024) :
    Host.dotGeneral dot_S128x1x1024_S1024x1024_S128x1x1024_2_0_01_1_n_n none y u (ix3 a b i)
      = ∑ k : Fin 1024, y (ix3 a b k) * u (ix2 k i) := by
  pointwise

/-- Contracting the positions of every chunk with its group's matrix. -/
theorem contract_mix (y : FVec Ideal S128x1x128x8x128 .f32) (u : FVec Ideal S8x128x128 .f32) (e : Fin 8) (a : Fin 128)
    (c : Fin 1) (d t : Fin 128) :
    Host.dotGeneral (F := Ideal) dot_S128x1x128x8x128_S8x128x128_S8x128x1x128x128_2_2_014_1_3_0 none y u (ix5 e a c d t)
      = ∑ s : Fin 128, y (ix5 a c s e d) * u (ix3 e t s) := by
  pointwise

/-- Ordering the mixed values as rows and columns again. -/
theorem reorder (y : FVec Ideal S8x128x1x128x128 .f32) (e : Fin 8) (a : Fin 128) (c : Fin 1) (d t : Fin 128) :
    transpose S128x1x128x8x128 [1, 2, 4, 0, 3] y transposes_S8x128x1x128x128_S128x1x128x8x128_1_2_4_0_3 (ix5 a c t e d)
      = y (ix5 e a c d t) := by
  obtain rfl : c = 0 := Subsingleton.elim _ _
  pointwise

/-- Cutting the columns into groups. -/
theorem chunks (y : FVec Ideal S128x128x1024 .f32) (a : Fin 128) (c : Fin 1) (s : Fin 128) (e : Fin 8) (d : Fin 128) :
    shapeCast S128x1x128x8x128 y shapeCasts_S128x128x1024_S128x1x128x8x128 (ix5 a c s e d)
      = y (ix3 a s ⟨e.val * 128 + d.val, by omega⟩) := by
  pointwise

/-- Putting the groups together again. -/
theorem unchunk (y : FVec Ideal S128x1x128x8x128 .f32) (a : Fin 128) (b : Fin 128) (j : Fin 1024) :
    shapeCast S128x128x1024 y shapeCasts_S128x1x128x8x128_S128x128x1024 (ix3 a b j)
      = y (ix5 a 0 b ⟨j.val / 128, by omega⟩ ⟨j.val % 128, by omega⟩) := by
  pointwise

/-- Keeping the first position. -/
theorem first (y : FVec Ideal S128x128x1024 .f32) (a : Fin 128) (b : Fin 1) (j : Fin 1024) :
    extractStridedSlice S128x1x1024 ![0, 0, 0] y slices_S128x128x1024_S128x1x1024_0_0_0 (ix3 a b j) = y (ix3 a 0 j) := by
  pointwise

/-- Flattening the sequences of one position. -/
theorem flatten (y : FVec Ideal S128x1x1024 .f32) (r : Fin 128) (j : Fin 1024) :
    shapeCast S128x1024 y shapeCasts_S128x1x1024_S128x1024 (ix2 r j) = y (ix3 r 0 j) := by
  pointwise

/-- Padding every sequence to a whole chunk. -/
theorem pad_rest (y : FVec Ideal S128x1x1024 .f32) (z : FVec Ideal S_ .f32) (a : Fin 128) (s : Fin 128) (j : Fin 1024) :
    pad S128x128x1024 ![0, 0, 0] ![0, 127, 0] ![0, 0, 0] y z pads_S128x1x1024_S128x128x1024_000_01270_000 h_S_ (ix3 a s j)
      = if s.val < 1 then y (ix3 a 0 j) else z (Shape.Idx.first h_S_) := by
  pointwise
  by_cases h : s.val < 1
  · rw [dif_pos h, if_pos h]
    congr 2
    exact Subsingleton.elim _ _
  · rw [dif_neg h, if_neg h]

/-! ## The stages -/

variable (x0 : (⟨S128x1024, .f32⟩ : BufTy).Contents (Elt Ideal)) (x1 : (⟨S1024x5936, .f32⟩ : BufTy).Contents (Elt Ideal))
  (x2 x3 : (⟨S1024, .f32⟩ : BufTy).Contents (Elt Ideal)) (x4 : (⟨S8x128x128, .f32⟩ : BufTy).Contents (Elt Ideal))
  (x5 : (⟨S8x128, .f32⟩ : BufTy).Contents (Elt Ideal)) (x6 : (⟨S1024x1024, .f32⟩ : BufTy).Contents (Elt Ideal))

/-- The whole projection. -/
theorem projection (a : Fin 128) (b : Fin 1) (j : Fin 5936) :
    val_main_v1 (F := Ideal) x0 x1 (ix3 a b j) = proj x0 x1 a j := by
  unfold proj
  pointwise [val_main_v1, val_main_v0]

/-- The activated value half. -/
theorem gelu_v (a : Fin 128) (b : Fin 1) (j : Fin 1024) :
    val_main_v26 (F := Ideal) x0 x1 (ix3 a b j) = gelu (proj x0 x1 a ⟨1024 + j.val, by omega⟩) := by
  pointwise [val_main_v26, val_main_v25, val_main_v24, val_main_v23, val_main_v22, val_main_v21, val_main_v20, val_main_v19,
    val_main_v18, val_main_v17, val_main_v16, val_main_v15, val_main_v14, val_main_v3, val_main_cst, val_main_cst_0,
    val_main_cst_1, val_main_cst_2]
  unfold gelu
  rw [projection, mul_comm (proj x0 x1 a _ * _) (proj x0 x1 a _)]

/-- The activated gate half. -/
theorem gelu_u (a : Fin 128) (b : Fin 1) (j : Fin 1024) :
    val_main_v63 (F := Ideal) x0 x1 (ix3 a b j) = gelu (proj x0 x1 a ⟨j.val, by omega⟩) := by
  pointwise [val_main_v63, val_main_v62, val_main_v61, val_main_v60, val_main_v59, val_main_v58, val_main_v57, val_main_v56,
    val_main_v55, val_main_v54, val_main_v53, val_main_v52, val_main_v51, val_main_v2, val_main_cst_8, val_main_cst_9,
    val_main_cst_10, val_main_cst_11]
  unfold gelu
  rw [projection, mul_comm (proj x0 x1 a _ * _) (proj x0 x1 a _)]

/-- The normalised value half. -/
theorem normalised (a : Fin 128) (b : Fin 1) (j : Fin 1024) :
    val_main_v50 (F := Ideal) x0 x1 x2 x3 (ix3 a b j) = vn x0 x1 x2 x3 a j := by
  pointwise [val_main_v50, val_main_v49, val_main_v48, val_main_v47, val_main_v46, val_main_v45, val_main_v44, val_main_v43,
    val_main_v42, val_main_v41, val_main_v40, val_main_v39, val_main_v38, val_main_v37, val_main_v36, val_main_v35,
    val_main_v34, val_main_v33, val_main_v32, val_main_v31, val_main_v30, val_main_v29, val_main_v28, val_main_v27,
    val_main_cst_3, val_main_cst_4, val_main_cst_5, val_main_cst_6, val_main_cst_7]
  simp only [gelu_v]
  rfl

/-- The causal matrices: zero above the diagonal. -/
theorem causal (e : Fin 8) (t s : Fin 128) :
    val_main_v69 (F := Ideal) x4 (ix3 e t s) = if s.val ≤ t.val then x4 (ix3 e t s) else 0 := by
  pointwise [val_main_v69, val_main_call2_v2, val_main_call2_v1, val_main_call2_v0, val_main_cst_13, val_main_v68,
    val_main_v67, val_main_call1_v5, val_main_call1_c_0, val_main_call1_v4, val_main_call1_v3, val_main_call1_v2,
    val_main_call1_v1, val_main_call1_v0, val_main_call1_c, val_main_v66, val_main_c_12]
  have hz : id (constant (F := Ideal) S_ FTy.f32 0#32) ix0 = (0 : EReal) := by
    show constant (F := Ideal) S_ FTy.f32 0#32 ix0 = (0 : EReal)
    pointwise
  rw [causal_sge, select_ite, select_ite, hz]

/-- The first position's values in groups. -/
theorem chunked (a : Fin 128) (c : Fin 1) (s : Fin 128) (e : Fin 8) (d : Fin 128) (hs : s.val < 1) :
    val_main_v65 (F := Ideal) x0 x1 x2 x3 (ix5 a c s e d) = vn x0 x1 x2 x3 a ⟨e.val * 128 + d.val, by omega⟩ := by
  rw [← normalised x0 x1 x2 x3 a 0]
  unfold val_main_v65 val_main_v64
  rw [chunks, pad_rest, if_pos hs]

/-- The biases over every chunk and column. -/
theorem biases (a : Fin 128) (c : Fin 1) (t : Fin 128) (e : Fin 8) (d : Fin 128) :
    val_main_v74 (F := Ideal) x5 (ix5 a c t e d) = x5 (ix2 e t) := by
  rw [val_main_v74_apply, val_main_v73_apply, val_main_v72_apply]
  refine congrArg x5 (funext fun i => ?_)
  match i with
  | ⟨0, _⟩ => rfl
  | ⟨1, _⟩ => rfl

/-- The mixed values of the first position: only it comes before itself. -/
theorem mixes (a : Fin 128) (b : Fin 1) (j : Fin 1024) :
    val_main_v77 (F := Ideal) x0 x1 x2 x3 x4 x5 (ix3 a b j)
      = vn x0 x1 x2 x3 a j * x4 (ix3 ⟨j.val / 128, by omega⟩ 0 0) + x5 (ix2 ⟨j.val / 128, by omega⟩ 0) := by
  have hj : (⟨j.val / 128 * 128 + j.val % 128, by omega⟩ : Fin 1024) = j := Fin.ext (by dsimp only; omega)
  unfold val_main_v77
  rw [first]
  unfold val_main_v76
  rw [unchunk, val_main_v75_apply, biases, add_spelt]
  unfold val_main_v71 val_main_v70
  rw [reorder, contract_mix]
  congr 1
  rw [Finset.sum_eq_single (0 : Fin 128)]
  · rw [chunked _ _ _ _ _ _ _ _ _ (by decide), causal, if_pos (by decide)]
    dsimp only
    rw [hj]
  · intro s _ hs
    rw [causal, if_neg (fun h => hs (Fin.ext (by have h0 : (0 : Fin 128).val = 0 := rfl; omega))), mul_zero]
  · exact fun h => absurd (Finset.mem_univ _) h

/-- The branch's gate. -/
theorem gate (a : Fin 128) (b : Fin 1) (i : Fin 1024) :
    val_main_v84 (F := Ideal) x0 x1 (ix3 a b i) = Ideal.logistic (proj x0 x1 a ⟨3888 + i.val, by omega⟩) := by
  pointwise [val_main_v84, val_main_v83, val_main_v82, val_main_v81, val_main_v80, val_main_v79, val_main_cst_14,
    val_main_cst_15, val_main_v12]
  rw [projection, logistic_spelt]

/-- The reference's first result is the branch's output. -/
theorem result (r : Fin 128) (i : Fin 1024) :
    val_main_v87 (F := Ideal) x0 x1 x2 x3 x4 x5 x6 (ix2 r i) = outFirst x0 x1 x2 x3 x4 x5 x6 r i := by
  unfold val_main_v87
  rw [flatten, val_main_v86_apply, gate, mul_spelt]
  unfold val_main_v85 outFirst
  rw [contract_out]
  congr 1
  refine Finset.sum_congr rfl fun j _ => ?_
  rw [val_main_v78_apply, gelu_u, mixes, mul_spelt]

/-- The reference's second result is the normalised value half. -/
theorem values (r : Fin 128) (j : Fin 1024) :
    val_main_v88 (F := Ideal) x0 x1 x2 x3 (ix2 r j) = vn x0 x1 x2 x3 r j := by
  unfold val_main_v88
  rw [flatten, normalised]

end Cert.GmlpSReferenceIdeal.Stages

end
-- ==== Proof.GmlpS.Claims.lean ====
/- The gMLP branch for the sample batch: over the exact numbers the kernel leaves the reference's two arrays. -/
module

public import proofs.«01_k».proof.Defs
public import proofs.«01_k».proof.Proof.GmlpS.Kernel
public import proofs.«01_k».proof.Proof.GmlpS.Reference
public import proofs.«01_k».proof.Proof.Gen.GmlpSReferenceIdeal.Run
public import Idealize.ShloMosaic.Lib.Claim

@[expose] public section

noncomputable section

open Idealize.ShloMosaic Idealize.SL.Sem Cert.Layer

namespace Cert.GmlpSClaims

/-- The kernel's two result arrays are the reference's, whatever the arguments. -/
theorem algebraic : Cert.algebraic_GmlpSIdeal_GmlpSReferenceIdeal := by
  pair_intro
  · run_from Cert.GmlpSIdeal.Value.run_blocks m g
  · run_from Cert.GmlpSReferenceIdeal.Value.run m' g'
    · obtain ⟨h0, h1, h2, h3, h4, h5, h6⟩ := hagree c
      rw [Cert.GmlpSIdeal.Blocks.final9 m c, Cert.GmlpSReferenceIdeal.Read.val_main_v87_eq m' c, h0, h1, h2, h3, h4, h5, h6]
      funext y
      obtain ⟨r, i, rfl⟩ : ∃ (r : Fin 128) (i : Fin 1024), y = ix2 r i := ⟨y 0, y 1, eq_ix2 y⟩
      exact Cert.GmlpSReferenceIdeal.Stages.result _ _ _ _ _ _ _ r i
    · obtain ⟨h0, h1, h2, h3, h4, h5, h6⟩ := hagree c
      rw [Cert.GmlpSIdeal.Blocks.final10 m c, Cert.GmlpSReferenceIdeal.Read.val_main_v88_eq m' c, h0, h1, h2, h3]
      funext y
      obtain ⟨r, i, rfl⟩ : ∃ (r : Fin 128) (i : Fin 1024), y = ix2 r i := ⟨y 0, y 1, eq_ix2 y⟩
      exact Cert.GmlpSReferenceIdeal.Stages.values _ _ _ _ r i

end Cert.GmlpSClaims

end
-- ==== Proof.AttnInS.Reference.lean ====
/- The reference of the attention's input projection for the sample batch, result by result at an index. The 128 sequences
   have one position each. -/
module

public import proofs.«01_k».proof.Proof.Gen.AttnInSReferenceIdeal.Read
public import proofs.«01_k».proof.Proof.Products

@[expose] public section

noncomputable section

open Idealize.ShloMosaic Idealize.ShloMosaic.TcCoe Idealize.SL.Sem Cert.Layer

namespace Cert.AttnInSReferenceIdeal.Stages

open Cert.AttnInSReferenceIdeal Cert.AttnInSReferenceIdeal.Gen Cert.AttnInSReferenceIdeal.Read

variable (x0 : (⟨S128x1024, .f32⟩ : BufTy).Contents (Elt Ideal)) (x1 : (⟨S1024x5936, .f32⟩ : BufTy).Contents (Elt Ideal))

/-- The whole projection: sequence `a` is row `a` of the flat batch. -/
theorem projection (a : Fin 128) (b : Fin 1) (j : Fin 5936) :
    val_main_v1 (F := Ideal) x0 x1 (ix3 a b j) = proj x0 x1 a j := by
  unfold proj
  pointwise [val_main_v1, val_main_v0]

/-- The branch gate: the logistic of the last 1024 columns. -/
theorem branch_gate (r : Fin 128) (j : Fin 1024) :
    val_main_v28 (F := Ideal) x0 x1 (ix2 r j) = Ideal.logistic (proj x0 x1 r ⟨4912 + j.val, by omega⟩) := by
  pointwise [val_main_v28, val_main_v27, val_main_v26, val_main_v25, val_main_v24, val_main_v23, val_main_v22, val_main_v13,
    val_main_cst_1, val_main_cst_2]
  simp only [projection, logistic_spelt]

/-- The six key and value segments side by side: columns 3072 to 3839. -/
theorem keys_values (r : Fin 128) (j : Fin 768) :
    val_main_v30 (F := Ideal) x0 x1 (ix2 r j) = proj x0 x1 r ⟨3072 + j.val, by omega⟩ := by
  pointwise [val_main_v30, val_main_v29, val_main_v5, val_main_v6, val_main_v7, val_main_v8, val_main_v9, val_main_v10]
  simp only [projection]
  split_ifs <;> exact proj_congr _ _ rfl (by first | omega | (dsimp only; omega))

/-- The scaled queries: columns 2048 to 3071. -/
theorem queries (r : Fin 128) (j : Fin 1024) :
    val_main_v33 (F := Ideal) x0 x1 (ix2 r j)
      = proj x0 x1 r ⟨2048 + j.val, by omega⟩ * Ideal.ofBits .f32 1040187392#32 := by
  pointwise [val_main_v33, val_main_v32, val_main_v31, val_main_v4, val_main_cst_3]
  simp only [projection]

/-- The logits of the heads' gates, padded with zeros from 48 to 128 columns. -/
theorem gate_logits (r : Fin 128) (j : Fin 128) :
    val_main_v15 (F := Ideal) x0 x1 (ix2 r j)
      = if h : j.val < 48 then proj x0 x1 r ⟨3840 + j.val, by omega⟩ else 0 := by
  pointwise [val_main_v15, val_main_v14, val_main_v11, val_main_call0_v0, val_main_c]
  simp only [projection]
  have hz : FloatOps.sitofp (F := Ideal) FTy.f32 0#32 = (0 : EReal) := by
    show ((((0#32 : BitVec 32).toInt : ℝ)) : EReal) = 0
    simp
  rw [hz]

/-- The heads' gates: the logistic of the padded logits. -/
theorem gates (r : Fin 128) (j : Fin 128) :
    val_main_v21 (F := Ideal) x0 x1 (ix2 r j)
      = Ideal.logistic (if h : j.val < 48 then proj x0 x1 r ⟨3840 + j.val, by omega⟩ else 0) := by
  rw [← gate_logits]
  pointwise [val_main_v21, val_main_v20, val_main_v19, val_main_v18, val_main_v17, val_main_v16, val_main_cst, val_main_cst_0]
  rw [logistic_spelt]

end Cert.AttnInSReferenceIdeal.Stages

end
-- ==== Proof.AttnInS.Kernel.lean ====
/- The attention's input projection for the sample batch as the kernel computes it. The grid has one point, and every
   window is its whole array. -/
module

public import proofs.«01_k».proof.Proof.Gen.AttnInSIdeal.Value
public import proofs.«01_k».proof.Proof.AttnInS.Reference
public import Idealize.ShloMosaic.Lib.Pipeline.ValueKit
public import Idealize.ShloMosaic.Lib.StableHlo.ReadAt

@[expose] public section

noncomputable section

open Idealize.ShloMosaic Idealize.ShloMosaic.TcCoe Idealize.SL.Sem Cert.Layer

namespace Cert.AttnInSIdeal.Blocks

open Cert.AttnInSIdeal Cert.AttnInSIdeal.Gen

variable (m : (ℓ : Loc nD τ sig) → Buf (Elt Ideal) ℓ)

/-- Every window's block is the first of its array, at the one grid point. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0]
    ∧ win0_6.index t = ![0, 0] ∧ win0_7.index t = ![0, 0] ∧ win0_8.index t = ![0, 0] :=
  (by decide +kernel : ∀ t : Fin grid0.N, _)

/-- The rows the layer is given. -/
abbrev rows (c : Dev nD) : FVec Ideal ⟨2, ![128, 1024]⟩ .f32 := m ((c : Thread nD τ).loc main_arg0)

/-- The fused input weight. -/
abbrev weight (c : Dev nD) : FVec Ideal ⟨2, ![1024, 5936]⟩ .f32 := m ((c : Thread nD τ).loc main_arg1)

/-! ## The weights' segments as the host code cuts them -/

theorem gate_weight (c : Dev nD) (k : Fin 1024) (j : Fin 1024) :
    V m c main_v4 (ix2 k j) = weight m c (ix2 k ⟨4912 + j.val, by omega⟩) := by
  unfold V
  after_reads_at

theorem kv_weight (c : Dev nD) (k : Fin 1024) (j : Fin 768) :
    V m c main_v6 (ix2 k j) = weight m c (ix2 k ⟨3072 + j.val, by omega⟩) := by
  unfold V
  after_reads_at

theorem query_weight (c : Dev nD) (k : Fin 1024) (j : Fin 1024) :
    V m c main_v8 (ix2 k j) = weight m c (ix2 k ⟨2048 + j.val, by omega⟩) := by
  unfold V
  after_reads_at

theorem head_gate_weight (c : Dev nD) (k : Fin 1024) (j : Fin 128) :
    V m c main_v2 (ix2 k j) = if h : j.val < 48 then weight m c (ix2 k ⟨3840 + j.val, by omega⟩) else 0 := by
  unfold V
  after_reads_at
  have hz : FloatOps.sitofp (F := Ideal) FTy.bf16 0#32 = (0 : EReal) := by
    show ((((0#32 : BitVec 32).toInt : ℝ)) : EReal) = 0
    simp
  rw [hz]

/-! ## The blocks -/

theorem blk0 (c : Dev nD) (t : Fin cfg0.N) (p : Fin 128) (k : Fin 1024) :
    iblk m c 0 t (ix2 p k) = rows m c (ix2 p k) := by
  unfold rows
  rw [← V_main_arg0 m c]
  blk_ext [iblk, idx t]

theorem blk1 (c : Dev nD) (t : Fin cfg0.N) (k : Fin 1024) (j : Fin 1024) :
    iblk m c 1 t (ix2 k j) = weight m c (ix2 k ⟨4912 + j.val, by omega⟩) := by
  rw [← gate_weight m c]
  blk_ext [iblk, idx t]

theorem blk2 (c : Dev nD) (t : Fin cfg0.N) (k : Fin 1024) (j : Fin 768) :
    iblk m c 2 t (ix2 k j) = weight m c (ix2 k ⟨3072 + j.val, by omega⟩) := by
  rw [← kv_weight m c]
  blk_ext [iblk, idx t]

theorem blk3 (c : Dev nD) (t : Fin cfg0.N) (k : Fin 1024) (j : Fin 1024) :
    iblk m c 3 t (ix2 k j) = weight m c (ix2 k ⟨2048 + j.val, by omega⟩) := by
  rw [← query_weight m c]
  blk_ext [iblk, idx t]

theorem blk4 (c : Dev nD) (t : Fin cfg0.N) (k : Fin 1024) (j : Fin 128) :
    iblk m c 4 t (ix2 k j) = if h : j.val < 48 then weight m c (ix2 k ⟨3840 + j.val, by omega⟩) else 0 := by
  rw [← head_gate_weight m c]
  blk_ext [iblk, idx t]

/-- A product with a weight padded by zero columns is the product padded by zeros. -/
theorem padded (x : FVec Ideal ⟨2, ![128, 1024]⟩ .f32) (w : FVec Ideal ⟨2, ![1024, 5936]⟩ .f32) (r j : Fin 128) :
    ∑ k : Fin 1024, x (ix2 r k) * (if h : j.val < 48 then w (ix2 k ⟨3840 + j.val, by omega⟩) else 0)
      = if h : j.val < 48 then proj x w r ⟨3840 + j.val, by omega⟩ else 0 := by
  split_ifs with h
  · rfl
  · exact Finset.sum_eq_zero fun _ _ => mul_zero _

/-! ## The arrays the kernel leaves -/

open Cert.AttnInSReferenceIdeal (Read.val_main_v28 Read.val_main_v30 Read.val_main_v33 Read.val_main_v21)
open Cert.AttnInSReferenceIdeal.Stages

/-- The branch gate. -/
theorem final5 (c : Dev nD) : (dats m 0 c).arrAt 5 cfg0.N = Read.val_main_v28 (F := Ideal) (rows m c) (weight m c) := by
  refine (dats m 0 c).arrAt_eq_of_covers 5 _ (by decide +kernel) fun t hf y => ?_
  blk_simp
  rw [after0_5]
  frame_out
  pointwise [k0_pay2, k0_pay1]
  obtain ⟨p, j, rfl⟩ : ∃ (p : Fin 128) (j : Fin 1024), y = ix2 p j := ⟨y 0, y 1, eq_ix2 y⟩
  simp only [ix2_0, ix2_1, blk0, blk1]
  refine Eq.trans ?_ (congrArg _ (show ix2 p j = _ by blk_ext [idx t]))
  rw [branch_gate]
  rfl

/-- The keys and values. -/
theorem final6 (c : Dev nD) : (dats m 0 c).arrAt 6 cfg0.N = Read.val_main_v30 (F := Ideal) (rows m c) (weight m c) := by
  refine (dats m 0 c).arrAt_eq_of_covers 6 _ (by decide +kernel) fun t hf y => ?_
  blk_simp
  rw [after0_6]
  frame_out
  pointwise [k0_pay3, k0_pay1]
  obtain ⟨p, j, rfl⟩ : ∃ (p : Fin 128) (j : Fin 768), y = ix2 p j := ⟨y 0, y 1, eq_ix2 y⟩
  simp only [ix2_0, ix2_1, blk0, blk2]
  refine Eq.trans ?_ (congrArg _ (show ix2 p j = _ by blk_ext [idx t]))
  rw [keys_values]
  rfl

/-- The scaled queries. -/
theorem final7 (c : Dev nD) : (dats m 0 c).arrAt 7 cfg0.N = Read.val_main_v33 (F := Ideal) (rows m c) (weight m c) := by
  refine (dats m 0 c).arrAt_eq_of_covers 7 _ (by decide +kernel) fun t hf y => ?_
  blk_simp
  rw [after0_7]
  frame_out
  pointwise [k0_pay4, k0_pay1]
  obtain ⟨p, j, rfl⟩ : ∃ (p : Fin 128) (j : Fin 1024), y = ix2 p j := ⟨y 0, y 1, eq_ix2 y⟩
  simp only [ix2_0, ix2_1, blk0, blk3]
  refine Eq.trans ?_ (congrArg _ (show ix2 p j = _ by blk_ext [idx t]))
  rw [queries]
  rfl

/-- The heads' gates. -/
theorem final8 (c : Dev nD) : (dats m 0 c).arrAt 8 cfg0.N = Read.val_main_v21 (F := Ideal) (rows m c) (weight m c) := by
  refine (dats m 0 c).arrAt_eq_of_covers 8 _ (by decide +kernel) fun t hf y => ?_
  blk_simp
  rw [after0_8]
  frame_out
  pointwise [k0_pay5, k0_pay1]
  obtain ⟨p, j, rfl⟩ : ∃ (p : Fin 128) (j : Fin 128), y = ix2 p j := ⟨y 0, y 1, eq_ix2 y⟩
  simp only [ix2_0, ix2_1, blk0, blk4]
  refine Eq.trans ?_ (congrArg _ (show ix2 p j = _ by blk_ext [idx t]))
  rw [gates, padded]

end Cert.AttnInSIdeal.Blocks

end
-- ==== Proof.AttnInS.Claims.lean ====
/- The attention's input projection for the sample batch: over the exact numbers the kernel leaves the reference's four arrays. -/
module

public import proofs.«01_k».proof.Defs
public import proofs.«01_k».proof.Proof.AttnInS.Kernel
public import proofs.«01_k».proof.Proof.Gen.AttnInSReferenceIdeal.Run
public import Idealize.ShloMosaic.Lib.Claim

@[expose] public section

noncomputable section

open Idealize.ShloMosaic Idealize.SL.Sem

namespace Cert.AttnInSClaims

/-- The kernel's four result arrays are the reference's, whatever the rows and the weight. -/
theorem algebraic : Cert.algebraic_AttnInSIdeal_AttnInSReferenceIdeal := by
  pair_intro
  · run_from Cert.AttnInSIdeal.Value.run_blocks m g
  · run_from Cert.AttnInSReferenceIdeal.Value.run m' g'
    · rw [Cert.AttnInSIdeal.Blocks.final5 m c]; rfl
    · rw [Cert.AttnInSIdeal.Blocks.final6 m c]; rfl
    · rw [Cert.AttnInSIdeal.Blocks.final7 m c]; rfl
    · rw [Cert.AttnInSIdeal.Blocks.final8 m c]; rfl

end Cert.AttnInSClaims

end
-- ==== Proof.Residual.lean ====
/- The layer's first residual step on the extended reals, entry by entry: the two branches' gated outputs are added, their
   sum is projected and added to the scaled row, and the row is normalised. Both sides of the merge's claims are shown to
   be `residual`. -/
module

public import proofs.«01_k».proof.Proof.Mixer

@[expose] public section

noncomputable section

open Idealize.ShloMosaic

namespace Cert.Layer

variable {n : ℕ} (x ya sgb : FVec Ideal ⟨2, ![n, 1024]⟩ .f32) (o : Fin n → Fin 1024 → EReal)
  (wb wo : FVec Ideal ⟨2, ![1024, 1024]⟩ .f32) (g b : FVec Ideal ⟨1, ![1024]⟩ .f32)

/-- The two branches added: the first branch's gated output, and the second's gate times its projected output. -/
def branches (r : Fin n) (j : Fin 1024) : EReal :=
  ya (ix2 r j) + sgb (ix2 r j) * ∑ k : Fin 1024, o r k * wb (ix2 k j)

/-- The row before its normalisation: the row the layer is given, scaled by the constant as the program rounds it, plus the
    branches' projection. -/
def stepped (r : Fin n) (i : Fin 1024) : EReal :=
  Ideal.ofBits .f32 1071072509#32 * x (ix2 r i) + ∑ j : Fin 1024, branches ya sgb o wb r j * wo (ix2 j i)

/-- The residual stream after the step. -/
def residual (r : Fin n) (i : Fin 1024) : EReal :=
  normed (stepped x ya sgb o wb wo r) i * g (ix1 i) + b (ix1 i)

end Cert.Layer

end
-- ==== Proof.Merge.Kernel.lean ====
/- The layer's first residual step for the prompt as the kernel computes it, in the first 1024 columns of its result: the
   grid's 32 points take 512 rows each, and the attention's output comes by columns. -/
module

public import proofs.«01_k».proof.Proof.Gen.Merge.Frame
public import proofs.«01_k».proof.Proof.Gen.MergeIdeal.Value
public import proofs.«01_k».proof.Proof.Residual
public import Idealize.ShloMosaic.Lib.Pipeline.ValueKit
public import Idealize.ShloMosaic.Lib.StableHlo.ReadAt

@[expose] public section

noncomputable section

open Idealize.ShloMosaic Idealize.ShloMosaic.TcCoe Idealize.SL.Sem Cert.Layer

namespace Cert.MergeIdeal.Blocks

open Cert.MergeIdeal Cert.MergeIdeal.Gen

variable (m : (ℓ : Loc nD τ sig) → Buf (Elt Ideal) ℓ)

/-- Point `t` reads the rows' block `t`, the attention's column block `t` and the whole of every weight, and writes the
    result's row block `t`. -/
theorem idx : ∀ t : Fin cfg0.N, win0_0.index t = ![t.val, 0] ∧ win0_1.index t = ![t.val, 0] ∧ win0_2.index t = ![t.val, 0]
    ∧ win0_3.index t = ![0, t.val] ∧ win0_4.index t = ![0, 0] ∧ win0_5.index t = ![0, 0] ∧ win0_6.index t = ![0, 0]
    ∧ win0_7.index t = ![0, 0] ∧ win0_11.index t = ![t.val, 0] :=
  (by decide +kernel : ∀ t : Fin grid0.N, _)

/-- Row `p` of block `t`. -/
abbrev row (t : Fin cfg0.N) (p : Fin 512) : Fin 16384 :=
  ⟨t.val * 512 + p.val, by have := t.isLt; have := N_0; have : cfg0.N = grid0.N := rfl; omega⟩

/-- The rows the layer is given. -/
abbrev rows (c : Dev nD) : FVec Ideal ⟨2, ![16384, 1024]⟩ .f32 := m ((c : Thread nD τ).loc main_arg0)

/-- The first branch's gated output. -/
abbrev first (c : Dev nD) : FVec Ideal ⟨2, ![16384, 1024]⟩ .f32 := m ((c : Thread nD τ).loc main_arg1)

/-- The second branch's gate. -/
abbrev gate (c : Dev nD) : FVec Ideal ⟨2, ![16384, 1024]⟩ .f32 := m ((c : Thread nD τ).loc main_arg2)

/-- The attention's output by columns. -/
abbrev attention (c : Dev nD) : FVec Ideal ⟨2, ![1024, 16384]⟩ .bf16 := m ((c : Thread nD τ).loc main_arg3)

/-- The second branch's weight. -/
abbrev branchWeight (c : Dev nD) : FVec Ideal ⟨2, ![1024, 1024]⟩ .f32 := m ((c : Thread nD τ).loc main_arg4)

/-- The output weight. -/
abbrev outWeight (c : Dev nD) : FVec Ideal ⟨2, ![1024, 1024]⟩ .f32 := m ((c : Thread nD τ).loc main_arg5)

/-- The normalisation's scale. -/
abbrev scale (c : Dev nD) : FVec Ideal ⟨1, ![1024]⟩ .f32 := m ((c : Thread nD τ).loc main_arg6)

/-- The normalisation's shift. -/
abbrev shift (c : Dev nD) : FVec Ideal ⟨1, ![1024]⟩ .f32 := m ((c : Thread nD τ).loc main_arg7)

/-! ## The arrays the host code prepares -/

theorem branch_weight (c : Dev nD) (k j : Fin 1024) : V m c main_v0 (ix2 k j) = branchWeight m c (ix2 k j) := by
  unfold V
  after_reads_at

theorem out_weight (c : Dev nD) (k j : Fin 1024) : V m c main_v1 (ix2 k j) = outWeight m c (ix2 k j) := by
  unfold V
  after_reads_at

theorem scale_row (c : Dev nD) (j : Fin 1024) : V m c main_v2 (ix2 0 j) = scale m c (ix1 j) := by
  unfold V
  after_reads_at

theorem shift_row (c : Dev nD) (j : Fin 1024) : V m c main_v3 (ix2 0 j) = shift m c (ix1 j) := by
  unfold V
  after_reads_at

/-! ## The blocks -/

theorem blk0 (c : Dev nD) (t : Fin cfg0.N) (p : Fin 512) (k : Fin 1024) :
    iblk m c 0 t (ix2 p k) = rows m c (ix2 (row t p) k) := by
  unfold rows
  rw [← V_main_arg0 m c]
  blk_ext [iblk, idx t]

theorem blk1 (c : Dev nD) (t : Fin cfg0.N) (p : Fin 512) (k : Fin 1024) :
    iblk m c 1 t (ix2 p k) = first m c (ix2 (row t p) k) := by
  unfold first
  rw [← V_main_arg1 m c]
  blk_ext [iblk, idx t]

theorem blk2 (c : Dev nD) (t : Fin cfg0.N) (p : Fin 512) (k : Fin 1024) :
    iblk m c 2 t (ix2 p k) = gate m c (ix2 (row t p) k) := by
  unfold gate
  rw [← V_main_arg2 m c]
  blk_ext [iblk, idx t]

theorem blk3 (c : Dev nD) (t : Fin cfg0.N) (k : Fin 1024) (p : Fin 512) :
    iblk m c 3 t (ix2 k p) = attention m c (ix2 k (row t p)) := by
  unfold attention
  rw [← V_main_arg3 m c]
  blk_ext [iblk, idx t]

theorem blk4 (c : Dev nD) (t : Fin cfg0.N) (k j : Fin 1024) :
    iblk m c 4 t (ix2 k j) = branchWeight m c (ix2 k j) := by
  rw [← branch_weight m c]
  blk_ext [iblk, idx t]

theorem blk5 (c : Dev nD) (t : Fin cfg0.N) (k j : Fin 1024) :
    iblk m c 5 t (ix2 k j) = outWeight m c (ix2 k j) := by
  rw [← out_weight m c]
  blk_ext [iblk, idx t]

theorem blk6 (c : Dev nD) (t : Fin cfg0.N) (j : Fin 1024) :
    iblk m c 6 t (ix2 0 j) = scale m c (ix1 j) := by
  rw [← scale_row m c]
  blk_ext [iblk, idx t]

theorem blk7 (c : Dev nD) (t : Fin cfg0.N) (j : Fin 1024) :
    iblk m c 7 t (ix2 0 j) = shift m c (ix1 j) := by
  rw [← shift_row m c]
  blk_ext [iblk, idx t]

/-! ## The stages of the body, for any blocks -/

/-- The row before its normalisation, from a point's blocks. -/
def steppedOf (x ya sgb : Vec Ideal S512x1024 .f32) (o : Vec Ideal S1024x512 .bf16) (wb wo : Vec Ideal S1024x1024 .bf16)
    (p : Fin 512) (i : Fin 1024) : EReal :=
  Ideal.ofBits .f32 1071072509#32 * x (ix2 p i)
    + ∑ j : Fin 1024, (ya (ix2 p j) + sgb (ix2 p j) * ∑ k : Fin 1024, o (ix2 k p) * wb (ix2 k j)) * wo (ix2 j i)

/-- The row with its mean taken off. -/
theorem centred_apply (x ya sgb : Vec Ideal S512x1024 .f32) (o : Vec Ideal S1024x512 .bf16)
    (wb wo : Vec Ideal S1024x1024 .bf16) (p : Fin 512) (i : Fin 1024) :
    k0_pay6 o wb ya sgb wo x (ix2 p i)
      = steppedOf x ya sgb o wb wo p i - mean (steppedOf x ya sgb o wb wo p) := by
  pointwise [k0_pay6]
  rfl

/-- The normalised row. -/
theorem norm_apply (x ya sgb : Vec Ideal S512x1024 .f32) (o : Vec Ideal S1024x512 .bf16)
    (wb wo : Vec Ideal S1024x1024 .bf16) (g b : Vec Ideal S1x1024 .f32) (p : Fin 512) (i : Fin 1024) :
    k0_pay9 (k0_pay4 g) (k0_pay5 b) (k0_pay6 o wb ya sgb wo x) (k0_pay7 o wb ya sgb wo x) k0_pay8 (ix2 p i)
      = normed (steppedOf x ya sgb o wb wo p) i * g (ix2 0 i) + b (ix2 0 i) := by
  pointwise [k0_pay9, k0_pay4, k0_pay5, k0_pay7, k0_pay8]
  simp only [centred_apply]
  rfl

/-! ## The result's columns -/

/-- Of two stores side by side, the earlier one's columns keep what it wrote. -/
theorem first_columns (w : (Rect.unit (s := S512x1152) ![0, 1024] S512x128.size inb_S512x1152_S512x128_0_1024).shape.Idx → Elt Ideal .f32)
    (v : (Rect.unit (s := S512x1152) ![0, 0] S512x1024.size inb_S512x1152_S512x1024_0_0).shape.Idx → Elt Ideal .f32)
    (p : Fin 512) (i : Fin 1024) :
    View.canon (Val := Elt Ideal) (e := .f32) [⟨Rect.unit (s := S512x1152) ![0, 1024] S512x128.size inb_S512x1152_S512x128_0_1024, w⟩,
      ⟨Rect.unit (s := S512x1152) ![0, 0] S512x1024.size inb_S512x1152_S512x1024_0_0, v⟩] (ix2 p ⟨i.val, by omega⟩) = v (ix2 p i) := by
  rw [View.canon_cons_of_not_mem]
  · have h : ix2 p ⟨i.val, by omega⟩ = (Rect.unit (s := S512x1152) ![0, 0] S512x1024.size inb_S512x1152_S512x1024_0_0).emb (ix2 p i) := by
      blk_ext
    rw [h, View.canon_cons_emb]
  · intro hm
    obtain ⟨x, hx⟩ := (Rect.unit (s := S512x1152) ![0, 1024] S512x128.size inb_S512x1152_S512x128_0_1024).exists_idx_of_mem hm
    have h1 : 1024 + 1 * (x 1).val = i.val := congrArg (fun z : S512x1152.Idx => (z 1).val) hx
    omega

/-- What a point leaves in its block of the result, in the first 1024 columns. -/
theorem after_apply (c : Dev nD) (t : Fin cfg0.N) (p : Fin 512) (i : Fin 1024) :
    ((dats m 0 c).after 11 t : Vec Ideal S512x1152 .f32) (ix2 p ⟨i.val, by omega⟩)
      = normed (steppedOf (iblk m c 0 t) (iblk m c 1 t) (iblk m c 2 t) (iblk m c 3 t) (iblk m c 4 t) (iblk m c 5 t) p) i
        * iblk m c 6 t (ix2 0 i) + iblk m c 7 t (ix2 0 i) := by
  by_cases h : t.val % 32 = 0
  · rw [after0_11, outsAt0_A m c t h]
    frame_out
    rw [first_columns]
    exact norm_apply _ _ _ _ _ _ _ _ p i
  · rw [after0_11, outsAt0_B m c t h]
    frame_out
    rw [first_columns]
    exact norm_apply _ _ _ _ _ _ _ _ p i

/-- The result array's first 1024 columns. -/
theorem final11 (c : Dev nD) (r : Fin 16384) (i : Fin 1024) :
    ((dats m 0 c).arrAt 11 cfg0.N : FVec Ideal S16384x1152 .f32) (ix2 r ⟨i.val, by omega⟩)
      = residual (rows m c) (first m c) (gate m c) (fun r k => attention m c (ix2 k r)) (branchWeight m c) (outWeight m c)
        (scale m c) (shift m c) r i := by
  obtain ⟨t, p, rfl⟩ : ∃ (t : Fin cfg0.N) (p : Fin 512), r = row t p :=
    ⟨⟨r.val / 512, by have := N_0; have : cfg0.N = grid0.N := rfl; omega⟩, ⟨r.val % 512, by omega⟩,
      Fin.ext (by dsimp only; omega)⟩
  have hf : (cfg0.win 11).flush t = true := (by decide +kernel : ∀ t : Fin cfg0.N, (cfg0.win 11).flush t = true) t
  have h : ix2 (row t p) ⟨i.val, by omega⟩
      = ((View.whole main_v6_0).slice (win0_11.rect t)).emb (ix2 p (⟨i.val, by omega⟩ : Fin 1152)) := by blk_ext [idx t]
  rw [h]
  refine (congrFun (Value.blocks11 m c t hf) (ix2 p (⟨i.val, by omega⟩ : Fin 1152))).trans
    ((after_apply m c t p i).trans ?_)
  have e : steppedOf (iblk m c 0 t) (iblk m c 1 t) (iblk m c 2 t) (iblk m c 3 t) (iblk m c 4 t) (iblk m c 5 t) p
      = stepped (rows m c) (first m c) (gate m c) (fun r k => attention m c (ix2 k r)) (branchWeight m c) (outWeight m c)
        (row t p) := by
    funext i
    unfold steppedOf stepped branches
    simp only [blk0, blk1, blk2, blk3, blk4, blk5]
  rw [e, blk6, blk7]
  rfl

end Cert.MergeIdeal.Blocks

end
-- ==== Proof.Merge.Reference.lean ====
/- The reference of the layer's first residual step for the prompt, stage by stage at an index, ending at
   `Cert.Layer.residual` in the first 1024 columns. -/
module

public import proofs.«01_k».proof.Proof.Gen.MergeReferenceIdeal.Read
public import proofs.«01_k».proof.Proof.Residual

@[expose] public section

noncomputable section

open Idealize.ShloMosaic Idealize.ShloMosaic.TcCoe Idealize.SL.Sem Cert.Layer

namespace Cert.MergeReferenceIdeal.Stages

open Cert.MergeReferenceIdeal Cert.MergeReferenceIdeal.Gen Cert.MergeReferenceIdeal.Read

/-! ## The operations that move or contract whole arrays, for any operands -/

/-- Contracting the rows with a square weight. -/
theorem contract (y : FVec Ideal S16384x1024 .f32) (u : FVec Ideal S1024x1024 .f32) (r : Fin 16384) (i : Fin 1024) :
    Host.dotGeneral dot_S16384x1024_S1024x1024_S16384x1024_1_0_0_1_n_n none y u (ix2 r i)
      = ∑ k : Fin 1024, y (ix2 r k) * u (ix2 k i) := by
  pointwise

/-- Reading columns as rows. -/
theorem turned (y : FVec Ideal S1024x16384 .f32) (r : Fin 16384) (k : Fin 1024) :
    transpose S16384x1024 [1, 0] y transposes_S1024x16384_S16384x1024_1_0 (ix2 r k) = y (ix2 k r) := by
  pointwise

/-- The appended columns leave the first 1024 as they are. -/
theorem pad_columns (y : FVec Ideal S16384x1024 .f32) (z : FVec Ideal S_ .f32) (r : Fin 16384) (i : Fin 1024) :
    pad S16384x1152 ![0, 0] ![0, 128] ![0, 0] y z pads_S16384x1024_S16384x1152_000_01280 h_S_ (ix2 r ⟨i.val, by omega⟩)
      = y (ix2 r i) := by
  pointwise

/-! ## The stages -/

variable (x0 x1 x2 : (⟨S16384x1024, .f32⟩ : BufTy).Contents (Elt Ideal))
  (x3 : (⟨S1024x16384, .bf16⟩ : BufTy).Contents (Elt Ideal)) (x4 x5 : (⟨S1024x1024, .f32⟩ : BufTy).Contents (Elt Ideal))
  (x6 x7 : (⟨S1024, .f32⟩ : BufTy).Contents (Elt Ideal))

/-- The attention's output by rows. -/
theorem attention (r : Fin 16384) (k : Fin 1024) : val_main_v1 (F := Ideal) x3 (ix2 r k) = x3 (ix2 k r) := by
  unfold val_main_v1
  rw [turned]
  rfl

/-- The two branches added. -/
theorem joined (r : Fin 16384) (j : Fin 1024) :
    val_main_v6 (F := Ideal) x1 x2 x3 x4 (ix2 r j) = branches x1 x2 (fun r k => x3 (ix2 k r)) x4 r j := by
  rw [val_main_v6_apply, val_main_v5_apply, add_spelt, mul_spelt]
  unfold val_main_v4 branches
  rw [contract]
  simp only [attention]

/-- The row before its normalisation. -/
theorem before (r : Fin 16384) (i : Fin 1024) :
    val_main_v8 (F := Ideal) x0 x1 x2 x3 x4 x5 (ix2 r i) = stepped x0 x1 x2 (fun r k => x3 (ix2 k r)) x4 x5 r i := by
  rw [val_main_v8_apply, val_main_v3_apply, val_main_v2_apply, val_main_cst_apply, add_spelt, mul_spelt]
  unfold val_main_v7 stepped
  rw [contract]
  simp only [joined]
  rfl

/-- The residual stream. -/
theorem normalised (r : Fin 16384) (i : Fin 1024) :
    val_main_v32 (F := Ideal) x0 x1 x2 x3 x4 x5 x6 x7 (ix2 r i)
      = residual x0 x1 x2 (fun r k => x3 (ix2 k r)) x4 x5 x6 x7 r i := by
  pointwise [val_main_v32, val_main_v31, val_main_v30, val_main_v29, val_main_v28, val_main_v27, val_main_v26, val_main_v25,
    val_main_v24, val_main_v23, val_main_v22, val_main_v21, val_main_v20, val_main_v19, val_main_v18, val_main_v17,
    val_main_v16, val_main_v15, val_main_v14, val_main_v13, val_main_v12, val_main_v11, val_main_v10, val_main_v9,
    val_main_cst_0, val_main_cst_1, val_main_cst_2, val_main_cst_3, val_main_cst_4]
  simp only [before]
  rfl

/-- The reference's result in the first 1024 columns. -/
theorem result (r : Fin 16384) (i : Fin 1024) :
    val_main_v33 (F := Ideal) x0 x1 x2 x3 x4 x5 x6 x7 (ix2 r ⟨i.val, by omega⟩)
      = residual x0 x1 x2 (fun r k => x3 (ix2 k r)) x4 x5 x6 x7 r i := by
  unfold val_main_v33
  rw [pad_columns, normalised]

end Cert.MergeReferenceIdeal.Stages

end
-- ==== Proof.Merge.Claims.lean ====
/- The layer's first residual step for the prompt: over the exact numbers the kernel's result and the reference's agree in
   the columns that hold the residual stream. -/
module

public import proofs.«01_k».proof.Defs
public import proofs.«01_k».proof.Proof.Merge.Kernel
public import proofs.«01_k».proof.Proof.Merge.Reference
public import proofs.«01_k».proof.Proof.Gen.MergeReferenceIdeal.Run
public import proofs.«01_k».proof.Proof.Gen.On_residual_columns_MergeIdeal

@[expose] public section

noncomputable section

open Idealize.ShloMosaic Idealize.SL.Sem Cert.Layer

namespace Cert.On_residual_columns_MergeIdeal

variable {F : FTy → Type} [FloatOps F] [Facts]

/-- An element the mask selects lies in one of the first 1024 columns. -/
theorem column_lt (x0 x1 x2 x3 x4 x5 x6 x7 x8 x9 x10) (i : S16384x1152.Idx)
    (h : fn (F := F) x0 x1 x2 x3 x4 x5 x6 x7 x8 x9 x10 i = 1#1) : (i 1).val < 1024 := by
  have key : ∀ j : Fin 1152, IntOp.cmpi .slt (BitVec.ofNat 32 j.val) 1024#32 = 1#1 → j.val < 1024 := by decide +kernel
  exact key (i 1) h

end Cert.On_residual_columns_MergeIdeal

namespace Cert.MergeClaims

/-- The kernel's result array is the reference's wherever the mask is set, whatever the arguments. -/
theorem algebraic : Cert.algebraic_MergeIdeal_MergeReferenceIdeal_on_residual_columns_MergeIdeal := by
  intro m g m' g' _ hagree
  refine ⟨fun c => (Cert.MergeIdeal.Gen.dats m 0 c).arrAt 11 Cert.MergeIdeal.cfg0.N, ?_, ?_⟩
  · exact (θ_run Cert.MergeIdeal.defs _ _).mono (fun _ h c => ⟨fun i _ => congrFun (h c).1 i, (h c).2.2⟩)
      (Cert.MergeIdeal.Value.run_blocks m g)
  · refine (θ_run Cert.MergeReferenceIdeal.defs _ _).mono
      (fun _ h c => ⟨fun i hi => (congrFun (h c).1 i).trans ?_, (h c).2⟩) (Cert.MergeReferenceIdeal.Value.run m' g')
    have hlt := Cert.On_residual_columns_MergeIdeal.column_lt _ _ _ _ _ _ _ _ _ _ _ i hi
    obtain ⟨h0, h1, h2, h3, h4, h5, h6, h7, _⟩ := hagree c
    obtain ⟨r, j, rfl⟩ : ∃ (r : Fin 16384) (j : Fin 1152), i = ix2 r j := ⟨i 0, i 1, eq_ix2 i⟩
    rw [Cert.MergeReferenceIdeal.Read.val_main_v33_eq m' c, h0, h1, h2, h3, h4, h5, h6, h7]
    exact (Cert.MergeReferenceIdeal.Stages.result _ _ _ _ _ _ _ _ r ⟨j.val, hlt⟩).trans
      (Cert.MergeIdeal.Blocks.final11 m c r ⟨j.val, hlt⟩).symm

end Cert.MergeClaims

end
-- ==== Proof.MergeS.Kernel.lean ====
/- The layer's first residual step for the sample batch as the kernel computes it, in the first 1024 columns of its result.
   The grid has one point, every window is its whole array, and the attention's output comes by rows. -/
module

public import proofs.«01_k».proof.Proof.Gen.MergeS.Frame
public import proofs.«01_k».proof.Proof.Gen.MergeSIdeal.Value
public import proofs.«01_k».proof.Proof.Residual
public import Idealize.ShloMosaic.Lib.Pipeline.ValueKit
public import Idealize.ShloMosaic.Lib.StableHlo.ReadAt

@[expose] public section

noncomputable section

open Idealize.ShloMosaic Idealize.ShloMosaic.TcCoe Idealize.SL.Sem Cert.Layer

namespace Cert.MergeSIdeal.Blocks

open Cert.MergeSIdeal Cert.MergeSIdeal.Gen

variable (m : (ℓ : Loc nD τ sig) → Buf (Elt Ideal) ℓ)

/-- Every window's block is the first of its array, at the one grid point. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_11.index t = ![0, 0] :=
  (by decide +kernel : ∀ t : Fin grid0.N, _)

/-- The rows the layer is given. -/
abbrev rows (c : Dev nD) : FVec Ideal ⟨2, ![128, 1024]⟩ .f32 := m ((c : Thread nD τ).loc main_arg0)

/-- The first branch's gated output. -/
abbrev first (c : Dev nD) : FVec Ideal ⟨2, ![128, 1024]⟩ .f32 := m ((c : Thread nD τ).loc main_arg1)

/-- The second branch's gate. -/
abbrev gate (c : Dev nD) : FVec Ideal ⟨2, ![128, 1024]⟩ .f32 := m ((c : Thread nD τ).loc main_arg2)

/-- The attention's output. -/
abbrev attention (c : Dev nD) : FVec Ideal ⟨2, ![128, 1024]⟩ .f32 := m ((c : Thread nD τ).loc main_arg3)

/-- The second branch's weight. -/
abbrev branchWeight (c : Dev nD) : FVec Ideal ⟨2, ![1024, 1024]⟩ .f32 := m ((c : Thread nD τ).loc main_arg4)

/-- The output weight. -/
abbrev outWeight (c : Dev nD) : FVec Ideal ⟨2, ![1024, 1024]⟩ .f32 := m ((c : Thread nD τ).loc main_arg5)

/-- The normalisation's scale. -/
abbrev scale (c : Dev nD) : FVec Ideal ⟨1, ![1024]⟩ .f32 := m ((c : Thread nD τ).loc main_arg6)

/-- The normalisation's shift. -/
abbrev shift (c : Dev nD) : FVec Ideal ⟨1, ![1024]⟩ .f32 := m ((c : Thread nD τ).loc main_arg7)

/-! ## The arrays the host code prepares -/

theorem branch_weight (c : Dev nD) (k j : Fin 1024) : V m c main_v0 (ix2 k j) = branchWeight m c (ix2 k j) := by
  unfold V
  after_reads_at

theorem out_weight (c : Dev nD) (k j : Fin 1024) : V m c main_v1 (ix2 k j) = outWeight m c (ix2 k j) := by
  unfold V
  after_reads_at

theorem scale_row (c : Dev nD) (j : Fin 1024) : V m c main_v2 (ix2 0 j) = scale m c (ix1 j) := by
  unfold V
  after_reads_at

theorem shift_row (c : Dev nD) (j : Fin 1024) : V m c main_v3 (ix2 0 j) = shift m c (ix1 j) := by
  unfold V
  after_reads_at

/-! ## The blocks -/

theorem blk0 (c : Dev nD) (t : Fin cfg0.N) (p : Fin 128) (k : Fin 1024) :
    iblk m c 0 t (ix2 p k) = rows m c (ix2 p k) := by
  unfold rows
  rw [← V_main_arg0 m c]
  blk_ext [iblk, idx t]

theorem blk1 (c : Dev nD) (t : Fin cfg0.N) (p : Fin 128) (k : Fin 1024) :
    iblk m c 1 t (ix2 p k) = first m c (ix2 p k) := by
  unfold first
  rw [← V_main_arg1 m c]
  blk_ext [iblk, idx t]

theorem blk2 (c : Dev nD) (t : Fin cfg0.N) (p : Fin 128) (k : Fin 1024) :
    iblk m c 2 t (ix2 p k) = gate m c (ix2 p k) := by
  unfold gate
  rw [← V_main_arg2 m c]
  blk_ext [iblk, idx t]

theorem blk3 (c : Dev nD) (t : Fin cfg0.N) (p : Fin 128) (k : Fin 1024) :
    iblk m c 3 t (ix2 p k) = attention m c (ix2 p k) := by
  unfold attention
  rw [← V_main_arg3 m c]
  blk_ext [iblk, idx t]

theorem blk4 (c : Dev nD) (t : Fin cfg0.N) (k j : Fin 1024) :
    iblk m c 4 t (ix2 k j) = branchWeight m c (ix2 k j) := by
  rw [← branch_weight m c]
  blk_ext [iblk, idx t]

theorem blk5 (c : Dev nD) (t : Fin cfg0.N) (k j : Fin 1024) :
    iblk m c 5 t (ix2 k j) = outWeight m c (ix2 k j) := by
  rw [← out_weight m c]
  blk_ext [iblk, idx t]

theorem blk6 (c : Dev nD) (t : Fin cfg0.N) (j : Fin 1024) :
    iblk m c 6 t (ix2 0 j) = scale m c (ix1 j) := by
  rw [← scale_row m c]
  blk_ext [iblk, idx t]

theorem blk7 (c : Dev nD) (t : Fin cfg0.N) (j : Fin 1024) :
    iblk m c 7 t (ix2 0 j) = shift m c (ix1 j) := by
  rw [← shift_row m c]
  blk_ext [iblk, idx t]

/-! ## The stages of the body, for any blocks -/

/-- The row before its normalisation, from a point's blocks. -/
def steppedOf (x ya sgb : Vec Ideal S128x1024 .f32) (o : Vec Ideal S128x1024 .f32) (wb wo : Vec Ideal S1024x1024 .bf16)
    (p : Fin 128) (i : Fin 1024) : EReal :=
  Ideal.ofBits .f32 1071072509#32 * x (ix2 p i)
    + ∑ j : Fin 1024, (ya (ix2 p j) + sgb (ix2 p j) * ∑ k : Fin 1024, o (ix2 p k) * wb (ix2 k j)) * wo (ix2 j i)

/-- The row with its mean taken off. -/
theorem centred_apply (x ya sgb : Vec Ideal S128x1024 .f32) (o : Vec Ideal S128x1024 .f32)
    (wb wo : Vec Ideal S1024x1024 .bf16) (p : Fin 128) (i : Fin 1024) :
    k0_pay6 o wb ya sgb wo x (ix2 p i)
      = steppedOf x ya sgb o wb wo p i - mean (steppedOf x ya sgb o wb wo p) := by
  pointwise [k0_pay6]
  rfl

/-- The normalised row. -/
theorem norm_apply (x ya sgb : Vec Ideal S128x1024 .f32) (o : Vec Ideal S128x1024 .f32)
    (wb wo : Vec Ideal S1024x1024 .bf16) (g b : Vec Ideal S1x1024 .f32) (p : Fin 128) (i : Fin 1024) :
    k0_pay8 (k0_pay4 g) (k0_pay5 b) (k0_pay6 o wb ya sgb wo x) (k0_pay7 o wb ya sgb wo x)
        (Scalar.ofBits .f32 0x44800000#32) (ix2 p i)
      = normed (steppedOf x ya sgb o wb wo p) i * g (ix2 0 i) + b (ix2 0 i) := by
  pointwise [k0_pay8, k0_pay4, k0_pay5, k0_pay7]
  simp only [centred_apply]
  rfl

/-! ## The result's columns -/

/-- Of two stores side by side, the earlier one's columns keep what it wrote. -/
theorem first_columns (w : (Rect.unit (s := S128x1152) ![0, 1024] S128x128.size inb_S128x1152_S128x128_0_1024).shape.Idx → Elt Ideal .f32)
    (v : (Rect.unit (s := S128x1152) ![0, 0] S128x1024.size inb_S128x1152_S128x1024_0_0).shape.Idx → Elt Ideal .f32)
    (p : Fin 128) (i : Fin 1024) :
    View.canon (Val := Elt Ideal) (e := .f32) [⟨Rect.unit (s := S128x1152) ![0, 1024] S128x128.size inb_S128x1152_S128x128_0_1024, w⟩,
      ⟨Rect.unit (s := S128x1152) ![0, 0] S128x1024.size inb_S128x1152_S128x1024_0_0, v⟩] (ix2 p ⟨i.val, by omega⟩) = v (ix2 p i) := by
  rw [View.canon_cons_of_not_mem]
  · have h : ix2 p ⟨i.val, by omega⟩ = (Rect.unit (s := S128x1152) ![0, 0] S128x1024.size inb_S128x1152_S128x1024_0_0).emb (ix2 p i) := by
      blk_ext
    rw [h, View.canon_cons_emb]
  · intro hm
    obtain ⟨x, hx⟩ := (Rect.unit (s := S128x1152) ![0, 1024] S128x128.size inb_S128x1152_S128x128_0_1024).exists_idx_of_mem hm
    have h1 : 1024 + 1 * (x 1).val = i.val := congrArg (fun z : S128x1152.Idx => (z 1).val) hx
    omega

/-- What a point leaves in its block of the result, in the first 1024 columns. -/
theorem after_apply (c : Dev nD) (t : Fin cfg0.N) (p : Fin 128) (i : Fin 1024) :
    ((dats m 0 c).after 11 t : Vec Ideal S128x1152 .f32) (ix2 p ⟨i.val, by omega⟩)
      = normed (steppedOf (iblk m c 0 t) (iblk m c 1 t) (iblk m c 2 t) (iblk m c 3 t) (iblk m c 4 t) (iblk m c 5 t) p) i
        * iblk m c 6 t (ix2 0 i) + iblk m c 7 t (ix2 0 i) := by
  rw [after0_11]
  unfold outsAt0
  dsimp only
  frame_out
  rw [first_columns]
  exact norm_apply _ _ _ _ _ _ _ _ p i

/-- The result array's first 1024 columns. -/
theorem final11 (c : Dev nD) (p : Fin 128) (i : Fin 1024) :
    ((dats m 0 c).arrAt 11 cfg0.N : FVec Ideal S128x1152 .f32) (ix2 p ⟨i.val, by omega⟩)
      = residual (rows m c) (first m c) (gate m c) (fun r k => attention m c (ix2 r k)) (branchWeight m c) (outWeight m c)
        (scale m c) (shift m c) p i := by
  have hN : 0 < cfg0.N := by have := N_0; have : cfg0.N = grid0.N := rfl; omega
  obtain ⟨t⟩ : Nonempty (Fin cfg0.N) := ⟨⟨0, hN⟩⟩
  have hf : (cfg0.win 11).flush t = true := (by decide +kernel : ∀ t : Fin cfg0.N, (cfg0.win 11).flush t = true) t
  have h : ix2 p ⟨i.val, by omega⟩
      = ((View.whole main_v6_0).slice (win0_11.rect t)).emb (ix2 p (⟨i.val, by omega⟩ : Fin 1152)) := by blk_ext [idx t]
  rw [h]
  refine (congrFun (Value.blocks11 m c t hf) (ix2 p (⟨i.val, by omega⟩ : Fin 1152))).trans
    ((after_apply m c t p i).trans ?_)
  have e : steppedOf (iblk m c 0 t) (iblk m c 1 t) (iblk m c 2 t) (iblk m c 3 t) (iblk m c 4 t) (iblk m c 5 t) p
      = stepped (rows m c) (first m c) (gate m c) (fun r k => attention m c (ix2 r k)) (branchWeight m c) (outWeight m c)
        p := by
    funext i
    unfold steppedOf stepped branches
    simp only [blk0, blk1, blk2, blk3, blk4, blk5]
  rw [e, blk6, blk7]
  rfl

end Cert.MergeSIdeal.Blocks

end
-- ==== Proof.MergeS.Reference.lean ====
/- The reference of the layer's first residual step for the sample batch, stage by stage at an index, ending at
   `Cert.Layer.residual` in the first 1024 columns. -/
module

public import proofs.«01_k».proof.Proof.Gen.MergeSReferenceIdeal.Read
public import proofs.«01_k».proof.Proof.Residual

@[expose] public section

noncomputable section

open Idealize.ShloMosaic Idealize.ShloMosaic.TcCoe Idealize.SL.Sem Cert.Layer

namespace Cert.MergeSReferenceIdeal.Stages

open Cert.MergeSReferenceIdeal Cert.MergeSReferenceIdeal.Gen Cert.MergeSReferenceIdeal.Read

/-! ## The operations that move or contract whole arrays, for any operands -/

/-- Contracting the rows with a square weight. -/
theorem contract (y : FVec Ideal S128x1024 .f32) (u : FVec Ideal S1024x1024 .f32) (r : Fin 128) (i : Fin 1024) :
    Host.dotGeneral dot_S128x1024_S1024x1024_S128x1024_1_0_0_1_n_n none y u (ix2 r i)
      = ∑ k : Fin 1024, y (ix2 r k) * u (ix2 k i) := by
  pointwise

/-- The appended columns leave the first 1024 as they are. -/
theorem pad_columns (y : FVec Ideal S128x1024 .f32) (z : FVec Ideal S_ .f32) (r : Fin 128) (i : Fin 1024) :
    pad S128x1152 ![0, 0] ![0, 128] ![0, 0] y z pads_S128x1024_S128x1152_000_01280 h_S_ (ix2 r ⟨i.val, by omega⟩)
      = y (ix2 r i) := by
  pointwise

/-! ## The stages -/

variable (x0 x1 x2 x3 : (⟨S128x1024, .f32⟩ : BufTy).Contents (Elt Ideal))
  (x4 x5 : (⟨S1024x1024, .f32⟩ : BufTy).Contents (Elt Ideal))
  (x6 x7 : (⟨S1024, .f32⟩ : BufTy).Contents (Elt Ideal))

/-- The two branches added. -/
theorem joined (r : Fin 128) (j : Fin 1024) :
    val_main_v4 (F := Ideal) x1 x2 x3 x4 (ix2 r j) = branches x1 x2 (fun r k => x3 (ix2 r k)) x4 r j := by
  rw [val_main_v4_apply, val_main_v3_apply, add_spelt, mul_spelt]
  unfold val_main_v2 branches
  rw [contract]

/-- The row before its normalisation. -/
theorem before (r : Fin 128) (i : Fin 1024) :
    val_main_v6 (F := Ideal) x0 x1 x2 x3 x4 x5 (ix2 r i) = stepped x0 x1 x2 (fun r k => x3 (ix2 r k)) x4 x5 r i := by
  rw [val_main_v6_apply, val_main_v1_apply, val_main_v0_apply, val_main_cst_apply, add_spelt, mul_spelt]
  unfold val_main_v5 stepped
  rw [contract]
  simp only [joined]
  rfl

/-- The residual stream. -/
theorem normalised (r : Fin 128) (i : Fin 1024) :
    val_main_v30 (F := Ideal) x0 x1 x2 x3 x4 x5 x6 x7 (ix2 r i)
      = residual x0 x1 x2 (fun r k => x3 (ix2 r k)) x4 x5 x6 x7 r i := by
  pointwise [val_main_v30, val_main_v29, val_main_v28, val_main_v27, val_main_v26, val_main_v25, val_main_v24, val_main_v23,
    val_main_v22, val_main_v21, val_main_v20, val_main_v19, val_main_v18, val_main_v17, val_main_v16, val_main_v15,
    val_main_v14, val_main_v13, val_main_v12, val_main_v11, val_main_v10, val_main_v9, val_main_v8, val_main_v7,
    val_main_cst_0, val_main_cst_1, val_main_cst_2, val_main_cst_3, val_main_cst_4]
  simp only [before]
  rfl

/-- The reference's result in the first 1024 columns. -/
theorem result (r : Fin 128) (i : Fin 1024) :
    val_main_v31 (F := Ideal) x0 x1 x2 x3 x4 x5 x6 x7 (ix2 r ⟨i.val, by omega⟩)
      = residual x0 x1 x2 (fun r k => x3 (ix2 r k)) x4 x5 x6 x7 r i := by
  unfold val_main_v31
  rw [pad_columns, normalised]

end Cert.MergeSReferenceIdeal.Stages

end
-- ==== Proof.MergeS.Claims.lean ====
/- The layer's first residual step for the sample batch: over the exact numbers the kernel's result and the reference's agree in
   the columns that hold the residual stream. -/
module

public import proofs.«01_k».proof.Defs
public import proofs.«01_k».proof.Proof.MergeS.Kernel
public import proofs.«01_k».proof.Proof.MergeS.Reference
public import proofs.«01_k».proof.Proof.Gen.MergeSReferenceIdeal.Run
public import proofs.«01_k».proof.Proof.Gen.On_residual_columns_MergeSIdeal

@[expose] public section

noncomputable section

open Idealize.ShloMosaic Idealize.SL.Sem Cert.Layer

namespace Cert.On_residual_columns_MergeSIdeal

variable {F : FTy → Type} [FloatOps F] [Facts]

/-- An element the mask selects lies in one of the first 1024 columns. -/
theorem column_lt (x0 x1 x2 x3 x4 x5 x6 x7 x8 x9 x10) (i : S128x1152.Idx)
    (h : fn (F := F) x0 x1 x2 x3 x4 x5 x6 x7 x8 x9 x10 i = 1#1) : (i 1).val < 1024 := by
  have key : ∀ j : Fin 1152, IntOp.cmpi .slt (BitVec.ofNat 32 j.val) 1024#32 = 1#1 → j.val < 1024 := by decide +kernel
  exact key (i 1) h

end Cert.On_residual_columns_MergeSIdeal

namespace Cert.MergeSClaims

/-- The kernel's result array is the reference's wherever the mask is set, whatever the arguments. -/
theorem algebraic : Cert.algebraic_MergeSIdeal_MergeSReferenceIdeal_on_residual_columns_MergeSIdeal := by
  intro m g m' g' _ hagree
  refine ⟨fun c => (Cert.MergeSIdeal.Gen.dats m 0 c).arrAt 11 Cert.MergeSIdeal.cfg0.N, ?_, ?_⟩
  · exact (θ_run Cert.MergeSIdeal.defs _ _).mono (fun _ h c => ⟨fun i _ => congrFun (h c).1 i, (h c).2.2⟩)
      (Cert.MergeSIdeal.Value.run_blocks m g)
  · refine (θ_run Cert.MergeSReferenceIdeal.defs _ _).mono
      (fun _ h c => ⟨fun i hi => (congrFun (h c).1 i).trans ?_, (h c).2⟩) (Cert.MergeSReferenceIdeal.Value.run m' g')
    have hlt := Cert.On_residual_columns_MergeSIdeal.column_lt _ _ _ _ _ _ _ _ _ _ _ i hi
    obtain ⟨h0, h1, h2, h3, h4, h5, h6, h7, _⟩ := hagree c
    obtain ⟨r, j, rfl⟩ : ∃ (r : Fin 128) (j : Fin 1152), i = ix2 r j := ⟨i 0, i 1, eq_ix2 i⟩
    rw [Cert.MergeSReferenceIdeal.Read.val_main_v31_eq m' c, h0, h1, h2, h3, h4, h5, h6, h7]
    exact (Cert.MergeSReferenceIdeal.Stages.result _ _ _ _ _ _ _ _ r ⟨j.val, hlt⟩).trans
      (Cert.MergeSIdeal.Blocks.final11 m c r ⟨j.val, hlt⟩).symm

end Cert.MergeSClaims

end
-- ==== Proof.Experts.RunIdeal.lean ====
/- One call of the grouped experts' body (over the exact numbers): what it leaves in the result's block. The tile count read from the second
   table decides which of the two branches runs, so there is one triple for each. -/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.StableHlo.ReadAt

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)

namespace Cert.ExpertsIdeal.Grouped

open Cert.ExpertsIdeal Cert.ExpertsIdeal.Gen

variable {F : FTy → Type} [FloatOps F]

/-- Assertions about the machine's state. -/
abbrev Asrt (F : FTy → Type) : Type _ := sProp (MT nD τ sig Unit (Elt F) ℕ (UR sig nD τ) ℕ)

/-- The tiles' groups, and the count of tiles in use, as the body is handed them. -/
abbrev groups : Memref sig .tc .smem S68 .i32 := Memref.whole main_arg0
abbrev count : Memref sig .tc .smem S1 .i32 := Memref.whole main_arg1

/-- A table's contents on a core. -/
abbrev TableBuf (F : FTy → Type) (c : Dev nD) {S : Shape} {e : EltTy} (M : Memref sig .tc .smem S e) : Type :=
  Buf (Elt F) (M.view.loc (c : Thread nD τ))

/-- A table held for reading: the other half of it stays with the pipeline. -/
abbrev tableHeld (c : Dev nD) {S : Shape} {e : EltTy} (M : Memref sig .tc .smem S e) (f : TableBuf F c M) : Asrt F :=
  M.view.loc (c : Thread nD τ) ↦{fullShare.right} f

/-- The word the body reads from the second table: the count of tiles in use. -/
abbrev word (c : Dev nD) (n : TableBuf F c count) : Elt F .i32 :=
  View.readAt (Elt F) count.view (Rect.unit (s := S1) ![0] S1.size inb_S1_S1_0).toLoadRect n
    (Shape.Idx.first (numel1_S1.symm ▸ Nat.one_pos))

/-- It is the table's one entry. -/
theorem word_eq (c : Dev nD) (n : TableBuf F c count) :
    word c n = (n : (⟨S1, .i32⟩ : BufTy).Contents (Elt F)) (ix1 (0 : Fin 1)) := by
  refine congrArg (n : (⟨S1, .i32⟩ : BufTy).Contents (Elt F)) (funext fun a => ?_)
  obtain rfl : a = (0 : Fin 1) := Subsingleton.elim (α := Fin 1) _ _
  exact Subsingleton.elim (α := Fin 1) _ _

/-- A condition of the body is a comparison carried through a word. -/
theorem through_word : ∀ b : Bool, IntOp.cmpi .ne ((BitVec.ofBool b).setWidth 32) 0#32 = 1#1 ↔ b = true := by decide

/-- The first branch is taken at a tile before the count. -/
theorem used_iff (i : grid0.Coords) (w : BitVec 32) :
    k0_cond1 i w = 1#1 ↔ (BitVec.ofNat 32 (i 0).val).toInt < w.toInt :=
  (through_word ((BitVec.ofNat 32 (i 0).val).slt w)).trans BitVec.slt_iff_toInt_lt

/-- The second at a tile from the count on. -/
theorem unused_iff (i : grid0.Coords) (w : BitVec 32) :
    k0_cond2 i w = 1#1 ↔ w.toInt ≤ (BitVec.ofNat 32 (i 0).val).toInt :=
  (through_word (w.sle (BitVec.ofNat 32 (i 0).val))).trans BitVec.sle_iff_toInt_le

/-- So exactly one of them is taken. -/
theorem branches (i : grid0.Coords) (w : BitVec 32) : k0_cond2 i w = 1#1 ↔ ¬ k0_cond1 i w = 1#1 := by
  rw [unused_iff, used_iff, not_lt]

set_option maxHeartbeats 1000000 in
/-- A tile in use: the stores of the body, as pieces, and its triple. -/
def runUsed (c : Dev nD) (i : grid0.Coords) (x : Memref sig .tc .vmem S256x1152 .f32) (hx : x.IsWhole)
    (wg : Memref sig .tc .vmem S1x4x1024x512 .bf16) (hwg : wg.IsWhole) (wu : Memref sig .tc .vmem S1x4x1024x512 .bf16)
    (hwu : wu.IsWhole) (wd : Memref sig .tc .vmem S1x4x512x1024 .bf16) (hwd : wd.IsWhole)
    (y : Memref sig .tc .vmem S256x1024 .f32) (hy : y.IsWhole)
    (bx : Vec F S256x1152 .f32) (bg bu : Vec F S1x4x1024x512 .bf16) (bd : Vec F S1x4x512x1024 .bf16)
    (g : TableBuf F c groups) (n : TableBuf F c count)
    (h1 : k0_cond1 i (word c n) = 1#1) (h2 : ¬ k0_cond2 i (word c n) = 1#1) :
    { L : List (View.Piece (Elt F) S256x1024 .f32) //
      ∀ (E : Set ℕ) (K : PUnit → Asrt F),
        iprop(owns (c : Thread nD τ) x fullShare bx ∗ owns (c : Thread nD τ) wg fullShare bg
            ∗ owns (c : Thread nD τ) wu fullShare bu ∗ owns (c : Thread nD τ) wd fullShare bd
            ∗ (∃ d, owns (c : Thread nD τ) y fullShare d) ∗ tableHeld c groups g ∗ tableHeld c count n
            ∗ (iprop(owns (c : Thread nD τ) x fullShare bx ∗ owns (c : Thread nD τ) wg fullShare bg
                ∗ owns (c : Thread nD τ) wu fullShare bu ∗ owns (c : Thread nD τ) wd fullShare bd
                ∗ (∃ f, y.view.loc (c : Thread nD τ) ↦[y.view.set]{fullShare} y.view.writes (Elt F) f L)
                ∗ tableHeld c groups g ∗ tableHeld c count n) -∗ K ⟨⟩))
          ⊢ wp frame (wpE (defs₀ (F := F)) Variants.none c none) E
            (cc0_moe_experts i groups (Memref.isWhole_whole _) count (Memref.isWhole_whole _) x hx wg hwg wu hwu wd hwd y hy) K } := by
  refine ⟨?_, fun E K => ?run⟩
  case run =>
    simp only [cc0_moe_experts_eq_skeleton]; unfold cc0_moe_experts_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := hx.eq_unread hf0; obtain rfl := hwg.eq_unread hf1
    obtain rfl := hwu.eq_unread hf2; obtain rfl := hwd.eq_unread hf3
    sl_exec (disch := first | sl_exact h1 | sl_exact h2)
    sl_step
    iapply Hk
    isplitl [H0]
    · iexists _; isplitr; · ipureintro; exact hx.read_unread _
      iexact H0
    isplitl [H1]
    · iexists _; isplitr; · ipureintro; exact hwg.read_unread _
      iexact H1
    isplitl [H2]
    · iexists _; isplitr; · ipureintro; exact hwu.read_unread _
      iexact H2
    isplitl [H3]
    · iexists _; isplitr; · ipureintro; exact hwd.read_unread _
      iexact H3
    isplitl [H4]; · iexists _; iexact H4
    isplitl [HT0]; · iexact HT0
    iexact HT1

set_option maxHeartbeats 1000000 in
/-- A tile past the count: the body stores zeros. -/
def runUnused (c : Dev nD) (i : grid0.Coords) (x : Memref sig .tc .vmem S256x1152 .f32) (hx : x.IsWhole)
    (wg : Memref sig .tc .vmem S1x4x1024x512 .bf16) (hwg : wg.IsWhole) (wu : Memref sig .tc .vmem S1x4x1024x512 .bf16)
    (hwu : wu.IsWhole) (wd : Memref sig .tc .vmem S1x4x512x1024 .bf16) (hwd : wd.IsWhole)
    (y : Memref sig .tc .vmem S256x1024 .f32) (hy : y.IsWhole)
    (bx : Vec F S256x1152 .f32) (bg bu : Vec F S1x4x1024x512 .bf16) (bd : Vec F S1x4x512x1024 .bf16)
    (g : TableBuf F c groups) (n : TableBuf F c count)
    (h1 : ¬ k0_cond1 i (word c n) = 1#1) (h2 : k0_cond2 i (word c n) = 1#1) :
    { L : List (View.Piece (Elt F) S256x1024 .f32) //
      ∀ (E : Set ℕ) (K : PUnit → Asrt F),
        iprop(owns (c : Thread nD τ) x fullShare bx ∗ owns (c : Thread nD τ) wg fullShare bg
            ∗ owns (c : Thread nD τ) wu fullShare bu ∗ owns (c : Thread nD τ) wd fullShare bd
            ∗ (∃ d, owns (c : Thread nD τ) y fullShare d) ∗ tableHeld c groups g ∗ tableHeld c count n
            ∗ (iprop(owns (c : Thread nD τ) x fullShare bx ∗ owns (c : Thread nD τ) wg fullShare bg
                ∗ owns (c : Thread nD τ) wu fullShare bu ∗ owns (c : Thread nD τ) wd fullShare bd
                ∗ (∃ f, y.view.loc (c : Thread nD τ) ↦[y.view.set]{fullShare} y.view.writes (Elt F) f L)
                ∗ tableHeld c groups g ∗ tableHeld c count n) -∗ K ⟨⟩))
          ⊢ wp frame (wpE (defs₀ (F := F)) Variants.none c none) E
            (cc0_moe_experts i groups (Memref.isWhole_whole _) count (Memref.isWhole_whole _) x hx wg hwg wu hwu wd hwd y hy) K } := by
  refine ⟨?_, fun E K => ?run⟩
  case run =>
    simp only [cc0_moe_experts_eq_skeleton]; unfold cc0_moe_experts_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := hx.eq_unread hf0; obtain rfl := hwg.eq_unread hf1
    obtain rfl := hwu.eq_unread hf2; obtain rfl := hwd.eq_unread hf3
    sl_exec (disch := first | sl_exact h1 | sl_exact h2)
    sl_step
    iapply Hk
    isplitl [H0]
    · iexists _; isplitr; · ipureintro; exact hx.read_unread _
      iexact H0
    isplitl [H1]
    · iexists _; isplitr; · ipureintro; exact hwg.read_unread _
      iexact H1
    isplitl [H2]
    · iexists _; isplitr; · ipureintro; exact hwu.read_unread _
      iexact H2
    isplitl [H3]
    · iexists _; isplitr; · ipureintro; exact hwd.read_unread _
      iexact H3
    isplitl [H4]; · iexists _; iexact H4
    isplitl [HT0]; · iexact HT0
    iexact HT1

end Cert.ExpertsIdeal.Grouped

end
-- ==== Proof.Experts.FrameIdeal.lean ====
/- The grouped experts' call (over the exact numbers) terminates whatever the tables hold, as long as they name blocks of the weights: its
   arguments end unchanged, and its result is what the body leaves tile by tile. -/
module

public import proofs.«01_k».proof.Proof.Experts.RunIdeal
public import Idealize.ShloMosaic.Lib.Claim
public import Idealize.ShloMosaic.Lib.Pipeline.Kit

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)

namespace Cert.ExpertsIdeal.Grouped

open Cert.ExpertsIdeal Cert.ExpertsIdeal.Gen

variable {F : FTy → Type} [FloatOps F]

variable (m : (ℓ : Loc nD τ sig) → Buf (Elt F) ℓ) (ρ : Dev nD → PrngReg)

/-! ## Where the pipeline starts -/

/-- A core's arrays once the host code has prepared the weights. -/
abbrev V (c : Dev nD) (b : Ref sig .tc) : Buf (Elt F) ((c : Thread nD τ).loc b) := StableHlo.after hostOps0 (fun b => m (c, b)) b

theorem fresh : (hostOps0 : List (HloOp τ sig (Elt F))).Forall fun op => op.fresh = ∅ := by
  simp only [List.Forall]; repeat' constructor

set_option maxHeartbeats 800000 in
theorem entry (v : Variants) : Pipeline.HMainP (Ix := Unit) (Name := ℕ) (U := UR sig nD τ) (Lvl := ℕ) pcfgs 0 defs₀ v m
    (main (F := F)) (V m) :=
  Pipeline.hmainP_prefix pcfgs 0 defs₀ v m main hostOps0 hostOps0_sub fresh main_chain

/-- The host code writes only its own arrays. -/
theorem kept (c : Dev nD) (b : Ref sig .tc) (hb : b ∈ [main_arg0, main_arg1, main_arg2, main_arg3, main_arg4, main_arg5]) :
    V m c b = m ((c : Thread nD τ).loc b) := by
  refine StableHlo.after_of_forall_not_mem (b := Proc.devRef .tc b) _ _ (List.forall_iff_forall_mem.mp ?_)
  simp only [hostOps0, List.flatten_cons, List.flatten_nil, List.append_nil, List.cons_append, List.nil_append, List.Forall,
    StableHlo.unary_writes, StableHlo.reshape_writes, Finset.mem_singleton]
  repeat' apply And.intro
  all_goals
    refine StableHlo.devRef_ne_of_ne ?_
    revert b
    decide

/-! ## The tables -/

/-- The tables' contents. -/
def tbl : pre0.Contents (Elt F) := fun j => V m (0 : Dev nD) (pre0.ref j)

theorem tbl_eq (c : Dev nD) (j : Fin 2) : V m c (pre0.ref j) = tbl m j := by
  obtain rfl : c = 0 := Subsingleton.elim _ _
  rfl

attribute [local irreducible] tbl

/-- The first table names blocks of the weights. -/
abbrev Named : Prop := ok0 (F := F) (tbl m)

abbrev adm (h : Named m) : (pcfg0 (F := F)).Adm := ⟨tbl m, h⟩
abbrev cfg (h : Named m) : Pipeline.Cfg sig Λ₀ := cfg0 (adm m h)

theorem tables_held (c : Dev nD) : (Pipeline.ΦT pre0 (tbl m) c : Asrt F)
    = iprop(tableHeld c groups (tbl m 0) ∗ tableHeld c count (tbl m 1)) := by
  unfold Pipeline.ΦT Pipeline.prefHeld
  rw [show (Finset.univ : Finset (Fin 2)) = insert (0 : Fin 2) {(1 : Fin 2)} from by decide, bigSep_insert (by decide),
    bigSep_singleton]
  rfl

/-! ## The blocks -/

/-- A window's block at a tile, as the pipeline finds it. -/
def blk (h : Named m) (c : Dev nD) (w : Fin (cfg m h).W) (t : Fin (cfg m h).N) :
    (((cfg m h).win w).xblock ((cfg m h).grid.coords t)).Idx → Elt F ((cfg m h).win w).elt :=
  (((cfg m h).win w).blk t).view.read (Elt F) (V m c (Pipeline.arrRef spec0 w))

/-- The staging buffers at a tile. -/
abbrev sx (h : Named m) (t : Fin (cfg m h).N) : Memref sig .tc .vmem S256x1152 .f32 := spec0_0.stage ((cfg m h).slots t 0)
abbrev hsx (h : Named m) (t : Fin (cfg m h).N) : (sx m h t).IsWhole := hstage0_0 (((cfg m h).slots t 0).cast nbuf0_0)
abbrev sg (h : Named m) (t : Fin (cfg m h).N) : Memref sig .tc .vmem S1x4x1024x512 .bf16 := spec0_1.stage ((cfg m h).slots t 1)
abbrev hsg (h : Named m) (t : Fin (cfg m h).N) : (sg m h t).IsWhole := hstage0_1 (((cfg m h).slots t 1).cast nbuf0_1)
abbrev su (h : Named m) (t : Fin (cfg m h).N) : Memref sig .tc .vmem S1x4x1024x512 .bf16 := spec0_2.stage ((cfg m h).slots t 2)
abbrev hsu (h : Named m) (t : Fin (cfg m h).N) : (su m h t).IsWhole := hstage0_2 (((cfg m h).slots t 2).cast nbuf0_2)
abbrev sd (h : Named m) (t : Fin (cfg m h).N) : Memref sig .tc .vmem S1x4x512x1024 .bf16 := spec0_3.stage ((cfg m h).slots t 3)
abbrev hsd (h : Named m) (t : Fin (cfg m h).N) : (sd m h t).IsWhole := hstage0_3 (((cfg m h).slots t 3).cast nbuf0_3)
abbrev so (h : Named m) (t : Fin (cfg m h).N) : Memref sig .tc .vmem S256x1024 .f32 := spec0_4.stage ((cfg m h).slots t 4)
abbrev hso (h : Named m) (t : Fin (cfg m h).N) : (so m h t).IsWhole := hstage0_4 (((cfg m h).slots t 4).cast nbuf0_4)

/-- The body as the pipeline calls it at a tile. -/
abbrev bodyAt (h : Named m) (t : Fin (cfg m h).N) : Prog (TpuEff nD τ sig (Elt F) Λ₀ .tc) PUnit :=
  cc0_moe_experts (grid0.coords t) groups (Memref.isWhole_whole _) count (Memref.isWhole_whole _) (sx m h t) (hsx m h t)
    (sg m h t) (hsg m h t) (su m h t) (hsu m h t) (sd m h t) (hsd m h t) (so m h t) (hso m h t)

/-! ## What a tile leaves -/

/-- One whole buffer to read the stores back through. -/
abbrev VO : View sig .tc .vmem S256x1024 .f32 := (Memref.whole cc0_stg4_0 : Memref sig .tc .vmem S256x1024 .f32).view

/-- The tile is in use. -/
abbrev Used (c : Dev nD) (h : Named m) (t : Fin (cfg m h).N) : Prop := k0_cond1 (grid0.coords t) (word c (tbl m 1)) = 1#1

/-- The stores at a tile in use, -/
abbrev piecesUsed (h : Named m) (c : Dev nD) (t : Fin (cfg m h).N) (hu : Used m c h t) : List (View.Piece (Elt F) S256x1024 .f32) :=
  (runUsed c (grid0.coords t) (sx m h t) (hsx m h t) (sg m h t) (hsg m h t) (su m h t) (hsu m h t) (sd m h t) (hsd m h t)
    (so m h t) (hso m h t) (blk m h c 0 t) (blk m h c 1 t) (blk m h c 2 t) (blk m h c 3 t) (tbl m 0) (tbl m 1) hu
    (fun h2 => (branches _ _).mp h2 hu)).1

/-- and at a tile past the count. -/
abbrev piecesUnused (h : Named m) (c : Dev nD) (t : Fin (cfg m h).N) (hu : ¬ Used m c h t) :
    List (View.Piece (Elt F) S256x1024 .f32) :=
  (runUnused c (grid0.coords t) (sx m h t) (hsx m h t) (sg m h t) (hsg m h t) (su m h t) (hsu m h t) (sd m h t) (hsd m h t)
    (so m h t) (hso m h t) (blk m h c 0 t) (blk m h c 1 t) (blk m h c 2 t) (blk m h c 3 t) (tbl m 0) (tbl m 1) hu
    ((branches _ _).mpr hu)).1

theorem covers_used (h : Named m) (c : Dev nD) (t : Fin (cfg m h).N) (hu : Used m c h t) (y : S256x1024.Idx) :
    ∃ pc ∈ piecesUsed m h c t hu, y ∈ pc.1.set :=
  View.cover_of_tiledL (piecesUsed m h c t hu) S256x1024.size (by sl_kernel_rfl) y

theorem covers_unused (h : Named m) (c : Dev nD) (t : Fin (cfg m h).N) (hu : ¬ Used m c h t) (y : S256x1024.Idx) :
    ∃ pc ∈ piecesUnused m h c t hu, y ∈ pc.1.set :=
  View.cover_of_tiledL (piecesUnused m h c t hu) S256x1024.size (by sl_kernel_rfl) y

/-- What a tile leaves in its block of the result. -/
def leaves (h : Named m) (c : Dev nD) (t : Fin (cfg m h).N) : Vec F S256x1024 .f32 :=
  if hu : Used m c h t then VO.read (Elt F) (VO.writes (Elt F) VO.junk (piecesUsed m h c t hu))
  else VO.read (Elt F) (VO.writes (Elt F) VO.junk (piecesUnused m h c t hu))

theorem leaves_used (h : Named m) (c : Dev nD) (t : Fin (cfg m h).N) (hu : Used m c h t) :
    leaves m h c t = VO.read (Elt F) (VO.writes (Elt F) VO.junk (piecesUsed m h c t hu)) := dif_pos hu

theorem leaves_unused (h : Named m) (c : Dev nD) (t : Fin (cfg m h).N) (hu : ¬ Used m c h t) :
    leaves m h c t = VO.read (Elt F) (VO.writes (Elt F) VO.junk (piecesUnused m h c t hu)) := dif_neg hu

/-! ## The pipeline's run -/

/-- What the arrays and the staging buffers hold, tile by tile. -/
def dats (h : Named m) (_ : Fin 1) (c : Dev nD) : Dat τ (Elt F) Unit ℕ (UR sig nD τ) ℕ (cfg m h) c where
  A w := V m c (Pipeline.arrRef spec0 w)
  after w t := match w with
    | ⟨0, _⟩ => blk m h c 0 t
    | ⟨1, _⟩ => blk m h c 1 t
    | ⟨2, _⟩ => blk m h c 2 t
    | ⟨3, _⟩ => blk m h c 3 t
    | ⟨4, _⟩ => leaves m h c t
  Φ _ := iprop(Pipeline.ΦA spec0 c ∗ Pipeline.ΦT pre0 (tbl m) c)
  q _ := fullShare
  owed _ := 0

theorem array (h : Named m) (c : Dev nD) (w : Fin (cfg m h).W) : (dats m h 0 c).A w = V m c (Pipeline.arrRef spec0 w) := by
  dsimp only [dats]

theorem after0 (h : Named m) (c : Dev nD) (t : Fin (cfg m h).N) : (dats m h 0 c).after 0 t = blk m h c 0 t := by
  dsimp only [dats]; try rfl
theorem after1 (h : Named m) (c : Dev nD) (t : Fin (cfg m h).N) : (dats m h 0 c).after 1 t = blk m h c 1 t := by
  dsimp only [dats]; try rfl
theorem after2 (h : Named m) (c : Dev nD) (t : Fin (cfg m h).N) : (dats m h 0 c).after 2 t = blk m h c 2 t := by
  dsimp only [dats]; try rfl
theorem after3 (h : Named m) (c : Dev nD) (t : Fin (cfg m h).N) : (dats m h 0 c).after 3 t = blk m h c 3 t := by
  dsimp only [dats]; try rfl
theorem after4 (h : Named m) (c : Dev nD) (t : Fin (cfg m h).N) : (dats m h 0 c).after 4 t = leaves m h c t := by
  dsimp only [dats]; try rfl

theorem before0 (h : Named m) (c : Dev nD) (t : Fin (cfg m h).N) (d) : (dats m h 0 c).before 0 t d = blk m h c 0 t :=
  ((dats m h 0 c).before_in_eq_fetched 0 rfl (fun _ => rfl) (fun _ _ _ => rfl)
    (fun t => by rw [after0]; unfold Dat.blockOf blk; rw [array]; try rfl) t d).trans
    (by unfold Dat.fetched Dat.blockOf blk; rw [array]; try rfl)
theorem before1 (h : Named m) (c : Dev nD) (t : Fin (cfg m h).N) (d) : (dats m h 0 c).before 1 t d = blk m h c 1 t :=
  ((dats m h 0 c).before_in_eq_fetched 1 rfl (fun _ => rfl) (fun _ _ _ => rfl)
    (fun t => by rw [after1]; unfold Dat.blockOf blk; rw [array]; try rfl) t d).trans
    (by unfold Dat.fetched Dat.blockOf blk; rw [array]; try rfl)
theorem before2 (h : Named m) (c : Dev nD) (t : Fin (cfg m h).N) (d) : (dats m h 0 c).before 2 t d = blk m h c 2 t :=
  ((dats m h 0 c).before_in_eq_fetched 2 rfl (fun _ => rfl) (fun _ _ _ => rfl)
    (fun t => by rw [after2]; unfold Dat.blockOf blk; rw [array]; try rfl) t d).trans
    (by unfold Dat.fetched Dat.blockOf blk; rw [array]; try rfl)
theorem before3 (h : Named m) (c : Dev nD) (t : Fin (cfg m h).N) (d) : (dats m h 0 c).before 3 t d = blk m h c 3 t :=
  ((dats m h 0 c).before_in_eq_fetched 3 rfl (fun _ => rfl) (fun _ _ _ => rfl)
    (fun t => by rw [after3]; unfold Dat.blockOf blk; rw [array]; try rfl) t d).trans
    (by unfold Dat.fetched Dat.blockOf blk; rw [array]; try rfl)

/-- The result's block is written at every tile: one of the two branches is taken. -/
theorem never_idle (pf : pre0.Contents (Elt F)) (i : grid0.Coords) : idle0 pf 4 i = false := by
  have key : ∀ w : BitVec 32, (!(k0_cond1 i w == 1#1) && !(k0_cond2 i w == 1#1)) = false := by
    intro w
    by_cases hc : k0_cond1 i w = 1#1
    · rw [hc]; rfl
    · rw [(branches i w).mpr hc]; exact Bool.and_false _
  exact key (pf.atD 1 ![0])

theorem written (h : Named m) (t : Fin (cfg m h).N) : (cfg m h).idle 4 (grid0.coords t) = false :=
  never_idle (tbl m) (grid0.coords t)

theorem leaves_in0 (h : Named m) (c : Dev nD) (t : Fin (cfg m h).N) :
    (dats m h 0 c).leavesExact 0 t = owns (c : Thread nD τ) (sx m h t) fullShare (blk m h c 0 t) := by
  rw [← after0]; unfold Dat.leavesExact
  rw [show (cfg m h).idle 0 (grid0.coords t) = false from rfl]; try rfl
theorem leaves_in1 (h : Named m) (c : Dev nD) (t : Fin (cfg m h).N) :
    (dats m h 0 c).leavesExact 1 t = owns (c : Thread nD τ) (sg m h t) fullShare (blk m h c 1 t) := by
  rw [← after1]; unfold Dat.leavesExact
  rw [show (cfg m h).idle 1 (grid0.coords t) = false from rfl]; try rfl
theorem leaves_in2 (h : Named m) (c : Dev nD) (t : Fin (cfg m h).N) :
    (dats m h 0 c).leavesExact 2 t = owns (c : Thread nD τ) (su m h t) fullShare (blk m h c 2 t) := by
  rw [← after2]; unfold Dat.leavesExact
  rw [show (cfg m h).idle 2 (grid0.coords t) = false from rfl]; try rfl
theorem leaves_in3 (h : Named m) (c : Dev nD) (t : Fin (cfg m h).N) :
    (dats m h 0 c).leavesExact 3 t = owns (c : Thread nD τ) (sd m h t) fullShare (blk m h c 3 t) := by
  rw [← after3]; unfold Dat.leavesExact
  rw [show (cfg m h).idle 3 (grid0.coords t) = false from rfl]; try rfl
theorem leaves_out (h : Named m) (c : Dev nD) (t : Fin (cfg m h).N) :
    (dats m h 0 c).leavesExact 4 t = owns (c : Thread nD τ) (so m h t) fullShare (leaves m h c t) := by
  rw [← after4]; unfold Dat.leavesExact
  rw [written m h t]; try rfl

/-- What the body is given at a tile, -/
def given (h : Named m) (c : Dev nD) (t : Fin (cfg m h).N) : Asrt F :=
  iprop((dats m h 0 c).Φ t.castSucc ∗ (dats m h 0 c).owesAt () t.castSucc
    ∗ (∃ d, owns (c : Thread nD τ) (sx m h t) fullShare ((dats m h 0 c).before 0 t d))
    ∗ (∃ d, owns (c : Thread nD τ) (sg m h t) fullShare ((dats m h 0 c).before 1 t d))
    ∗ (∃ d, owns (c : Thread nD τ) (su m h t) fullShare ((dats m h 0 c).before 2 t d))
    ∗ (∃ d, owns (c : Thread nD τ) (sd m h t) fullShare ((dats m h 0 c).before 3 t d))
    ∗ (∃ d, owns (c : Thread nD τ) (so m h t) fullShare ((dats m h 0 c).before 4 t d)))

/-- and what it returns. -/
def returned (h : Named m) (c : Dev nD) (t : Fin (cfg m h).N) : Asrt F :=
  iprop((dats m h 0 c).Φ t.succ ∗ (dats m h 0 c).owesAt () t.succ
    ∗ (dats m h 0 c).leavesExact 0 t ∗ (dats m h 0 c).leavesExact 1 t ∗ (dats m h 0 c).leavesExact 2 t
    ∗ (dats m h 0 c).leavesExact 3 t ∗ (dats m h 0 c).leavesExact 4 t)

set_option maxHeartbeats 800000 in
/-- The body at any tile. -/
theorem body (h : Named m) (c : Dev nD) (t : Fin (cfg m h).N) :
    given m h c t ⊢ wp frame (wpE (defs₀ (F := F)) Variants.none c none) Set.univ (bodyAt m h t) (fun _ => returned m h c t) := by
  unfold given returned bodyAt
  simp only [before0, before1, before2, before3]
  rw [show (dats m h 0 c).Φ t.succ = (dats m h 0 c).Φ t.castSucc from rfl,
    show (dats m h 0 c).owesAt () t.succ = (dats m h 0 c).owesAt () t.castSucc from rfl,
    show (dats m h 0 c).Φ t.castSucc = iprop(Pipeline.ΦA spec0 c ∗ Pipeline.ΦT pre0 (tbl m) c) from rfl, tables_held,
    leaves_in0, leaves_in1, leaves_in2, leaves_in3, leaves_out]
  by_cases hu : Used m c h t
  · rw [leaves_used m h c t hu]
    iintro ⟨⟨HΦ, ⟨HT0, HT1⟩⟩, Ho, ⟨%d0, H0⟩, ⟨%d1, H1⟩, ⟨%d2, H2⟩, ⟨%d3, H3⟩, ⟨%d4, H4⟩⟩
    iapply ((runUsed c (grid0.coords t) _ _ _ _ _ _ _ _ _ _ (blk m h c 0 t) (blk m h c 1 t) (blk m h c 2 t) (blk m h c 3 t)
      (tbl m 0) (tbl m 1) hu (fun h2 => (branches _ _).mp h2 hu)).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, ⟨%e4, H4⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (covers_used m h c t hu)
  · rw [leaves_unused m h c t hu]
    iintro ⟨⟨HΦ, ⟨HT0, HT1⟩⟩, Ho, ⟨%d0, H0⟩, ⟨%d1, H1⟩, ⟨%d2, H2⟩, ⟨%d3, H3⟩, ⟨%d4, H4⟩⟩
    iapply ((runUnused c (grid0.coords t) _ _ _ _ _ _ _ _ _ _ (blk m h c 0 t) (blk m h c 1 t) (blk m h c 2 t) (blk m h c 3 t)
      (tbl m 0) (tbl m 1) hu ((branches _ _).mpr hu)).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, ⟨%e4, H4⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (covers_unused m h c t hu)

theorem row (h : Named m) (t : Fin (cfg m h).N) :
    defs₀ (F := F) .tc (cfg m h).body ((cfg m h).bodyArgs t ((cfg m h).slots t)) = bodyAt m h t := by
  unfold defs₀; rw [Defs.onTc_tc]

theorem obligation (h : Named m) (c : Dev nD) :
    BodyObligation (dats (F := F) m h 0 c) (defs₀ (F := F)) Variants.none () Set.univ := fun t => by
  rw [bigSep_W0, bigSep_W0, row m h]
  exact triple_restated (body m h c t) rfl .rfl fun _ => .rfl

set_option backward.isDefEq.respectTransparency.types false in
/-- The launch, with every counter at zero at the end. -/
theorem launch (h : Named m) : θ_run defs (onTc (τ := τ) (main (F := F))) (s₀ m ρ)
    (fun r => (Pipeline.FramePost (Pipeline.pin pcfgs fun _ => adm m h) (dats m h) 0 (V m)) r ∧ r.2.sem = fun _ => 0) :=
  Pipeline.θ_run_frameP (Q' := _) pcfgs (fun _ => adm m h) (dats m h) (0 : Fin 1) launch0 defs₀ Variants.none m ρ main
    (hbody := fun c => (obligation m h c).loose) (hshare := fun c => (dats m h 0 c).share_full fun _ => rfl)
    (howed := fun _ _ => rfl) (V := V m) (hmain := entry m Variants.none) (hA := array m h) (hpf := tbl_eq m)
    (hΦ := fun _ _ => rfl)

/-- The run: the result's array is what the tiles leave in it, the arguments end unchanged, the counters end at zero. -/
theorem run (h : Named m) : θ_run defs (onTc (τ := τ) (main (F := F))) ⟨m, fun _ => 0, ρ⟩ (fun r => (∀ c : Dev nD,
      r.2.mem ((c.tc : Thread nD τ).loc main_v6) = (dats m h 0 c).arrAt 4 (cfg m h).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ hr => ⟨fun c => ⟨(hr.1 c).1 4,
      ((hr.1 c).2 main_arg0 (by decide : main_arg0 ∈ Pipeline.restRefs sig spec0)).trans (kept m c main_arg0 (by decide)),
      ((hr.1 c).2 main_arg1 (by decide : main_arg1 ∈ Pipeline.restRefs sig spec0)).trans (kept m c main_arg1 (by decide)),
      ((hr.1 c).1 0).trans (((dats m h 0 c).arrAt_in 0 rfl _).trans ((array m h c 0).trans (kept m c main_arg2 (by decide)))),
      ((hr.1 c).2 main_arg3 (by decide : main_arg3 ∈ Pipeline.restRefs sig spec0)).trans (kept m c main_arg3 (by decide)),
      ((hr.1 c).2 main_arg4 (by decide : main_arg4 ∈ Pipeline.restRefs sig spec0)).trans (kept m c main_arg4 (by decide)),
      ((hr.1 c).2 main_arg5 (by decide : main_arg5 ∈ Pipeline.restRefs sig spec0)).trans (kept m c main_arg5 (by decide))⟩,
    hr.2⟩) (launch m ρ h)

end Cert.ExpertsIdeal.Grouped

end
-- ==== Proof.Experts.TablesIdeal.lean ====
/- The tiles' groups of the experts' call (over the exact numbers): every word of the first table names one of the four groups, so every block
   of the weights the pipeline fetches lies inside its array. -/
module

public import proofs.«01_k».proof.Defs
public import proofs.«01_k».proof.Proof.Experts.FrameIdeal
public import proofs.«01_k».proof.Proof.Gen.Pre_groups_named
public import proofs.«01_k».proof.Proof.Gen.Pre_groups_and_weights
public import Idealize.ShloMosaic.Lib.StableHlo.Predicate

@[expose] public section

noncomputable section

open Idealize.ShloMosaic Idealize.ShloMosaic.TcCoe Idealize.SL.Sem

namespace Cert.ExpertsIdeal.Grouped

open Cert.ExpertsIdeal Cert.ExpertsIdeal.Gen

variable {F : FTy → Type} [FloatOps F]

/-- A word that is at least zero and less than four, read signed, is one of four. -/
theorem small (w : BitVec 32) (h : IntOp.andi (IntOp.cmpi .sge w 0#32) (IntOp.cmpi .slt w 4#32) = 1#1) : w.toNat < 4 := by
  have h' : ((0#32).sle w && w.slt 4#32) = true := by
    revert h
    simp only [IntOp.andi, IntOp.cmpi]
    cases (0#32).sle w <;> cases w.slt 4#32 <;> decide
  have h1 := BitVec.sle_iff_toInt_le.mp (Bool.and_eq_true_iff.mp h').1
  have h2 := BitVec.slt_iff_toInt_lt.mp (Bool.and_eq_true_iff.mp h').2
  rw [show (0#32 : BitVec 32).toInt = 0 from rfl] at h1
  rw [show (4#32 : BitVec 32).toInt = 4 from rfl] at h2
  have h3 := w.isLt
  rw [BitVec.toInt_eq_toNat_cond] at h1 h2
  split at h1 <;> omega

/-- The word of the first table at a tile. -/
abbrev groupWord (pf : pre0.Contents (Elt F)) (j : Fin 68) : BitVec 32 := pf 0 (ix1 j)

/-- The blocks of the weights at a tile are those of its group. -/
theorem index1 (pf : pre0.Contents (Elt F)) (i : grid0.Coords) :
    cc0_transform_1 k0_off1_inb numel1_S1 pf i = ![(groupWord pf (i 0)).toNat, 0, 0, 0] := by
  have e : pf.at 0 (Rect.unit (s := S68) ![(Scalar.indexCast (BitVec.ofNat 32 (i 0).val)).toNat] S1.size (k0_off1_inb i)) numel1_S1
      = groupWord pf (i 0) := by
    refine congrArg (pf 0) (funext fun a => ?_)
    obtain rfl : a = (0 : Fin 1) := Subsingleton.elim (α := Fin 1) _ _
    exact Fin.ext ((by decide +kernel : ∀ j : Fin 68, (Scalar.indexCast (BitVec.ofNat 32 j.val)).toNat + 1 * 0 = j.val) (i 0))
  exact congrArg (fun w : BitVec 32 => (![w.toNat, 0, 0, 0] : Fin 4 → ℕ)) e

theorem index2 (pf : pre0.Contents (Elt F)) (i : grid0.Coords) :
    cc0_transform_2 k0_off1_inb numel1_S1 pf i = ![(groupWord pf (i 0)).toNat, 0, 0, 0] := index1 pf i

theorem index3 (pf : pre0.Contents (Elt F)) (i : grid0.Coords) :
    cc0_transform_3 k0_off1_inb numel1_S1 pf i = ![(groupWord pf (i 0)).toNat, 0, 0, 0] := index1 pf i

/-- Any of the four blocks lies inside the first two weights, whole words of it, -/
theorem inside12 : ∀ k : Fin 4, ∃ h : (∀ a, ((![k.val, 0, 0, 0] : Fin 4 → ℕ) a + 1) * S1x4x1024x512.size a ≤ S4x4x1024x512.size a),
    EltTy.bits .bf16 = 32 ∨ (Rect.block (s := S4x4x1024x512) S1x4x1024x512.size ![k.val, 0, 0, 0] h).WholeWords (EltTy.packing .bf16) := by
  decide +kernel

/-- and inside the third. -/
theorem inside3 : ∀ k : Fin 4, ∃ h : (∀ a, ((![k.val, 0, 0, 0] : Fin 4 → ℕ) a + 1) * S1x4x512x1024.size a ≤ S4x4x512x1024.size a),
    EltTy.bits .bf16 = 32 ∨ (Rect.block (s := S4x4x512x1024) S1x4x512x1024.size ![k.val, 0, 0, 0] h).WholeWords (EltTy.packing .bf16) := by
  decide +kernel

/-- Groups in range name blocks of the weights. -/
theorem named_of_small (pf : pre0.Contents (Elt F)) (h : ∀ j : Fin 68, (groupWord pf j).toNat < 4) : ok0 (F := F) pf := by
  refine ⟨fun i => ?_, fun i => ?_, fun i => ?_⟩
  · rw [index1]; exact inside12 ⟨_, h (i 0)⟩
  · rw [index2]; exact inside12 ⟨_, h (i 0)⟩
  · rw [index3]; exact inside3 ⟨_, h (i 0)⟩

variable (m : (ℓ : Loc nD τ sig) → Buf (Elt F) ℓ)

/-- The first table is the first argument, -/
theorem tbl_groups (c : Dev nD) (j : Fin 68) :
    groupWord (tbl m) j = (m ((c : Thread nD τ).loc main_arg0) : (⟨S68, .i32⟩ : BufTy).Contents (Elt F)) (ix1 j) :=
  congrFun ((tbl_eq m c 0).symm.trans (kept m c main_arg0 (by decide))) (ix1 j)

/-- and the second table the second. -/
theorem tbl_count (c : Dev nD) :
    (tbl m 1 : (⟨S1, .i32⟩ : BufTy).Contents (Elt F)) (ix1 0)
      = (m ((c : Thread nD τ).loc main_arg1) : (⟨S1, .i32⟩ : BufTy).Contents (Elt F)) (ix1 0) :=
  congrFun ((tbl_eq m c 1).symm.trans (kept m c main_arg1 (by decide))) (ix1 0)

/-- Under the precondition every tile's group is in range, -/
theorem named (m : (ℓ : Loc nD τ sig) → Buf (Elt Ideal) ℓ) (h : Cert.Pre_ExpertsIdeal m) : Named m :=
  named_of_small (tbl m) fun j => by
    rw [tbl_groups m 0 j]
    exact small _ (congrFun (h 0) (ix1 j))

/-- as it is under the one that bounds the weights too. -/
theorem named_too (m : (ℓ : Loc nD τ sig) → Buf (Elt Ideal) ℓ) (h : Cert.Pre_ExpertsIdeal_groups_and_weights m) : Named m :=
  named_of_small (tbl m) fun j => by
    rw [tbl_groups m 0 j]
    exact small _ (congrFun (h 0).1 (ix1 j))

end Cert.ExpertsIdeal.Grouped

end
-- ==== Proof.Experts.Mixture.lean ====
/- The grouped experts on the extended reals, entry by entry: an expert's output at a row, the weighted sum of the four experts
   of a group, and the sum over all sixteen experts when the other groups' weights are zero. Both sides of the experts' claim are
   shown to be `experts`. -/
module

public import proofs.«01_k».proof.Proof.Products

@[expose] public section

noncomputable section

open Idealize.ShloMosaic

namespace Cert.Layer

/-- An expert's hidden value at a row: the row's product with the gate's column, times its logistic, times the row's product
    with the other column. -/
def hidden (x g u : Fin 1024 → EReal) : EReal :=
  (∑ k : Fin 1024, x k * g k) * Ideal.logistic (∑ k : Fin 1024, x k * g k) * ∑ k : Fin 1024, x k * u k

variable (x : Fin 1024 → EReal) (wg wu : FVec Ideal ⟨3, ![16, 1024, 512]⟩ .f32) (wd : FVec Ideal ⟨3, ![16, 512, 1024]⟩ .f32)

/-- An expert's output at a row. -/
def expert (e : Fin 16) (d : Fin 1024) : EReal :=
  ∑ f : Fin 512, hidden x (fun k => wg (ix3 e k f)) (fun k => wu (ix3 e k f)) * wd (ix3 e f d)

/-- The k-th expert of a group. -/
abbrev member (g k : Fin 4) : Fin 16 := ⟨4 * g.val + k.val, by omega⟩

/-- The weighted sum of a group's four experts. -/
def routed (w : Fin 4 → EReal) (g : Fin 4) (d : Fin 1024) : EReal :=
  expert x wg wu wd (member g 0) d * w 0 + expert x wg wu wd (member g 1) d * w 1
    + expert x wg wu wd (member g 2) d * w 2 + expert x wg wu wd (member g 3) d * w 3

/-- A tile is in use when its number is less than the count. -/
abbrev InUse (n : IVec ⟨1, ![1]⟩ 32) (t : Fin 68) : Prop := (BitVec.ofNat 32 t.val).toInt < (n (ix1 0)).toInt

/-- The tile a row is in. -/
abbrev tileOf (r : Fin 17408) : Fin 68 := ⟨r.val / 256, by omega⟩

/-- The group of a tile, the table's word taken among four. -/
abbrev groupOf (tg : IVec ⟨1, ![68]⟩ 32) (t : Fin 68) : Fin 4 := ⟨(tg (ix1 t)).toNat % 4, Nat.mod_lt _ (by decide)⟩

/-- The experts' call: at a row of a tile in use, the weighted sum of the four experts of the tile's group, the weights being the
    row's values past its first 1024; at the other rows, zero. -/
def experts (tg : IVec ⟨1, ![68]⟩ 32) (n : IVec ⟨1, ![1]⟩ 32) (xs : FVec Ideal ⟨2, ![17408, 1152]⟩ .f32)
    (r : Fin 17408) (d : Fin 1024) : EReal :=
  if InUse n (tileOf r) then
    routed (fun k => xs (ix2 r ⟨k.val, by omega⟩)) wg wu wd (fun k => xs (ix2 r ⟨1024 + k.val, by omega⟩))
      (groupOf tg (tileOf r)) d
  else 0

/-- A weight that is at least zero and finite comes out of a sum, -/
theorem weight_out {n : ℕ} (h d : Fin n → EReal) (w : EReal) (h0 : 0 ≤ w) (ht : w ≠ ⊤) :
    ∑ f : Fin n, h f * w * d f = (∑ f : Fin n, h f * d f) * w := by
  have key : ∀ s : Finset (Fin n), ∑ f ∈ s, h f * w * d f = (∑ f ∈ s, h f * d f) * w := by
    intro s
    induction s using Finset.induction_on with
    | empty => simp
    | insert a s ha ih =>
      rw [Finset.sum_insert ha, Finset.sum_insert ha, ih, EReal.right_distrib_of_nonneg_of_ne_top h0 ht]
      congr 1
      rw [mul_assoc, mul_comm w, ← mul_assoc]
  exact key Finset.univ

/-- and a sum over sixteen experts with weights zero outside a group is over the group's four. -/
theorem over_group (a : Fin 16 → EReal) (w : Fin 4 → EReal) (g : Fin 4) :
    ∑ e : Fin 16, a e * (if e.val / 4 = g.val then w ⟨e.val % 4, Nat.mod_lt _ (by decide)⟩ else 0)
      = a (member g 0) * w 0 + a (member g 1) * w 1 + a (member g 2) * w 2 + a (member g 3) * w 3 := by
  fin_cases g <;> simp [Fin.sum_univ_succ] <;> simp only [add_assoc] <;> rfl

end Cert.Layer

end
-- ==== Proof.Experts.Kernel.lean ====
/- The grouped experts' kernel over the exact numbers: what each part of its body computes, what a tile leaves in its block, and
   the result array: `Layer.experts` of the arguments. -/
module

public import proofs.«01_k».proof.Proof.Experts.TablesIdeal
public import proofs.«01_k».proof.Proof.Experts.Mixture
public import Idealize.ShloMosaic.Lib.Pipeline.ValueKit
public import Idealize.ShloMosaic.Lib.StableHlo.ReadAt
public import proofs.«01_k».proof.Proof.Gen.ExpertsReferenceIdeal.Read
public import proofs.«01_k».proof.Proof.Gen.ExpertsReferenceIdeal.Run

@[expose] public section

noncomputable section

open Idealize.ShloMosaic Idealize.ShloMosaic.TcCoe Idealize.SL.Sem Cert.Layer

namespace Cert.ExpertsIdeal.Blocks

open Cert.ExpertsIdeal Cert.ExpertsIdeal.Gen Cert.ExpertsIdeal.Grouped

/-! ## The body's parts, for any operands -/

/-- One expert's part of a tile's result: its hidden values, times the row's weight, times its last weight's column. -/
def part (x : Vec Ideal S256x1024 .f32) (g u : Vec Ideal S1x1x1024x512 .bf16) (w : Vec Ideal S256x1 .f32)
    (o : Vec Ideal S1x1x512x1024 .bf16) (p : Fin 256) (d : Fin 1024) : EReal :=
  ∑ f : Fin 512, hidden (fun k => x (ix2 p k)) (fun k => g (ix4 0 0 k f)) (fun k => u (ix4 0 0 k f)) * w (ix2 p 0)
    * o (ix4 0 0 f d)

theorem first (x : Vec Ideal S256x1024 .f32) (g u : Vec Ideal S1x1x1024x512 .bf16) (w : Vec Ideal S256x1 .f32)
    (o : Vec Ideal S1x1x512x1024 .bf16) (p : Fin 256) (d : Fin 1024) :
    k0_pay4 x g u w o (ix2 p d) = part x g u w o p d := by
  pointwise [k0_pay4, k0_pay3]
  rfl

theorem second_third (x : Vec Ideal S256x1024 .f32) (y : FVec Ideal S256x1024 .f32) (g1 u1 g2 u2 : Vec Ideal S1x1x1024x512 .bf16)
    (w1 w2 : Vec Ideal S256x1 .f32) (o1 o2 : Vec Ideal S1x1x512x1024 .bf16) (p : Fin 256) (d : Fin 1024) :
    k0_pay7 (k0_pay3 x) y (k0_pay5 x g1 u1) (k0_pay6 w1) o1 g2 u2 w2 o2 (ix2 p d)
      = y (ix2 p d) + part x g1 u1 w1 o1 p d + part x g2 u2 w2 o2 p d := by
  pointwise [k0_pay7, k0_pay5, k0_pay6, k0_pay3]
  rfl

theorem fourth (x : Vec Ideal S256x1024 .f32) (y : FVec Ideal S256x1024 .f32) (g u : Vec Ideal S1x1x1024x512 .bf16)
    (w : Vec Ideal S256x1 .f32) (o : Vec Ideal S1x1x512x1024 .bf16) (p : Fin 256) (d : Fin 1024) :
    k0_pay1 (k0_pay3 x) y (k0_pay8 (k0_pay3 x) g) u w o (ix2 p d) = y (ix2 p d) + part x g u w o p d := by
  pointwise [k0_pay1, k0_pay8, k0_pay3]
  rfl

/-! ## What the body loads from its blocks -/

theorem row_values (X : Vec Ideal S256x1152 .f32) (p : Fin 256) (k : Fin 1024) :
    View.ld X (Rect.unit (s := S256x1152) ![0, 0] S256x1024.size inb_S256x1152_S256x1024_0_0) (ix2 p k)
      = X (ix2 p ⟨k.val, by omega⟩) := by
  refine congrArg X (funext fun a => Fin.ext ?_)
  match a with
  | ⟨0, _⟩ => exact show 0 + 1 * p.val = p.val by omega
  | ⟨1, _⟩ => exact show 0 + 1 * k.val = k.val by omega

theorem weight_0 (X : Vec Ideal S256x1152 .f32) (p : Fin 256) :
    View.ld X (Rect.unit (s := S256x1152) ![0, 1024] S256x1.size inb_S256x1152_S256x1_0_1024) (ix2 p 0)
      = X (ix2 p ⟨1024, by decide⟩) := by
  refine congrArg X (funext fun a => Fin.ext ?_)
  match a with
  | ⟨0, _⟩ => exact show 0 + 1 * p.val = p.val by omega
  | ⟨1, _⟩ => exact rfl

theorem wide_0 (G : Vec Ideal S1x4x1024x512 .bf16) (k : Fin 1024) (f : Fin 512) :
    View.ld G (Rect.unit (s := S1x4x1024x512) ![0, 0, 0, 0] S1x1x1024x512.size inb_S1x4x1024x512_S1x1x1024x512_0_0_0_0) (ix4 0 0 k f)
      = G (ix4 0 0 k f) := by
  refine congrArg G (funext fun a => Fin.ext ?_)
  match a with
  | ⟨0, _⟩ => rfl
  | ⟨1, _⟩ => rfl
  | ⟨2, _⟩ => exact show 0 + 1 * k.val = k.val by omega
  | ⟨3, _⟩ => exact show 0 + 1 * f.val = f.val by omega

theorem narrow_0 (D : Vec Ideal S1x4x512x1024 .bf16) (f : Fin 512) (d : Fin 1024) :
    View.ld D (Rect.unit (s := S1x4x512x1024) ![0, 0, 0, 0] S1x1x512x1024.size inb_S1x4x512x1024_S1x1x512x1024_0_0_0_0) (ix4 0 0 f d)
      = D (ix4 0 0 f d) := by
  refine congrArg D (funext fun a => Fin.ext ?_)
  match a with
  | ⟨0, _⟩ => rfl
  | ⟨1, _⟩ => rfl
  | ⟨2, _⟩ => exact show 0 + 1 * f.val = f.val by omega
  | ⟨3, _⟩ => exact show 0 + 1 * d.val = d.val by omega

theorem weight_1 (X : Vec Ideal S256x1152 .f32) (p : Fin 256) :
    View.ld X (Rect.unit (s := S256x1152) ![0, 1025] S256x1.size inb_S256x1152_S256x1_0_1025) (ix2 p 0)
      = X (ix2 p ⟨1025, by decide⟩) := by
  refine congrArg X (funext fun a => Fin.ext ?_)
  match a with
  | ⟨0, _⟩ => exact show 0 + 1 * p.val = p.val by omega
  | ⟨1, _⟩ => exact rfl

theorem wide_1 (G : Vec Ideal S1x4x1024x512 .bf16) (k : Fin 1024) (f : Fin 512) :
    View.ld G (Rect.unit (s := S1x4x1024x512) ![0, 1, 0, 0] S1x1x1024x512.size inb_S1x4x1024x512_S1x1x1024x512_0_1_0_0) (ix4 0 0 k f)
      = G (ix4 0 1 k f) := by
  refine congrArg G (funext fun a => Fin.ext ?_)
  match a with
  | ⟨0, _⟩ => rfl
  | ⟨1, _⟩ => rfl
  | ⟨2, _⟩ => exact show 0 + 1 * k.val = k.val by omega
  | ⟨3, _⟩ => exact show 0 + 1 * f.val = f.val by omega

theorem narrow_1 (D : Vec Ideal S1x4x512x1024 .bf16) (f : Fin 512) (d : Fin 1024) :
    View.ld D (Rect.unit (s := S1x4x512x1024) ![0, 1, 0, 0] S1x1x512x1024.size inb_S1x4x512x1024_S1x1x512x1024_0_1_0_0) (ix4 0 0 f d)
      = D (ix4 0 1 f d) := by
  refine congrArg D (funext fun a => Fin.ext ?_)
  match a with
  | ⟨0, _⟩ => rfl
  | ⟨1, _⟩ => rfl
  | ⟨2, _⟩ => exact show 0 + 1 * f.val = f.val by omega
  | ⟨3, _⟩ => exact show 0 + 1 * d.val = d.val by omega

theorem weight_2 (X : Vec Ideal S256x1152 .f32) (p : Fin 256) :
    View.ld X (Rect.unit (s := S256x1152) ![0, 1026] S256x1.size inb_S256x1152_S256x1_0_1026) (ix2 p 0)
      = X (ix2 p ⟨1026, by decide⟩) := by
  refine congrArg X (funext fun a => Fin.ext ?_)
  match a with
  | ⟨0, _⟩ => exact show 0 + 1 * p.val = p.val by omega
  | ⟨1, _⟩ => exact rfl

theorem wide_2 (G : Vec Ideal S1x4x1024x512 .bf16) (k : Fin 1024) (f : Fin 512) :
    View.ld G (Rect.unit (s := S1x4x1024x512) ![0, 2, 0, 0] S1x1x1024x512.size inb_S1x4x1024x512_S1x1x1024x512_0_2_0_0) (ix4 0 0 k f)
      = G (ix4 0 2 k f) := by
  refine congrArg G (funext fun a => Fin.ext ?_)
  match a with
  | ⟨0, _⟩ => rfl
  | ⟨1, _⟩ => rfl
  | ⟨2, _⟩ => exact show 0 + 1 * k.val = k.val by omega
  | ⟨3, _⟩ => exact show 0 + 1 * f.val = f.val by omega

theorem narrow_2 (D : Vec Ideal S1x4x512x1024 .bf16) (f : Fin 512) (d : Fin 1024) :
    View.ld D (Rect.unit (s := S1x4x512x1024) ![0, 2, 0, 0] S1x1x512x1024.size inb_S1x4x512x1024_S1x1x512x1024_0_2_0_0) (ix4 0 0 f d)
      = D (ix4 0 2 f d) := by
  refine congrArg D (funext fun a => Fin.ext ?_)
  match a with
  | ⟨0, _⟩ => rfl
  | ⟨1, _⟩ => rfl
  | ⟨2, _⟩ => exact show 0 + 1 * f.val = f.val by omega
  | ⟨3, _⟩ => exact show 0 + 1 * d.val = d.val by omega

theorem weight_3 (X : Vec Ideal S256x1152 .f32) (p : Fin 256) :
    View.ld X (Rect.unit (s := S256x1152) ![0, 1027] S256x1.size inb_S256x1152_S256x1_0_1027) (ix2 p 0)
      = X (ix2 p ⟨1027, by decide⟩) := by
  refine congrArg X (funext fun a => Fin.ext ?_)
  match a with
  | ⟨0, _⟩ => exact show 0 + 1 * p.val = p.val by omega
  | ⟨1, _⟩ => exact rfl

theorem wide_3 (G : Vec Ideal S1x4x1024x512 .bf16) (k : Fin 1024) (f : Fin 512) :
    View.ld G (Rect.unit (s := S1x4x1024x512) ![0, 3, 0, 0] S1x1x1024x512.size inb_S1x4x1024x512_S1x1x1024x512_0_3_0_0) (ix4 0 0 k f)
      = G (ix4 0 3 k f) := by
  refine congrArg G (funext fun a => Fin.ext ?_)
  match a with
  | ⟨0, _⟩ => rfl
  | ⟨1, _⟩ => rfl
  | ⟨2, _⟩ => exact show 0 + 1 * k.val = k.val by omega
  | ⟨3, _⟩ => exact show 0 + 1 * f.val = f.val by omega

theorem narrow_3 (D : Vec Ideal S1x4x512x1024 .bf16) (f : Fin 512) (d : Fin 1024) :
    View.ld D (Rect.unit (s := S1x4x512x1024) ![0, 3, 0, 0] S1x1x512x1024.size inb_S1x4x512x1024_S1x1x512x1024_0_3_0_0) (ix4 0 0 f d)
      = D (ix4 0 3 f d) := by
  refine congrArg D (funext fun a => Fin.ext ?_)
  match a with
  | ⟨0, _⟩ => rfl
  | ⟨1, _⟩ => rfl
  | ⟨2, _⟩ => exact show 0 + 1 * f.val = f.val by omega
  | ⟨3, _⟩ => exact show 0 + 1 * d.val = d.val by omega

/-! ## What a tile leaves -/

/-- One expert's part of a tile's result, from the tile's blocks. -/
def partOf (X : Vec Ideal S256x1152 .f32) (G U : Vec Ideal S1x4x1024x512 .bf16) (D : Vec Ideal S1x4x512x1024 .bf16)
    (k : Fin 4) (p : Fin 256) (d : Fin 1024) : EReal :=
  ∑ f : Fin 512, hidden (fun j => X (ix2 p ⟨j.val, by omega⟩)) (fun j => G (ix4 0 k j f)) (fun j => U (ix4 0 k j f))
    * X (ix2 p ⟨1024 + k.val, by omega⟩) * D (ix4 0 k f d)

theorem hidden_congr {x x' g g' u u' : Fin 1024 → EReal} (hx : ∀ k, x k = x' k) (hg : ∀ k, g k = g' k) (hu : ∀ k, u k = u' k) :
    hidden x g u = hidden x' g' u' := by
  rw [funext hx, funext hg, funext hu]

theorem part_0 (X : Vec Ideal S256x1152 .f32) (G U : Vec Ideal S1x4x1024x512 .bf16) (D : Vec Ideal S1x4x512x1024 .bf16)
    (p : Fin 256) (d : Fin 1024) :
    part (View.ld X (Rect.unit (s := S256x1152) ![0, 0] S256x1024.size inb_S256x1152_S256x1024_0_0))
        (View.ld G (Rect.unit (s := S1x4x1024x512) ![0, 0, 0, 0] S1x1x1024x512.size inb_S1x4x1024x512_S1x1x1024x512_0_0_0_0))
        (View.ld U (Rect.unit (s := S1x4x1024x512) ![0, 0, 0, 0] S1x1x1024x512.size inb_S1x4x1024x512_S1x1x1024x512_0_0_0_0))
        (View.ld X (Rect.unit (s := S256x1152) ![0, 1024] S256x1.size inb_S256x1152_S256x1_0_1024))
        (View.ld D (Rect.unit (s := S1x4x512x1024) ![0, 0, 0, 0] S1x1x512x1024.size inb_S1x4x512x1024_S1x1x512x1024_0_0_0_0)) p d
      = partOf X G U D 0 p d :=
  Finset.sum_congr rfl fun f _ => congrArg₂ (· * ·) (congrArg₂ (· * ·)
    (hidden_congr (row_values X p) (fun j => wide_0 G j f) (fun j => wide_0 U j f)) (weight_0 X p)) (narrow_0 D f d)

theorem part_1 (X : Vec Ideal S256x1152 .f32) (G U : Vec Ideal S1x4x1024x512 .bf16) (D : Vec Ideal S1x4x512x1024 .bf16)
    (p : Fin 256) (d : Fin 1024) :
    part (View.ld X (Rect.unit (s := S256x1152) ![0, 0] S256x1024.size inb_S256x1152_S256x1024_0_0))
        (View.ld G (Rect.unit (s := S1x4x1024x512) ![0, 1, 0, 0] S1x1x1024x512.size inb_S1x4x1024x512_S1x1x1024x512_0_1_0_0))
        (View.ld U (Rect.unit (s := S1x4x1024x512) ![0, 1, 0, 0] S1x1x1024x512.size inb_S1x4x1024x512_S1x1x1024x512_0_1_0_0))
        (View.ld X (Rect.unit (s := S256x1152) ![0, 1025] S256x1.size inb_S256x1152_S256x1_0_1025))
        (View.ld D (Rect.unit (s := S1x4x512x1024) ![0, 1, 0, 0] S1x1x512x1024.size inb_S1x4x512x1024_S1x1x512x1024_0_1_0_0)) p d
      = partOf X G U D 1 p d :=
  Finset.sum_congr rfl fun f _ => congrArg₂ (· * ·) (congrArg₂ (· * ·)
    (hidden_congr (row_values X p) (fun j => wide_1 G j f) (fun j => wide_1 U j f)) (weight_1 X p)) (narrow_1 D f d)

theorem part_2 (X : Vec Ideal S256x1152 .f32) (G U : Vec Ideal S1x4x1024x512 .bf16) (D : Vec Ideal S1x4x512x1024 .bf16)
    (p : Fin 256) (d : Fin 1024) :
    part (View.ld X (Rect.unit (s := S256x1152) ![0, 0] S256x1024.size inb_S256x1152_S256x1024_0_0))
        (View.ld G (Rect.unit (s := S1x4x1024x512) ![0, 2, 0, 0] S1x1x1024x512.size inb_S1x4x1024x512_S1x1x1024x512_0_2_0_0))
        (View.ld U (Rect.unit (s := S1x4x1024x512) ![0, 2, 0, 0] S1x1x1024x512.size inb_S1x4x1024x512_S1x1x1024x512_0_2_0_0))
        (View.ld X (Rect.unit (s := S256x1152) ![0, 1026] S256x1.size inb_S256x1152_S256x1_0_1026))
        (View.ld D (Rect.unit (s := S1x4x512x1024) ![0, 2, 0, 0] S1x1x512x1024.size inb_S1x4x512x1024_S1x1x512x1024_0_2_0_0)) p d
      = partOf X G U D 2 p d :=
  Finset.sum_congr rfl fun f _ => congrArg₂ (· * ·) (congrArg₂ (· * ·)
    (hidden_congr (row_values X p) (fun j => wide_2 G j f) (fun j => wide_2 U j f)) (weight_2 X p)) (narrow_2 D f d)

theorem part_3 (X : Vec Ideal S256x1152 .f32) (G U : Vec Ideal S1x4x1024x512 .bf16) (D : Vec Ideal S1x4x512x1024 .bf16)
    (p : Fin 256) (d : Fin 1024) :
    part (View.ld X (Rect.unit (s := S256x1152) ![0, 0] S256x1024.size inb_S256x1152_S256x1024_0_0))
        (View.ld G (Rect.unit (s := S1x4x1024x512) ![0, 3, 0, 0] S1x1x1024x512.size inb_S1x4x1024x512_S1x1x1024x512_0_3_0_0))
        (View.ld U (Rect.unit (s := S1x4x1024x512) ![0, 3, 0, 0] S1x1x1024x512.size inb_S1x4x1024x512_S1x1x1024x512_0_3_0_0))
        (View.ld X (Rect.unit (s := S256x1152) ![0, 1027] S256x1.size inb_S256x1152_S256x1_0_1027))
        (View.ld D (Rect.unit (s := S1x4x512x1024) ![0, 3, 0, 0] S1x1x512x1024.size inb_S1x4x512x1024_S1x1x512x1024_0_3_0_0)) p d
      = partOf X G U D 3 p d :=
  Finset.sum_congr rfl fun f _ => congrArg₂ (· * ·) (congrArg₂ (· * ·)
    (hidden_congr (row_values X p) (fun j => wide_3 G j f) (fun j => wide_3 U j f)) (weight_3 X p)) (narrow_3 D f d)

variable (m : (ℓ : Loc nD τ sig) → Buf (Elt Ideal) ℓ)

/-- A tile past the count leaves zeros. -/
theorem idle_tile (h : Named m) (c : Dev nD) (t : Fin (cfg m h).N) (hu : ¬ Used m c h t) (p : Fin 256) (d : Fin 1024) :
    leaves m h c t (ix2 p d) = 0 := by
  rw [leaves_unused m h c t hu]
  unfold piecesUnused
  frame_out
  pointwise [k0_pay2]

/-- The four experts' parts, added. -/
def partsOf (X : Vec Ideal S256x1152 .f32) (G U : Vec Ideal S1x4x1024x512 .bf16) (D : Vec Ideal S1x4x512x1024 .bf16)
    (p : Fin 256) (d : Fin 1024) : EReal :=
  partOf X G U D 0 p d + partOf X G U D 1 p d + partOf X G U D 2 p d + partOf X G U D 3 p d

/-- The stores of the body where the tile is in use hold them, whatever the blocks. -/
theorem stored (c : Dev nD) (i : grid0.Coords) (x : Memref sig .tc .vmem S256x1152 .f32) (hx : x.IsWhole)
    (wg : Memref sig .tc .vmem S1x4x1024x512 .bf16) (hwg : wg.IsWhole) (wu : Memref sig .tc .vmem S1x4x1024x512 .bf16)
    (hwu : wu.IsWhole) (wd : Memref sig .tc .vmem S1x4x512x1024 .bf16) (hwd : wd.IsWhole)
    (y : Memref sig .tc .vmem S256x1024 .f32) (hy : y.IsWhole)
    (X : Vec Ideal S256x1152 .f32) (G U : Vec Ideal S1x4x1024x512 .bf16) (D : Vec Ideal S1x4x512x1024 .bf16)
    (g : TableBuf Ideal c groups) (n : TableBuf Ideal c count)
    (h1 : k0_cond1 i (word c n) = 1#1) (h2 : ¬ k0_cond2 i (word c n) = 1#1) (p : Fin 256) (d : Fin 1024) :
    VO.read (Elt Ideal) (VO.writes (Elt Ideal) VO.junk (runUsed c i x hx wg hwg wu hwu wd hwd y hy X G U D g n h1 h2).1) (ix2 p d)
      = partsOf X G U D p d := by
  frame_out
  refine (fourth _ _ _ _ _ _ p d).trans ?_
  rw [second_third, first]
  exact congrArg₂ (· + ·) (congrArg₂ (· + ·) (congrArg₂ (· + ·) (part_0 X G U D p d) (part_1 X G U D p d))
    (part_2 X G U D p d)) (part_3 X G U D p d)

/-- A tile in use leaves its four experts' parts, added. -/
theorem used_tile (h : Named m) (c : Dev nD) (t : Fin (cfg m h).N) (hu : Used m c h t) (p : Fin 256) (d : Fin 1024) :
    leaves m h c t (ix2 p d) = partsOf (blk m h c 0 t) (blk m h c 1 t) (blk m h c 2 t) (blk m h c 3 t) p d := by
  rw [leaves_used m h c t hu]
  exact stored _ _ _ _ _ _ _ _ _ _ _ _ _ _ _ _ _ _ _ _ p d

/-! ## The host's arrays and the blocks -/

/-- The first weights by groups are the first weights, four experts to a group, -/
theorem host_gate (c : Dev nD) (a k : Fin 4) (j : Fin 1024) (f : Fin 512) :
    (V m c main_v1 : FVec Ideal S4x4x1024x512 .bf16) (ix4 a k j f)
      = (m ((c : Thread nD τ).loc main_arg3) : FVec Ideal S16x1024x512 .f32) (ix3 (member a k) j f) := by
  unfold V
  after_reads_at
  exact congrArg (fun e : Fin 16 => (m ((c : Thread nD τ).loc main_arg3) : FVec Ideal S16x1024x512 .f32) (ix3 e j f))
    (Fin.ext (show a.val * 4 + k.val = 4 * a.val + k.val by omega))

/-- and so are the second -/
theorem host_up (c : Dev nD) (a k : Fin 4) (j : Fin 1024) (f : Fin 512) :
    (V m c main_v3 : FVec Ideal S4x4x1024x512 .bf16) (ix4 a k j f)
      = (m ((c : Thread nD τ).loc main_arg4) : FVec Ideal S16x1024x512 .f32) (ix3 (member a k) j f) := by
  unfold V
  after_reads_at
  exact congrArg (fun e : Fin 16 => (m ((c : Thread nD τ).loc main_arg4) : FVec Ideal S16x1024x512 .f32) (ix3 e j f))
    (Fin.ext (show a.val * 4 + k.val = 4 * a.val + k.val by omega))

/-- and the last. -/
theorem host_down (c : Dev nD) (a k : Fin 4) (f : Fin 512) (d : Fin 1024) :
    (V m c main_v5 : FVec Ideal S4x4x512x1024 .bf16) (ix4 a k f d)
      = (m ((c : Thread nD τ).loc main_arg5) : FVec Ideal S16x512x1024 .f32) (ix3 (member a k) f d) := by
  unfold V
  after_reads_at
  exact congrArg (fun e : Fin 16 => (m ((c : Thread nD τ).loc main_arg5) : FVec Ideal S16x512x1024 .f32) (ix3 e f d))
    (Fin.ext (show a.val * 4 + k.val = 4 * a.val + k.val by omega))

/-- The four experts' parts, added, are the group's weighted sum. -/
theorem parts_eq (X : Vec Ideal S256x1152 .f32) (G U : Vec Ideal S1x4x1024x512 .bf16) (D : Vec Ideal S1x4x512x1024 .bf16)
    (x : Fin 1024 → EReal) (w : Fin 4 → EReal) (wg wu : FVec Ideal S16x1024x512 .f32) (wd : FVec Ideal S16x512x1024 .f32)
    (g : Fin 4) (p : Fin 256) (d : Fin 1024) (hx : ∀ j : Fin 1024, X (ix2 p ⟨j.val, by omega⟩) = x j)
    (hw : ∀ k : Fin 4, X (ix2 p ⟨1024 + k.val, by omega⟩) = w k)
    (hG : ∀ (k : Fin 4) (j : Fin 1024) (f : Fin 512), G (ix4 0 k j f) = wg (ix3 (member g k) j f))
    (hU : ∀ (k : Fin 4) (j : Fin 1024) (f : Fin 512), U (ix4 0 k j f) = wu (ix3 (member g k) j f))
    (hD : ∀ (k : Fin 4) (f : Fin 512) (d : Fin 1024), D (ix4 0 k f d) = wd (ix3 (member g k) f d))
    (h0 : ∀ k, 0 ≤ w k) (h1 : ∀ k, w k ≠ ⊤) :
    partsOf X G U D p d = routed x wg wu wd w g d := by
  have key : ∀ k : Fin 4, partOf X G U D k p d = expert x wg wu wd (member g k) d * w k := by
    intro k
    refine Eq.trans ?_ (weight_out (fun f => hidden x (fun j => wg (ix3 (member g k) j f)) (fun j => wu (ix3 (member g k) j f)))
      (fun f => wd (ix3 (member g k) f d)) (w k) (h0 k) (h1 k))
    exact Finset.sum_congr rfl fun f _ => congrArg₂ (· * ·) (congrArg₂ (· * ·)
      (hidden_congr hx (fun j => hG k j f) (fun j => hU k j f)) (hw k)) (hD k f d)
  unfold partsOf routed
  rw [key, key, key, key]

/-- A tile's number, written as a word and read back. -/
theorem number (T : Fin 68) : (BitVec.ofNat 32 T.val).toNat = T.val :=
  (by decide +kernel : ∀ T : Fin 68, (BitVec.ofNat 32 T.val).toNat = T.val) T

/-- A tile, by its number. -/
abbrev num (h : Named m) (t : Fin (cfg m h).N) : Fin 68 := grid0.coords t 0

/-- The rows' block at a tile. -/
theorem blk0 (h : Named m) (c : Dev nD) (t : Fin (cfg m h).N) (p : Fin 256) (k : Fin 1152) :
    (blk m h c 0 t : Vec Ideal S256x1152 .f32) (ix2 p k)
      = (m ((c : Thread nD τ).loc main_arg2) : FVec Ideal S17408x1152 .f32) (ix2 ⟨256 * (num m h t).val + p.val, by omega⟩ k) := by
  refine Eq.trans ?_ (congrFun (kept m c main_arg2 (by decide)) _)
  refine congrArg (V m c main_arg2 : FVec Ideal S17408x1152 .f32) (funext fun a => Fin.ext ?_)
  match a with
  | ⟨0, _⟩ =>
    exact show (BitVec.ofNat 32 (num m h t).val).toNat * 256 + 1 * p.val = 256 * (num m h t).val + p.val by
      rw [number]; omega
  | ⟨1, _⟩ => exact show 0 * 1152 + 1 * k.val = k.val by omega

/-- The first weights' block at a tile of group `g`. -/
theorem blk1 (h : Named m) (c : Dev nD) (t : Fin (cfg m h).N) (g : Fin 4) (hg : (groupWord (tbl m) (num m h t)).toNat = g.val)
    (k : Fin 4) (j : Fin 1024) (f : Fin 512) :
    (blk m h c 1 t : Vec Ideal S1x4x1024x512 .bf16) (ix4 0 k j f)
      = (m ((c : Thread nD τ).loc main_arg3) : FVec Ideal S16x1024x512 .f32) (ix3 (member g k) j f) := by
  refine Eq.trans ?_ (host_gate m c g k j f)
  refine congrArg (V m c main_v1 : FVec Ideal S4x4x1024x512 .bf16) (funext fun a => Fin.ext ?_)
  have e : ∀ a, cc0_transform_1 k0_off1_inb numel1_S1 (tbl m) (grid0.coords t) a = (![g.val, 0, 0, 0] : Fin 4 → ℕ) a := by
    intro a
    rw [index1, show (groupWord (tbl m) (grid0.coords t 0)).toNat = g.val from hg]
  match a with
  | ⟨0, _⟩ =>
    exact show cc0_transform_1 k0_off1_inb numel1_S1 (tbl m) (grid0.coords t) 0 * 1 + 1 * 0 = g.val by
      rw [e 0]; exact Nat.mul_one _
  | ⟨1, _⟩ =>
    exact show cc0_transform_1 k0_off1_inb numel1_S1 (tbl m) (grid0.coords t) 1 * 4 + 1 * k.val = k.val by
      rw [e 1]; exact show 0 * 4 + 1 * k.val = k.val by omega
  | ⟨2, _⟩ =>
    exact show cc0_transform_1 k0_off1_inb numel1_S1 (tbl m) (grid0.coords t) 2 * 1024 + 1 * j.val = j.val by
      rw [e 2]; exact show 0 * 1024 + 1 * j.val = j.val by omega
  | ⟨3, _⟩ =>
    exact show cc0_transform_1 k0_off1_inb numel1_S1 (tbl m) (grid0.coords t) 3 * 512 + 1 * f.val = f.val by
      rw [e 3]; exact show 0 * 512 + 1 * f.val = f.val by omega

/-- The second weights' block at a tile of group `g`. -/
theorem blk2 (h : Named m) (c : Dev nD) (t : Fin (cfg m h).N) (g : Fin 4) (hg : (groupWord (tbl m) (num m h t)).toNat = g.val)
    (k : Fin 4) (j : Fin 1024) (f : Fin 512) :
    (blk m h c 2 t : Vec Ideal S1x4x1024x512 .bf16) (ix4 0 k j f)
      = (m ((c : Thread nD τ).loc main_arg4) : FVec Ideal S16x1024x512 .f32) (ix3 (member g k) j f) := by
  refine Eq.trans ?_ (host_up m c g k j f)
  refine congrArg (V m c main_v3 : FVec Ideal S4x4x1024x512 .bf16) (funext fun a => Fin.ext ?_)
  have e : ∀ a, cc0_transform_2 k0_off1_inb numel1_S1 (tbl m) (grid0.coords t) a = (![g.val, 0, 0, 0] : Fin 4 → ℕ) a := by
    intro a
    rw [index2, show (groupWord (tbl m) (grid0.coords t 0)).toNat = g.val from hg]
  match a with
  | ⟨0, _⟩ =>
    exact show cc0_transform_2 k0_off1_inb numel1_S1 (tbl m) (grid0.coords t) 0 * 1 + 1 * 0 = g.val by
      rw [e 0]; exact Nat.mul_one _
  | ⟨1, _⟩ =>
    exact show cc0_transform_2 k0_off1_inb numel1_S1 (tbl m) (grid0.coords t) 1 * 4 + 1 * k.val = k.val by
      rw [e 1]; exact show 0 * 4 + 1 * k.val = k.val by omega
  | ⟨2, _⟩ =>
    exact show cc0_transform_2 k0_off1_inb numel1_S1 (tbl m) (grid0.coords t) 2 * 1024 + 1 * j.val = j.val by
      rw [e 2]; exact show 0 * 1024 + 1 * j.val = j.val by omega
  | ⟨3, _⟩ =>
    exact show cc0_transform_2 k0_off1_inb numel1_S1 (tbl m) (grid0.coords t) 3 * 512 + 1 * f.val = f.val by
      rw [e 3]; exact show 0 * 512 + 1 * f.val = f.val by omega

/-- The last weights' block at a tile of group `g`. -/
theorem blk3 (h : Named m) (c : Dev nD) (t : Fin (cfg m h).N) (g : Fin 4) (hg : (groupWord (tbl m) (num m h t)).toNat = g.val)
    (k : Fin 4) (f : Fin 512) (d : Fin 1024) :
    (blk m h c 3 t : Vec Ideal S1x4x512x1024 .bf16) (ix4 0 k f d)
      = (m ((c : Thread nD τ).loc main_arg5) : FVec Ideal S16x512x1024 .f32) (ix3 (member g k) f d) := by
  refine Eq.trans ?_ (host_down m c g k f d)
  refine congrArg (V m c main_v5 : FVec Ideal S4x4x512x1024 .bf16) (funext fun a => Fin.ext ?_)
  have e : ∀ a, cc0_transform_3 k0_off1_inb numel1_S1 (tbl m) (grid0.coords t) a = (![g.val, 0, 0, 0] : Fin 4 → ℕ) a := by
    intro a
    rw [index3, show (groupWord (tbl m) (grid0.coords t 0)).toNat = g.val from hg]
  match a with
  | ⟨0, _⟩ =>
    exact show cc0_transform_3 k0_off1_inb numel1_S1 (tbl m) (grid0.coords t) 0 * 1 + 1 * 0 = g.val by
      rw [e 0]; exact Nat.mul_one _
  | ⟨1, _⟩ =>
    exact show cc0_transform_3 k0_off1_inb numel1_S1 (tbl m) (grid0.coords t) 1 * 4 + 1 * k.val = k.val by
      rw [e 1]; exact show 0 * 4 + 1 * k.val = k.val by omega
  | ⟨2, _⟩ =>
    exact show cc0_transform_3 k0_off1_inb numel1_S1 (tbl m) (grid0.coords t) 2 * 512 + 1 * f.val = f.val by
      rw [e 2]; exact show 0 * 512 + 1 * f.val = f.val by omega
  | ⟨3, _⟩ =>
    exact show cc0_transform_3 k0_off1_inb numel1_S1 (tbl m) (grid0.coords t) 3 * 1024 + 1 * d.val = d.val by
      rw [e 3]; exact show 0 * 1024 + 1 * d.val = d.val by omega

/-! ## The result array -/

/-- Every tile's block of the result is written back, -/
theorem flushes (h : Named m) (t : Fin (cfg m h).N) : ((cfg m h).win 4).flush t = true :=
  (fun t => (Pipeline.Window.flushOf_reads cc0_transform_4 reads0_4 hreads0_4 0 (by decide) (by decide)
    (Pipeline.Window.sep_of_coord cc0_transform_4 0 0 (fun _ => rfl) (by decide)) (P := 1) (m := 0) (by decide) rfl t).mpr
    (Nat.mod_one _) : ∀ t : Fin grid0.N, Pipeline.Window.flushOf grid0 true cc0_transform_4 t = true) t

/-- no two of them meet, -/
theorem apart (h : Named m) (t t' : Fin (cfg m h).N) (hne : t ≠ t') :
    Disjoint (((cfg m h).win 4).blk t).view.set (((cfg m h).win 4).blk t').view.set :=
  ((cfg m h).win 4).disjoint_blk fun e => hne ((by decide +kernel : ∀ t t' : Fin grid0.N,
    cc0_transform_4 (grid0.coords t) = cc0_transform_4 (grid0.coords t') → t = t') t t' e)

/-- so each holds what its tile left. -/
theorem block_final (h : Named m) (c : Dev nD) (t : Fin (cfg m h).N) (p : Fin 256) (d : Fin 1024) :
    ((dats m h 0 c).arrAt 4 (cfg m h).N : FVec Ideal S17408x1024 .f32) (ix2 ⟨256 * (num m h t).val + p.val, by omega⟩ d)
      = leaves m h c t (ix2 p d) := by
  have key := congrFun ((dats m h 0 c).read_blk_arrAt_eq_flushed 4 (fun t t' _ _ hne => apart m h t t' hne) (cfg m h).N t t.isLt
    (flushes m h t)) (ix2 p d)
  refine Eq.trans ?_ (key.trans (congrFun (after4 m h c t) (ix2 p d)))
  generalize (dats m h 0 c).arrAt 4 (cfg m h).N = R
  · refine congrArg (R : FVec Ideal S17408x1024 .f32) (funext fun a => Fin.ext ?_)
    match a with
    | ⟨0, _⟩ =>
      exact show 256 * (num m h t).val + p.val = (BitVec.ofNat 32 (num m h t).val).toNat * 256 + 1 * p.val by
        rw [number]; omega
    | ⟨1, _⟩ => exact show d.val = 0 * 1024 + 1 * d.val by omega

/-- The rows, as the call is given them. -/
abbrev given_rows (c : Dev nD) : FVec Ideal S17408x1152 .f32 := m ((c : Thread nD τ).loc main_arg2)

/-- The result array is `experts` of the arguments, when the weights of every row are at least zero and finite and every
    tile's word names a group. -/
theorem final (h : Named m) (c : Dev nD)
    (hs : ∀ j : Fin 68, (groupWord (tbl m) j).toNat < 4)
    (hw : ∀ (r : Fin 17408) (k : Fin 4), 0 ≤ given_rows m c (ix2 r ⟨1024 + k.val, by omega⟩)
      ∧ given_rows m c (ix2 r ⟨1024 + k.val, by omega⟩) ≠ ⊤)
    (r : Fin 17408) (d : Fin 1024) :
    ((dats m h 0 c).arrAt 4 (cfg m h).N : FVec Ideal S17408x1024 .f32) (ix2 r d)
      = experts (m ((c : Thread nD τ).loc main_arg3)) (m ((c : Thread nD τ).loc main_arg4)) (m ((c : Thread nD τ).loc main_arg5))
        (m ((c : Thread nD τ).loc main_arg0)) (m ((c : Thread nD τ).loc main_arg1)) (m ((c : Thread nD τ).loc main_arg2)) r d := by
  have key : ∀ T : Fin 68, (grid0.coords ⟨T.val, by have := N_0; omega⟩ 0).val = T.val := by decide +kernel
  obtain ⟨t, ht⟩ : ∃ t : Fin (cfg m h).N, num m h t = tileOf r :=
    ⟨⟨(tileOf r).val, by have := N_0; exact show (tileOf r).val < grid0.N by omega⟩, Fin.ext (key (tileOf r))⟩
  have htv : (num m h t).val = r.val / 256 := congrArg Fin.val ht
  obtain ⟨p, er⟩ : ∃ p : Fin 256, r = ⟨256 * (num m h t).val + p.val, by omega⟩ :=
    ⟨⟨r.val % 256, Nat.mod_lt _ (by decide)⟩,
      Fin.ext (show r.val = 256 * (num m h t).val + r.val % 256 by rw [htv]; omega)⟩
  refine (congrArg (fun r => ((dats m h 0 c).arrAt 4 (cfg m h).N : FVec Ideal S17408x1024 .f32) (ix2 r d)) er).trans
    ((block_final m h c t p d).trans ?_)
  have hu : Used m c h t ↔ InUse (m ((c : Thread nD τ).loc main_arg1)) (tileOf r) := by
    exact (used_iff _ _).trans (iff_of_eq (congrArg₂ (fun (T : Fin 68) (w : BitVec 32) => (BitVec.ofNat 32 T.val).toInt < w.toInt)
      ht ((word_eq c (tbl m 1)).trans (tbl_count m c))))
  unfold experts
  by_cases hc : InUse (m ((c : Thread nD τ).loc main_arg1)) (tileOf r)
  · rw [if_pos hc, used_tile m h c t (hu.mpr hc)]
    have hg : (groupWord (tbl m) (num m h t)).toNat
        = (groupOf (m ((c : Thread nD τ).loc main_arg0)) (tileOf r)).val := by
      rw [ht]
      exact (Nat.mod_eq_of_lt (hs (tileOf r))).symm.trans (congrArg (fun w : BitVec 32 => w.toNat % 4) (tbl_groups m c (tileOf r)))
    have e0 : ∀ j : Fin 1152, (blk m h c 0 t : Vec Ideal S256x1152 .f32) (ix2 p j)
        = given_rows m c (ix2 r j) := fun j =>
      (blk0 m h c t p j).trans
        (congrArg (fun r => given_rows m c (ix2 r j)) er.symm)
    exact parts_eq _ _ _ _ _ _ _ _ _ _ p d (fun j => e0 _) (fun k => e0 _) (blk1 m h c t _ hg) (blk2 m h c t _ hg)
      (blk3 m h c t _ hg) (fun k => (hw r k).1) (fun k => (hw r k).2)
  · rw [if_neg hc, idle_tile m h c t (fun e => hc (hu.mp e))]

end Cert.ExpertsIdeal.Blocks

end
-- ==== Proof.Experts.Reference.lean ====
/- The reference of the experts' call, stage by stage at an index, ending at `Cert.Layer.experts`. -/
module

public import proofs.«01_k».proof.Proof.Gen.ExpertsReferenceIdeal.Read
public import proofs.«01_k».proof.Proof.Experts.Mixture

@[expose] public section

noncomputable section

open Idealize.ShloMosaic Idealize.ShloMosaic.TcCoe Idealize.SL.Sem Cert.Layer

namespace Cert.ExpertsReferenceIdeal.Stages

open Cert.ExpertsReferenceIdeal Cert.ExpertsReferenceIdeal.Gen Cert.ExpertsReferenceIdeal.Read

variable (x0 : (⟨S68, .i32⟩ : BufTy).Contents (Elt Ideal)) (x1 : (⟨S1, .i32⟩ : BufTy).Contents (Elt Ideal))
  (x2 : (⟨S17408x1152, .f32⟩ : BufTy).Contents (Elt Ideal))
  (x3 x4 : (⟨S16x1024x512, .f32⟩ : BufTy).Contents (Elt Ideal)) (x5 : (⟨S16x512x1024, .f32⟩ : BufTy).Contents (Elt Ideal))

/-- The program's zero. -/
theorem zero_spelt : (FloatOps.ofBits .f32 0x00000000#32 : Ideal .f32) = (0 : EReal) := by
  pointwise

/-- The program's one. -/
theorem one_spelt : (FloatOps.ofBits .f32 0x3F800000#32 : Ideal .f32) = (1 : EReal) := by
  pointwise

/-! ## The experts' outputs -/

/-- A row's values past the weights. -/
abbrev row (r : Fin 17408) (k : Fin 1024) : EReal := x2 (ix2 r ⟨k.val, by omega⟩)

/-- The product with the gate's columns. -/
theorem gate (e : Fin 16) (r : Fin 17408) (f : Fin 512) :
    val_main_v23 (F := Ideal) x2 x3 (ix3 e r f) = ∑ k : Fin 1024, row x2 r k * x3 (ix3 e k f) := by
  rw [val_main_v23_apply, val_main_v22_apply]
  refine Finset.sum_congr rfl fun k _ => ?_
  have h1 : idx_main_v7 (ridx_main_v22 (idx_main_v23 (ix3 e r f)) k) = ix2 r ⟨k.val, by omega⟩ := by
    funext a; match a with | ⟨0, _⟩ => rfl | ⟨1, _⟩ => rfl
  have h2 : lidx_main_v22 (idx_main_v23 (ix3 e r f)) k = ix3 e k f := by
    funext a; match a with | ⟨0, _⟩ => rfl | ⟨1, _⟩ => rfl | ⟨2, _⟩ => rfl
  rw [val_main_v7_apply, mul_comm, h1, h2]

/-- The product with the other columns. -/
theorem up (e : Fin 16) (r : Fin 17408) (f : Fin 512) :
    val_main_v26 (F := Ideal) x2 x4 (ix3 e r f) = ∑ k : Fin 1024, row x2 r k * x4 (ix3 e k f) := by
  rw [val_main_v26_apply, val_main_v25_apply]
  refine Finset.sum_congr rfl fun k _ => ?_
  have h1 : idx_main_v7 (ridx_main_v25 (idx_main_v26 (ix3 e r f)) k) = ix2 r ⟨k.val, by omega⟩ := by
    funext a; match a with | ⟨0, _⟩ => rfl | ⟨1, _⟩ => rfl
  have h2 : lidx_main_v25 (idx_main_v26 (ix3 e r f)) k = ix3 e k f := by
    funext a; match a with | ⟨0, _⟩ => rfl | ⟨1, _⟩ => rfl | ⟨2, _⟩ => rfl
  rw [val_main_v7_apply, mul_comm, h1, h2]

/-- The hidden values. -/
theorem inner (e : Fin 16) (r : Fin 17408) (f : Fin 512) :
    val_main_v27 (F := Ideal) x2 x3 x4 (ix3 e r f)
      = hidden (row x2 r) (fun k => x3 (ix3 e k f)) (fun k => x4 (ix3 e k f)) := by
  rw [val_main_v27_apply, val_main_v24_apply, up, gate, val_main_call1_v5_apply, val_main_call1_v4_apply,
    val_main_call1_cst_0_apply, val_main_call1_v3_apply, val_main_call1_v2_apply, val_main_call1_cst_apply,
    val_main_call1_v1_apply, val_main_call1_v0_apply, gate, one_spelt]
  rfl

/-- An expert's output. -/
theorem output (e : Fin 16) (r : Fin 17408) (d : Fin 1024) :
    val_main_v28 (F := Ideal) x2 x3 x4 x5 (ix3 e r d) = expert (row x2 r) x3 x4 x5 e d := by
  rw [val_main_v28_apply]
  unfold expert
  refine Finset.sum_congr rfl fun f _ => ?_
  have h1 : lidx_main_v28 (ix3 e r d) f = ix3 e r f := by
    funext a; match a with | ⟨0, _⟩ => rfl | ⟨1, _⟩ => rfl | ⟨2, _⟩ => rfl
  have h2 : ridx_main_v28 (ix3 e r d) f = ix3 e f d := by
    funext a; match a with | ⟨0, _⟩ => rfl | ⟨1, _⟩ => rfl | ⟨2, _⟩ => rfl
  rw [h1, h2, inner]

/-! ## The experts' weights -/

/-- A bit that selects: both its parts are set. -/
theorem both (p q : Bool) : IntOp.andi (BitVec.ofBool p) (BitVec.ofBool q) = 1#1 ↔ p = true ∧ q = true := by
  cases p <;> cases q <;> decide

/-- A row is in use, and its tile's group is the given one. -/
theorem selected (r : Fin 17408) (q : Fin 4) :
    val_main_v17 (F := Ideal) x0 x1 (ix2 r q) = 1#1 ↔ InUse x1 (tileOf r) ∧ x0 (ix1 (tileOf r)) = BitVec.ofNat 32 q.val := by
  have h1 : val_main_v16 (F := Ideal) x1 (ix2 r q)
      = BitVec.ofBool ((BitVec.ofNat 32 (tileOf r).val).slt (x1 (ix1 0))) := by
    rw [val_main_v16_apply, val_main_v9_apply, val_main_v6_apply, val_main_v5_apply, val_main_v4_apply, val_main_v3_apply,
      val_main_v2_apply]
    exact congrArg (fun j : S1.Idx => BitVec.ofBool ((BitVec.ofNat 32 (tileOf r).val).slt (x1 j)))
      (funext fun a => match a with | ⟨0, _⟩ => rfl)
  have h2 : val_main_v15 (F := Ideal) x0 (ix2 r q)
      = BitVec.ofBool (x0 (ix1 (tileOf r)) == BitVec.ofNat 32 q.val) := by
    rw [val_main_v15_apply, val_main_v13_apply, val_main_v10_apply, val_main_v1_apply, val_main_v0_apply,
      val_main_v14_apply, val_main_v12_apply, val_main_v11_apply]
    exact congrArg (fun j : S68.Idx => BitVec.ofBool (x0 j == BitVec.ofNat 32 q.val))
      (funext fun a => match a with | ⟨0, _⟩ => rfl)
  rw [val_main_v17_apply, h1, h2, both, beq_iff_eq, BitVec.slt_iff_toInt_lt]

/-- An expert's weight at a row: the row's own at its group's experts, zero at the others. -/
theorem weight (r : Fin 17408) (e : Fin 16) :
    val_main_v21 (F := Ideal) x0 x1 x2 (ix2 r e)
      = if InUse x1 (tileOf r) ∧ x0 (ix1 (tileOf r)) = BitVec.ofNat 32 (e.val / 4)
        then x2 (ix2 r ⟨1024 + e.val % 4, by omega⟩) else (0 : EReal) := by
  have h0 : idx_main_v21 (ix2 r e) = ix3 r ⟨e.val / 4, by omega⟩ ⟨e.val % 4, by omega⟩ := by
    funext a
    match a with
    | ⟨0, _⟩ => exact Fin.ext (show (r.val * 16 + e.val) / 16 = r.val by omega)
    | ⟨1, _⟩ => exact Fin.ext (show (r.val * 16 + e.val) / 4 % 4 = e.val / 4 by omega)
    | ⟨2, _⟩ => exact Fin.ext (show (r.val * 16 + e.val) % 4 = e.val % 4 by omega)
  rw [val_main_v21_apply, h0, val_main_v20_apply, val_main_call0_v1_apply, val_main_v18_apply, val_main_call0_v2_apply,
    val_main_v19_apply, val_main_v8_apply, val_main_call0_v3_apply, val_main_call0_v0_apply, val_main_cst_apply, zero_spelt]
  have h1 : idx_main_v18 (idx_main_call0_v1 (ix3 r (⟨e.val / 4, by omega⟩ : Fin 4) (⟨e.val % 4, by omega⟩ : Fin 4)))
      = ix2 r ⟨e.val / 4, by omega⟩ := by
    funext a; match a with | ⟨0, _⟩ => rfl | ⟨1, _⟩ => rfl
  have h2 : idx_main_v8 (idx_main_v19 (idx_main_call0_v2 (ix3 r (⟨e.val / 4, by omega⟩ : Fin 4) (⟨e.val % 4, by omega⟩ : Fin 4))))
      = ix2 r ⟨1024 + e.val % 4, by omega⟩ := by
    funext a; match a with | ⟨0, _⟩ => rfl | ⟨1, _⟩ => rfl
  rw [h1, h2]
  unfold Scalar.select
  by_cases hs : val_main_v17 (F := Ideal) x0 x1 (ix2 r ⟨e.val / 4, by omega⟩) = 1#1
  · exact (if_pos hs).trans (if_pos ((selected x0 x1 r _).mp hs)).symm
  · exact (if_neg hs).trans (if_neg fun h => hs ((selected x0 x1 r _).mpr h)).symm

/-- The reference's result, where the tile's group is in range. -/
theorem result (r : Fin 17408) (d : Fin 1024) (hg : (x0 (ix1 (tileOf r))).toNat < 4) :
    val_main_v33 (F := Ideal) x0 x1 x2 x3 x4 x5 (ix2 r d) = experts x3 x4 x5 x0 x1 x2 r d := by
  rw [val_main_v33_apply, val_main_cst_0_apply, zero_spelt, zero_add]
  have h : ∀ e : Fin 16, val_main_v32 (F := Ideal) x0 x1 x2 x3 x4 x5 (idx_main_v33 (ix2 r d) e)
      = expert (row x2 r) x3 x4 x5 e d * if InUse x1 (tileOf r) ∧ x0 (ix1 (tileOf r)) = BitVec.ofNat 32 (e.val / 4)
        then x2 (ix2 r ⟨1024 + e.val % 4, by omega⟩) else (0 : EReal) := by
    intro e
    have h0 : idx_main_v33 (ix2 r d) e = ix3 e r d := by
      funext a; match a with | ⟨0, _⟩ => rfl | ⟨1, _⟩ => rfl | ⟨2, _⟩ => rfl
    rw [h0, val_main_v32_apply, mul_spelt, output, val_main_v31_apply, val_main_v30_apply, val_main_v29_apply]
    have h1 : idx_main_v29 (idx_main_v30 (idx_main_v31 (ix3 e r d))) = ix2 r e := by
      funext a; match a with | ⟨0, _⟩ => rfl | ⟨1, _⟩ => rfl
    rw [h1, weight]
  simp only [h]
  unfold experts
  by_cases hu : InUse x1 (tileOf r)
  · rw [if_pos hu]
    refine Eq.trans ?_ (over_group (fun e => expert (row x2 r) x3 x4 x5 e d) (fun k => x2 (ix2 r ⟨1024 + k.val, by omega⟩))
      (groupOf x0 (tileOf r)))
    refine Finset.sum_congr rfl fun e _ => ?_
    have key : (InUse x1 (tileOf r) ∧ x0 (ix1 (tileOf r)) = BitVec.ofNat 32 (e.val / 4))
        = (e.val / 4 = (groupOf x0 (tileOf r)).val) := by
      refine propext ⟨fun h => ?_, fun h => ⟨hu, ?_⟩⟩
      · show e.val / 4 = (x0 (ix1 (tileOf r))).toNat % 4
        rw [h.2, BitVec.toNat_ofNat]; omega
      · have h' : e.val / 4 = (x0 (ix1 (tileOf r))).toNat % 4 := h
        apply BitVec.eq_of_toNat_eq
        rw [BitVec.toNat_ofNat]; omega
    simp only [key]
  · rw [if_neg hu]
    refine Finset.sum_eq_zero fun e _ => ?_
    rw [if_neg fun h => hu h.1, mul_zero]

end Cert.ExpertsReferenceIdeal.Stages

end
-- ==== Proof.Experts.Claims.lean ====
/- The grouped experts for the prompt: the frames of the kernel, its exact-number twin and the reference, and, over the exact
   numbers, that the kernel's result is the reference's at every row and column. -/
module

public import proofs.«01_k».proof.Defs
public import proofs.«01_k».proof.Proof.Experts.Tables
public import proofs.«01_k».proof.Proof.Experts.Kernel
public import proofs.«01_k».proof.Proof.Experts.Reference
public import proofs.«01_k».proof.Proof.Gen.ExpertsReferenceIdeal.Run
public import proofs.«01_k».proof.Proof.Gen.ExpertsReferenceIdeal.Read

@[expose] public section

noncomputable section

open Idealize.ShloMosaic Idealize.SL.Sem Cert.Layer

namespace Cert.ExpertsClaims

/-! ## The frames -/

/-- The kernel, with every tile's group in range. -/
theorem kernel : Cert.quiescent_Experts := fun m ρ h =>
  (θ_run Cert.Experts.defs _ _).mono (fun _ hr => ⟨fun c => (hr.1 c).2, hr.2⟩)
    (Cert.Experts.Grouped.run m ρ (Cert.Experts.Grouped.named m h))

/-- Its exact-number twin, -/
theorem twin : Cert.quiescent_ExpertsIdeal := fun m ρ h =>
  (θ_run Cert.ExpertsIdeal.defs _ _).mono (fun _ hr => ⟨fun c => (hr.1 c).2, hr.2⟩)
    (Cert.ExpertsIdeal.Grouped.run m ρ (Cert.ExpertsIdeal.Grouped.named m h))

/-- also with the weights bounded. -/
theorem twin_too : Cert.quiescent_ExpertsIdeal_pre_groups_and_weights := fun m ρ h =>
  (θ_run Cert.ExpertsIdeal.defs _ _).mono (fun _ hr => ⟨fun c => (hr.1 c).2, hr.2⟩)
    (Cert.ExpertsIdeal.Grouped.run m ρ (Cert.ExpertsIdeal.Grouped.named_too m h))

/-- The reference, -/
theorem reference : Cert.quiescent_ExpertsReferenceIdeal := fun m ρ _ =>
  (θ_run Cert.ExpertsReferenceIdeal.defs _ _).mono
    (fun r h => ⟨fun c => (h c).2, Idealize.ShloMosaic.sem_eq_zero_of_no_sems (by decide) r.2⟩)
    (Cert.ExpertsReferenceIdeal.Value.run (F := Ideal) m ρ)

/-- also under the twin's assumptions. -/
theorem reference_too : Cert.quiescent_ExpertsReferenceIdeal_pre_groups_and_weights := fun m ρ _ =>
  reference m ρ trivial

/-! ## The assumptions, read -/

/-- The pattern of plus infinity. -/
theorem infinity_spelt : (FloatOps.ofBits .f32 0x7F800000#32 : Ideal .f32) = (⊤ : EReal) :=
  show Ideal.ieee 8 23 (0x7F800000#32) = ⊤ by simp [Ideal.ieee]

/-- A value that is at least zero and less than plus infinity, as the program compares. -/
theorem bounded (w : EReal) (h : IntOp.andi (FloatOps.cmpf (F := Ideal) (φ := .f32) .oge w (FloatOps.ofBits .f32 0x00000000#32))
    (FloatOps.cmpf (F := Ideal) (φ := .f32) .olt w (FloatOps.ofBits .f32 0x7F800000#32)) = 1#1) : 0 ≤ w ∧ w ≠ ⊤ := by
  rw [Cert.ExpertsReferenceIdeal.Stages.zero_spelt, infinity_spelt] at h
  have h' := (Cert.ExpertsReferenceIdeal.Stages.both (decide ((0 : EReal) ≤ w)) (decide (w < ⊤))).mp h
  exact ⟨of_decide_eq_true h'.1, (of_decide_eq_true h'.2).ne⟩

/-- The assumption bounds every row's four weights. -/
theorem weights (m : (ℓ : Loc Cert.ExpertsIdeal.nD Cert.ExpertsIdeal.τ Cert.ExpertsIdeal.sig) → Buf (Elt Ideal) ℓ)
    (h : Cert.Pre_ExpertsIdeal_groups_and_weights m) (c : Dev Cert.ExpertsIdeal.nD) (r : Fin 17408) (k : Fin 4) :
    0 ≤ Cert.ExpertsIdeal.Blocks.given_rows m c (ix2 r ⟨1024 + k.val, by omega⟩)
      ∧ Cert.ExpertsIdeal.Blocks.given_rows m c (ix2 r ⟨1024 + k.val, by omega⟩) ≠ ⊤ := by
  let slice : FVec Ideal Cert.Pre_groups_and_weights.S17408x4 .f32 :=
    extractStridedSlice Cert.Pre_groups_and_weights.S17408x4 ![0, 1024] (Cert.ExpertsIdeal.Blocks.given_rows m c)
      Cert.Pre_groups_and_weights.Facts.slices_S17408x1152_S17408x4_0_1024
  have hr : slice (ix2 r k) = Cert.ExpertsIdeal.Blocks.given_rows m c (ix2 r ⟨1024 + k.val, by omega⟩) :=
    extractStridedSlice_apply _ _ _ _ _ fun a => match a with
      | ⟨0, _⟩ => show r.val = 0 + r.val by omega
      | ⟨1, _⟩ => rfl
  have e := bounded (slice (ix2 r k)) (congrFun (h c).2 (ix2 r k))
  rw [hr] at e
  exact e

/-- The kernel's result array is the reference's. -/
theorem algebraic : Cert.algebraic_ExpertsIdeal_ExpertsReferenceIdeal_pre_groups_and_weights := by
  intro m g m' g' h hagree
  have hn := Cert.ExpertsIdeal.Grouped.named_too m h
  refine ⟨fun c => (Cert.ExpertsIdeal.Grouped.dats m hn 0 c).arrAt 4 (Cert.ExpertsIdeal.Grouped.cfg m hn).N, ?_, ?_⟩
  · exact (θ_run Cert.ExpertsIdeal.defs _ _).mono (fun _ hr c => hr.1 c) (Cert.ExpertsIdeal.Grouped.run m g hn)
  · refine (θ_run Cert.ExpertsReferenceIdeal.defs _ _).mono (fun _ hr c => ⟨(hr c).1.trans ?_, (hr c).2⟩)
      (Cert.ExpertsReferenceIdeal.Value.run m' g')
    obtain ⟨h0, h1, h2, h3, h4, h5⟩ := hagree c
    rw [Cert.ExpertsReferenceIdeal.Read.val_main_v33_eq, h0, h1, h2, h3, h4, h5]
    funext i
    obtain ⟨r, d, rfl⟩ : ∃ (r : Fin 17408) (d : Fin 1024), i = ix2 r d := ⟨i 0, i 1, eq_ix2 i⟩
    have hs : ∀ j : Fin 68, (Cert.ExpertsIdeal.Grouped.groupWord (Cert.ExpertsIdeal.Grouped.tbl m) j).toNat < 4 := fun j => by
      rw [Cert.ExpertsIdeal.Grouped.tbl_groups m c j]
      exact Cert.ExpertsIdeal.Grouped.small _ (congrFun (h c).1 (ix1 j))
    exact (Cert.ExpertsReferenceIdeal.Stages.result _ _ _ _ _ _ r d
        (Cert.ExpertsIdeal.Grouped.small _ (congrFun (h c).1 (ix1 (tileOf r))))).trans
      (Cert.ExpertsIdeal.Blocks.final m hn c hs (weights m h c) r d).symm

end Cert.ExpertsClaims

end
-- ==== Proof.Combine.RunIdeal.lean ====
/- The rows that one call of the combining body gathers (over the exact numbers): 512 copies are started on one counter, one for each row of the
   scratch block, and then 512 waits take them all back. Stated here: a copy started, a trip of the starting loop, a trip of the waiting loop. -/
module

public import proofs.«01_k».proof.Proof.Gen.CombineIdeal.Launch
public import proofs.«01_k».proof.Proof.Gen.CombineIdeal.Skeleton
public import proofs.«01_k».proof.Proof.Gen.CombineIdeal.Loops
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp
public import Idealize.ShloMosaic.Lib.StableHlo.ReadAt

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)

namespace Cert.CombineIdeal.Gather

open Cert.CombineIdeal Cert.CombineIdeal.Gen

variable {F : FTy → Type} [FloatOps F]

/-- Assertions about the machine's state. -/
abbrev Asrt (F : FTy → Type) : Type _ := sProp (MT nD τ sig Unit (Elt F) ℕ (Pipeline.UD sig nD τ) ℕ)

/-- The experts' rows, left where they are, and the scratch block that the rows are gathered into. -/
abbrev rowsM : Memref sig .tc .hbm S17408x1024 .f32 := Memref.whole main_arg2
abbrev scratch : Memref sig .tc .vmem S512x1024 .f32 := Memref.whole cc0_scratch0

/-- The counter that every copy is started on. -/
abbrev counter : DmaSem sig := cc0_scratch1.sem

theorem scratch_inb (t : Fin 512) : ∀ a, (![t.val, 0] : Fin 2 → ℕ) a + S1x1024.size a ≤ S512x1024.size a := by
  have := t.isLt; intro a
  match a with
  | ⟨0, _⟩ => show t.val + 1 ≤ 512; omega
  | ⟨1, _⟩ => show 0 + 1024 ≤ 1024; omega

theorem rows_inb (r : Fin 17408) : ∀ a, (![r.val, 0] : Fin 2 → ℕ) a + S1x1024.size a ≤ S17408x1024.size a := by
  have := r.isLt; intro a
  match a with
  | ⟨0, _⟩ => show r.val + 1 ≤ 17408; omega
  | ⟨1, _⟩ => show 0 + 1024 ≤ 1024; omega

/-- Row `t` of the scratch block; row `r` of the experts' rows. -/
def into (t : Fin 512) : Memref sig .tc .vmem S1x1024 .f32 :=
  scratch.slice (Rect.unit (s := S512x1024) ![t.val, 0] S1x1024.size (scratch_inb t)) (fun _ => rfl)
def from' (r : Fin 17408) : Memref sig .tc .hbm S1x1024 .f32 :=
  rowsM.slice (Rect.unit (s := S17408x1024) ![r.val, 0] S1x1024.size (rows_inb r)) (fun _ => rfl)

/-- The contents of the two buffers on a core. -/
abbrev RowsBuf (F : FTy → Type) (c : Dev nD) : Type := Buf (Elt F) (rowsM.view.loc (c : Thread nD τ))
abbrev ScratchBuf (F : FTy → Type) (c : Dev nD) : Type := Buf (Elt F) (scratch.view.loc (c : Thread nD τ))

/-- What the scratch block holds once row `t` of it has been copied from row `rows t`, for every `t`. -/
def gathered (c : Dev nD) (rows : Fin 512 → Fin 17408) (y : RowsBuf F c) : ScratchBuf F c :=
  fun i : S512x1024.Idx => (y : S17408x1024.Idx → Elt F .f32) (ix2 (rows (i 0)) (i 1))

section
variable (c : Dev nD) (rows : Fin 512 → Fin 17408) (y : RowsBuf F c) (old : ScratchBuf F c)

/-- The entries of the scratch block that copy `t` writes; those of the experts' rows that it reads. -/
def written (t : Fin 512) : Finset S512x1024.Idx := (into t).view.set
def taken (r : Fin 17408) : Finset S17408x1024.Idx := (from' r).view.set

/-- Row `t` of the scratch block before its copy, and after it. -/
def before (t : Fin 512) : Asrt F := scratch.view.loc (c : Thread nD τ) ↦[written t]{fullShare} old
def after (t : Fin 512) : Asrt F := scratch.view.loc (c : Thread nD τ) ↦[written t]{fullShare} gathered c rows y
/-- The part of the experts' rows that copy `t` reads, held by a share of its own. -/
def source (t : Fin 512) : Asrt F := rowsM.view.loc (c : Thread nD τ) ↦[taken (rows t)]{Transfers.shareTokN fullShare t.val} y
/-- What copy `t` hands back. -/
def handed (t : Fin 512) : Asrt F := iprop(after c rows y t ∗ source c rows y t)

instance (t : Fin 512) : Storable (upEmb : UEmb _ (MT nD τ sig Unit (Elt F) ℕ (Pipeline.UD sig nD τ) ℕ)) (handed c rows y t) := by
  unfold handed after source; infer_instance

/-- What one copy counts. -/
abbrev unitsOf : ℕ := (into 0).view.amount (.dma counter)

/-- The copies, `j` of them started and `u` units waited for. -/
def copies (j u : ℕ) : Asrt F :=
  Transfers.Batch (countersEmb (U := Pipeline.UD sig nD τ)) (c : Thread nD τ) (.dma counter) () unitsOf (handed c rows y) j u

/-- What lands in row `t` is row `t` of the gathered block. -/
theorem lands (t : Fin 512) (i : S512x1024.Idx) (hi : i ∈ written t) :
    ((into t).view.write (Elt F) old (ReadAs.same.apply ((from' (rows t)).view.read (Elt F) y)) Finset.univ : S512x1024.Idx → Elt F .f32) i
      = (gathered c rows y : S512x1024.Idx → Elt F .f32) i := by
  obtain ⟨x, -, rfl⟩ := Finset.mem_map.mp hi
  refine ((into t).view.write_emb_of_mem old _ (Finset.mem_univ x)).trans ?_
  have hx : (x 0).val = 0 := by have : (x 0).val < 1 := (x 0).isLt; omega
  refine congrArg (y : S17408x1024.Idx → Elt F .f32) (funext fun a => Fin.ext ?_)
  let z : S512x1024.Idx := (into t).view.emb x
  have h0 : z 0 = t := Fin.ext (by show t.val + 1 * (x 0).val = t.val; omega)
  have h1 : (z 1).val = (x 1).val := by show 0 + 1 * (x 1).val = (x 1).val; omega
  match a with
  | ⟨0, _⟩ => show (rows t).val + 1 * (x 0).val = (rows (z 0)).val; rw [h0]; omega
  | ⟨1, _⟩ => show 0 + 1 * (x 1).val = (z 1).val; omega

/-! ## One copy started -/

/-- The program that reads a row's number from a table, checks it, starts the copy of that row on the counter, and goes on. -/
def startCopy (arg1 : Memref sig .tc .smem S512 .i32) (o1 : Fin 1 → ℕ) (h1 : ∀ a, o1 a + S1.size a ≤ S512.size a)
    (o2 : Fin 2 → ℕ) (h2 : ∀ a, o2 a + S1x1024.size a ≤ S512x1024.size a) (o3 : BitVec 32 → Fin 2 → ℕ) (chk : BitVec 32 → Prop)
    (dec : ∀ v, Decidable (chk v)) (h3 : ∀ v, chk v → ∀ a, o3 v a + S1x1024.size a ≤ S17408x1024.size a)
    (k : (v : BitVec 32) → chk v → Prog (TpuEff nD τ sig (Elt F) Λ₀ .tc) Unit) : Prog (TpuEff nD τ sig (Elt F) Λ₀ .tc) Unit := do
  let v : Elt F .i32 ← smemLoad arg1 (Rect.unit (s := S512) o1 S1.size h1) numel1_S1 rfl
  have hw : chk v := (← Prog.lift (TpuEff.assume (chk v) (dec v))).down
  Prog.lift (.enqueueDma (rowsM.slice (Rect.unit (s := S17408x1024) (o3 v) S1x1024.size (h3 v hw)) (fun _ => rfl))
    (.here (scratch.slice (Rect.unit (s := S512x1024) o2 S1x1024.size h2) (fun _ => rfl))) (.dma counter)
    (View.wordExact_bits rfl) (View.wordExact_bits rfl) ⟨Or.inl rfl, trivial⟩)
  k v hw

variable (arg1 : Memref sig .tc .smem S512 .i32) (d : S512.Idx → Elt F .i32)

/-- The table of rows' numbers, held with the contents `d`. -/
def table : Asrt F := owns (c : Thread nD τ) arg1 fullShare d

/-- Its entry `t` names the row that copy `t` reads. -/
def Names : Prop := ∀ t : Fin 512, (d (ix1 t) : BitVec 32).toNat = (rows t).val

/-- The copy of row `rows t` into row `t`, started when the `t` before it have been. -/
theorem issue (t : Fin 512) (o : Fin 2 → ℕ) (ho) (e : o = ![(rows t).val, 0]) (k : Prog (TpuEff nD τ sig (Elt F) Λ₀ .tc) Unit) (Q : Unit → Asrt F) :
    iprop(before c old t ∗ source c rows y t ∗ copies c rows y t.val 0
        ∗ (copies c rows y (t.val + 1) 0 -∗ wp frame (wpE (defs₀ (F := F)) Variants.none c none) Set.univ k Q))
      ⊢ wp frame (wpE (defs₀ (F := F)) Variants.none c none) Set.univ (do
          Prog.lift (.enqueueDma (rowsM.slice (Rect.unit (s := S17408x1024) o S1x1024.size ho) (fun _ => rfl)) (.here (into t)) (.dma counter)
            (View.wordExact_bits rfl) (View.wordExact_bits rfl) ⟨Or.inl rfl, trivial⟩)
          k) Q := by
  subst e
  unfold copies before source
  iintro ⟨HB, HS, HC, Hk⟩
  iapply (Transfers.wp_dmaBatch (Lvl := ℕ) (countersEmb (U := Pipeline.UD sig nD τ)) Variants.none (c : Thread nD τ) none
    (src := from' (rows t)) (dst := into t) (via := .same) (q := Transfers.shareTokN fullShare t.val) (fs := y) (Sd := written t) (fd := old)
    (D := handed c rows y) (j := t.val) (u := 0) () unitsOf rfl (Finset.Subset.refl _) t.isLt (Nat.zero_le _) ?_) $$ [HB HS HC]
  · show _ ⊢ iprop(after c rows y t ∗ source c rows y t)
    exact BI.sep_mono (Entails.of_eq (pointsTo_congr (lands c rows y old t))) (BIBase.Entails.rfl (P := source c rows y t))
  · isplitl [HS]; · iexact HS
    isplitl [HB]; · iexact HB
    iexact HC
  iintro HC
  iapply Hk
  iexact HC

theorem start (hn : Names rows d) (t : Fin 512) (o1 : Fin 1 → ℕ) (h1) (e1 : o1 = ![t.val]) (o2 : Fin 2 → ℕ) (h2) (e2 : o2 = ![t.val, 0])
    (o3 : BitVec 32 → Fin 2 → ℕ) (e3 : ∀ v, o3 v = ![v.toNat, 0]) (chk : BitVec 32 → Prop) (dec) (hchk : ∀ v : BitVec 32, v.toNat < 17408 → chk v)
    (h3) (k : (v : BitVec 32) → chk v → Prog (TpuEff nD τ sig (Elt F) Λ₀ .tc) Unit) (Q : Unit → Asrt F) :
    iprop(table c arg1 d ∗ before c old t ∗ source c rows y t ∗ copies c rows y t.val 0
        ∗ (iprop(table c arg1 d ∗ copies c rows y (t.val + 1) 0)
            -∗ wp frame (wpE (defs₀ (F := F)) Variants.none c none) Set.univ
                (k (d (ix1 t)) (hchk _ ((hn t).trans_lt (rows t).isLt))) Q))
      ⊢ wp frame (wpE (defs₀ (F := F)) Variants.none c none) Set.univ (startCopy arg1 o1 h1 o2 h2 o3 chk dec h3 k) Q := by
  subst e1 e2
  unfold table owns
  iintro ⟨⟨%f1, %hf, HT⟩, HB, HS, HC, Hk⟩
  unfold startCopy
  sl_exec
  have hv : start.sl.r c arg1 t h1 f1 = d (ix1 t) := by
    refine Eq.trans ?_ (congrFun hf (ix1 t))
    show View.read (Elt F) arg1.view f1 _ = View.read (Elt F) arg1.view f1 _
    refine congrArg _ (funext fun a => Fin.ext ?_)
    match a with
    | ⟨0, _⟩ => show t.val + 1 * 0 = t.val; omega
  rw [hv]
  have hc := hchk _ ((hn t).trans_lt (rows t).isLt)
  iapply (wp_assume _ _ _ _ hc)
  iapply (issue c rows y old t (o3 (d (ix1 t))) (h3 _ hc) (by rw [e3, hn t]) (k (d (ix1 t)) hc) Q) $$ [HT HB HS HC Hk]
  isplitl [HB]; · iexact HB
  isplitl [HS]; · iexact HS
  isplitl [HC]; · iexact HC
  iintro HC
  iapply Hk
  isplitl [HT]
  · iexists f1
    isplitr
    · ipureintro; exact hf
    · iexact HT
  · iexact HC

/-! ## The loop that starts the copies -/

/-- `j` copies started: the table, and the rows of the two buffers that the other copies take. -/
def started (j : ℕ) : Asrt F :=
  iprop(table c arg1 d ∗ copies c rows y j 0 ∗ bigSep (Ring.rangeSet 512 j 512) (before c old) ∗ bigSep (Ring.rangeSet 512 j 512) (source c rows y))

theorem start_held (hn : Names rows d) (t : Fin 512) (o1 : Fin 1 → ℕ) (h1) (e1 : o1 = ![t.val]) (o2 : Fin 2 → ℕ) (h2) (e2 : o2 = ![t.val, 0])
    (o3 : BitVec 32 → Fin 2 → ℕ) (e3 : ∀ v, o3 v = ![v.toNat, 0]) (chk : BitVec 32 → Prop) (dec) (hchk : ∀ v : BitVec 32, v.toNat < 17408 → chk v)
    (h3) (k : Prog (TpuEff nD τ sig (Elt F) Λ₀ .tc) Unit) (Q : Unit → Asrt F)
    (hk : started c rows y old arg1 d (t.val + 1) ⊢ wp frame (wpE (defs₀ (F := F)) Variants.none c none) Set.univ k Q) :
    started c rows y old arg1 d t.val
      ⊢ wp frame (wpE (defs₀ (F := F)) Variants.none c none) Set.univ (startCopy arg1 o1 h1 o2 h2 o3 chk dec h3 fun _ _ => k) Q := by
  refine BIBase.Entails.trans ?_ (start c rows y old arg1 d hn t o1 h1 e1 o2 h2 e2 o3 e3 chk dec hchk h3 (fun _ _ => k) Q)
  unfold started
  rw [Ring.bigSep_rangeSet_head (Φ := before c old) t.isLt t.isLt, Ring.bigSep_rangeSet_head (Φ := source c rows y) t.isLt t.isLt]
  iintro ⟨HT, HC, ⟨HB, HBs⟩, HS, HSs⟩
  isplitl [HT]; · iexact HT
  isplitl [HB]; · iexact HB
  isplitl [HS]; · iexact HS
  isplitl [HC]; · iexact HC
  iintro ⟨HT, HC⟩
  iapply hk $$ [HT HC HBs HSs]
  unfold started
  isplitl [HT]; · iexact HT
  isplitl [HC]; · iexact HC
  isplitl [HBs]; · iexact HBs
  iexact HSs

theorem off1 : ∀ k : Fin k0_t1_loop.trips, k0_off1 k = ![8 * k.val + 0] := by decide +kernel
theorem off2 : ∀ k : Fin k0_t1_loop.trips, k0_off2 k = ![8 * k.val + 0, 0] := by decide +kernel
theorem chk1 (v : BitVec 32) (h : v.toNat < 17408) : k0_chk1 v := rows_inb ⟨v.toNat, h⟩
theorem off4 : ∀ k : Fin k0_t1_loop.trips, k0_off4 k = ![8 * k.val + 1] := by decide +kernel
theorem off5 : ∀ k : Fin k0_t1_loop.trips, k0_off5 k = ![8 * k.val + 1, 0] := by decide +kernel
theorem chk2 (v : BitVec 32) (h : v.toNat < 17408) : k0_chk2 v := rows_inb ⟨v.toNat, h⟩
theorem off7 : ∀ k : Fin k0_t1_loop.trips, k0_off7 k = ![8 * k.val + 2] := by decide +kernel
theorem off8 : ∀ k : Fin k0_t1_loop.trips, k0_off8 k = ![8 * k.val + 2, 0] := by decide +kernel
theorem chk3 (v : BitVec 32) (h : v.toNat < 17408) : k0_chk3 v := rows_inb ⟨v.toNat, h⟩
theorem off10 : ∀ k : Fin k0_t1_loop.trips, k0_off10 k = ![8 * k.val + 3] := by decide +kernel
theorem off11 : ∀ k : Fin k0_t1_loop.trips, k0_off11 k = ![8 * k.val + 3, 0] := by decide +kernel
theorem chk4 (v : BitVec 32) (h : v.toNat < 17408) : k0_chk4 v := rows_inb ⟨v.toNat, h⟩
theorem off13 : ∀ k : Fin k0_t1_loop.trips, k0_off13 k = ![8 * k.val + 4] := by decide +kernel
theorem off14 : ∀ k : Fin k0_t1_loop.trips, k0_off14 k = ![8 * k.val + 4, 0] := by decide +kernel
theorem chk5 (v : BitVec 32) (h : v.toNat < 17408) : k0_chk5 v := rows_inb ⟨v.toNat, h⟩
theorem off16 : ∀ k : Fin k0_t1_loop.trips, k0_off16 k = ![8 * k.val + 5] := by decide +kernel
theorem off17 : ∀ k : Fin k0_t1_loop.trips, k0_off17 k = ![8 * k.val + 5, 0] := by decide +kernel
theorem chk6 (v : BitVec 32) (h : v.toNat < 17408) : k0_chk6 v := rows_inb ⟨v.toNat, h⟩
theorem off19 : ∀ k : Fin k0_t1_loop.trips, k0_off19 k = ![8 * k.val + 6] := by decide +kernel
theorem off20 : ∀ k : Fin k0_t1_loop.trips, k0_off20 k = ![8 * k.val + 6, 0] := by decide +kernel
theorem chk7 (v : BitVec 32) (h : v.toNat < 17408) : k0_chk7 v := rows_inb ⟨v.toNat, h⟩
theorem off22 : ∀ k : Fin k0_t1_loop.trips, k0_off22 k = ![8 * k.val + 7] := by decide +kernel
theorem off23 : ∀ k : Fin k0_t1_loop.trips, k0_off23 k = ![8 * k.val + 7, 0] := by decide +kernel
theorem chk8 (v : BitVec 32) (h : v.toNat < 17408) : k0_chk8 v := rows_inb ⟨v.toNat, h⟩

/-- A trip of the loop: eight copies. -/
def eight (k : Fin k0_t1_loop.trips) : Prog (TpuEff nD τ sig (Elt F) Λ₀ .tc) Unit :=
  startCopy arg1 (k0_off1 k) (k0_off1_inb k) (k0_off2 k) (k0_off2_inb k) k0_off3 k0_chk1 k0_chk1.dec k0_off3_inb fun _ _ =>
  startCopy arg1 (k0_off4 k) (k0_off4_inb k) (k0_off5 k) (k0_off5_inb k) k0_off6 k0_chk2 k0_chk2.dec k0_off6_inb fun _ _ =>
  startCopy arg1 (k0_off7 k) (k0_off7_inb k) (k0_off8 k) (k0_off8_inb k) k0_off9 k0_chk3 k0_chk3.dec k0_off9_inb fun _ _ =>
  startCopy arg1 (k0_off10 k) (k0_off10_inb k) (k0_off11 k) (k0_off11_inb k) k0_off12 k0_chk4 k0_chk4.dec k0_off12_inb fun _ _ =>
  startCopy arg1 (k0_off13 k) (k0_off13_inb k) (k0_off14 k) (k0_off14_inb k) k0_off15 k0_chk5 k0_chk5.dec k0_off15_inb fun _ _ =>
  startCopy arg1 (k0_off16 k) (k0_off16_inb k) (k0_off17 k) (k0_off17_inb k) k0_off18 k0_chk6 k0_chk6.dec k0_off18_inb fun _ _ =>
  startCopy arg1 (k0_off19 k) (k0_off19_inb k) (k0_off20 k) (k0_off20_inb k) k0_off21 k0_chk7 k0_chk7.dec k0_off21_inb fun _ _ =>
  startCopy arg1 (k0_off22 k) (k0_off22_inb k) (k0_off23 k) (k0_off23_inb k) k0_off24 k0_chk8 k0_chk8.dec k0_off24_inb fun _ _ =>
  pure ⟨⟩

theorem trip (hn : Names rows d) (k : Fin k0_t1_loop.trips) :
    started c rows y old arg1 d (8 * k.val)
      ⊢ wp frame (wpE (defs₀ (F := F)) Variants.none c none) Set.univ (eight arg1 k) (fun _ => started c rows y old arg1 d (8 * (k.val + 1))) := by
  have hk : k.val < 64 := k.isLt
  unfold eight
  refine start_held c rows y old arg1 d hn ⟨8 * k.val + 0, by omega⟩ _ _ (off1 k) _ _ (off2 k) _ (fun _ => rfl) _ _ chk1 _ _ _ ?_
  refine start_held c rows y old arg1 d hn ⟨8 * k.val + 1, by omega⟩ _ _ (off4 k) _ _ (off5 k) _ (fun _ => rfl) _ _ chk2 _ _ _ ?_
  refine start_held c rows y old arg1 d hn ⟨8 * k.val + 2, by omega⟩ _ _ (off7 k) _ _ (off8 k) _ (fun _ => rfl) _ _ chk3 _ _ _ ?_
  refine start_held c rows y old arg1 d hn ⟨8 * k.val + 3, by omega⟩ _ _ (off10 k) _ _ (off11 k) _ (fun _ => rfl) _ _ chk4 _ _ _ ?_
  refine start_held c rows y old arg1 d hn ⟨8 * k.val + 4, by omega⟩ _ _ (off13 k) _ _ (off14 k) _ (fun _ => rfl) _ _ chk5 _ _ _ ?_
  refine start_held c rows y old arg1 d hn ⟨8 * k.val + 5, by omega⟩ _ _ (off16 k) _ _ (off17 k) _ (fun _ => rfl) _ _ chk6 _ _ _ ?_
  refine start_held c rows y old arg1 d hn ⟨8 * k.val + 6, by omega⟩ _ _ (off19 k) _ _ (off20 k) _ (fun _ => rfl) _ _ chk7 _ _ _ ?_
  refine start_held c rows y old arg1 d hn ⟨8 * k.val + 7, by omega⟩ _ _ (off22 k) _ _ (off23 k) _ (fun _ => rfl) _ _ chk8 _ _ _ ?_
  iintro H
  sl_step
  iexact H

/-! ## The loop that waits for them -/

/-- `j` copies waited for: after the last wait the counter is at zero again and everything that the copies took is back. -/
def waited (j : ℕ) : Asrt F :=
  iprop(⌜j ≤ 512⌝ ∗ table c arg1 d ∗ (∃ W, owes (c : Thread nD τ) 0 W)
    ∗ (if j < 512 then copies c rows y 512 (j * unitsOf)
       else iprop(semVal ((c : Thread nD τ), SemLoc.dma counter) 0 ∗ bigSep Finset.univ (handed c rows y))))

/-- The program that reads a row's number again, checks it, and waits for one copy. -/
def waitCopy (arg1 : Memref sig .tc .smem S512 .i32) (o1 : Fin 1 → ℕ) (h1 : ∀ a, o1 a + S1.size a ≤ S512.size a)
    (o2 : Fin 2 → ℕ) (h2 : ∀ a, o2 a + S1x1024.size a ≤ S512x1024.size a) (o3 : BitVec 32 → Fin 2 → ℕ) (chk : BitVec 32 → Prop)
    (dec : ∀ v, Decidable (chk v)) (h3 : ∀ v, chk v → ∀ a, o3 v a + S1x1024.size a ≤ S17408x1024.size a) :
    Prog (TpuEff nD τ sig (Elt F) Λ₀ .tc) Unit := do
  let v : Elt F .i32 ← smemLoad arg1 (Rect.unit (s := S512) o1 S1.size h1) numel1_S1 rfl
  have hw : chk v := (← Prog.lift (TpuEff.assume (chk v) (dec v))).down
  Prog.lift (.waitDma2 counter (rowsM.slice (Rect.unit (s := S17408x1024) (o3 v) S1x1024.size (h3 v hw)) (fun _ => rfl))
    (scratch.slice (Rect.unit (s := S512x1024) o2 S1x1024.size h2) (fun _ => rfl)) (View.wordExact_bits rfl) (View.wordExact_bits rfl))
  pure ⟨⟩

theorem units_pos : 0 < unitsOf := by decide

theorem more {t N : ℕ} (hN : 0 < N) (h : t + 1 < 512) : t * N + N < N * 512 := by
  have := Nat.mul_lt_mul_of_pos_right h hN
  rw [Nat.succ_mul] at this; rw [Nat.mul_comm N]; exact this
theorem last {t N : ℕ} (h : t = 511) : t * N + N = N * 512 := by subst h; omega

theorem wait (hn : Names rows d) (t : Fin 512) (o1 : Fin 1 → ℕ) (h1) (e1 : o1 = ![t.val]) (o2 : Fin 2 → ℕ) (h2)
    (o3 : BitVec 32 → Fin 2 → ℕ) (chk : BitVec 32 → Prop) (dec) (hchk : ∀ v : BitVec 32, v.toNat < 17408 → chk v) (h3) :
    waited c rows y arg1 d t.val
      ⊢ wp frame (wpE (defs₀ (F := F)) Variants.none c none) Set.univ (waitCopy arg1 o1 h1 o2 h2 o3 chk dec h3)
          (fun _ => waited c rows y arg1 d (t.val + 1)) := by
  subst e1
  have ht := t.isLt
  unfold waited
  rw [if_pos ht]
  unfold table owns copies
  iintro ⟨-, ⟨%f1, %hf, HT⟩, ⟨%W, HO⟩, HC⟩
  unfold waitCopy
  sl_exec
  have hv : wait.sl.r c arg1 t h1 f1 = d (ix1 t) := by
    refine Eq.trans ?_ (congrFun hf (ix1 t))
    show View.read (Elt F) arg1.view f1 _ = View.read (Elt F) arg1.view f1 _
    refine congrArg _ (funext fun a => Fin.ext ?_)
    match a with
    | ⟨0, _⟩ => show t.val + 1 * 0 = t.val; omega
  rw [hv]
  have hc := hchk _ ((hn t).trans_lt (rows t).isLt)
  iapply (wp_assume _ _ _ _ hc)
  rcases Nat.lt_or_ge (t.val + 1) 512 with h | h
  · rw [if_pos h]
    iapply (Transfers.wp_waitBatch (Lvl := ℕ) (countersEmb (U := Pipeline.UD sig nD τ)) Variants.none (c : Thread nD τ) none
      (srcw := rowsM.slice (Rect.unit (s := S17408x1024) (o3 (d (ix1 t))) S1x1024.size (h3 _ hc)) (fun _ => rfl))
      (dstw := scratch.slice (Rect.unit (s := S512x1024) o2 S1x1024.size h2) (fun _ => rfl)) () (N := unitsOf) rfl (D := handed c rows y) (u := t.val * unitsOf) (more units_pos h) (W := W)) $$ [HC HO]
    · isplitl [HC]; · iexact HC
      iexact HO
    iintro ⟨HC, HO⟩
    iapply (le_wp_ret _ _)
    isplitr; · ipureintro; omega
    isplitl [HT]
    · iexists f1
      isplitr
      · ipureintro; exact hf
      · iexact HT
    isplitl [HO]; · iexists _; iexact HO
    rw [Nat.succ_mul]
    iexact HC
  · have h9 : t.val = 511 := by omega
    rw [if_neg (Nat.not_lt.mpr h)]
    iapply (Transfers.wp_waitBatchLast (Lvl := ℕ) (countersEmb (U := Pipeline.UD sig nD τ)) Variants.none (c : Thread nD τ) none
      (srcw := rowsM.slice (Rect.unit (s := S17408x1024) (o3 (d (ix1 t))) S1x1024.size (h3 _ hc)) (fun _ => rfl))
      (dstw := scratch.slice (Rect.unit (s := S512x1024) o2 S1x1024.size h2) (fun _ => rfl)) () (N := unitsOf) rfl units_pos (D := handed c rows y) (u := t.val * unitsOf) (last h9) (W := W)) $$ [HC HO]
    · isplitl [HC]; · iexact HC
      iexact HO
    iintro ⟨HD, Hc, HO⟩
    iapply (le_wp_ret _ _)
    isplitr; · ipureintro; omega
    isplitl [HT]
    · iexists f1
      isplitr
      · ipureintro; exact hf
      · iexact HT
    isplitl [HO]; · iexists _; iexact HO
    isplitl [Hc]; · iexact Hc
    iexact HD

theorem off25 : ∀ k : Fin k0_t2_loop.trips, k0_off25 k = ![k.val] := by decide +kernel
theorem chk9 (v : BitVec 32) (h : v.toNat < 17408) : k0_chk9 v := rows_inb ⟨v.toNat, h⟩

/-! ## The loops' bodies are these programs -/

section
variable (i : grid0.Coords) (harg1 : arg1.IsWhole) (arg2 : Memref sig .tc .vmem S512x1024 .f32) (harg2 : arg2.IsWhole) (harg3 : rowsM.IsWhole)
  (arg4 : Memref sig .tc .vmem S1x1024 .f32) (harg4 : arg4.IsWhole) (arg5 : Memref sig .tc .vmem S1x1024 .f32) (harg5 : arg5.IsWhole)
  (arg6 : Memref sig .tc .vmem S512x1024 .f32) (harg6 : arg6.IsWhole) (harg7 : scratch.IsWhole)

theorem trip1 (k : Fin k0_t1_loop.trips) (acc : Unit) :
    k0_t1_body (F := F) i arg1 harg1 arg2 harg2 rowsM harg3 arg4 harg4 arg5 harg5 arg6 harg6 scratch harg7 cc0_scratch1 k acc = eight arg1 k := rfl

theorem trip2 (k : Fin k0_t2_loop.trips) (acc : Unit) :
    k0_t2_body (F := F) i arg1 harg1 arg2 harg2 rowsM harg3 arg4 harg4 arg5 harg5 arg6 harg6 scratch harg7 cc0_scratch1 k acc
      = waitCopy arg1 (k0_off25 k) (k0_off25_inb k) (k0_off26 k) (k0_off26_inb k) k0_off27 k0_chk9 k0_chk9.dec k0_off27_inb := rfl
end

end

end Cert.CombineIdeal.Gather
-- ==== Proof.Combine.BodyIdeal.lean ====
/- One call of the combining body (over the exact numbers): the two loops gather the named rows into the scratch block, and the rest of the body
   normalises their sum with the residual. -/
module

public import proofs.«01_k».proof.Proof.Combine.RunIdeal
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp
public import Idealize.ShloMosaic.Lib.StableHlo.ReadAt

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)

namespace Cert.CombineIdeal.Gather

open Cert.CombineIdeal Cert.CombineIdeal.Gen

variable {F : FTy → Type} [FloatOps F]

section
variable (c : Dev nD) (rows : Fin 512 → Fin 17408) (y : RowsBuf F c) (old : ScratchBuf F c)

/-! ## The scratch block is its rows -/

theorem mem_written (t : Fin 512) (i : S512x1024.Idx) : i ∈ written t ↔ (i 0).val = t.val := by
  unfold written into
  rw [show (scratch.slice (Rect.unit (s := S512x1024) ![t.val, 0] S1x1024.size (scratch_inb t)) (fun _ => rfl)).view.set
    = (Rect.unit (s := S512x1024) ![t.val, 0] S1x1024.size (scratch_inb t)).set from View.set_slice_whole _ _, Rect.mem_set_unit]
  have h1 : (i 1).val < 1024 := (i 1).isLt
  constructor
  · intro H; have a0 : t.val ≤ (i 0).val ∧ (i 0).val < t.val + 1 := H 0; omega
  · intro H a
    match a with
    | ⟨0, _⟩ => show t.val ≤ (i 0).val ∧ (i 0).val < t.val + 1; omega
    | ⟨1, _⟩ => show 0 ≤ (i 1).val ∧ (i 1).val < 0 + 1024; omega

theorem written_disjoint (t u : Fin 512) (h : t ≠ u) : Disjoint (written t) (written u) := by
  rw [Finset.disjoint_left]; intro i hi hj; rw [mem_written] at hi hj; exact h (Fin.ext (by omega))

theorem written_cover : Finset.univ.biUnion written = Finset.univ := by
  ext i; simp only [Finset.mem_biUnion, Finset.mem_univ, true_and, iff_true]; exact ⟨i 0, (mem_written _ _).mpr rfl⟩

theorem by_rows (f : ScratchBuf F c) : (scratch.view.loc (c : Thread nD τ) ↦{fullShare} f : Asrt F)
    = bigSep (Ring.rangeSet 512 0 512) (fun t => scratch.view.loc (c : Thread nD τ) ↦[written t]{fullShare} f) := by
  rw [Ring.rangeSet_univ]
  exact Ring.pointsTo_blocks (ℓ := scratch.view.loc (c : Thread nD τ)) (q := fullShare) written written_disjoint written_cover f

/-! ## The experts' rows are lent to the copies, a share to each -/

/-- What is left of copy `t`'s share of the experts' rows. -/
def remains (t : Fin 512) : Asrt F :=
  rowsM.view.loc (c : Thread nD τ) ↦[Finset.univ \ taken (rows t)]{Transfers.shareTokN fullShare t.val} y

theorem lent : (bigSep (Ring.rangeSet 512 0 512) (fun t => iprop(source c rows y t ∗ remains c rows y t)) : Asrt F)
    = iprop(bigSep (Ring.rangeSet 512 0 512) (source c rows y) ∗ bigSep (Ring.rangeSet 512 0 512) (remains c rows y)) := BI.bigSep_sep _ _ _

theorem shares : (bigSep (Ring.rangeSet 512 0 512) (fun t => (rowsM.view.loc (c : Thread nD τ) ↦{Transfers.shareTokN fullShare t.val} y : Asrt F)))
    = bigSep (Finset.range 512) (fun i => (rowsM.view.loc (c : Thread nD τ) ↦{Transfers.shareTokN fullShare i} y : Asrt F)) :=
  Ring.bigSep_rangeSet_eq_range (NB := 512) (lo := 0) (hi := 512)
    (Φ := fun t => (rowsM.view.loc (c : Thread nD τ) ↦{Transfers.shareTokN fullShare t.val} y : Asrt F)) le_rfl
    (fun i => (rowsM.view.loc (c : Thread nD τ) ↦{Transfers.shareTokN fullShare i} y : Asrt F)) (fun k hk => by
      show (rowsM.view.loc (c : Thread nD τ) ↦{Transfers.shareTokN fullShare k} y : Asrt F)
        = (rowsM.view.loc (c : Thread nD τ) ↦{Transfers.shareTokN fullShare (0 + k)} y : Asrt F)
      rw [Nat.zero_add])

/-- What no copy is lent. -/
def kept : Asrt F := rowsM.view.loc (c : Thread nD τ) ↦{Transfers.shareDrop fullShare 512} y

theorem lend : (rowsM.view.loc (c : Thread nD τ) ↦{fullShare} y : Asrt F)
    ⊢ iprop(kept c y ∗ bigSep (Ring.rangeSet 512 0 512) (source c rows y) ∗ bigSep (Ring.rangeSet 512 0 512) (remains c rows y)) := by
  refine BIBase.Entails.trans (Transfers.pointsTo_toks_range fullShare 512).1 ?_
  rw [← lent, ← shares]
  refine BI.sep_mono (BIBase.Entails.rfl (P := kept c y)) (BI.bigSep_mono fun t _ => ?_)
  exact (pointsTo_split_subset (Finset.subset_univ _)).1

theorem back : iprop(kept c y ∗ bigSep (Ring.rangeSet 512 0 512) (source c rows y) ∗ bigSep (Ring.rangeSet 512 0 512) (remains c rows y))
    ⊢ (rowsM.view.loc (c : Thread nD τ) ↦{fullShare} y : Asrt F) := by
  refine BIBase.Entails.trans ?_ (Transfers.pointsTo_toks_range fullShare 512).2
  rw [← lent, ← shares]
  refine BI.sep_mono (BIBase.Entails.rfl (P := kept c y)) (BI.bigSep_mono fun t _ => ?_)
  exact (pointsTo_split_subset (Finset.subset_univ _)).2

theorem all_handed : (bigSep Finset.univ (handed c rows y) : Asrt F)
    = iprop(bigSep (Ring.rangeSet 512 0 512) (after c rows y) ∗ bigSep (Ring.rangeSet 512 0 512) (source c rows y)) := by
  rw [← Ring.rangeSet_univ (NB := 512)]
  exact BI.bigSep_sep _ _ _

/-! ## The two loops -/

variable (arg1 : Memref sig .tc .smem S512 .i32) (d : S512.Idx → Elt F .i32)
variable (i : grid0.Coords) (harg1 : arg1.IsWhole) (arg2 : Memref sig .tc .vmem S512x1024 .f32) (harg2 : arg2.IsWhole) (harg3 : rowsM.IsWhole)
  (arg4 : Memref sig .tc .vmem S1x1024 .f32) (harg4 : arg4.IsWhole) (arg5 : Memref sig .tc .vmem S1x1024 .f32) (harg5 : arg5.IsWhole)
  (arg6 : Memref sig .tc .vmem S512x1024 .f32) (harg6 : arg6.IsWhole) (harg7 : scratch.IsWhole)

set_option maxHeartbeats 1000000 in
theorem gather (hn : Names rows d) (W : Waits sig Unit) (k : Prog (TpuEff nD τ sig (Elt F) Λ₀ .tc) PUnit) (Q : PUnit → Asrt F) :
    iprop(table c arg1 d ∗ (scratch.view.loc (c : Thread nD τ) ↦{fullShare} old) ∗ (rowsM.view.loc (c : Thread nD τ) ↦{fullShare} y)
        ∗ semVal ((c : Thread nD τ), SemLoc.dma counter) 0 ∗ owes (c : Thread nD τ) 0 W
        ∗ (iprop(table c arg1 d ∗ (scratch.view.loc (c : Thread nD τ) ↦{fullShare} gathered c rows y) ∗ (rowsM.view.loc (c : Thread nD τ) ↦{fullShare} y)
            ∗ semVal ((c : Thread nD τ), SemLoc.dma counter) 0 ∗ (∃ W', owes (c : Thread nD τ) 0 W'))
            -∗ wp frame (wpE (defs₀ (F := F)) Variants.none c none) Set.univ k Q))
      ⊢ wp frame (wpE (defs₀ (F := F)) Variants.none c none) Set.univ (do
          Scf.Loop.for k0_t1_loop k0_t1_ok ⟨⟩ (k0_t1_body i arg1 harg1 arg2 harg2 rowsM harg3 arg4 harg4 arg5 harg5 arg6 harg6 scratch harg7 cc0_scratch1)
          Scf.Loop.for k0_t2_loop k0_t2_ok ⟨⟩ (k0_t2_body i arg1 harg1 arg2 harg2 rowsM harg3 arg4 harg4 arg5 harg5 arg6 harg6 scratch harg7 cc0_scratch1)
          k) Q := by
  iintro ⟨HT, HB, HS, Hc, HO, Hk⟩
  ihave HB' := (Entails.of_eq (by_rows c old)) $$ HB
  ihave HS' := (lend c rows y) $$ HS
  icases HS' with ⟨HK, HS, HR⟩
  imod (Transfers.batch_alloc' (Lvl := ℕ) (countersEmb (U := Pipeline.UD sig nD τ)) (c : Thread nD τ) () unitsOf (handed c rows y)
    (sm := .dma counter) (E := Set.univ)) $$ Hc with HC
  sl_for (fun j (_ : Unit) => started c rows y old arg1 d (8 * j)) $$ [HT HB' HS HC]
  · intro j acc
    show started c rows y old arg1 d (8 * j.val) ⊢ wp frame (wpE (defs₀ (F := F)) Variants.none c none) Set.univ
      (k0_t1_body i arg1 harg1 arg2 harg2 rowsM harg3 arg4 harg4 arg5 harg5 arg6 harg6 scratch harg7 cc0_scratch1 j acc) (fun _ => started c rows y old arg1 d (8 * (j.val + 1)))
    rw [trip1]
    exact trip c rows y old arg1 d hn j
  · unfold started copies
    isplitl [HT]; · iexact HT
    isplitl [HC]; · iexact HC
    isplitl [HB']; · iexact HB'
    iexact HS
  iintro %acc HL
  ihave HL' := (show started c rows y old arg1 d (8 * k0_t1_loop.trips) ⊢ iprop(table c arg1 d ∗ copies c rows y 512 (0 * unitsOf)) from by
    unfold started
    iintro ⟨HT, HC, -, -⟩
    isplitl [HT]; · iexact HT
    rw [Nat.zero_mul]
    iexact HC) $$ HL
  icases HL' with ⟨HT, HC⟩
  sl_for (fun j (_ : Unit) => waited c rows y arg1 d j) $$ [HT HC HO]
  · intro j acc
    show waited c rows y arg1 d j.val ⊢ wp frame (wpE (defs₀ (F := F)) Variants.none c none) Set.univ
      (k0_t2_body i arg1 harg1 arg2 harg2 rowsM harg3 arg4 harg4 arg5 harg5 arg6 harg6 scratch harg7 cc0_scratch1 j acc) (fun _ => waited c rows y arg1 d (j.val + 1))
    rw [trip2]
    exact wait c rows y arg1 d hn j _ _ (off25 j) _ _ _ _ _ chk9 _
  · unfold waited
    rw [if_pos (show 0 < 512 by omega)]
    isplitr; · ipureintro; omega
    isplitl [HT]; · iexact HT
    isplitl [HO]; · iexists _; iexact HO
    iexact HC
  iintro %acc2 HL
  ihave HL' := (show waited c rows y arg1 d k0_t2_loop.trips ⊢ iprop(table c arg1 d ∗ (∃ W, owes (c : Thread nD τ) 0 W)
      ∗ semVal ((c : Thread nD τ), SemLoc.dma counter) 0 ∗ bigSep (Ring.rangeSet 512 0 512) (after c rows y) ∗ bigSep (Ring.rangeSet 512 0 512) (source c rows y)) from by
    rw [← all_handed]
    unfold waited
    rw [if_neg (show ¬ k0_t2_loop.trips < 512 by decide)]
    iintro ⟨-, HT, HO, HD⟩
    isplitl [HT]; · iexact HT
    isplitl [HO]; · iexact HO
    iexact HD) $$ HL
  icases HL' with ⟨HT, HO, Hc, HA, HS⟩
  iapply Hk
  isplitl [HT]; · iexact HT
  isplitl [HA]
  · iapply (Entails.of_eq (by_rows c (gathered c rows y)).symm)
    iexact HA
  isplitl [HK HS HR]
  · iapply (back c rows y)
    isplitl [HK]; · iexact HK
    isplitl [HS]; · iexact HS
    iexact HR
  isplitl [Hc]; · iexact Hc
  iexact HO

end

/-! ## The whole body -/

set_option maxHeartbeats 1000000 in
/-- One call of the body: its stores, as pieces, and its triple. -/
def run (c : Dev nD) (i : grid0.Coords) (arg1 : Memref sig .tc .smem S512 .i32) (harg1 : arg1.IsWhole)
    (x : Memref sig .tc .vmem S512x1024 .f32) (hx : x.IsWhole) (g : Memref sig .tc .vmem S1x1024 .f32) (hg : g.IsWhole)
    (b : Memref sig .tc .vmem S1x1024 .f32) (hb : b.IsWhole) (o : Memref sig .tc .vmem S512x1024 .f32) (ho : o.IsWhole)
    (d : S512.Idx → Elt F .i32) (bx : Vec F S512x1024 .f32) (bg bb : Vec F S1x1024 .f32) (rows : Fin 512 → Fin 17408)
    (y : RowsBuf F c) (hn : Names rows d) :
    { L : List (View.Piece (Elt F) S512x1024 .f32) //
      ∀ (W : Waits sig Unit) (K : PUnit → Asrt F),
        iprop(owns (c : Thread nD τ) arg1 fullShare d ∗ owns (c : Thread nD τ) x fullShare bx ∗ owns (c : Thread nD τ) g fullShare bg
            ∗ owns (c : Thread nD τ) b fullShare bb ∗ (∃ d, owns (c : Thread nD τ) o fullShare d)
            ∗ (∃ d, owns (c : Thread nD τ) scratch fullShare d) ∗ (rowsM.view.loc (c : Thread nD τ) ↦{fullShare} y)
            ∗ semVal ((c : Thread nD τ), SemLoc.dma counter) 0 ∗ owes (c : Thread nD τ) 0 W
            ∗ (iprop(owns (c : Thread nD τ) arg1 fullShare d ∗ owns (c : Thread nD τ) x fullShare bx ∗ owns (c : Thread nD τ) g fullShare bg
                ∗ owns (c : Thread nD τ) b fullShare bb
                ∗ (∃ f, o.view.loc (c : Thread nD τ) ↦[o.view.set]{fullShare} o.view.writes (Elt F) f L)
                ∗ (∃ d, owns (c : Thread nD τ) scratch fullShare d) ∗ (rowsM.view.loc (c : Thread nD τ) ↦{fullShare} y)
                ∗ semVal ((c : Thread nD τ), SemLoc.dma counter) 0 ∗ (∃ W', owes (c : Thread nD τ) 0 W')) -∗ K ⟨⟩))
          ⊢ wp frame (wpE (defs₀ (F := F)) Variants.none c none) Set.univ
            (cc0_moe_combine i arg1 harg1 x hx rowsM (Memref.isWhole_whole _) g hg b hb o ho scratch (Memref.isWhole_whole _) cc0_scratch1) K } := by
  refine ⟨?_, fun W K => ?run⟩
  case run =>
    simp only [cc0_moe_combine_eq_skeleton]; unfold cc0_moe_combine_skel
    simp only [k0_part2_eq_skeleton]; unfold k0_part2_skel
    simp only [Prog.bind_assoc]
    simp only [show ∀ f : ScratchBuf F c, owns (c : Thread nD τ) scratch fullShare f
      = (scratch.view.loc (c : Thread nD τ) ↦{fullShare} f : Asrt F) from fun f => owns_whole _ _ _ _]
    iintro ⟨HT, H0, H1, H2, H3, ⟨%old, HB⟩, HS, Hc, HO, Hk⟩
    iapply (gather c rows y old arg1 d i harg1 x hx (Memref.isWhole_whole _) g hg b hb o ho (Memref.isWhole_whole _) hn W _ _)
    isplitl [HT]; · unfold table; iexact HT
    isplitl [HB]; · iexact HB
    isplitl [HS]; · iexact HS
    isplitl [Hc]; · iexact Hc
    isplitl [HO]; · iexact HO
    iintro ⟨HT, HB, HS, Hc, HO⟩
    unfold owns
    icases H0 with ⟨%f0, %hf0, H0⟩
    icases H1 with ⟨%f1, %hf1, H1⟩
    icases H2 with ⟨%f2, %hf2, H2⟩
    icases H3 with ⟨%d3, %f3, -, H3⟩
    obtain rfl := hx.eq_unread hf0; obtain rfl := hg.eq_unread hf1; obtain rfl := hb.eq_unread hf2
    sl_exec
    sl_step
    iapply Hk
    isplitl [HT]; · unfold table owns; iexact HT
    isplitl [H0]
    · iexists _; isplitr; · ipureintro; exact hx.read_unread _
      iexact H0
    isplitl [H1]
    · iexists _; isplitr; · ipureintro; exact hg.read_unread _
      iexact H1
    isplitl [H2]
    · iexists _; isplitr; · ipureintro; exact hb.read_unread _
      iexact H2
    isplitl [H3]; · iexists _; iexact H3
    isplitl [HB]; · iexists _; iexact HB
    isplitl [HS]; · iexact HS
    isplitl [Hc]; · iexact Hc
    iexact HO

end Cert.CombineIdeal.Gather
-- ==== Proof.Combine.FrameIdeal.lean ====
/- The combining call (over the exact numbers) terminates when the table names rows of the experts' results: its arguments end unchanged, and its
   result is what the body leaves block by block. -/
module

public import proofs.«01_k».proof.Proof.Combine.BodyIdeal
public import proofs.«01_k».proof.Proof.Gen.CombineIdeal.Frame
public import proofs.«01_k».proof.Proof.Gen.CombineIdeal.Points
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp
public import Idealize.ShloMosaic.Lib.StableHlo.ReadAt

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)

namespace Cert.CombineIdeal.Gather

open Cert.CombineIdeal Cert.CombineIdeal.Gen

variable {F : FTy → Type} [FloatOps F]

variable (m : (ℓ : Loc nD τ sig) → Buf (Elt F) ℓ) (ρ : Dev nD → PrngReg)

/-! ## What the launch is given -/

/-- The counter of the body's own copies. -/
abbrev own : Fin 1 → SemLoc sig := fun j => (![SemLoc.dma counter] : Fin 1 → SemLoc sig) j

theorem own_facts : Pipeline.OwnSemFacts spec0 own := by decide

theorem own_held (c : Dev nD) :
    (Pipeline.ownSems0 (Ix := Unit) (Name := ℕ) (U := Pipeline.UD sig nD τ) (Lvl := ℕ) (Val := Elt F) (τ := τ) own c : Asrt F)
      = semVal ((c : Thread nD τ), SemLoc.dma counter) 0 := by
  rw [Pipeline.ownSems0_eq_of_list c own [0] (by decide) (by decide)]; rfl

/-- The experts' results stay where they are. -/
def left : Finset (Ref sig .tc) := {main_arg2}

theorem left_sub : left ⊆ Pipeline.restRefs sig spec0 := by decide

theorem left_held (c : Dev nD) : (bigSep left (fun b => ((c : Thread nD τ).loc b) ↦{fullShare} V m c b) : Asrt F)
    = (rowsM.view.loc (c : Thread nD τ) ↦{fullShare} V m c main_arg2) := by
  rw [BI.bigSep_eq_bigSepL_of_eq [main_arg2] (by decide) (by decide)]; rfl

/-- What the body keeps between two points. -/
theorem between (c : Dev nD) : (Pipeline.ΦD own spec0 left (V m) c : Asrt F)
    = iprop((∃ d, owns (c : Thread nD τ) scratch fullShare d) ∗ (∃ r, prngReg c r) ∗ semVal ((c : Thread nD τ), SemLoc.dma counter) 0
        ∗ (rowsM.view.loc (c : Thread nD τ) ↦{fullShare} V m c main_arg2)) := by
  rw [Pipeline.ΦD_eq, scopedRest0_eq, own_held, left_held]; simp only [scratch, owns_whole]; try rfl

theorem entry (v : Variants) : Pipeline.HMain (Ix := Unit) (Name := ℕ) (U := Pipeline.UD sig nD τ) (Lvl := ℕ) cfgs 0 defs₀ v m
    (main (F := F)) (V m) :=
  Pipeline.hmain_prefix cfgs 0 defs₀ v m main hostOps0 hostOps0_sub hostOps0_fresh main_chain

/-! ## The rows a point names -/

/-- Every entry of the table is the number of a row. -/
def InRows : Prop := ∀ (c : Dev nD) (t : Fin cfg0.N) (i : Fin 512), (iblk m c 0 t (ix1 i : S512.Idx) : BitVec 32).toNat < 17408

def rowsAt (h : InRows m) (c : Dev nD) (t : Fin cfg0.N) : Fin 512 → Fin 17408 := fun i => ⟨_, h c t i⟩

theorem names (h : InRows m) (c : Dev nD) (t : Fin cfg0.N) : Names (F := F) (rowsAt m h c t) (iblk m c 0 t) := fun _ => rfl

/-! ## What a point leaves -/

/-- One whole buffer to read the stores back through. -/
abbrev VO : View sig .tc .vmem S512x1024 .f32 := (Memref.whole cc0_stg4_0 : Memref sig .tc .vmem S512x1024 .f32).view

/-- The stores at a point. -/
abbrev pieces (h : InRows m) (c : Dev nD) (t : Fin cfg0.N) : List (View.Piece (Elt F) S512x1024 .f32) :=
  (run c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (iblk m c 0 t) (X0_1 m c t) (iblk m c 2 t) (iblk m c 3 t)
    (rowsAt m h c t) (V m c main_arg2) (names m h c t)).1

theorem covers (h : InRows m) (c : Dev nD) (t : Fin cfg0.N) (y : S512x1024.Idx) : ∃ pc ∈ pieces m h c t, y ∈ pc.1.set :=
  View.cover_of_tiledL (pieces m h c t) S512x1024.size (by sl_kernel_rfl) y

/-- What a point leaves in its block of the result. -/
def leaves (h : InRows m) (c : Dev nD) (t : Fin cfg0.N) : Vec F S512x1024 .f32 :=
  VO.read (Elt F) (VO.writes (Elt F) VO.junk (pieces m h c t))

/-! ## The pipeline's run -/

/-- What the arrays and the staging buffers hold, point by point. -/
def dats (h : InRows m) (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => leaves m h c t
  Φ _ := Pipeline.ΦD own spec0 left (V m) c
  q _ := fullShare
  owed _ := 0

theorem array (h : InRows m) (c : Dev nD) (w : Fin cfg0.W) : (dats m h 0 c).A w = V m c (Pipeline.arrRef spec0 w) := by
  dsimp only [dats]

theorem after0 (h : InRows m) (c : Dev nD) (t : Fin cfg0.N) : (dats m h 0 c).after 0 t = iblk m c 0 t := by dsimp only [dats]
theorem after1 (h : InRows m) (c : Dev nD) (t : Fin cfg0.N) : (dats m h 0 c).after 1 t = X0_1 m c t := by dsimp only [dats]
theorem after2 (h : InRows m) (c : Dev nD) (t : Fin cfg0.N) : (dats m h 0 c).after 2 t = iblk m c 2 t := by dsimp only [dats]
theorem after3 (h : InRows m) (c : Dev nD) (t : Fin cfg0.N) : (dats m h 0 c).after 3 t = iblk m c 3 t := by dsimp only [dats]
theorem after4 (h : InRows m) (c : Dev nD) (t : Fin cfg0.N) : (dats m h 0 c).after 4 t = leaves m h c t := by dsimp only [dats]

theorem before0 (h : InRows m) (c : Dev nD) (t : Fin cfg0.N) (d) : (dats m h 0 c).before 0 t d = iblk m c 0 t :=
  ((dats m h 0 c).before_in_eq_fetched 0 rfl (fun _ => rfl) (fun _ _ _ => rfl)
    (fun t => by rw [after0]; unfold Dat.blockOf iblk; rw [array]; try rfl) t d).trans
    (by unfold Dat.fetched Dat.blockOf iblk; rw [array]; try rfl)
theorem before1 (h : InRows m) (c : Dev nD) (t : Fin cfg0.N) (d) : (dats m h 0 c).before 1 t d = X0_1 m c t :=
  ((dats m h 0 c).before_in_eq_fetched 1 rfl (fun _ => rfl)
    (fun t t' h => funext fun a => congrArg (fun n => Pipeline.Clip.of n ((cfg0.win 1).size a) (S16384x1152.size a)) (congrFun h a))
    (fun t => by rw [after1]; unfold X0_1; rw [Pipeline.Window.cut_fill]; unfold Dat.blockOf iblk; rw [array]; try rfl) t d).trans
    (by unfold Dat.fetched X0_1; rw [fill0_1 t d dflt0_1]; unfold Dat.blockOf iblk; rw [array]; try rfl)
theorem before2 (h : InRows m) (c : Dev nD) (t : Fin cfg0.N) (d) : (dats m h 0 c).before 2 t d = iblk m c 2 t :=
  ((dats m h 0 c).before_in_eq_fetched 2 rfl (fun _ => rfl) (fun _ _ _ => rfl)
    (fun t => by rw [after2]; unfold Dat.blockOf iblk; rw [array]; try rfl) t d).trans
    (by unfold Dat.fetched Dat.blockOf iblk; rw [array]; try rfl)
theorem before3 (h : InRows m) (c : Dev nD) (t : Fin cfg0.N) (d) : (dats m h 0 c).before 3 t d = iblk m c 3 t :=
  ((dats m h 0 c).before_in_eq_fetched 3 rfl (fun _ => rfl) (fun _ _ _ => rfl)
    (fun t => by rw [after3]; unfold Dat.blockOf iblk; rw [array]; try rfl) t d).trans
    (by unfold Dat.fetched Dat.blockOf iblk; rw [array]; try rfl)

theorem leaves_in0 (h : InRows m) (c : Dev nD) (t : Fin cfg0.N) :
    (dats m h 0 c).leavesExact 0 t = owns (c : Thread nD τ) (st0_0 t) fullShare (iblk m c 0 t) := by
  rw [← after0 m h]
theorem leaves_in1 (h : InRows m) (c : Dev nD) (t : Fin cfg0.N) :
    (dats m h 0 c).leavesExact 1 t = owns (c : Thread nD τ) (st0_1 t) fullShare (X0_1 m c t) := by
  rw [← after1 m h]
theorem leaves_in2 (h : InRows m) (c : Dev nD) (t : Fin cfg0.N) :
    (dats m h 0 c).leavesExact 2 t = owns (c : Thread nD τ) (st0_2 t) fullShare (iblk m c 2 t) := by
  rw [← after2 m h]
theorem leaves_in3 (h : InRows m) (c : Dev nD) (t : Fin cfg0.N) :
    (dats m h 0 c).leavesExact 3 t = owns (c : Thread nD τ) (st0_3 t) fullShare (iblk m c 3 t) := by
  rw [← after3 m h]
theorem leaves_out (h : InRows m) (c : Dev nD) (t : Fin cfg0.N) :
    (dats m h 0 c).leavesExact 4 t = owns (c : Thread nD τ) (st0_4 t) fullShare (leaves m h c t) := by
  rw [← after4 m h]

/-- What the body is given at a point, -/
def given (h : InRows m) (c : Dev nD) (t : Fin cfg0.N) : Asrt F :=
  iprop((dats m h 0 c).Φ t.castSucc ∗ (dats m h 0 c).owesAt () t.castSucc
    ∗ (∃ d, owns (c : Thread nD τ) (st0_0 t) fullShare ((dats m h 0 c).before 0 t d))
    ∗ (∃ d, owns (c : Thread nD τ) (st0_1 t) fullShare ((dats m h 0 c).before 1 t d))
    ∗ (∃ d, owns (c : Thread nD τ) (st0_2 t) fullShare ((dats m h 0 c).before 2 t d))
    ∗ (∃ d, owns (c : Thread nD τ) (st0_3 t) fullShare ((dats m h 0 c).before 3 t d))
    ∗ (∃ d, owns (c : Thread nD τ) (st0_4 t) fullShare ((dats m h 0 c).before 4 t d)))

/-- and what it returns. -/
def returned (h : InRows m) (c : Dev nD) (t : Fin cfg0.N) : Asrt F :=
  iprop((dats m h 0 c).Φ t.succ ∗ (dats m h 0 c).owesAt () t.succ
    ∗ (dats m h 0 c).leavesExact 0 t ∗ (dats m h 0 c).leavesExact 1 t ∗ (dats m h 0 c).leavesExact 2 t
    ∗ (dats m h 0 c).leavesExact 3 t ∗ (dats m h 0 c).leavesExact 4 t)

set_option maxHeartbeats 800000 in
/-- The body at any point. -/
theorem body (h : InRows m) (c : Dev nD) (t : Fin cfg0.N) :
    given m h c t ⊢ wp frame (wpE (defs₀ (F := F)) Variants.none c none) Set.univ (bodyAt0 t) (fun _ => returned m h c t) := by
  unfold given returned bodyAt0
  simp only [before0, before1, before2, before3]
  rw [show (dats m h 0 c).Φ t.succ = (dats m h 0 c).Φ t.castSucc from rfl,
    show (dats m h 0 c).owesAt () t.succ = (dats m h 0 c).owesAt () t.castSucc from rfl,
    show (dats m h 0 c).Φ t.castSucc = Pipeline.ΦD own spec0 left (V m) c from rfl, between,
    leaves_in0, leaves_in1, leaves_in2, leaves_in3, leaves_out]
  unfold Dat.owesAt Pipeline.owesWithin
  rw [show (dats m h 0 c).owed t.castSucc = 0 from rfl]
  iintro ⟨⟨HB, Hg, Hc, HS⟩, ⟨%W, %hW, HO⟩, ⟨%d0, H0⟩, ⟨%d1, H1⟩, ⟨%d2, H2⟩, ⟨%d3, H3⟩, ⟨%d4, H4⟩⟩
  iapply ((run c (grid0.coords t) _ _ _ _ _ _ _ _ _ _ (iblk m c 0 t) (X0_1 m c t) (iblk m c 2 t) (iblk m c 3 t)
    (rowsAt m h c t) (V m c main_arg2) (names m h c t)).2 W _)
  isplitl [H0]; · iexact H0
  isplitl [H1]; · iexact H1
  isplitl [H2]; · iexact H2
  isplitl [H3]; · iexact H3
  isplitl [H4]; · iexists _; iexact H4
  isplitl [HB]; · iexact HB
  isplitl [HS]; · iexact HS
  isplitl [Hc]; · iexact Hc
  isplitl [HO]; · iexact HO
  iintro ⟨H0, H1, H2, H3, ⟨%e4, H4⟩, HB, HS, Hc, ⟨%W', HO⟩⟩
  isplitl [HB Hg Hc HS]
  · isplitl [HB]; · iexact HB
    isplitl [Hg]; · iexact Hg
    isplitl [Hc]; · iexact Hc
    iexact HS
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  unfold leaves owns; iexists _; isplitr
  swap; · iexact H4
  ipureintro; exact View.read_writes_of_cover _ _ _ _ _ (covers m h c t)

theorem row (t : Fin cfg0.N) : defs₀ (F := F) .tc cfg0.body (cfg0.bodyArgs t (cfg0.slots t)) = bodyAt0 t := by
  unfold defs₀; rw [Defs.onTc_tc]

theorem obligation (h : InRows m) (c : Dev nD) :
    BodyObligation (dats (F := F) m h 0 c) (defs₀ (F := F)) Variants.none () Set.univ := fun t => by
  rw [bigSep_W0, bigSep_W0, row]
  exact triple_restated (body m h c t) rfl .rfl fun _ => .rfl

set_option backward.isDefEq.respectTransparency.types false in
/-- The launch, with every counter at zero at the end. -/
theorem launch (h : InRows m) : θ_run defs (onTc (τ := τ) (main (F := F))) (s₀ m ρ)
    (fun r => Pipeline.FramePost cfgs (dats m h) 0 (V m) r ∧ r.2.sem = fun _ => 0) :=
  Pipeline.θ_run_frame_dma (Q' := _) cfgs (dats m h) (0 : Fin 1) launch0 own defs₀ Variants.none own_facts left left_sub m ρ main
    (hbody := fun c => (obligation m h c).loose) (hshare := fun c => (dats m h 0 c).share_full fun _ => rfl)
    (howed := fun _ _ => rfl) (V := V m) (hmain := entry m Variants.none) (hA := array m h)
    (hin := fun _ => .rfl) (hout := fun _ => .rfl)

/-- The run: the result's array is what the points leave in it, the arguments end unchanged, the counters end at zero. -/
theorem call (h : InRows m) : θ_run defs (onTc (τ := τ) (main (F := F))) ⟨m, fun _ => 0, ρ⟩ (fun r => (∀ c : Dev nD,
      r.2.mem ((c.tc : Thread nD τ).loc main_v2) = (dats m h 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ hr => ⟨fun c => ⟨(hr.1 c).1 4,
      ((hr.1 c).1 0).trans (((dats m h 0 c).arrAt_in 0 rfl _).trans ((array m h c 0).trans (V_main_arg0 m c))),
      ((hr.1 c).1 1).trans (((dats m h 0 c).arrAt_in 1 rfl _).trans ((array m h c 1).trans (V_main_arg1 m c))),
      ((hr.1 c).2 main_arg2 (Pipeline.mem_restRefs_of main_arg2 (by decide) (by decide))).trans (V_main_arg2 m c),
      ((hr.1 c).2 main_arg3 (Pipeline.mem_restRefs_of main_arg3 (by decide) (by decide))).trans (V_main_arg3 m c),
      ((hr.1 c).2 main_arg4 (Pipeline.mem_restRefs_of main_arg4 (by decide) (by decide))).trans (V_main_arg4 m c)⟩,
    hr.2⟩) (launch m ρ h)

end Cert.CombineIdeal.Gather
-- ==== Proof.Combine.TablesIdeal.lean ====
/- The table of the combining call (over the exact numbers): every entry a point reads is an entry of the argument, so with the argument's entries in
   range every copy names a row of the experts' results. -/
module

public import proofs.«01_k».proof.Defs
public import proofs.«01_k».proof.Proof.Combine.FrameIdeal
public import proofs.«01_k».proof.Proof.Gen.Pre_in_rows
public import Idealize.ShloMosaic.Lib.Pipeline.ValueKit
public import Idealize.ShloMosaic.Lib.StableHlo.Predicate

@[expose] public section

noncomputable section

open Idealize.ShloMosaic Idealize.ShloMosaic.TcCoe Idealize.SL.Sem

namespace Cert.CombineIdeal.Gather

open Cert.CombineIdeal Cert.CombineIdeal.Gen

/-- A word that is at least zero and less than 17408, read signed, is the number of a row. -/
theorem small (w : BitVec 32) (h : IntOp.andi (IntOp.cmpi .sge w 0#32) (IntOp.cmpi .slt w 17408#32) = 1#1) : w.toNat < 17408 := by
  have h' : ((0#32).sle w && w.slt 17408#32) = true := by
    revert h
    simp only [IntOp.andi, IntOp.cmpi]
    cases (0#32).sle w <;> cases w.slt 17408#32 <;> decide
  have h1 := BitVec.sle_iff_toInt_le.mp (Bool.and_eq_true_iff.mp h').1
  have h2 := BitVec.slt_iff_toInt_lt.mp (Bool.and_eq_true_iff.mp h').2
  rw [show (0#32 : BitVec 32).toInt = 0 from rfl] at h1
  rw [show (17408#32 : BitVec 32).toInt = 17408 from rfl] at h2
  have h3 := w.isLt
  rw [BitVec.toInt_eq_toNat_cond] at h1 h2
  split at h1 <;> omega

/-- Point `t` reads the table's block `t` and the residual rows' block `t`, the whole of the scale and the shift, and writes
    the result's row block `t`. -/
theorem idx : ∀ t : Fin cfg0.N, win0_0.index t = ![t.val] ∧ win0_1.index t = ![t.val, 0] ∧ win0_2.index t = ![0, 0]
    ∧ win0_3.index t = ![0, 0] ∧ win0_4.index t = ![t.val, 0] :=
  (by decide +kernel : ∀ t : Fin grid0.N, _)

/-- Row `p` of block `t`. -/
abbrev rowOf (t : Fin cfg0.N) (p : Fin 512) : Fin 16384 :=
  ⟨t.val * 512 + p.val, by have := t.isLt; have := N_0; have : cfg0.N = grid0.N := rfl; omega⟩

section
variable {F : FTy → Type} [FloatOps F] (m : (ℓ : Loc nD τ sig) → Buf (Elt F) ℓ)

/-- The table, as the call is given it. -/
abbrev place (c : Dev nD) : (⟨S16384, .i32⟩ : BufTy).Contents (Elt F) := m ((c : Thread nD τ).loc main_arg0)

/-- A point's entries are the table's. -/
theorem blk0 (c : Dev nD) (t : Fin cfg0.N) (p : Fin 512) : iblk m c 0 t (ix1 p) = place m c (ix1 (rowOf t p)) := by
  unfold place
  rw [← V_main_arg0 m c]
  blk_ext [iblk, idx t]

end

/-- The assumption puts every entry in range. -/
theorem in_range (m : (ℓ : Loc nD τ sig) → Buf (Elt Ideal) ℓ) (h : Cert.Pre_CombineIdeal m) (c : Dev nD) (r : Fin 16384) :
    (place m c (ix1 r) : BitVec 32).toNat < 17408 :=
  small _ (congrFun (h c) (ix1 r))

theorem in_rows (m : (ℓ : Loc nD τ sig) → Buf (Elt Ideal) ℓ) (h : Cert.Pre_CombineIdeal m) : InRows m := fun c t i => by
  rw [blk0]
  exact in_range m h c _

end Cert.CombineIdeal.Gather

end
-- ==== Proof.Combine.Combined.lean ====
/- The layer's last residual step as mathematics: a row's residual stream, scaled, joined with the row of the experts' results
   that its table entry names, and normalised. -/
module

public import proofs.«01_k».proof.Proof.Mixer

@[expose] public section

noncomputable section

open Idealize.ShloMosaic

namespace Cert.Layer

variable (d : IVec ⟨1, ![16384]⟩ 32) (x : FVec Ideal ⟨2, ![16384, 1152]⟩ .f32) (y : FVec Ideal ⟨2, ![17408, 1024]⟩ .f32)
  (g b : FVec Ideal ⟨1, ![1024]⟩ .f32)

/-- The row of the experts' results that row `r`'s table entry names. -/
def named (r : Fin 16384) : Fin 17408 := ⟨(d (ix1 r)).toNat % 17408, Nat.mod_lt _ (by decide)⟩

/-- Number `i` of row `r` before its normalisation. -/
def joined (r : Fin 16384) (i : Fin 1024) : EReal :=
  Ideal.ofBits .f32 1071072509#32 * x (ix2 r ⟨i.val, by omega⟩) + y (ix2 (named d r) i)

/-- Number `i` of row `r` of the layer's result. -/
def combined (r : Fin 16384) (i : Fin 1024) : EReal := normed (joined d x y r) i * g (ix1 i) + b (ix1 i)

end Cert.Layer

end
-- ==== Proof.Combine.Kernel.lean ====
/- The combining call for the prompt as the kernel computes it: the grid's 32 points take 512 rows each, and a point's block
   of the experts' results is gathered row by row. -/
module

public import proofs.«01_k».proof.Proof.Combine.TablesIdeal
public import proofs.«01_k».proof.Proof.Combine.Combined
public import Idealize.ShloMosaic.Lib.Pipeline.ValueKit
public import Idealize.ShloMosaic.Lib.StableHlo.ReadAt

@[expose] public section

noncomputable section

open Idealize.ShloMosaic Idealize.ShloMosaic.TcCoe Idealize.SL.Sem Cert.Layer

namespace Cert.CombineIdeal.Blocks

open Cert.CombineIdeal Cert.CombineIdeal.Gen Cert.CombineIdeal.Gather

variable (m : (ℓ : Loc nD τ sig) → Buf (Elt Ideal) ℓ)

/-- The residual stream, as the call is given it. -/
abbrev stream (c : Dev nD) : FVec Ideal ⟨2, ![16384, 1152]⟩ .f32 := m ((c : Thread nD τ).loc main_arg1)

/-- The experts' results. -/
abbrev expertRows (c : Dev nD) : FVec Ideal ⟨2, ![17408, 1024]⟩ .f32 := m ((c : Thread nD τ).loc main_arg2)

/-- The normalisation's scale. -/
abbrev scale (c : Dev nD) : FVec Ideal ⟨1, ![1024]⟩ .f32 := m ((c : Thread nD τ).loc main_arg3)

/-- The normalisation's shift. -/
abbrev shift (c : Dev nD) : FVec Ideal ⟨1, ![1024]⟩ .f32 := m ((c : Thread nD τ).loc main_arg4)

/-! ## The arrays the host code prepares -/

theorem scale_row (c : Dev nD) (j : Fin 1024) : V m c main_v0 (ix2 0 j) = scale m c (ix1 j) := by
  unfold V
  after_reads_at

theorem shift_row (c : Dev nD) (j : Fin 1024) : V m c main_v1 (ix2 0 j) = shift m c (ix1 j) := by
  unfold V
  after_reads_at

/-! ## The blocks -/

theorem blk1 (c : Dev nD) (t : Fin cfg0.N) (p : Fin 512) (k : Fin 1024) :
    X0_1 m c t (ix2 p k) = stream m c (ix2 (rowOf t p) ⟨k.val, by omega⟩) := by
  unfold stream X0_1 Pipeline.Window.fill
  rw [dif_pos (moved0_1 t _), ← V_main_arg1 m c]
  blk_ext [iblk, idx t]

theorem blk2 (c : Dev nD) (t : Fin cfg0.N) (j : Fin 1024) : iblk m c 2 t (ix2 0 j) = scale m c (ix1 j) := by
  rw [← scale_row m c]
  blk_ext [iblk, idx t]

theorem blk3 (c : Dev nD) (t : Fin cfg0.N) (j : Fin 1024) : iblk m c 3 t (ix2 0 j) = shift m c (ix1 j) := by
  rw [← shift_row m c]
  blk_ext [iblk, idx t]

/-! ## The body, for any blocks -/

/-- The row before its normalisation, from a point's blocks. -/
def joinedOf (x y : Vec Ideal S512x1024 .f32) (p : Fin 512) (i : Fin 1024) : EReal :=
  Ideal.ofBits .f32 1071072509#32 * x (ix2 p i) + y (ix2 p i)

/-- The normalised row. -/
theorem norm_apply (x y : Vec Ideal S512x1024 .f32) (g b : Vec Ideal S1x1024 .f32) (p : Fin 512) (i : Fin 1024) :
    k0_pay1 x y g b (ix2 p i) = normed (joinedOf x y p) i * g (ix2 0 i) + b (ix2 0 i) := by
  pointwise [k0_pay1]
  rfl

/-! ## The result -/

/-- What a point leaves in its block of the result. -/
theorem leaves_apply (h : InRows m) (c : Dev nD) (t : Fin cfg0.N) (p : Fin 512) (i : Fin 1024) :
    leaves m h c t (ix2 p i)
      = normed (joinedOf (X0_1 m c t) (gathered c (rowsAt m h c t) (V m c main_arg2)) p) i
        * iblk m c 2 t (ix2 0 i) + iblk m c 3 t (ix2 0 i) := by
  unfold leaves pieces run
  dsimp only
  frame_out
  rw [View.read_whole]
  exact norm_apply _ _ _ _ p i

/-- The row a point gathers into row `p` of its block. -/
theorem gathered_apply (h : InRows m) (c : Dev nD) (t : Fin cfg0.N) (p : Fin 512) (i : Fin 1024) :
    (gathered c (rowsAt m h c t) (V m c main_arg2) : Vec Ideal S512x1024 .f32) (ix2 p i)
      = expertRows m c (ix2 (named (place m c) (rowOf t p)) i) := by
  have e : rowsAt m h c t p = named (place m c) (rowOf t p) :=
    Fin.ext ((Nat.mod_eq_of_lt (h c t p)).symm.trans (congrArg (fun w : BitVec 32 => w.toNat % 17408) (blk0 m c t p)))
  rw [← e]
  unfold expertRows
  rw [← V_main_arg2 m c]
  rfl

/-- Every block of the result is written back, -/
theorem flushes : ∀ t : Fin cfg0.N, (cfg0.win 4).flush t = true := flush0_4

/-- no two of them meet, -/
theorem apart (t t' : Fin cfg0.N) (hne : t ≠ t') :
    Disjoint ((cfg0.win 4).blk t).view.set ((cfg0.win 4).blk t').view.set :=
  (cfg0.win 4).disjoint_blk fun e => hne ((by decide +kernel : ∀ t t' : Fin grid0.N,
    win0_4.index t = win0_4.index t' → t = t') t t' e)

/-- so each holds what its point left. -/
theorem block_final (h : InRows m) (c : Dev nD) (t : Fin cfg0.N) (p : Fin 512) (i : Fin 1024) :
    ((dats m h 0 c).arrAt 4 cfg0.N : FVec Ideal S16384x1024 .f32) (ix2 (rowOf t p) i) = leaves m h c t (ix2 p i) := by
  have key := congrFun ((dats m h 0 c).read_blk_arrAt_eq_flushed 4 (fun t t' _ _ hne => apart t t' hne) cfg0.N t t.isLt
    (flushes t)) (ix2 p i)
  refine Eq.trans ?_ (key.trans (congrFun (after4 m h c t) (ix2 p i)))
  generalize (dats m h 0 c).arrAt 4 cfg0.N = R
  refine congrArg (R : FVec Ideal S16384x1024 .f32) ?_
  blk_ext [idx t]

/-- The result array is `combined` of the arguments. -/
theorem final (h : InRows m) (c : Dev nD) (r : Fin 16384) (i : Fin 1024) :
    ((dats m h 0 c).arrAt 4 cfg0.N : FVec Ideal S16384x1024 .f32) (ix2 r i)
      = combined (place m c) (stream m c) (expertRows m c) (scale m c) (shift m c) r i := by
  obtain ⟨t, p, rfl⟩ : ∃ (t : Fin cfg0.N) (p : Fin 512), r = rowOf t p :=
    ⟨⟨r.val / 512, by have := N_0; have : cfg0.N = grid0.N := rfl; omega⟩, ⟨r.val % 512, by omega⟩,
      Fin.ext (by dsimp only; omega)⟩
  refine (block_final m h c t p i).trans ((leaves_apply m h c t p i).trans ?_)
  have e : joinedOf (X0_1 m c t) (gathered c (rowsAt m h c t) (V m c main_arg2)) p
      = joined (place m c) (stream m c) (expertRows m c) (rowOf t p) := by
    funext i
    unfold joinedOf joined
    rw [blk1, gathered_apply]
  rw [e, blk2, blk3]
  rfl

end Cert.CombineIdeal.Blocks

end
-- ==== Proof.Combine.Reference.lean ====
/- The reference of the combining call for the prompt, stage by stage at an index, ending at `Cert.Layer.combined` wherever the
   table's entry is the number of a row. -/
module

public import proofs.«01_k».proof.Proof.Gen.CombineReferenceIdeal.Read
public import proofs.«01_k».proof.Proof.Combine.Combined

@[expose] public section

noncomputable section

open Idealize.ShloMosaic Idealize.ShloMosaic.TcCoe Idealize.SL.Sem Cert.Layer

namespace Cert.CombineReferenceIdeal.Stages

open Cert.CombineReferenceIdeal Cert.CombineReferenceIdeal.Gen Cert.CombineReferenceIdeal.Read

/-! ## The gather, for any operands -/

/-- Row `r` of the gather is the row its index names, read signed and brought into range. -/
theorem gather_row (y : FVec Ideal S17408x1024 .f32) (k : IVec S16384x1 32) (r : Fin 16384) (i : Fin 1024) :
    Host.gather gather_S17408x1024_S16384x1_S16384x1024_1_0_n_n_0_1_11024 y k (ix2 r i)
      = y (ix2 ⟨min (k (ix2 r 0)).toInt.toNat 17407, by omega⟩ i) := by
  unfold Host.gather
  refine congrArg y (funext fun a => Fin.ext ?_)
  show gather_S17408x1024_S16384x1_S16384x1024_1_0_n_n_0_1_11024.start (ix2 r i) k a
      + gather_S17408x1024_S16384x1_S16384x1024_1_0_n_n_0_1_11024.batchCoord (ix2 r i) a
      + gather_S17408x1024_S16384x1_S16384x1024_1_0_n_n_0_1_11024.offCoord (ix2 r i) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (fun h => by simp [gather_S17408x1024_S16384x1_S16384x1024_1_0_n_n_0_1_11024] at h),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S17408x1024_S16384x1_S16384x1024_1_0_n_n_0_1_11024.startIndexMap from
      List.mem_singleton.mpr rfl)]
    have hsi : gather_S17408x1024_S16384x1_S16384x1024_1_0_n_n_0_1_11024.siIdx (ix2 r i)
        ⟨List.idxOf (0 : Fin 2) gather_S17408x1024_S16384x1_S16384x1024_1_0_n_n_0_1_11024.startIndexMap,
          List.idxOf_lt_length_iff.2 (List.mem_singleton.mpr rfl)⟩ = ix2 r 0 := by
      funext b; refine Fin.ext ?_
      match b with
      | ⟨0, _⟩ => rfl
      | ⟨1, _⟩ => rfl
    rw [hsi]
    rfl
  · rw [GatherDims.batchCoord_eq_zero _ _ _ (fun h => by simp [gather_S17408x1024_S16384x1_S16384x1024_1_0_n_n_0_1_11024] at h)]
    unfold GatherDims.start
    rw [dif_neg (show ¬ (1 : Fin 2) ∈ gather_S17408x1024_S16384x1_S16384x1024_1_0_n_n_0_1_11024.startIndexMap from by decide)]
    simp only [Nat.zero_add, Nat.add_zero]
    rfl

/-- A number in range, read signed, is itself, and is not negative. -/
theorem in_range (w : BitVec 32) (h : w.toNat < 17408) : min w.toInt.toNat 17407 = w.toNat % 17408
    ∧ IntOp.cmpi .slt w 0#32 = 0#1 := by
  have e : w.toInt = w.toNat := by
    rw [BitVec.toInt_eq_toNat_cond, if_pos (by omega)]
  refine ⟨by rw [e, Nat.mod_eq_of_lt h]; omega, ?_⟩
  have hs : w.slt 0#32 = false := by
    rw [BitVec.slt_eq_decide, decide_eq_false_iff_not, e]
    exact fun h' => absurd h' (by simp)
  simp only [IntOp.cmpi, hs]
  rfl

/-! ## The stages -/

variable (x0 : (⟨S16384, .i32⟩ : BufTy).Contents (Elt Ideal)) (x1 : (⟨S16384x1152, .f32⟩ : BufTy).Contents (Elt Ideal))
  (x2 : (⟨S17408x1024, .f32⟩ : BufTy).Contents (Elt Ideal)) (x3 x4 : (⟨S1024, .f32⟩ : BufTy).Contents (Elt Ideal))

/-- The index the gather is given at row `r`. -/
theorem index (r : Fin 16384) (h : (x0 (ix1 r) : BitVec 32).toNat < 17408) :
    val_main_v8 (F := Ideal) x0 (ix2 r 0) = x0 (ix1 r) := by
  have e : idx_main_v8 (ix2 r 0) = ix1 r := funext fun a => match a with | ⟨0, _⟩ => rfl
  rw [val_main_v8_apply, e, val_main_v7_apply, val_main_v4_apply, val_main_v3_apply, val_main_c_apply, (in_range _ h).2]
  rfl

/-- The row before its normalisation. -/
theorem before (r : Fin 16384) (h : (x0 (ix1 r) : BitVec 32).toNat < 17408) (i : Fin 1024) :
    val_main_v10 (F := Ideal) x0 x1 x2 (ix2 r i) = joined x0 x1 x2 r i := by
  rw [val_main_v10_apply, val_main_v2_apply, val_main_v1_apply, val_main_cst_apply, val_main_v0_apply, add_spelt, mul_spelt]
  unfold val_main_v9 joined
  rw [gather_row]
  refine congrArg₂ (· + ·) (congrArg (_ * ·) (congrArg x1 (funext fun a => match a with | ⟨0, _⟩ => rfl | ⟨1, _⟩ => rfl)))
    (congrArg (fun k => x2 (ix2 k i)) (Fin.ext
      ((congrArg (fun w : BitVec 32 => min w.toInt.toNat 17407) (index x0 r h)).trans (in_range _ h).1)))

/-- The reference's result. -/
theorem result (r : Fin 16384) (h : (x0 (ix1 r) : BitVec 32).toNat < 17408) (i : Fin 1024) :
    val_main_v34 (F := Ideal) x0 x1 x2 x3 x4 (ix2 r i) = combined x0 x1 x2 x3 x4 r i := by
  pointwise [val_main_v34, val_main_v33, val_main_v32, val_main_v31, val_main_v30, val_main_v29, val_main_v28, val_main_v27,
    val_main_v26, val_main_v25, val_main_v24, val_main_v23, val_main_v22, val_main_v21, val_main_v20, val_main_v19,
    val_main_v18, val_main_v17, val_main_v16, val_main_v15, val_main_v14, val_main_v13, val_main_v12, val_main_v11,
    val_main_cst_1, val_main_cst_2, val_main_cst_3, val_main_cst_4, val_main_cst_5]
  simp only [before x0 x1 x2 r h]
  rfl

end Cert.CombineReferenceIdeal.Stages

end
-- ==== Proof.Combine.Claims.lean ====
/- The combining call for the prompt: the frames of the kernel, its exact-number twin and the reference, and, over the exact
   numbers, that the kernel's result is the reference's at every row and column. -/
module

public import proofs.«01_k».proof.Defs
public import proofs.«01_k».proof.Proof.Combine.Tables
public import proofs.«01_k».proof.Proof.Combine.Kernel
public import proofs.«01_k».proof.Proof.Combine.Reference
public import proofs.«01_k».proof.Proof.Gen.CombineReferenceIdeal.Run
public import proofs.«01_k».proof.Proof.Gen.CombineReferenceIdeal.Read

@[expose] public section

noncomputable section

open Idealize.ShloMosaic Idealize.SL.Sem Cert.Layer

namespace Cert.CombineClaims

/-! ## The frames -/

/-- The kernel, with every entry of the table in range. -/
theorem kernel : Cert.quiescent_Combine := fun m ρ h =>
  (θ_run Cert.Combine.defs _ _).mono (fun _ hr => ⟨fun c => (hr.1 c).2, hr.2⟩)
    (Cert.Combine.Gather.call m ρ (Cert.Combine.Gather.in_rows m h))

/-- Its exact-number twin. -/
theorem twin : Cert.quiescent_CombineIdeal := fun m ρ h =>
  (θ_run Cert.CombineIdeal.defs _ _).mono (fun _ hr => ⟨fun c => (hr.1 c).2, hr.2⟩)
    (Cert.CombineIdeal.Gather.call m ρ (Cert.CombineIdeal.Gather.in_rows m h))

/-- The reference, -/
theorem reference : Cert.quiescent_CombineReferenceIdeal := fun m ρ _ =>
  (θ_run Cert.CombineReferenceIdeal.defs _ _).mono
    (fun r h => ⟨fun c => (h c).2, Idealize.ShloMosaic.sem_eq_zero_of_no_sems (by decide) r.2⟩)
    (Cert.CombineReferenceIdeal.Value.run (F := Ideal) m ρ)

/-- also under the twin's assumption. -/
theorem reference_too : Cert.quiescent_CombineReferenceIdeal_pre_in_rows := fun m ρ _ =>
  reference m ρ trivial

/-! ## The value -/

/-- The kernel's result array is the reference's. -/
theorem algebraic : Cert.algebraic_CombineIdeal_CombineReferenceIdeal := by
  intro m g m' g' h hagree
  have hn := Cert.CombineIdeal.Gather.in_rows m h
  refine ⟨fun c => (Cert.CombineIdeal.Gather.dats m hn 0 c).arrAt 4 Cert.CombineIdeal.cfg0.N, ?_, ?_⟩
  · exact (θ_run Cert.CombineIdeal.defs _ _).mono (fun _ hr c => hr.1 c) (Cert.CombineIdeal.Gather.call m g hn)
  · refine (θ_run Cert.CombineReferenceIdeal.defs _ _).mono (fun _ hr c => ⟨(hr c).1.trans ?_, (hr c).2⟩)
      (Cert.CombineReferenceIdeal.Value.run m' g')
    obtain ⟨h0, h1, h2, h3, h4⟩ := hagree c
    rw [Cert.CombineReferenceIdeal.Read.val_main_v34_eq, h0, h1, h2, h3, h4]
    funext i
    obtain ⟨r, d, rfl⟩ : ∃ (r : Fin 16384) (d : Fin 1024), i = ix2 r d := ⟨i 0, i 1, eq_ix2 i⟩
    exact (Cert.CombineReferenceIdeal.Stages.result _ _ _ _ _ r (Cert.CombineIdeal.Gather.in_range m h c r) d).trans
      (Cert.CombineIdeal.Blocks.final m hn c r d).symm

end Cert.CombineClaims

end
-- ==== Proof.ExpertsS.RunIdeal.lean ====
/- One call of the grouped experts' body for the sample batch (over the exact numbers): what it leaves in the result's block. The tile count read from the second
   table decides which of the two branches runs, so there is one triple for each. -/
module

public import proofs.«01_k».proof.Proof.Gen.ExpertsSIdeal.Launch
public import proofs.«01_k».proof.Proof.Gen.ExpertsSIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.StableHlo.ReadAt

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)

namespace Cert.ExpertsSIdeal.Grouped

open Cert.ExpertsSIdeal Cert.ExpertsSIdeal.Gen

variable {F : FTy → Type} [FloatOps F]

/-- Assertions about the machine's state. -/
abbrev Asrt (F : FTy → Type) : Type _ := sProp (MT nD τ sig Unit (Elt F) ℕ (UR sig nD τ) ℕ)

/-- The tiles' groups, and the count of tiles in use, as the body is handed them. -/
abbrev groups : Memref sig .tc .smem S5 .i32 := Memref.whole main_arg0
abbrev count : Memref sig .tc .smem S1 .i32 := Memref.whole main_arg1

/-- A table's contents on a core. -/
abbrev TableBuf (F : FTy → Type) (c : Dev nD) {S : Shape} {e : EltTy} (M : Memref sig .tc .smem S e) : Type :=
  Buf (Elt F) (M.view.loc (c : Thread nD τ))

/-- A table held for reading: the other half of it stays with the pipeline. -/
abbrev tableHeld (c : Dev nD) {S : Shape} {e : EltTy} (M : Memref sig .tc .smem S e) (f : TableBuf F c M) : Asrt F :=
  M.view.loc (c : Thread nD τ) ↦{fullShare.right} f

/-- The word the body reads from the second table: the count of tiles in use. -/
abbrev word (c : Dev nD) (n : TableBuf F c count) : Elt F .i32 :=
  View.readAt (Elt F) count.view (Rect.unit (s := S1) ![0] S1.size inb_S1_S1_0).toLoadRect n
    (Shape.Idx.first (numel1_S1.symm ▸ Nat.one_pos))

/-- It is the table's one entry. -/
theorem word_eq (c : Dev nD) (n : TableBuf F c count) :
    word c n = (n : (⟨S1, .i32⟩ : BufTy).Contents (Elt F)) (ix1 (0 : Fin 1)) := by
  refine congrArg (n : (⟨S1, .i32⟩ : BufTy).Contents (Elt F)) (funext fun a => ?_)
  obtain rfl : a = (0 : Fin 1) := Subsingleton.elim (α := Fin 1) _ _
  exact Subsingleton.elim (α := Fin 1) _ _

/-- A condition of the body is a comparison carried through a word. -/
theorem through_word : ∀ b : Bool, IntOp.cmpi .ne ((BitVec.ofBool b).setWidth 32) 0#32 = 1#1 ↔ b = true := by decide

/-- The first branch is taken at a tile before the count. -/
theorem used_iff (i : grid0.Coords) (w : BitVec 32) :
    k0_cond1 i w = 1#1 ↔ (BitVec.ofNat 32 (i 0).val).toInt < w.toInt :=
  (through_word ((BitVec.ofNat 32 (i 0).val).slt w)).trans BitVec.slt_iff_toInt_lt

/-- The second at a tile from the count on. -/
theorem unused_iff (i : grid0.Coords) (w : BitVec 32) :
    k0_cond2 i w = 1#1 ↔ w.toInt ≤ (BitVec.ofNat 32 (i 0).val).toInt :=
  (through_word (w.sle (BitVec.ofNat 32 (i 0).val))).trans BitVec.sle_iff_toInt_le

/-- So exactly one of them is taken. -/
theorem branches (i : grid0.Coords) (w : BitVec 32) : k0_cond2 i w = 1#1 ↔ ¬ k0_cond1 i w = 1#1 := by
  rw [unused_iff, used_iff, not_lt]

set_option maxHeartbeats 1000000 in
/-- A tile in use: the stores of the body, as pieces, and its triple. -/
def runUsed (c : Dev nD) (i : grid0.Coords) (x : Memref sig .tc .vmem S128x1152 .f32) (hx : x.IsWhole)
    (wg : Memref sig .tc .vmem S1x4x1024x512 .bf16) (hwg : wg.IsWhole) (wu : Memref sig .tc .vmem S1x4x1024x512 .bf16)
    (hwu : wu.IsWhole) (wd : Memref sig .tc .vmem S1x4x512x1024 .bf16) (hwd : wd.IsWhole)
    (y : Memref sig .tc .vmem S128x1024 .f32) (hy : y.IsWhole)
    (bx : Vec F S128x1152 .f32) (bg bu : Vec F S1x4x1024x512 .bf16) (bd : Vec F S1x4x512x1024 .bf16)
    (g : TableBuf F c groups) (n : TableBuf F c count)
    (h1 : k0_cond1 i (word c n) = 1#1) (h2 : ¬ k0_cond2 i (word c n) = 1#1) :
    { L : List (View.Piece (Elt F) S128x1024 .f32) //
      ∀ (E : Set ℕ) (K : PUnit → Asrt F),
        iprop(owns (c : Thread nD τ) x fullShare bx ∗ owns (c : Thread nD τ) wg fullShare bg
            ∗ owns (c : Thread nD τ) wu fullShare bu ∗ owns (c : Thread nD τ) wd fullShare bd
            ∗ (∃ d, owns (c : Thread nD τ) y fullShare d) ∗ tableHeld c groups g ∗ tableHeld c count n
            ∗ (iprop(owns (c : Thread nD τ) x fullShare bx ∗ owns (c : Thread nD τ) wg fullShare bg
                ∗ owns (c : Thread nD τ) wu fullShare bu ∗ owns (c : Thread nD τ) wd fullShare bd
                ∗ (∃ f, y.view.loc (c : Thread nD τ) ↦[y.view.set]{fullShare} y.view.writes (Elt F) f L)
                ∗ tableHeld c groups g ∗ tableHeld c count n) -∗ K ⟨⟩))
          ⊢ wp frame (wpE (defs₀ (F := F)) Variants.none c none) E
            (cc0_moe_experts i groups (Memref.isWhole_whole _) count (Memref.isWhole_whole _) x hx wg hwg wu hwu wd hwd y hy) K } := by
  refine ⟨?_, fun E K => ?run⟩
  case run =>
    simp only [cc0_moe_experts_eq_skeleton]; unfold cc0_moe_experts_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := hx.eq_unread hf0; obtain rfl := hwg.eq_unread hf1
    obtain rfl := hwu.eq_unread hf2; obtain rfl := hwd.eq_unread hf3
    sl_exec (disch := first | sl_exact h1 | sl_exact h2)
    sl_step
    iapply Hk
    isplitl [H0]
    · iexists _; isplitr; · ipureintro; exact hx.read_unread _
      iexact H0
    isplitl [H1]
    · iexists _; isplitr; · ipureintro; exact hwg.read_unread _
      iexact H1
    isplitl [H2]
    · iexists _; isplitr; · ipureintro; exact hwu.read_unread _
      iexact H2
    isplitl [H3]
    · iexists _; isplitr; · ipureintro; exact hwd.read_unread _
      iexact H3
    isplitl [H4]; · iexists _; iexact H4
    isplitl [HT0]; · iexact HT0
    iexact HT1

set_option maxHeartbeats 1000000 in
/-- A tile past the count: the body stores zeros. -/
def runUnused (c : Dev nD) (i : grid0.Coords) (x : Memref sig .tc .vmem S128x1152 .f32) (hx : x.IsWhole)
    (wg : Memref sig .tc .vmem S1x4x1024x512 .bf16) (hwg : wg.IsWhole) (wu : Memref sig .tc .vmem S1x4x1024x512 .bf16)
    (hwu : wu.IsWhole) (wd : Memref sig .tc .vmem S1x4x512x1024 .bf16) (hwd : wd.IsWhole)
    (y : Memref sig .tc .vmem S128x1024 .f32) (hy : y.IsWhole)
    (bx : Vec F S128x1152 .f32) (bg bu : Vec F S1x4x1024x512 .bf16) (bd : Vec F S1x4x512x1024 .bf16)
    (g : TableBuf F c groups) (n : TableBuf F c count)
    (h1 : ¬ k0_cond1 i (word c n) = 1#1) (h2 : k0_cond2 i (word c n) = 1#1) :
    { L : List (View.Piece (Elt F) S128x1024 .f32) //
      ∀ (E : Set ℕ) (K : PUnit → Asrt F),
        iprop(owns (c : Thread nD τ) x fullShare bx ∗ owns (c : Thread nD τ) wg fullShare bg
            ∗ owns (c : Thread nD τ) wu fullShare bu ∗ owns (c : Thread nD τ) wd fullShare bd
            ∗ (∃ d, owns (c : Thread nD τ) y fullShare d) ∗ tableHeld c groups g ∗ tableHeld c count n
            ∗ (iprop(owns (c : Thread nD τ) x fullShare bx ∗ owns (c : Thread nD τ) wg fullShare bg
                ∗ owns (c : Thread nD τ) wu fullShare bu ∗ owns (c : Thread nD τ) wd fullShare bd
                ∗ (∃ f, y.view.loc (c : Thread nD τ) ↦[y.view.set]{fullShare} y.view.writes (Elt F) f L)
                ∗ tableHeld c groups g ∗ tableHeld c count n) -∗ K ⟨⟩))
          ⊢ wp frame (wpE (defs₀ (F := F)) Variants.none c none) E
            (cc0_moe_experts i groups (Memref.isWhole_whole _) count (Memref.isWhole_whole _) x hx wg hwg wu hwu wd hwd y hy) K } := by
  refine ⟨?_, fun E K => ?run⟩
  case run =>
    simp only [cc0_moe_experts_eq_skeleton]; unfold cc0_moe_experts_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := hx.eq_unread hf0; obtain rfl := hwg.eq_unread hf1
    obtain rfl := hwu.eq_unread hf2; obtain rfl := hwd.eq_unread hf3
    sl_exec (disch := first | sl_exact h1 | sl_exact h2)
    sl_step
    iapply Hk
    isplitl [H0]
    · iexists _; isplitr; · ipureintro; exact hx.read_unread _
      iexact H0
    isplitl [H1]
    · iexists _; isplitr; · ipureintro; exact hwg.read_unread _
      iexact H1
    isplitl [H2]
    · iexists _; isplitr; · ipureintro; exact hwu.read_unread _
      iexact H2
    isplitl [H3]
    · iexists _; isplitr; · ipureintro; exact hwd.read_unread _
      iexact H3
    isplitl [H4]; · iexists _; iexact H4
    isplitl [HT0]; · iexact HT0
    iexact HT1

end Cert.ExpertsSIdeal.Grouped

end
-- ==== Proof.ExpertsS.FrameIdeal.lean ====
/- The grouped experts' call for the sample batch (over the exact numbers) terminates whatever the tables hold, as long as they name blocks of the weights: its
   arguments end unchanged, and its result is what the body leaves tile by tile. -/
module

public import proofs.«01_k».proof.Proof.ExpertsS.RunIdeal
public import Idealize.ShloMosaic.Lib.Claim
public import Idealize.ShloMosaic.Lib.Pipeline.Kit

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)

namespace Cert.ExpertsSIdeal.Grouped

open Cert.ExpertsSIdeal Cert.ExpertsSIdeal.Gen

variable {F : FTy → Type} [FloatOps F]

variable (m : (ℓ : Loc nD τ sig) → Buf (Elt F) ℓ) (ρ : Dev nD → PrngReg)

/-! ## Where the pipeline starts -/

/-- A core's arrays once the host code has prepared the weights. -/
abbrev V (c : Dev nD) (b : Ref sig .tc) : Buf (Elt F) ((c : Thread nD τ).loc b) := StableHlo.after hostOps0 (fun b => m (c, b)) b

theorem fresh : (hostOps0 : List (HloOp τ sig (Elt F))).Forall fun op => op.fresh = ∅ := by
  simp only [List.Forall]; repeat' constructor

set_option maxHeartbeats 800000 in
theorem entry (v : Variants) : Pipeline.HMainP (Ix := Unit) (Name := ℕ) (U := UR sig nD τ) (Lvl := ℕ) pcfgs 0 defs₀ v m
    (main (F := F)) (V m) :=
  Pipeline.hmainP_prefix pcfgs 0 defs₀ v m main hostOps0 hostOps0_sub fresh main_chain

/-- The host code writes only its own arrays. -/
theorem kept (c : Dev nD) (b : Ref sig .tc) (hb : b ∈ [main_arg0, main_arg1, main_arg2, main_arg3, main_arg4, main_arg5]) :
    V m c b = m ((c : Thread nD τ).loc b) := by
  refine StableHlo.after_of_forall_not_mem (b := Proc.devRef .tc b) _ _ (List.forall_iff_forall_mem.mp ?_)
  simp only [hostOps0, List.flatten_cons, List.flatten_nil, List.append_nil, List.cons_append, List.nil_append, List.Forall,
    StableHlo.unary_writes, StableHlo.reshape_writes, Finset.mem_singleton]
  repeat' apply And.intro
  all_goals
    refine StableHlo.devRef_ne_of_ne ?_
    revert b
    decide

/-! ## The tables -/

/-- The tables' contents. -/
def tbl : pre0.Contents (Elt F) := fun j => V m (0 : Dev nD) (pre0.ref j)

theorem tbl_eq (c : Dev nD) (j : Fin 2) : V m c (pre0.ref j) = tbl m j := by
  obtain rfl : c = 0 := Subsingleton.elim _ _
  rfl

attribute [local irreducible] tbl

/-- The first table names blocks of the weights. -/
abbrev Named : Prop := ok0 (F := F) (tbl m)

abbrev adm (h : Named m) : (pcfg0 (F := F)).Adm := ⟨tbl m, h⟩
abbrev cfg (h : Named m) : Pipeline.Cfg sig Λ₀ := cfg0 (adm m h)

theorem tables_held (c : Dev nD) : (Pipeline.ΦT pre0 (tbl m) c : Asrt F)
    = iprop(tableHeld c groups (tbl m 0) ∗ tableHeld c count (tbl m 1)) := by
  unfold Pipeline.ΦT Pipeline.prefHeld
  rw [show (Finset.univ : Finset (Fin 2)) = insert (0 : Fin 2) {(1 : Fin 2)} from by decide, bigSep_insert (by decide),
    bigSep_singleton]
  rfl

/-! ## The blocks -/

/-- A window's block at a tile, as the pipeline finds it. -/
def blk (h : Named m) (c : Dev nD) (w : Fin (cfg m h).W) (t : Fin (cfg m h).N) :
    (((cfg m h).win w).xblock ((cfg m h).grid.coords t)).Idx → Elt F ((cfg m h).win w).elt :=
  (((cfg m h).win w).blk t).view.read (Elt F) (V m c (Pipeline.arrRef spec0 w))

/-- The staging buffers at a tile. -/
abbrev sx (h : Named m) (t : Fin (cfg m h).N) : Memref sig .tc .vmem S128x1152 .f32 := spec0_0.stage ((cfg m h).slots t 0)
abbrev hsx (h : Named m) (t : Fin (cfg m h).N) : (sx m h t).IsWhole := hstage0_0 (((cfg m h).slots t 0).cast nbuf0_0)
abbrev sg (h : Named m) (t : Fin (cfg m h).N) : Memref sig .tc .vmem S1x4x1024x512 .bf16 := spec0_1.stage ((cfg m h).slots t 1)
abbrev hsg (h : Named m) (t : Fin (cfg m h).N) : (sg m h t).IsWhole := hstage0_1 (((cfg m h).slots t 1).cast nbuf0_1)
abbrev su (h : Named m) (t : Fin (cfg m h).N) : Memref sig .tc .vmem S1x4x1024x512 .bf16 := spec0_2.stage ((cfg m h).slots t 2)
abbrev hsu (h : Named m) (t : Fin (cfg m h).N) : (su m h t).IsWhole := hstage0_2 (((cfg m h).slots t 2).cast nbuf0_2)
abbrev sd (h : Named m) (t : Fin (cfg m h).N) : Memref sig .tc .vmem S1x4x512x1024 .bf16 := spec0_3.stage ((cfg m h).slots t 3)
abbrev hsd (h : Named m) (t : Fin (cfg m h).N) : (sd m h t).IsWhole := hstage0_3 (((cfg m h).slots t 3).cast nbuf0_3)
abbrev so (h : Named m) (t : Fin (cfg m h).N) : Memref sig .tc .vmem S128x1024 .f32 := spec0_4.stage ((cfg m h).slots t 4)
abbrev hso (h : Named m) (t : Fin (cfg m h).N) : (so m h t).IsWhole := hstage0_4 (((cfg m h).slots t 4).cast nbuf0_4)

/-- The body as the pipeline calls it at a tile. -/
abbrev bodyAt (h : Named m) (t : Fin (cfg m h).N) : Prog (TpuEff nD τ sig (Elt F) Λ₀ .tc) PUnit :=
  cc0_moe_experts (grid0.coords t) groups (Memref.isWhole_whole _) count (Memref.isWhole_whole _) (sx m h t) (hsx m h t)
    (sg m h t) (hsg m h t) (su m h t) (hsu m h t) (sd m h t) (hsd m h t) (so m h t) (hso m h t)

/-! ## What a tile leaves -/

/-- One whole buffer to read the stores back through. -/
abbrev VO : View sig .tc .vmem S128x1024 .f32 := (Memref.whole cc0_stg4_0 : Memref sig .tc .vmem S128x1024 .f32).view

/-- The tile is in use. -/
abbrev Used (c : Dev nD) (h : Named m) (t : Fin (cfg m h).N) : Prop := k0_cond1 (grid0.coords t) (word c (tbl m 1)) = 1#1

/-- The stores at a tile in use, -/
abbrev piecesUsed (h : Named m) (c : Dev nD) (t : Fin (cfg m h).N) (hu : Used m c h t) : List (View.Piece (Elt F) S128x1024 .f32) :=
  (runUsed c (grid0.coords t) (sx m h t) (hsx m h t) (sg m h t) (hsg m h t) (su m h t) (hsu m h t) (sd m h t) (hsd m h t)
    (so m h t) (hso m h t) (blk m h c 0 t) (blk m h c 1 t) (blk m h c 2 t) (blk m h c 3 t) (tbl m 0) (tbl m 1) hu
    (fun h2 => (branches _ _).mp h2 hu)).1

/-- and at a tile past the count. -/
abbrev piecesUnused (h : Named m) (c : Dev nD) (t : Fin (cfg m h).N) (hu : ¬ Used m c h t) :
    List (View.Piece (Elt F) S128x1024 .f32) :=
  (runUnused c (grid0.coords t) (sx m h t) (hsx m h t) (sg m h t) (hsg m h t) (su m h t) (hsu m h t) (sd m h t) (hsd m h t)
    (so m h t) (hso m h t) (blk m h c 0 t) (blk m h c 1 t) (blk m h c 2 t) (blk m h c 3 t) (tbl m 0) (tbl m 1) hu
    ((branches _ _).mpr hu)).1

theorem covers_used (h : Named m) (c : Dev nD) (t : Fin (cfg m h).N) (hu : Used m c h t) (y : S128x1024.Idx) :
    ∃ pc ∈ piecesUsed m h c t hu, y ∈ pc.1.set :=
  View.cover_of_tiledL (piecesUsed m h c t hu) S128x1024.size (by sl_kernel_rfl) y

theorem covers_unused (h : Named m) (c : Dev nD) (t : Fin (cfg m h).N) (hu : ¬ Used m c h t) (y : S128x1024.Idx) :
    ∃ pc ∈ piecesUnused m h c t hu, y ∈ pc.1.set :=
  View.cover_of_tiledL (piecesUnused m h c t hu) S128x1024.size (by sl_kernel_rfl) y

/-- What a tile leaves in its block of the result. -/
def leaves (h : Named m) (c : Dev nD) (t : Fin (cfg m h).N) : Vec F S128x1024 .f32 :=
  if hu : Used m c h t then VO.read (Elt F) (VO.writes (Elt F) VO.junk (piecesUsed m h c t hu))
  else VO.read (Elt F) (VO.writes (Elt F) VO.junk (piecesUnused m h c t hu))

theorem leaves_used (h : Named m) (c : Dev nD) (t : Fin (cfg m h).N) (hu : Used m c h t) :
    leaves m h c t = VO.read (Elt F) (VO.writes (Elt F) VO.junk (piecesUsed m h c t hu)) := dif_pos hu

theorem leaves_unused (h : Named m) (c : Dev nD) (t : Fin (cfg m h).N) (hu : ¬ Used m c h t) :
    leaves m h c t = VO.read (Elt F) (VO.writes (Elt F) VO.junk (piecesUnused m h c t hu)) := dif_neg hu

/-! ## The pipeline's run -/

/-- What the arrays and the staging buffers hold, tile by tile. -/
def dats (h : Named m) (_ : Fin 1) (c : Dev nD) : Dat τ (Elt F) Unit ℕ (UR sig nD τ) ℕ (cfg m h) c where
  A w := V m c (Pipeline.arrRef spec0 w)
  after w t := match w with
    | ⟨0, _⟩ => blk m h c 0 t
    | ⟨1, _⟩ => blk m h c 1 t
    | ⟨2, _⟩ => blk m h c 2 t
    | ⟨3, _⟩ => blk m h c 3 t
    | ⟨4, _⟩ => leaves m h c t
  Φ _ := iprop(Pipeline.ΦA spec0 c ∗ Pipeline.ΦT pre0 (tbl m) c)
  q _ := fullShare
  owed _ := 0

theorem array (h : Named m) (c : Dev nD) (w : Fin (cfg m h).W) : (dats m h 0 c).A w = V m c (Pipeline.arrRef spec0 w) := by
  dsimp only [dats]

theorem after0 (h : Named m) (c : Dev nD) (t : Fin (cfg m h).N) : (dats m h 0 c).after 0 t = blk m h c 0 t := by
  dsimp only [dats]; try rfl
theorem after1 (h : Named m) (c : Dev nD) (t : Fin (cfg m h).N) : (dats m h 0 c).after 1 t = blk m h c 1 t := by
  dsimp only [dats]; try rfl
theorem after2 (h : Named m) (c : Dev nD) (t : Fin (cfg m h).N) : (dats m h 0 c).after 2 t = blk m h c 2 t := by
  dsimp only [dats]; try rfl
theorem after3 (h : Named m) (c : Dev nD) (t : Fin (cfg m h).N) : (dats m h 0 c).after 3 t = blk m h c 3 t := by
  dsimp only [dats]; try rfl
theorem after4 (h : Named m) (c : Dev nD) (t : Fin (cfg m h).N) : (dats m h 0 c).after 4 t = leaves m h c t := by
  dsimp only [dats]; try rfl

theorem before0 (h : Named m) (c : Dev nD) (t : Fin (cfg m h).N) (d) : (dats m h 0 c).before 0 t d = blk m h c 0 t :=
  ((dats m h 0 c).before_in_eq_fetched 0 rfl (fun _ => rfl) (fun _ _ _ => rfl)
    (fun t => by rw [after0]; unfold Dat.blockOf blk; rw [array]; try rfl) t d).trans
    (by unfold Dat.fetched Dat.blockOf blk; rw [array]; try rfl)
theorem before1 (h : Named m) (c : Dev nD) (t : Fin (cfg m h).N) (d) : (dats m h 0 c).before 1 t d = blk m h c 1 t :=
  ((dats m h 0 c).before_in_eq_fetched 1 rfl (fun _ => rfl) (fun _ _ _ => rfl)
    (fun t => by rw [after1]; unfold Dat.blockOf blk; rw [array]; try rfl) t d).trans
    (by unfold Dat.fetched Dat.blockOf blk; rw [array]; try rfl)
theorem before2 (h : Named m) (c : Dev nD) (t : Fin (cfg m h).N) (d) : (dats m h 0 c).before 2 t d = blk m h c 2 t :=
  ((dats m h 0 c).before_in_eq_fetched 2 rfl (fun _ => rfl) (fun _ _ _ => rfl)
    (fun t => by rw [after2]; unfold Dat.blockOf blk; rw [array]; try rfl) t d).trans
    (by unfold Dat.fetched Dat.blockOf blk; rw [array]; try rfl)
theorem before3 (h : Named m) (c : Dev nD) (t : Fin (cfg m h).N) (d) : (dats m h 0 c).before 3 t d = blk m h c 3 t :=
  ((dats m h 0 c).before_in_eq_fetched 3 rfl (fun _ => rfl) (fun _ _ _ => rfl)
    (fun t => by rw [after3]; unfold Dat.blockOf blk; rw [array]; try rfl) t d).trans
    (by unfold Dat.fetched Dat.blockOf blk; rw [array]; try rfl)

/-- The result's block is written at every tile: one of the two branches is taken. -/
theorem never_idle (pf : pre0.Contents (Elt F)) (i : grid0.Coords) : idle0 pf 4 i = false := by
  have key : ∀ w : BitVec 32, (!(k0_cond1 i w == 1#1) && !(k0_cond2 i w == 1#1)) = false := by
    intro w
    by_cases hc : k0_cond1 i w = 1#1
    · rw [hc]; rfl
    · rw [(branches i w).mpr hc]; exact Bool.and_false _
  exact key (pf.atD 1 ![0])

theorem written (h : Named m) (t : Fin (cfg m h).N) : (cfg m h).idle 4 (grid0.coords t) = false :=
  never_idle (tbl m) (grid0.coords t)

theorem leaves_in0 (h : Named m) (c : Dev nD) (t : Fin (cfg m h).N) :
    (dats m h 0 c).leavesExact 0 t = owns (c : Thread nD τ) (sx m h t) fullShare (blk m h c 0 t) := by
  rw [← after0]; unfold Dat.leavesExact
  rw [show (cfg m h).idle 0 (grid0.coords t) = false from rfl]; try rfl
theorem leaves_in1 (h : Named m) (c : Dev nD) (t : Fin (cfg m h).N) :
    (dats m h 0 c).leavesExact 1 t = owns (c : Thread nD τ) (sg m h t) fullShare (blk m h c 1 t) := by
  rw [← after1]; unfold Dat.leavesExact
  rw [show (cfg m h).idle 1 (grid0.coords t) = false from rfl]; try rfl
theorem leaves_in2 (h : Named m) (c : Dev nD) (t : Fin (cfg m h).N) :
    (dats m h 0 c).leavesExact 2 t = owns (c : Thread nD τ) (su m h t) fullShare (blk m h c 2 t) := by
  rw [← after2]; unfold Dat.leavesExact
  rw [show (cfg m h).idle 2 (grid0.coords t) = false from rfl]; try rfl
theorem leaves_in3 (h : Named m) (c : Dev nD) (t : Fin (cfg m h).N) :
    (dats m h 0 c).leavesExact 3 t = owns (c : Thread nD τ) (sd m h t) fullShare (blk m h c 3 t) := by
  rw [← after3]; unfold Dat.leavesExact
  rw [show (cfg m h).idle 3 (grid0.coords t) = false from rfl]; try rfl
theorem leaves_out (h : Named m) (c : Dev nD) (t : Fin (cfg m h).N) :
    (dats m h 0 c).leavesExact 4 t = owns (c : Thread nD τ) (so m h t) fullShare (leaves m h c t) := by
  rw [← after4]; unfold Dat.leavesExact
  rw [written m h t]; try rfl

/-- What the body is given at a tile, -/
def given (h : Named m) (c : Dev nD) (t : Fin (cfg m h).N) : Asrt F :=
  iprop((dats m h 0 c).Φ t.castSucc ∗ (dats m h 0 c).owesAt () t.castSucc
    ∗ (∃ d, owns (c : Thread nD τ) (sx m h t) fullShare ((dats m h 0 c).before 0 t d))
    ∗ (∃ d, owns (c : Thread nD τ) (sg m h t) fullShare ((dats m h 0 c).before 1 t d))
    ∗ (∃ d, owns (c : Thread nD τ) (su m h t) fullShare ((dats m h 0 c).before 2 t d))
    ∗ (∃ d, owns (c : Thread nD τ) (sd m h t) fullShare ((dats m h 0 c).before 3 t d))
    ∗ (∃ d, owns (c : Thread nD τ) (so m h t) fullShare ((dats m h 0 c).before 4 t d)))

/-- and what it returns. -/
def returned (h : Named m) (c : Dev nD) (t : Fin (cfg m h).N) : Asrt F :=
  iprop((dats m h 0 c).Φ t.succ ∗ (dats m h 0 c).owesAt () t.succ
    ∗ (dats m h 0 c).leavesExact 0 t ∗ (dats m h 0 c).leavesExact 1 t ∗ (dats m h 0 c).leavesExact 2 t
    ∗ (dats m h 0 c).leavesExact 3 t ∗ (dats m h 0 c).leavesExact 4 t)

set_option maxHeartbeats 800000 in
/-- The body at any tile. -/
theorem body (h : Named m) (c : Dev nD) (t : Fin (cfg m h).N) :
    given m h c t ⊢ wp frame (wpE (defs₀ (F := F)) Variants.none c none) Set.univ (bodyAt m h t) (fun _ => returned m h c t) := by
  unfold given returned bodyAt
  simp only [before0, before1, before2, before3]
  rw [show (dats m h 0 c).Φ t.succ = (dats m h 0 c).Φ t.castSucc from rfl,
    show (dats m h 0 c).owesAt () t.succ = (dats m h 0 c).owesAt () t.castSucc from rfl,
    show (dats m h 0 c).Φ t.castSucc = iprop(Pipeline.ΦA spec0 c ∗ Pipeline.ΦT pre0 (tbl m) c) from rfl, tables_held,
    leaves_in0, leaves_in1, leaves_in2, leaves_in3, leaves_out]
  by_cases hu : Used m c h t
  · rw [leaves_used m h c t hu]
    iintro ⟨⟨HΦ, ⟨HT0, HT1⟩⟩, Ho, ⟨%d0, H0⟩, ⟨%d1, H1⟩, ⟨%d2, H2⟩, ⟨%d3, H3⟩, ⟨%d4, H4⟩⟩
    iapply ((runUsed c (grid0.coords t) _ _ _ _ _ _ _ _ _ _ (blk m h c 0 t) (blk m h c 1 t) (blk m h c 2 t) (blk m h c 3 t)
      (tbl m 0) (tbl m 1) hu (fun h2 => (branches _ _).mp h2 hu)).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, ⟨%e4, H4⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (covers_used m h c t hu)
  · rw [leaves_unused m h c t hu]
    iintro ⟨⟨HΦ, ⟨HT0, HT1⟩⟩, Ho, ⟨%d0, H0⟩, ⟨%d1, H1⟩, ⟨%d2, H2⟩, ⟨%d3, H3⟩, ⟨%d4, H4⟩⟩
    iapply ((runUnused c (grid0.coords t) _ _ _ _ _ _ _ _ _ _ (blk m h c 0 t) (blk m h c 1 t) (blk m h c 2 t) (blk m h c 3 t)
      (tbl m 0) (tbl m 1) hu ((branches _ _).mpr hu)).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, ⟨%e4, H4⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (covers_unused m h c t hu)

theorem row (h : Named m) (t : Fin (cfg m h).N) :
    defs₀ (F := F) .tc (cfg m h).body ((cfg m h).bodyArgs t ((cfg m h).slots t)) = bodyAt m h t := by
  unfold defs₀; rw [Defs.onTc_tc]

theorem obligation (h : Named m) (c : Dev nD) :
    BodyObligation (dats (F := F) m h 0 c) (defs₀ (F := F)) Variants.none () Set.univ := fun t => by
  rw [bigSep_W0, bigSep_W0, row m h]
  exact triple_restated (body m h c t) rfl .rfl fun _ => .rfl

set_option backward.isDefEq.respectTransparency.types false in
/-- The launch, with every counter at zero at the end. -/
theorem launch (h : Named m) : θ_run defs (onTc (τ := τ) (main (F := F))) (s₀ m ρ)
    (fun r => (Pipeline.FramePost (Pipeline.pin pcfgs fun _ => adm m h) (dats m h) 0 (V m)) r ∧ r.2.sem = fun _ => 0) :=
  Pipeline.θ_run_frameP (Q' := _) pcfgs (fun _ => adm m h) (dats m h) (0 : Fin 1) launch0 defs₀ Variants.none m ρ main
    (hbody := fun c => (obligation m h c).loose) (hshare := fun c => (dats m h 0 c).share_full fun _ => rfl)
    (howed := fun _ _ => rfl) (V := V m) (hmain := entry m Variants.none) (hA := array m h) (hpf := tbl_eq m)
    (hΦ := fun _ _ => rfl)

/-- The run: the result's array is what the tiles leave in it, the arguments end unchanged, the counters end at zero. -/
theorem run (h : Named m) : θ_run defs (onTc (τ := τ) (main (F := F))) ⟨m, fun _ => 0, ρ⟩ (fun r => (∀ c : Dev nD,
      r.2.mem ((c.tc : Thread nD τ).loc main_v6) = (dats m h 0 c).arrAt 4 (cfg m h).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ hr => ⟨fun c => ⟨(hr.1 c).1 4,
      ((hr.1 c).2 main_arg0 (by decide : main_arg0 ∈ Pipeline.restRefs sig spec0)).trans (kept m c main_arg0 (by decide)),
      ((hr.1 c).2 main_arg1 (by decide : main_arg1 ∈ Pipeline.restRefs sig spec0)).trans (kept m c main_arg1 (by decide)),
      ((hr.1 c).1 0).trans (((dats m h 0 c).arrAt_in 0 rfl _).trans ((array m h c 0).trans (kept m c main_arg2 (by decide)))),
      ((hr.1 c).2 main_arg3 (by decide : main_arg3 ∈ Pipeline.restRefs sig spec0)).trans (kept m c main_arg3 (by decide)),
      ((hr.1 c).2 main_arg4 (by decide : main_arg4 ∈ Pipeline.restRefs sig spec0)).trans (kept m c main_arg4 (by decide)),
      ((hr.1 c).2 main_arg5 (by decide : main_arg5 ∈ Pipeline.restRefs sig spec0)).trans (kept m c main_arg5 (by decide))⟩,
    hr.2⟩) (launch m ρ h)

end Cert.ExpertsSIdeal.Grouped

end
-- ==== Proof.ExpertsS.TablesIdeal.lean ====
/- The tiles' groups of the experts' call for the sample batch (over the exact numbers): every word of the first table names one of the four groups, so every block
   of the weights the pipeline fetches lies inside its array. -/
module

public import proofs.«01_k».proof.Defs
public import proofs.«01_k».proof.Proof.ExpertsS.FrameIdeal
public import proofs.«01_k».proof.Proof.Gen.Pre_sample_groups_named
public import proofs.«01_k».proof.Proof.Gen.Pre_sample_groups_and_weights
public import Idealize.ShloMosaic.Lib.StableHlo.Predicate

@[expose] public section

noncomputable section

open Idealize.ShloMosaic Idealize.ShloMosaic.TcCoe Idealize.SL.Sem

namespace Cert.ExpertsSIdeal.Grouped

open Cert.ExpertsSIdeal Cert.ExpertsSIdeal.Gen

variable {F : FTy → Type} [FloatOps F]

/-- A word that is at least zero and less than four, read signed, is one of four. -/
theorem small (w : BitVec 32) (h : IntOp.andi (IntOp.cmpi .sge w 0#32) (IntOp.cmpi .slt w 4#32) = 1#1) : w.toNat < 4 := by
  have h' : ((0#32).sle w && w.slt 4#32) = true := by
    revert h
    simp only [IntOp.andi, IntOp.cmpi]
    cases (0#32).sle w <;> cases w.slt 4#32 <;> decide
  have h1 := BitVec.sle_iff_toInt_le.mp (Bool.and_eq_true_iff.mp h').1
  have h2 := BitVec.slt_iff_toInt_lt.mp (Bool.and_eq_true_iff.mp h').2
  rw [show (0#32 : BitVec 32).toInt = 0 from rfl] at h1
  rw [show (4#32 : BitVec 32).toInt = 4 from rfl] at h2
  have h3 := w.isLt
  rw [BitVec.toInt_eq_toNat_cond] at h1 h2
  split at h1 <;> omega

/-- The word of the first table at a tile. -/
abbrev groupWord (pf : pre0.Contents (Elt F)) (j : Fin 5) : BitVec 32 := pf 0 (ix1 j)

/-- The blocks of the weights at a tile are those of its group. -/
theorem index1 (pf : pre0.Contents (Elt F)) (i : grid0.Coords) :
    cc0_transform_1 k0_off1_inb numel1_S1 pf i = ![(groupWord pf (i 0)).toNat, 0, 0, 0] := by
  have e : pf.at 0 (Rect.unit (s := S5) ![(Scalar.indexCast (BitVec.ofNat 32 (i 0).val)).toNat] S1.size (k0_off1_inb i)) numel1_S1
      = groupWord pf (i 0) := by
    refine congrArg (pf 0) (funext fun a => ?_)
    obtain rfl : a = (0 : Fin 1) := Subsingleton.elim (α := Fin 1) _ _
    exact Fin.ext ((by decide +kernel : ∀ j : Fin 5, (Scalar.indexCast (BitVec.ofNat 32 j.val)).toNat + 1 * 0 = j.val) (i 0))
  exact congrArg (fun w : BitVec 32 => (![w.toNat, 0, 0, 0] : Fin 4 → ℕ)) e

theorem index2 (pf : pre0.Contents (Elt F)) (i : grid0.Coords) :
    cc0_transform_2 k0_off1_inb numel1_S1 pf i = ![(groupWord pf (i 0)).toNat, 0, 0, 0] := index1 pf i

theorem index3 (pf : pre0.Contents (Elt F)) (i : grid0.Coords) :
    cc0_transform_3 k0_off1_inb numel1_S1 pf i = ![(groupWord pf (i 0)).toNat, 0, 0, 0] := index1 pf i

/-- Any of the four blocks lies inside the first two weights, whole words of it, -/
theorem inside12 : ∀ k : Fin 4, ∃ h : (∀ a, ((![k.val, 0, 0, 0] : Fin 4 → ℕ) a + 1) * S1x4x1024x512.size a ≤ S4x4x1024x512.size a),
    EltTy.bits .bf16 = 32 ∨ (Rect.block (s := S4x4x1024x512) S1x4x1024x512.size ![k.val, 0, 0, 0] h).WholeWords (EltTy.packing .bf16) := by
  decide +kernel

/-- and inside the third. -/
theorem inside3 : ∀ k : Fin 4, ∃ h : (∀ a, ((![k.val, 0, 0, 0] : Fin 4 → ℕ) a + 1) * S1x4x512x1024.size a ≤ S4x4x512x1024.size a),
    EltTy.bits .bf16 = 32 ∨ (Rect.block (s := S4x4x512x1024) S1x4x512x1024.size ![k.val, 0, 0, 0] h).WholeWords (EltTy.packing .bf16) := by
  decide +kernel

/-- Groups in range name blocks of the weights. -/
theorem named_of_small (pf : pre0.Contents (Elt F)) (h : ∀ j : Fin 5, (groupWord pf j).toNat < 4) : ok0 (F := F) pf := by
  refine ⟨fun i => ?_, fun i => ?_, fun i => ?_⟩
  · rw [index1]; exact inside12 ⟨_, h (i 0)⟩
  · rw [index2]; exact inside12 ⟨_, h (i 0)⟩
  · rw [index3]; exact inside3 ⟨_, h (i 0)⟩

variable (m : (ℓ : Loc nD τ sig) → Buf (Elt F) ℓ)

/-- The first table is the first argument, -/
theorem tbl_groups (c : Dev nD) (j : Fin 5) :
    groupWord (tbl m) j = (m ((c : Thread nD τ).loc main_arg0) : (⟨S5, .i32⟩ : BufTy).Contents (Elt F)) (ix1 j) :=
  congrFun ((tbl_eq m c 0).symm.trans (kept m c main_arg0 (by decide))) (ix1 j)

/-- and the second table the second. -/
theorem tbl_count (c : Dev nD) :
    (tbl m 1 : (⟨S1, .i32⟩ : BufTy).Contents (Elt F)) (ix1 0)
      = (m ((c : Thread nD τ).loc main_arg1) : (⟨S1, .i32⟩ : BufTy).Contents (Elt F)) (ix1 0) :=
  congrFun ((tbl_eq m c 1).symm.trans (kept m c main_arg1 (by decide))) (ix1 0)

/-- Under the precondition every tile's group is in range, -/
theorem named (m : (ℓ : Loc nD τ sig) → Buf (Elt Ideal) ℓ) (h : Cert.Pre_ExpertsSIdeal m) : Named m :=
  named_of_small (tbl m) fun j => by
    rw [tbl_groups m 0 j]
    exact small _ (congrFun (h 0) (ix1 j))

/-- as it is under the one that bounds the weights too. -/
theorem named_too (m : (ℓ : Loc nD τ sig) → Buf (Elt Ideal) ℓ) (h : Cert.Pre_ExpertsSIdeal_sample_groups_and_weights m) : Named m :=
  named_of_small (tbl m) fun j => by
    rw [tbl_groups m 0 j]
    exact small _ (congrFun (h 0).1 (ix1 j))

end Cert.ExpertsSIdeal.Grouped

end
-- ==== Proof.ExpertsS.Mixture.lean ====
/- The sample batch's grouped experts on the extended reals, entry by entry: an expert's output at a row, the weighted sum of the four experts
   of a group, and the sum over all sixteen experts when the other groups' weights are zero. Both sides of the experts' claim are
   shown to be `experts`. -/
module

public import proofs.«01_k».proof.Proof.Products

@[expose] public section

noncomputable section

open Idealize.ShloMosaic

namespace Cert.Layer.Sample

/-- An expert's hidden value at a row: the row's product with the gate's column, times its logistic, times the row's product
    with the other column. -/
def hidden (x g u : Fin 1024 → EReal) : EReal :=
  (∑ k : Fin 1024, x k * g k) * Ideal.logistic (∑ k : Fin 1024, x k * g k) * ∑ k : Fin 1024, x k * u k

variable (x : Fin 1024 → EReal) (wg wu : FVec Ideal ⟨3, ![16, 1024, 512]⟩ .f32) (wd : FVec Ideal ⟨3, ![16, 512, 1024]⟩ .f32)

/-- An expert's output at a row. -/
def expert (e : Fin 16) (d : Fin 1024) : EReal :=
  ∑ f : Fin 512, hidden x (fun k => wg (ix3 e k f)) (fun k => wu (ix3 e k f)) * wd (ix3 e f d)

/-- The k-th expert of a group. -/
abbrev member (g k : Fin 4) : Fin 16 := ⟨4 * g.val + k.val, by omega⟩

/-- The weighted sum of a group's four experts. -/
def routed (w : Fin 4 → EReal) (g : Fin 4) (d : Fin 1024) : EReal :=
  expert x wg wu wd (member g 0) d * w 0 + expert x wg wu wd (member g 1) d * w 1
    + expert x wg wu wd (member g 2) d * w 2 + expert x wg wu wd (member g 3) d * w 3

/-- A tile is in use when its number is less than the count. -/
abbrev InUse (n : IVec ⟨1, ![1]⟩ 32) (t : Fin 5) : Prop := (BitVec.ofNat 32 t.val).toInt < (n (ix1 0)).toInt

/-- The tile a row is in. -/
abbrev tileOf (r : Fin 640) : Fin 5 := ⟨r.val / 128, by omega⟩

/-- The group of a tile, the table's word taken among four. -/
abbrev groupOf (tg : IVec ⟨1, ![5]⟩ 32) (t : Fin 5) : Fin 4 := ⟨(tg (ix1 t)).toNat % 4, Nat.mod_lt _ (by decide)⟩

/-- The experts' call: at a row of a tile in use, the weighted sum of the four experts of the tile's group, the weights being the
    row's values past its first 1024; at the other rows, zero. -/
def experts (tg : IVec ⟨1, ![5]⟩ 32) (n : IVec ⟨1, ![1]⟩ 32) (xs : FVec Ideal ⟨2, ![640, 1152]⟩ .f32)
    (r : Fin 640) (d : Fin 1024) : EReal :=
  if InUse n (tileOf r) then
    routed (fun k => xs (ix2 r ⟨k.val, by omega⟩)) wg wu wd (fun k => xs (ix2 r ⟨1024 + k.val, by omega⟩))
      (groupOf tg (tileOf r)) d
  else 0

/-- A weight that is at least zero and finite comes out of a sum, -/
theorem weight_out {n : ℕ} (h d : Fin n → EReal) (w : EReal) (h0 : 0 ≤ w) (ht : w ≠ ⊤) :
    ∑ f : Fin n, h f * w * d f = (∑ f : Fin n, h f * d f) * w := by
  have key : ∀ s : Finset (Fin n), ∑ f ∈ s, h f * w * d f = (∑ f ∈ s, h f * d f) * w := by
    intro s
    induction s using Finset.induction_on with
    | empty => simp
    | insert a s ha ih =>
      rw [Finset.sum_insert ha, Finset.sum_insert ha, ih, EReal.right_distrib_of_nonneg_of_ne_top h0 ht]
      congr 1
      rw [mul_assoc, mul_comm w, ← mul_assoc]
  exact key Finset.univ

/-- and a sum over sixteen experts with weights zero outside a group is over the group's four. -/
theorem over_group (a : Fin 16 → EReal) (w : Fin 4 → EReal) (g : Fin 4) :
    ∑ e : Fin 16, a e * (if e.val / 4 = g.val then w ⟨e.val % 4, Nat.mod_lt _ (by decide)⟩ else 0)
      = a (member g 0) * w 0 + a (member g 1) * w 1 + a (member g 2) * w 2 + a (member g 3) * w 3 := by
  fin_cases g <;> simp [Fin.sum_univ_succ] <;> simp only [add_assoc] <;> rfl

end Cert.Layer.Sample

end
-- ==== Proof.ExpertsS.Kernel.lean ====
/- The grouped experts' kernel for the sample batch over the exact numbers: what each part of its body computes, what a tile leaves in its block, and
   the result array: `Layer.Sample.experts` of the arguments. -/
module

public import proofs.«01_k».proof.Proof.ExpertsS.TablesIdeal
public import proofs.«01_k».proof.Proof.ExpertsS.Mixture
public import Idealize.ShloMosaic.Lib.Pipeline.ValueKit
public import Idealize.ShloMosaic.Lib.StableHlo.ReadAt
public import proofs.«01_k».proof.Proof.Gen.ExpertsSReferenceIdeal.Read
public import proofs.«01_k».proof.Proof.Gen.ExpertsSReferenceIdeal.Run

@[expose] public section

noncomputable section

open Idealize.ShloMosaic Idealize.ShloMosaic.TcCoe Idealize.SL.Sem Cert.Layer Cert.Layer.Sample

namespace Cert.ExpertsSIdeal.Blocks

open Cert.ExpertsSIdeal Cert.ExpertsSIdeal.Gen Cert.ExpertsSIdeal.Grouped

/-! ## The body's parts, for any operands -/

/-- One expert's part of a tile's result: its hidden values, times the row's weight, times its last weight's column. -/
def part (x : Vec Ideal S128x1024 .f32) (g u : Vec Ideal S1x1x1024x512 .bf16) (w : Vec Ideal S128x1 .f32)
    (o : Vec Ideal S1x1x512x1024 .bf16) (p : Fin 128) (d : Fin 1024) : EReal :=
  ∑ f : Fin 512, hidden (fun k => x (ix2 p k)) (fun k => g (ix4 0 0 k f)) (fun k => u (ix4 0 0 k f)) * w (ix2 p 0)
    * o (ix4 0 0 f d)

theorem first (x : Vec Ideal S128x1024 .f32) (g u : Vec Ideal S1x1x1024x512 .bf16) (w : Vec Ideal S128x1 .f32)
    (o : Vec Ideal S1x1x512x1024 .bf16) (p : Fin 128) (d : Fin 1024) :
    k0_pay4 x g u w o (ix2 p d) = part x g u w o p d := by
  pointwise [k0_pay4, k0_pay3]
  rfl

theorem second_third (x : Vec Ideal S128x1024 .f32) (y : FVec Ideal S128x1024 .f32) (g1 u1 g2 u2 : Vec Ideal S1x1x1024x512 .bf16)
    (w1 w2 : Vec Ideal S128x1 .f32) (o1 o2 : Vec Ideal S1x1x512x1024 .bf16) (p : Fin 128) (d : Fin 1024) :
    k0_pay7 (k0_pay3 x) y (k0_pay5 x g1 u1) (k0_pay6 w1) o1 g2 u2 w2 o2 (ix2 p d)
      = y (ix2 p d) + part x g1 u1 w1 o1 p d + part x g2 u2 w2 o2 p d := by
  pointwise [k0_pay7, k0_pay5, k0_pay6, k0_pay3]
  rfl

theorem fourth (x : Vec Ideal S128x1024 .f32) (y : FVec Ideal S128x1024 .f32) (g u : Vec Ideal S1x1x1024x512 .bf16)
    (w : Vec Ideal S128x1 .f32) (o : Vec Ideal S1x1x512x1024 .bf16) (p : Fin 128) (d : Fin 1024) :
    k0_pay1 (k0_pay3 x) y (k0_pay8 (k0_pay3 x) g) u w o (ix2 p d) = y (ix2 p d) + part x g u w o p d := by
  pointwise [k0_pay1, k0_pay8, k0_pay3]
  rfl

/-! ## What the body loads from its blocks -/

theorem row_values (X : Vec Ideal S128x1152 .f32) (p : Fin 128) (k : Fin 1024) :
    View.ld X (Rect.unit (s := S128x1152) ![0, 0] S128x1024.size inb_S128x1152_S128x1024_0_0) (ix2 p k)
      = X (ix2 p ⟨k.val, by omega⟩) := by
  refine congrArg X (funext fun a => Fin.ext ?_)
  match a with
  | ⟨0, _⟩ => exact show 0 + 1 * p.val = p.val by omega
  | ⟨1, _⟩ => exact show 0 + 1 * k.val = k.val by omega

theorem weight_0 (X : Vec Ideal S128x1152 .f32) (p : Fin 128) :
    View.ld X (Rect.unit (s := S128x1152) ![0, 1024] S128x1.size inb_S128x1152_S128x1_0_1024) (ix2 p 0)
      = X (ix2 p ⟨1024, by decide⟩) := by
  refine congrArg X (funext fun a => Fin.ext ?_)
  match a with
  | ⟨0, _⟩ => exact show 0 + 1 * p.val = p.val by omega
  | ⟨1, _⟩ => exact rfl

theorem wide_0 (G : Vec Ideal S1x4x1024x512 .bf16) (k : Fin 1024) (f : Fin 512) :
    View.ld G (Rect.unit (s := S1x4x1024x512) ![0, 0, 0, 0] S1x1x1024x512.size inb_S1x4x1024x512_S1x1x1024x512_0_0_0_0) (ix4 0 0 k f)
      = G (ix4 0 0 k f) := by
  refine congrArg G (funext fun a => Fin.ext ?_)
  match a with
  | ⟨0, _⟩ => rfl
  | ⟨1, _⟩ => rfl
  | ⟨2, _⟩ => exact show 0 + 1 * k.val = k.val by omega
  | ⟨3, _⟩ => exact show 0 + 1 * f.val = f.val by omega

theorem narrow_0 (D : Vec Ideal S1x4x512x1024 .bf16) (f : Fin 512) (d : Fin 1024) :
    View.ld D (Rect.unit (s := S1x4x512x1024) ![0, 0, 0, 0] S1x1x512x1024.size inb_S1x4x512x1024_S1x1x512x1024_0_0_0_0) (ix4 0 0 f d)
      = D (ix4 0 0 f d) := by
  refine congrArg D (funext fun a => Fin.ext ?_)
  match a with
  | ⟨0, _⟩ => rfl
  | ⟨1, _⟩ => rfl
  | ⟨2, _⟩ => exact show 0 + 1 * f.val = f.val by omega
  | ⟨3, _⟩ => exact show 0 + 1 * d.val = d.val by omega

theorem weight_1 (X : Vec Ideal S128x1152 .f32) (p : Fin 128) :
    View.ld X (Rect.unit (s := S128x1152) ![0, 1025] S128x1.size inb_S128x1152_S128x1_0_1025) (ix2 p 0)
      = X (ix2 p ⟨1025, by decide⟩) := by
  refine congrArg X (funext fun a => Fin.ext ?_)
  match a with
  | ⟨0, _⟩ => exact show 0 + 1 * p.val = p.val by omega
  | ⟨1, _⟩ => exact rfl

theorem wide_1 (G : Vec Ideal S1x4x1024x512 .bf16) (k : Fin 1024) (f : Fin 512) :
    View.ld G (Rect.unit (s := S1x4x1024x512) ![0, 1, 0, 0] S1x1x1024x512.size inb_S1x4x1024x512_S1x1x1024x512_0_1_0_0) (ix4 0 0 k f)
      = G (ix4 0 1 k f) := by
  refine congrArg G (funext fun a => Fin.ext ?_)
  match a with
  | ⟨0, _⟩ => rfl
  | ⟨1, _⟩ => rfl
  | ⟨2, _⟩ => exact show 0 + 1 * k.val = k.val by omega
  | ⟨3, _⟩ => exact show 0 + 1 * f.val = f.val by omega

theorem narrow_1 (D : Vec Ideal S1x4x512x1024 .bf16) (f : Fin 512) (d : Fin 1024) :
    View.ld D (Rect.unit (s := S1x4x512x1024) ![0, 1, 0, 0] S1x1x512x1024.size inb_S1x4x512x1024_S1x1x512x1024_0_1_0_0) (ix4 0 0 f d)
      = D (ix4 0 1 f d) := by
  refine congrArg D (funext fun a => Fin.ext ?_)
  match a with
  | ⟨0, _⟩ => rfl
  | ⟨1, _⟩ => rfl
  | ⟨2, _⟩ => exact show 0 + 1 * f.val = f.val by omega
  | ⟨3, _⟩ => exact show 0 + 1 * d.val = d.val by omega

theorem weight_2 (X : Vec Ideal S128x1152 .f32) (p : Fin 128) :
    View.ld X (Rect.unit (s := S128x1152) ![0, 1026] S128x1.size inb_S128x1152_S128x1_0_1026) (ix2 p 0)
      = X (ix2 p ⟨1026, by decide⟩) := by
  refine congrArg X (funext fun a => Fin.ext ?_)
  match a with
  | ⟨0, _⟩ => exact show 0 + 1 * p.val = p.val by omega
  | ⟨1, _⟩ => exact rfl

theorem wide_2 (G : Vec Ideal S1x4x1024x512 .bf16) (k : Fin 1024) (f : Fin 512) :
    View.ld G (Rect.unit (s := S1x4x1024x512) ![0, 2, 0, 0] S1x1x1024x512.size inb_S1x4x1024x512_S1x1x1024x512_0_2_0_0) (ix4 0 0 k f)
      = G (ix4 0 2 k f) := by
  refine congrArg G (funext fun a => Fin.ext ?_)
  match a with
  | ⟨0, _⟩ => rfl
  | ⟨1, _⟩ => rfl
  | ⟨2, _⟩ => exact show 0 + 1 * k.val = k.val by omega
  | ⟨3, _⟩ => exact show 0 + 1 * f.val = f.val by omega

theorem narrow_2 (D : Vec Ideal S1x4x512x1024 .bf16) (f : Fin 512) (d : Fin 1024) :
    View.ld D (Rect.unit (s := S1x4x512x1024) ![0, 2, 0, 0] S1x1x512x1024.size inb_S1x4x512x1024_S1x1x512x1024_0_2_0_0) (ix4 0 0 f d)
      = D (ix4 0 2 f d) := by
  refine congrArg D (funext fun a => Fin.ext ?_)
  match a with
  | ⟨0, _⟩ => rfl
  | ⟨1, _⟩ => rfl
  | ⟨2, _⟩ => exact show 0 + 1 * f.val = f.val by omega
  | ⟨3, _⟩ => exact show 0 + 1 * d.val = d.val by omega

theorem weight_3 (X : Vec Ideal S128x1152 .f32) (p : Fin 128) :
    View.ld X (Rect.unit (s := S128x1152) ![0, 1027] S128x1.size inb_S128x1152_S128x1_0_1027) (ix2 p 0)
      = X (ix2 p ⟨1027, by decide⟩) := by
  refine congrArg X (funext fun a => Fin.ext ?_)
  match a with
  | ⟨0, _⟩ => exact show 0 + 1 * p.val = p.val by omega
  | ⟨1, _⟩ => exact rfl

theorem wide_3 (G : Vec Ideal S1x4x1024x512 .bf16) (k : Fin 1024) (f : Fin 512) :
    View.ld G (Rect.unit (s := S1x4x1024x512) ![0, 3, 0, 0] S1x1x1024x512.size inb_S1x4x1024x512_S1x1x1024x512_0_3_0_0) (ix4 0 0 k f)
      = G (ix4 0 3 k f) := by
  refine congrArg G (funext fun a => Fin.ext ?_)
  match a with
  | ⟨0, _⟩ => rfl
  | ⟨1, _⟩ => rfl
  | ⟨2, _⟩ => exact show 0 + 1 * k.val = k.val by omega
  | ⟨3, _⟩ => exact show 0 + 1 * f.val = f.val by omega

theorem narrow_3 (D : Vec Ideal S1x4x512x1024 .bf16) (f : Fin 512) (d : Fin 1024) :
    View.ld D (Rect.unit (s := S1x4x512x1024) ![0, 3, 0, 0] S1x1x512x1024.size inb_S1x4x512x1024_S1x1x512x1024_0_3_0_0) (ix4 0 0 f d)
      = D (ix4 0 3 f d) := by
  refine congrArg D (funext fun a => Fin.ext ?_)
  match a with
  | ⟨0, _⟩ => rfl
  | ⟨1, _⟩ => rfl
  | ⟨2, _⟩ => exact show 0 + 1 * f.val = f.val by omega
  | ⟨3, _⟩ => exact show 0 + 1 * d.val = d.val by omega

/-! ## What a tile leaves -/

/-- One expert's part of a tile's result, from the tile's blocks. -/
def partOf (X : Vec Ideal S128x1152 .f32) (G U : Vec Ideal S1x4x1024x512 .bf16) (D : Vec Ideal S1x4x512x1024 .bf16)
    (k : Fin 4) (p : Fin 128) (d : Fin 1024) : EReal :=
  ∑ f : Fin 512, hidden (fun j => X (ix2 p ⟨j.val, by omega⟩)) (fun j => G (ix4 0 k j f)) (fun j => U (ix4 0 k j f))
    * X (ix2 p ⟨1024 + k.val, by omega⟩) * D (ix4 0 k f d)

theorem hidden_congr {x x' g g' u u' : Fin 1024 → EReal} (hx : ∀ k, x k = x' k) (hg : ∀ k, g k = g' k) (hu : ∀ k, u k = u' k) :
    hidden x g u = hidden x' g' u' := by
  rw [funext hx, funext hg, funext hu]

theorem part_0 (X : Vec Ideal S128x1152 .f32) (G U : Vec Ideal S1x4x1024x512 .bf16) (D : Vec Ideal S1x4x512x1024 .bf16)
    (p : Fin 128) (d : Fin 1024) :
    part (View.ld X (Rect.unit (s := S128x1152) ![0, 0] S128x1024.size inb_S128x1152_S128x1024_0_0))
        (View.ld G (Rect.unit (s := S1x4x1024x512) ![0, 0, 0, 0] S1x1x1024x512.size inb_S1x4x1024x512_S1x1x1024x512_0_0_0_0))
        (View.ld U (Rect.unit (s := S1x4x1024x512) ![0, 0, 0, 0] S1x1x1024x512.size inb_S1x4x1024x512_S1x1x1024x512_0_0_0_0))
        (View.ld X (Rect.unit (s := S128x1152) ![0, 1024] S128x1.size inb_S128x1152_S128x1_0_1024))
        (View.ld D (Rect.unit (s := S1x4x512x1024) ![0, 0, 0, 0] S1x1x512x1024.size inb_S1x4x512x1024_S1x1x512x1024_0_0_0_0)) p d
      = partOf X G U D 0 p d :=
  Finset.sum_congr rfl fun f _ => congrArg₂ (· * ·) (congrArg₂ (· * ·)
    (hidden_congr (row_values X p) (fun j => wide_0 G j f) (fun j => wide_0 U j f)) (weight_0 X p)) (narrow_0 D f d)

theorem part_1 (X : Vec Ideal S128x1152 .f32) (G U : Vec Ideal S1x4x1024x512 .bf16) (D : Vec Ideal S1x4x512x1024 .bf16)
    (p : Fin 128) (d : Fin 1024) :
    part (View.ld X (Rect.unit (s := S128x1152) ![0, 0] S128x1024.size inb_S128x1152_S128x1024_0_0))
        (View.ld G (Rect.unit (s := S1x4x1024x512) ![0, 1, 0, 0] S1x1x1024x512.size inb_S1x4x1024x512_S1x1x1024x512_0_1_0_0))
        (View.ld U (Rect.unit (s := S1x4x1024x512) ![0, 1, 0, 0] S1x1x1024x512.size inb_S1x4x1024x512_S1x1x1024x512_0_1_0_0))
        (View.ld X (Rect.unit (s := S128x1152) ![0, 1025] S128x1.size inb_S128x1152_S128x1_0_1025))
        (View.ld D (Rect.unit (s := S1x4x512x1024) ![0, 1, 0, 0] S1x1x512x1024.size inb_S1x4x512x1024_S1x1x512x1024_0_1_0_0)) p d
      = partOf X G U D 1 p d :=
  Finset.sum_congr rfl fun f _ => congrArg₂ (· * ·) (congrArg₂ (· * ·)
    (hidden_congr (row_values X p) (fun j => wide_1 G j f) (fun j => wide_1 U j f)) (weight_1 X p)) (narrow_1 D f d)

theorem part_2 (X : Vec Ideal S128x1152 .f32) (G U : Vec Ideal S1x4x1024x512 .bf16) (D : Vec Ideal S1x4x512x1024 .bf16)
    (p : Fin 128) (d : Fin 1024) :
    part (View.ld X (Rect.unit (s := S128x1152) ![0, 0] S128x1024.size inb_S128x1152_S128x1024_0_0))
        (View.ld G (Rect.unit (s := S1x4x1024x512) ![0, 2, 0, 0] S1x1x1024x512.size inb_S1x4x1024x512_S1x1x1024x512_0_2_0_0))
        (View.ld U (Rect.unit (s := S1x4x1024x512) ![0, 2, 0, 0] S1x1x1024x512.size inb_S1x4x1024x512_S1x1x1024x512_0_2_0_0))
        (View.ld X (Rect.unit (s := S128x1152) ![0, 1026] S128x1.size inb_S128x1152_S128x1_0_1026))
        (View.ld D (Rect.unit (s := S1x4x512x1024) ![0, 2, 0, 0] S1x1x512x1024.size inb_S1x4x512x1024_S1x1x512x1024_0_2_0_0)) p d
      = partOf X G U D 2 p d :=
  Finset.sum_congr rfl fun f _ => congrArg₂ (· * ·) (congrArg₂ (· * ·)
    (hidden_congr (row_values X p) (fun j => wide_2 G j f) (fun j => wide_2 U j f)) (weight_2 X p)) (narrow_2 D f d)

theorem part_3 (X : Vec Ideal S128x1152 .f32) (G U : Vec Ideal S1x4x1024x512 .bf16) (D : Vec Ideal S1x4x512x1024 .bf16)
    (p : Fin 128) (d : Fin 1024) :
    part (View.ld X (Rect.unit (s := S128x1152) ![0, 0] S128x1024.size inb_S128x1152_S128x1024_0_0))
        (View.ld G (Rect.unit (s := S1x4x1024x512) ![0, 3, 0, 0] S1x1x1024x512.size inb_S1x4x1024x512_S1x1x1024x512_0_3_0_0))
        (View.ld U (Rect.unit (s := S1x4x1024x512) ![0, 3, 0, 0] S1x1x1024x512.size inb_S1x4x1024x512_S1x1x1024x512_0_3_0_0))
        (View.ld X (Rect.unit (s := S128x1152) ![0, 1027] S128x1.size inb_S128x1152_S128x1_0_1027))
        (View.ld D (Rect.unit (s := S1x4x512x1024) ![0, 3, 0, 0] S1x1x512x1024.size inb_S1x4x512x1024_S1x1x512x1024_0_3_0_0)) p d
      = partOf X G U D 3 p d :=
  Finset.sum_congr rfl fun f _ => congrArg₂ (· * ·) (congrArg₂ (· * ·)
    (hidden_congr (row_values X p) (fun j => wide_3 G j f) (fun j => wide_3 U j f)) (weight_3 X p)) (narrow_3 D f d)

variable (m : (ℓ : Loc nD τ sig) → Buf (Elt Ideal) ℓ)

/-- A tile past the count leaves zeros. -/
theorem idle_tile (h : Named m) (c : Dev nD) (t : Fin (cfg m h).N) (hu : ¬ Used m c h t) (p : Fin 128) (d : Fin 1024) :
    leaves m h c t (ix2 p d) = 0 := by
  rw [leaves_unused m h c t hu]
  unfold piecesUnused
  frame_out
  pointwise [k0_pay2]

/-- The four experts' parts, added. -/
def partsOf (X : Vec Ideal S128x1152 .f32) (G U : Vec Ideal S1x4x1024x512 .bf16) (D : Vec Ideal S1x4x512x1024 .bf16)
    (p : Fin 128) (d : Fin 1024) : EReal :=
  partOf X G U D 0 p d + partOf X G U D 1 p d + partOf X G U D 2 p d + partOf X G U D 3 p d

/-- The stores of the body where the tile is in use hold them, whatever the blocks. -/
theorem stored (c : Dev nD) (i : grid0.Coords) (x : Memref sig .tc .vmem S128x1152 .f32) (hx : x.IsWhole)
    (wg : Memref sig .tc .vmem S1x4x1024x512 .bf16) (hwg : wg.IsWhole) (wu : Memref sig .tc .vmem S1x4x1024x512 .bf16)
    (hwu : wu.IsWhole) (wd : Memref sig .tc .vmem S1x4x512x1024 .bf16) (hwd : wd.IsWhole)
    (y : Memref sig .tc .vmem S128x1024 .f32) (hy : y.IsWhole)
    (X : Vec Ideal S128x1152 .f32) (G U : Vec Ideal S1x4x1024x512 .bf16) (D : Vec Ideal S1x4x512x1024 .bf16)
    (g : TableBuf Ideal c groups) (n : TableBuf Ideal c count)
    (h1 : k0_cond1 i (word c n) = 1#1) (h2 : ¬ k0_cond2 i (word c n) = 1#1) (p : Fin 128) (d : Fin 1024) :
    VO.read (Elt Ideal) (VO.writes (Elt Ideal) VO.junk (runUsed c i x hx wg hwg wu hwu wd hwd y hy X G U D g n h1 h2).1) (ix2 p d)
      = partsOf X G U D p d := by
  frame_out
  refine (fourth _ _ _ _ _ _ p d).trans ?_
  rw [second_third, first]
  exact congrArg₂ (· + ·) (congrArg₂ (· + ·) (congrArg₂ (· + ·) (part_0 X G U D p d) (part_1 X G U D p d))
    (part_2 X G U D p d)) (part_3 X G U D p d)

/-- A tile in use leaves its four experts' parts, added. -/
theorem used_tile (h : Named m) (c : Dev nD) (t : Fin (cfg m h).N) (hu : Used m c h t) (p : Fin 128) (d : Fin 1024) :
    leaves m h c t (ix2 p d) = partsOf (blk m h c 0 t) (blk m h c 1 t) (blk m h c 2 t) (blk m h c 3 t) p d := by
  rw [leaves_used m h c t hu]
  exact stored _ _ _ _ _ _ _ _ _ _ _ _ _ _ _ _ _ _ _ _ p d

/-! ## The host's arrays and the blocks -/

/-- The first weights by groups are the first weights, four experts to a group, -/
theorem host_gate (c : Dev nD) (a k : Fin 4) (j : Fin 1024) (f : Fin 512) :
    (V m c main_v1 : FVec Ideal S4x4x1024x512 .bf16) (ix4 a k j f)
      = (m ((c : Thread nD τ).loc main_arg3) : FVec Ideal S16x1024x512 .f32) (ix3 (member a k) j f) := by
  unfold V
  after_reads_at
  exact congrArg (fun e : Fin 16 => (m ((c : Thread nD τ).loc main_arg3) : FVec Ideal S16x1024x512 .f32) (ix3 e j f))
    (Fin.ext (show a.val * 4 + k.val = 4 * a.val + k.val by omega))

/-- and so are the second -/
theorem host_up (c : Dev nD) (a k : Fin 4) (j : Fin 1024) (f : Fin 512) :
    (V m c main_v3 : FVec Ideal S4x4x1024x512 .bf16) (ix4 a k j f)
      = (m ((c : Thread nD τ).loc main_arg4) : FVec Ideal S16x1024x512 .f32) (ix3 (member a k) j f) := by
  unfold V
  after_reads_at
  exact congrArg (fun e : Fin 16 => (m ((c : Thread nD τ).loc main_arg4) : FVec Ideal S16x1024x512 .f32) (ix3 e j f))
    (Fin.ext (show a.val * 4 + k.val = 4 * a.val + k.val by omega))

/-- and the last. -/
theorem host_down (c : Dev nD) (a k : Fin 4) (f : Fin 512) (d : Fin 1024) :
    (V m c main_v5 : FVec Ideal S4x4x512x1024 .bf16) (ix4 a k f d)
      = (m ((c : Thread nD τ).loc main_arg5) : FVec Ideal S16x512x1024 .f32) (ix3 (member a k) f d) := by
  unfold V
  after_reads_at
  exact congrArg (fun e : Fin 16 => (m ((c : Thread nD τ).loc main_arg5) : FVec Ideal S16x512x1024 .f32) (ix3 e f d))
    (Fin.ext (show a.val * 4 + k.val = 4 * a.val + k.val by omega))

/-- The four experts' parts, added, are the group's weighted sum. -/
theorem parts_eq (X : Vec Ideal S128x1152 .f32) (G U : Vec Ideal S1x4x1024x512 .bf16) (D : Vec Ideal S1x4x512x1024 .bf16)
    (x : Fin 1024 → EReal) (w : Fin 4 → EReal) (wg wu : FVec Ideal S16x1024x512 .f32) (wd : FVec Ideal S16x512x1024 .f32)
    (g : Fin 4) (p : Fin 128) (d : Fin 1024) (hx : ∀ j : Fin 1024, X (ix2 p ⟨j.val, by omega⟩) = x j)
    (hw : ∀ k : Fin 4, X (ix2 p ⟨1024 + k.val, by omega⟩) = w k)
    (hG : ∀ (k : Fin 4) (j : Fin 1024) (f : Fin 512), G (ix4 0 k j f) = wg (ix3 (member g k) j f))
    (hU : ∀ (k : Fin 4) (j : Fin 1024) (f : Fin 512), U (ix4 0 k j f) = wu (ix3 (member g k) j f))
    (hD : ∀ (k : Fin 4) (f : Fin 512) (d : Fin 1024), D (ix4 0 k f d) = wd (ix3 (member g k) f d))
    (h0 : ∀ k, 0 ≤ w k) (h1 : ∀ k, w k ≠ ⊤) :
    partsOf X G U D p d = routed x wg wu wd w g d := by
  have key : ∀ k : Fin 4, partOf X G U D k p d = expert x wg wu wd (member g k) d * w k := by
    intro k
    refine Eq.trans ?_ (weight_out (fun f => hidden x (fun j => wg (ix3 (member g k) j f)) (fun j => wu (ix3 (member g k) j f)))
      (fun f => wd (ix3 (member g k) f d)) (w k) (h0 k) (h1 k))
    exact Finset.sum_congr rfl fun f _ => congrArg₂ (· * ·) (congrArg₂ (· * ·)
      (hidden_congr hx (fun j => hG k j f) (fun j => hU k j f)) (hw k)) (hD k f d)
  unfold partsOf routed
  rw [key, key, key, key]

/-- A tile's number, written as a word and read back. -/
theorem number (T : Fin 5) : (BitVec.ofNat 32 T.val).toNat = T.val :=
  (by decide +kernel : ∀ T : Fin 5, (BitVec.ofNat 32 T.val).toNat = T.val) T

/-- A tile, by its number. -/
abbrev num (h : Named m) (t : Fin (cfg m h).N) : Fin 5 := grid0.coords t 0

/-- The rows' block at a tile. -/
theorem blk0 (h : Named m) (c : Dev nD) (t : Fin (cfg m h).N) (p : Fin 128) (k : Fin 1152) :
    (blk m h c 0 t : Vec Ideal S128x1152 .f32) (ix2 p k)
      = (m ((c : Thread nD τ).loc main_arg2) : FVec Ideal S640x1152 .f32) (ix2 ⟨128 * (num m h t).val + p.val, by omega⟩ k) := by
  refine Eq.trans ?_ (congrFun (kept m c main_arg2 (by decide)) _)
  refine congrArg (V m c main_arg2 : FVec Ideal S640x1152 .f32) (funext fun a => Fin.ext ?_)
  match a with
  | ⟨0, _⟩ =>
    exact show (BitVec.ofNat 32 (num m h t).val).toNat * 128 + 1 * p.val = 128 * (num m h t).val + p.val by
      rw [number]; omega
  | ⟨1, _⟩ => exact show 0 * 1152 + 1 * k.val = k.val by omega

/-- The first weights' block at a tile of group `g`. -/
theorem blk1 (h : Named m) (c : Dev nD) (t : Fin (cfg m h).N) (g : Fin 4) (hg : (groupWord (tbl m) (num m h t)).toNat = g.val)
    (k : Fin 4) (j : Fin 1024) (f : Fin 512) :
    (blk m h c 1 t : Vec Ideal S1x4x1024x512 .bf16) (ix4 0 k j f)
      = (m ((c : Thread nD τ).loc main_arg3) : FVec Ideal S16x1024x512 .f32) (ix3 (member g k) j f) := by
  refine Eq.trans ?_ (host_gate m c g k j f)
  refine congrArg (V m c main_v1 : FVec Ideal S4x4x1024x512 .bf16) (funext fun a => Fin.ext ?_)
  have e : ∀ a, cc0_transform_1 k0_off1_inb numel1_S1 (tbl m) (grid0.coords t) a = (![g.val, 0, 0, 0] : Fin 4 → ℕ) a := by
    intro a
    rw [index1, show (groupWord (tbl m) (grid0.coords t 0)).toNat = g.val from hg]
  match a with
  | ⟨0, _⟩ =>
    exact show cc0_transform_1 k0_off1_inb numel1_S1 (tbl m) (grid0.coords t) 0 * 1 + 1 * 0 = g.val by
      rw [e 0]; exact Nat.mul_one _
  | ⟨1, _⟩ =>
    exact show cc0_transform_1 k0_off1_inb numel1_S1 (tbl m) (grid0.coords t) 1 * 4 + 1 * k.val = k.val by
      rw [e 1]; exact show 0 * 4 + 1 * k.val = k.val by omega
  | ⟨2, _⟩ =>
    exact show cc0_transform_1 k0_off1_inb numel1_S1 (tbl m) (grid0.coords t) 2 * 1024 + 1 * j.val = j.val by
      rw [e 2]; exact show 0 * 1024 + 1 * j.val = j.val by omega
  | ⟨3, _⟩ =>
    exact show cc0_transform_1 k0_off1_inb numel1_S1 (tbl m) (grid0.coords t) 3 * 512 + 1 * f.val = f.val by
      rw [e 3]; exact show 0 * 512 + 1 * f.val = f.val by omega

/-- The second weights' block at a tile of group `g`. -/
theorem blk2 (h : Named m) (c : Dev nD) (t : Fin (cfg m h).N) (g : Fin 4) (hg : (groupWord (tbl m) (num m h t)).toNat = g.val)
    (k : Fin 4) (j : Fin 1024) (f : Fin 512) :
    (blk m h c 2 t : Vec Ideal S1x4x1024x512 .bf16) (ix4 0 k j f)
      = (m ((c : Thread nD τ).loc main_arg4) : FVec Ideal S16x1024x512 .f32) (ix3 (member g k) j f) := by
  refine Eq.trans ?_ (host_up m c g k j f)
  refine congrArg (V m c main_v3 : FVec Ideal S4x4x1024x512 .bf16) (funext fun a => Fin.ext ?_)
  have e : ∀ a, cc0_transform_2 k0_off1_inb numel1_S1 (tbl m) (grid0.coords t) a = (![g.val, 0, 0, 0] : Fin 4 → ℕ) a := by
    intro a
    rw [index2, show (groupWord (tbl m) (grid0.coords t 0)).toNat = g.val from hg]
  match a with
  | ⟨0, _⟩ =>
    exact show cc0_transform_2 k0_off1_inb numel1_S1 (tbl m) (grid0.coords t) 0 * 1 + 1 * 0 = g.val by
      rw [e 0]; exact Nat.mul_one _
  | ⟨1, _⟩ =>
    exact show cc0_transform_2 k0_off1_inb numel1_S1 (tbl m) (grid0.coords t) 1 * 4 + 1 * k.val = k.val by
      rw [e 1]; exact show 0 * 4 + 1 * k.val = k.val by omega
  | ⟨2, _⟩ =>
    exact show cc0_transform_2 k0_off1_inb numel1_S1 (tbl m) (grid0.coords t) 2 * 1024 + 1 * j.val = j.val by
      rw [e 2]; exact show 0 * 1024 + 1 * j.val = j.val by omega
  | ⟨3, _⟩ =>
    exact show cc0_transform_2 k0_off1_inb numel1_S1 (tbl m) (grid0.coords t) 3 * 512 + 1 * f.val = f.val by
      rw [e 3]; exact show 0 * 512 + 1 * f.val = f.val by omega

/-- The last weights' block at a tile of group `g`. -/
theorem blk3 (h : Named m) (c : Dev nD) (t : Fin (cfg m h).N) (g : Fin 4) (hg : (groupWord (tbl m) (num m h t)).toNat = g.val)
    (k : Fin 4) (f : Fin 512) (d : Fin 1024) :
    (blk m h c 3 t : Vec Ideal S1x4x512x1024 .bf16) (ix4 0 k f d)
      = (m ((c : Thread nD τ).loc main_arg5) : FVec Ideal S16x512x1024 .f32) (ix3 (member g k) f d) := by
  refine Eq.trans ?_ (host_down m c g k f d)
  refine congrArg (V m c main_v5 : FVec Ideal S4x4x512x1024 .bf16) (funext fun a => Fin.ext ?_)
  have e : ∀ a, cc0_transform_3 k0_off1_inb numel1_S1 (tbl m) (grid0.coords t) a = (![g.val, 0, 0, 0] : Fin 4 → ℕ) a := by
    intro a
    rw [index3, show (groupWord (tbl m) (grid0.coords t 0)).toNat = g.val from hg]
  match a with
  | ⟨0, _⟩ =>
    exact show cc0_transform_3 k0_off1_inb numel1_S1 (tbl m) (grid0.coords t) 0 * 1 + 1 * 0 = g.val by
      rw [e 0]; exact Nat.mul_one _
  | ⟨1, _⟩ =>
    exact show cc0_transform_3 k0_off1_inb numel1_S1 (tbl m) (grid0.coords t) 1 * 4 + 1 * k.val = k.val by
      rw [e 1]; exact show 0 * 4 + 1 * k.val = k.val by omega
  | ⟨2, _⟩ =>
    exact show cc0_transform_3 k0_off1_inb numel1_S1 (tbl m) (grid0.coords t) 2 * 512 + 1 * f.val = f.val by
      rw [e 2]; exact show 0 * 512 + 1 * f.val = f.val by omega
  | ⟨3, _⟩ =>
    exact show cc0_transform_3 k0_off1_inb numel1_S1 (tbl m) (grid0.coords t) 3 * 1024 + 1 * d.val = d.val by
      rw [e 3]; exact show 0 * 1024 + 1 * d.val = d.val by omega

/-! ## The result array -/

/-- Every tile's block of the result is written back, -/
theorem flushes (h : Named m) (t : Fin (cfg m h).N) : ((cfg m h).win 4).flush t = true :=
  (fun t => (Pipeline.Window.flushOf_reads cc0_transform_4 reads0_4 hreads0_4 0 (by decide) (by decide)
    (Pipeline.Window.sep_of_coord cc0_transform_4 0 0 (fun _ => rfl) (by decide)) (P := 1) (m := 0) (by decide) rfl t).mpr
    (Nat.mod_one _) : ∀ t : Fin grid0.N, Pipeline.Window.flushOf grid0 true cc0_transform_4 t = true) t

/-- no two of them meet, -/
theorem apart (h : Named m) (t t' : Fin (cfg m h).N) (hne : t ≠ t') :
    Disjoint (((cfg m h).win 4).blk t).view.set (((cfg m h).win 4).blk t').view.set :=
  ((cfg m h).win 4).disjoint_blk fun e => hne ((by decide +kernel : ∀ t t' : Fin grid0.N,
    cc0_transform_4 (grid0.coords t) = cc0_transform_4 (grid0.coords t') → t = t') t t' e)

/-- so each holds what its tile left. -/
theorem block_final (h : Named m) (c : Dev nD) (t : Fin (cfg m h).N) (p : Fin 128) (d : Fin 1024) :
    ((dats m h 0 c).arrAt 4 (cfg m h).N : FVec Ideal S640x1024 .f32) (ix2 ⟨128 * (num m h t).val + p.val, by omega⟩ d)
      = leaves m h c t (ix2 p d) := by
  have key := congrFun ((dats m h 0 c).read_blk_arrAt_eq_flushed 4 (fun t t' _ _ hne => apart m h t t' hne) (cfg m h).N t t.isLt
    (flushes m h t)) (ix2 p d)
  refine Eq.trans ?_ (key.trans (congrFun (after4 m h c t) (ix2 p d)))
  generalize (dats m h 0 c).arrAt 4 (cfg m h).N = R
  · refine congrArg (R : FVec Ideal S640x1024 .f32) (funext fun a => Fin.ext ?_)
    match a with
    | ⟨0, _⟩ =>
      exact show 128 * (num m h t).val + p.val = (BitVec.ofNat 32 (num m h t).val).toNat * 128 + 1 * p.val by
        rw [number]; omega
    | ⟨1, _⟩ => exact show d.val = 0 * 1024 + 1 * d.val by omega

/-- The rows, as the call is given them. -/
abbrev given_rows (c : Dev nD) : FVec Ideal S640x1152 .f32 := m ((c : Thread nD τ).loc main_arg2)

/-- The result array is `experts` of the arguments, when the weights of every row are at least zero and finite and every
    tile's word names a group. -/
theorem final (h : Named m) (c : Dev nD)
    (hs : ∀ j : Fin 5, (groupWord (tbl m) j).toNat < 4)
    (hw : ∀ (r : Fin 640) (k : Fin 4), 0 ≤ given_rows m c (ix2 r ⟨1024 + k.val, by omega⟩)
      ∧ given_rows m c (ix2 r ⟨1024 + k.val, by omega⟩) ≠ ⊤)
    (r : Fin 640) (d : Fin 1024) :
    ((dats m h 0 c).arrAt 4 (cfg m h).N : FVec Ideal S640x1024 .f32) (ix2 r d)
      = experts (m ((c : Thread nD τ).loc main_arg3)) (m ((c : Thread nD τ).loc main_arg4)) (m ((c : Thread nD τ).loc main_arg5))
        (m ((c : Thread nD τ).loc main_arg0)) (m ((c : Thread nD τ).loc main_arg1)) (m ((c : Thread nD τ).loc main_arg2)) r d := by
  have key : ∀ T : Fin 5, (grid0.coords ⟨T.val, by have := N_0; omega⟩ 0).val = T.val := by decide +kernel
  obtain ⟨t, ht⟩ : ∃ t : Fin (cfg m h).N, num m h t = tileOf r :=
    ⟨⟨(tileOf r).val, by have := N_0; exact show (tileOf r).val < grid0.N by omega⟩, Fin.ext (key (tileOf r))⟩
  have htv : (num m h t).val = r.val / 128 := congrArg Fin.val ht
  obtain ⟨p, er⟩ : ∃ p : Fin 128, r = ⟨128 * (num m h t).val + p.val, by omega⟩ :=
    ⟨⟨r.val % 128, Nat.mod_lt _ (by decide)⟩,
      Fin.ext (show r.val = 128 * (num m h t).val + r.val % 128 by rw [htv]; omega)⟩
  refine (congrArg (fun r => ((dats m h 0 c).arrAt 4 (cfg m h).N : FVec Ideal S640x1024 .f32) (ix2 r d)) er).trans
    ((block_final m h c t p d).trans ?_)
  have hu : Used m c h t ↔ InUse (m ((c : Thread nD τ).loc main_arg1)) (tileOf r) := by
    exact (used_iff _ _).trans (iff_of_eq (congrArg₂ (fun (T : Fin 5) (w : BitVec 32) => (BitVec.ofNat 32 T.val).toInt < w.toInt)
      ht ((word_eq c (tbl m 1)).trans (tbl_count m c))))
  unfold experts
  by_cases hc : InUse (m ((c : Thread nD τ).loc main_arg1)) (tileOf r)
  · rw [if_pos hc, used_tile m h c t (hu.mpr hc)]
    have hg : (groupWord (tbl m) (num m h t)).toNat
        = (groupOf (m ((c : Thread nD τ).loc main_arg0)) (tileOf r)).val := by
      rw [ht]
      exact (Nat.mod_eq_of_lt (hs (tileOf r))).symm.trans (congrArg (fun w : BitVec 32 => w.toNat % 4) (tbl_groups m c (tileOf r)))
    have e0 : ∀ j : Fin 1152, (blk m h c 0 t : Vec Ideal S128x1152 .f32) (ix2 p j)
        = given_rows m c (ix2 r j) := fun j =>
      (blk0 m h c t p j).trans
        (congrArg (fun r => given_rows m c (ix2 r j)) er.symm)
    exact parts_eq _ _ _ _ _ _ _ _ _ _ p d (fun j => e0 _) (fun k => e0 _) (blk1 m h c t _ hg) (blk2 m h c t _ hg)
      (blk3 m h c t _ hg) (fun k => (hw r k).1) (fun k => (hw r k).2)
  · rw [if_neg hc, idle_tile m h c t (fun e => hc (hu.mp e))]

end Cert.ExpertsSIdeal.Blocks

end
-- ==== Proof.ExpertsS.Reference.lean ====
/- The reference of the experts' call for the sample batch, stage by stage at an index, ending at `Cert.Layer.Sample.experts`. -/
module

public import proofs.«01_k».proof.Proof.Gen.ExpertsSReferenceIdeal.Read
public import proofs.«01_k».proof.Proof.ExpertsS.Mixture

@[expose] public section

noncomputable section

open Idealize.ShloMosaic Idealize.ShloMosaic.TcCoe Idealize.SL.Sem Cert.Layer Cert.Layer.Sample

namespace Cert.ExpertsSReferenceIdeal.Stages

open Cert.ExpertsSReferenceIdeal Cert.ExpertsSReferenceIdeal.Gen Cert.ExpertsSReferenceIdeal.Read

variable (x0 : (⟨S5, .i32⟩ : BufTy).Contents (Elt Ideal)) (x1 : (⟨S1, .i32⟩ : BufTy).Contents (Elt Ideal))
  (x2 : (⟨S640x1152, .f32⟩ : BufTy).Contents (Elt Ideal))
  (x3 x4 : (⟨S16x1024x512, .f32⟩ : BufTy).Contents (Elt Ideal)) (x5 : (⟨S16x512x1024, .f32⟩ : BufTy).Contents (Elt Ideal))

/-- The program's zero. -/
theorem zero_spelt : (FloatOps.ofBits .f32 0x00000000#32 : Ideal .f32) = (0 : EReal) := by
  pointwise

/-- The program's one. -/
theorem one_spelt : (FloatOps.ofBits .f32 0x3F800000#32 : Ideal .f32) = (1 : EReal) := by
  pointwise

/-! ## The experts' outputs -/

/-- A row's values past the weights. -/
abbrev row (r : Fin 640) (k : Fin 1024) : EReal := x2 (ix2 r ⟨k.val, by omega⟩)

/-- The product with the gate's columns. -/
theorem gate (e : Fin 16) (r : Fin 640) (f : Fin 512) :
    val_main_v23 (F := Ideal) x2 x3 (ix3 e r f) = ∑ k : Fin 1024, row x2 r k * x3 (ix3 e k f) := by
  rw [val_main_v23_apply, val_main_v22_apply]
  refine Finset.sum_congr rfl fun k _ => ?_
  have h1 : idx_main_v7 (ridx_main_v22 (idx_main_v23 (ix3 e r f)) k) = ix2 r ⟨k.val, by omega⟩ := by
    funext a; match a with | ⟨0, _⟩ => rfl | ⟨1, _⟩ => rfl
  have h2 : lidx_main_v22 (idx_main_v23 (ix3 e r f)) k = ix3 e k f := by
    funext a; match a with | ⟨0, _⟩ => rfl | ⟨1, _⟩ => rfl | ⟨2, _⟩ => rfl
  rw [val_main_v7_apply, mul_comm, h1, h2]

/-- The product with the other columns. -/
theorem up (e : Fin 16) (r : Fin 640) (f : Fin 512) :
    val_main_v26 (F := Ideal) x2 x4 (ix3 e r f) = ∑ k : Fin 1024, row x2 r k * x4 (ix3 e k f) := by
  rw [val_main_v26_apply, val_main_v25_apply]
  refine Finset.sum_congr rfl fun k _ => ?_
  have h1 : idx_main_v7 (ridx_main_v25 (idx_main_v26 (ix3 e r f)) k) = ix2 r ⟨k.val, by omega⟩ := by
    funext a; match a with | ⟨0, _⟩ => rfl | ⟨1, _⟩ => rfl
  have h2 : lidx_main_v25 (idx_main_v26 (ix3 e r f)) k = ix3 e k f := by
    funext a; match a with | ⟨0, _⟩ => rfl | ⟨1, _⟩ => rfl | ⟨2, _⟩ => rfl
  rw [val_main_v7_apply, mul_comm, h1, h2]

/-- The hidden values. -/
theorem inner (e : Fin 16) (r : Fin 640) (f : Fin 512) :
    val_main_v27 (F := Ideal) x2 x3 x4 (ix3 e r f)
      = hidden (row x2 r) (fun k => x3 (ix3 e k f)) (fun k => x4 (ix3 e k f)) := by
  rw [val_main_v27_apply, val_main_v24_apply, up, gate, val_main_call1_v5_apply, val_main_call1_v4_apply,
    val_main_call1_cst_0_apply, val_main_call1_v3_apply, val_main_call1_v2_apply, val_main_call1_cst_apply,
    val_main_call1_v1_apply, val_main_call1_v0_apply, gate, one_spelt]
  rfl

/-- An expert's output. -/
theorem output (e : Fin 16) (r : Fin 640) (d : Fin 1024) :
    val_main_v28 (F := Ideal) x2 x3 x4 x5 (ix3 e r d) = expert (row x2 r) x3 x4 x5 e d := by
  rw [val_main_v28_apply]
  unfold expert
  refine Finset.sum_congr rfl fun f _ => ?_
  have h1 : lidx_main_v28 (ix3 e r d) f = ix3 e r f := by
    funext a; match a with | ⟨0, _⟩ => rfl | ⟨1, _⟩ => rfl | ⟨2, _⟩ => rfl
  have h2 : ridx_main_v28 (ix3 e r d) f = ix3 e f d := by
    funext a; match a with | ⟨0, _⟩ => rfl | ⟨1, _⟩ => rfl | ⟨2, _⟩ => rfl
  rw [h1, h2, inner]

/-! ## The experts' weights -/

/-- A bit that selects: both its parts are set. -/
theorem both (p q : Bool) : IntOp.andi (BitVec.ofBool p) (BitVec.ofBool q) = 1#1 ↔ p = true ∧ q = true := by
  cases p <;> cases q <;> decide

/-- A row is in use, and its tile's group is the given one. -/
theorem selected (r : Fin 640) (q : Fin 4) :
    val_main_v17 (F := Ideal) x0 x1 (ix2 r q) = 1#1 ↔ InUse x1 (tileOf r) ∧ x0 (ix1 (tileOf r)) = BitVec.ofNat 32 q.val := by
  have h1 : val_main_v16 (F := Ideal) x1 (ix2 r q)
      = BitVec.ofBool ((BitVec.ofNat 32 (tileOf r).val).slt (x1 (ix1 0))) := by
    rw [val_main_v16_apply, val_main_v9_apply, val_main_v6_apply, val_main_v5_apply, val_main_v4_apply, val_main_v3_apply,
      val_main_v2_apply]
    exact congrArg (fun j : S1.Idx => BitVec.ofBool ((BitVec.ofNat 32 (tileOf r).val).slt (x1 j)))
      (funext fun a => match a with | ⟨0, _⟩ => rfl)
  have h2 : val_main_v15 (F := Ideal) x0 (ix2 r q)
      = BitVec.ofBool (x0 (ix1 (tileOf r)) == BitVec.ofNat 32 q.val) := by
    rw [val_main_v15_apply, val_main_v13_apply, val_main_v10_apply, val_main_v1_apply, val_main_v0_apply,
      val_main_v14_apply, val_main_v12_apply, val_main_v11_apply]
    exact congrArg (fun j : S5.Idx => BitVec.ofBool (x0 j == BitVec.ofNat 32 q.val))
      (funext fun a => match a with | ⟨0, _⟩ => rfl)
  rw [val_main_v17_apply, h1, h2, both, beq_iff_eq, BitVec.slt_iff_toInt_lt]

/-- An expert's weight at a row: the row's own at its group's experts, zero at the others. -/
theorem weight (r : Fin 640) (e : Fin 16) :
    val_main_v21 (F := Ideal) x0 x1 x2 (ix2 r e)
      = if InUse x1 (tileOf r) ∧ x0 (ix1 (tileOf r)) = BitVec.ofNat 32 (e.val / 4)
        then x2 (ix2 r ⟨1024 + e.val % 4, by omega⟩) else (0 : EReal) := by
  have h0 : idx_main_v21 (ix2 r e) = ix3 r ⟨e.val / 4, by omega⟩ ⟨e.val % 4, by omega⟩ := by
    funext a
    match a with
    | ⟨0, _⟩ => exact Fin.ext (show (r.val * 16 + e.val) / 16 = r.val by omega)
    | ⟨1, _⟩ => exact Fin.ext (show (r.val * 16 + e.val) / 4 % 4 = e.val / 4 by omega)
    | ⟨2, _⟩ => exact Fin.ext (show (r.val * 16 + e.val) % 4 = e.val % 4 by omega)
  rw [val_main_v21_apply, h0, val_main_v20_apply, val_main_call0_v1_apply, val_main_v18_apply, val_main_call0_v2_apply,
    val_main_v19_apply, val_main_v8_apply, val_main_call0_v3_apply, val_main_call0_v0_apply, val_main_cst_apply, zero_spelt]
  have h1 : idx_main_v18 (idx_main_call0_v1 (ix3 r (⟨e.val / 4, by omega⟩ : Fin 4) (⟨e.val % 4, by omega⟩ : Fin 4)))
      = ix2 r ⟨e.val / 4, by omega⟩ := by
    funext a; match a with | ⟨0, _⟩ => rfl | ⟨1, _⟩ => rfl
  have h2 : idx_main_v8 (idx_main_v19 (idx_main_call0_v2 (ix3 r (⟨e.val / 4, by omega⟩ : Fin 4) (⟨e.val % 4, by omega⟩ : Fin 4))))
      = ix2 r ⟨1024 + e.val % 4, by omega⟩ := by
    funext a; match a with | ⟨0, _⟩ => rfl | ⟨1, _⟩ => rfl
  rw [h1, h2]
  unfold Scalar.select
  by_cases hs : val_main_v17 (F := Ideal) x0 x1 (ix2 r ⟨e.val / 4, by omega⟩) = 1#1
  · exact (if_pos hs).trans (if_pos ((selected x0 x1 r _).mp hs)).symm
  · exact (if_neg hs).trans (if_neg fun h => hs ((selected x0 x1 r _).mpr h)).symm

/-- The reference's result, where the tile's group is in range. -/
theorem result (r : Fin 640) (d : Fin 1024) (hg : (x0 (ix1 (tileOf r))).toNat < 4) :
    val_main_v33 (F := Ideal) x0 x1 x2 x3 x4 x5 (ix2 r d) = experts x3 x4 x5 x0 x1 x2 r d := by
  rw [val_main_v33_apply, val_main_cst_0_apply, zero_spelt, zero_add]
  have h : ∀ e : Fin 16, val_main_v32 (F := Ideal) x0 x1 x2 x3 x4 x5 (idx_main_v33 (ix2 r d) e)
      = expert (row x2 r) x3 x4 x5 e d * if InUse x1 (tileOf r) ∧ x0 (ix1 (tileOf r)) = BitVec.ofNat 32 (e.val / 4)
        then x2 (ix2 r ⟨1024 + e.val % 4, by omega⟩) else (0 : EReal) := by
    intro e
    have h0 : idx_main_v33 (ix2 r d) e = ix3 e r d := by
      funext a; match a with | ⟨0, _⟩ => rfl | ⟨1, _⟩ => rfl | ⟨2, _⟩ => rfl
    rw [h0, val_main_v32_apply, mul_spelt, output, val_main_v31_apply, val_main_v30_apply, val_main_v29_apply]
    have h1 : idx_main_v29 (idx_main_v30 (idx_main_v31 (ix3 e r d))) = ix2 r e := by
      funext a; match a with | ⟨0, _⟩ => rfl | ⟨1, _⟩ => rfl
    rw [h1, weight]
  simp only [h]
  unfold experts
  by_cases hu : InUse x1 (tileOf r)
  · rw [if_pos hu]
    refine Eq.trans ?_ (over_group (fun e => expert (row x2 r) x3 x4 x5 e d) (fun k => x2 (ix2 r ⟨1024 + k.val, by omega⟩))
      (groupOf x0 (tileOf r)))
    refine Finset.sum_congr rfl fun e _ => ?_
    have key : (InUse x1 (tileOf r) ∧ x0 (ix1 (tileOf r)) = BitVec.ofNat 32 (e.val / 4))
        = (e.val / 4 = (groupOf x0 (tileOf r)).val) := by
      refine propext ⟨fun h => ?_, fun h => ⟨hu, ?_⟩⟩
      · show e.val / 4 = (x0 (ix1 (tileOf r))).toNat % 4
        rw [h.2, BitVec.toNat_ofNat]; omega
      · have h' : e.val / 4 = (x0 (ix1 (tileOf r))).toNat % 4 := h
        apply BitVec.eq_of_toNat_eq
        rw [BitVec.toNat_ofNat]; omega
    simp only [key]
  · rw [if_neg hu]
    refine Finset.sum_eq_zero fun e _ => ?_
    rw [if_neg fun h => hu h.1, mul_zero]

end Cert.ExpertsSReferenceIdeal.Stages

end
-- ==== Proof.ExpertsS.Claims.lean ====
/- The grouped experts for the sample batch: the frames of the kernel, its exact-number twin and the reference, and, over the exact
   numbers, that the kernel's result is the reference's at every row and column. -/
module

public import proofs.«01_k».proof.Defs
public import proofs.«01_k».proof.Proof.ExpertsS.Tables
public import proofs.«01_k».proof.Proof.ExpertsS.Kernel
public import proofs.«01_k».proof.Proof.ExpertsS.Reference
public import proofs.«01_k».proof.Proof.Gen.ExpertsSReferenceIdeal.Run
public import proofs.«01_k».proof.Proof.Gen.ExpertsSReferenceIdeal.Read

@[expose] public section

noncomputable section

open Idealize.ShloMosaic Idealize.SL.Sem Cert.Layer Cert.Layer.Sample

namespace Cert.ExpertsSClaims

/-! ## The frames -/

/-- The kernel, with every tile's group in range. -/
theorem kernel : Cert.quiescent_ExpertsS := fun m ρ h =>
  (θ_run Cert.ExpertsS.defs _ _).mono (fun _ hr => ⟨fun c => (hr.1 c).2, hr.2⟩)
    (Cert.ExpertsS.Grouped.run m ρ (Cert.ExpertsS.Grouped.named m h))

/-- Its exact-number twin, -/
theorem twin : Cert.quiescent_ExpertsSIdeal := fun m ρ h =>
  (θ_run Cert.ExpertsSIdeal.defs _ _).mono (fun _ hr => ⟨fun c => (hr.1 c).2, hr.2⟩)
    (Cert.ExpertsSIdeal.Grouped.run m ρ (Cert.ExpertsSIdeal.Grouped.named m h))

/-- also with the weights bounded. -/
theorem twin_too : Cert.quiescent_ExpertsSIdeal_pre_sample_groups_and_weights := fun m ρ h =>
  (θ_run Cert.ExpertsSIdeal.defs _ _).mono (fun _ hr => ⟨fun c => (hr.1 c).2, hr.2⟩)
    (Cert.ExpertsSIdeal.Grouped.run m ρ (Cert.ExpertsSIdeal.Grouped.named_too m h))

/-- The reference, -/
theorem reference : Cert.quiescent_ExpertsSReferenceIdeal := fun m ρ _ =>
  (θ_run Cert.ExpertsSReferenceIdeal.defs _ _).mono
    (fun r h => ⟨fun c => (h c).2, Idealize.ShloMosaic.sem_eq_zero_of_no_sems (by decide) r.2⟩)
    (Cert.ExpertsSReferenceIdeal.Value.run (F := Ideal) m ρ)

/-- also under the twin's assumptions. -/
theorem reference_too : Cert.quiescent_ExpertsSReferenceIdeal_pre_sample_groups_and_weights := fun m ρ _ =>
  reference m ρ trivial

/-! ## The assumptions, read -/

/-- The pattern of plus infinity. -/
theorem infinity_spelt : (FloatOps.ofBits .f32 0x7F800000#32 : Ideal .f32) = (⊤ : EReal) :=
  show Ideal.ieee 8 23 (0x7F800000#32) = ⊤ by simp [Ideal.ieee]

/-- A value that is at least zero and less than plus infinity, as the program compares. -/
theorem bounded (w : EReal) (h : IntOp.andi (FloatOps.cmpf (F := Ideal) (φ := .f32) .oge w (FloatOps.ofBits .f32 0x00000000#32))
    (FloatOps.cmpf (F := Ideal) (φ := .f32) .olt w (FloatOps.ofBits .f32 0x7F800000#32)) = 1#1) : 0 ≤ w ∧ w ≠ ⊤ := by
  rw [Cert.ExpertsSReferenceIdeal.Stages.zero_spelt, infinity_spelt] at h
  have h' := (Cert.ExpertsSReferenceIdeal.Stages.both (decide ((0 : EReal) ≤ w)) (decide (w < ⊤))).mp h
  exact ⟨of_decide_eq_true h'.1, (of_decide_eq_true h'.2).ne⟩

/-- The assumption bounds every row's four weights. -/
theorem weights (m : (ℓ : Loc Cert.ExpertsSIdeal.nD Cert.ExpertsSIdeal.τ Cert.ExpertsSIdeal.sig) → Buf (Elt Ideal) ℓ)
    (h : Cert.Pre_ExpertsSIdeal_sample_groups_and_weights m) (c : Dev Cert.ExpertsSIdeal.nD) (r : Fin 640) (k : Fin 4) :
    0 ≤ Cert.ExpertsSIdeal.Blocks.given_rows m c (ix2 r ⟨1024 + k.val, by omega⟩)
      ∧ Cert.ExpertsSIdeal.Blocks.given_rows m c (ix2 r ⟨1024 + k.val, by omega⟩) ≠ ⊤ := by
  let slice : FVec Ideal Cert.Pre_sample_groups_and_weights.S640x4 .f32 :=
    extractStridedSlice Cert.Pre_sample_groups_and_weights.S640x4 ![0, 1024] (Cert.ExpertsSIdeal.Blocks.given_rows m c)
      Cert.Pre_sample_groups_and_weights.Facts.slices_S640x1152_S640x4_0_1024
  have hr : slice (ix2 r k) = Cert.ExpertsSIdeal.Blocks.given_rows m c (ix2 r ⟨1024 + k.val, by omega⟩) :=
    extractStridedSlice_apply _ _ _ _ _ fun a => match a with
      | ⟨0, _⟩ => show r.val = 0 + r.val by omega
      | ⟨1, _⟩ => rfl
  have e := bounded (slice (ix2 r k)) (congrFun (h c).2 (ix2 r k))
  rw [hr] at e
  exact e

/-- The kernel's result array is the reference's. -/
theorem algebraic : Cert.algebraic_ExpertsSIdeal_ExpertsSReferenceIdeal_pre_sample_groups_and_weights := by
  intro m g m' g' h hagree
  have hn := Cert.ExpertsSIdeal.Grouped.named_too m h
  refine ⟨fun c => (Cert.ExpertsSIdeal.Grouped.dats m hn 0 c).arrAt 4 (Cert.ExpertsSIdeal.Grouped.cfg m hn).N, ?_, ?_⟩
  · exact (θ_run Cert.ExpertsSIdeal.defs _ _).mono (fun _ hr c => hr.1 c) (Cert.ExpertsSIdeal.Grouped.run m g hn)
  · refine (θ_run Cert.ExpertsSReferenceIdeal.defs _ _).mono (fun _ hr c => ⟨(hr c).1.trans ?_, (hr c).2⟩)
      (Cert.ExpertsSReferenceIdeal.Value.run m' g')
    obtain ⟨h0, h1, h2, h3, h4, h5⟩ := hagree c
    rw [Cert.ExpertsSReferenceIdeal.Read.val_main_v33_eq, h0, h1, h2, h3, h4, h5]
    funext i
    obtain ⟨r, d, rfl⟩ : ∃ (r : Fin 640) (d : Fin 1024), i = ix2 r d := ⟨i 0, i 1, eq_ix2 i⟩
    have hs : ∀ j : Fin 5, (Cert.ExpertsSIdeal.Grouped.groupWord (Cert.ExpertsSIdeal.Grouped.tbl m) j).toNat < 4 := fun j => by
      rw [Cert.ExpertsSIdeal.Grouped.tbl_groups m c j]
      exact Cert.ExpertsSIdeal.Grouped.small _ (congrFun (h c).1 (ix1 j))
    exact (Cert.ExpertsSReferenceIdeal.Stages.result _ _ _ _ _ _ r d
        (Cert.ExpertsSIdeal.Grouped.small _ (congrFun (h c).1 (ix1 (tileOf r))))).trans
      (Cert.ExpertsSIdeal.Blocks.final m hn c hs (weights m h c) r d).symm

end Cert.ExpertsSClaims

end
-- ==== Proof.CombineS.RunIdeal.lean ====
/- The rows that the one call of the sample batch's combining body gathers (over the exact numbers): 128 copies are started on one counter, one for each row of the
   scratch block, and then 128 waits take them all back. Stated here: a copy started, a trip of the starting loop, a trip of the waiting loop. -/
module

public import proofs.«01_k».proof.Proof.Gen.CombineSIdeal.Launch
public import proofs.«01_k».proof.Proof.Gen.CombineSIdeal.Skeleton
public import proofs.«01_k».proof.Proof.Gen.CombineSIdeal.Loops
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp
public import Idealize.ShloMosaic.Lib.StableHlo.ReadAt

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)

namespace Cert.CombineSIdeal.Gather

open Cert.CombineSIdeal Cert.CombineSIdeal.Gen

variable {F : FTy → Type} [FloatOps F]

/-- Assertions about the machine's state. -/
abbrev Asrt (F : FTy → Type) : Type _ := sProp (MT nD τ sig Unit (Elt F) ℕ (Pipeline.UD sig nD τ) ℕ)

/-- The experts' rows, left where they are, and the scratch block that the rows are gathered into. -/
abbrev rowsM : Memref sig .tc .hbm S640x1024 .f32 := Memref.whole main_arg2
abbrev scratch : Memref sig .tc .vmem S128x1024 .f32 := Memref.whole cc0_scratch0

/-- The counter that every copy is started on. -/
abbrev counter : DmaSem sig := cc0_scratch1.sem

theorem scratch_inb (t : Fin 128) : ∀ a, (![t.val, 0] : Fin 2 → ℕ) a + S1x1024.size a ≤ S128x1024.size a := by
  have := t.isLt; intro a
  match a with
  | ⟨0, _⟩ => show t.val + 1 ≤ 128; omega
  | ⟨1, _⟩ => show 0 + 1024 ≤ 1024; omega

theorem rows_inb (r : Fin 640) : ∀ a, (![r.val, 0] : Fin 2 → ℕ) a + S1x1024.size a ≤ S640x1024.size a := by
  have := r.isLt; intro a
  match a with
  | ⟨0, _⟩ => show r.val + 1 ≤ 640; omega
  | ⟨1, _⟩ => show 0 + 1024 ≤ 1024; omega

/-- Row `t` of the scratch block; row `r` of the experts' rows. -/
def into (t : Fin 128) : Memref sig .tc .vmem S1x1024 .f32 :=
  scratch.slice (Rect.unit (s := S128x1024) ![t.val, 0] S1x1024.size (scratch_inb t)) (fun _ => rfl)
def from' (r : Fin 640) : Memref sig .tc .hbm S1x1024 .f32 :=
  rowsM.slice (Rect.unit (s := S640x1024) ![r.val, 0] S1x1024.size (rows_inb r)) (fun _ => rfl)

/-- The contents of the two buffers on a core. -/
abbrev RowsBuf (F : FTy → Type) (c : Dev nD) : Type := Buf (Elt F) (rowsM.view.loc (c : Thread nD τ))
abbrev ScratchBuf (F : FTy → Type) (c : Dev nD) : Type := Buf (Elt F) (scratch.view.loc (c : Thread nD τ))

/-- What the scratch block holds once row `t` of it has been copied from row `rows t`, for every `t`. -/
def gathered (c : Dev nD) (rows : Fin 128 → Fin 640) (y : RowsBuf F c) : ScratchBuf F c :=
  fun i : S128x1024.Idx => (y : S640x1024.Idx → Elt F .f32) (ix2 (rows (i 0)) (i 1))

section
variable (c : Dev nD) (rows : Fin 128 → Fin 640) (y : RowsBuf F c) (old : ScratchBuf F c)

/-- The entries of the scratch block that copy `t` writes; those of the experts' rows that it reads. -/
def written (t : Fin 128) : Finset S128x1024.Idx := (into t).view.set
def taken (r : Fin 640) : Finset S640x1024.Idx := (from' r).view.set

/-- Row `t` of the scratch block before its copy, and after it. -/
def before (t : Fin 128) : Asrt F := scratch.view.loc (c : Thread nD τ) ↦[written t]{fullShare} old
def after (t : Fin 128) : Asrt F := scratch.view.loc (c : Thread nD τ) ↦[written t]{fullShare} gathered c rows y
/-- The part of the experts' rows that copy `t` reads, held by a share of its own. -/
def source (t : Fin 128) : Asrt F := rowsM.view.loc (c : Thread nD τ) ↦[taken (rows t)]{Transfers.shareTokN fullShare t.val} y
/-- What copy `t` hands back. -/
def handed (t : Fin 128) : Asrt F := iprop(after c rows y t ∗ source c rows y t)

instance (t : Fin 128) : Storable (upEmb : UEmb _ (MT nD τ sig Unit (Elt F) ℕ (Pipeline.UD sig nD τ) ℕ)) (handed c rows y t) := by
  unfold handed after source; infer_instance

/-- What one copy counts. -/
abbrev unitsOf : ℕ := (into 0).view.amount (.dma counter)

/-- The copies, `j` of them started and `u` units waited for. -/
def copies (j u : ℕ) : Asrt F :=
  Transfers.Batch (countersEmb (U := Pipeline.UD sig nD τ)) (c : Thread nD τ) (.dma counter) () unitsOf (handed c rows y) j u

/-- What lands in row `t` is row `t` of the gathered block. -/
theorem lands (t : Fin 128) (i : S128x1024.Idx) (hi : i ∈ written t) :
    ((into t).view.write (Elt F) old (ReadAs.same.apply ((from' (rows t)).view.read (Elt F) y)) Finset.univ : S128x1024.Idx → Elt F .f32) i
      = (gathered c rows y : S128x1024.Idx → Elt F .f32) i := by
  obtain ⟨x, -, rfl⟩ := Finset.mem_map.mp hi
  refine ((into t).view.write_emb_of_mem old _ (Finset.mem_univ x)).trans ?_
  have hx : (x 0).val = 0 := by have : (x 0).val < 1 := (x 0).isLt; omega
  refine congrArg (y : S640x1024.Idx → Elt F .f32) (funext fun a => Fin.ext ?_)
  let z : S128x1024.Idx := (into t).view.emb x
  have h0 : z 0 = t := Fin.ext (by show t.val + 1 * (x 0).val = t.val; omega)
  have h1 : (z 1).val = (x 1).val := by show 0 + 1 * (x 1).val = (x 1).val; omega
  match a with
  | ⟨0, _⟩ => show (rows t).val + 1 * (x 0).val = (rows (z 0)).val; rw [h0]; omega
  | ⟨1, _⟩ => show 0 + 1 * (x 1).val = (z 1).val; omega

/-! ## One copy started -/

/-- The program that reads a row's number from a table, checks it, starts the copy of that row on the counter, and goes on. -/
def startCopy (arg1 : Memref sig .tc .smem S128 .i32) (o1 : Fin 1 → ℕ) (h1 : ∀ a, o1 a + S1.size a ≤ S128.size a)
    (o2 : Fin 2 → ℕ) (h2 : ∀ a, o2 a + S1x1024.size a ≤ S128x1024.size a) (o3 : BitVec 32 → Fin 2 → ℕ) (chk : BitVec 32 → Prop)
    (dec : ∀ v, Decidable (chk v)) (h3 : ∀ v, chk v → ∀ a, o3 v a + S1x1024.size a ≤ S640x1024.size a)
    (k : (v : BitVec 32) → chk v → Prog (TpuEff nD τ sig (Elt F) Λ₀ .tc) Unit) : Prog (TpuEff nD τ sig (Elt F) Λ₀ .tc) Unit := do
  let v : Elt F .i32 ← smemLoad arg1 (Rect.unit (s := S128) o1 S1.size h1) numel1_S1 rfl
  have hw : chk v := (← Prog.lift (TpuEff.assume (chk v) (dec v))).down
  Prog.lift (.enqueueDma (rowsM.slice (Rect.unit (s := S640x1024) (o3 v) S1x1024.size (h3 v hw)) (fun _ => rfl))
    (.here (scratch.slice (Rect.unit (s := S128x1024) o2 S1x1024.size h2) (fun _ => rfl))) (.dma counter)
    (View.wordExact_bits rfl) (View.wordExact_bits rfl) ⟨Or.inl rfl, trivial⟩)
  k v hw

variable (arg1 : Memref sig .tc .smem S128 .i32) (d : S128.Idx → Elt F .i32)

/-- The table of rows' numbers, held with the contents `d`. -/
def table : Asrt F := owns (c : Thread nD τ) arg1 fullShare d

/-- Its entry `t` names the row that copy `t` reads. -/
def Names : Prop := ∀ t : Fin 128, (d (ix1 t) : BitVec 32).toNat = (rows t).val

/-- The copy of row `rows t` into row `t`, started when the `t` before it have been. -/
theorem issue (t : Fin 128) (o : Fin 2 → ℕ) (ho) (e : o = ![(rows t).val, 0]) (k : Prog (TpuEff nD τ sig (Elt F) Λ₀ .tc) Unit) (Q : Unit → Asrt F) :
    iprop(before c old t ∗ source c rows y t ∗ copies c rows y t.val 0
        ∗ (copies c rows y (t.val + 1) 0 -∗ wp frame (wpE (defs₀ (F := F)) Variants.none c none) Set.univ k Q))
      ⊢ wp frame (wpE (defs₀ (F := F)) Variants.none c none) Set.univ (do
          Prog.lift (.enqueueDma (rowsM.slice (Rect.unit (s := S640x1024) o S1x1024.size ho) (fun _ => rfl)) (.here (into t)) (.dma counter)
            (View.wordExact_bits rfl) (View.wordExact_bits rfl) ⟨Or.inl rfl, trivial⟩)
          k) Q := by
  subst e
  unfold copies before source
  iintro ⟨HB, HS, HC, Hk⟩
  iapply (Transfers.wp_dmaBatch (Lvl := ℕ) (countersEmb (U := Pipeline.UD sig nD τ)) Variants.none (c : Thread nD τ) none
    (src := from' (rows t)) (dst := into t) (via := .same) (q := Transfers.shareTokN fullShare t.val) (fs := y) (Sd := written t) (fd := old)
    (D := handed c rows y) (j := t.val) (u := 0) () unitsOf rfl (Finset.Subset.refl _) t.isLt (Nat.zero_le _) ?_) $$ [HB HS HC]
  · show _ ⊢ iprop(after c rows y t ∗ source c rows y t)
    exact BI.sep_mono (Entails.of_eq (pointsTo_congr (lands c rows y old t))) (BIBase.Entails.rfl (P := source c rows y t))
  · isplitl [HS]; · iexact HS
    isplitl [HB]; · iexact HB
    iexact HC
  iintro HC
  iapply Hk
  iexact HC

theorem start (hn : Names rows d) (t : Fin 128) (o1 : Fin 1 → ℕ) (h1) (e1 : o1 = ![t.val]) (o2 : Fin 2 → ℕ) (h2) (e2 : o2 = ![t.val, 0])
    (o3 : BitVec 32 → Fin 2 → ℕ) (e3 : ∀ v, o3 v = ![v.toNat, 0]) (chk : BitVec 32 → Prop) (dec) (hchk : ∀ v : BitVec 32, v.toNat < 640 → chk v)
    (h3) (k : (v : BitVec 32) → chk v → Prog (TpuEff nD τ sig (Elt F) Λ₀ .tc) Unit) (Q : Unit → Asrt F) :
    iprop(table c arg1 d ∗ before c old t ∗ source c rows y t ∗ copies c rows y t.val 0
        ∗ (iprop(table c arg1 d ∗ copies c rows y (t.val + 1) 0)
            -∗ wp frame (wpE (defs₀ (F := F)) Variants.none c none) Set.univ
                (k (d (ix1 t)) (hchk _ ((hn t).trans_lt (rows t).isLt))) Q))
      ⊢ wp frame (wpE (defs₀ (F := F)) Variants.none c none) Set.univ (startCopy arg1 o1 h1 o2 h2 o3 chk dec h3 k) Q := by
  subst e1 e2
  unfold table owns
  iintro ⟨⟨%f1, %hf, HT⟩, HB, HS, HC, Hk⟩
  unfold startCopy
  sl_exec
  have hv : start.sl.r c arg1 t h1 f1 = d (ix1 t) := by
    refine Eq.trans ?_ (congrFun hf (ix1 t))
    show View.read (Elt F) arg1.view f1 _ = View.read (Elt F) arg1.view f1 _
    refine congrArg _ (funext fun a => Fin.ext ?_)
    match a with
    | ⟨0, _⟩ => show t.val + 1 * 0 = t.val; omega
  rw [hv]
  have hc := hchk _ ((hn t).trans_lt (rows t).isLt)
  iapply (wp_assume _ _ _ _ hc)
  iapply (issue c rows y old t (o3 (d (ix1 t))) (h3 _ hc) (by rw [e3, hn t]) (k (d (ix1 t)) hc) Q) $$ [HT HB HS HC Hk]
  isplitl [HB]; · iexact HB
  isplitl [HS]; · iexact HS
  isplitl [HC]; · iexact HC
  iintro HC
  iapply Hk
  isplitl [HT]
  · iexists f1
    isplitr
    · ipureintro; exact hf
    · iexact HT
  · iexact HC

/-! ## The loop that starts the copies -/

/-- `j` copies started: the table, and the rows of the two buffers that the other copies take. -/
def started (j : ℕ) : Asrt F :=
  iprop(table c arg1 d ∗ copies c rows y j 0 ∗ bigSep (Ring.rangeSet 128 j 128) (before c old) ∗ bigSep (Ring.rangeSet 128 j 128) (source c rows y))

theorem start_held (hn : Names rows d) (t : Fin 128) (o1 : Fin 1 → ℕ) (h1) (e1 : o1 = ![t.val]) (o2 : Fin 2 → ℕ) (h2) (e2 : o2 = ![t.val, 0])
    (o3 : BitVec 32 → Fin 2 → ℕ) (e3 : ∀ v, o3 v = ![v.toNat, 0]) (chk : BitVec 32 → Prop) (dec) (hchk : ∀ v : BitVec 32, v.toNat < 640 → chk v)
    (h3) (k : Prog (TpuEff nD τ sig (Elt F) Λ₀ .tc) Unit) (Q : Unit → Asrt F)
    (hk : started c rows y old arg1 d (t.val + 1) ⊢ wp frame (wpE (defs₀ (F := F)) Variants.none c none) Set.univ k Q) :
    started c rows y old arg1 d t.val
      ⊢ wp frame (wpE (defs₀ (F := F)) Variants.none c none) Set.univ (startCopy arg1 o1 h1 o2 h2 o3 chk dec h3 fun _ _ => k) Q := by
  refine BIBase.Entails.trans ?_ (start c rows y old arg1 d hn t o1 h1 e1 o2 h2 e2 o3 e3 chk dec hchk h3 (fun _ _ => k) Q)
  unfold started
  rw [Ring.bigSep_rangeSet_head (Φ := before c old) t.isLt t.isLt, Ring.bigSep_rangeSet_head (Φ := source c rows y) t.isLt t.isLt]
  iintro ⟨HT, HC, ⟨HB, HBs⟩, HS, HSs⟩
  isplitl [HT]; · iexact HT
  isplitl [HB]; · iexact HB
  isplitl [HS]; · iexact HS
  isplitl [HC]; · iexact HC
  iintro ⟨HT, HC⟩
  iapply hk $$ [HT HC HBs HSs]
  unfold started
  isplitl [HT]; · iexact HT
  isplitl [HC]; · iexact HC
  isplitl [HBs]; · iexact HBs
  iexact HSs

theorem off1 : ∀ k : Fin k0_t1_loop.trips, k0_off1 k = ![8 * k.val + 0] := by decide +kernel
theorem off2 : ∀ k : Fin k0_t1_loop.trips, k0_off2 k = ![8 * k.val + 0, 0] := by decide +kernel
theorem chk1 (v : BitVec 32) (h : v.toNat < 640) : k0_chk1 v := rows_inb ⟨v.toNat, h⟩
theorem off4 : ∀ k : Fin k0_t1_loop.trips, k0_off4 k = ![8 * k.val + 1] := by decide +kernel
theorem off5 : ∀ k : Fin k0_t1_loop.trips, k0_off5 k = ![8 * k.val + 1, 0] := by decide +kernel
theorem chk2 (v : BitVec 32) (h : v.toNat < 640) : k0_chk2 v := rows_inb ⟨v.toNat, h⟩
theorem off7 : ∀ k : Fin k0_t1_loop.trips, k0_off7 k = ![8 * k.val + 2] := by decide +kernel
theorem off8 : ∀ k : Fin k0_t1_loop.trips, k0_off8 k = ![8 * k.val + 2, 0] := by decide +kernel
theorem chk3 (v : BitVec 32) (h : v.toNat < 640) : k0_chk3 v := rows_inb ⟨v.toNat, h⟩
theorem off10 : ∀ k : Fin k0_t1_loop.trips, k0_off10 k = ![8 * k.val + 3] := by decide +kernel
theorem off11 : ∀ k : Fin k0_t1_loop.trips, k0_off11 k = ![8 * k.val + 3, 0] := by decide +kernel
theorem chk4 (v : BitVec 32) (h : v.toNat < 640) : k0_chk4 v := rows_inb ⟨v.toNat, h⟩
theorem off13 : ∀ k : Fin k0_t1_loop.trips, k0_off13 k = ![8 * k.val + 4] := by decide +kernel
theorem off14 : ∀ k : Fin k0_t1_loop.trips, k0_off14 k = ![8 * k.val + 4, 0] := by decide +kernel
theorem chk5 (v : BitVec 32) (h : v.toNat < 640) : k0_chk5 v := rows_inb ⟨v.toNat, h⟩
theorem off16 : ∀ k : Fin k0_t1_loop.trips, k0_off16 k = ![8 * k.val + 5] := by decide +kernel
theorem off17 : ∀ k : Fin k0_t1_loop.trips, k0_off17 k = ![8 * k.val + 5, 0] := by decide +kernel
theorem chk6 (v : BitVec 32) (h : v.toNat < 640) : k0_chk6 v := rows_inb ⟨v.toNat, h⟩
theorem off19 : ∀ k : Fin k0_t1_loop.trips, k0_off19 k = ![8 * k.val + 6] := by decide +kernel
theorem off20 : ∀ k : Fin k0_t1_loop.trips, k0_off20 k = ![8 * k.val + 6, 0] := by decide +kernel
theorem chk7 (v : BitVec 32) (h : v.toNat < 640) : k0_chk7 v := rows_inb ⟨v.toNat, h⟩
theorem off22 : ∀ k : Fin k0_t1_loop.trips, k0_off22 k = ![8 * k.val + 7] := by decide +kernel
theorem off23 : ∀ k : Fin k0_t1_loop.trips, k0_off23 k = ![8 * k.val + 7, 0] := by decide +kernel
theorem chk8 (v : BitVec 32) (h : v.toNat < 640) : k0_chk8 v := rows_inb ⟨v.toNat, h⟩

/-- A trip of the loop: eight copies. -/
def eight (k : Fin k0_t1_loop.trips) : Prog (TpuEff nD τ sig (Elt F) Λ₀ .tc) Unit :=
  startCopy arg1 (k0_off1 k) (k0_off1_inb k) (k0_off2 k) (k0_off2_inb k) k0_off3 k0_chk1 k0_chk1.dec k0_off3_inb fun _ _ =>
  startCopy arg1 (k0_off4 k) (k0_off4_inb k) (k0_off5 k) (k0_off5_inb k) k0_off6 k0_chk2 k0_chk2.dec k0_off6_inb fun _ _ =>
  startCopy arg1 (k0_off7 k) (k0_off7_inb k) (k0_off8 k) (k0_off8_inb k) k0_off9 k0_chk3 k0_chk3.dec k0_off9_inb fun _ _ =>
  startCopy arg1 (k0_off10 k) (k0_off10_inb k) (k0_off11 k) (k0_off11_inb k) k0_off12 k0_chk4 k0_chk4.dec k0_off12_inb fun _ _ =>
  startCopy arg1 (k0_off13 k) (k0_off13_inb k) (k0_off14 k) (k0_off14_inb k) k0_off15 k0_chk5 k0_chk5.dec k0_off15_inb fun _ _ =>
  startCopy arg1 (k0_off16 k) (k0_off16_inb k) (k0_off17 k) (k0_off17_inb k) k0_off18 k0_chk6 k0_chk6.dec k0_off18_inb fun _ _ =>
  startCopy arg1 (k0_off19 k) (k0_off19_inb k) (k0_off20 k) (k0_off20_inb k) k0_off21 k0_chk7 k0_chk7.dec k0_off21_inb fun _ _ =>
  startCopy arg1 (k0_off22 k) (k0_off22_inb k) (k0_off23 k) (k0_off23_inb k) k0_off24 k0_chk8 k0_chk8.dec k0_off24_inb fun _ _ =>
  pure ⟨⟩

theorem trip (hn : Names rows d) (k : Fin k0_t1_loop.trips) :
    started c rows y old arg1 d (8 * k.val)
      ⊢ wp frame (wpE (defs₀ (F := F)) Variants.none c none) Set.univ (eight arg1 k) (fun _ => started c rows y old arg1 d (8 * (k.val + 1))) := by
  have hk : k.val < 16 := k.isLt
  unfold eight
  refine start_held c rows y old arg1 d hn ⟨8 * k.val + 0, by omega⟩ _ _ (off1 k) _ _ (off2 k) _ (fun _ => rfl) _ _ chk1 _ _ _ ?_
  refine start_held c rows y old arg1 d hn ⟨8 * k.val + 1, by omega⟩ _ _ (off4 k) _ _ (off5 k) _ (fun _ => rfl) _ _ chk2 _ _ _ ?_
  refine start_held c rows y old arg1 d hn ⟨8 * k.val + 2, by omega⟩ _ _ (off7 k) _ _ (off8 k) _ (fun _ => rfl) _ _ chk3 _ _ _ ?_
  refine start_held c rows y old arg1 d hn ⟨8 * k.val + 3, by omega⟩ _ _ (off10 k) _ _ (off11 k) _ (fun _ => rfl) _ _ chk4 _ _ _ ?_
  refine start_held c rows y old arg1 d hn ⟨8 * k.val + 4, by omega⟩ _ _ (off13 k) _ _ (off14 k) _ (fun _ => rfl) _ _ chk5 _ _ _ ?_
  refine start_held c rows y old arg1 d hn ⟨8 * k.val + 5, by omega⟩ _ _ (off16 k) _ _ (off17 k) _ (fun _ => rfl) _ _ chk6 _ _ _ ?_
  refine start_held c rows y old arg1 d hn ⟨8 * k.val + 6, by omega⟩ _ _ (off19 k) _ _ (off20 k) _ (fun _ => rfl) _ _ chk7 _ _ _ ?_
  refine start_held c rows y old arg1 d hn ⟨8 * k.val + 7, by omega⟩ _ _ (off22 k) _ _ (off23 k) _ (fun _ => rfl) _ _ chk8 _ _ _ ?_
  iintro H
  sl_step
  iexact H

/-! ## The loop that waits for them -/

/-- `j` copies waited for: after the last wait the counter is at zero again and everything that the copies took is back. -/
def waited (j : ℕ) : Asrt F :=
  iprop(⌜j ≤ 128⌝ ∗ table c arg1 d ∗ (∃ W, owes (c : Thread nD τ) 0 W)
    ∗ (if j < 128 then copies c rows y 128 (j * unitsOf)
       else iprop(semVal ((c : Thread nD τ), SemLoc.dma counter) 0 ∗ bigSep Finset.univ (handed c rows y))))

/-- The program that reads a row's number again, checks it, and waits for one copy. -/
def waitCopy (arg1 : Memref sig .tc .smem S128 .i32) (o1 : Fin 1 → ℕ) (h1 : ∀ a, o1 a + S1.size a ≤ S128.size a)
    (o2 : Fin 2 → ℕ) (h2 : ∀ a, o2 a + S1x1024.size a ≤ S128x1024.size a) (o3 : BitVec 32 → Fin 2 → ℕ) (chk : BitVec 32 → Prop)
    (dec : ∀ v, Decidable (chk v)) (h3 : ∀ v, chk v → ∀ a, o3 v a + S1x1024.size a ≤ S640x1024.size a) :
    Prog (TpuEff nD τ sig (Elt F) Λ₀ .tc) Unit := do
  let v : Elt F .i32 ← smemLoad arg1 (Rect.unit (s := S128) o1 S1.size h1) numel1_S1 rfl
  have hw : chk v := (← Prog.lift (TpuEff.assume (chk v) (dec v))).down
  Prog.lift (.waitDma2 counter (rowsM.slice (Rect.unit (s := S640x1024) (o3 v) S1x1024.size (h3 v hw)) (fun _ => rfl))
    (scratch.slice (Rect.unit (s := S128x1024) o2 S1x1024.size h2) (fun _ => rfl)) (View.wordExact_bits rfl) (View.wordExact_bits rfl))
  pure ⟨⟩

theorem units_pos : 0 < unitsOf := by decide

theorem more {t N : ℕ} (hN : 0 < N) (h : t + 1 < 128) : t * N + N < N * 128 := by
  have := Nat.mul_lt_mul_of_pos_right h hN
  rw [Nat.succ_mul] at this; rw [Nat.mul_comm N]; exact this
theorem last {t N : ℕ} (h : t = 127) : t * N + N = N * 128 := by subst h; omega

theorem wait (hn : Names rows d) (t : Fin 128) (o1 : Fin 1 → ℕ) (h1) (e1 : o1 = ![t.val]) (o2 : Fin 2 → ℕ) (h2)
    (o3 : BitVec 32 → Fin 2 → ℕ) (chk : BitVec 32 → Prop) (dec) (hchk : ∀ v : BitVec 32, v.toNat < 640 → chk v) (h3) :
    waited c rows y arg1 d t.val
      ⊢ wp frame (wpE (defs₀ (F := F)) Variants.none c none) Set.univ (waitCopy arg1 o1 h1 o2 h2 o3 chk dec h3)
          (fun _ => waited c rows y arg1 d (t.val + 1)) := by
  subst e1
  have ht := t.isLt
  unfold waited
  rw [if_pos ht]
  unfold table owns copies
  iintro ⟨-, ⟨%f1, %hf, HT⟩, ⟨%W, HO⟩, HC⟩
  unfold waitCopy
  sl_exec
  have hv : wait.sl.r c arg1 t h1 f1 = d (ix1 t) := by
    refine Eq.trans ?_ (congrFun hf (ix1 t))
    show View.read (Elt F) arg1.view f1 _ = View.read (Elt F) arg1.view f1 _
    refine congrArg _ (funext fun a => Fin.ext ?_)
    match a with
    | ⟨0, _⟩ => show t.val + 1 * 0 = t.val; omega
  rw [hv]
  have hc := hchk _ ((hn t).trans_lt (rows t).isLt)
  iapply (wp_assume _ _ _ _ hc)
  rcases Nat.lt_or_ge (t.val + 1) 128 with h | h
  · rw [if_pos h]
    iapply (Transfers.wp_waitBatch (Lvl := ℕ) (countersEmb (U := Pipeline.UD sig nD τ)) Variants.none (c : Thread nD τ) none
      (srcw := rowsM.slice (Rect.unit (s := S640x1024) (o3 (d (ix1 t))) S1x1024.size (h3 _ hc)) (fun _ => rfl))
      (dstw := scratch.slice (Rect.unit (s := S128x1024) o2 S1x1024.size h2) (fun _ => rfl)) () (N := unitsOf) rfl (D := handed c rows y) (u := t.val * unitsOf) (more units_pos h) (W := W)) $$ [HC HO]
    · isplitl [HC]; · iexact HC
      iexact HO
    iintro ⟨HC, HO⟩
    iapply (le_wp_ret _ _)
    isplitr; · ipureintro; omega
    isplitl [HT]
    · iexists f1
      isplitr
      · ipureintro; exact hf
      · iexact HT
    isplitl [HO]; · iexists _; iexact HO
    rw [Nat.succ_mul]
    iexact HC
  · have h9 : t.val = 127 := by omega
    rw [if_neg (Nat.not_lt.mpr h)]
    iapply (Transfers.wp_waitBatchLast (Lvl := ℕ) (countersEmb (U := Pipeline.UD sig nD τ)) Variants.none (c : Thread nD τ) none
      (srcw := rowsM.slice (Rect.unit (s := S640x1024) (o3 (d (ix1 t))) S1x1024.size (h3 _ hc)) (fun _ => rfl))
      (dstw := scratch.slice (Rect.unit (s := S128x1024) o2 S1x1024.size h2) (fun _ => rfl)) () (N := unitsOf) rfl units_pos (D := handed c rows y) (u := t.val * unitsOf) (last h9) (W := W)) $$ [HC HO]
    · isplitl [HC]; · iexact HC
      iexact HO
    iintro ⟨HD, Hc, HO⟩
    iapply (le_wp_ret _ _)
    isplitr; · ipureintro; omega
    isplitl [HT]
    · iexists f1
      isplitr
      · ipureintro; exact hf
      · iexact HT
    isplitl [HO]; · iexists _; iexact HO
    isplitl [Hc]; · iexact Hc
    iexact HD

theorem off25 : ∀ k : Fin k0_t2_loop.trips, k0_off25 k = ![k.val] := by decide +kernel
theorem chk9 (v : BitVec 32) (h : v.toNat < 640) : k0_chk9 v := rows_inb ⟨v.toNat, h⟩

/-! ## The loops' bodies are these programs -/

section
variable (i : grid0.Coords) (harg1 : arg1.IsWhole) (arg2 : Memref sig .tc .vmem S128x1024 .f32) (harg2 : arg2.IsWhole) (harg3 : rowsM.IsWhole)
  (arg4 : Memref sig .tc .vmem S1x1024 .f32) (harg4 : arg4.IsWhole) (arg5 : Memref sig .tc .vmem S1x1024 .f32) (harg5 : arg5.IsWhole)
  (arg6 : Memref sig .tc .vmem S128x1024 .f32) (harg6 : arg6.IsWhole) (harg7 : scratch.IsWhole)

theorem trip1 (k : Fin k0_t1_loop.trips) (acc : Unit) :
    k0_t1_body (F := F) i arg1 harg1 arg2 harg2 rowsM harg3 arg4 harg4 arg5 harg5 arg6 harg6 scratch harg7 cc0_scratch1 k acc = eight arg1 k := rfl

theorem trip2 (k : Fin k0_t2_loop.trips) (acc : Unit) :
    k0_t2_body (F := F) i arg1 harg1 arg2 harg2 rowsM harg3 arg4 harg4 arg5 harg5 arg6 harg6 scratch harg7 cc0_scratch1 k acc
      = waitCopy arg1 (k0_off25 k) (k0_off25_inb k) (k0_off26 k) (k0_off26_inb k) k0_off27 k0_chk9 k0_chk9.dec k0_off27_inb := rfl
end

end

end Cert.CombineSIdeal.Gather
-- ==== Proof.CombineS.BodyIdeal.lean ====
/- The one call of the sample batch's combining body (over the exact numbers): the two loops gather the named rows into the scratch block, and the rest of the body
   normalises their sum with the residual. -/
module

public import proofs.«01_k».proof.Proof.CombineS.RunIdeal
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp
public import Idealize.ShloMosaic.Lib.StableHlo.ReadAt

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)

namespace Cert.CombineSIdeal.Gather

open Cert.CombineSIdeal Cert.CombineSIdeal.Gen

variable {F : FTy → Type} [FloatOps F]

section
variable (c : Dev nD) (rows : Fin 128 → Fin 640) (y : RowsBuf F c) (old : ScratchBuf F c)

/-! ## The scratch block is its rows -/

theorem mem_written (t : Fin 128) (i : S128x1024.Idx) : i ∈ written t ↔ (i 0).val = t.val := by
  unfold written into
  rw [show (scratch.slice (Rect.unit (s := S128x1024) ![t.val, 0] S1x1024.size (scratch_inb t)) (fun _ => rfl)).view.set
    = (Rect.unit (s := S128x1024) ![t.val, 0] S1x1024.size (scratch_inb t)).set from View.set_slice_whole _ _, Rect.mem_set_unit]
  have h1 : (i 1).val < 1024 := (i 1).isLt
  constructor
  · intro H; have a0 : t.val ≤ (i 0).val ∧ (i 0).val < t.val + 1 := H 0; omega
  · intro H a
    match a with
    | ⟨0, _⟩ => show t.val ≤ (i 0).val ∧ (i 0).val < t.val + 1; omega
    | ⟨1, _⟩ => show 0 ≤ (i 1).val ∧ (i 1).val < 0 + 1024; omega

theorem written_disjoint (t u : Fin 128) (h : t ≠ u) : Disjoint (written t) (written u) := by
  rw [Finset.disjoint_left]; intro i hi hj; rw [mem_written] at hi hj; exact h (Fin.ext (by omega))

theorem written_cover : Finset.univ.biUnion written = Finset.univ := by
  ext i; simp only [Finset.mem_biUnion, Finset.mem_univ, true_and, iff_true]; exact ⟨i 0, (mem_written _ _).mpr rfl⟩

theorem by_rows (f : ScratchBuf F c) : (scratch.view.loc (c : Thread nD τ) ↦{fullShare} f : Asrt F)
    = bigSep (Ring.rangeSet 128 0 128) (fun t => scratch.view.loc (c : Thread nD τ) ↦[written t]{fullShare} f) := by
  rw [Ring.rangeSet_univ]
  exact Ring.pointsTo_blocks (ℓ := scratch.view.loc (c : Thread nD τ)) (q := fullShare) written written_disjoint written_cover f

/-! ## The experts' rows are lent to the copies, a share to each -/

/-- What is left of copy `t`'s share of the experts' rows. -/
def remains (t : Fin 128) : Asrt F :=
  rowsM.view.loc (c : Thread nD τ) ↦[Finset.univ \ taken (rows t)]{Transfers.shareTokN fullShare t.val} y

theorem lent : (bigSep (Ring.rangeSet 128 0 128) (fun t => iprop(source c rows y t ∗ remains c rows y t)) : Asrt F)
    = iprop(bigSep (Ring.rangeSet 128 0 128) (source c rows y) ∗ bigSep (Ring.rangeSet 128 0 128) (remains c rows y)) := BI.bigSep_sep _ _ _

theorem shares : (bigSep (Ring.rangeSet 128 0 128) (fun t => (rowsM.view.loc (c : Thread nD τ) ↦{Transfers.shareTokN fullShare t.val} y : Asrt F)))
    = bigSep (Finset.range 128) (fun i => (rowsM.view.loc (c : Thread nD τ) ↦{Transfers.shareTokN fullShare i} y : Asrt F)) :=
  Ring.bigSep_rangeSet_eq_range (NB := 128) (lo := 0) (hi := 128)
    (Φ := fun t => (rowsM.view.loc (c : Thread nD τ) ↦{Transfers.shareTokN fullShare t.val} y : Asrt F)) le_rfl
    (fun i => (rowsM.view.loc (c : Thread nD τ) ↦{Transfers.shareTokN fullShare i} y : Asrt F)) (fun k hk => by
      show (rowsM.view.loc (c : Thread nD τ) ↦{Transfers.shareTokN fullShare k} y : Asrt F)
        = (rowsM.view.loc (c : Thread nD τ) ↦{Transfers.shareTokN fullShare (0 + k)} y : Asrt F)
      rw [Nat.zero_add])

/-- What no copy is lent. -/
def kept : Asrt F := rowsM.view.loc (c : Thread nD τ) ↦{Transfers.shareDrop fullShare 128} y

theorem lend : (rowsM.view.loc (c : Thread nD τ) ↦{fullShare} y : Asrt F)
    ⊢ iprop(kept c y ∗ bigSep (Ring.rangeSet 128 0 128) (source c rows y) ∗ bigSep (Ring.rangeSet 128 0 128) (remains c rows y)) := by
  refine BIBase.Entails.trans (Transfers.pointsTo_toks_range fullShare 128).1 ?_
  rw [← lent, ← shares]
  refine BI.sep_mono (BIBase.Entails.rfl (P := kept c y)) (BI.bigSep_mono fun t _ => ?_)
  exact (pointsTo_split_subset (Finset.subset_univ _)).1

theorem back : iprop(kept c y ∗ bigSep (Ring.rangeSet 128 0 128) (source c rows y) ∗ bigSep (Ring.rangeSet 128 0 128) (remains c rows y))
    ⊢ (rowsM.view.loc (c : Thread nD τ) ↦{fullShare} y : Asrt F) := by
  refine BIBase.Entails.trans ?_ (Transfers.pointsTo_toks_range fullShare 128).2
  rw [← lent, ← shares]
  refine BI.sep_mono (BIBase.Entails.rfl (P := kept c y)) (BI.bigSep_mono fun t _ => ?_)
  exact (pointsTo_split_subset (Finset.subset_univ _)).2

theorem all_handed : (bigSep Finset.univ (handed c rows y) : Asrt F)
    = iprop(bigSep (Ring.rangeSet 128 0 128) (after c rows y) ∗ bigSep (Ring.rangeSet 128 0 128) (source c rows y)) := by
  rw [← Ring.rangeSet_univ (NB := 128)]
  exact BI.bigSep_sep _ _ _

/-! ## The two loops -/

variable (arg1 : Memref sig .tc .smem S128 .i32) (d : S128.Idx → Elt F .i32)
variable (i : grid0.Coords) (harg1 : arg1.IsWhole) (arg2 : Memref sig .tc .vmem S128x1024 .f32) (harg2 : arg2.IsWhole) (harg3 : rowsM.IsWhole)
  (arg4 : Memref sig .tc .vmem S1x1024 .f32) (harg4 : arg4.IsWhole) (arg5 : Memref sig .tc .vmem S1x1024 .f32) (harg5 : arg5.IsWhole)
  (arg6 : Memref sig .tc .vmem S128x1024 .f32) (harg6 : arg6.IsWhole) (harg7 : scratch.IsWhole)

set_option maxHeartbeats 1000000 in
theorem gather (hn : Names rows d) (W : Waits sig Unit) (k : Prog (TpuEff nD τ sig (Elt F) Λ₀ .tc) PUnit) (Q : PUnit → Asrt F) :
    iprop(table c arg1 d ∗ (scratch.view.loc (c : Thread nD τ) ↦{fullShare} old) ∗ (rowsM.view.loc (c : Thread nD τ) ↦{fullShare} y)
        ∗ semVal ((c : Thread nD τ), SemLoc.dma counter) 0 ∗ owes (c : Thread nD τ) 0 W
        ∗ (iprop(table c arg1 d ∗ (scratch.view.loc (c : Thread nD τ) ↦{fullShare} gathered c rows y) ∗ (rowsM.view.loc (c : Thread nD τ) ↦{fullShare} y)
            ∗ semVal ((c : Thread nD τ), SemLoc.dma counter) 0 ∗ (∃ W', owes (c : Thread nD τ) 0 W'))
            -∗ wp frame (wpE (defs₀ (F := F)) Variants.none c none) Set.univ k Q))
      ⊢ wp frame (wpE (defs₀ (F := F)) Variants.none c none) Set.univ (do
          Scf.Loop.for k0_t1_loop k0_t1_ok ⟨⟩ (k0_t1_body i arg1 harg1 arg2 harg2 rowsM harg3 arg4 harg4 arg5 harg5 arg6 harg6 scratch harg7 cc0_scratch1)
          Scf.Loop.for k0_t2_loop k0_t2_ok ⟨⟩ (k0_t2_body i arg1 harg1 arg2 harg2 rowsM harg3 arg4 harg4 arg5 harg5 arg6 harg6 scratch harg7 cc0_scratch1)
          k) Q := by
  iintro ⟨HT, HB, HS, Hc, HO, Hk⟩
  ihave HB' := (Entails.of_eq (by_rows c old)) $$ HB
  ihave HS' := (lend c rows y) $$ HS
  icases HS' with ⟨HK, HS, HR⟩
  imod (Transfers.batch_alloc' (Lvl := ℕ) (countersEmb (U := Pipeline.UD sig nD τ)) (c : Thread nD τ) () unitsOf (handed c rows y)
    (sm := .dma counter) (E := Set.univ)) $$ Hc with HC
  sl_for (fun j (_ : Unit) => started c rows y old arg1 d (8 * j)) $$ [HT HB' HS HC]
  · intro j acc
    show started c rows y old arg1 d (8 * j.val) ⊢ wp frame (wpE (defs₀ (F := F)) Variants.none c none) Set.univ
      (k0_t1_body i arg1 harg1 arg2 harg2 rowsM harg3 arg4 harg4 arg5 harg5 arg6 harg6 scratch harg7 cc0_scratch1 j acc) (fun _ => started c rows y old arg1 d (8 * (j.val + 1)))
    rw [trip1]
    exact trip c rows y old arg1 d hn j
  · unfold started copies
    isplitl [HT]; · iexact HT
    isplitl [HC]; · iexact HC
    isplitl [HB']; · iexact HB'
    iexact HS
  iintro %acc HL
  ihave HL' := (show started c rows y old arg1 d (8 * k0_t1_loop.trips) ⊢ iprop(table c arg1 d ∗ copies c rows y 128 (0 * unitsOf)) from by
    unfold started
    iintro ⟨HT, HC, -, -⟩
    isplitl [HT]; · iexact HT
    rw [Nat.zero_mul]
    iexact HC) $$ HL
  icases HL' with ⟨HT, HC⟩
  sl_for (fun j (_ : Unit) => waited c rows y arg1 d j) $$ [HT HC HO]
  · intro j acc
    show waited c rows y arg1 d j.val ⊢ wp frame (wpE (defs₀ (F := F)) Variants.none c none) Set.univ
      (k0_t2_body i arg1 harg1 arg2 harg2 rowsM harg3 arg4 harg4 arg5 harg5 arg6 harg6 scratch harg7 cc0_scratch1 j acc) (fun _ => waited c rows y arg1 d (j.val + 1))
    rw [trip2]
    exact wait c rows y arg1 d hn j _ _ (off25 j) _ _ _ _ _ chk9 _
  · unfold waited
    rw [if_pos (show 0 < 128 by omega)]
    isplitr; · ipureintro; omega
    isplitl [HT]; · iexact HT
    isplitl [HO]; · iexists _; iexact HO
    iexact HC
  iintro %acc2 HL
  ihave HL' := (show waited c rows y arg1 d k0_t2_loop.trips ⊢ iprop(table c arg1 d ∗ (∃ W, owes (c : Thread nD τ) 0 W)
      ∗ semVal ((c : Thread nD τ), SemLoc.dma counter) 0 ∗ bigSep (Ring.rangeSet 128 0 128) (after c rows y) ∗ bigSep (Ring.rangeSet 128 0 128) (source c rows y)) from by
    rw [← all_handed]
    unfold waited
    rw [if_neg (show ¬ k0_t2_loop.trips < 128 by decide)]
    iintro ⟨-, HT, HO, HD⟩
    isplitl [HT]; · iexact HT
    isplitl [HO]; · iexact HO
    iexact HD) $$ HL
  icases HL' with ⟨HT, HO, Hc, HA, HS⟩
  iapply Hk
  isplitl [HT]; · iexact HT
  isplitl [HA]
  · iapply (Entails.of_eq (by_rows c (gathered c rows y)).symm)
    iexact HA
  isplitl [HK HS HR]
  · iapply (back c rows y)
    isplitl [HK]; · iexact HK
    isplitl [HS]; · iexact HS
    iexact HR
  isplitl [Hc]; · iexact Hc
  iexact HO

end

/-! ## The whole body -/

set_option maxHeartbeats 1000000 in
/-- One call of the body: its stores, as pieces, and its triple. -/
def run (c : Dev nD) (i : grid0.Coords) (arg1 : Memref sig .tc .smem S128 .i32) (harg1 : arg1.IsWhole)
    (x : Memref sig .tc .vmem S128x1024 .f32) (hx : x.IsWhole) (g : Memref sig .tc .vmem S1x1024 .f32) (hg : g.IsWhole)
    (b : Memref sig .tc .vmem S1x1024 .f32) (hb : b.IsWhole) (o : Memref sig .tc .vmem S128x1024 .f32) (ho : o.IsWhole)
    (d : S128.Idx → Elt F .i32) (bx : Vec F S128x1024 .f32) (bg bb : Vec F S1x1024 .f32) (rows : Fin 128 → Fin 640)
    (y : RowsBuf F c) (hn : Names rows d) :
    { L : List (View.Piece (Elt F) S128x1024 .f32) //
      ∀ (W : Waits sig Unit) (K : PUnit → Asrt F),
        iprop(owns (c : Thread nD τ) arg1 fullShare d ∗ owns (c : Thread nD τ) x fullShare bx ∗ owns (c : Thread nD τ) g fullShare bg
            ∗ owns (c : Thread nD τ) b fullShare bb ∗ (∃ d, owns (c : Thread nD τ) o fullShare d)
            ∗ (∃ d, owns (c : Thread nD τ) scratch fullShare d) ∗ (rowsM.view.loc (c : Thread nD τ) ↦{fullShare} y)
            ∗ semVal ((c : Thread nD τ), SemLoc.dma counter) 0 ∗ owes (c : Thread nD τ) 0 W
            ∗ (iprop(owns (c : Thread nD τ) arg1 fullShare d ∗ owns (c : Thread nD τ) x fullShare bx ∗ owns (c : Thread nD τ) g fullShare bg
                ∗ owns (c : Thread nD τ) b fullShare bb
                ∗ (∃ f, o.view.loc (c : Thread nD τ) ↦[o.view.set]{fullShare} o.view.writes (Elt F) f L)
                ∗ (∃ d, owns (c : Thread nD τ) scratch fullShare d) ∗ (rowsM.view.loc (c : Thread nD τ) ↦{fullShare} y)
                ∗ semVal ((c : Thread nD τ), SemLoc.dma counter) 0 ∗ (∃ W', owes (c : Thread nD τ) 0 W')) -∗ K ⟨⟩))
          ⊢ wp frame (wpE (defs₀ (F := F)) Variants.none c none) Set.univ
            (cc0_moe_combine i arg1 harg1 x hx rowsM (Memref.isWhole_whole _) g hg b hb o ho scratch (Memref.isWhole_whole _) cc0_scratch1) K } := by
  refine ⟨?_, fun W K => ?run⟩
  case run =>
    simp only [cc0_moe_combine_eq_skeleton]; unfold cc0_moe_combine_skel
    simp only [k0_part2_eq_skeleton]; unfold k0_part2_skel
    simp only [Prog.bind_assoc]
    simp only [show ∀ f : ScratchBuf F c, owns (c : Thread nD τ) scratch fullShare f
      = (scratch.view.loc (c : Thread nD τ) ↦{fullShare} f : Asrt F) from fun f => owns_whole _ _ _ _]
    iintro ⟨HT, H0, H1, H2, H3, ⟨%old, HB⟩, HS, Hc, HO, Hk⟩
    iapply (gather c rows y old arg1 d i harg1 x hx (Memref.isWhole_whole _) g hg b hb o ho (Memref.isWhole_whole _) hn W _ _)
    isplitl [HT]; · unfold table; iexact HT
    isplitl [HB]; · iexact HB
    isplitl [HS]; · iexact HS
    isplitl [Hc]; · iexact Hc
    isplitl [HO]; · iexact HO
    iintro ⟨HT, HB, HS, Hc, HO⟩
    unfold owns
    icases H0 with ⟨%f0, %hf0, H0⟩
    icases H1 with ⟨%f1, %hf1, H1⟩
    icases H2 with ⟨%f2, %hf2, H2⟩
    icases H3 with ⟨%d3, %f3, -, H3⟩
    obtain rfl := hx.eq_unread hf0; obtain rfl := hg.eq_unread hf1; obtain rfl := hb.eq_unread hf2
    sl_exec
    sl_step
    iapply Hk
    isplitl [HT]; · unfold table owns; iexact HT
    isplitl [H0]
    · iexists _; isplitr; · ipureintro; exact hx.read_unread _
      iexact H0
    isplitl [H1]
    · iexists _; isplitr; · ipureintro; exact hg.read_unread _
      iexact H1
    isplitl [H2]
    · iexists _; isplitr; · ipureintro; exact hb.read_unread _
      iexact H2
    isplitl [H3]; · iexists _; iexact H3
    isplitl [HB]; · iexists _; iexact HB
    isplitl [HS]; · iexact HS
    isplitl [Hc]; · iexact Hc
    iexact HO

end Cert.CombineSIdeal.Gather
-- ==== Proof.CombineS.FrameIdeal.lean ====
/- The combining call for the sample batch (over the exact numbers) terminates when the table names rows of the experts' results: its arguments end unchanged, and its
   result is what the body leaves block by block. -/
module

public import proofs.«01_k».proof.Proof.CombineS.BodyIdeal
public import proofs.«01_k».proof.Proof.Gen.CombineSIdeal.Frame
public import proofs.«01_k».proof.Proof.Gen.CombineSIdeal.Points
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp
public import Idealize.ShloMosaic.Lib.StableHlo.ReadAt

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)

namespace Cert.CombineSIdeal.Gather

open Cert.CombineSIdeal Cert.CombineSIdeal.Gen

variable {F : FTy → Type} [FloatOps F]

variable (m : (ℓ : Loc nD τ sig) → Buf (Elt F) ℓ) (ρ : Dev nD → PrngReg)

/-! ## What the launch is given -/

/-- The counter of the body's own copies. -/
abbrev own : Fin 1 → SemLoc sig := fun j => (![SemLoc.dma counter] : Fin 1 → SemLoc sig) j

theorem own_facts : Pipeline.OwnSemFacts spec0 own := by decide

theorem own_held (c : Dev nD) :
    (Pipeline.ownSems0 (Ix := Unit) (Name := ℕ) (U := Pipeline.UD sig nD τ) (Lvl := ℕ) (Val := Elt F) (τ := τ) own c : Asrt F)
      = semVal ((c : Thread nD τ), SemLoc.dma counter) 0 := by
  rw [Pipeline.ownSems0_eq_of_list c own [0] (by decide) (by decide)]; rfl

/-- The experts' results stay where they are. -/
def left : Finset (Ref sig .tc) := {main_arg2}

theorem left_sub : left ⊆ Pipeline.restRefs sig spec0 := by decide

theorem left_held (c : Dev nD) : (bigSep left (fun b => ((c : Thread nD τ).loc b) ↦{fullShare} V m c b) : Asrt F)
    = (rowsM.view.loc (c : Thread nD τ) ↦{fullShare} V m c main_arg2) := by
  rw [BI.bigSep_eq_bigSepL_of_eq [main_arg2] (by decide) (by decide)]; rfl

/-- What the body keeps between two points. -/
theorem between (c : Dev nD) : (Pipeline.ΦD own spec0 left (V m) c : Asrt F)
    = iprop((∃ d, owns (c : Thread nD τ) scratch fullShare d) ∗ (∃ r, prngReg c r) ∗ semVal ((c : Thread nD τ), SemLoc.dma counter) 0
        ∗ (rowsM.view.loc (c : Thread nD τ) ↦{fullShare} V m c main_arg2)) := by
  rw [Pipeline.ΦD_eq, scopedRest0_eq, own_held, left_held]; simp only [scratch, owns_whole]; try rfl

theorem entry (v : Variants) : Pipeline.HMain (Ix := Unit) (Name := ℕ) (U := Pipeline.UD sig nD τ) (Lvl := ℕ) cfgs 0 defs₀ v m
    (main (F := F)) (V m) :=
  Pipeline.hmain_prefix cfgs 0 defs₀ v m main hostOps0 hostOps0_sub hostOps0_fresh main_chain

/-! ## The rows a point names -/

/-- Every entry of the table is the number of a row. -/
def InRows : Prop := ∀ (c : Dev nD) (t : Fin cfg0.N) (i : Fin 128), (iblk m c 0 t (ix1 i : S128.Idx) : BitVec 32).toNat < 640

def rowsAt (h : InRows m) (c : Dev nD) (t : Fin cfg0.N) : Fin 128 → Fin 640 := fun i => ⟨_, h c t i⟩

theorem names (h : InRows m) (c : Dev nD) (t : Fin cfg0.N) : Names (F := F) (rowsAt m h c t) (iblk m c 0 t) := fun _ => rfl

/-! ## What a point leaves -/

/-- One whole buffer to read the stores back through. -/
abbrev VO : View sig .tc .vmem S128x1024 .f32 := (Memref.whole cc0_stg4_0 : Memref sig .tc .vmem S128x1024 .f32).view

/-- The stores at a point. -/
abbrev pieces (h : InRows m) (c : Dev nD) (t : Fin cfg0.N) : List (View.Piece (Elt F) S128x1024 .f32) :=
  (run c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (iblk m c 0 t) (X0_1 m c t) (iblk m c 2 t) (iblk m c 3 t)
    (rowsAt m h c t) (V m c main_arg2) (names m h c t)).1

theorem covers (h : InRows m) (c : Dev nD) (t : Fin cfg0.N) (y : S128x1024.Idx) : ∃ pc ∈ pieces m h c t, y ∈ pc.1.set :=
  View.cover_of_tiledL (pieces m h c t) S128x1024.size (by sl_kernel_rfl) y

/-- What a point leaves in its block of the result. -/
def leaves (h : InRows m) (c : Dev nD) (t : Fin cfg0.N) : Vec F S128x1024 .f32 :=
  VO.read (Elt F) (VO.writes (Elt F) VO.junk (pieces m h c t))

/-! ## The pipeline's run -/

/-- What the arrays and the staging buffers hold, point by point. -/
def dats (h : InRows m) (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => leaves m h c t
  Φ _ := Pipeline.ΦD own spec0 left (V m) c
  q _ := fullShare
  owed _ := 0

theorem array (h : InRows m) (c : Dev nD) (w : Fin cfg0.W) : (dats m h 0 c).A w = V m c (Pipeline.arrRef spec0 w) := by
  dsimp only [dats]

theorem after0 (h : InRows m) (c : Dev nD) (t : Fin cfg0.N) : (dats m h 0 c).after 0 t = iblk m c 0 t := by dsimp only [dats]
theorem after1 (h : InRows m) (c : Dev nD) (t : Fin cfg0.N) : (dats m h 0 c).after 1 t = X0_1 m c t := by dsimp only [dats]
theorem after2 (h : InRows m) (c : Dev nD) (t : Fin cfg0.N) : (dats m h 0 c).after 2 t = iblk m c 2 t := by dsimp only [dats]
theorem after3 (h : InRows m) (c : Dev nD) (t : Fin cfg0.N) : (dats m h 0 c).after 3 t = iblk m c 3 t := by dsimp only [dats]
theorem after4 (h : InRows m) (c : Dev nD) (t : Fin cfg0.N) : (dats m h 0 c).after 4 t = leaves m h c t := by dsimp only [dats]

theorem before0 (h : InRows m) (c : Dev nD) (t : Fin cfg0.N) (d) : (dats m h 0 c).before 0 t d = iblk m c 0 t :=
  ((dats m h 0 c).before_in_eq_fetched 0 rfl (fun _ => rfl) (fun _ _ _ => rfl)
    (fun t => by rw [after0]; unfold Dat.blockOf iblk; rw [array]; try rfl) t d).trans
    (by unfold Dat.fetched Dat.blockOf iblk; rw [array]; try rfl)
theorem before1 (h : InRows m) (c : Dev nD) (t : Fin cfg0.N) (d) : (dats m h 0 c).before 1 t d = X0_1 m c t :=
  ((dats m h 0 c).before_in_eq_fetched 1 rfl (fun _ => rfl)
    (fun t t' h => funext fun a => congrArg (fun n => Pipeline.Clip.of n ((cfg0.win 1).size a) (S128x1152.size a)) (congrFun h a))
    (fun t => by rw [after1]; unfold X0_1; rw [Pipeline.Window.cut_fill]; unfold Dat.blockOf iblk; rw [array]; try rfl) t d).trans
    (by unfold Dat.fetched X0_1; rw [fill0_1 t d dflt0_1]; unfold Dat.blockOf iblk; rw [array]; try rfl)
theorem before2 (h : InRows m) (c : Dev nD) (t : Fin cfg0.N) (d) : (dats m h 0 c).before 2 t d = iblk m c 2 t :=
  ((dats m h 0 c).before_in_eq_fetched 2 rfl (fun _ => rfl) (fun _ _ _ => rfl)
    (fun t => by rw [after2]; unfold Dat.blockOf iblk; rw [array]; try rfl) t d).trans
    (by unfold Dat.fetched Dat.blockOf iblk; rw [array]; try rfl)
theorem before3 (h : InRows m) (c : Dev nD) (t : Fin cfg0.N) (d) : (dats m h 0 c).before 3 t d = iblk m c 3 t :=
  ((dats m h 0 c).before_in_eq_fetched 3 rfl (fun _ => rfl) (fun _ _ _ => rfl)
    (fun t => by rw [after3]; unfold Dat.blockOf iblk; rw [array]; try rfl) t d).trans
    (by unfold Dat.fetched Dat.blockOf iblk; rw [array]; try rfl)

theorem leaves_in0 (h : InRows m) (c : Dev nD) (t : Fin cfg0.N) :
    (dats m h 0 c).leavesExact 0 t = owns (c : Thread nD τ) (st0_0 t) fullShare (iblk m c 0 t) := by
  rw [← after0 m h]
theorem leaves_in1 (h : InRows m) (c : Dev nD) (t : Fin cfg0.N) :
    (dats m h 0 c).leavesExact 1 t = owns (c : Thread nD τ) (st0_1 t) fullShare (X0_1 m c t) := by
  rw [← after1 m h]
theorem leaves_in2 (h : InRows m) (c : Dev nD) (t : Fin cfg0.N) :
    (dats m h 0 c).leavesExact 2 t = owns (c : Thread nD τ) (st0_2 t) fullShare (iblk m c 2 t) := by
  rw [← after2 m h]
theorem leaves_in3 (h : InRows m) (c : Dev nD) (t : Fin cfg0.N) :
    (dats m h 0 c).leavesExact 3 t = owns (c : Thread nD τ) (st0_3 t) fullShare (iblk m c 3 t) := by
  rw [← after3 m h]
theorem leaves_out (h : InRows m) (c : Dev nD) (t : Fin cfg0.N) :
    (dats m h 0 c).leavesExact 4 t = owns (c : Thread nD τ) (st0_4 t) fullShare (leaves m h c t) := by
  rw [← after4 m h]

/-- What the body is given at a point, -/
def given (h : InRows m) (c : Dev nD) (t : Fin cfg0.N) : Asrt F :=
  iprop((dats m h 0 c).Φ t.castSucc ∗ (dats m h 0 c).owesAt () t.castSucc
    ∗ (∃ d, owns (c : Thread nD τ) (st0_0 t) fullShare ((dats m h 0 c).before 0 t d))
    ∗ (∃ d, owns (c : Thread nD τ) (st0_1 t) fullShare ((dats m h 0 c).before 1 t d))
    ∗ (∃ d, owns (c : Thread nD τ) (st0_2 t) fullShare ((dats m h 0 c).before 2 t d))
    ∗ (∃ d, owns (c : Thread nD τ) (st0_3 t) fullShare ((dats m h 0 c).before 3 t d))
    ∗ (∃ d, owns (c : Thread nD τ) (st0_4 t) fullShare ((dats m h 0 c).before 4 t d)))

/-- and what it returns. -/
def returned (h : InRows m) (c : Dev nD) (t : Fin cfg0.N) : Asrt F :=
  iprop((dats m h 0 c).Φ t.succ ∗ (dats m h 0 c).owesAt () t.succ
    ∗ (dats m h 0 c).leavesExact 0 t ∗ (dats m h 0 c).leavesExact 1 t ∗ (dats m h 0 c).leavesExact 2 t
    ∗ (dats m h 0 c).leavesExact 3 t ∗ (dats m h 0 c).leavesExact 4 t)

set_option maxHeartbeats 800000 in
/-- The body at any point. -/
theorem body (h : InRows m) (c : Dev nD) (t : Fin cfg0.N) :
    given m h c t ⊢ wp frame (wpE (defs₀ (F := F)) Variants.none c none) Set.univ (bodyAt0 t) (fun _ => returned m h c t) := by
  unfold given returned bodyAt0
  simp only [before0, before1, before2, before3]
  rw [show (dats m h 0 c).Φ t.succ = (dats m h 0 c).Φ t.castSucc from rfl,
    show (dats m h 0 c).owesAt () t.succ = (dats m h 0 c).owesAt () t.castSucc from rfl,
    show (dats m h 0 c).Φ t.castSucc = Pipeline.ΦD own spec0 left (V m) c from rfl, between,
    leaves_in0, leaves_in1, leaves_in2, leaves_in3, leaves_out]
  unfold Dat.owesAt Pipeline.owesWithin
  rw [show (dats m h 0 c).owed t.castSucc = 0 from rfl]
  iintro ⟨⟨HB, Hg, Hc, HS⟩, ⟨%W, %hW, HO⟩, ⟨%d0, H0⟩, ⟨%d1, H1⟩, ⟨%d2, H2⟩, ⟨%d3, H3⟩, ⟨%d4, H4⟩⟩
  iapply ((run c (grid0.coords t) _ _ _ _ _ _ _ _ _ _ (iblk m c 0 t) (X0_1 m c t) (iblk m c 2 t) (iblk m c 3 t)
    (rowsAt m h c t) (V m c main_arg2) (names m h c t)).2 W _)
  isplitl [H0]; · iexact H0
  isplitl [H1]; · iexact H1
  isplitl [H2]; · iexact H2
  isplitl [H3]; · iexact H3
  isplitl [H4]; · iexists _; iexact H4
  isplitl [HB]; · iexact HB
  isplitl [HS]; · iexact HS
  isplitl [Hc]; · iexact Hc
  isplitl [HO]; · iexact HO
  iintro ⟨H0, H1, H2, H3, ⟨%e4, H4⟩, HB, HS, Hc, ⟨%W', HO⟩⟩
  isplitl [HB Hg Hc HS]
  · isplitl [HB]; · iexact HB
    isplitl [Hg]; · iexact Hg
    isplitl [Hc]; · iexact Hc
    iexact HS
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  unfold leaves owns; iexists _; isplitr
  swap; · iexact H4
  ipureintro; exact View.read_writes_of_cover _ _ _ _ _ (covers m h c t)

theorem row (t : Fin cfg0.N) : defs₀ (F := F) .tc cfg0.body (cfg0.bodyArgs t (cfg0.slots t)) = bodyAt0 t := by
  unfold defs₀; rw [Defs.onTc_tc]

theorem obligation (h : InRows m) (c : Dev nD) :
    BodyObligation (dats (F := F) m h 0 c) (defs₀ (F := F)) Variants.none () Set.univ := fun t => by
  rw [bigSep_W0, bigSep_W0, row]
  exact triple_restated (body m h c t) rfl .rfl fun _ => .rfl

set_option backward.isDefEq.respectTransparency.types false in
/-- The launch, with every counter at zero at the end. -/
theorem launch (h : InRows m) : θ_run defs (onTc (τ := τ) (main (F := F))) (s₀ m ρ)
    (fun r => Pipeline.FramePost cfgs (dats m h) 0 (V m) r ∧ r.2.sem = fun _ => 0) :=
  Pipeline.θ_run_frame_dma (Q' := _) cfgs (dats m h) (0 : Fin 1) launch0 own defs₀ Variants.none own_facts left left_sub m ρ main
    (hbody := fun c => (obligation m h c).loose) (hshare := fun c => (dats m h 0 c).share_full fun _ => rfl)
    (howed := fun _ _ => rfl) (V := V m) (hmain := entry m Variants.none) (hA := array m h)
    (hin := fun _ => .rfl) (hout := fun _ => .rfl)

/-- The run: the result's array is what the points leave in it, the arguments end unchanged, the counters end at zero. -/
theorem call (h : InRows m) : θ_run defs (onTc (τ := τ) (main (F := F))) ⟨m, fun _ => 0, ρ⟩ (fun r => (∀ c : Dev nD,
      r.2.mem ((c.tc : Thread nD τ).loc main_v2) = (dats m h 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ hr => ⟨fun c => ⟨(hr.1 c).1 4,
      ((hr.1 c).1 0).trans (((dats m h 0 c).arrAt_in 0 rfl _).trans ((array m h c 0).trans (V_main_arg0 m c))),
      ((hr.1 c).1 1).trans (((dats m h 0 c).arrAt_in 1 rfl _).trans ((array m h c 1).trans (V_main_arg1 m c))),
      ((hr.1 c).2 main_arg2 (Pipeline.mem_restRefs_of main_arg2 (by decide) (by decide))).trans (V_main_arg2 m c),
      ((hr.1 c).2 main_arg3 (Pipeline.mem_restRefs_of main_arg3 (by decide) (by decide))).trans (V_main_arg3 m c),
      ((hr.1 c).2 main_arg4 (Pipeline.mem_restRefs_of main_arg4 (by decide) (by decide))).trans (V_main_arg4 m c)⟩,
    hr.2⟩) (launch m ρ h)

end Cert.CombineSIdeal.Gather
-- ==== Proof.CombineS.TablesIdeal.lean ====
/- The table of the combining call for the sample batch (over the exact numbers): every entry a point reads is an entry of the argument, so with the argument's entries in
   range every copy names a row of the experts' results. -/
module

public import proofs.«01_k».proof.Defs
public import proofs.«01_k».proof.Proof.CombineS.FrameIdeal
public import proofs.«01_k».proof.Proof.Gen.Pre_sample_in_rows
public import Idealize.ShloMosaic.Lib.Pipeline.ValueKit
public import Idealize.ShloMosaic.Lib.StableHlo.Predicate

@[expose] public section

noncomputable section

open Idealize.ShloMosaic Idealize.ShloMosaic.TcCoe Idealize.SL.Sem

namespace Cert.CombineSIdeal.Gather

open Cert.CombineSIdeal Cert.CombineSIdeal.Gen

/-- A word that is at least zero and less than 640, read signed, is the number of a row. -/
theorem small (w : BitVec 32) (h : IntOp.andi (IntOp.cmpi .sge w 0#32) (IntOp.cmpi .slt w 640#32) = 1#1) : w.toNat < 640 := by
  have h' : ((0#32).sle w && w.slt 640#32) = true := by
    revert h
    simp only [IntOp.andi, IntOp.cmpi]
    cases (0#32).sle w <;> cases w.slt 640#32 <;> decide
  have h1 := BitVec.sle_iff_toInt_le.mp (Bool.and_eq_true_iff.mp h').1
  have h2 := BitVec.slt_iff_toInt_lt.mp (Bool.and_eq_true_iff.mp h').2
  rw [show (0#32 : BitVec 32).toInt = 0 from rfl] at h1
  rw [show (640#32 : BitVec 32).toInt = 640 from rfl] at h2
  have h3 := w.isLt
  rw [BitVec.toInt_eq_toNat_cond] at h1 h2
  split at h1 <;> omega

/-- Point `t` reads the table's block `t` and the residual rows' block `t`, the whole of the scale and the shift, and writes
    the result's row block `t`. -/
theorem idx : ∀ t : Fin cfg0.N, win0_0.index t = ![t.val] ∧ win0_1.index t = ![t.val, 0] ∧ win0_2.index t = ![0, 0]
    ∧ win0_3.index t = ![0, 0] ∧ win0_4.index t = ![t.val, 0] :=
  (by decide +kernel : ∀ t : Fin grid0.N, _)

/-- Row `p` of block `t`. -/
abbrev rowOf (t : Fin cfg0.N) (p : Fin 128) : Fin 128 :=
  ⟨t.val * 128 + p.val, by have := t.isLt; have := N_0; have : cfg0.N = grid0.N := rfl; omega⟩

section
variable {F : FTy → Type} [FloatOps F] (m : (ℓ : Loc nD τ sig) → Buf (Elt F) ℓ)

/-- The table, as the call is given it. -/
abbrev place (c : Dev nD) : (⟨S128, .i32⟩ : BufTy).Contents (Elt F) := m ((c : Thread nD τ).loc main_arg0)

/-- A point's entries are the table's. -/
theorem blk0 (c : Dev nD) (t : Fin cfg0.N) (p : Fin 128) : iblk m c 0 t (ix1 p) = place m c (ix1 (rowOf t p)) := by
  unfold place
  rw [← V_main_arg0 m c]
  blk_ext [iblk, idx t]

end

/-- The assumption puts every entry in range. -/
theorem in_range (m : (ℓ : Loc nD τ sig) → Buf (Elt Ideal) ℓ) (h : Cert.Pre_CombineSIdeal m) (c : Dev nD) (r : Fin 128) :
    (place m c (ix1 r) : BitVec 32).toNat < 640 :=
  small _ (congrFun (h c) (ix1 r))

theorem in_rows (m : (ℓ : Loc nD τ sig) → Buf (Elt Ideal) ℓ) (h : Cert.Pre_CombineSIdeal m) : InRows m := fun c t i => by
  rw [blk0]
  exact in_range m h c _

end Cert.CombineSIdeal.Gather

end
-- ==== Proof.CombineS.Combined.lean ====
/- The sample batch's last residual step as mathematics: a row's residual stream, scaled, joined with the row of the experts' results
   that its table entry names, and normalised. -/
module

public import proofs.«01_k».proof.Proof.Mixer

@[expose] public section

noncomputable section

open Idealize.ShloMosaic

namespace Cert.Layer.Sample

variable (d : IVec ⟨1, ![128]⟩ 32) (x : FVec Ideal ⟨2, ![128, 1152]⟩ .f32) (y : FVec Ideal ⟨2, ![640, 1024]⟩ .f32)
  (g b : FVec Ideal ⟨1, ![1024]⟩ .f32)

/-- The row of the experts' results that row `r`'s table entry names. -/
def named (r : Fin 128) : Fin 640 := ⟨(d (ix1 r)).toNat % 640, Nat.mod_lt _ (by decide)⟩

/-- Number `i` of row `r` before its normalisation. -/
def joined (r : Fin 128) (i : Fin 1024) : EReal :=
  Ideal.ofBits .f32 1071072509#32 * x (ix2 r ⟨i.val, by omega⟩) + y (ix2 (named d r) i)

/-- Number `i` of row `r` of the layer's result. -/
def combined (r : Fin 128) (i : Fin 1024) : EReal := normed (joined d x y r) i * g (ix1 i) + b (ix1 i)

end Cert.Layer.Sample

end
-- ==== Proof.CombineS.Kernel.lean ====
/- The combining call for the sample batch as the kernel computes it: the grid's one point takes all 128 rows, and its block
   of the experts' results is gathered row by row. -/
module

public import proofs.«01_k».proof.Proof.CombineS.TablesIdeal
public import proofs.«01_k».proof.Proof.CombineS.Combined
public import Idealize.ShloMosaic.Lib.Pipeline.ValueKit
public import Idealize.ShloMosaic.Lib.StableHlo.ReadAt

@[expose] public section

noncomputable section

open Idealize.ShloMosaic Idealize.ShloMosaic.TcCoe Idealize.SL.Sem Cert.Layer Cert.Layer.Sample

namespace Cert.CombineSIdeal.Blocks

open Cert.CombineSIdeal Cert.CombineSIdeal.Gen Cert.CombineSIdeal.Gather

variable (m : (ℓ : Loc nD τ sig) → Buf (Elt Ideal) ℓ)

/-- The residual stream, as the call is given it. -/
abbrev stream (c : Dev nD) : FVec Ideal ⟨2, ![128, 1152]⟩ .f32 := m ((c : Thread nD τ).loc main_arg1)

/-- The experts' results. -/
abbrev expertRows (c : Dev nD) : FVec Ideal ⟨2, ![640, 1024]⟩ .f32 := m ((c : Thread nD τ).loc main_arg2)

/-- The normalisation's scale. -/
abbrev scale (c : Dev nD) : FVec Ideal ⟨1, ![1024]⟩ .f32 := m ((c : Thread nD τ).loc main_arg3)

/-- The normalisation's shift. -/
abbrev shift (c : Dev nD) : FVec Ideal ⟨1, ![1024]⟩ .f32 := m ((c : Thread nD τ).loc main_arg4)

/-! ## The arrays the host code prepares -/

theorem scale_row (c : Dev nD) (j : Fin 1024) : V m c main_v0 (ix2 0 j) = scale m c (ix1 j) := by
  unfold V
  after_reads_at

theorem shift_row (c : Dev nD) (j : Fin 1024) : V m c main_v1 (ix2 0 j) = shift m c (ix1 j) := by
  unfold V
  after_reads_at

/-! ## The blocks -/

theorem blk1 (c : Dev nD) (t : Fin cfg0.N) (p : Fin 128) (k : Fin 1024) :
    X0_1 m c t (ix2 p k) = stream m c (ix2 (rowOf t p) ⟨k.val, by omega⟩) := by
  unfold stream X0_1 Pipeline.Window.fill
  rw [dif_pos (moved0_1 t _), ← V_main_arg1 m c]
  blk_ext [iblk, idx t]

theorem blk2 (c : Dev nD) (t : Fin cfg0.N) (j : Fin 1024) : iblk m c 2 t (ix2 0 j) = scale m c (ix1 j) := by
  rw [← scale_row m c]
  blk_ext [iblk, idx t]

theorem blk3 (c : Dev nD) (t : Fin cfg0.N) (j : Fin 1024) : iblk m c 3 t (ix2 0 j) = shift m c (ix1 j) := by
  rw [← shift_row m c]
  blk_ext [iblk, idx t]

/-! ## The body, for any blocks -/

/-- The row before its normalisation, from a point's blocks. -/
def joinedOf (x y : Vec Ideal S128x1024 .f32) (p : Fin 128) (i : Fin 1024) : EReal :=
  Ideal.ofBits .f32 1071072509#32 * x (ix2 p i) + y (ix2 p i)

/-- The normalised row. -/
theorem norm_apply (x y : Vec Ideal S128x1024 .f32) (g b : Vec Ideal S1x1024 .f32) (p : Fin 128) (i : Fin 1024) :
    k0_pay1 x y g b (ix2 p i) = normed (joinedOf x y p) i * g (ix2 0 i) + b (ix2 0 i) := by
  pointwise [k0_pay1]
  rfl

/-! ## The result -/

/-- What a point leaves in its block of the result. -/
theorem leaves_apply (h : InRows m) (c : Dev nD) (t : Fin cfg0.N) (p : Fin 128) (i : Fin 1024) :
    leaves m h c t (ix2 p i)
      = normed (joinedOf (X0_1 m c t) (gathered c (rowsAt m h c t) (V m c main_arg2)) p) i
        * iblk m c 2 t (ix2 0 i) + iblk m c 3 t (ix2 0 i) := by
  unfold leaves pieces run
  dsimp only
  frame_out
  rw [View.read_whole]
  exact norm_apply _ _ _ _ p i

/-- The row a point gathers into row `p` of its block. -/
theorem gathered_apply (h : InRows m) (c : Dev nD) (t : Fin cfg0.N) (p : Fin 128) (i : Fin 1024) :
    (gathered c (rowsAt m h c t) (V m c main_arg2) : Vec Ideal S128x1024 .f32) (ix2 p i)
      = expertRows m c (ix2 (named (place m c) (rowOf t p)) i) := by
  have e : rowsAt m h c t p = named (place m c) (rowOf t p) :=
    Fin.ext ((Nat.mod_eq_of_lt (h c t p)).symm.trans (congrArg (fun w : BitVec 32 => w.toNat % 640) (blk0 m c t p)))
  rw [← e]
  unfold expertRows
  rw [← V_main_arg2 m c]
  rfl

/-- Every block of the result is written back, -/
theorem flushes : ∀ t : Fin cfg0.N, (cfg0.win 4).flush t = true := flush0_4

/-- no two of them meet, -/
theorem apart (t t' : Fin cfg0.N) (hne : t ≠ t') :
    Disjoint ((cfg0.win 4).blk t).view.set ((cfg0.win 4).blk t').view.set :=
  (cfg0.win 4).disjoint_blk fun e => hne ((by decide +kernel : ∀ t t' : Fin grid0.N,
    win0_4.index t = win0_4.index t' → t = t') t t' e)

/-- so each holds what its point left. -/
theorem block_final (h : InRows m) (c : Dev nD) (t : Fin cfg0.N) (p : Fin 128) (i : Fin 1024) :
    ((dats m h 0 c).arrAt 4 cfg0.N : FVec Ideal S128x1024 .f32) (ix2 (rowOf t p) i) = leaves m h c t (ix2 p i) := by
  have key := congrFun ((dats m h 0 c).read_blk_arrAt_eq_flushed 4 (fun t t' _ _ hne => apart t t' hne) cfg0.N t t.isLt
    (flushes t)) (ix2 p i)
  refine Eq.trans ?_ (key.trans (congrFun (after4 m h c t) (ix2 p i)))
  generalize (dats m h 0 c).arrAt 4 cfg0.N = R
  refine congrArg (R : FVec Ideal S128x1024 .f32) ?_
  blk_ext [idx t]

/-- The result array is `combined` of the arguments. -/
theorem final (h : InRows m) (c : Dev nD) (r : Fin 128) (i : Fin 1024) :
    ((dats m h 0 c).arrAt 4 cfg0.N : FVec Ideal S128x1024 .f32) (ix2 r i)
      = combined (place m c) (stream m c) (expertRows m c) (scale m c) (shift m c) r i := by
  obtain ⟨t, p, rfl⟩ : ∃ (t : Fin cfg0.N) (p : Fin 128), r = rowOf t p :=
    ⟨⟨r.val / 128, by have := N_0; have : cfg0.N = grid0.N := rfl; omega⟩, ⟨r.val % 128, by omega⟩,
      Fin.ext (by dsimp only; omega)⟩
  refine (block_final m h c t p i).trans ((leaves_apply m h c t p i).trans ?_)
  have e : joinedOf (X0_1 m c t) (gathered c (rowsAt m h c t) (V m c main_arg2)) p
      = joined (place m c) (stream m c) (expertRows m c) (rowOf t p) := by
    funext i
    unfold joinedOf joined
    rw [blk1, gathered_apply]
  rw [e, blk2, blk3]
  rfl

end Cert.CombineSIdeal.Blocks

end
-- ==== Proof.CombineS.Reference.lean ====
/- The reference of the combining call for the sample batch, stage by stage at an index, ending at `Cert.Layer.Sample.combined` wherever the
   table's entry is the number of a row. -/
module

public import proofs.«01_k».proof.Proof.Gen.CombineSReferenceIdeal.Read
public import proofs.«01_k».proof.Proof.CombineS.Combined

@[expose] public section

noncomputable section

open Idealize.ShloMosaic Idealize.ShloMosaic.TcCoe Idealize.SL.Sem Cert.Layer Cert.Layer.Sample

namespace Cert.CombineSReferenceIdeal.Stages

open Cert.CombineSReferenceIdeal Cert.CombineSReferenceIdeal.Gen Cert.CombineSReferenceIdeal.Read

/-! ## The gather, for any operands -/

/-- Row `r` of the gather is the row its index names, read signed and brought into range. -/
theorem gather_row (y : FVec Ideal S640x1024 .f32) (k : IVec S128x1 32) (r : Fin 128) (i : Fin 1024) :
    Host.gather gather_S640x1024_S128x1_S128x1024_1_0_n_n_0_1_11024 y k (ix2 r i)
      = y (ix2 ⟨min (k (ix2 r 0)).toInt.toNat 639, by omega⟩ i) := by
  unfold Host.gather
  refine congrArg y (funext fun a => Fin.ext ?_)
  show gather_S640x1024_S128x1_S128x1024_1_0_n_n_0_1_11024.start (ix2 r i) k a
      + gather_S640x1024_S128x1_S128x1024_1_0_n_n_0_1_11024.batchCoord (ix2 r i) a
      + gather_S640x1024_S128x1_S128x1024_1_0_n_n_0_1_11024.offCoord (ix2 r i) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (fun h => by simp [gather_S640x1024_S128x1_S128x1024_1_0_n_n_0_1_11024] at h),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S640x1024_S128x1_S128x1024_1_0_n_n_0_1_11024.startIndexMap from
      List.mem_singleton.mpr rfl)]
    have hsi : gather_S640x1024_S128x1_S128x1024_1_0_n_n_0_1_11024.siIdx (ix2 r i)
        ⟨List.idxOf (0 : Fin 2) gather_S640x1024_S128x1_S128x1024_1_0_n_n_0_1_11024.startIndexMap,
          List.idxOf_lt_length_iff.2 (List.mem_singleton.mpr rfl)⟩ = ix2 r 0 := by
      funext b; refine Fin.ext ?_
      match b with
      | ⟨0, _⟩ => rfl
      | ⟨1, _⟩ => rfl
    rw [hsi]
    rfl
  · rw [GatherDims.batchCoord_eq_zero _ _ _ (fun h => by simp [gather_S640x1024_S128x1_S128x1024_1_0_n_n_0_1_11024] at h)]
    unfold GatherDims.start
    rw [dif_neg (show ¬ (1 : Fin 2) ∈ gather_S640x1024_S128x1_S128x1024_1_0_n_n_0_1_11024.startIndexMap from by decide)]
    simp only [Nat.zero_add, Nat.add_zero]
    rfl

/-- A number in range, read signed, is itself, and is not negative. -/
theorem in_range (w : BitVec 32) (h : w.toNat < 640) : min w.toInt.toNat 639 = w.toNat % 640
    ∧ IntOp.cmpi .slt w 0#32 = 0#1 := by
  have e : w.toInt = w.toNat := by
    rw [BitVec.toInt_eq_toNat_cond, if_pos (by omega)]
  refine ⟨by rw [e, Nat.mod_eq_of_lt h]; omega, ?_⟩
  have hs : w.slt 0#32 = false := by
    rw [BitVec.slt_eq_decide, decide_eq_false_iff_not, e]
    exact fun h' => absurd h' (by simp)
  simp only [IntOp.cmpi, hs]
  rfl

/-! ## The stages -/

variable (x0 : (⟨S128, .i32⟩ : BufTy).Contents (Elt Ideal)) (x1 : (⟨S128x1152, .f32⟩ : BufTy).Contents (Elt Ideal))
  (x2 : (⟨S640x1024, .f32⟩ : BufTy).Contents (Elt Ideal)) (x3 x4 : (⟨S1024, .f32⟩ : BufTy).Contents (Elt Ideal))

/-- The index the gather is given at row `r`. -/
theorem index (r : Fin 128) (h : (x0 (ix1 r) : BitVec 32).toNat < 640) :
    val_main_v8 (F := Ideal) x0 (ix2 r 0) = x0 (ix1 r) := by
  have e : idx_main_v8 (ix2 r 0) = ix1 r := funext fun a => match a with | ⟨0, _⟩ => rfl
  rw [val_main_v8_apply, e, val_main_v7_apply, val_main_v4_apply, val_main_v3_apply, val_main_c_apply, (in_range _ h).2]
  rfl

/-- The row before its normalisation. -/
theorem before (r : Fin 128) (h : (x0 (ix1 r) : BitVec 32).toNat < 640) (i : Fin 1024) :
    val_main_v10 (F := Ideal) x0 x1 x2 (ix2 r i) = joined x0 x1 x2 r i := by
  rw [val_main_v10_apply, val_main_v2_apply, val_main_v1_apply, val_main_cst_apply, val_main_v0_apply, add_spelt, mul_spelt]
  unfold val_main_v9 joined
  rw [gather_row]
  refine congrArg₂ (· + ·) (congrArg (_ * ·) (congrArg x1 (funext fun a => match a with | ⟨0, _⟩ => rfl | ⟨1, _⟩ => rfl)))
    (congrArg (fun k => x2 (ix2 k i)) (Fin.ext
      ((congrArg (fun w : BitVec 32 => min w.toInt.toNat 639) (index x0 r h)).trans (in_range _ h).1)))

/-- The reference's result. -/
theorem result (r : Fin 128) (h : (x0 (ix1 r) : BitVec 32).toNat < 640) (i : Fin 1024) :
    val_main_v34 (F := Ideal) x0 x1 x2 x3 x4 (ix2 r i) = combined x0 x1 x2 x3 x4 r i := by
  pointwise [val_main_v34, val_main_v33, val_main_v32, val_main_v31, val_main_v30, val_main_v29, val_main_v28, val_main_v27,
    val_main_v26, val_main_v25, val_main_v24, val_main_v23, val_main_v22, val_main_v21, val_main_v20, val_main_v19,
    val_main_v18, val_main_v17, val_main_v16, val_main_v15, val_main_v14, val_main_v13, val_main_v12, val_main_v11,
    val_main_cst_1, val_main_cst_2, val_main_cst_3, val_main_cst_4, val_main_cst_5]
  simp only [before x0 x1 x2 r h]
  rfl

end Cert.CombineSReferenceIdeal.Stages

end
-- ==== Proof.CombineS.Claims.lean ====
/- The combining call for the sample batch: the frames of the kernel, its exact-number twin and the reference, and, over the exact
   numbers, that the kernel's result is the reference's at every row and column. -/
module

public import proofs.«01_k».proof.Defs
public import proofs.«01_k».proof.Proof.CombineS.Tables
public import proofs.«01_k».proof.Proof.CombineS.Kernel
public import proofs.«01_k».proof.Proof.CombineS.Reference
public import proofs.«01_k».proof.Proof.Gen.CombineSReferenceIdeal.Run
public import proofs.«01_k».proof.Proof.Gen.CombineSReferenceIdeal.Read

@[expose] public section

noncomputable section

open Idealize.ShloMosaic Idealize.SL.Sem Cert.Layer Cert.Layer.Sample

namespace Cert.CombineSClaims

/-! ## The frames -/

/-- The kernel, with every entry of the table in range. -/
theorem kernel : Cert.quiescent_CombineS := fun m ρ h =>
  (θ_run Cert.CombineS.defs _ _).mono (fun _ hr => ⟨fun c => (hr.1 c).2, hr.2⟩)
    (Cert.CombineS.Gather.call m ρ (Cert.CombineS.Gather.in_rows m h))

/-- Its exact-number twin. -/
theorem twin : Cert.quiescent_CombineSIdeal := fun m ρ h =>
  (θ_run Cert.CombineSIdeal.defs _ _).mono (fun _ hr => ⟨fun c => (hr.1 c).2, hr.2⟩)
    (Cert.CombineSIdeal.Gather.call m ρ (Cert.CombineSIdeal.Gather.in_rows m h))

/-- The reference, -/
theorem reference : Cert.quiescent_CombineSReferenceIdeal := fun m ρ _ =>
  (θ_run Cert.CombineSReferenceIdeal.defs _ _).mono
    (fun r h => ⟨fun c => (h c).2, Idealize.ShloMosaic.sem_eq_zero_of_no_sems (by decide) r.2⟩)
    (Cert.CombineSReferenceIdeal.Value.run (F := Ideal) m ρ)

/-- also under the twin's assumption. -/
theorem reference_too : Cert.quiescent_CombineSReferenceIdeal_pre_sample_in_rows := fun m ρ _ =>
  reference m ρ trivial

/-! ## The value -/

/-- The kernel's result array is the reference's. -/
theorem algebraic : Cert.algebraic_CombineSIdeal_CombineSReferenceIdeal := by
  intro m g m' g' h hagree
  have hn := Cert.CombineSIdeal.Gather.in_rows m h
  refine ⟨fun c => (Cert.CombineSIdeal.Gather.dats m hn 0 c).arrAt 4 Cert.CombineSIdeal.cfg0.N, ?_, ?_⟩
  · exact (θ_run Cert.CombineSIdeal.defs _ _).mono (fun _ hr c => hr.1 c) (Cert.CombineSIdeal.Gather.call m g hn)
  · refine (θ_run Cert.CombineSReferenceIdeal.defs _ _).mono (fun _ hr c => ⟨(hr c).1.trans ?_, (hr c).2⟩)
      (Cert.CombineSReferenceIdeal.Value.run m' g')
    obtain ⟨h0, h1, h2, h3, h4⟩ := hagree c
    rw [Cert.CombineSReferenceIdeal.Read.val_main_v34_eq, h0, h1, h2, h3, h4]
    funext i
    obtain ⟨r, d, rfl⟩ : ∃ (r : Fin 128) (d : Fin 1024), i = ix2 r d := ⟨i 0, i 1, eq_ix2 i⟩
    exact (Cert.CombineSReferenceIdeal.Stages.result _ _ _ _ _ r (Cert.CombineSIdeal.Gather.in_range m h c r) d).trans
      (Cert.CombineSIdeal.Blocks.final m hn c r d).symm

end Cert.CombineSClaims

end
-- ==== Proof.lean ====
/- The certificate: for each of ten calls of the layer, that the kernel, its exact-number twin and the reference each run to
   the end and leave their arguments alone, that the twin keeps the kernel's program, and that the twin's result arrays are
   the reference's (the merge's in the columns that hold the residual stream; the experts' with every tile's group in range and
   every row's weights at least zero and finite; the combining call's with every token's place in range). -/
module

public import proofs.«01_k».proof.Defs
public import proofs.«01_k».proof.Proof.Frames
public import proofs.«01_k».proof.Proof.Gen.Gmlp.Frame
public import proofs.«01_k».proof.Proof.Gen.GmlpReferenceIdeal.Read
public import proofs.«01_k».proof.Proof.Gmlp.Claims
public import proofs.«01_k».proof.Proof.Gen.AttnIn.Frame
public import proofs.«01_k».proof.Proof.Gen.AttnInReferenceIdeal.Read
public import proofs.«01_k».proof.Proof.AttnIn.Claims
public import proofs.«01_k».proof.Proof.Gen.GmlpS.Frame
public import proofs.«01_k».proof.Proof.Gen.GmlpSReferenceIdeal.Read
public import proofs.«01_k».proof.Proof.GmlpS.Claims
public import proofs.«01_k».proof.Proof.Gen.AttnInS.Frame
public import proofs.«01_k».proof.Proof.Gen.AttnInSReferenceIdeal.Read
public import proofs.«01_k».proof.Proof.AttnInS.Claims
public import proofs.«01_k».proof.Proof.Gen.Merge.Frame
public import proofs.«01_k».proof.Proof.Gen.MergeReferenceIdeal.Read
public import proofs.«01_k».proof.Proof.Merge.Claims
public import proofs.«01_k».proof.Proof.Gen.MergeS.Frame
public import proofs.«01_k».proof.Proof.Gen.MergeSReferenceIdeal.Read
public import proofs.«01_k».proof.Proof.MergeS.Claims
public import proofs.«01_k».proof.Proof.Experts.Claims
public import proofs.«01_k».proof.Proof.Gen.Combine.Frame
public import proofs.«01_k».proof.Proof.Gen.CombineReferenceIdeal.Read
public import proofs.«01_k».proof.Proof.Combine.Claims
public import proofs.«01_k».proof.Proof.ExpertsS.Claims
public import proofs.«01_k».proof.Proof.Gen.CombineS.Frame
public import proofs.«01_k».proof.Proof.Gen.CombineSReferenceIdeal.Read
public import proofs.«01_k».proof.Proof.CombineS.Claims

@[expose] public section

noncomputable section

namespace Cert.Proof

open Idealize.ShloMosaic Idealize.SL.Sem

/-- Every claim of the certificate. -/
theorem claim : Cert.Claim :=
  ⟨Cert.Gmlp.Gen.facts, Cert.GmlpIdeal.Gen.facts, Cert.GmlpReferenceIdeal.Gen.facts,
    Cert.AttnIn.Gen.facts, Cert.AttnInIdeal.Gen.facts, Cert.AttnInReferenceIdeal.Gen.facts,
    Cert.GmlpS.Gen.facts, Cert.GmlpSIdeal.Gen.facts, Cert.GmlpSReferenceIdeal.Gen.facts,
    Cert.AttnInS.Gen.facts, Cert.AttnInSIdeal.Gen.facts, Cert.AttnInSReferenceIdeal.Gen.facts,
    Cert.Merge.Gen.facts, Cert.MergeIdeal.Gen.facts, Cert.MergeReferenceIdeal.Gen.facts,
    Cert.MergeS.Gen.facts, Cert.MergeSIdeal.Gen.facts, Cert.MergeSReferenceIdeal.Gen.facts,
    Cert.Experts.Gen.facts, Cert.ExpertsIdeal.Gen.facts, Cert.ExpertsReferenceIdeal.Gen.facts,
    Cert.Combine.Gen.facts, Cert.CombineIdeal.Gen.facts, Cert.CombineReferenceIdeal.Gen.facts,
    Cert.ExpertsS.Gen.facts, Cert.ExpertsSIdeal.Gen.facts, Cert.ExpertsSReferenceIdeal.Gen.facts,
    Cert.CombineS.Gen.facts, Cert.CombineSIdeal.Gen.facts, Cert.CombineSReferenceIdeal.Gen.facts,
    Cert.Pre_groups_named.Gen.facts, Cert.Pre_groups_and_weights.Gen.facts, Cert.Pre_in_rows.Gen.facts,
    Cert.Pre_sample_groups_named.Gen.facts, Cert.Pre_sample_groups_and_weights.Gen.facts, Cert.Pre_sample_in_rows.Gen.facts,
    Cert.On_residual_columns_MergeIdeal.Gen.facts, Cert.On_residual_columns_MergeSIdeal.Gen.facts,
    fun m ρ _ => Cert.Gmlp.Gen.frame m ρ, fun m ρ _ => Cert.GmlpIdeal.Gen.frame m ρ, Cert.ReferenceFrames.gmlp,
    fun m ρ _ => Cert.AttnIn.Gen.frame m ρ, fun m ρ _ => Cert.AttnInIdeal.Gen.frame m ρ, Cert.ReferenceFrames.attnIn,
    fun m ρ _ => Cert.GmlpS.Gen.frame m ρ, fun m ρ _ => Cert.GmlpSIdeal.Gen.frame m ρ, Cert.ReferenceFrames.gmlpS,
    fun m ρ _ => Cert.AttnInS.Gen.frame m ρ, fun m ρ _ => Cert.AttnInSIdeal.Gen.frame m ρ, Cert.ReferenceFrames.attnInS,
    fun m ρ _ => Cert.Merge.Gen.frame m ρ, fun m ρ _ => Cert.MergeIdeal.Gen.frame m ρ, Cert.ReferenceFrames.merge,
    fun m ρ _ => Cert.MergeS.Gen.frame m ρ, fun m ρ _ => Cert.MergeSIdeal.Gen.frame m ρ, Cert.ReferenceFrames.mergeS,
    Cert.ExpertsClaims.kernel, Cert.ExpertsClaims.twin, Cert.ExpertsClaims.twin_too, Cert.ExpertsClaims.reference,
    Cert.ExpertsClaims.reference_too,
    Cert.CombineClaims.kernel, Cert.CombineClaims.twin, Cert.CombineClaims.reference, Cert.CombineClaims.reference_too,
    Cert.ExpertsSClaims.kernel, Cert.ExpertsSClaims.twin, Cert.ExpertsSClaims.twin_too, Cert.ExpertsSClaims.reference,
    Cert.ExpertsSClaims.reference_too,
    Cert.CombineSClaims.kernel, Cert.CombineSClaims.twin, Cert.CombineSClaims.reference, Cert.CombineSClaims.reference_too,
    trivial, Cert.GmlpClaims.algebraic,
    trivial, Cert.AttnInClaims.algebraic,
    trivial, Cert.GmlpSClaims.algebraic,
    trivial, Cert.AttnInSClaims.algebraic,
    trivial, Cert.MergeClaims.algebraic,
    trivial, Cert.MergeSClaims.algebraic,
    trivial, Cert.ExpertsClaims.algebraic,
    trivial, Cert.CombineClaims.algebraic,
    trivial, Cert.ExpertsSClaims.algebraic,
    trivial, Cert.CombineSClaims.algebraic⟩

end Cert.Proof

end
